-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual [hPre_usual : Cert.Pre_usual.Facts] (m : (ℓ : Loc Cert.KernelIdeal.nD Cert.KernelIdeal.τ Cert.KernelIdeal.sig) → Buf (Elt Ideal) ℓ) : Prop :=
  ∀ c : Dev Cert.KernelIdeal.nD,
    (Cert.Pre_usual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual [hPre_usual : Cert.Pre_usual.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_SavedIdeal (m : (ℓ : Loc Cert.SavedIdeal.nD Cert.SavedIdeal.τ Cert.SavedIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_usual [hKernelIdeal : Cert.KernelIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_usual [hReferenceIdeal : Cert.ReferenceIdeal.Facts] [hPre_usual : Cert.Pre_usual.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_SavedIdeal [hSavedIdeal : Cert.SavedIdeal.Facts] : Prop :=
  ∀ (m : (ℓ : Loc Cert.SavedIdeal.nD Cert.SavedIdeal.τ Cert.SavedIdeal.sig) → Buf (Elt Ideal) ℓ) (g : Dev Cert.SavedIdeal.nD → PrngReg), Pre_SavedIdeal m →
    θ_run (Cert.SavedIdeal.defs (F := Ideal)) (onTc (τ := Cert.SavedIdeal.τ) (Cert.SavedIdeal.main (F := Ideal))) ⟨m, fun _ => 0, g⟩ (fun r => (∀ c : Dev Cert.SavedIdeal.nD,
      r.2.mem ((c.tc : Thread Cert.SavedIdeal.nD Cert.SavedIdeal.τ).loc Cert.SavedIdeal.main_arg0) = m ((c.tc : Thread Cert.SavedIdeal.nD Cert.SavedIdeal.τ).loc Cert.SavedIdeal.main_arg0)
      ∧ r.2.mem ((c.tc : Thread Cert.SavedIdeal.nD Cert.SavedIdeal.τ).loc Cert.SavedIdeal.main_arg1) = m ((c.tc : Thread Cert.SavedIdeal.nD Cert.SavedIdeal.τ).loc Cert.SavedIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_usual [hKernelIdeal : Cert.KernelIdeal.Facts] [hReferenceIdeal : Cert.ReferenceIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v140_0)) (v1 : (c : Dev Cert.KernelIdeal.nD) → Buf (Elt Ideal) ((c.tc : Thread Cert.KernelIdeal.nD Cert.KernelIdeal.τ).loc Cert.KernelIdeal.main_v140_1)) (v2 : (c : Dev Cert.KernelIdeal.nD) → Buf (Elt Ideal) ((c.tc : Thread Cert.KernelIdeal.nD Cert.KernelIdeal.τ).loc Cert.KernelIdeal.main_v140_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140_0) = v0 c
          ∧ r.2.mem ((c.tc : Thread Cert.KernelIdeal.nD Cert.KernelIdeal.τ).loc Cert.KernelIdeal.main_v140_1) = v1 c
          ∧ r.2.mem ((c.tc : Thread Cert.KernelIdeal.nD Cert.KernelIdeal.τ).loc Cert.KernelIdeal.main_v140_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hSavedIdeal : Cert.SavedIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_usual : Cert.Pre_usual.Facts),
    quiescent_Kernel (hKernel := hKernel)
    ∧ quiescent_KernelIdeal (hKernelIdeal := hKernelIdeal)
    ∧ quiescent_KernelIdeal_pre_usual (hKernelIdeal := hKernelIdeal) (hPre_usual := hPre_usual)
    ∧ quiescent_ReferenceIdeal (hReferenceIdeal := hReferenceIdeal)
    ∧ quiescent_ReferenceIdeal_pre_usual (hReferenceIdeal := hReferenceIdeal) (hPre_usual := hPre_usual)
    ∧ quiescent_SavedIdeal (hSavedIdeal := hSavedIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_usual (hKernelIdeal := hKernelIdeal) (hReferenceIdeal := hReferenceIdeal) (hPre_usual := hPre_usual)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_usual.lean ====
abbrev S4096x4096 : Shape := ⟨2, ![4096, 4096]⟩
abbrev S1x1024 : Shape := ⟨2, ![1, 1024]⟩
abbrev S1x128 : Shape := ⟨2, ![1, 128]⟩
abbrev S4096x1024 : Shape := ⟨2, ![4096, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x128 : S_.BroadcastsInDim S1x128 (![] : Fin 0 → Fin S1x128.rank)
  reducesTo_S1x128_S_d0_1 : S1x128.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v15 : IVec S_ 1) (main_v16 : FVec F S4096x1024 .f32) : IVec S_ 1 :=
  let main_cst_5 : FVec F S_ .f32 := constant S_ .f32 0x7F800000#32
  let main_v17 : FVec F S4096x1024 .f32 := broadcastInDim S4096x1024 ![] bcast_S_S4096x1024 main_cst_5
  let main_v18 : IVec S4096x1024 1 := cmpf .olt main_v16 main_v17
  let main_c_6 : IVec S_ 1 := constantI S_ 1 1#1
  let main_v19 : IVec S_ 1 := (fun x v => Host.reduce IntOp.andi x v reducesTo_S4096x1024_S_d0_1 h_S_) main_v18 main_c_6
  let main_v20 : IVec S_ 1 := andi main_v15 main_v19
  main_v20

def fn {F : FTy → Type} [FloatOps F] (main_arg0 : FVec F S4096x4096 .f32) (main_arg1 : FVec F S1x1024 .f32) (main_arg2 : FVec F S1x128 .f32) (main_arg3 : FVec F S4096x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_cst_0 : FVec F S_ .f32 := constant S_ .f32 0x00000000#32
  let main_v4 : FVec F S1x1024 .f32 := broadcastInDim S1x1024 ![] bcast_S_S1x1024 main_cst_0
  let main_v5 : IVec S1x1024 1 := cmpf .oge main_arg1 main_v4
  let main_cst_1 : FVec F S_ .f32 := constant S_ .f32 0x3F800000#32
  let main_v6 : FVec F S1x1024 .f32 := broadcastInDim S1x1024 ![] bcast_S_S1x1024 main_cst_1
  let main_v7 : IVec S1x1024 1 := cmpf .olt main_arg1 main_v6
  let main_v8 : IVec S1x1024 1 := andi main_v5 main_v7
  let main_c_2 : IVec S_ 1 := constantI S_ 1 1#1
  let main_v9 : IVec S_ 1 := (fun x v => Host.reduce IntOp.andi x v reducesTo_S1x1024_S_d0_1 h_S_) main_v8 main_c_2
  let main_v10 : IVec S_ 1 := andi main_v3 main_v9
  let main_v11 : FVec F S1x128 .f32 := Host.absf main_arg2
  let main_cst_3 : FVec F S_ .f32 := constant S_ .f32 0x7F800000#32
  let main_v12 : FVec F S1x128 .f32 := broadcastInDim S1x128 ![] bcast_S_S1x128 main_cst_3
  let main_v13 : IVec S1x128 1 := cmpf .olt main_v11 main_v12
  let main_c_4 : IVec S_ 1 := constantI S_ 1 1#1
  let main_v14 : IVec S_ 1 := (fun x v => Host.reduce IntOp.andi x v reducesTo_S1x128_S_d0_1 h_S_) main_v13 main_c_4
  let main_v15 : IVec S_ 1 := andi main_v10 main_v14
  let main_v16 : FVec F S4096x1024 .f32 := Host.absf main_arg3
  fn_part1 (F := F) main_v15 main_v16
-- ==== Kernel.lean ====
abbrev S4096x4096 : Shape := ⟨2, ![4096, 4096]⟩
abbrev S1x1024 : Shape := ⟨2, ![1, 1024]⟩
abbrev S1x128 : Shape := ⟨2, ![1, 128]⟩
abbrev S4096x1024 : Shape := ⟨2, ![4096, 1024]⟩
abbrev S4096x4x1024 : Shape := ⟨3, ![4096, 4, 1024]⟩
abbrev S4x4096x1024 : Shape := ⟨3, ![4, 4096, 1024]⟩
abbrev S1x4096x1024 : Shape := ⟨3, ![1, 4096, 1024]⟩
abbrev S_ : Shape := ⟨0, ![]⟩
abbrev S4096x8x128 : Shape := ⟨3, ![4096, 8, 128]⟩
abbrev S8x4096x128 : Shape := ⟨3, ![8, 4096, 128]⟩
abbrev S8x4096x1x128 : Shape := ⟨4, ![8, 4096, 1, 128]⟩
abbrev S8x1x4096x128 : Shape := ⟨4, ![8, 1, 4096, 128]⟩
abbrev S8x4096x4096x128 : Shape := ⟨4, ![8, 4096, 4096, 128]⟩
abbrev S4096x4096x1 : Shape := ⟨3, ![4096, 4096, 1]⟩
abbrev S8x4096x4096 : Shape := ⟨3, ![8, 4096, 4096]⟩
abbrev S32 : Shape := ⟨1, ![32]⟩
abbrev S4096 : Shape := ⟨1, ![4096]⟩
abbrev S1x4096 : Shape := ⟨2, ![1, 4096]⟩
abbrev S32x1 : Shape := ⟨2, ![32, 1]⟩
abbrev S32x4096 : Shape := ⟨2, ![32, 4096]⟩
abbrev S8x32x128 : Shape := ⟨3, ![8, 32, 128]⟩
abbrev S8x32x1x128 : Shape := ⟨4, ![8, 32, 1, 128]⟩
abbrev S8x32x4096x128 : Shape := ⟨4, ![8, 32, 4096, 128]⟩
abbrev S32x4096x1 : Shape := ⟨3, ![32, 4096, 1]⟩
abbrev S8x32x128x128 : Shape := ⟨4, ![8, 32, 128, 128]⟩
abbrev S32x8x128x128 : Shape := ⟨4, ![32, 8, 128, 128]⟩
abbrev S7x128x128 : Shape := ⟨3, ![7, 128, 128]⟩
abbrev S7x1x128x128 : Shape := ⟨4, ![7, 1, 128, 128]⟩
abbrev S7x2x128x128 : Shape := ⟨4, ![7, 2, 128, 128]⟩
abbrev S1x128x128 : Shape := ⟨3, ![1, 128, 128]⟩
abbrev S128x128 : Shape := ⟨2, ![128, 128]⟩
abbrev S1792x128 : Shape := ⟨2, ![1792, 128]⟩
abbrev S2048x128 : Shape := ⟨2, ![2048, 128]⟩
abbrev S8x128x128 : Shape := ⟨3, ![8, 128, 128]⟩
abbrev S512x256 : Shape := ⟨2, ![512, 256]⟩
abbrev S1x256 : Shape := ⟨2, ![1, 256]⟩
abbrev S4x2x128x128 : Shape := ⟨4, ![4, 2, 128, 128]⟩
abbrev S4x512x256 : Shape := ⟨3, ![4, 512, 256]⟩
abbrev S2x128x128 : Shape := ⟨3, ![2, 128, 128]⟩
abbrev S2x1x128 : Shape := ⟨3, ![2, 1, 128]⟩
abbrev S128x384 : Shape := ⟨2, ![128, 384]⟩
abbrev S2048x384 : Shape := ⟨2, ![2048, 384]⟩
abbrev S128 : Shape := ⟨1, ![128]⟩
abbrev S128x1 : Shape := ⟨2, ![128, 1]⟩
abbrev S1x1x128x128 : Shape := ⟨4, ![1, 1, 128, 128]⟩
abbrev S1x1x128 : Shape := ⟨3, ![1, 1, 128]⟩

abbrev nBuf : Space → Nat
  | .hbm => 188
  | .vmem => 28
  | .smem => 0
  | _ => 0

abbrev hbmTy0_0 (i : Nat) : BufTy := match i % 128 with
  | 0 => ⟨S4096x4096, .f32⟩
  | 1 => ⟨S1x1024, .f32⟩
  | 2 => ⟨S1x128, .f32⟩
  | 3 => ⟨S4096x1024, .f32⟩
  | 4 => ⟨S4096x4x1024, .f32⟩
  | 5 => ⟨S4x4096x1024, .f32⟩
  | 6 => ⟨S1x4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S1x1024, .f32⟩
  | 19 => ⟨S1x1024, .f32⟩
  | 20 => ⟨S1x4096x1024, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x8x128, .f32⟩
  | 38 => ⟨S8x4096x128, .f32⟩
  | 39 => ⟨S4096x8x128, .f32⟩
  | 40 => ⟨S8x4096x128, .f32⟩
  | 41 => ⟨S4096x8x128, .f32⟩
  | 42 => ⟨S8x4096x128, .f32⟩
  | 43 => ⟨S1x4096x1024, .f32⟩
  | 44 => ⟨S4096x1024, .f32⟩
  | 45 => ⟨S4096x8x128, .f32⟩
  | 46 => ⟨S8x4096x128, .f32⟩
  | 47 => ⟨S_, .f32⟩
  | 48 => ⟨S_, .f32⟩
  | 49 => ⟨S8x4096x128, .f32⟩
  | 50 => ⟨S_, .i1⟩
  | 51 => ⟨S4096x4096, .i1⟩
  | 52 => ⟨S4096x4096, .i32⟩
  | 53 => ⟨S_, .i32⟩
  | 54 => ⟨S4096x4096, .i32⟩
  | 55 => ⟨S4096x4096, .i32⟩
  | 56 => ⟨S4096x4096, .i32⟩
  | 57 => ⟨S4096x4096, .i1⟩
  | 58 => ⟨S_, .i1⟩
  | 59 => ⟨S4096x4096, .i1⟩
  | 60 => ⟨S4096x4096, .i1⟩
  | 61 => ⟨S8x4096x1x128, .f32⟩
  | 62 => ⟨S8x1x4096x128, .f32⟩
  | 63 => ⟨S8x4096x4096x128, .f32⟩
  | 64 => ⟨S8x4096x4096x128, .f32⟩
  | 65 => ⟨S8x4096x4096x128, .f32⟩
  | 66 => ⟨S4096x4096x1, .i1⟩
  | 67 => ⟨S_, .f32⟩
  | 68 => ⟨S8x4096x4096x128, .f32⟩
  | 69 => ⟨S8x4096x4096x128, .f32⟩
  | 70 => ⟨S8x4096x4096x128, .f32⟩
  | 71 => ⟨S_, .f32⟩
  | 72 => ⟨S_, .f32⟩
  | 73 => ⟨S8x4096x4096x128, .i1⟩
  | 74 => ⟨S8x4096x4096x128, .f32⟩
  | 75 => ⟨S8x4096x4096x128, .f32⟩
  | 76 => ⟨S8x4096x1x128, .f32⟩
  | 77 => ⟨S8x1x4096x128, .f32⟩
  | 78 => ⟨S8x4096x4096x128, .f32⟩
  | 79 => ⟨S8x4096x4096x128, .f32⟩
  | 80 => ⟨S8x4096x4096x128, .f32⟩
  | 81 => ⟨S8x4096x4096x128, .f32⟩
  | 82 => ⟨S_, .f32⟩
  | 83 => ⟨S8x4096x4096, .f32⟩
  | 84 => ⟨S8x4096x128, .f32⟩
  | 85 => ⟨S4096x8x128, .f32⟩
  | 86 => ⟨S4096x1024, .f32⟩
  | 87 => ⟨S32, .i32⟩
  | 88 => ⟨S_, .i32⟩
  | 89 => ⟨S32, .i32⟩
  | 90 => ⟨S32, .i32⟩
  | 91 => ⟨S4096, .i32⟩
  | 92 => ⟨S1x4096, .i32⟩
  | 93 => ⟨S32x1, .i32⟩
  | 94 => ⟨S32x4096, .i32⟩
  | 95 => ⟨S32x4096, .i32⟩
  | 96 => ⟨S32x4096, .i1⟩
  | 97 => ⟨S8x32x128, .f32⟩
  | 98 => ⟨S8x32x128, .f32⟩
  | 99 => ⟨S8x32x128, .f32⟩
  | 100 => ⟨S8x32x1x128, .f32⟩
  | 101 => ⟨S8x1x4096x128, .f32⟩
  | 102 => ⟨S8x32x4096x128, .f32⟩
  | 103 => ⟨S8x32x4096x128, .f32⟩
  | 104 => ⟨S8x32x4096x128, .f32⟩
  | 105 => ⟨S32x4096x1, .i1⟩
  | 106 => ⟨S_, .f32⟩
  | 107 => ⟨S8x32x4096x128, .f32⟩
  | 108 => ⟨S8x32x4096x128, .f32⟩
  | 109 => ⟨S8x32x4096x128, .f32⟩
  | 110 => ⟨S_, .f32⟩
  | 111 => ⟨S_, .f32⟩
  | 112 => ⟨S8x32x4096x128, .i1⟩
  | 113 => ⟨S8x32x4096x128, .f32⟩
  | 114 => ⟨S8x32x4096x128, .f32⟩
  | 115 => ⟨S8x1x4096x128, .f32⟩
  | 116 => ⟨S8x32x4096x128, .f32⟩
  | 117 => ⟨S8x32x4096x128, .f32⟩
  | 118 => ⟨S8x32x128x128, .f32⟩
  | 119 => ⟨S32x8x128x128, .f32⟩
  | 120 => ⟨S_, .i32⟩
  | 121 => ⟨S7x128x128, .i32⟩
  | 122 => ⟨S7x128x128, .i32⟩
  | 123 => ⟨S7x128x128, .i32⟩
  | 124 => ⟨S7x128x128, .i32⟩
  | 125 => ⟨S7x128x128, .i32⟩
  | 126 => ⟨S_, .i32⟩
  | 127 => ⟨S7x128x128, .i32⟩
  | _ => ⟨S4096x4096, .f32⟩

abbrev hbmTy0_1 (i : Nat) : BufTy := match i % 128 with
  | 0 => ⟨S7x128x128, .i32⟩
  | 1 => ⟨S7x128x128, .i32⟩
  | 2 => ⟨S_, .i32⟩
  | 3 => ⟨S7x128x128, .i32⟩
  | 4 => ⟨S7x128x128, .i32⟩
  | 5 => ⟨S7x128x128, .i32⟩
  | 6 => ⟨S7x128x128, .i32⟩
  | 7 => ⟨S_, .i32⟩
  | 8 => ⟨S7x128x128, .i32⟩
  | 9 => ⟨S7x128x128, .i32⟩
  | 10 => ⟨S_, .i32⟩
  | 11 => ⟨S7x128x128, .i32⟩
  | 12 => ⟨S7x128x128, .i32⟩
  | 13 => ⟨S7x128x128, .i32⟩
  | 14 => ⟨S7x128x128, .i1⟩
  | 15 => ⟨S7x128x128, .i1⟩
  | 16 => ⟨S7x128x128, .i1⟩
  | 17 => ⟨S7x128x128, .i1⟩
  | 18 => ⟨S7x128x128, .i1⟩
  | 19 => ⟨S7x128x128, .i1⟩
  | 20 => ⟨S7x128x128, .i1⟩
  | 21 => ⟨S7x128x128, .i1⟩
  | 22 => ⟨S7x128x128, .i1⟩
  | 23 => ⟨S7x128x128, .i1⟩
  | 24 => ⟨S7x1x128x128, .i1⟩
  | 25 => ⟨S7x1x128x128, .i1⟩
  | 26 => ⟨S7x2x128x128, .i1⟩
  | 27 => ⟨S_, .i32⟩
  | 28 => ⟨S7x128x128, .i32⟩
  | 29 => ⟨S7x128x128, .i32⟩
  | 30 => ⟨S7x128x128, .i32⟩
  | 31 => ⟨S7x128x128, .i1⟩
  | 32 => ⟨S7x128x128, .i1⟩
  | 33 => ⟨S_, .i32⟩
  | 34 => ⟨S7x128x128, .i32⟩
  | 35 => ⟨S7x128x128, .i32⟩
  | 36 => ⟨S7x128x128, .i32⟩
  | 37 => ⟨S7x128x128, .i1⟩
  | 38 => ⟨S7x128x128, .i1⟩
  | 39 => ⟨S7x128x128, .i1⟩
  | 40 => ⟨S1x128x128, .i32⟩
  | 41 => ⟨S128x128, .i32⟩
  | 42 => ⟨S1x128x128, .i32⟩
  | 43 => ⟨S128x128, .i32⟩
  | 44 => ⟨S1792x128, .i1⟩
  | 45 => ⟨S128x128, .i1⟩
  | 46 => ⟨S128x128, .i1⟩
  | 47 => ⟨S2048x128, .i1⟩
  | 48 => ⟨S2048x128, .f32⟩
  | 49 => ⟨S128x128, .i1⟩
  | 50 => ⟨S1x128x128, .i1⟩
  | 51 => ⟨S8x128x128, .i1⟩
  | 52 => ⟨S8x128x128, .f32⟩
  | 53 => ⟨S128x128, .i1⟩
  | 54 => ⟨S128x128, .f32⟩
  | 55 => ⟨S2048x128, .bf16⟩
  | 56 => ⟨S128x128, .bf16⟩
  | 57 => ⟨S4x4096x1024, .bf16⟩
  | 58 => ⟨S1x1024, .f32⟩
  | 59 => ⟨S1x1024, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S1x128, .f32⟩
  | .local _ .vmem, ⟨11, _⟩ => ⟨S512x256, .f32⟩
  | .local _ .vmem, ⟨12, _⟩ => ⟨S512x256, .f32⟩
  | .local _ .vmem, ⟨13, _⟩ => ⟨S4x2x128x128, .f32⟩
  | .local _ .vmem, ⟨14, _⟩ => ⟨S4x2x128x128, .f32⟩
  | .local _ .vmem, ⟨15, _⟩ => ⟨S512x256, .f32⟩
  | .local _ .vmem, ⟨16, _⟩ => ⟨S512x256, .f32⟩
  | .local _ .vmem, ⟨17, _⟩ => ⟨S2048x128, .bf16⟩
  | .local _ .vmem, ⟨18, _⟩ => ⟨S8x128x128, .f32⟩
  | .local _ .vmem, ⟨19, _⟩ => ⟨S128x128, .bf16⟩
  | .local _ .vmem, ⟨20, _⟩ => ⟨S4x512x256, .bf16⟩
  | .local _ .vmem, ⟨21, _⟩ => ⟨S4x512x256, .bf16⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2x128x128, .f32⟩
  | .local _ .vmem, ⟨27, _⟩ => ⟨S2x1x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_call0_cst : Ref sig .tc := ⟨.hbm, 47, rfl⟩
abbrev main_call1_call0_v0 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_3 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_4 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_6 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_7 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_8 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_9 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_10 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_11 : Ref sig .tc := ⟨.hbm, 135, rfl⟩
abbrev main_v94 : Ref sig .tc := ⟨.hbm, 136, rfl⟩
abbrev main_v95 : Ref sig .tc := ⟨.hbm, 137, rfl⟩
abbrev main_c_12 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_13 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_14 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140_0 : Ref sig .tc := ⟨.hbm, 185, rfl⟩
abbrev main_v140_1 : Ref sig .tc := ⟨.hbm, 186, rfl⟩
abbrev main_v140_2 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_2 : BitVec 32 := 0#32
  let c4_i32 : BitVec 32 := 4#32
  let v4 : BitVec 32 := Scalar.addi c0_i32_2 c4_i32
  let c1_i32 : BitVec 32 := 1#32
  ⟨c0_i32_2, v4, c1_i32⟩
def k0_mult1 (k0_t1 : Fin k0_t1_loop.trips) : BitVec 32 :=
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  v6
def k0_off1 (k0_t1 : Fin k0_t1_loop.trips) : Fin 2 → Nat :=
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v9 : Index := Scalar.indexCast v7
  let c0_6 : Index := 0#32
  ![v9.toNat, 0]
def k0_off2 (k0_t1 : Fin k0_t1_loop.trips) : Fin 3 → Nat :=
  let c3 : Index := 3#32
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v103 : Index := Scalar.indexCast v7
  let c0_35 : Index := 0#32
  ![3, v103.toNat, 0]
def k0_off3 (k0_t1 : Fin k0_t1_loop.trips) : Fin 4 → Nat :=
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let v140 : Index := Scalar.indexCast v5
  let c0_46 : Index := 0#32
  let c0_47 : Index := 0#32
  let c0_48 : Index := 0#32
  ![v140.toNat, 0, 0, 0]
def k0_off4 (k0_t1 : Fin k0_t1_loop.trips) : Fin 3 → Nat :=
  let c1 : Index := 1#32
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v450 : Index := Scalar.indexCast v7
  let c0_99 : Index := 0#32
  ![1, v450.toNat, 0]
def k0_off5 (k0_t1 : Fin k0_t1_loop.trips) : Fin 3 → Nat :=
  let c0_102 : Index := 0#32
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v462 : Index := Scalar.indexCast v7
  let c0_103 : Index := 0#32
  ![0, v462.toNat, 0]
def k0_off6 (k0_t1 : Fin k0_t1_loop.trips) : Fin 3 → Nat :=
  let c2 : Index := 2#32
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v467 : Index := Scalar.indexCast v7
  let c0_104 : Index := 0#32
  ![2, v467.toNat, 0]
def k0_off7 (k0_t1 : Fin k0_t1_loop.trips) : Fin 2 → Nat :=
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v472 : Index := Scalar.indexCast v7
  let c128_106 : Index := 128#32
  ![v472.toNat, 128]
def k0_off8 (k0_t1 : Fin k0_t1_loop.trips) : Fin 3 → Nat :=
  let c3_136 : Index := 3#32
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v566 : Index := Scalar.indexCast v7
  let c128_137 : Index := 128#32
  ![3, v566.toNat, 128]
def k0_off9 (k0_t1 : Fin k0_t1_loop.trips) : Fin 4 → Nat :=
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let v603 : Index := Scalar.indexCast v5
  let c1_148 : Index := 1#32
  let c0_149 : Index := 0#32
  let c0_150 : Index := 0#32
  ![v603.toNat, 1, 0, 0]
def k0_off10 (k0_t1 : Fin k0_t1_loop.trips) : Fin 3 → Nat :=
  let c1_201 : Index := 1#32
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v913 : Index := Scalar.indexCast v7
  let c128_202 : Index := 128#32
  ![1, v913.toNat, 128]
def k0_off11 (k0_t1 : Fin k0_t1_loop.trips) : Fin 3 → Nat :=
  let c0_205 : Index := 0#32
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v925 : Index := Scalar.indexCast v7
  let c128_206 : Index := 128#32
  ![0, v925.toNat, 128]
def k0_off12 (k0_t1 : Fin k0_t1_loop.trips) : Fin 3 → Nat :=
  let c2_207 : Index := 2#32
  let c3_i32 : BitVec 32 := 3#32
  let c0_i32_2 : BitVec 32 := 0#32
  let c1_i32 : BitVec 32 := 1#32
  let arg19 : BitVec 32 := Scf.iv c0_i32_2 c1_i32 k0_t1
  let v5 : BitVec 32 := Scalar.subi c3_i32 arg19
  let c128_i32 : BitVec 32 := 128#32
  let v6 : BitVec 32 := Scalar.muli v5 c128_i32
  let v7 : BitVec 32 := v6
  let v930 : Index := Scalar.indexCast v7
  let c128_208 : Index := 128#32
  ![2, v930.toNat, 128]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.addi c8_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c12_i32 : BitVec 32 := 12#32
  let v1 : BitVec 32 := Scalar.addi c12_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_7 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4096x4096 : Shape := ⟨2, ![4096, 4096]⟩
abbrev S1x1024 : Shape := ⟨2, ![1, 1024]⟩
abbrev S1x128 : Shape := ⟨2, ![1, 128]⟩
abbrev S4096x1024 : Shape := ⟨2, ![4096, 1024]⟩
abbrev S1x1x1x128 : Shape := ⟨4, ![1, 1, 1, 128]⟩
abbrev S1x1x8x128 : Shape := ⟨4, ![1, 1, 8, 128]⟩
abbrev S4096x4x1024 : Shape := ⟨3, ![4096, 4, 1024]⟩
abbrev S4x4096x1024 : Shape := ⟨3, ![4, 4096, 1024]⟩
abbrev S1x4096x1024 : Shape := ⟨3, ![1, 4096, 1024]⟩
abbrev S_ : Shape := ⟨0, ![]⟩
abbrev S4096x8x128 : Shape := ⟨3, ![4096, 8, 128]⟩
abbrev S8x4096x128 : Shape := ⟨3, ![8, 4096, 128]⟩
abbrev S8x4096x1x128 : Shape := ⟨4, ![8, 4096, 1, 128]⟩
abbrev S8x1x4096x128 : Shape := ⟨4, ![8, 1, 4096, 128]⟩
abbrev S8x4096x4096x128 : Shape := ⟨4, ![8, 4096, 4096, 128]⟩
abbrev S4096x4096x1 : Shape := ⟨3, ![4096, 4096, 1]⟩
abbrev S8x4096x4096 : Shape := ⟨3, ![8, 4096, 4096]⟩
abbrev S4096x8 : Shape := ⟨2, ![4096, 8]⟩
abbrev S4096x8x1 : Shape := ⟨3, ![4096, 8, 1]⟩
abbrev S8x128 : Shape := ⟨2, ![8, 128]⟩
abbrev S1x8x128 : Shape := ⟨3, ![1, 8, 128]⟩
abbrev S8x128x4096 : Shape := ⟨3, ![8, 128, 4096]⟩
abbrev S1024 : Shape := ⟨1, ![1024]⟩

abbrev nBuf : Space → Nat
  | .hbm => 266
  | .vmem => 0
  | .smem => 0
  | _ => 0

abbrev hbmTy0_0 (i : Nat) : BufTy := match i % 128 with
  | 0 => ⟨S4096x4096, .f32⟩
  | 1 => ⟨S1x1024, .f32⟩
  | 2 => ⟨S1x128, .f32⟩
  | 3 => ⟨S4096x1024, .f32⟩
  | 4 => ⟨S1x1x1x128, .f32⟩
  | 5 => ⟨S1x1x8x128, .f32⟩
  | 6 => ⟨S1x1024, .f32⟩
  | 7 => ⟨S4096x4x1024, .f32⟩
  | 8 => ⟨S4x4096x1024, .f32⟩
  | 9 => ⟨S1x4096x1024, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S1x1024, .f32⟩
  | 26 => ⟨S1x1024, .f32⟩
  | 27 => ⟨S1x4096x1024, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x8x128, .f32⟩
  | 50 => ⟨S8x4096x128, .f32⟩
  | 51 => ⟨S4096x8x128, .f32⟩
  | 52 => ⟨S8x4096x128, .f32⟩
  | 53 => ⟨S4096x8x128, .f32⟩
  | 54 => ⟨S8x4096x128, .f32⟩
  | 55 => ⟨S1x4096x1024, .f32⟩
  | 56 => ⟨S4096x1024, .f32⟩
  | 57 => ⟨S4096x8x128, .f32⟩
  | 58 => ⟨S8x4096x128, .f32⟩
  | 59 => ⟨S_, .f32⟩
  | 60 => ⟨S_, .f32⟩
  | 61 => ⟨S8x4096x128, .f32⟩
  | 62 => ⟨S_, .i1⟩
  | 63 => ⟨S4096x4096, .i1⟩
  | 64 => ⟨S4096x4096, .i32⟩
  | 65 => ⟨S_, .i32⟩
  | 66 => ⟨S4096x4096, .i32⟩
  | 67 => ⟨S4096x4096, .i32⟩
  | 68 => ⟨S4096x4096, .i32⟩
  | 69 => ⟨S4096x4096, .i1⟩
  | 70 => ⟨S_, .i1⟩
  | 71 => ⟨S4096x4096, .i1⟩
  | 72 => ⟨S4096x4096, .i1⟩
  | 73 => ⟨S8x4096x1x128, .f32⟩
  | 74 => ⟨S8x1x4096x128, .f32⟩
  | 75 => ⟨S8x4096x4096x128, .f32⟩
  | 76 => ⟨S8x4096x4096x128, .f32⟩
  | 77 => ⟨S8x4096x4096x128, .f32⟩
  | 78 => ⟨S4096x4096x1, .i1⟩
  | 79 => ⟨S_, .f32⟩
  | 80 => ⟨S8x4096x4096x128, .f32⟩
  | 81 => ⟨S8x4096x4096x128, .f32⟩
  | 82 => ⟨S_, .f32⟩
  | 83 => ⟨S8x4096x4096x128, .f32⟩
  | 84 => ⟨S8x4096x4096x128, .i1⟩
  | 85 => ⟨S_, .f32⟩
  | 86 => ⟨S8x4096x4096x128, .f32⟩
  | 87 => ⟨S8x4096x4096x128, .i1⟩
  | 88 => ⟨S_, .f32⟩
  | 89 => ⟨S8x4096x4096x128, .f32⟩
  | 90 => ⟨S_, .f32⟩
  | 91 => ⟨S8x4096x4096x128, .f32⟩
  | 92 => ⟨S_, .f32⟩
  | 93 => ⟨S8x4096x4096x128, .f32⟩
  | 94 => ⟨S8x4096x4096x128, .f32⟩
  | 95 => ⟨S8x4096x4096x128, .f32⟩
  | 96 => ⟨S8x4096x4096x128, .f32⟩
  | 97 => ⟨S_, .f32⟩
  | 98 => ⟨S_, .f32⟩
  | 99 => ⟨S8x4096x4096x128, .i1⟩
  | 100 => ⟨S8x4096x4096x128, .f32⟩
  | 101 => ⟨S8x4096x4096x128, .f32⟩
  | 102 => ⟨S_, .f32⟩
  | 103 => ⟨S8x4096x4096x128, .f32⟩
  | 104 => ⟨S8x4096x1x128, .f32⟩
  | 105 => ⟨S8x1x4096x128, .f32⟩
  | 106 => ⟨S8x4096x4096x128, .f32⟩
  | 107 => ⟨S8x4096x4096x128, .f32⟩
  | 108 => ⟨S8x4096x4096x128, .f32⟩
  | 109 => ⟨S8x4096x4096x128, .f32⟩
  | 110 => ⟨S_, .f32⟩
  | 111 => ⟨S8x4096x4096, .f32⟩
  | 112 => ⟨S8x4096x128, .f32⟩
  | 113 => ⟨S4096x8x128, .f32⟩
  | 114 => ⟨S4096x8x128, .f32⟩
  | 115 => ⟨S_, .f32⟩
  | 116 => ⟨S4096x8, .f32⟩
  | 117 => ⟨S4096x8x1, .f32⟩
  | 118 => ⟨S_, .f32⟩
  | 119 => ⟨S4096x8x1, .f32⟩
  | 120 => ⟨S4096x8x1, .f32⟩
  | 121 => ⟨S_, .f32⟩
  | 122 => ⟨S4096x8x1, .f32⟩
  | 123 => ⟨S4096x8x1, .f32⟩
  | 124 => ⟨S4096x8x1, .f32⟩
  | 125 => ⟨S4096x8x1, .f32⟩
  | 126 => ⟨S_, .f32⟩
  | 127 => ⟨S4096x8x1, .f32⟩
  | _ => ⟨S4096x4096, .f32⟩

abbrev hbmTy0_1 (i : Nat) : BufTy := match i % 128 with
  | 0 => ⟨S4096x8x1, .f32⟩
  | 1 => ⟨S4096x8x128, .f32⟩
  | 2 => ⟨S4096x8x128, .f32⟩
  | 3 => ⟨S8x128, .f32⟩
  | 4 => ⟨S1x8x128, .f32⟩
  | 5 => ⟨S4096x8x128, .f32⟩
  | 6 => ⟨S4096x8x128, .f32⟩
  | 7 => ⟨S4096x1024, .f32⟩
  | 8 => ⟨S1x4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S1x4096x1024, .f32⟩
  | 27 => ⟨S_, .f32⟩
  | 28 => ⟨S4x4096x1024, .f32⟩
  | 29 => ⟨S4096x8x128, .f32⟩
  | 30 => ⟨S4096x8x128, .f32⟩
  | 31 => ⟨S_, .f32⟩
  | 32 => ⟨S8x128, .f32⟩
  | 33 => ⟨S1x8x128, .f32⟩
  | 34 => ⟨S4096x8x128, .f32⟩
  | 35 => ⟨S4096x8x128, .f32⟩
  | 36 => ⟨S_, .f32⟩
  | 37 => ⟨S8x128, .f32⟩
  | 38 => ⟨S1x1024, .f32⟩
  | 39 => ⟨S4096x8x128, .f32⟩
  | 40 => ⟨S_, .f32⟩
  | 41 => ⟨S4096x8, .f32⟩
  | 42 => ⟨S4096x8x1, .f32⟩
  | 43 => ⟨S4096x8x128, .f32⟩
  | 44 => ⟨S4096x8x128, .f32⟩
  | 45 => ⟨S4096x8x1, .f32⟩
  | 46 => ⟨S_, .f32⟩
  | 47 => ⟨S4096x8x1, .f32⟩
  | 48 => ⟨S4096x8x1, .f32⟩
  | 49 => ⟨S_, .f32⟩
  | 50 => ⟨S4096x8, .f32⟩
  | 51 => ⟨S4096x8x128, .f32⟩
  | 52 => ⟨S4096x8x128, .f32⟩
  | 53 => ⟨S4096x8x128, .f32⟩
  | 54 => ⟨S4096x8x128, .f32⟩
  | 55 => ⟨S4096x8x128, .f32⟩
  | 56 => ⟨S8x4096x128, .f32⟩
  | 57 => ⟨S8x128x4096, .f32⟩
  | 58 => ⟨S8x4096x128, .f32⟩
  | 59 => ⟨S8x4096x4096, .f32⟩
  | 60 => ⟨S8x4096x4096x128, .f32⟩
  | 61 => ⟨S8x4096x4096x128, .f32⟩
  | 62 => ⟨S8x4096x4096x128, .f32⟩
  | 63 => ⟨S8x4096x4096x128, .f32⟩
  | 64 => ⟨S8x4096x4096x128, .f32⟩
  | 65 => ⟨S_, .f32⟩
  | 66 => ⟨S8x4096x128, .f32⟩
  | 67 => ⟨S8x1x4096x128, .f32⟩
  | 68 => ⟨S8x4096x4096x128, .f32⟩
  | 69 => ⟨S8x4096x4096x128, .f32⟩
  | 70 => ⟨S_, .f32⟩
  | 71 => ⟨S8x4096x128, .f32⟩
  | 72 => ⟨S8x4096x1x128, .f32⟩
  | 73 => ⟨S_, .f32⟩
  | 74 => ⟨S8x4096x128, .f32⟩
  | 75 => ⟨S_, .f32⟩
  | 76 => ⟨S8x4096x128, .f32⟩
  | 77 => ⟨S_, .f32⟩
  | 78 => ⟨S8x4096x4096x128, .f32⟩
  | 79 => ⟨S8x4096x4096x128, .f32⟩
  | 80 => ⟨S8x4096x4096x128, .f32⟩
  | 81 => ⟨S8x4096x4096x128, .f32⟩
  | 82 => ⟨S_, .f32⟩
  | 83 => ⟨S8x4096x128, .f32⟩
  | 84 => ⟨S8x4096x1x128, .f32⟩
  | 85 => ⟨S8x4096x4096x128, .f32⟩
  | 86 => ⟨S_, .f32⟩
  | 87 => ⟨S8x4096x128, .f32⟩
  | 88 => ⟨S8x1x4096x128, .f32⟩
  | 89 => ⟨S_, .f32⟩
  | 90 => ⟨S8x4096x128, .f32⟩
  | 91 => ⟨S_, .f32⟩
  | 92 => ⟨S8x4096x128, .f32⟩
  | 93 => ⟨S8x4096x128, .f32⟩
  | 94 => ⟨S_, .f32⟩
  | 95 => ⟨S_, .f32⟩
  | 96 => ⟨S8x4096x128, .f32⟩
  | 97 => ⟨S4096x8x128, .f32⟩
  | 98 => ⟨S4096x1024, .f32⟩
  | 99 => ⟨S1x4096x1024, .f32⟩
  | 100 => ⟨S_, .f32⟩
  | 101 => ⟨S4x4096x1024, .f32⟩
  | 102 => ⟨S4x4096x1024, .f32⟩
  | 103 => ⟨S4096x8x128, .f32⟩
  | 104 => ⟨S4096x1024, .f32⟩
  | 105 => ⟨S4096x8x128, .f32⟩
  | 106 => ⟨S4096x1024, .f32⟩
  | 107 => ⟨S4096x8x128, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S1024, .f32⟩
  | 115 => ⟨S1x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S4096x1024, .f32⟩
  | 123 => ⟨S1x4096x1024, .f32⟩
  | 124 => ⟨S_, .f32⟩
  | 125 => ⟨S4x4096x1024, .f32⟩
  | 126 => ⟨S4x4096x1024, .f32⟩
  | 127 => ⟨S1x1024, .f32⟩
  | _ => ⟨S4096x4096, .f32⟩

abbrev hbmTy0_2 (i : Nat) : BufTy := match i % 128 with
  | 0 => ⟨S1x1024, .f32⟩
  | 1 => ⟨S4096x1024, .f32⟩
  | 2 => ⟨S4096x1024, .f32⟩
  | 3 => ⟨S4096x1024, .f32⟩
  | 4 => ⟨S4096x1024, .f32⟩
  | 5 => ⟨S1x4096x1024, .f32⟩
  | 6 => ⟨S_, .f32⟩
  | 7 => ⟨S4x4096x1024, .f32⟩
  | 8 => ⟨S4x4096x1024, .f32⟩
  | 9 => ⟨S4x4096x1024, .bf16⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_call0_cst : Ref sig .tc := ⟨.hbm, 59, rfl⟩
abbrev main_call1_call0_v0 : Ref sig .tc := ⟨.hbm, 60, rfl⟩
abbrev main_v39 : Ref sig .tc := ⟨.hbm, 61, rfl⟩
abbrev main_c : Ref sig .tc := ⟨.hbm, 62, rfl⟩
abbrev main_v40 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_3 : Ref sig .tc := ⟨.hbm, 79, rfl⟩
abbrev main_v48 : Ref sig .tc := ⟨.hbm, 80, rfl⟩
abbrev main_v49 : Ref sig .tc := ⟨.hbm, 81, rfl⟩
abbrev main_cst_4 : Ref sig .tc := ⟨.hbm, 82, rfl⟩
abbrev main_v50 : Ref sig .tc := ⟨.hbm, 83, rfl⟩
abbrev main_v51 : Ref sig .tc := ⟨.hbm, 84, rfl⟩
abbrev main_cst_5 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_cst_8 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_9 : Ref sig .tc := ⟨.hbm, 97, rfl⟩
abbrev main_call3_v0 : Ref sig .tc := ⟨.hbm, 98, rfl⟩
abbrev main_v60_1 : Ref sig .tc := ⟨.hbm, 99, rfl⟩
abbrev main_call3_v2 : Ref sig .tc := ⟨.hbm, 100, rfl⟩
abbrev main_v60_0 : Ref sig .tc := ⟨.hbm, 101, rfl⟩
abbrev main_call3_cst : Ref sig .tc := ⟨.hbm, 102, rfl⟩
abbrev main_v60_2 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_10 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_11 : Ref sig .tc := ⟨.hbm, 115, rfl⟩
abbrev main_v71 : Ref sig .tc := ⟨.hbm, 116, rfl⟩
abbrev main_v72 : Ref sig .tc := ⟨.hbm, 117, rfl⟩
abbrev main_cst_12 : Ref sig .tc := ⟨.hbm, 118, rfl⟩
abbrev main_v73 : Ref sig .tc := ⟨.hbm, 119, rfl⟩
abbrev main_v74 : Ref sig .tc := ⟨.hbm, 120, rfl⟩
abbrev main_cst_13 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_14 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_15 : Ref sig .tc := ⟨.hbm, 140, rfl⟩
abbrev main_v92 : Ref sig .tc := ⟨.hbm, 141, rfl⟩
abbrev main_v93 : Ref sig .tc := ⟨.hbm, 142, rfl⟩
abbrev main_cst_16 : Ref sig .tc := ⟨.hbm, 143, rfl⟩
abbrev main_v94 : Ref sig .tc := ⟨.hbm, 144, rfl⟩
abbrev main_v95 : Ref sig .tc := ⟨.hbm, 145, rfl⟩
abbrev main_cst_17 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_18 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_19 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_20 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_21 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_22 : Ref sig .tc := ⟨.hbm, 174, rfl⟩
abbrev main_v119 : Ref sig .tc := ⟨.hbm, 175, rfl⟩
abbrev main_v120 : Ref sig .tc := ⟨.hbm, 176, rfl⟩
abbrev main_cst_23 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_24 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_25 : Ref sig .tc := ⟨.hbm, 198, rfl⟩
abbrev main_v140 : Ref sig .tc := ⟨.hbm, 199, rfl⟩
abbrev main_v141 : Ref sig .tc := ⟨.hbm, 200, rfl⟩
abbrev main_cst_26 : Ref sig .tc := ⟨.hbm, 201, rfl⟩
abbrev main_v142 : Ref sig .tc := ⟨.hbm, 202, rfl⟩
abbrev main_cst_27 : Ref sig .tc := ⟨.hbm, 203, rfl⟩
abbrev main_v143 : Ref sig .tc := ⟨.hbm, 204, rfl⟩
abbrev main_call4_cst : Ref sig .tc := ⟨.hbm, 205, rfl⟩
abbrev main_call4_v0 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_28 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_cst_29 : Ref sig .tc := ⟨.hbm, 214, rfl⟩
abbrev main_v150 : Ref sig .tc := ⟨.hbm, 215, rfl⟩
abbrev main_v151 : Ref sig .tc := ⟨.hbm, 216, rfl⟩
abbrev main_cst_30 : Ref sig .tc := ⟨.hbm, 217, rfl⟩
abbrev main_v152 : Ref sig .tc := ⟨.hbm, 218, rfl⟩
abbrev main_cst_31 : Ref sig .tc := ⟨.hbm, 219, rfl⟩
abbrev main_v153 : Ref sig .tc := ⟨.hbm, 220, rfl⟩
abbrev main_v154 : Ref sig .tc := ⟨.hbm, 221, rfl⟩
abbrev main_call5_call0_cst : Ref sig .tc := ⟨.hbm, 222, rfl⟩
abbrev main_call5_call0_v0 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_32 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_cst_33 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_cst_34 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_cst_35 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_call6_v0 : Ref sig .tc := ⟨.hbm, 257, rfl⟩
abbrev main_call6_v1 : Ref sig .tc := ⟨.hbm, 258, rfl⟩
abbrev main_call6_v2 : Ref sig .tc := ⟨.hbm, 259, rfl⟩
abbrev main_v184 : Ref sig .tc := ⟨.hbm, 260, rfl⟩
abbrev main_v185 : Ref sig .tc := ⟨.hbm, 261, rfl⟩
abbrev main_cst_36 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩

abbrev nD : Nat := 1
abbrev τ : Topo := Topo.v7x

variable {F : FTy → Type} [FloatOps F]
-- ==== SavedIdeal.lean ====
abbrev S4096x4096 : Shape := ⟨2, ![4096, 4096]⟩
abbrev S1x1024 : Shape := ⟨2, ![1, 1024]⟩
abbrev S4096x4x1024 : Shape := ⟨3, ![4096, 4, 1024]⟩
abbrev S4x4096x1024 : Shape := ⟨3, ![4, 4096, 1024]⟩
abbrev S1x4096x1024 : Shape := ⟨3, ![1, 4096, 1024]⟩
abbrev S4096x1024 : Shape := ⟨2, ![4096, 1024]⟩
abbrev S_ : Shape := ⟨0, ![]⟩
abbrev S4096x8x128 : Shape := ⟨3, ![4096, 8, 128]⟩
abbrev S8x4096x128 : Shape := ⟨3, ![8, 4096, 128]⟩
abbrev S8x4096x1x128 : Shape := ⟨4, ![8, 4096, 1, 128]⟩
abbrev S8x1x4096x128 : Shape := ⟨4, ![8, 1, 4096, 128]⟩
abbrev S8x4096x4096x128 : Shape := ⟨4, ![8, 4096, 4096, 128]⟩
abbrev S4096x4096x1 : Shape := ⟨3, ![4096, 4096, 1]⟩
abbrev S8x4096x4096 : Shape := ⟨3, ![8, 4096, 4096]⟩
abbrev S32 : Shape := ⟨1, ![32]⟩
abbrev S4096 : Shape := ⟨1, ![4096]⟩
abbrev S1x4096 : Shape := ⟨2, ![1, 4096]⟩
abbrev S32x1 : Shape := ⟨2, ![32, 1]⟩
abbrev S32x4096 : Shape := ⟨2, ![32, 4096]⟩
abbrev S8x32x128 : Shape := ⟨3, ![8, 32, 128]⟩
abbrev S8x32x1x128 : Shape := ⟨4, ![8, 32, 1, 128]⟩
abbrev S8x32x4096x128 : Shape := ⟨4, ![8, 32, 4096, 128]⟩
abbrev S32x4096x1 : Shape := ⟨3, ![32, 4096, 1]⟩
abbrev S8x32x128x128 : Shape := ⟨4, ![8, 32, 128, 128]⟩
abbrev S32x8x128x128 : Shape := ⟨4, ![32, 8, 128, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x1024, .f32⟩
  | .hbm, ⟨2, _⟩ => ⟨S4096x4x1024, .f32⟩
  | .hbm, ⟨3, _⟩ => ⟨S4x4096x1024, .f32⟩
  | .hbm, ⟨4, _⟩ => ⟨S1x4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x8x128, .f32⟩
  | .hbm, ⟨36, _⟩ => ⟨S8x4096x128, .f32⟩
  | .hbm, ⟨37, _⟩ => ⟨S4096x8x128, .f32⟩
  | .hbm, ⟨38, _⟩ => ⟨S8x4096x128, .f32⟩
  | .hbm, ⟨39, _⟩ => ⟨S4096x8x128, .f32⟩
  | .hbm, ⟨40, _⟩ => ⟨S8x4096x128, .f32⟩
  | .hbm, ⟨41, _⟩ => ⟨S1x4096x1024, .f32⟩
  | .hbm, ⟨42, _⟩ => ⟨S4096x1024, .f32⟩
  | .hbm, ⟨43, _⟩ => ⟨S4096x8x128, .f32⟩
  | .hbm, ⟨44, _⟩ => ⟨S8x4096x128, .f32⟩
  | .hbm, ⟨45, _⟩ => ⟨S_, .f32⟩
  | .hbm, ⟨46, _⟩ => ⟨S_, .f32⟩
  | .hbm, ⟨47, _⟩ => ⟨S8x4096x128, .f32⟩
  | .hbm, ⟨48, _⟩ => ⟨S_, .i1⟩
  | .hbm, ⟨49, _⟩ => ⟨S4096x4096, .i1⟩
  | .hbm, ⟨50, _⟩ => ⟨S4096x4096, .i32⟩
  | .hbm, ⟨51, _⟩ => ⟨S_, .i32⟩
  | .hbm, ⟨52, _⟩ => ⟨S4096x4096, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S_, .i1⟩
  | .hbm, ⟨57, _⟩ => ⟨S4096x4096, .i1⟩
  | .hbm, ⟨58, _⟩ => ⟨S4096x4096, .i1⟩
  | .hbm, ⟨59, _⟩ => ⟨S8x4096x1x128, .f32⟩
  | .hbm, ⟨60, _⟩ => ⟨S8x1x4096x128, .f32⟩
  | .hbm, ⟨61, _⟩ => ⟨S8x4096x4096x128, .f32⟩
  | .hbm, ⟨62, _⟩ => ⟨S8x4096x4096x128, .f32⟩
  | .hbm, ⟨63, _⟩ => ⟨S8x4096x4096x128, .f32⟩
  | .hbm, ⟨64, _⟩ => ⟨S4096x4096x1, .i1⟩
  | .hbm, ⟨65, _⟩ => ⟨S_, .f32⟩
  | .hbm, ⟨66, _⟩ => ⟨S8x4096x4096x128, .f32⟩
  | .hbm, ⟨67, _⟩ => ⟨S8x4096x4096x128, .f32⟩
  | .hbm, ⟨68, _⟩ => ⟨S8x4096x4096x128, .f32⟩
  | .hbm, ⟨69, _⟩ => ⟨S_, .f32⟩
  | .hbm, ⟨70, _⟩ => ⟨S_, .f32⟩
  | .hbm, ⟨71, _⟩ => ⟨S8x4096x4096x128, .i1⟩
  | .hbm, ⟨72, _⟩ => ⟨S8x4096x4096x128, .f32⟩
  | .hbm, ⟨73, _⟩ => ⟨S8x4096x4096x128, .f32⟩
  | .hbm, ⟨74, _⟩ => ⟨S8x4096x1x128, .f32⟩
  | .hbm, ⟨75, _⟩ => ⟨S8x1x4096x128, .f32⟩
  | .hbm, ⟨76, _⟩ => ⟨S8x4096x4096x128, .f32⟩
  | .hbm, ⟨77, _⟩ => ⟨S8x4096x4096x128, .f32⟩
  | .hbm, ⟨78, _⟩ => ⟨S8x4096x4096x128, .f32⟩
  | .hbm, ⟨79, _⟩ => ⟨S8x4096x4096x128, .f32⟩
  | .hbm, ⟨80, _⟩ => ⟨S_, .f32⟩
  | .hbm, ⟨81, _⟩ => ⟨S8x4096x4096, .f32⟩
  | .hbm, ⟨82, _⟩ => ⟨S8x4096x128, .f32⟩
  | .hbm, ⟨83, _⟩ => ⟨S4096x8x128, .f32⟩
  | .hbm, ⟨84, _⟩ => ⟨S4096x1024, .f32⟩
  | .hbm, ⟨85, _⟩ => ⟨S32, .i32⟩
  | .hbm, ⟨86, _⟩ => ⟨S_, .i32⟩
  | .hbm, ⟨87, _⟩ => ⟨S32, .i32⟩
  | .hbm, ⟨88, _⟩ => ⟨S32, .i32⟩
  | .hbm, ⟨89, _⟩ => ⟨S4096, .i32⟩
  | .hbm, ⟨90, _⟩ => ⟨S1x4096, .i32⟩
  | .hbm, ⟨91, _⟩ => ⟨S32x1, .i32⟩
  | .hbm, ⟨92, _⟩ => ⟨S32x4096, .i32⟩
  | .hbm, ⟨93, _⟩ => ⟨S32x4096, .i32⟩
  | .hbm, ⟨94, _⟩ => ⟨S32x4096, .i1⟩
  | .hbm, ⟨95, _⟩ => ⟨S8x32x128, .f32⟩
  | .hbm, ⟨96, _⟩ => ⟨S8x32x128, .f32⟩
  | .hbm, ⟨97, _⟩ => ⟨S8x32x128, .f32⟩
  | .hbm, ⟨98, _⟩ => ⟨S8x32x1x128, .f32⟩
  | .hbm, ⟨99, _⟩ => ⟨S8x1x4096x128, .f32⟩
  | .hbm, ⟨100, _⟩ => ⟨S8x32x4096x128, .f32⟩
  | .hbm, ⟨101, _⟩ => ⟨S8x32x4096x128, .f32⟩
  | .hbm, ⟨102, _⟩ => ⟨S8x32x4096x128, .f32⟩
  | .hbm, ⟨103, _⟩ => ⟨S32x4096x1, .i1⟩
  | .hbm, ⟨104, _⟩ => ⟨S_, .f32⟩
  | .hbm, ⟨105, _⟩ => ⟨S8x32x4096x128, .f32⟩
  | .hbm, ⟨106, _⟩ => ⟨S8x32x4096x128, .f32⟩
  | .hbm, ⟨107, _⟩ => ⟨S8x32x4096x128, .f32⟩
  | .hbm, ⟨108, _⟩ => ⟨S_, .f32⟩
  | .hbm, ⟨109, _⟩ => ⟨S_, .f32⟩
  | .hbm, ⟨110, _⟩ => ⟨S8x32x4096x128, .i1⟩
  | .hbm, ⟨111, _⟩ => ⟨S8x32x4096x128, .f32⟩
  | .hbm, ⟨112, _⟩ => ⟨S8x32x4096x128, .f32⟩
  | .hbm, ⟨113, _⟩ => ⟨S8x1x4096x128, .f32⟩
  | .hbm, ⟨114, _⟩ => ⟨S8x32x4096x128, .f32⟩
  | .hbm, ⟨115, _⟩ => ⟨S8x32x4096x128, .f32⟩
  | .hbm, ⟨116, _⟩ => ⟨S8x32x128x128, .f32⟩
  | .hbm, ⟨117, _⟩ => ⟨S32x8x128x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call1_call0_cst : Ref sig .tc := ⟨.hbm, 45, rfl⟩
abbrev main_call1_call0_v0 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_0 : Ref sig .tc := ⟨.hbm, 56, rfl⟩
abbrev main_call2_v5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_6 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_7 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]
-- ==== Kernel2.lean ====
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .bf16⟩
  | .hbm, ⟨2, _⟩ => ⟨S4096x4096, .f32⟩
  | .hbm, ⟨3, _⟩ => ⟨S4096x1024, .bf16⟩
  | .hbm, ⟨4, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4x1024x1024 : Shape := ⟨3, ![4, 1024, 1024]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .bf16⟩
  | .hbm, ⟨2, _⟩ => ⟨S4096x4096, .f32⟩
  | .hbm, ⟨3, _⟩ => ⟨S4x1024x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x4096 : Shape := ⟨2, ![4096, 4096]⟩
abbrev S4x1024x1024 : Shape := ⟨3, ![4, 1024, 1024]⟩
abbrev S4096x1024 : Shape := ⟨2, ![4096, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4x1024x1024, .bf16⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x4096 : Shape := ⟨2, ![4096, 4096]⟩
abbrev S4x1024x1024 : Shape := ⟨3, ![4, 1024, 1024]⟩
abbrev S4096x1024 : Shape := ⟨2, ![4096, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S4x4096x1024 : Shape := ⟨3, ![4, 4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x4096x1024, .bf16⟩
  | .hbm, ⟨2, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4x4096x1024 : Shape := ⟨3, ![4, 4096, 1024]⟩
abbrev S4096x4x1024 : Shape := ⟨3, ![4096, 4, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x1024, .bf16⟩
  | .hbm, ⟨2, _⟩ => ⟨S4x4096x1024, .f32⟩
  | .hbm, ⟨3, _⟩ => ⟨S4096x4x1024, .f32⟩
  | .hbm, ⟨4, _⟩ => ⟨S4096x4096, .f32⟩
  | .hbm, ⟨5, _⟩ => ⟨S_, .f32⟩
  | .hbm, ⟨6, _⟩ => ⟨S1024x4096, .f32⟩
  | .hbm, ⟨7, _⟩ => ⟨S4096x1024, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4096, .bf16⟩
  | .hbm, ⟨12, _⟩ => ⟨S1024x4x1024, .bf16⟩
  | .hbm, ⟨13, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4x256x1024, .bf16⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4x256x1024 : Shape := ⟨3, ![4, 256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x1024, .bf16⟩
  | .hbm, ⟨2, _⟩ => ⟨S4x256x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S4x1024x768 : Shape := ⟨3, ![4, 1024, 768]⟩
abbrev S4096x3072 : Shape := ⟨2, ![4096, 3072]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x768, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x768, .bf16⟩
  | .hbm, ⟨2, _⟩ => ⟨S4096x1024, .f32⟩
  | .hbm, ⟨3, _⟩ => ⟨S4x1024x768, .f32⟩
  | .hbm, ⟨4, _⟩ => ⟨S1024x4x768, .f32⟩
  | .hbm, ⟨5, _⟩ => ⟨S1024x3072, .f32⟩
  | .hbm, ⟨6, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S4096x3072 : Shape := ⟨2, ![4096, 3072]⟩
abbrev S4x1024x768 : Shape := ⟨3, ![4, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x4x768, .bf16⟩
  | .hbm, ⟨11, _⟩ => ⟨S4x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v99 : BitVec 1 := Scalar.cmpi .eq arg0 c0_i32
  let v100 : BitVec 32 := Scalar.extui v99
  let c0_i32_67 : BitVec 32 := 0#32
  let v101 : BitVec 1 := Scalar.cmpi .ne v100 c0_i32_67
  v101

def k0_cond2 (i : grid0.Coords) : BitVec 1 :=
  let arg0 : BitVec 32 := BitVec.ofNat 32 (i 0).val
  let c0_i32 : BitVec 32 := 0#32
  let v99 : BitVec 1 := Scalar.cmpi .eq arg0 c0_i32
  let v_true : BitVec 1 := 1#1
  let v102 : BitVec 1 := Scalar.xori v99 v_true
  let v103 : BitVec 32 := Scalar.extui v102
  let c0_i32_68 : BitVec 32 := 0#32
  let v104 : BitVec 1 := Scalar.cmpi .ne v103 c0_i32_68
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S1024x4x1024 : Shape := ⟨3, ![1024, 4, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel12.lean ====
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4x256x1024, .bf16⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x1024, .bf16⟩
  | .hbm, ⟨2, _⟩ => ⟨S4096x1024, .f32⟩
  | .hbm, ⟨3, _⟩ => ⟨S4x256x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Region.Indep.lean ====
/- The trips of the kernel loop write the projections' gradients and never load them: what a trip stores does not
   depend on what that buffer held. -/
module

public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

variable {F : FTy → Type} [FloatOps F]

variable (𝒱 : Variants) (c : Dev nD) (bd : Option 𝒱.V) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (v3 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty)
variable (G_arg14 G' : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty)

theorem trip_free (k : Fin k0_t1_loop.trips) (f14 f14' : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18 = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14' f15 f16 f17 f18 := by
  unfold tripL_k0_t1 trip_k0_t1
  rfl

theorem step_free (k : ℕ) (prev) :
    pb_k0_t1Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 G_arg14 G_arg15 G_arg16 G_arg17 G_arg18 k prev =
      pb_k0_t1Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 G' G_arg15 G_arg16 G_arg17 G_arg18 k prev := by
  unfold pb_k0_t1Step
  split
  next h =>
    rw [trip_free (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 ⟨k, h⟩ (arg14.view.writes (Elt F) G_arg14 prev.1) (arg14.view.writes (Elt F) G' prev.1)]
  next => rfl

theorem pb_free (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 G_arg14 G_arg15 G_arg16 G_arg17 G_arg18 n =
      pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 G' G_arg15 G_arg16 G_arg17 G_arg18 n := by
  induction n with
  | zero => rfl
  | succ n ih =>
    show pb_k0_t1Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 G_arg14 G_arg15 G_arg16 G_arg17 G_arg18 n (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 G_arg14 G_arg15 G_arg16 G_arg17 G_arg18 n) = pb_k0_t1Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 G' G_arg15 G_arg16 G_arg17 G_arg18 n (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 G' G_arg15 G_arg16 G_arg17 G_arg18 n)
    rw [ih]
    exact step_free _ _ _ _ _ _ _ _ _ _ _ _ _ _ _ _ _ _ _ _ _ _ _ _ _ _ _ _ _ _ _ _ _ _ _ _ _ _ _ _ _ _ _ _ _ _ _ _ _ _ _ _ _ _ _ _ _ _

end Cert.KernelIdeal.Gen

end
-- ==== Proof.Region.RunA.lean ====
/- One grid point of the kernel run from beginning to end, at the first point of a pair of heads. -/
module

public import proofs.«01_k».proof.Proof.Gen.KernelIdeal.Frame.Runs
public import proofs.«01_k».proof.Proof.Region.Indep

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
/-- What the body's stores leave in each output's staging memref, as pieces (last first) IN CASE A (`scf.if` 0 taken: points 0, 8, 16, 24), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) :
    Σ' (L12 : List (View.Piece (Elt F) S4x512x256 .bf16)), Σ' (L13 : List (View.Piece (Elt F) S1x256 .f32)), Σ' (L14 : List (View.Piece (Elt F) S1x256 .f32)), Σ' (LS0 : List (View.Piece (Elt F) S2x128x128 .f32)), { LS1 : List (View.Piece (Elt F) S2x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_hg_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_hg_bwd_eq_skeleton]; unfold cc0_hg_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · rw [pb_free (F := F) (G_arg14 := f12) (G' := arg14.view.junk)]; iexists _; iexact H12
    isplitl [H13]; · rw [pb_free (F := F) (G_arg14 := f12) (G' := arg14.view.junk)]; iexists _; iexact H13
    isplitl [H14]; · rw [pb_free (F := F) (G_arg14 := f12) (G' := arg14.view.junk)]; iexists _; iexact H14
    isplitl [HS0]; · rw [pb_free (F := F) (G_arg14 := f12) (G' := arg14.view.junk)]; iexists _; iexact HS0
    rw [pb_free (F := F) (G_arg14 := f12) (G' := arg14.view.junk)]; iexists _; iexact HS1

end Cert.KernelIdeal.Gen

end
-- ==== Proof.Region.RunB.lean ====
/- One grid point of the kernel run from beginning to end, at the later points of a pair of heads. -/
module

public import proofs.«01_k».proof.Proof.Region.RunA
public import proofs.«01_k».proof.Proof.Region.Indep

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
/-- What the body's stores leave in each output's staging memref, as pieces (last first) IN CASE B (`scf.if` 0 not taken: points 1, 2, … 31: 28 of 32), WITH the
    proof that on whole staging memrefs — the inputs' at their contents, the outputs it reads before covering (13, 14) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) :
    Σ' (L12 : List (View.Piece (Elt F) S4x512x256 .bf16)), Σ' (L13 : List (View.Piece (Elt F) S1x256 .f32)), Σ' (L14 : List (View.Piece (Elt F) S1x256 .f32)), Σ' (LS0 : List (View.Piece (Elt F) S2x128x128 .f32)), { LS1 : List (View.Piece (Elt F) S2x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xo13 ∗ owns (c : Thread nD τ) arg16 fullShare xo14 ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_hg_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_hg_bwd_eq_skeleton]; unfold cc0_hg_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg16.eq_unread hf14; obtain rfl := harg17.eq_unread hfs0; obtain rfl := harg18.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · rw [pb_free (F := F) (G_arg14 := f12) (G' := arg14.view.junk)]; iexists _; iexact H12
    isplitl [H13]; · rw [pb_free (F := F) (G_arg14 := f12) (G' := arg14.view.junk)]; iexists _; iexact H13
    isplitl [H14]; · rw [pb_free (F := F) (G_arg14 := f12) (G' := arg14.view.junk)]; iexists _; iexact H14
    isplitl [HS0]; · rw [pb_free (F := F) (G_arg14 := f12) (G' := arg14.view.junk)]; iexists _; iexact HS0
    rw [pb_free (F := F) (G_arg14 := f12) (G' := arg14.view.junk)]; iexists _; iexact HS1

end Cert.KernelIdeal.Gen

end
-- ==== Proof.Region.Frame.lean ====
/- The run of the kernel over its grid: what the outputs and the two carried buffers hold point by point, and the frame. -/
module

public import proofs.«01_k».proof.Proof.Region.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 12 tile its block (32 stores of `S1x128x128`, checked by the kernel's evaluation: Lib/Ring.lean `Piece.tiledL`, linear in the pieces, through a loop's `@[irreducible]` trip theorem too), so they cover it. -/
theorem cover0_A_12 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (y : S4x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).1 S1x128x128.size (by sl_kernel_rfl) y

/-- What case A leaves in output 12's staging buffer: its pieces read back over junk. -/
def out0_A_12 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) : Vec F S4x512x256 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).1)

/-- Case A's pieces for output 13 are of SEVERAL sizes (9 stores of `S1x128`, `S1x256`): cut into blocks of `![1, 128]` they tile its block (checked by the kernel's evaluation: Lib/Ring.lean `Piece.tiledBy`), so they cover it. -/
theorem cover0_A_13 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (y : S1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.1 ![1, 128] (by sl_kernel_rfl) y

/-- What case A leaves in output 13's staging buffer: its pieces read back over junk. -/
def out0_A_13 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) : Vec F S1x256 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.1)

/-- Case A's pieces for output 14 are of SEVERAL sizes (9 stores of `S1x128`, `S1x256`): cut into blocks of `![1, 128]` they tile its block (checked by the kernel's evaluation: Lib/Ring.lean `Piece.tiledBy`), so they cover it. -/
theorem cover0_A_14 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (y : S1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.1 ![1, 128] (by sl_kernel_rfl) y

/-- What case A leaves in output 14's staging buffer: its pieces read back over junk. -/
def out0_A_14 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) : Vec F S1x256 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.1)

/-- Case A's pieces for scratch `arg17`, which the kernel carries between points, cover it: one of them a store of the WHOLE buffer (Lib/Ring.lean `sl_whole_mem`). -/
theorem scover0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (y : S2x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.1 (by sl_whole_mem) y

/-- What case A leaves in scratch `arg17`: its pieces read back over junk. -/
def sout0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) : Vec F S2x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.1)

/-- Case A's pieces for scratch `arg18`, which the kernel carries between points, cover it: one of them a store of the WHOLE buffer (Lib/Ring.lean `sl_whole_mem`). -/
theorem scover0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (y : S2x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.2.1 (by sl_whole_mem) y

/-- What case A leaves in scratch `arg18`: its pieces read back over junk. -/
def sout0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) : Vec F S2x1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.2.1)

/-- Case B's pieces for output 12 tile its block (32 stores of `S1x128x128`, checked by the kernel's evaluation: Lib/Ring.lean `Piece.tiledL`, linear in the pieces, through a loop's `@[irreducible]` trip theorem too), so they cover it. -/
theorem cover0_B_12 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) (y : S4x512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).1 S1x128x128.size (by sl_kernel_rfl) y

/-- What case B leaves in output 12's staging buffer: its pieces read back over junk. -/
def out0_B_12 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) : Vec F S4x512x256 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).1)

/-- Case B's pieces for output 13 tile its block (8 stores of `S1x128`, checked by the kernel's evaluation: Lib/Ring.lean `Piece.tiledL`, linear in the pieces, through a loop's `@[irreducible]` trip theorem too), so they cover it. -/
theorem cover0_B_13 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) (y : S1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.1 S1x128.size (by sl_kernel_rfl) y

/-- What case B leaves in output 13's staging buffer: its pieces read back over junk. -/
def out0_B_13 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) : Vec F S1x256 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.1)

/-- Case B's pieces for output 14 tile its block (8 stores of `S1x128`, checked by the kernel's evaluation: Lib/Ring.lean `Piece.tiledL`, linear in the pieces, through a loop's `@[irreducible]` trip theorem too), so they cover it. -/
theorem cover0_B_14 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) (y : S1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.1 S1x128.size (by sl_kernel_rfl) y

/-- What case B leaves in output 14's staging buffer: its pieces read back over junk. -/
def out0_B_14 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) : Vec F S1x256 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.1)

/-- Case B's pieces for scratch `arg17`, which the kernel carries between points, cover it: 8 pieces of `S1x128x128` tiling it (Lib/Ring.lean `Piece.tiledL`). -/
theorem scover0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) (y : S2x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.2.1 S1x128x128.size (by sl_kernel_rfl) y

/-- What case B leaves in scratch `arg17`: its pieces read back over junk. -/
def sout0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) : Vec F S2x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.2.1)

/-- Case B's pieces for scratch `arg18`, which the kernel carries between points, cover it: 8 pieces of `S1x1x128` tiling it (Lib/Ring.lean `Piece.tiledL`). -/
theorem scover0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) (y : S2x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.2.2.1 S1x1x128.size (by sl_kernel_rfl) y

/-- What case B leaves in scratch `arg18`: its pieces read back over junk. -/
def sout0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole) (hc0 : ¬cond0_0 i)
    (x0 : Vec F S512x256 .f32) (x1 : Vec F S512x256 .f32) (x2 : Vec F S512x256 .f32) (x3 : Vec F S512x256 .f32) (x4 : Vec F S1x256 .f32) (x5 : Vec F S1x128 .f32) (x6 : Vec F S512x256 .f32) (x7 : Vec F S4x2x128x128 .f32) (x8 : Vec F S512x256 .f32) (x9 : Vec F S2048x128 .bf16) (x10 : Vec F S8x128x128 .f32) (x11 : Vec F S128x128 .bf16) (xo13 : Vec F S1x256 .f32) (xo14 : Vec F S1x256 .f32) (xs0 : Vec F S2x128x128 .f32) (xs1 : Vec F S2x1x128 .f32) : Vec F S2x1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4x512x256 .bf16 × Vec F S1x256 .f32 × Vec F S1x256 .f32 × Vec F S2x128x128 .f32 × Vec F S2x1x128 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 8 = 0 then
      (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 8 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 8 = 0) (d) :
    (dats m 0 c).before 13 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 8 = 0) (d) :
    (dats m 0 c).before 14 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc m c t, PhiS_zero m c _ _ hz, PhiA0_eq]
      rw [outsAt0_A m c t h0]
      unfold out0_A_12 out0_A_13 out0_A_14 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_12 out0_A_13 out0_A_14 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [HS0]; · iexists _; iexact HS0
      isplitl [HS1]; · iexists _; iexact HS1
      iintro ⟨H0, H1, H2, H3, H4, H5, H6, H7, H8, H9, H10, H11, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_13_B m c t h0, before0_14_B m c t h0]
      unfold out0_B_12 out0_B_13 out0_B_14 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [H14]; · iexact H14
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Region.Value.lean ====
/- The result arrays after the run, block by block, and the two carried buffers as folds over the points. -/
module

public import proofs.«01_k».proof.Proof.Region.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t.val t.isLt).1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 8 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0_A m c t h0]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 8 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed12, outsAt0_B m c t h0]

/-- The index map sends distinct grid points to distinct block indices (decided over the 32 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S4x4096x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 1), read through the window's block. -/
theorem flushed13 (c : Dev nD) (t : Fin cfg0.N) :
    (dats m 0 c).flushed 13 t = (cfg0.win 13).cut (grid0.coords t) ((outsAt0 m c t.val t.isLt).2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 8 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed13, outsAt0_A m c t h0]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 8 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed13, outsAt0_B m c t h0]

-- no `blocks13`: window 13's index map revisits a block index, or its points could not be enumerated here;
-- the final array is still the frame's `arrAt`, to read with Lib/Pipeline/Value.lean's lemmas by hand

/-- An index that no flushing point's block covers keeps output window 13's array contents at region entry. -/
theorem entry13 (c : Dev nD) (i : S1x1024.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 2), read through the window's block. -/
theorem flushed14 (c : Dev nD) (t : Fin cfg0.N) :
    (dats m 0 c).flushed 14 t = (cfg0.win 14).cut (grid0.coords t) ((outsAt0 m c t.val t.isLt).2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 8 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed14, outsAt0_A m c t h0]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 8 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed14, outsAt0_B m c t h0]

-- no `blocks14`: window 14's index map revisits a block index, or its points could not be enumerated here;
-- the final array is still the frame's `arrAt`, to read with Lib/Pipeline/Value.lean's lemmas by hand

/-- An index that no flushing point's block covers keeps output window 14's array contents at region entry. -/
theorem entry14 (c : Dev nD) (i : S1x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v140_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v140_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v140_2) = (dats m 0 c).arrAt 14 cfg0.N :=
  (h c).1 14

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- After the frame run, argument `main_arg3` is as launched: input window 8 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 8).trans (((dats m 0 c).arrAt_in 8 rfl _).trans ((A_eq m c 8).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v140_0) = (dats m 0 c).arrAt 12 cfg0.N
      ∧ r.2.mem ((c : Thread nD τ).loc main_v140_1) = (dats m 0 c).arrAt 13 cfg0.N
      ∧ r.2.mem ((c : Thread nD τ).loc main_v140_2) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post12 m r h c,
      post13 m r h c,
      post14 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 8)
    stores the scratch whole without reading what it held, and `acc` does not enter there (nor where no point meets the
    conditions: `acc`, never read). -/
def scAt0_0 (c : Dev nD) (n : ℕ) (hb : n < cfg0.N) (acc : Vec F S2x128x128 .f32) : Vec F S2x128x128 .f32 :=
  if h0 : n % 8 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2.2.2.1) 8 (fun n h => scAt0_0 m c n h (VS0_0.read (Elt F) VS0_0.junk)) (scAt0_0 m c)
    (fun n h hn => by
      have hN := lt_of_lt_of_eq h (show cfg0.N = 32 from N_0)
      by_cases h0 : n % 8 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 32 from N_0)
      by_cases h0 : (n + 1) % 8 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 8)
    stores the scratch whole without reading what it held, and `acc` does not enter there (nor where no point meets the
    conditions: `acc`, never read). -/
def scAt0_1 (c : Dev nD) (n : ℕ) (hb : n < cfg0.N) (acc : Vec F S2x1x128 .f32) : Vec F S2x1x128 .f32 :=
  if h0 : n % 8 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 1 HOLDS after point `t`: the fold of its run up to `t`, from the reset at the run's first point
    `8·(t / 8)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2 = Pipeline.accAt (fun n h => scAt0_1 m c n h (VS0_1.read (Elt F) VS0_1.junk)) (scAt0_1 m c) (8 * (t.val / 8)) (t.val % 8)
      (by have h1 := t.isLt; have h2 := Nat.div_add_mod t.val 8; omega) :=
  Pipeline.eq_accAt_of_mod (fun n h => (outsAt0 m c n h).2.2.2.2) 8 (fun n h => scAt0_1 m c n h (VS0_1.read (Elt F) VS0_1.junk)) (scAt0_1 m c)
    (fun n h hn => by
      have hN := lt_of_lt_of_eq h (show cfg0.N = 32 from N_0)
      by_cases h0 : n % 8 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 32 from N_0)
      by_cases h0 : (n + 1) % 8 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

end Cert.KernelIdeal.Value

end
-- ==== Proof.SameA.lean ====
/- The printed kernel and its idealized text are the same program over words: the first parts of the body. -/
module

public import Idealize.ShloMosaic.PureOps.BitExact
public import proofs.«01_k».proof.Proof.Gen.Kernel
public import proofs.«01_k».proof.Proof.Region.Frame

@[expose] public section

set_option maxRecDepth 16384
set_option maxHeartbeats 4000000

noncomputable section

namespace Cert.Proof

open Idealize.ShloMosaic Idealize.SL.Sem

theorem part1 : @Cert.Kernel.k0_part1 Bits _ _ = @Cert.KernelIdeal.k0_part1 Bits _ _ := rfl
theorem part2 : @Cert.Kernel.k0_part2 Bits _ _ = @Cert.KernelIdeal.k0_part2 Bits _ _ := rfl
theorem part3 : @Cert.Kernel.k0_part3 Bits _ _ = @Cert.KernelIdeal.k0_part3 Bits _ _ := rfl
theorem part4 : @Cert.Kernel.k0_part4 Bits _ _ = @Cert.KernelIdeal.k0_part4 Bits _ _ := rfl
theorem part5 : @Cert.Kernel.k0_part5 Bits _ _ = @Cert.KernelIdeal.k0_part5 Bits _ _ := rfl
theorem part6 : @Cert.Kernel.k0_part6 Bits _ _ = @Cert.KernelIdeal.k0_part6 Bits _ _ := rfl
theorem part7 : @Cert.Kernel.k0_part7 Bits _ _ = @Cert.KernelIdeal.k0_part7 Bits _ _ := rfl
theorem part8 : @Cert.Kernel.k0_part8 Bits _ _ = @Cert.KernelIdeal.k0_part8 Bits _ _ := rfl
theorem part9 : @Cert.Kernel.k0_part9 Bits _ _ = @Cert.KernelIdeal.k0_part9 Bits _ _ := rfl
theorem part10 : @Cert.Kernel.k0_part10 Bits _ _ = @Cert.KernelIdeal.k0_part10 Bits _ _ := rfl
end Cert.Proof

end
-- ==== Proof.SameB.lean ====
/- The printed kernel and its idealized text are the same program over words: the remaining parts of the body. -/
module

public import Idealize.ShloMosaic.PureOps.BitExact
public import proofs.«01_k».proof.Proof.Gen.Kernel
public import proofs.«01_k».proof.Proof.Region.Frame

@[expose] public section

set_option maxRecDepth 16384
set_option maxHeartbeats 4000000

noncomputable section

namespace Cert.Proof

open Idealize.ShloMosaic Idealize.SL.Sem

theorem part11 : @Cert.Kernel.k0_part11 Bits _ _ = @Cert.KernelIdeal.k0_part11 Bits _ _ := rfl
theorem part12 : @Cert.Kernel.k0_part12 Bits _ _ = @Cert.KernelIdeal.k0_part12 Bits _ _ := rfl
theorem part13 : @Cert.Kernel.k0_part13 Bits _ _ = @Cert.KernelIdeal.k0_part13 Bits _ _ := rfl
theorem part14 : @Cert.Kernel.k0_part14 Bits _ _ = @Cert.KernelIdeal.k0_part14 Bits _ _ := rfl
theorem part15 : @Cert.Kernel.k0_part15 Bits _ _ = @Cert.KernelIdeal.k0_part15 Bits _ _ := rfl
theorem part16 : @Cert.Kernel.k0_part16 Bits _ _ = @Cert.KernelIdeal.k0_part16 Bits _ _ := rfl
theorem part17 : @Cert.Kernel.k0_part17 Bits _ _ = @Cert.KernelIdeal.k0_part17 Bits _ _ := rfl
theorem part18 : @Cert.Kernel.k0_part18 Bits _ _ = @Cert.KernelIdeal.k0_part18 Bits _ _ := rfl
theorem part19 : @Cert.Kernel.k0_part19 Bits _ _ = @Cert.KernelIdeal.k0_part19 Bits _ _ := rfl
end Cert.Proof

end
-- ==== Proof.Same.lean ====
/- The printed kernel and its idealized text are the same program over words. -/
module

public import proofs.«01_k».proof.Proof.SameA
public import proofs.«01_k».proof.Proof.SameB

@[expose] public section

set_option maxRecDepth 16384
set_option maxHeartbeats 4000000

noncomputable section

namespace Cert.Proof

open Idealize.ShloMosaic Idealize.SL.Sem

theorem body_eq : @Cert.Kernel.cc0_hg_bwd Bits _ _ = @Cert.KernelIdeal.cc0_hg_bwd Bits _ _ := by
  unfold Cert.Kernel.cc0_hg_bwd Cert.KernelIdeal.cc0_hg_bwd
  simp only [part1, part2, part3, part4, part5, part6, part7, part8, part9, part10, part11, part12, part13, part14, part15, part16, part17, part18, part19]
  rfl

theorem labels_eq : @Cert.Kernel.defs₀ Bits _ _ = @Cert.KernelIdeal.defs₀ Bits _ _ := by
  unfold Cert.Kernel.defs₀ Cert.KernelIdeal.defs₀
  rw [body_eq]
  generalize @Cert.KernelIdeal.cc0_hg_bwd Bits _ _ = b
  refine congrArg Defs.onTc ?_
  funext l x
  match l, x with
  | 0, (t, s) => rfl

theorem defs_eq : Cert.Kernel.defs (F := Bits) = Cert.KernelIdeal.defs (F := Bits) := by
  unfold Cert.Kernel.defs Cert.KernelIdeal.defs
  rw [labels_eq]
  rfl

theorem main_eq : Cert.Kernel.main (F := Bits) = Cert.KernelIdeal.main (F := Bits) := rfl

end Cert.Proof

end
-- ==== Proof.Frames.lean ====
/- The frames: each program terminates, faults nowhere, leaves its arguments as they were and every counter at zero. -/
module

public import proofs.«01_k».proof.Defs
public import proofs.«01_k».proof.Proof.Gen.Kernel
public import proofs.«01_k».proof.Proof.Region.Frame
public import proofs.«01_k».proof.Proof.Same
public import proofs.«01_k».proof.Proof.Gen.ReferenceIdeal.Run
public import proofs.«01_k».proof.Proof.Gen.SavedIdeal.Run
public import Idealize.ShloMosaic.Lib.Quiescent

@[expose] public section

set_option maxRecDepth 16384

noncomputable section

namespace Cert.Proof

open Idealize.ShloMosaic Idealize.SL.Sem

/-- The kernel at the machine's floats: its text is the idealized program's, whose run is written over any floats. -/
theorem frame_kernel : Cert.quiescent_Kernel := fun m ρ _ => by
  rw [defs_eq, main_eq]
  exact Cert.KernelIdeal.Gen.frame (F := Bits) m ρ

theorem frame_ideal : Cert.quiescent_KernelIdeal := fun m ρ _ => Cert.KernelIdeal.Gen.frame (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_saved : Cert.quiescent_SavedIdeal := fun m ρ _ =>
  (θ_run Cert.SavedIdeal.defs _ _).mono (fun r h => ⟨fun c => (h c).2.2, sem_eq_zero_of_no_sems (by decide) r.2⟩)
    (Cert.SavedIdeal.Value.run (F := Ideal) m ρ)

end Cert.Proof

end
-- ==== Proof.Blocks.lean ====
/- Blocks of real numbers and the gradient of one head's chunk, as the kernel's steps compute it. -/
module

public import Mathlib.Analysis.SpecialFunctions.Log.Basic
public import Mathlib.Analysis.SpecialFunctions.Exp

@[expose] public section

noncomputable section

namespace Cert.Proof

/-- A square block of real numbers. -/
abbrev Mat : Type := Fin 128 → Fin 128 → ℝ

/-- The product of two blocks. -/
def mmN (a b : Mat) : Mat := fun i j => ∑ k, a i k * b k j
/-- The product with the second block transposed. -/
def mmT (a b : Mat) : Mat := fun i j => ∑ k, a i k * b j k
/-- The product with the first block transposed. -/
def mmA (a b : Mat) : Mat := fun i j => ∑ k, a k i * b k j
/-- The product of the stack with a block. -/
def mmL (a : ℕ → Fin 128 → ℝ) (b : Mat) : ℕ → Fin 128 → ℝ := fun i j => ∑ k, a i k * b k j
/-- The exponential of each entry. -/
def mexp (a : Mat) : Mat := fun i j => Real.exp (a i j)
/-- The logarithm of each entry. -/
def mlog (a : Mat) : Mat := fun i j => Real.log (a i j)
/-- The absolute value of each entry. -/
def mabs (a : Mat) : Mat := fun i j => |a i j|
/-- The same number everywhere. -/
def mcst (x : ℝ) : Mat := fun _ _ => x
/-- The same number everywhere in a row. -/
def vcst (x : ℝ) : Fin 128 → ℝ := fun _ => x
/-- A row laid under every row. -/
def ofRow (f : Fin 128 → ℝ) : Mat := fun _ j => f j
/-- A column laid under every column. -/
def ofCol (f : Fin 128 → ℝ) : Mat := fun i _ => f i
/-- The sum of each row. -/
def sumR (a : Mat) : Fin 128 → ℝ := fun i => ∑ j, a i j
/-- The sum of each column. -/
def sumC (a : Mat) : Fin 128 → ℝ := fun j => ∑ i, a i j
/-- The block that starts at a row of the stack. -/
def blk (o : ℕ) (a : ℕ → Fin 128 → ℝ) : Mat := fun i j => a (o + i.val) j
/-- One where the entry is at least the other's, by choice between two blocks. -/
def msel (x z a b : Mat) : Mat := fun i j => if z i j ≤ x i j then a i j else b i j
/-- One over the square root of each entry. -/
def vrsqrt (a : Fin 128 → ℝ) : Fin 128 → ℝ := fun i => (Real.sqrt (a i))⁻¹

/-- The small number under the square root: the rational of its float word. -/
def eps : ℝ := 8796093 / 8796093022208

/-- The logistic function, the kernel's way: no exponential of a positive number. -/
def sgk (x : Mat) : Mat :=
  msel x (mcst 0) (mcst 1) (mexp (mcst 0 - mabs x)) / (mcst 1 + mexp (mcst 0 - mabs x))

/-- What one head's chunk is computed of. -/
structure Head where
  (q0 f0 i0 g0 o dy st suf dst : Mat)
  (lb gn run : Fin 128 → ℝ)
  M : ℕ → Fin 128 → ℝ
  mask : ℕ → Mat

namespace Head
variable (H : Head)

def sq : Mat := sgk H.q0
def sf : Mat := sgk H.f0
def sg : Mat := sgk H.g0
def q : Mat := H.q0 * H.sq
def fg : Mat := ofRow H.lb + ofRow (vcst 1 - H.lb) * H.sf
def lf : Mat := mlog H.fg
def k : Mat := mcst 1 - H.fg
def ex : ℕ → Fin 128 → ℝ := mmL H.M H.lf
def var : Fin 128 → ℝ := sumR (H.o * H.o) / vcst 128 + vcst eps
def r : Fin 128 → ℝ := vrsqrt H.var
def ohat : Mat := H.o * ofCol H.r
def dyn : Mat := H.dy * H.sg
def dp3 : Mat := H.dy * H.ohat * ofRow H.gn * H.sg * (mcst 1 - H.sg)
def dgn : Fin 128 → ℝ := sumC (H.dyn * H.ohat)
def dohat : Mat := H.dyn * ofRow H.gn
def do_ : Mat := ofCol H.r * (H.dohat - H.ohat * ofCol (sumR (H.dohat * H.ohat) / vcst 128))
def fc : Mat := mexp (blk 1792 H.ex)
def ft : Mat := mexp (blk 1920 H.ex)
def qin : Mat := H.q * H.fc
def kdec : Mat := H.k * H.ft
def tin : Mat := mmN H.do_ H.st
def tst : Mat := mmN H.i0 H.dst
def da : Mat := mmT H.do_ H.i0
def fq (n : ℕ) : Mat := mexp (blk (256 * n) H.ex)
def fk (n : ℕ) : Mat := mexp (blk (256 * n + 128) H.ex)
def qs (n : ℕ) : Mat := H.q * H.fq n
def ks (n : ℕ) : Mat := H.k * H.fk n
def dam (n : ℕ) : Mat := H.mask n * H.da
def tq (n : ℕ) : Mat := mmN (H.dam n) (H.ks n)
def tk (n : ℕ) : Mat := mmA (H.dam n) (H.qs n)
/-- The scores, the gradients of query and key and of the running sum, with the first levels added. -/
def aa : ℕ → Mat
  | 0 => H.mask 7 * mmT H.q H.k
  | n + 1 => aa n + H.mask n * mmT (H.qs n) (H.ks n)
def dqa : ℕ → Mat
  | 0 => H.tin * H.fc + mmN (H.dam 7) H.k
  | n + 1 => dqa n + H.tq n * H.fq n
def dka : ℕ → Mat
  | 0 => H.tst * H.ft + mmA (H.dam 7) H.q
  | n + 1 => dka n + H.tk n * H.fk n
def dba : ℕ → Mat
  | 0 => H.qin * H.tin - H.kdec * H.tst
  | n + 1 => dba n + (H.qs n * H.tq n - H.ks n * H.tk n)
def dv : Mat := mmA (H.aa 7) H.do_ + mmT H.kdec H.dst
def dst' : Mat := H.dst * ofRow (H.fc 127) + mmA H.do_ H.qin
def dlf : Mat := mmN H.suf (H.dba 7) + ofRow H.run
def run' : Fin 128 → ℝ := H.dlf 0
def dfg : Mat := H.dlf / H.fg - H.dka 7
def dlb : Fin 128 → ℝ := sumC (H.dfg * (mcst 1 - H.sf))
def dp1 : Mat := H.dfg * ofRow (vcst 1 - H.lb) * H.sf * (mcst 1 - H.sf)
def dp0 : Mat := H.dqa 7 * H.sq * (mcst 1 + H.q0 * (mcst 1 - H.sq))

end Head

end Cert.Proof

end
-- ==== Proof.Rep.lean ====
/- Vectors of extended reals that hold real numbers, and how each operation of the kernel acts on them. -/
module

public import proofs.«01_k».proof.Proof.Gen.KernelIdeal
public import proofs.«01_k».proof.Proof.Blocks
public import Idealize.ShloMosaic.Lib.Pointwise

@[expose] public section

set_option maxRecDepth 16384

noncomputable section

namespace Cert.Proof

open Idealize.ShloMosaic Cert.KernelIdeal

/-- A block of 128 by 128 extended reals holds the real numbers `f`. -/
def Rep (X : S128x128.Idx → EReal) (f : Mat) : Prop := ∀ i j, X (ix2 i j) = ((f i j : ℝ) : EReal)
/-- One row. -/
def RepR (X : S1x128.Idx → EReal) (f : Fin 128 → ℝ) : Prop := ∀ j, X (ix2 0 j) = ((f j : ℝ) : EReal)
/-- One column. -/
def RepC (X : S128x1.Idx → EReal) (f : Fin 128 → ℝ) : Prop := ∀ i, X (ix2 i 0) = ((f i : ℝ) : EReal)
/-- A plain vector. -/
def RepV (X : S128.Idx → EReal) (f : Fin 128 → ℝ) : Prop := ∀ j, X (ix1 j) = ((f j : ℝ) : EReal)
/-- A block under one leading axis. -/
def RepB (X : S1x128x128.Idx → EReal) (f : Mat) : Prop := ∀ i j, X (ix3 0 i j) = ((f i j : ℝ) : EReal)
/-- A block under two leading axes. -/
def RepBB (X : S1x1x128x128.Idx → EReal) (f : Mat) : Prop := ∀ i j, X (ix4 0 0 i j) = ((f i j : ℝ) : EReal)
/-- A row under one leading axis. -/
def RepRR (X : S1x1x128.Idx → EReal) (f : Fin 128 → ℝ) : Prop := ∀ j, X (ix3 0 0 j) = ((f j : ℝ) : EReal)
/-- The stack of sixteen blocks. -/
def RepL (X : S2048x128.Idx → EReal) (f : ℕ → Fin 128 → ℝ) : Prop :=
  ∀ i j, X (ix2 i j) = ((f i.val j : ℝ) : EReal)
/-- The eight masks. -/
def RepK (X : S8x128x128.Idx → EReal) (f : ℕ → Mat) : Prop :=
  ∀ n i j, X (ix3 n i j) = ((f n.val i j : ℝ) : EReal)

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem div_real (a b : ℝ) (h : b ≠ 0) : Ideal.div (a : EReal) (b : EReal) = ((a / b : ℝ) : EReal) := by
  rw [Ideal.div_coe h, ← EReal.coe_mul, mul_one_div]

theorem abs_real {φ : FTy} (a : ℝ) : (FloatOps.absf (F := Ideal) (φ := φ) (a : EReal)) = ((|a| : ℝ) : EReal) := by
  show max (a : EReal) (-(a : EReal)) = _
  rw [abs, ← EReal.coe_neg]
  exact (EReal.coe_strictMono.monotone.map_max).symm

section ops
variable {φ ψ : FTy} {X Y Z W : S128x128.Idx → EReal} {f g h w : Mat}

theorem rep_mulf {X Y : FVec Ideal S128x128 φ} (hx : Rep X f) (hy : Rep Y g) : Rep (mulf X Y) (f * g) := by
  intro i j; pointwise; rw [hx, hy, ← EReal.coe_mul]; rfl
theorem rep_addf {X Y : FVec Ideal S128x128 φ} (hx : Rep X f) (hy : Rep Y g) : Rep (addf X Y) (f + g) := by
  intro i j; pointwise; rw [hx, hy, ← EReal.coe_add]; rfl
theorem rep_subf {X Y : FVec Ideal S128x128 φ} (hx : Rep X f) (hy : Rep Y g) : Rep (subf X Y) (f - g) := by
  intro i j; pointwise; rw [hx, hy, ← EReal.coe_sub]; rfl
theorem rep_divf {X Y : FVec Ideal S128x128 φ} (hx : Rep X f) (hy : Rep Y g) (h0 : ∀ i j, g i j ≠ 0) :
    Rep (divf X Y) (f / g) := by
  intro i j; pointwise; rw [hx, hy, div_real _ _ (h0 i j)]; rfl
theorem rep_exp {X : FVec Ideal S128x128 φ} (hx : Rep X f) : Rep (exp X) (mexp f) := by
  intro i j; pointwise; rw [hx, Ideal.exp_coe]; rfl
theorem rep_log {X : FVec Ideal S128x128 φ} (hx : Rep X f) (h0 : ∀ i j, 0 < f i j) : Rep (log X) (mlog f) := by
  intro i j; pointwise; rw [hx, Ideal.log_coe, if_neg (not_le.2 (h0 i j))]; rfl
theorem rep_absf {X : FVec Ideal S128x128 φ} (hx : Rep X f) : Rep (absf X) (mabs f) := by
  intro i j; pointwise; rw [hx]; exact abs_real _
theorem rep_truncf {X : FVec Ideal S128x128 φ} (hx : Rep X f) (hb : ψ.bits < φ.bits) :
    Rep (truncf ψ X hb) f := by
  intro i j; pointwise; rw [hx]
theorem rep_extf {X : FVec Ideal S128x128 φ} (hx : Rep X f) (hb : φ.bits < ψ.bits) :
    Rep (extf ψ X hb) f := by
  intro i j; pointwise; rw [hx]
theorem rep_cst {x : ℝ} {c : Ideal .f32} (hc : c = (x : EReal)) : Rep (broadcast S128x128 c) (mcst x) := by
  intro i j; pointwise; rw [hc]; rfl
/-- The flags of a comparison: where the first block's entry is at least the second's. -/
def RepG (X : IVec S128x128 1) (f g : Mat) : Prop := ∀ i j, X (ix2 i j) = BitVec.ofBool (decide (g i j ≤ f i j))
/-- A single number. -/
def RepS (c : Ideal .f32) (x : ℝ) : Prop := c = ((x : ℝ) : EReal)

theorem repG_oge {X Z : FVec Ideal S128x128 .f32} (hx : Rep X f) (hz : Rep Z g) : RepG (cmpf .oge X Z) f g := by
  intro i j
  show Ideal.cmp .oge (X (ix2 i j)) (Z (ix2 i j)) = _
  rw [hx, hz]
  simp only [Ideal.cmp, EReal.coe_le_coe_iff]
theorem rep_select {C : IVec S128x128 1} {A B : FVec Ideal S128x128 .f32} (hc : RepG C f g) (ha : Rep A h) (hb : Rep B w) :
    Rep (select C A B) (msel f g h w) := by
  intro i j
  show Scalar.select (C (ix2 i j)) (A (ix2 i j)) (B (ix2 i j)) = _
  rw [hc, ha, hb, msel]
  by_cases h' : g i j ≤ f i j <;> simp [h', Scalar.select]
theorem rep_mmN {A B : FVec Ideal S128x128 φ} (ha : Rep A f) (hb : Rep B g) :
    Rep (matmul dot_S128x128_S128x128_S128x128_1_0_0_1_n_n none A B (constant (F := Ideal) S128x128 .f32 0x00000000#32)) (mmN f g) := by
  intro i j; pointwise; simp only [ha _ _, hb _ _, ← EReal.coe_mul, coe_sum, zero_add]; rfl
theorem rep_mmT {A B : FVec Ideal S128x128 φ} (ha : Rep A f) (hb : Rep B g) :
    Rep (matmul dot_S128x128_S128x128_S128x128_1_1_0_0_n_n none A B (constant (F := Ideal) S128x128 .f32 0x00000000#32)) (mmT f g) := by
  intro i j; pointwise; simp only [ha _ _, hb _ _, ← EReal.coe_mul, coe_sum, zero_add]; rfl
theorem rep_mmA {A B : FVec Ideal S128x128 φ} (ha : Rep A f) (hb : Rep B g) :
    Rep (matmul dot_S128x128_S128x128_S128x128_0_0_1_1_n_n none A B (constant (F := Ideal) S128x128 .f32 0x00000000#32)) (mmA f g) := by
  intro i j; pointwise; simp only [ha _ _, hb _ _, ← EReal.coe_mul, coe_sum, zero_add]; rfl
end ops

section shapes
variable {φ ψ : FTy} {f g h w : Mat} {u v : Fin 128 → ℝ} {L : ℕ → Fin 128 → ℝ} {K : ℕ → Mat}

theorem repR_addf {X Y : FVec Ideal S1x128 φ} (hx : RepR X u) (hy : RepR Y v) : RepR (addf X Y) (u + v) := by
  intro j; pointwise; rw [hx, hy, ← EReal.coe_add]; rfl
theorem repR_subf {X Y : FVec Ideal S1x128 φ} (hx : RepR X u) (hy : RepR Y v) : RepR (subf X Y) (u - v) := by
  intro j; pointwise; rw [hx, hy, ← EReal.coe_sub]; rfl
theorem repR_cst {x : ℝ} {c : Ideal .f32} (hc : c = (x : EReal)) : RepR (broadcast S1x128 c) (vcst x) := by
  intro j; pointwise; rw [hc]; rfl
theorem repC_cst {x : ℝ} {c : Ideal .f32} (hc : c = (x : EReal)) : RepC (broadcast S128x1 c) (vcst x) := by
  intro j; pointwise; rw [hc]; rfl
theorem repC_addf {X Y : FVec Ideal S128x1 φ} (hx : RepC X u) (hy : RepC Y v) : RepC (addf X Y) (u + v) := by
  intro i; pointwise; rw [hx, hy, ← EReal.coe_add]; rfl
theorem repC_divf {X Y : FVec Ideal S128x1 φ} (hx : RepC X u) (hy : RepC Y v) (h0 : ∀ i, v i ≠ 0) : RepC (divf X Y) (u / v) := by
  intro i; pointwise; rw [hx, hy, div_real _ _ (h0 i)]; rfl
theorem repC_rsqrt {X : FVec Ideal S128x1 φ} (hx : RepC X u) (h0 : ∀ i, 0 < u i) : RepC (rsqrt X) (vrsqrt u) := by
  intro i; pointwise
  rw [hx, Ideal.rsqrt_coe, if_neg (not_lt.2 (h0 i).le), if_neg (h0 i).ne']; rfl
theorem rep_ofRow {X : FVec Ideal S1x128 φ} (hx : RepR X u) (hb : S1x128.Broadcasts S128x128) :
    Rep (broadcastTo S128x128 X hb) (ofRow u) := by
  intro i j; pointwise; exact hx j
theorem rep_ofCol {X : FVec Ideal S128x1 φ} (hx : RepC X u) (hb : S128x1.Broadcasts S128x128) :
    Rep (broadcastTo S128x128 X hb) (ofCol u) := by
  intro i j; pointwise; exact hx i
theorem repV_sumR {X : FVec Ideal S128x128 .f32} (hx : Rep X f) (hr : S128x128.Reduces [1] S128) (h1) (h2) :
    RepV (multiReduction (F := Ideal) .add [1] S128 X 0x00000000#32 hr h1 h2) (sumR f) := by
  intro i; pointwise; simp only [hx _ _, coe_sum, zero_add]; rfl
theorem repV_sumC {X : FVec Ideal S128x128 .f32} (hx : Rep X f) (hr : S128x128.Reduces [0] S128) (h1) (h2) :
    RepV (multiReduction (F := Ideal) .add [0] S128 X 0x00000000#32 hr h1 h2) (sumC f) := by
  intro i; pointwise; simp only [hx _ _, coe_sum, zero_add]; rfl
theorem repC_of {X : FVec Ideal S128 φ} (hx : RepV X u) (hs : S128.ShapeCasts S128x1) : RepC (shapeCast S128x1 X hs) u := by
  intro i; pointwise; exact hx i
theorem repR_of {X : FVec Ideal S128 φ} (hx : RepV X u) (hs : S128.ShapeCasts S1x128) : RepR (shapeCast S1x128 X hs) u := by
  intro i; pointwise; exact hx i
theorem repR_id {X : FVec Ideal S1x128 φ} (hx : RepR X u) (hs : S1x128.ShapeCasts S1x128) : RepR (shapeCast S1x128 X hs) u := by
  intro i; pointwise; exact hx i
theorem repR_of3 {X : FVec Ideal S1x1x128 φ} (hx : RepRR X u) (hs : S1x1x128.ShapeCasts S1x128) : RepR (shapeCast S1x128 X hs) u := by
  intro i; pointwise; exact hx i
theorem repRR_of {X : FVec Ideal S1x128 φ} (hx : RepR X u) (hs : S1x128.ShapeCasts S1x1x128) : RepRR (shapeCast S1x1x128 X hs) u := by
  intro i; pointwise; exact hx i
theorem rep_id {X : FVec Ideal S128x128 φ} (hx : Rep X f) (hs : S128x128.ShapeCasts S128x128) : Rep (shapeCast S128x128 X hs) f := by
  intro i j; pointwise; exact hx i j
theorem rep_ofB {X : FVec Ideal S1x128x128 φ} (hx : RepB X f) (hs : S1x128x128.ShapeCasts S128x128) : Rep (shapeCast S128x128 X hs) f := by
  intro i j; pointwise; exact hx i j
theorem repB_of {X : FVec Ideal S128x128 φ} (hx : Rep X f) (hs : S128x128.ShapeCasts S1x128x128) : RepB (shapeCast S1x128x128 X hs) f := by
  intro i j; pointwise; exact hx i j
theorem rep_ofBB {X : FVec Ideal S1x1x128x128 φ} (hx : RepBB X f) (hs : S1x1x128x128.ShapeCasts S128x128) : Rep (shapeCast S128x128 X hs) f := by
  intro i j; pointwise; exact hx i j
theorem repL_id {X : FVec Ideal S2048x128 φ} (hx : RepL X L) (hs : S2048x128.ShapeCasts S2048x128) : RepL (shapeCast S2048x128 X hs) L := by
  intro i j; pointwise; exact hx i j
theorem repK_id {X : FVec Ideal S8x128x128 φ} (hx : RepK X K) (hs : S8x128x128.ShapeCasts S8x128x128) : RepK (shapeCast S8x128x128 X hs) K := by
  intro n i j; pointwise; exact hx n i j
theorem repB_level {X : FVec Ideal S8x128x128 φ} (hx : RepK X K) (n : ℕ) (hs : S8x128x128.Slices ![n, 0, 0] S1x128x128) :
    RepB (extractStridedSlice S1x128x128 ![n, 0, 0] X hs) (K n) := by
  intro i j; pointwise; exact hx _ _ _
theorem rep_blk {X : FVec Ideal S2048x128 φ} (hx : RepL X L) (o : ℕ) (hs : S2048x128.Slices ![o, 0] S128x128) :
    Rep (extractStridedSlice S128x128 ![o, 0] X hs) (blk o L) := by
  intro i j; pointwise; exact hx _ _
theorem repR_row {X : FVec Ideal S128x128 φ} (hx : Rep X f) (o : ℕ) (ho : o < 128) (hs : S128x128.Slices ![o, 0] S1x128) :
    RepR (extractStridedSlice S1x128 ![o, 0] X hs) (f ⟨o, ho⟩) := by
  intro j; pointwise; exact hx _ _

/-- The three parts of a block, side by side. -/
def parts3 (x : FVec Ideal S128x128 .f32) (hb : FTy.bf16.bits < FTy.f32.bits)
    (hc : Shape.Concatenates [S128x128, S128x128, S128x128] S128x384 1) : FVec Ideal S128x384 .bf16 :=
  concatenate S128x384 1 [⟨S128x128, truncf .bf16 x hb⟩,
    ⟨S128x128, truncf .bf16 (subf x (extf .f32 (truncf .bf16 x hb) hb)) hb⟩,
    ⟨S128x128, truncf .bf16 (subf (subf x (extf .f32 (truncf .bf16 x hb) hb))
      (extf .f32 (truncf .bf16 (subf x (extf .f32 (truncf .bf16 x hb) hb)) hb) hb)) hb⟩] hc

theorem parts3_lo {x : FVec Ideal S128x128 .f32} (hx : Rep x f) (hb) (hc) (k : Fin 128) (j : Fin 128) :
    parts3 x hb hc (ix2 k ⟨j.val, by omega⟩) = ((f k j : ℝ) : EReal) := by
  have := j.isLt
  pointwise [parts3]
  exact hx k j

theorem parts3_hi {x : FVec Ideal S128x128 .f32} (hx : Rep x f) (hb) (hc) (k : Fin 128) (j : Fin 384) (hj : 128 ≤ j.val) :
    parts3 x hb hc (ix2 k j) = 0 := by
  pointwise [parts3]
  rw [dif_neg (by omega)]
  simp only [hx _ _, ← EReal.coe_sub, sub_self, EReal.coe_zero]
  split
  · rfl
  · exact sub_zero _

variable {x : FVec Ideal S128x128 .f32} {A : FVec Ideal S128x128 .bf16} {B : FVec Ideal S2048x128 .bf16}

/-- A product with three parts side by side: the first third holds the product, the others nothing. -/
def RepP (X : S128x384.Idx → EReal) (f : Mat) : Prop :=
  ∀ (i : Fin 128) (j : Fin 384), X (ix2 i j) = if h : j.val < 128 then ((f i ⟨j.val, h⟩ : ℝ) : EReal) else 0
def RepPL (X : S2048x384.Idx → EReal) (L : ℕ → Fin 128 → ℝ) : Prop :=
  ∀ (i : Fin 2048) (j : Fin 384), X (ix2 i j) = if h : j.val < 128 then ((L i.val ⟨j.val, h⟩ : ℝ) : EReal) else 0

theorem repP_mm (ha : Rep A g) (hx : Rep x f) (hb) (hc) :
    RepP (matmul dot_S128x128_S128x384_S128x384_1_0_0_1_n_n none A (parts3 x hb hc)
      (constant (F := Ideal) S128x384 .f32 0x00000000#32)) (mmN g f) := by
  intro i j
  split
  next h =>
    pointwise
    have h' := fun k => parts3_lo hx hb hc k ⟨j.val, h⟩
    simp only [Fin.eta, ha _ _] at h' ⊢
    simp only [h', ← EReal.coe_mul, coe_sum]
    rfl
  next h =>
    pointwise
    refine (Finset.sum_eq_zero fun k _ => ?_)
    rw [parts3_hi hx hb hc k j (by omega)]
    exact mul_zero _
theorem repPL_mm (ha : RepL B L) (hx : Rep x f) (hb) (hc) :
    RepPL (matmul dot_S2048x128_S128x384_S2048x384_1_0_0_1_n_n none B (parts3 x hb hc)
      (constant (F := Ideal) S2048x384 .f32 0x00000000#32)) (mmL L f) := by
  intro i j
  split
  next h =>
    pointwise
    have h' := fun k => parts3_lo hx hb hc k ⟨j.val, h⟩
    simp only [Fin.eta, ha _ _] at h' ⊢
    simp only [h', ← EReal.coe_mul, coe_sum]
    rfl
  next h =>
    pointwise
    refine (Finset.sum_eq_zero fun k _ => ?_)
    rw [parts3_hi hx hb hc k j (by omega)]
    exact mul_zero _
theorem repP_0 {X : FVec Ideal S128x384 .f32} (hx : RepP X f) (hs : S128x384.Slices ![0, 0] S128x128) :
    Rep (extractStridedSlice S128x128 ![0, 0] X hs) f := by
  intro i j
  pointwise
  rw [hx]; simp
theorem repP_1 {X : FVec Ideal S128x384 .f32} (hx : RepP X f) (o : ℕ) (ho : 128 ≤ o) (hs : S128x384.Slices ![0, o] S128x128) :
    Rep (extractStridedSlice S128x128 ![0, o] X hs) 0 := by
  intro i j
  pointwise
  rw [hx, dif_neg (by simp; omega)]; rfl
theorem repPL_0 {X : FVec Ideal S2048x384 .f32} (hx : RepPL X L) (hs : S2048x384.Slices ![0, 0] S2048x128) :
    RepL (extractStridedSlice S2048x128 ![0, 0] X hs) L := by
  intro i j
  pointwise
  rw [hx]; simp
theorem repPL_1 {X : FVec Ideal S2048x384 .f32} (hx : RepPL X L) (o : ℕ) (ho : 128 ≤ o) (hs : S2048x384.Slices ![0, o] S2048x128) :
    RepL (extractStridedSlice S2048x128 ![0, o] X hs) 0 := by
  intro i j
  pointwise
  rw [hx, dif_neg (by simp; omega)]; rfl
theorem rep_add0 {X Y : FVec Ideal S128x128 φ} (hx : Rep X f) (hy : Rep Y 0) : Rep (addf X Y) f := by
  have h := rep_addf hx hy
  rwa [add_zero] at h
theorem repL_add0 {X Y : FVec Ideal S2048x128 φ} (hx : RepL X L) (hy : RepL Y 0) : RepL (addf X Y) L := by
  intro i j
  pointwise
  rw [hx, hy]
  exact add_zero _

/-- The three literals of the kernel. -/
theorem repS_zero : RepS (Scalar.ofBits (F := Ideal) .f32 0x00000000#32) 0 := Ideal.ofBits_zero_f32
theorem repS_one : RepS (Scalar.ofBits (F := Ideal) .f32 0x3F800000#32) 1 := by
  show Ideal.ofBits .f32 0x3F800000#32 = _
  rw [Ideal.ofBits_one_f32]; rfl
theorem repS_width : RepS (Scalar.ofBits (F := Ideal) .f32 0x43000000#32) 128 := by
  show Ideal.ofBits .f32 0x43000000#32 = _
  simp [Ideal.ofBits, Ideal.ieee]
  rw [← EReal.coe_mul]
  norm_num
theorem repS_eps : RepS (Scalar.ofBits (F := Ideal) .f32 0x358637BD#32) eps := by
  show Ideal.ofBits .f32 0x358637BD#32 = _
  simp [Ideal.ofBits, Ideal.ieee, eps]
  rw [← EReal.coe_mul]
  norm_num

theorem one_add_exp_ne (a : Mat) : ∀ i j, (mcst 1 + mexp a) i j ≠ 0 := fun i j => by
  show (1 : ℝ) + Real.exp (a i j) ≠ 0
  positivity
theorem width_ne : ∀ i, vcst 128 i ≠ 0 := fun _ => by simp [vcst]
end shapes

end Cert.Proof

end
-- ==== Proof.Pays.lean ====
/- What each step of the kernel holds, given what its operands hold. -/
module

public import proofs.«01_k».proof.Proof.Gen.KernelIdeal.Skeleton
public import proofs.«01_k».proof.Proof.Rep

@[expose] public section

set_option maxRecDepth 16384

noncomputable section

namespace Cert.Proof

open Idealize.ShloMosaic Cert.KernelIdeal Cert.KernelIdeal.Gen

theorem rp5 {p_v917 : Mat} {v917 : FVec Ideal S128x128 .f32} {p_v920 : Mat} {v920 : FVec Ideal S128x128 .f32} {p_v921 : Mat} {v921 : FVec Ideal S128x128 .f32}
    (h_v917 : Rep v917 p_v917) (h_v920 : Rep v920 p_v920) (h_v921 : Rep v921 p_v921) :
    RepB (k0_pay5 (F := Ideal) v917 v920 v921) (p_v917 * (p_v921 + p_v920)) :=
  (repB_of (φ := .bf16) (rep_truncf (rep_mulf h_v917 (rep_addf h_v921 h_v920)) bitsLt_bf16_f32) shapeCasts_S128x128_S1x128x128)

theorem rp6 {p_v860 : Mat} {v860 : FVec Ideal S128x128 .f32}
    (h_v860 : Rep v860 p_v860) :
    RepB (k0_pay6 (F := Ideal) v860) p_v860 :=
  (repB_of (φ := .bf16) (rep_truncf h_v860 bitsLt_bf16_f32) shapeCasts_S128x128_S1x128x128)

theorem rp7 {p_v10 : Mat} {v10 : Vec Ideal S128x128 .f32}
    (h_v10 : Rep v10 p_v10) :
    Rep (k0_pay7 (F := Ideal) v10) ((msel p_v10 (mcst 0) (mcst 1) (mexp ((mcst 0) - (mabs p_v10)))) / ((mcst 1) + (mexp ((mcst 0) - (mabs p_v10))))) :=
  (rep_divf (rep_select (repG_oge h_v10 (rep_cst repS_zero)) (rep_cst repS_one) (rep_exp (rep_subf (rep_cst repS_zero) (rep_absf h_v10)))) (rep_addf (rep_cst repS_one) (rep_exp (rep_subf (rep_cst repS_zero) (rep_absf h_v10)))) (one_add_exp_ne _))

theorem rp8 {p_v12 : Mat} {v12 : Vec Ideal S128x128 .f32}
    (h_v12 : Rep v12 p_v12) :
    Rep (k0_pay8 (F := Ideal) v12) ((msel p_v12 (mcst 0) (mcst 1) (mexp ((mcst 0) - (mabs p_v12)))) / ((mcst 1) + (mexp ((mcst 0) - (mabs p_v12))))) :=
  (rep_divf (rep_select (repG_oge h_v12 (rep_cst repS_zero)) (rep_cst repS_one) (rep_exp (rep_subf (rep_cst repS_zero) (rep_absf h_v12)))) (rep_addf (rep_cst repS_one) (rep_exp (rep_subf (rep_cst repS_zero) (rep_absf h_v12)))) (one_add_exp_ne _))

theorem rp9 {p_v8 : Fin 128 → ℝ} {v8 : Vec Ideal S1x128 .f32} {p_v12 : Mat} {v12 : Vec Ideal S128x128 .f32}
    (h_v8 : RepR v8 p_v8) (h_v12 : Rep v12 p_v12) :
    Rep (k0_pay9 (F := Ideal) v8 v12) ((ofRow p_v8) + ((ofRow ((vcst 1) - p_v8)) * ((msel p_v12 (mcst 0) (mcst 1) (mexp ((mcst 0) - (mabs p_v12)))) / ((mcst 1) + (mexp ((mcst 0) - (mabs p_v12))))))) :=
  (rep_addf (rep_ofRow (φ := .f32) h_v8 broadcasts_S1x128_S128x128) (rep_mulf (rep_ofRow (φ := .f32) (repR_subf (repR_cst repS_one) h_v8) broadcasts_S1x128_S128x128) (rp8 h_v12)))

theorem rp10 {p_v10 : Mat} {v10 : Vec Ideal S128x128 .f32}
    (h_v10 : Rep v10 p_v10) :
    Rep (k0_pay10 (F := Ideal) v10) (p_v10 * ((msel p_v10 (mcst 0) (mcst 1) (mexp ((mcst 0) - (mabs p_v10)))) / ((mcst 1) + (mexp ((mcst 0) - (mabs p_v10)))))) :=
  (rep_mulf h_v10 (rp7 h_v10))

theorem rp11 {p_v8 : Fin 128 → ℝ} {v8 : Vec Ideal S1x128 .f32} {p_v12 : Mat} {v12 : Vec Ideal S128x128 .f32}
    (h_v8 : RepR v8 p_v8) (h_v12 : Rep v12 p_v12) (e_0 : ∀ i j, 0 < ((ofRow p_v8) + ((ofRow ((vcst 1) - p_v8)) * ((msel p_v12 (mcst 0) (mcst 1) (mexp ((mcst 0) - (mabs p_v12)))) / ((mcst 1) + (mexp ((mcst 0) - (mabs p_v12))))))) i j) :
    Rep (k0_pay11 (F := Ideal) v8 v12) (mlog ((ofRow p_v8) + ((ofRow ((vcst 1) - p_v8)) * ((msel p_v12 (mcst 0) (mcst 1) (mexp ((mcst 0) - (mabs p_v12)))) / ((mcst 1) + (mexp ((mcst 0) - (mabs p_v12)))))))) :=
  (rep_log (rp9 h_v8 h_v12) e_0)

theorem rp12 {p_v8 : Fin 128 → ℝ} {v8 : Vec Ideal S1x128 .f32} {p_v12 : Mat} {v12 : Vec Ideal S128x128 .f32}
    (h_v8 : RepR v8 p_v8) (h_v12 : Rep v12 p_v12) :
    Rep (k0_pay12 (F := Ideal) v8 v12) ((mcst 1) - ((ofRow p_v8) + ((ofRow ((vcst 1) - p_v8)) * ((msel p_v12 (mcst 0) (mcst 1) (mexp ((mcst 0) - (mabs p_v12)))) / ((mcst 1) + (mexp ((mcst 0) - (mabs p_v12)))))))) :=
  (rep_subf (rep_cst repS_one) (rp9 h_v8 h_v12))

theorem rp13 {p_v46 : Mat} {v46 : Vec Ideal S128x128 .f32}
    (h_v46 : Rep v46 p_v46) :
    Rep (k0_pay13 (F := Ideal) v46) p_v46 :=
  (rep_truncf h_v46 bitsLt_bf16_f32)

theorem rp14 {p_v42 : Mat} {v42 : FVec Ideal S128x128 .f32} {p_v48 : ℕ → Fin 128 → ℝ} {v48 : Vec Ideal S2048x128 .bf16}
    (h_v42 : Rep v42 p_v42) (h_v48 : RepL v48 p_v48) :
    RepL (k0_pay14 (F := Ideal) v42 v48) (mmL p_v48 p_v42) :=
  (repL_add0 (repL_add0 (repPL_0 (repPL_mm (repL_id (φ := .bf16) h_v48 shapeCasts_S2048x128_S2048x128) h_v42 bitsLt_bf16_f32 concatenates_S128x128_S128x128_S128x128_S128x384_d1) slices_S2048x384_o0_0_S2048x128) (repPL_1 (repPL_mm (repL_id (φ := .bf16) h_v48 shapeCasts_S2048x128_S2048x128) h_v42 bitsLt_bf16_f32 concatenates_S128x128_S128x128_S128x128_S128x384_d1) 128 (by decide) slices_S2048x384_o0_128_S2048x128)) (repPL_1 (repPL_mm (repL_id (φ := .bf16) h_v48 shapeCasts_S2048x128_S2048x128) h_v42 bitsLt_bf16_f32 concatenates_S128x128_S128x128_S128x128_S128x384_d1) 256 (by decide) slices_S2048x384_o0_256_S2048x128))

theorem rp15 {p_v64 : ℕ → Mat} {v64 : Vec Ideal S8x128x128 .f32}
    (h_v64 : RepK v64 p_v64) :
    RepK (k0_pay15 (F := Ideal) v64) p_v64 :=
  (repK_id (φ := .f32) h_v64 shapeCasts_S8x128x128_S8x128x128)

theorem rp16 {p_v67 : Mat} {v67 : Vec Ideal S128x128 .f32}
    (h_v67 : Rep v67 p_v67) :
    Rep (k0_pay16 (F := Ideal) v67) p_v67 :=
  (rep_id (φ := .f32) h_v67 shapeCasts_S128x128_S128x128)

theorem rp17 {p_v72 : Mat} {v72 : Vec Ideal S128x128 .f32}
    (h_v72 : Rep v72 p_v72) :
    Rep (k0_pay17 (F := Ideal) v72) ((msel p_v72 (mcst 0) (mcst 1) (mexp ((mcst 0) - (mabs p_v72)))) / ((mcst 1) + (mexp ((mcst 0) - (mabs p_v72))))) :=
  (rep_divf (rep_select (repG_oge h_v72 (rep_cst repS_zero)) (rep_cst repS_one) (rep_exp (rep_subf (rep_cst repS_zero) (rep_absf h_v72)))) (rep_addf (rep_cst repS_one) (rep_exp (rep_subf (rep_cst repS_zero) (rep_absf h_v72)))) (one_add_exp_ne _))

theorem rp18 {p_v67 : Mat} {v67 : Vec Ideal S128x128 .f32}
    (h_v67 : Rep v67 p_v67) :
    RepC (k0_pay18 (F := Ideal) v67) (((sumR (p_v67 * p_v67)) / (vcst 128)) + (vcst eps)) :=
  (repC_addf (repC_divf (repC_of (φ := .f32) (repV_sumR (rep_mulf (rp16 h_v67) (rp16 h_v67)) _ _ _) shapeCasts_S128_S128x1) (repC_cst repS_width) width_ne) (repC_cst repS_eps))

theorem rp19 {p_v90 : Fin 128 → ℝ} {v90 : FVec Ideal S128x1 .f32}
    (h_v90 : RepC v90 p_v90) (e_0 : ∀ i, 0 < p_v90 i) :
    RepC (k0_pay19 (F := Ideal) v90) (vrsqrt p_v90) :=
  (repC_rsqrt h_v90 e_0)

theorem rp20 {p_v68 : Mat} {v68 : FVec Ideal S128x128 .f32} {p_v90 : Fin 128 → ℝ} {v90 : FVec Ideal S128x1 .f32}
    (h_v68 : Rep v68 p_v68) (h_v90 : RepC v90 p_v90) (e_0 : ∀ i, 0 < p_v90 i) :
    Rep (k0_pay20 (F := Ideal) v68 v90) (p_v68 * (ofCol (vrsqrt p_v90))) :=
  (rep_mulf h_v68 (rep_ofCol (φ := .f32) (rp19 h_v90 e_0) broadcasts_S128x1_S128x128))

theorem rp21 {p_v70 : Mat} {v70 : Vec Ideal S128x128 .f32} {p_v83 : Mat} {v83 : FVec Ideal S128x128 .f32}
    (h_v70 : Rep v70 p_v70) (h_v83 : Rep v83 p_v83) :
    Rep (k0_pay21 (F := Ideal) v70 v83) (p_v70 * p_v83) :=
  (rep_mulf h_v70 h_v83)

theorem rp22 {p_v3 : Fin 128 → ℝ} {v3 : Vec Ideal S1x128 .f32} {p_v68 : Mat} {v68 : FVec Ideal S128x128 .f32} {p_v70 : Mat} {v70 : Vec Ideal S128x128 .f32} {p_v83 : Mat} {v83 : FVec Ideal S128x128 .f32} {p_v90 : Fin 128 → ℝ} {v90 : FVec Ideal S128x1 .f32}
    (h_v3 : RepR v3 p_v3) (h_v68 : Rep v68 p_v68) (h_v70 : Rep v70 p_v70) (h_v83 : Rep v83 p_v83) (h_v90 : RepC v90 p_v90) (e_0 : ∀ i, 0 < p_v90 i) :
    RepB (k0_pay22 (F := Ideal) v3 v68 v70 v83 v90) ((((p_v70 * (p_v68 * (ofCol (vrsqrt p_v90)))) * (ofRow p_v3)) * p_v83) * ((mcst 1) - p_v83)) :=
  (repB_of (φ := .bf16) (rep_truncf (rep_mulf (rep_mulf (rep_mulf (rep_mulf h_v70 (rp20 h_v68 h_v90 e_0)) (rep_ofRow (φ := .f32) h_v3 broadcasts_S1x128_S128x128)) h_v83) (rep_subf (rep_cst repS_one) h_v83)) bitsLt_bf16_f32) shapeCasts_S128x128_S1x128x128)

theorem rp23 {p_v68 : Mat} {v68 : FVec Ideal S128x128 .f32} {p_v70 : Mat} {v70 : Vec Ideal S128x128 .f32} {p_v83 : Mat} {v83 : FVec Ideal S128x128 .f32} {p_v90 : Fin 128 → ℝ} {v90 : FVec Ideal S128x1 .f32} {p_v107 : Fin 128 → ℝ} {v107 : Vec Ideal S1x128 .f32}
    (h_v68 : Rep v68 p_v68) (h_v70 : Rep v70 p_v70) (h_v83 : Rep v83 p_v83) (h_v90 : RepC v90 p_v90) (h_v107 : RepR v107 p_v107) (e_0 : ∀ i, 0 < p_v90 i) :
    RepR (k0_pay23 (F := Ideal) v68 v70 v83 v90 v107) (p_v107 + (sumC ((p_v70 * p_v83) * (p_v68 * (ofCol (vrsqrt p_v90)))))) :=
  (repR_addf (repR_id (φ := .f32) h_v107 shapeCasts_S1x128_S1x128) (repR_of (φ := .f32) (repV_sumC (rep_mulf (rp21 h_v70 h_v83) (rp20 h_v68 h_v90 e_0)) _ _ _) shapeCasts_S128_S1x128))

theorem rp24 {p_v3 : Fin 128 → ℝ} {v3 : Vec Ideal S1x128 .f32} {p_v68 : Mat} {v68 : FVec Ideal S128x128 .f32} {p_v70 : Mat} {v70 : Vec Ideal S128x128 .f32} {p_v83 : Mat} {v83 : FVec Ideal S128x128 .f32} {p_v90 : Fin 128 → ℝ} {v90 : FVec Ideal S128x1 .f32}
    (h_v3 : RepR v3 p_v3) (h_v68 : Rep v68 p_v68) (h_v70 : Rep v70 p_v70) (h_v83 : Rep v83 p_v83) (h_v90 : RepC v90 p_v90) (e_0 : ∀ i, 0 < p_v90 i) :
    Rep (k0_pay24 (F := Ideal) v3 v68 v70 v83 v90) ((ofCol (vrsqrt p_v90)) * (((p_v70 * p_v83) * (ofRow p_v3)) - ((p_v68 * (ofCol (vrsqrt p_v90))) * (ofCol ((sumR (((p_v70 * p_v83) * (ofRow p_v3)) * (p_v68 * (ofCol (vrsqrt p_v90))))) / (vcst 128)))))) :=
  (rep_truncf (rep_mulf (rep_ofCol (φ := .f32) (rp19 h_v90 e_0) broadcasts_S128x1_S128x128) (rep_subf (rep_mulf (rp21 h_v70 h_v83) (rep_ofRow (φ := .f32) h_v3 broadcasts_S1x128_S128x128)) (rep_mulf (rp20 h_v68 h_v90 e_0) (rep_ofCol (φ := .f32) (repC_divf (repC_of (φ := .f32) (repV_sumR (rep_mulf (rep_mulf (rp21 h_v70 h_v83) (rep_ofRow (φ := .f32) h_v3 broadcasts_S1x128_S128x128)) (rp20 h_v68 h_v90 e_0)) _ _ _) shapeCasts_S128_S128x1) (repC_cst repS_width) width_ne) broadcasts_S128x1_S128x128)))) bitsLt_bf16_f32)

theorem rp25 {p_v127 : Mat} {v127 : Vec Ideal S1x128x128 .f32}
    (h_v127 : RepB v127 p_v127) :
    Rep (k0_pay25 (F := Ideal) v127) p_v127 :=
  (rep_ofB (φ := .f32) h_v127 shapeCasts_S1x128x128_S128x128)

theorem rp26 {p_v127 : Mat} {v127 : Vec Ideal S1x128x128 .f32}
    (h_v127 : RepB v127 p_v127) :
    Rep (k0_pay26 (F := Ideal) v127) p_v127 :=
  (rep_truncf (rp25 h_v127) bitsLt_bf16_f32)

theorem rp27 {p_v41 : Mat} {v41 : FVec Ideal S128x128 .f32}
    (h_v41 : Rep v41 p_v41) :
    Rep (k0_pay27 (F := Ideal) v41) p_v41 :=
  (rep_truncf h_v41 bitsLt_bf16_f32)

theorem rp28 {p_v44 : Mat} {v44 : FVec Ideal S128x128 .f32}
    (h_v44 : Rep v44 p_v44) :
    Rep (k0_pay28 (F := Ideal) v44) p_v44 :=
  (rep_truncf h_v44 bitsLt_bf16_f32)

theorem rp29 {p_v63 : ℕ → Fin 128 → ℝ} {v63 : FVec Ideal S2048x128 .f32}
    (h_v63 : RepL v63 p_v63) :
    Rep (k0_pay29 (F := Ideal) v63) (mexp (blk 1792 p_v63)) :=
  (rep_exp (rep_blk (φ := .f32) h_v63 1792 slices_S2048x128_o1792_0_S128x128))

theorem rp30 {p_v63 : ℕ → Fin 128 → ℝ} {v63 : FVec Ideal S2048x128 .f32}
    (h_v63 : RepL v63 p_v63) :
    Rep (k0_pay30 (F := Ideal) v63) (mexp (blk 1920 p_v63)) :=
  (rep_exp (rep_blk (φ := .f32) h_v63 1920 slices_S2048x128_o1920_0_S128x128))

theorem rp31 {p_v41 : Mat} {v41 : FVec Ideal S128x128 .f32} {p_v133 : Mat} {v133 : FVec Ideal S128x128 .f32}
    (h_v41 : Rep v41 p_v41) (h_v133 : Rep v133 p_v133) :
    Rep (k0_pay31 (F := Ideal) v41 v133) (p_v41 * p_v133) :=
  (rep_truncf (rep_mulf h_v41 h_v133) bitsLt_bf16_f32)

theorem rp32 {p_v44 : Mat} {v44 : FVec Ideal S128x128 .f32} {p_v135 : Mat} {v135 : FVec Ideal S128x128 .f32}
    (h_v44 : Rep v44 p_v44) (h_v135 : Rep v135 p_v135) :
    Rep (k0_pay32 (F := Ideal) v44 v135) (p_v44 * p_v135) :=
  (rep_truncf (rep_mulf h_v44 h_v135) bitsLt_bf16_f32)

theorem rp33 {p_v126 : Mat} {v126 : FVec Ideal S128x128 .bf16} {p_v141 : Mat} {v141 : Vec Ideal S1x1x128x128 .f32}
    (h_v126 : Rep v126 p_v126) (h_v141 : RepBB v141 p_v141) :
    Rep (k0_pay33 (F := Ideal) v126 v141) (mmN p_v126 p_v141) :=
  (rep_add0 (rep_add0 (repP_0 (repP_mm h_v126 (rep_ofBB (φ := .f32) h_v141 shapeCasts_S1x1x128x128_S128x128) bitsLt_bf16_f32 concatenates_S128x128_S128x128_S128x128_S128x384_d1) slices_S128x384_o0_0_S128x128) (repP_1 (repP_mm h_v126 (rep_ofBB (φ := .f32) h_v141 shapeCasts_S1x1x128x128_S128x128) bitsLt_bf16_f32 concatenates_S128x128_S128x128_S128x128_S128x384_d1) 128 (by decide) slices_S128x384_o0_128_S128x128)) (repP_1 (repP_mm h_v126 (rep_ofBB (φ := .f32) h_v141 shapeCasts_S1x1x128x128_S128x128) bitsLt_bf16_f32 concatenates_S128x128_S128x128_S128x128_S128x384_d1) 256 (by decide) slices_S128x384_o0_256_S128x128))

theorem rp34 {p_v47 : Mat} {v47 : FVec Ideal S128x128 .bf16} {p_v128 : Mat} {v128 : FVec Ideal S128x128 .f32}
    (h_v47 : Rep v47 p_v47) (h_v128 : Rep v128 p_v128) :
    Rep (k0_pay34 (F := Ideal) v47 v128) (mmN p_v47 p_v128) :=
  (rep_add0 (rep_add0 (repP_0 (repP_mm h_v47 h_v128 bitsLt_bf16_f32 concatenates_S128x128_S128x128_S128x128_S128x384_d1) slices_S128x384_o0_0_S128x128) (repP_1 (repP_mm h_v47 h_v128 bitsLt_bf16_f32 concatenates_S128x128_S128x128_S128x128_S128x384_d1) 128 (by decide) slices_S128x384_o0_128_S128x128)) (repP_1 (repP_mm h_v47 h_v128 bitsLt_bf16_f32 concatenates_S128x128_S128x128_S128x128_S128x384_d1) 256 (by decide) slices_S128x384_o0_256_S128x128))

theorem rp35 {p_v47 : Mat} {v47 : FVec Ideal S128x128 .bf16} {p_v126 : Mat} {v126 : FVec Ideal S128x128 .bf16}
    (h_v47 : Rep v47 p_v47) (h_v126 : Rep v126 p_v126) :
    Rep (k0_pay35 (F := Ideal) v47 v126) (mmT p_v126 p_v47) :=
  (rep_mmT h_v126 h_v47)

theorem rp36 {p_v47 : Mat} {v47 : FVec Ideal S128x128 .bf16} {p_v65 : ℕ → Mat} {v65 : FVec Ideal S8x128x128 .f32} {p_v126 : Mat} {v126 : FVec Ideal S128x128 .bf16}
    (h_v47 : Rep v47 p_v47) (h_v65 : RepK v65 p_v65) (h_v126 : Rep v126 p_v126) :
    Rep (k0_pay36 (F := Ideal) v47 v65 v126) ((p_v65 7) * (mmT p_v126 p_v47)) :=
  (rep_truncf (rep_mulf (rep_ofB (φ := .f32) (repB_level (φ := .f32) h_v65 7 slices_S8x128x128_o7_0_0_S1x128x128) shapeCasts_S1x128x128_S128x128) (rp35 h_v47 h_v126)) bitsLt_bf16_f32)

theorem rp37 {p_v65 : ℕ → Mat} {v65 : FVec Ideal S8x128x128 .f32} {p_v130 : Mat} {v130 : FVec Ideal S128x128 .bf16} {p_v131 : Mat} {v131 : FVec Ideal S128x128 .bf16}
    (h_v65 : RepK v65 p_v65) (h_v130 : Rep v130 p_v130) (h_v131 : Rep v131 p_v131) :
    Rep (k0_pay37 (F := Ideal) v65 v130 v131) ((p_v65 7) * (mmT p_v130 p_v131)) :=
  (rep_mulf (rep_ofB (φ := .f32) (repB_level (φ := .f32) h_v65 7 slices_S8x128x128_o7_0_0_S1x128x128) shapeCasts_S1x128x128_S128x128) (rep_mmT h_v130 h_v131))

theorem rp38 {p_v47 : Mat} {v47 : FVec Ideal S128x128 .bf16} {p_v65 : ℕ → Mat} {v65 : FVec Ideal S8x128x128 .f32} {p_v126 : Mat} {v126 : FVec Ideal S128x128 .bf16} {p_v131 : Mat} {v131 : FVec Ideal S128x128 .bf16} {p_v133 : Mat} {v133 : FVec Ideal S128x128 .f32} {p_v141 : Mat} {v141 : Vec Ideal S1x1x128x128 .f32}
    (h_v47 : Rep v47 p_v47) (h_v65 : RepK v65 p_v65) (h_v126 : Rep v126 p_v126) (h_v131 : Rep v131 p_v131) (h_v133 : Rep v133 p_v133) (h_v141 : RepBB v141 p_v141) :
    Rep (k0_pay38 (F := Ideal) v47 v65 v126 v131 v133 v141) (((mmN p_v126 p_v141) * p_v133) + (mmN ((p_v65 7) * (mmT p_v126 p_v47)) p_v131)) :=
  (rep_addf (rep_mulf (rp33 h_v126 h_v141) h_v133) (rep_mmN (rp36 h_v47 h_v65 h_v126) h_v131))

theorem rp39 {p_v47 : Mat} {v47 : FVec Ideal S128x128 .bf16} {p_v65 : ℕ → Mat} {v65 : FVec Ideal S8x128x128 .f32} {p_v126 : Mat} {v126 : FVec Ideal S128x128 .bf16} {p_v128 : Mat} {v128 : FVec Ideal S128x128 .f32} {p_v130 : Mat} {v130 : FVec Ideal S128x128 .bf16} {p_v135 : Mat} {v135 : FVec Ideal S128x128 .f32}
    (h_v47 : Rep v47 p_v47) (h_v65 : RepK v65 p_v65) (h_v126 : Rep v126 p_v126) (h_v128 : Rep v128 p_v128) (h_v130 : Rep v130 p_v130) (h_v135 : Rep v135 p_v135) :
    Rep (k0_pay39 (F := Ideal) v47 v65 v126 v128 v130 v135) (((mmN p_v47 p_v128) * p_v135) + (mmA ((p_v65 7) * (mmT p_v126 p_v47)) p_v130)) :=
  (rep_addf (rep_mulf (rp34 h_v47 h_v128) h_v135) (rep_mmA (rp36 h_v47 h_v65 h_v126) h_v130))

theorem rp40 {p_v41 : Mat} {v41 : FVec Ideal S128x128 .f32} {p_v133 : Mat} {v133 : FVec Ideal S128x128 .f32}
    (h_v41 : Rep v41 p_v41) (h_v133 : Rep v133 p_v133) :
    Rep (k0_pay40 (F := Ideal) v41 v133) (p_v41 * p_v133) :=
  (rep_extf (rp31 h_v41 h_v133) bitsLt_bf16_f32)

theorem rp41 {p_v63 : ℕ → Fin 128 → ℝ} {v63 : FVec Ideal S2048x128 .f32}
    (h_v63 : RepL v63 p_v63) :
    Rep (k0_pay41 (F := Ideal) v63) (mexp (blk 0 p_v63)) :=
  (rep_exp (rep_blk (φ := .f32) h_v63 0 slices_S2048x128_o0_0_S128x128))

theorem rp42 {p_v63 : ℕ → Fin 128 → ℝ} {v63 : FVec Ideal S2048x128 .f32}
    (h_v63 : RepL v63 p_v63) :
    Rep (k0_pay42 (F := Ideal) v63) (mexp (blk 128 p_v63)) :=
  (rep_exp (rep_blk (φ := .f32) h_v63 128 slices_S2048x128_o128_0_S128x128))

theorem rp43 {p_v41 : Mat} {v41 : FVec Ideal S128x128 .f32} {p_v63 : ℕ → Fin 128 → ℝ} {v63 : FVec Ideal S2048x128 .f32}
    (h_v41 : Rep v41 p_v41) (h_v63 : RepL v63 p_v63) :
    Rep (k0_pay43 (F := Ideal) v41 v63) (p_v41 * (mexp (blk 0 p_v63))) :=
  (rep_truncf (rep_mulf h_v41 (rp41 h_v63)) bitsLt_bf16_f32)

theorem rp44 {p_v44 : Mat} {v44 : FVec Ideal S128x128 .f32} {p_v63 : ℕ → Fin 128 → ℝ} {v63 : FVec Ideal S2048x128 .f32}
    (h_v44 : Rep v44 p_v44) (h_v63 : RepL v63 p_v63) :
    Rep (k0_pay44 (F := Ideal) v44 v63) (p_v44 * (mexp (blk 128 p_v63))) :=
  (rep_truncf (rep_mulf h_v44 (rp42 h_v63)) bitsLt_bf16_f32)

theorem rp45 {p_v65 : ℕ → Mat} {v65 : FVec Ideal S8x128x128 .f32} {p_v171 : Mat} {v171 : FVec Ideal S128x128 .f32}
    (h_v65 : RepK v65 p_v65) (h_v171 : Rep v171 p_v171) :
    Rep (k0_pay45 (F := Ideal) v65 v171) ((p_v65 0) * p_v171) :=
  (rep_truncf (rep_mulf (rep_ofB (φ := .f32) (repB_level (φ := .f32) h_v65 0 slices_S8x128x128_o0_0_0_S1x128x128) shapeCasts_S1x128x128_S128x128) h_v171) bitsLt_bf16_f32)

theorem rp46 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v44 : Rep v44 p_v44) (h_v63 : RepL v63 p_v63) (h_v65 : RepK v65 p_v65) (h_v171 : Rep v171 p_v171) :
    Rep (k0_pay46 (F := Ideal) v44 v63 v65 v171) (mmN ((p_v65 0) * p_v171) (p_v44 * (mexp (blk 128 p_v63)))) :=
  (rep_mmN (rp45 h_v65 h_v171) (rp44 h_v44 h_v63))

theorem rp47 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v41 : Rep v41 p_v41) (h_v63 : RepL v63 p_v63) (h_v65 : RepK v65 p_v65) (h_v171 : Rep v171 p_v171) :
    Rep (k0_pay47 (F := Ideal) v41 v63 v65 v171) (mmA ((p_v65 0) * p_v171) (p_v41 * (mexp (blk 0 p_v63)))) :=
  (rep_mmA (rp45 h_v65 h_v171) (rp43 h_v41 h_v63))

theorem rp48 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v185 : Mat} {v185 : FVec Ideal S128x128 .f32}
    (h_v41 : Rep v41 p_v41) (h_v63 : RepL v63 p_v63) (h_v65 : RepK v65 p_v65) (h_v171 : Rep v171 p_v171) (h_v185 : Rep v185 p_v185) :
    Rep (k0_pay48 (F := Ideal) v41 v63 v65 v171 v185) (p_v185 + ((mmA ((p_v65 0) * p_v171) (p_v41 * (mexp (blk 0 p_v63)))) * (mexp (blk 128 p_v63)))) :=
  (rep_addf h_v185 (rep_mulf (rp47 h_v41 h_v63 h_v65 h_v171) (rp42 h_v63)))

theorem rp49 {p_v41 : Mat} {v41 : FVec Ideal S128x128 .f32} {p_v44 : Mat} {v44 : FVec Ideal S128x128 .f32} {p_v63 : ℕ → Fin 128 → ℝ} {v63 : FVec Ideal S2048x128 .f32} {p_v65 : ℕ → Mat} {v65 : FVec Ideal S8x128x128 .f32} {p_v139 : Mat} {v139 : FVec Ideal S128x128 .bf16} {p_v156 : Mat} {v156 : FVec Ideal S128x128 .f32} {p_v170 : Mat} {v170 : FVec Ideal S128x128 .f32} {p_v171 : Mat} {v171 : FVec Ideal S128x128 .f32} {p_v186 : Mat} {v186 : FVec Ideal S128x128 .f32}
    (h_v41 : Rep v41 p_v41) (h_v44 : Rep v44 p_v44) (h_v63 : RepL v63 p_v63) (h_v65 : RepK v65 p_v65) (h_v139 : Rep v139 p_v139) (h_v156 : Rep v156 p_v156) (h_v170 : Rep v170 p_v170) (h_v171 : Rep v171 p_v171) (h_v186 : Rep v186 p_v186) :
    Rep (k0_pay49 (F := Ideal) v41 v44 v63 v65 v139 v156 v170 v171 v186) (((p_v186 * p_v156) - (p_v139 * p_v170)) + (((p_v41 * (mexp (blk 0 p_v63))) * (mmN ((p_v65 0) * p_v171) (p_v44 * (mexp (blk 128 p_v63))))) - ((p_v44 * (mexp (blk 128 p_v63))) * (mmA ((p_v65 0) * p_v171) (p_v41 * (mexp (blk 0 p_v63))))))) :=
  (rep_addf (rep_subf (rep_mulf h_v186 h_v156) (rep_mulf (rep_extf h_v139 bitsLt_bf16_f32) h_v170)) (rep_subf (rep_mulf (rep_extf (rp43 h_v41 h_v63) bitsLt_bf16_f32) (rp46 h_v44 h_v63 h_v65 h_v171)) (rep_mulf (rep_extf (rp44 h_v44 h_v63) bitsLt_bf16_f32) (rp47 h_v41 h_v63 h_v65 h_v171))))

theorem rp50 {p_v63 : ℕ → Fin 128 → ℝ} {v63 : FVec Ideal S2048x128 .f32}
    (h_v63 : RepL v63 p_v63) :
    Rep (k0_pay50 (F := Ideal) v63) (mexp (blk 256 p_v63)) :=
  (rep_exp (rep_blk (φ := .f32) h_v63 256 slices_S2048x128_o256_0_S128x128))

theorem rp51 {p_v63 : ℕ → Fin 128 → ℝ} {v63 : FVec Ideal S2048x128 .f32}
    (h_v63 : RepL v63 p_v63) :
    Rep (k0_pay51 (F := Ideal) v63) (mexp (blk 384 p_v63)) :=
  (rep_exp (rep_blk (φ := .f32) h_v63 384 slices_S2048x128_o384_0_S128x128))

theorem rp52 {p_v41 : Mat} {v41 : FVec Ideal S128x128 .f32} {p_v63 : ℕ → Fin 128 → ℝ} {v63 : FVec Ideal S2048x128 .f32}
    (h_v41 : Rep v41 p_v41) (h_v63 : RepL v63 p_v63) :
    Rep (k0_pay52 (F := Ideal) v41 v63) (p_v41 * (mexp (blk 256 p_v63))) :=
  (rep_truncf (rep_mulf h_v41 (rp50 h_v63)) bitsLt_bf16_f32)

theorem rp53 {p_v44 : Mat} {v44 : FVec Ideal S128x128 .f32} {p_v63 : ℕ → Fin 128 → ℝ} {v63 : FVec Ideal S2048x128 .f32}
    (h_v44 : Rep v44 p_v44) (h_v63 : RepL v63 p_v63) :
    Rep (k0_pay53 (F := Ideal) v44 v63) (p_v44 * (mexp (blk 384 p_v63))) :=
  (rep_truncf (rep_mulf h_v44 (rp51 h_v63)) bitsLt_bf16_f32)

theorem rp54 {p_v41 : Mat} {v41 : FVec Ideal S128x128 .f32} {p_v44 : Mat} {v44 : FVec Ideal S128x128 .f32} {p_v63 : ℕ → Fin 128 → ℝ} {v63 : FVec Ideal S2048x128 .f32} {p_v65 : ℕ → Mat} {v65 : FVec Ideal S8x128x128 .f32} {p_v179 : Mat} {v179 : FVec Ideal S128x128 .f32}
    (h_v41 : Rep v41 p_v41) (h_v44 : Rep v44 p_v44) (h_v63 : RepL v63 p_v63) (h_v65 : RepK v65 p_v65) (h_v179 : Rep v179 p_v179) :
    Rep (k0_pay54 (F := Ideal) v41 v44 v63 v65 v179) ((p_v179 + ((p_v65 0) * (mmT (p_v41 * (mexp (blk 0 p_v63))) (p_v44 * (mexp (blk 128 p_v63)))))) + ((p_v65 1) * (mmT (p_v41 * (mexp (blk 256 p_v63))) (p_v44 * (mexp (blk 384 p_v63)))))) :=
  (rep_addf (rep_addf h_v179 (rep_mulf (rep_ofB (φ := .f32) (repB_level (φ := .f32) h_v65 0 slices_S8x128x128_o0_0_0_S1x128x128) shapeCasts_S1x128x128_S128x128) (rep_mmT (rp43 h_v41 h_v63) (rp44 h_v44 h_v63)))) (rep_mulf (rep_ofB (φ := .f32) (repB_level (φ := .f32) h_v65 1 slices_S8x128x128_o1_0_0_S1x128x128) shapeCasts_S1x128x128_S128x128) (rep_mmT (rp52 h_v41 h_v63) (rp53 h_v44 h_v63))))

theorem rp55 {p_v65 : ℕ → Mat} {v65 : FVec Ideal S8x128x128 .f32} {p_v171 : Mat} {v171 : FVec Ideal S128x128 .f32}
    (h_v65 : RepK v65 p_v65) (h_v171 : Rep v171 p_v171) :
    Rep (k0_pay55 (F := Ideal) v65 v171) ((p_v65 1) * p_v171) :=
  (rep_truncf (rep_mulf (rep_ofB (φ := .f32) (repB_level (φ := .f32) h_v65 1 slices_S8x128x128_o1_0_0_S1x128x128) shapeCasts_S1x128x128_S128x128) h_v171) bitsLt_bf16_f32)

theorem rp56 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v44 : Rep v44 p_v44) (h_v63 : RepL v63 p_v63) (h_v65 : RepK v65 p_v65) (h_v171 : Rep v171 p_v171) :
    Rep (k0_pay56 (F := Ideal) v44 v63 v65 v171) (mmN ((p_v65 1) * p_v171) (p_v44 * (mexp (blk 384 p_v63)))) :=
  (rep_mmN (rp55 h_v65 h_v171) (rp53 h_v44 h_v63))

theorem rp57 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v41 : Rep v41 p_v41) (h_v63 : RepL v63 p_v63) (h_v65 : RepK v65 p_v65) (h_v171 : Rep v171 p_v171) :
    Rep (k0_pay57 (F := Ideal) v41 v63 v65 v171) (mmA ((p_v65 1) * p_v171) (p_v41 * (mexp (blk 256 p_v63)))) :=
  (rep_mmA (rp55 h_v65 h_v171) (rp52 h_v41 h_v63))

theorem rp58 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v182 : Mat} {v182 : FVec Ideal S128x128 .f32}
    (h_v44 : Rep v44 p_v44) (h_v63 : RepL v63 p_v63) (h_v65 : RepK v65 p_v65) (h_v171 : Rep v171 p_v171) (h_v182 : Rep v182 p_v182) :
    Rep (k0_pay58 (F := Ideal) v44 v63 v65 v171 v182) ((p_v182 + ((mmN ((p_v65 0) * p_v171) (p_v44 * (mexp (blk 128 p_v63)))) * (mexp (blk 0 p_v63)))) + ((mmN ((p_v65 1) * p_v171) (p_v44 * (mexp (blk 384 p_v63)))) * (mexp (blk 256 p_v63)))) :=
  (rep_addf (rep_addf h_v182 (rep_mulf (rp46 h_v44 h_v63 h_v65 h_v171) (rp41 h_v63))) (rep_mulf (rp56 h_v44 h_v63 h_v65 h_v171) (rp50 h_v63)))

theorem rp59 {p_v63 : ℕ → Fin 128 → ℝ} {v63 : FVec Ideal S2048x128 .f32}
    (h_v63 : RepL v63 p_v63) :
    Rep (k0_pay59 (F := Ideal) v63) (mexp (blk 512 p_v63)) :=
  (rep_exp (rep_blk (φ := .f32) h_v63 512 slices_S2048x128_o512_0_S128x128))

theorem rp60 {p_v63 : ℕ → Fin 128 → ℝ} {v63 : FVec Ideal S2048x128 .f32}
    (h_v63 : RepL v63 p_v63) :
    Rep (k0_pay60 (F := Ideal) v63) (mexp (blk 640 p_v63)) :=
  (rep_exp (rep_blk (φ := .f32) h_v63 640 slices_S2048x128_o640_0_S128x128))

theorem rp61 {p_v41 : Mat} {v41 : FVec Ideal S128x128 .f32} {p_v63 : ℕ → Fin 128 → ℝ} {v63 : FVec Ideal S2048x128 .f32}
    (h_v41 : Rep v41 p_v41) (h_v63 : RepL v63 p_v63) :
    Rep (k0_pay61 (F := Ideal) v41 v63) (p_v41 * (mexp (blk 512 p_v63))) :=
  (rep_truncf (rep_mulf h_v41 (rp59 h_v63)) bitsLt_bf16_f32)

theorem rp62 {p_v44 : Mat} {v44 : FVec Ideal S128x128 .f32} {p_v63 : ℕ → Fin 128 → ℝ} {v63 : FVec Ideal S2048x128 .f32}
    (h_v44 : Rep v44 p_v44) (h_v63 : RepL v63 p_v63) :
    Rep (k0_pay62 (F := Ideal) v44 v63) (p_v44 * (mexp (blk 640 p_v63))) :=
  (rep_truncf (rep_mulf h_v44 (rp60 h_v63)) bitsLt_bf16_f32)

theorem rp63 {p_v65 : ℕ → Mat} {v65 : FVec Ideal S8x128x128 .f32} {p_v171 : Mat} {v171 : FVec Ideal S128x128 .f32}
    (h_v65 : RepK v65 p_v65) (h_v171 : Rep v171 p_v171) :
    Rep (k0_pay63 (F := Ideal) v65 v171) ((p_v65 2) * p_v171) :=
  (rep_truncf (rep_mulf (rep_ofB (φ := .f32) (repB_level (φ := .f32) h_v65 2 slices_S8x128x128_o2_0_0_S1x128x128) shapeCasts_S1x128x128_S128x128) h_v171) bitsLt_bf16_f32)

theorem rp64 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v44 : Rep v44 p_v44) (h_v63 : RepL v63 p_v63) (h_v65 : RepK v65 p_v65) (h_v171 : Rep v171 p_v171) :
    Rep (k0_pay64 (F := Ideal) v44 v63 v65 v171) (mmN ((p_v65 2) * p_v171) (p_v44 * (mexp (blk 640 p_v63)))) :=
  (rep_mmN (rp63 h_v65 h_v171) (rp62 h_v44 h_v63))

theorem rp65 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v41 : Rep v41 p_v41) (h_v63 : RepL v63 p_v63) (h_v65 : RepK v65 p_v65) (h_v171 : Rep v171 p_v171) :
    Rep (k0_pay65 (F := Ideal) v41 v63 v65 v171) (mmA ((p_v65 2) * p_v171) (p_v41 * (mexp (blk 512 p_v63)))) :=
  (rep_mmA (rp63 h_v65 h_v171) (rp61 h_v41 h_v63))

theorem rp66 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v240 : Mat} {v240 : FVec Ideal S128x128 .f32}
    (h_v44 : Rep v44 p_v44) (h_v63 : RepL v63 p_v63) (h_v65 : RepK v65 p_v65) (h_v171 : Rep v171 p_v171) (h_v240 : Rep v240 p_v240) :
    Rep (k0_pay66 (F := Ideal) v44 v63 v65 v171 v240) (p_v240 + ((mmN ((p_v65 2) * p_v171) (p_v44 * (mexp (blk 640 p_v63)))) * (mexp (blk 512 p_v63)))) :=
  (rep_addf h_v240 (rep_mulf (rp64 h_v44 h_v63 h_v65 h_v171) (rp59 h_v63)))

theorem rp67 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v213 : Mat} {v213 : FVec Ideal S128x128 .f32} {p_v223 : Mat} {v223 : FVec Ideal S128x128 .f32} {p_v238 : Mat} {v238 : FVec Ideal S128x128 .f32}
    (h_v41 : Rep v41 p_v41) (h_v63 : RepL v63 p_v63) (h_v65 : RepK v65 p_v65) (h_v171 : Rep v171 p_v171) (h_v213 : Rep v213 p_v213) (h_v223 : Rep v223 p_v223) (h_v238 : Rep v238 p_v238) :
    Rep (k0_pay67 (F := Ideal) v41 v63 v65 v171 v213 v223 v238) ((p_v213 + (p_v238 * p_v223)) + ((mmA ((p_v65 2) * p_v171) (p_v41 * (mexp (blk 512 p_v63)))) * (mexp (blk 640 p_v63)))) :=
  (rep_addf (rep_addf h_v213 (rep_mulf h_v238 h_v223)) (rep_mulf (rp65 h_v41 h_v63 h_v65 h_v171) (rp60 h_v63)))

theorem rp68 {p_v41 : Mat} {v41 : FVec Ideal S128x128 .f32} {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v219 : Mat} {v219 : FVec Ideal S128x128 .f32} {p_v225 : Mat} {v225 : FVec Ideal S128x128 .bf16} {p_v227 : Mat} {v227 : FVec Ideal S128x128 .bf16} {p_v237 : Mat} {v237 : FVec Ideal S128x128 .f32} {p_v238 : Mat} {v238 : FVec Ideal S128x128 .f32}
    (h_v41 : Rep v41 p_v41) (h_v44 : Rep v44 p_v44) (h_v63 : RepL v63 p_v63) (h_v65 : RepK v65 p_v65) (h_v171 : Rep v171 p_v171) (h_v219 : Rep v219 p_v219) (h_v225 : Rep v225 p_v225) (h_v227 : Rep v227 p_v227) (h_v237 : Rep v237 p_v237) (h_v238 : Rep v238 p_v238) :
    Rep (k0_pay68 (F := Ideal) v41 v44 v63 v65 v171 v219 v225 v227 v237 v238) ((p_v219 + ((p_v225 * p_v237) - (p_v227 * p_v238))) + (((p_v41 * (mexp (blk 512 p_v63))) * (mmN ((p_v65 2) * p_v171) (p_v44 * (mexp (blk 640 p_v63))))) - ((p_v44 * (mexp (blk 640 p_v63))) * (mmA ((p_v65 2) * p_v171) (p_v41 * (mexp (blk 512 p_v63))))))) :=
  (rep_addf (rep_addf h_v219 (rep_subf (rep_mulf (rep_extf h_v225 bitsLt_bf16_f32) h_v237) (rep_mulf (rep_extf h_v227 bitsLt_bf16_f32) h_v238))) (rep_subf (rep_mulf (rep_extf (rp61 h_v41 h_v63) bitsLt_bf16_f32) (rp64 h_v44 h_v63 h_v65 h_v171)) (rep_mulf (rep_extf (rp62 h_v44 h_v63) bitsLt_bf16_f32) (rp65 h_v41 h_v63 h_v65 h_v171))))

theorem rp69 {p_v63 : ℕ → Fin 128 → ℝ} {v63 : FVec Ideal S2048x128 .f32}
    (h_v63 : RepL v63 p_v63) :
    Rep (k0_pay69 (F := Ideal) v63) (mexp (blk 768 p_v63)) :=
  (rep_exp (rep_blk (φ := .f32) h_v63 768 slices_S2048x128_o768_0_S128x128))

theorem rp70 {p_v63 : ℕ → Fin 128 → ℝ} {v63 : FVec Ideal S2048x128 .f32}
    (h_v63 : RepL v63 p_v63) :
    Rep (k0_pay70 (F := Ideal) v63) (mexp (blk 896 p_v63)) :=
  (rep_exp (rep_blk (φ := .f32) h_v63 896 slices_S2048x128_o896_0_S128x128))

theorem rp71 {p_v41 : Mat} {v41 : FVec Ideal S128x128 .f32} {p_v63 : ℕ → Fin 128 → ℝ} {v63 : FVec Ideal S2048x128 .f32}
    (h_v41 : Rep v41 p_v41) (h_v63 : RepL v63 p_v63) :
    Rep (k0_pay71 (F := Ideal) v41 v63) (p_v41 * (mexp (blk 768 p_v63))) :=
  (rep_truncf (rep_mulf h_v41 (rp69 h_v63)) bitsLt_bf16_f32)

theorem rp72 {p_v44 : Mat} {v44 : FVec Ideal S128x128 .f32} {p_v63 : ℕ → Fin 128 → ℝ} {v63 : FVec Ideal S2048x128 .f32}
    (h_v44 : Rep v44 p_v44) (h_v63 : RepL v63 p_v63) :
    Rep (k0_pay72 (F := Ideal) v44 v63) (p_v44 * (mexp (blk 896 p_v63))) :=
  (rep_truncf (rep_mulf h_v44 (rp70 h_v63)) bitsLt_bf16_f32)

theorem rp73 {p_v41 : Mat} {v41 : FVec Ideal S128x128 .f32} {p_v44 : Mat} {v44 : FVec Ideal S128x128 .f32} {p_v63 : ℕ → Fin 128 → ℝ} {v63 : FVec Ideal S2048x128 .f32} {p_v65 : ℕ → Mat} {v65 : FVec Ideal S8x128x128 .f32} {p_v232 : Mat} {v232 : FVec Ideal S128x128 .f32}
    (h_v41 : Rep v41 p_v41) (h_v44 : Rep v44 p_v44) (h_v63 : RepL v63 p_v63) (h_v65 : RepK v65 p_v65) (h_v232 : Rep v232 p_v232) :
    Rep (k0_pay73 (F := Ideal) v41 v44 v63 v65 v232) ((p_v232 + ((p_v65 2) * (mmT (p_v41 * (mexp (blk 512 p_v63))) (p_v44 * (mexp (blk 640 p_v63)))))) + ((p_v65 3) * (mmT (p_v41 * (mexp (blk 768 p_v63))) (p_v44 * (mexp (blk 896 p_v63)))))) :=
  (rep_addf (rep_addf h_v232 (rep_mulf (rep_ofB (φ := .f32) (repB_level (φ := .f32) h_v65 2 slices_S8x128x128_o2_0_0_S1x128x128) shapeCasts_S1x128x128_S128x128) (rep_mmT (rp61 h_v41 h_v63) (rp62 h_v44 h_v63)))) (rep_mulf (rep_ofB (φ := .f32) (repB_level (φ := .f32) h_v65 3 slices_S8x128x128_o3_0_0_S1x128x128) shapeCasts_S1x128x128_S128x128) (rep_mmT (rp71 h_v41 h_v63) (rp72 h_v44 h_v63))))

theorem rp74 {p_v65 : ℕ → Mat} {v65 : FVec Ideal S8x128x128 .f32} {p_v171 : Mat} {v171 : FVec Ideal S128x128 .f32}
    (h_v65 : RepK v65 p_v65) (h_v171 : Rep v171 p_v171) :
    Rep (k0_pay74 (F := Ideal) v65 v171) ((p_v65 3) * p_v171) :=
  (rep_truncf (rep_mulf (rep_ofB (φ := .f32) (repB_level (φ := .f32) h_v65 3 slices_S8x128x128_o3_0_0_S1x128x128) shapeCasts_S1x128x128_S128x128) h_v171) bitsLt_bf16_f32)

theorem rp75 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v44 : Rep v44 p_v44) (h_v63 : RepL v63 p_v63) (h_v65 : RepK v65 p_v65) (h_v171 : Rep v171 p_v171) :
    Rep (k0_pay75 (F := Ideal) v44 v63 v65 v171) (mmN ((p_v65 3) * p_v171) (p_v44 * (mexp (blk 896 p_v63)))) :=
  (rep_mmN (rp74 h_v65 h_v171) (rp72 h_v44 h_v63))

theorem rp76 {p_v283 : Mat} {v283 : FVec Ideal S128x128 .bf16} {p_v294 : Mat} {v294 : FVec Ideal S128x128 .bf16}
    (h_v283 : Rep v283 p_v283) (h_v294 : Rep v294 p_v294) :
    Rep (k0_pay76 (F := Ideal) v283 v294) (mmA p_v294 p_v283) :=
  (rep_mmA h_v294 h_v283)

theorem rp77 {p_v63 : ℕ → Fin 128 → ℝ} {v63 : FVec Ideal S2048x128 .f32}
    (h_v63 : RepL v63 p_v63) :
    Rep (k0_pay77 (F := Ideal) v63) (mexp (blk 1024 p_v63)) :=
  (rep_exp (rep_blk (φ := .f32) h_v63 1024 slices_S2048x128_o1024_0_S128x128))

theorem rp78 {p_v63 : ℕ → Fin 128 → ℝ} {v63 : FVec Ideal S2048x128 .f32}
    (h_v63 : RepL v63 p_v63) :
    Rep (k0_pay78 (F := Ideal) v63) (mexp (blk 1152 p_v63)) :=
  (rep_exp (rep_blk (φ := .f32) h_v63 1152 slices_S2048x128_o1152_0_S128x128))

theorem rp79 {p_v41 : Mat} {v41 : FVec Ideal S128x128 .f32} {p_v63 : ℕ → Fin 128 → ℝ} {v63 : FVec Ideal S2048x128 .f32}
    (h_v41 : Rep v41 p_v41) (h_v63 : RepL v63 p_v63) :
    Rep (k0_pay79 (F := Ideal) v41 v63) (p_v41 * (mexp (blk 1024 p_v63))) :=
  (rep_truncf (rep_mulf h_v41 (rp77 h_v63)) bitsLt_bf16_f32)

theorem rp80 {p_v44 : Mat} {v44 : FVec Ideal S128x128 .f32} {p_v63 : ℕ → Fin 128 → ℝ} {v63 : FVec Ideal S2048x128 .f32}
    (h_v44 : Rep v44 p_v44) (h_v63 : RepL v63 p_v63) :
    Rep (k0_pay80 (F := Ideal) v44 v63) (p_v44 * (mexp (blk 1152 p_v63))) :=
  (rep_truncf (rep_mulf h_v44 (rp78 h_v63)) bitsLt_bf16_f32)

theorem rp81 {p_v65 : ℕ → Mat} {v65 : FVec Ideal S8x128x128 .f32} {p_v171 : Mat} {v171 : FVec Ideal S128x128 .f32}
    (h_v65 : RepK v65 p_v65) (h_v171 : Rep v171 p_v171) :
    Rep (k0_pay81 (F := Ideal) v65 v171) ((p_v65 4) * p_v171) :=
  (rep_truncf (rep_mulf (rep_ofB (φ := .f32) (repB_level (φ := .f32) h_v65 4 slices_S8x128x128_o4_0_0_S1x128x128) shapeCasts_S1x128x128_S128x128) h_v171) bitsLt_bf16_f32)

theorem rp82 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v44 : Rep v44 p_v44) (h_v63 : RepL v63 p_v63) (h_v65 : RepK v65 p_v65) (h_v171 : Rep v171 p_v171) :
    Rep (k0_pay82 (F := Ideal) v44 v63 v65 v171) (mmN ((p_v65 4) * p_v171) (p_v44 * (mexp (blk 1152 p_v63)))) :=
  (rep_mmN (rp81 h_v65 h_v171) (rp80 h_v44 h_v63))

theorem rp83 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v41 : Rep v41 p_v41) (h_v63 : RepL v63 p_v63) (h_v65 : RepK v65 p_v65) (h_v171 : Rep v171 p_v171) :
    Rep (k0_pay83 (F := Ideal) v41 v63 v65 v171) (mmA ((p_v65 4) * p_v171) (p_v41 * (mexp (blk 1024 p_v63)))) :=
  (rep_mmA (rp81 h_v65 h_v171) (rp79 h_v41 h_v63))

theorem rp84 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v269 : Mat} {v269 : FVec Ideal S128x128 .f32} {p_v279 : Mat} {v279 : FVec Ideal S128x128 .f32} {p_v295 : Mat} {v295 : FVec Ideal S128x128 .f32}
    (h_v44 : Rep v44 p_v44) (h_v63 : RepL v63 p_v63) (h_v65 : RepK v65 p_v65) (h_v171 : Rep v171 p_v171) (h_v269 : Rep v269 p_v269) (h_v279 : Rep v279 p_v279) (h_v295 : Rep v295 p_v295) :
    Rep (k0_pay84 (F := Ideal) v44 v63 v65 v171 v269 v279 v295) ((p_v269 + (p_v295 * p_v279)) + ((mmN ((p_v65 4) * p_v171) (p_v44 * (mexp (blk 1152 p_v63)))) * (mexp (blk 1024 p_v63)))) :=
  (rep_addf (rep_addf h_v269 (rep_mulf h_v295 h_v279)) (rep_mulf (rp82 h_v44 h_v63 h_v65 h_v171) (rp77 h_v63)))

theorem rp85 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v271 : Mat} {v271 : FVec Ideal S128x128 .f32} {p_v281 : Mat} {v281 : FVec Ideal S128x128 .f32} {p_v283 : Mat} {v283 : FVec Ideal S128x128 .bf16} {p_v294 : Mat} {v294 : FVec Ideal S128x128 .bf16}
    (h_v41 : Rep v41 p_v41) (h_v63 : RepL v63 p_v63) (h_v65 : RepK v65 p_v65) (h_v171 : Rep v171 p_v171) (h_v271 : Rep v271 p_v271) (h_v281 : Rep v281 p_v281) (h_v283 : Rep v283 p_v283) (h_v294 : Rep v294 p_v294) :
    Rep (k0_pay85 (F := Ideal) v41 v63 v65 v171 v271 v281 v283 v294) ((p_v271 + ((mmA p_v294 p_v283) * p_v281)) + ((mmA ((p_v65 4) * p_v171) (p_v41 * (mexp (blk 1024 p_v63)))) * (mexp (blk 1152 p_v63)))) :=
  (rep_addf (rep_addf h_v271 (rep_mulf (rp76 h_v283 h_v294) h_v281)) (rep_mulf (rp83 h_v41 h_v63 h_v65 h_v171) (rp78 h_v63)))

theorem rp86 {p_v41 : Mat} {v41 : FVec Ideal S128x128 .f32} {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v277 : Mat} {v277 : FVec Ideal S128x128 .f32} {p_v283 : Mat} {v283 : FVec Ideal S128x128 .bf16} {p_v285 : Mat} {v285 : FVec Ideal S128x128 .bf16} {p_v294 : Mat} {v294 : FVec Ideal S128x128 .bf16} {p_v295 : Mat} {v295 : FVec Ideal S128x128 .f32}
    (h_v41 : Rep v41 p_v41) (h_v44 : Rep v44 p_v44) (h_v63 : RepL v63 p_v63) (h_v65 : RepK v65 p_v65) (h_v171 : Rep v171 p_v171) (h_v277 : Rep v277 p_v277) (h_v283 : Rep v283 p_v283) (h_v285 : Rep v285 p_v285) (h_v294 : Rep v294 p_v294) (h_v295 : Rep v295 p_v295) :
    Rep (k0_pay86 (F := Ideal) v41 v44 v63 v65 v171 v277 v283 v285 v294 v295) ((p_v277 + ((p_v283 * p_v295) - (p_v285 * (mmA p_v294 p_v283)))) + (((p_v41 * (mexp (blk 1024 p_v63))) * (mmN ((p_v65 4) * p_v171) (p_v44 * (mexp (blk 1152 p_v63))))) - ((p_v44 * (mexp (blk 1152 p_v63))) * (mmA ((p_v65 4) * p_v171) (p_v41 * (mexp (blk 1024 p_v63))))))) :=
  (rep_addf (rep_addf h_v277 (rep_subf (rep_mulf (rep_extf h_v283 bitsLt_bf16_f32) h_v295) (rep_mulf (rep_extf h_v285 bitsLt_bf16_f32) (rp76 h_v283 h_v294)))) (rep_subf (rep_mulf (rep_extf (rp79 h_v41 h_v63) bitsLt_bf16_f32) (rp82 h_v44 h_v63 h_v65 h_v171)) (rep_mulf (rep_extf (rp80 h_v44 h_v63) bitsLt_bf16_f32) (rp83 h_v41 h_v63 h_v65 h_v171))))

theorem rp87 {p_v63 : ℕ → Fin 128 → ℝ} {v63 : FVec Ideal S2048x128 .f32}
    (h_v63 : RepL v63 p_v63) :
    Rep (k0_pay87 (F := Ideal) v63) (mexp (blk 1280 p_v63)) :=
  (rep_exp (rep_blk (φ := .f32) h_v63 1280 slices_S2048x128_o1280_0_S128x128))

theorem rp88 {p_v63 : ℕ → Fin 128 → ℝ} {v63 : FVec Ideal S2048x128 .f32}
    (h_v63 : RepL v63 p_v63) :
    Rep (k0_pay88 (F := Ideal) v63) (mexp (blk 1408 p_v63)) :=
  (rep_exp (rep_blk (φ := .f32) h_v63 1408 slices_S2048x128_o1408_0_S128x128))

theorem rp89 {p_v41 : Mat} {v41 : FVec Ideal S128x128 .f32} {p_v63 : ℕ → Fin 128 → ℝ} {v63 : FVec Ideal S2048x128 .f32}
    (h_v41 : Rep v41 p_v41) (h_v63 : RepL v63 p_v63) :
    Rep (k0_pay89 (F := Ideal) v41 v63) (p_v41 * (mexp (blk 1280 p_v63))) :=
  (rep_truncf (rep_mulf h_v41 (rp87 h_v63)) bitsLt_bf16_f32)

theorem rp90 {p_v44 : Mat} {v44 : FVec Ideal S128x128 .f32} {p_v63 : ℕ → Fin 128 → ℝ} {v63 : FVec Ideal S2048x128 .f32}
    (h_v44 : Rep v44 p_v44) (h_v63 : RepL v63 p_v63) :
    Rep (k0_pay90 (F := Ideal) v44 v63) (p_v44 * (mexp (blk 1408 p_v63))) :=
  (rep_truncf (rep_mulf h_v44 (rp88 h_v63)) bitsLt_bf16_f32)

theorem rp91 {p_v41 : Mat} {v41 : FVec Ideal S128x128 .f32} {p_v44 : Mat} {v44 : FVec Ideal S128x128 .f32} {p_v63 : ℕ → Fin 128 → ℝ} {v63 : FVec Ideal S2048x128 .f32} {p_v65 : ℕ → Mat} {v65 : FVec Ideal S8x128x128 .f32} {p_v290 : Mat} {v290 : FVec Ideal S128x128 .f32}
    (h_v41 : Rep v41 p_v41) (h_v44 : Rep v44 p_v44) (h_v63 : RepL v63 p_v63) (h_v65 : RepK v65 p_v65) (h_v290 : Rep v290 p_v290) :
    Rep (k0_pay91 (F := Ideal) v41 v44 v63 v65 v290) ((p_v290 + ((p_v65 4) * (mmT (p_v41 * (mexp (blk 1024 p_v63))) (p_v44 * (mexp (blk 1152 p_v63)))))) + ((p_v65 5) * (mmT (p_v41 * (mexp (blk 1280 p_v63))) (p_v44 * (mexp (blk 1408 p_v63)))))) :=
  (rep_addf (rep_addf h_v290 (rep_mulf (rep_ofB (φ := .f32) (repB_level (φ := .f32) h_v65 4 slices_S8x128x128_o4_0_0_S1x128x128) shapeCasts_S1x128x128_S128x128) (rep_mmT (rp79 h_v41 h_v63) (rp80 h_v44 h_v63)))) (rep_mulf (rep_ofB (φ := .f32) (repB_level (φ := .f32) h_v65 5 slices_S8x128x128_o5_0_0_S1x128x128) shapeCasts_S1x128x128_S128x128) (rep_mmT (rp89 h_v41 h_v63) (rp90 h_v44 h_v63))))

theorem rp92 {p_v65 : ℕ → Mat} {v65 : FVec Ideal S8x128x128 .f32}
    (h_v65 : RepK v65 p_v65) :
    Rep (k0_pay92 (F := Ideal) v65) (p_v65 5) :=
  (rep_ofB (φ := .f32) (repB_level (φ := .f32) h_v65 5 slices_S8x128x128_o5_0_0_S1x128x128) shapeCasts_S1x128x128_S128x128)

theorem rp93 {p_v171 : Mat} {v171 : FVec Ideal S128x128 .f32} {p_v350 : Mat} {v350 : FVec Ideal S128x128 .f32}
    (h_v171 : Rep v171 p_v171) (h_v350 : Rep v350 p_v350) :
    Rep (k0_pay93 (F := Ideal) v171 v350) (p_v350 * p_v171) :=
  (rep_truncf (rep_mulf h_v350 h_v171) bitsLt_bf16_f32)

theorem rp94 {p_v171 : Mat} {v171 : FVec Ideal S128x128 .f32} {p_v343 : Mat} {v343 : FVec Ideal S128x128 .bf16} {p_v350 : Mat} {v350 : FVec Ideal S128x128 .f32}
    (h_v171 : Rep v171 p_v171) (h_v343 : Rep v343 p_v343) (h_v350 : Rep v350 p_v350) :
    Rep (k0_pay94 (F := Ideal) v171 v343 v350) (mmN (p_v350 * p_v171) p_v343) :=
  (rep_mmN (rp93 h_v171 h_v350) h_v343)

theorem rp95 {p_v171 : Mat} {v171 : FVec Ideal S128x128 .f32} {p_v341 : Mat} {v341 : FVec Ideal S128x128 .bf16} {p_v350 : Mat} {v350 : FVec Ideal S128x128 .f32}
    (h_v171 : Rep v171 p_v171) (h_v341 : Rep v341 p_v341) (h_v350 : Rep v350 p_v350) :
    Rep (k0_pay95 (F := Ideal) v171 v341 v350) (mmA (p_v350 * p_v171) p_v341) :=
  (rep_mmA (rp93 h_v171 h_v350) h_v341)

theorem rp96 {p_v63 : ℕ → Fin 128 → ℝ} {v63 : FVec Ideal S2048x128 .f32}
    (h_v63 : RepL v63 p_v63) :
    Rep (k0_pay96 (F := Ideal) v63) (mexp (blk 1536 p_v63)) :=
  (rep_exp (rep_blk (φ := .f32) h_v63 1536 slices_S2048x128_o1536_0_S128x128))

theorem rp97 {p_v63 : ℕ → Fin 128 → ℝ} {v63 : FVec Ideal S2048x128 .f32}
    (h_v63 : RepL v63 p_v63) :
    Rep (k0_pay97 (F := Ideal) v63) (mexp (blk 1664 p_v63)) :=
  (rep_exp (rep_blk (φ := .f32) h_v63 1664 slices_S2048x128_o1664_0_S128x128))

theorem rp98 {p_v41 : Mat} {v41 : FVec Ideal S128x128 .f32} {p_v63 : ℕ → Fin 128 → ℝ} {v63 : FVec Ideal S2048x128 .f32}
    (h_v41 : Rep v41 p_v41) (h_v63 : RepL v63 p_v63) :
    Rep (k0_pay98 (F := Ideal) v41 v63) (p_v41 * (mexp (blk 1536 p_v63))) :=
  (rep_truncf (rep_mulf h_v41 (rp96 h_v63)) bitsLt_bf16_f32)

theorem rp99 {p_v44 : Mat} {v44 : FVec Ideal S128x128 .f32} {p_v63 : ℕ → Fin 128 → ℝ} {v63 : FVec Ideal S2048x128 .f32}
    (h_v44 : Rep v44 p_v44) (h_v63 : RepL v63 p_v63) :
    Rep (k0_pay99 (F := Ideal) v44 v63) (p_v44 * (mexp (blk 1664 p_v63))) :=
  (rep_truncf (rep_mulf h_v44 (rp97 h_v63)) bitsLt_bf16_f32)

theorem rp100 {p_v65 : ℕ → Mat} {v65 : FVec Ideal S8x128x128 .f32} {p_v171 : Mat} {v171 : FVec Ideal S128x128 .f32}
    (h_v65 : RepK v65 p_v65) (h_v171 : Rep v171 p_v171) :
    Rep (k0_pay100 (F := Ideal) v65 v171) ((p_v65 6) * p_v171) :=
  (rep_truncf (rep_mulf (rep_ofB (φ := .f32) (repB_level (φ := .f32) h_v65 6 slices_S8x128x128_o6_0_0_S1x128x128) shapeCasts_S1x128x128_S128x128) h_v171) bitsLt_bf16_f32)

theorem rp101 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v44 : Rep v44 p_v44) (h_v63 : RepL v63 p_v63) (h_v65 : RepK v65 p_v65) (h_v171 : Rep v171 p_v171) :
    Rep (k0_pay101 (F := Ideal) v44 v63 v65 v171) (mmN ((p_v65 6) * p_v171) (p_v44 * (mexp (blk 1664 p_v63)))) :=
  (rep_mmN (rp100 h_v65 h_v171) (rp99 h_v44 h_v63))

theorem rp102 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32}
    (h_v41 : Rep v41 p_v41) (h_v63 : RepL v63 p_v63) (h_v65 : RepK v65 p_v65) (h_v171 : Rep v171 p_v171) :
    Rep (k0_pay102 (F := Ideal) v41 v63 v65 v171) (mmA ((p_v65 6) * p_v171) (p_v41 * (mexp (blk 1536 p_v63)))) :=
  (rep_mmA (rp100 h_v65 h_v171) (rp98 h_v41 h_v63))

theorem rp103 {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v327 : Mat} {v327 : FVec Ideal S128x128 .f32} {p_v337 : Mat} {v337 : FVec Ideal S128x128 .f32} {p_v343 : Mat} {v343 : FVec Ideal S128x128 .bf16} {p_v350 : Mat} {v350 : FVec Ideal S128x128 .f32}
    (h_v44 : Rep v44 p_v44) (h_v63 : RepL v63 p_v63) (h_v65 : RepK v65 p_v65) (h_v171 : Rep v171 p_v171) (h_v327 : Rep v327 p_v327) (h_v337 : Rep v337 p_v337) (h_v343 : Rep v343 p_v343) (h_v350 : Rep v350 p_v350) :
    Rep (k0_pay103 (F := Ideal) v44 v63 v65 v171 v327 v337 v343 v350) ((p_v327 + ((mmN (p_v350 * p_v171) p_v343) * p_v337)) + ((mmN ((p_v65 6) * p_v171) (p_v44 * (mexp (blk 1664 p_v63)))) * (mexp (blk 1536 p_v63)))) :=
  (rep_addf (rep_addf h_v327 (rep_mulf (rp94 h_v171 h_v343 h_v350) h_v337)) (rep_mulf (rp101 h_v44 h_v63 h_v65 h_v171) (rp96 h_v63)))

theorem rp104 {p_v41 : Mat} {v41 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v329 : Mat} {v329 : FVec Ideal S128x128 .f32} {p_v339 : Mat} {v339 : FVec Ideal S128x128 .f32} {p_v341 : Mat} {v341 : FVec Ideal S128x128 .bf16} {p_v350 : Mat} {v350 : FVec Ideal S128x128 .f32}
    (h_v41 : Rep v41 p_v41) (h_v63 : RepL v63 p_v63) (h_v65 : RepK v65 p_v65) (h_v171 : Rep v171 p_v171) (h_v329 : Rep v329 p_v329) (h_v339 : Rep v339 p_v339) (h_v341 : Rep v341 p_v341) (h_v350 : Rep v350 p_v350) :
    Rep (k0_pay104 (F := Ideal) v41 v63 v65 v171 v329 v339 v341 v350) ((p_v329 + ((mmA (p_v350 * p_v171) p_v341) * p_v339)) + ((mmA ((p_v65 6) * p_v171) (p_v41 * (mexp (blk 1536 p_v63)))) * (mexp (blk 1664 p_v63)))) :=
  (rep_addf (rep_addf h_v329 (rep_mulf (rp95 h_v171 h_v341 h_v350) h_v339)) (rep_mulf (rp102 h_v41 h_v63 h_v65 h_v171) (rp97 h_v63)))

theorem rp105 {p_v41 : Mat} {v41 : FVec Ideal S128x128 .f32} {p_v44 : Mat} {v44 : FVec Ideal S128x128 .f32} {p_v63 : ℕ → Fin 128 → ℝ} {v63 : FVec Ideal S2048x128 .f32} {p_v65 : ℕ → Mat} {v65 : FVec Ideal S8x128x128 .f32} {p_v171 : Mat} {v171 : FVec Ideal S128x128 .f32} {p_v335 : Mat} {v335 : FVec Ideal S128x128 .f32} {p_v341 : Mat} {v341 : FVec Ideal S128x128 .bf16} {p_v343 : Mat} {v343 : FVec Ideal S128x128 .bf16} {p_v350 : Mat} {v350 : FVec Ideal S128x128 .f32}
    (h_v41 : Rep v41 p_v41) (h_v44 : Rep v44 p_v44) (h_v63 : RepL v63 p_v63) (h_v65 : RepK v65 p_v65) (h_v171 : Rep v171 p_v171) (h_v335 : Rep v335 p_v335) (h_v341 : Rep v341 p_v341) (h_v343 : Rep v343 p_v343) (h_v350 : Rep v350 p_v350) :
    Rep (k0_pay105 (F := Ideal) v41 v44 v63 v65 v171 v335 v341 v343 v350) ((p_v335 + ((p_v341 * (mmN (p_v350 * p_v171) p_v343)) - (p_v343 * (mmA (p_v350 * p_v171) p_v341)))) + (((p_v41 * (mexp (blk 1536 p_v63))) * (mmN ((p_v65 6) * p_v171) (p_v44 * (mexp (blk 1664 p_v63))))) - ((p_v44 * (mexp (blk 1664 p_v63))) * (mmA ((p_v65 6) * p_v171) (p_v41 * (mexp (blk 1536 p_v63))))))) :=
  (rep_addf (rep_addf h_v335 (rep_subf (rep_mulf (rep_extf h_v341 bitsLt_bf16_f32) (rp94 h_v171 h_v343 h_v350)) (rep_mulf (rep_extf h_v343 bitsLt_bf16_f32) (rp95 h_v171 h_v341 h_v350)))) (rep_subf (rep_mulf (rep_extf (rp98 h_v41 h_v63) bitsLt_bf16_f32) (rp101 h_v44 h_v63 h_v65 h_v171)) (rep_mulf (rep_extf (rp99 h_v44 h_v63) bitsLt_bf16_f32) (rp102 h_v41 h_v63 h_v65 h_v171))))

theorem rp106 {p_v41 : Mat} {v41 : FVec Ideal S128x128 .f32} {p_v44 : Mat} {v44 : FVec Ideal S128x128 .f32} {p_v63 : ℕ → Fin 128 → ℝ} {v63 : FVec Ideal S2048x128 .f32} {p_v65 : ℕ → Mat} {v65 : FVec Ideal S8x128x128 .f32} {p_v126 : Mat} {v126 : FVec Ideal S128x128 .bf16} {p_v129 : Mat} {v129 : FVec Ideal S128x128 .bf16} {p_v139 : Mat} {v139 : FVec Ideal S128x128 .bf16} {p_v348 : Mat} {v348 : FVec Ideal S128x128 .f32}
    (h_v41 : Rep v41 p_v41) (h_v44 : Rep v44 p_v44) (h_v63 : RepL v63 p_v63) (h_v65 : RepK v65 p_v65) (h_v126 : Rep v126 p_v126) (h_v129 : Rep v129 p_v129) (h_v139 : Rep v139 p_v139) (h_v348 : Rep v348 p_v348) :
    Rep (k0_pay106 (F := Ideal) v41 v44 v63 v65 v126 v129 v139 v348) ((mmA (p_v348 + ((p_v65 6) * (mmT (p_v41 * (mexp (blk 1536 p_v63))) (p_v44 * (mexp (blk 1664 p_v63)))))) p_v126) + (mmT p_v139 p_v129)) :=
  (rep_addf (rep_mmA (rep_truncf (rep_addf h_v348 (rep_mulf (rep_ofB (φ := .f32) (repB_level (φ := .f32) h_v65 6 slices_S8x128x128_o6_0_0_S1x128x128) shapeCasts_S1x128x128_S128x128) (rep_mmT (rp98 h_v41 h_v63) (rp99 h_v44 h_v63)))) bitsLt_bf16_f32) h_v126) (rep_mmT h_v139 h_v129))

theorem rp107 {p_v126 : Mat} {v126 : FVec Ideal S128x128 .bf16} {p_v128 : Mat} {v128 : FVec Ideal S128x128 .f32} {p_v133 : Mat} {v133 : FVec Ideal S128x128 .f32} {p_v137 : Mat} {v137 : FVec Ideal S128x128 .bf16}
    (h_v126 : Rep v126 p_v126) (h_v128 : Rep v128 p_v128) (h_v133 : Rep v133 p_v133) (h_v137 : Rep v137 p_v137) :
    Rep (k0_pay107 (F := Ideal) v126 v128 v133 v137) ((p_v128 * (ofRow (p_v133 127))) + (mmA p_v126 p_v137)) :=
  (rep_addf (rep_mulf h_v128 (rep_ofRow (φ := .f32) (repR_row (φ := .f32) h_v133 127 (by decide) slices_S128x128_o127_0_S1x128) broadcasts_S1x128_S128x128)) (rep_mmA h_v126 h_v137))

theorem rp108 {p_v402 : Mat} {v402 : FVec Ideal S128x128 .f32}
    (h_v402 : Rep v402 p_v402) :
    RepB (k0_pay108 (F := Ideal) v402) p_v402 :=
  (repB_of (φ := .f32) h_v402 shapeCasts_S128x128_S1x128x128)

theorem rp109 {p_v393 : Mat} {v393 : FVec Ideal S128x128 .f32} {p_v406 : Mat} {v406 : Vec Ideal S128x128 .bf16} {p_v422 : Fin 128 → ℝ} {v422 : Vec Ideal S1x1x128 .f32}
    (h_v393 : Rep v393 p_v393) (h_v406 : Rep v406 p_v406) (h_v422 : RepRR v422 p_v422) :
    Rep (k0_pay109 (F := Ideal) v393 v406 v422) ((mmN p_v406 p_v393) + (ofRow p_v422)) :=
  (rep_addf (rep_add0 (rep_add0 (repP_0 (repP_mm (rep_id (φ := .bf16) h_v406 shapeCasts_S128x128_S128x128) h_v393 bitsLt_bf16_f32 concatenates_S128x128_S128x128_S128x128_S128x384_d1) slices_S128x384_o0_0_S128x128) (repP_1 (repP_mm (rep_id (φ := .bf16) h_v406 shapeCasts_S128x128_S128x128) h_v393 bitsLt_bf16_f32 concatenates_S128x128_S128x128_S128x128_S128x384_d1) 128 (by decide) slices_S128x384_o0_128_S128x128)) (repP_1 (repP_mm (rep_id (φ := .bf16) h_v406 shapeCasts_S128x128_S128x128) h_v393 bitsLt_bf16_f32 concatenates_S128x128_S128x128_S128x128_S128x384_d1) 256 (by decide) slices_S128x384_o0_256_S128x128)) (rep_ofRow (φ := .f32) (repR_of3 (φ := .f32) h_v422 shapeCasts_S1x1x128_S1x128) broadcasts_S1x128_S128x128))

theorem rp110 {p_v393 : Mat} {v393 : FVec Ideal S128x128 .f32} {p_v406 : Mat} {v406 : Vec Ideal S128x128 .bf16} {p_v422 : Fin 128 → ℝ} {v422 : Vec Ideal S1x1x128 .f32}
    (h_v393 : Rep v393 p_v393) (h_v406 : Rep v406 p_v406) (h_v422 : RepRR v422 p_v422) :
    RepRR (k0_pay110 (F := Ideal) v393 v406 v422) (((mmN p_v406 p_v393) + (ofRow p_v422)) 0) :=
  (repRR_of (φ := .f32) (repR_row (φ := .f32) (rp109 h_v393 h_v406 h_v422) 0 (by decide) slices_S128x128_o0_0_S1x128) shapeCasts_S1x128_S1x1x128)

theorem rp111 {p_v40 : Mat} {v40 : FVec Ideal S128x128 .f32} {p_v387 : Mat} {v387 : FVec Ideal S128x128 .f32} {p_v393 : Mat} {v393 : FVec Ideal S128x128 .f32} {p_v406 : Mat} {v406 : Vec Ideal S128x128 .bf16} {p_v422 : Fin 128 → ℝ} {v422 : Vec Ideal S1x1x128 .f32}
    (h_v40 : Rep v40 p_v40) (h_v387 : Rep v387 p_v387) (h_v393 : Rep v393 p_v393) (h_v406 : Rep v406 p_v406) (h_v422 : RepRR v422 p_v422) (e_0 : ∀ i j, p_v40 i j ≠ 0) :
    Rep (k0_pay111 (F := Ideal) v40 v387 v393 v406 v422) ((((mmN p_v406 p_v393) + (ofRow p_v422)) / p_v40) - p_v387) :=
  (rep_subf (rep_divf (rp109 h_v393 h_v406 h_v422) h_v40 e_0) h_v387)

theorem rp112 {p_v34 : Mat} {v34 : FVec Ideal S128x128 .f32} {p_v40 : Mat} {v40 : FVec Ideal S128x128 .f32} {p_v387 : Mat} {v387 : FVec Ideal S128x128 .f32} {p_v393 : Mat} {v393 : FVec Ideal S128x128 .f32} {p_v406 : Mat} {v406 : Vec Ideal S128x128 .bf16} {p_v422 : Fin 128 → ℝ} {v422 : Vec Ideal S1x1x128 .f32} {p_v432 : Fin 128 → ℝ} {v432 : Vec Ideal S1x128 .f32}
    (h_v34 : Rep v34 p_v34) (h_v40 : Rep v40 p_v40) (h_v387 : Rep v387 p_v387) (h_v393 : Rep v393 p_v393) (h_v406 : Rep v406 p_v406) (h_v422 : RepRR v422 p_v422) (h_v432 : RepR v432 p_v432) (e_0 : ∀ i j, p_v40 i j ≠ 0) :
    RepR (k0_pay112 (F := Ideal) v34 v40 v387 v393 v406 v422 v432) (p_v432 + (sumC (((((mmN p_v406 p_v393) + (ofRow p_v422)) / p_v40) - p_v387) * ((mcst 1) - p_v34)))) :=
  (repR_addf (repR_id (φ := .f32) h_v432 shapeCasts_S1x128_S1x128) (repR_of (φ := .f32) (repV_sumC (rep_mulf (rp111 h_v40 h_v387 h_v393 h_v406 h_v422 e_0) (rep_subf (rep_cst repS_one) h_v34)) _ _ _) shapeCasts_S128_S1x128))

theorem rp113 {p_v8 : Fin 128 → ℝ} {v8 : Vec Ideal S1x128 .f32} {p_v34 : Mat} {v34 : FVec Ideal S128x128 .f32} {p_v431 : Mat} {v431 : FVec Ideal S128x128 .f32} {p_cst_97 : ℝ} {cst_97 : Ideal .f32}
    (h_v8 : RepR v8 p_v8) (h_v34 : Rep v34 p_v34) (h_v431 : Rep v431 p_v431) (h_cst_97 : RepS cst_97 p_cst_97) :
    RepB (k0_pay113 (F := Ideal) v8 v34 v431 cst_97) (((p_v431 * (ofRow ((vcst p_cst_97) - p_v8))) * p_v34) * ((mcst 1) - p_v34)) :=
  (repB_of (φ := .bf16) (rep_truncf (rep_mulf (rep_mulf (rep_mulf h_v431 (rep_ofRow (φ := .f32) (repR_subf (repR_cst h_cst_97) h_v8) broadcasts_S1x128_S128x128)) h_v34) (rep_subf (rep_cst repS_one) h_v34)) bitsLt_bf16_f32) shapeCasts_S128x128_S1x128x128)

theorem rp114 {p_v10 : Mat} {v10 : Vec Ideal S128x128 .f32} {p_v23 : Mat} {v23 : FVec Ideal S128x128 .f32} {p_v385 : Mat} {v385 : FVec Ideal S128x128 .f32}
    (h_v10 : Rep v10 p_v10) (h_v23 : Rep v23 p_v23) (h_v385 : Rep v385 p_v385) :
    RepB (k0_pay114 (F := Ideal) v10 v23 v385) ((p_v385 * p_v23) * ((mcst 1) + (p_v10 * ((mcst 1) - p_v23)))) :=
  (repB_of (φ := .bf16) (rep_truncf (rep_mulf (rep_mulf h_v385 h_v23) (rep_addf (rep_cst repS_one) (rep_mulf h_v10 (rep_subf (rep_cst repS_one) h_v23)))) bitsLt_bf16_f32) shapeCasts_S128x128_S1x128x128)

theorem rp115 {p_v397 : Mat} {v397 : FVec Ideal S128x128 .f32}
    (h_v397 : Rep v397 p_v397) :
    RepB (k0_pay115 (F := Ideal) v397) p_v397 :=
  (repB_of (φ := .bf16) (rep_truncf h_v397 bitsLt_bf16_f32) shapeCasts_S128x128_S1x128x128)

theorem rp116 {p_v473 : Mat} {v473 : Vec Ideal S128x128 .f32}
    (h_v473 : Rep v473 p_v473) :
    Rep (k0_pay116 (F := Ideal) v473) (mexp ((mcst 0) - (mabs p_v473))) :=
  (rep_exp (rep_subf (rep_cst repS_zero) (rep_absf h_v473)))

theorem rp117 {p_v473 : Mat} {v473 : Vec Ideal S128x128 .f32}
    (h_v473 : Rep v473 p_v473) :
    RepG (k0_pay117 (F := Ideal) v473) p_v473 (mcst 0) :=
  (repG_oge h_v473 (rep_cst repS_zero))

theorem rp118 {p_v479 : Mat} {v479 : FVec Ideal S128x128 .f32} {p_v481a p_v481b : Mat} {v481 : IVec S128x128 1} {p_cst_110 : ℝ} {cst_110 : Ideal .f32}
    (h_v479 : Rep v479 p_v479) (h_v481 : RepG v481 p_v481a p_v481b) (h_cst_110 : RepS cst_110 p_cst_110) (e_0 : ∀ i j, ((mcst 1) + p_v479) i j ≠ 0) :
    Rep (k0_pay118 (F := Ideal) v479 v481 cst_110) ((msel p_v481a p_v481b (mcst p_cst_110) p_v479) / ((mcst 1) + p_v479)) :=
  (rep_divf (rep_select h_v481 (rep_cst h_cst_110) h_v479) (rep_addf (rep_cst repS_one) h_v479) e_0)

theorem rp119 {p_v475 : Mat} {v475 : Vec Ideal S128x128 .f32}
    (h_v475 : Rep v475 p_v475) :
    Rep (k0_pay119 (F := Ideal) v475) ((msel p_v475 (mcst 0) (mcst 1) (mexp ((mcst 0) - (mabs p_v475)))) / ((mcst 1) + (mexp ((mcst 0) - (mabs p_v475))))) :=
  (rep_divf (rep_select (repG_oge h_v475 (rep_cst repS_zero)) (rep_cst repS_one) (rep_exp (rep_subf (rep_cst repS_zero) (rep_absf h_v475)))) (rep_addf (rep_cst repS_one) (rep_exp (rep_subf (rep_cst repS_zero) (rep_absf h_v475)))) (one_add_exp_ne _))

theorem rp120 {p_v471 : Fin 128 → ℝ} {v471 : Vec Ideal S1x128 .f32} {p_v475 : Mat} {v475 : Vec Ideal S128x128 .f32}
    (h_v471 : RepR v471 p_v471) (h_v475 : Rep v475 p_v475) :
    Rep (k0_pay120 (F := Ideal) v471 v475) ((ofRow p_v471) + ((ofRow ((vcst 1) - p_v471)) * ((msel p_v475 (mcst 0) (mcst 1) (mexp ((mcst 0) - (mabs p_v475)))) / ((mcst 1) + (mexp ((mcst 0) - (mabs p_v475))))))) :=
  (rep_addf (rep_ofRow (φ := .f32) h_v471 broadcasts_S1x128_S128x128) (rep_mulf (rep_ofRow (φ := .f32) (repR_subf (repR_cst repS_one) h_v471) broadcasts_S1x128_S128x128) (rp119 h_v475)))

theorem rp121 {p_v473 : Mat} {v473 : Vec Ideal S128x128 .f32} {p_v479 : Mat} {v479 : FVec Ideal S128x128 .f32} {p_v481a p_v481b : Mat} {v481 : IVec S128x128 1} {p_cst_110 : ℝ} {cst_110 : Ideal .f32}
    (h_v473 : Rep v473 p_v473) (h_v479 : Rep v479 p_v479) (h_v481 : RepG v481 p_v481a p_v481b) (h_cst_110 : RepS cst_110 p_cst_110) (e_0 : ∀ i j, ((mcst 1) + p_v479) i j ≠ 0) :
    Rep (k0_pay121 (F := Ideal) v473 v479 v481 cst_110) (p_v473 * ((msel p_v481a p_v481b (mcst p_cst_110) p_v479) / ((mcst 1) + p_v479))) :=
  (rep_mulf h_v473 (rp118 h_v479 h_v481 h_cst_110 e_0))

theorem rp122 {p_v471 : Fin 128 → ℝ} {v471 : Vec Ideal S1x128 .f32} {p_v475 : Mat} {v475 : Vec Ideal S128x128 .f32}
    (h_v471 : RepR v471 p_v471) (h_v475 : Rep v475 p_v475) :
    Rep (k0_pay122 (F := Ideal) v471 v475) ((mcst 1) - ((ofRow p_v471) + ((ofRow ((vcst 1) - p_v471)) * ((msel p_v475 (mcst 0) (mcst 1) (mexp ((mcst 0) - (mabs p_v475)))) / ((mcst 1) + (mexp ((mcst 0) - (mabs p_v475)))))))) :=
  (rep_subf (rep_cst repS_one) (rp120 h_v471 h_v475))

theorem rp123 {p_v509 : Mat} {v509 : Vec Ideal S128x128 .f32}
    (h_v509 : Rep v509 p_v509) :
    Rep (k0_pay123 (F := Ideal) v509) p_v509 :=
  (rep_truncf h_v509 bitsLt_bf16_f32)

theorem rp124 {p_v471 : Fin 128 → ℝ} {v471 : Vec Ideal S1x128 .f32} {p_v475 : Mat} {v475 : Vec Ideal S128x128 .f32} {p_v511 : ℕ → Fin 128 → ℝ} {v511 : Vec Ideal S2048x128 .bf16}
    (h_v471 : RepR v471 p_v471) (h_v475 : Rep v475 p_v475) (h_v511 : RepL v511 p_v511) (e_0 : ∀ i j, 0 < ((ofRow p_v471) + ((ofRow ((vcst 1) - p_v471)) * ((msel p_v475 (mcst 0) (mcst 1) (mexp ((mcst 0) - (mabs p_v475)))) / ((mcst 1) + (mexp ((mcst 0) - (mabs p_v475))))))) i j) :
    RepL (k0_pay124 (F := Ideal) v471 v475 v511) (mmL p_v511 (mlog ((ofRow p_v471) + ((ofRow ((vcst 1) - p_v471)) * ((msel p_v475 (mcst 0) (mcst 1) (mexp ((mcst 0) - (mabs p_v475)))) / ((mcst 1) + (mexp ((mcst 0) - (mabs p_v475))))))))) :=
  (repL_add0 (repL_add0 (repPL_0 (repPL_mm (repL_id (φ := .bf16) h_v511 shapeCasts_S2048x128_S2048x128) (rep_log (rp120 h_v471 h_v475) e_0) bitsLt_bf16_f32 concatenates_S128x128_S128x128_S128x128_S128x384_d1) slices_S2048x384_o0_0_S2048x128) (repPL_1 (repPL_mm (repL_id (φ := .bf16) h_v511 shapeCasts_S2048x128_S2048x128) (rep_log (rp120 h_v471 h_v475) e_0) bitsLt_bf16_f32 concatenates_S128x128_S128x128_S128x128_S128x384_d1) 128 (by decide) slices_S2048x384_o0_128_S2048x128)) (repPL_1 (repPL_mm (repL_id (φ := .bf16) h_v511 shapeCasts_S2048x128_S2048x128) (rep_log (rp120 h_v471 h_v475) e_0) bitsLt_bf16_f32 concatenates_S128x128_S128x128_S128x128_S128x384_d1) 256 (by decide) slices_S2048x384_o0_256_S2048x128))

theorem rp125 {p_v527 : ℕ → Mat} {v527 : Vec Ideal S8x128x128 .f32}
    (h_v527 : RepK v527 p_v527) :
    RepK (k0_pay125 (F := Ideal) v527) p_v527 :=
  (repK_id (φ := .f32) h_v527 shapeCasts_S8x128x128_S8x128x128)

theorem rp126 {p_v530 : Mat} {v530 : Vec Ideal S128x128 .f32}
    (h_v530 : Rep v530 p_v530) :
    Rep (k0_pay126 (F := Ideal) v530) p_v530 :=
  (rep_id (φ := .f32) h_v530 shapeCasts_S128x128_S128x128)

theorem rp127 {p_v535 : Mat} {v535 : Vec Ideal S128x128 .f32}
    (h_v535 : Rep v535 p_v535) :
    Rep (k0_pay127 (F := Ideal) v535) ((msel p_v535 (mcst 0) (mcst 1) (mexp ((mcst 0) - (mabs p_v535)))) / ((mcst 1) + (mexp ((mcst 0) - (mabs p_v535))))) :=
  (rep_divf (rep_select (repG_oge h_v535 (rep_cst repS_zero)) (rep_cst repS_one) (rep_exp (rep_subf (rep_cst repS_zero) (rep_absf h_v535)))) (rep_addf (rep_cst repS_one) (rep_exp (rep_subf (rep_cst repS_zero) (rep_absf h_v535)))) (one_add_exp_ne _))

theorem rp128 {p_v530 : Mat} {v530 : Vec Ideal S128x128 .f32}
    (h_v530 : Rep v530 p_v530) (e_0 : ∀ i, 0 < (((sumR (p_v530 * p_v530)) / (vcst 128)) + (vcst eps)) i) :
    RepC (k0_pay128 (F := Ideal) v530) (vrsqrt (((sumR (p_v530 * p_v530)) / (vcst 128)) + (vcst eps))) :=
  (repC_rsqrt (repC_addf (repC_divf (repC_of (φ := .f32) (repV_sumR (rep_mulf (rp126 h_v530) (rp126 h_v530)) _ _ _) shapeCasts_S128_S128x1) (repC_cst repS_width) width_ne) (repC_cst repS_eps)) e_0)

theorem rp129 {p_v530 : Mat} {v530 : Vec Ideal S128x128 .f32}
    (h_v530 : Rep v530 p_v530) (e_0 : ∀ i, 0 < (((sumR (p_v530 * p_v530)) / (vcst 128)) + (vcst eps)) i) :
    Rep (k0_pay129 (F := Ideal) v530) (p_v530 * (ofCol (vrsqrt (((sumR (p_v530 * p_v530)) / (vcst 128)) + (vcst eps))))) :=
  (rep_mulf (rp126 h_v530) (rep_ofCol (φ := .f32) (rp128 h_v530 e_0) broadcasts_S128x1_S128x128))

theorem rp130 {p_v533 : Mat} {v533 : Vec Ideal S128x128 .f32} {p_v535 : Mat} {v535 : Vec Ideal S128x128 .f32}
    (h_v533 : Rep v533 p_v533) (h_v535 : Rep v535 p_v535) :
    Rep (k0_pay130 (F := Ideal) v533 v535) (p_v533 * ((msel p_v535 (mcst 0) (mcst 1) (mexp ((mcst 0) - (mabs p_v535)))) / ((mcst 1) + (mexp ((mcst 0) - (mabs p_v535)))))) :=
  (rep_mulf h_v533 (rp127 h_v535))

theorem rp131 {p_v3 : Fin 128 → ℝ} {v3 : Vec Ideal S1x128 .f32} {p_v530 : Mat} {v530 : Vec Ideal S128x128 .f32} {p_v533 : Mat} {v533 : Vec Ideal S128x128 .f32} {p_v535 : Mat} {v535 : Vec Ideal S128x128 .f32}
    (h_v3 : RepR v3 p_v3) (h_v530 : Rep v530 p_v530) (h_v533 : Rep v533 p_v533) (h_v535 : Rep v535 p_v535) (e_0 : ∀ i, 0 < (((sumR (p_v530 * p_v530)) / (vcst 128)) + (vcst eps)) i) :
    RepB (k0_pay131 (F := Ideal) v3 v530 v533 v535) ((((p_v533 * (p_v530 * (ofCol (vrsqrt (((sumR (p_v530 * p_v530)) / (vcst 128)) + (vcst eps)))))) * (ofRow p_v3)) * ((msel p_v535 (mcst 0) (mcst 1) (mexp ((mcst 0) - (mabs p_v535)))) / ((mcst 1) + (mexp ((mcst 0) - (mabs p_v535)))))) * ((mcst 1) - ((msel p_v535 (mcst 0) (mcst 1) (mexp ((mcst 0) - (mabs p_v535)))) / ((mcst 1) + (mexp ((mcst 0) - (mabs p_v535))))))) :=
  (repB_of (φ := .bf16) (rep_truncf (rep_mulf (rep_mulf (rep_mulf (rep_mulf h_v533 (rp129 h_v530 e_0)) (rep_ofRow (φ := .f32) h_v3 broadcasts_S1x128_S128x128)) (rp127 h_v535)) (rep_subf (rep_cst repS_one) (rp127 h_v535))) bitsLt_bf16_f32) shapeCasts_S128x128_S1x128x128)

theorem rp132 {p_v570 : Fin 128 → ℝ} {v570 : Vec Ideal S1x128 .f32}
    (h_v570 : RepR v570 p_v570) :
    RepR (k0_pay132 (F := Ideal) v570) p_v570 :=
  (repR_id (φ := .f32) h_v570 shapeCasts_S1x128_S1x128)

theorem rp133 {p_v556 : Mat} {v556 : FVec Ideal S128x128 .f32} {p_v557 : Mat} {v557 : FVec Ideal S128x128 .f32} {p_v571 : Fin 128 → ℝ} {v571 : FVec Ideal S1x128 .f32}
    (h_v556 : Rep v556 p_v556) (h_v557 : Rep v557 p_v557) (h_v571 : RepR v571 p_v571) :
    RepR (k0_pay133 (F := Ideal) v556 v557 v571) (p_v571 + (sumC (p_v557 * p_v556))) :=
  (repR_addf h_v571 (repR_of (φ := .f32) (repV_sumC (rep_mulf h_v557 h_v556) _ _ _) shapeCasts_S128_S1x128))

theorem rp134 {p_v3 : Fin 128 → ℝ} {v3 : Vec Ideal S1x128 .f32} {p_v554 : Fin 128 → ℝ} {v554 : FVec Ideal S128x1 .f32} {p_v556 : Mat} {v556 : FVec Ideal S128x128 .f32} {p_v557 : Mat} {v557 : FVec Ideal S128x128 .f32}
    (h_v3 : RepR v3 p_v3) (h_v554 : RepC v554 p_v554) (h_v556 : Rep v556 p_v556) (h_v557 : Rep v557 p_v557) :
    Rep (k0_pay134 (F := Ideal) v3 v554 v556 v557) ((ofCol p_v554) * ((p_v557 * (ofRow p_v3)) - (p_v556 * (ofCol ((sumR ((p_v557 * (ofRow p_v3)) * p_v556)) / (vcst 128)))))) :=
  (rep_truncf (rep_mulf (rep_ofCol (φ := .f32) h_v554 broadcasts_S128x1_S128x128) (rep_subf (rep_mulf h_v557 (rep_ofRow (φ := .f32) h_v3 broadcasts_S1x128_S128x128)) (rep_mulf h_v556 (rep_ofCol (φ := .f32) (repC_divf (repC_of (φ := .f32) (repV_sumR (rep_mulf (rep_mulf h_v557 (rep_ofRow (φ := .f32) h_v3 broadcasts_S1x128_S128x128)) h_v556) _ _ _) shapeCasts_S128_S128x1) (repC_cst repS_width) width_ne) broadcasts_S128x1_S128x128)))) bitsLt_bf16_f32)

theorem rp135 {p_v590 : Mat} {v590 : Vec Ideal S1x128x128 .f32}
    (h_v590 : RepB v590 p_v590) :
    Rep (k0_pay135 (F := Ideal) v590) p_v590 :=
  (rep_ofB (φ := .f32) h_v590 shapeCasts_S1x128x128_S128x128)

theorem rp136 {p_v590 : Mat} {v590 : Vec Ideal S1x128x128 .f32}
    (h_v590 : RepB v590 p_v590) :
    Rep (k0_pay136 (F := Ideal) v590) p_v590 :=
  (rep_truncf (rp135 h_v590) bitsLt_bf16_f32)

theorem rp137 {p_v504 : Mat} {v504 : FVec Ideal S128x128 .f32}
    (h_v504 : Rep v504 p_v504) :
    Rep (k0_pay137 (F := Ideal) v504) p_v504 :=
  (rep_truncf h_v504 bitsLt_bf16_f32)

theorem rp138 {p_v507 : Mat} {v507 : FVec Ideal S128x128 .f32}
    (h_v507 : Rep v507 p_v507) :
    Rep (k0_pay138 (F := Ideal) v507) p_v507 :=
  (rep_truncf h_v507 bitsLt_bf16_f32)

theorem rp139 {p_v526 : ℕ → Fin 128 → ℝ} {v526 : FVec Ideal S2048x128 .f32}
    (h_v526 : RepL v526 p_v526) :
    Rep (k0_pay139 (F := Ideal) v526) (mexp (blk 1792 p_v526)) :=
  (rep_exp (rep_blk (φ := .f32) h_v526 1792 slices_S2048x128_o1792_0_S128x128))

theorem rp140 {p_v526 : ℕ → Fin 128 → ℝ} {v526 : FVec Ideal S2048x128 .f32}
    (h_v526 : RepL v526 p_v526) :
    Rep (k0_pay140 (F := Ideal) v526) (mexp (blk 1920 p_v526)) :=
  (rep_exp (rep_blk (φ := .f32) h_v526 1920 slices_S2048x128_o1920_0_S128x128))

theorem rp141 {p_v504 : Mat} {v504 : FVec Ideal S128x128 .f32} {p_v526 : ℕ → Fin 128 → ℝ} {v526 : FVec Ideal S2048x128 .f32}
    (h_v504 : Rep v504 p_v504) (h_v526 : RepL v526 p_v526) :
    Rep (k0_pay141 (F := Ideal) v504 v526) (p_v504 * (mexp (blk 1792 p_v526))) :=
  (rep_truncf (rep_mulf h_v504 (rp139 h_v526)) bitsLt_bf16_f32)

theorem rp142 {p_v507 : Mat} {v507 : FVec Ideal S128x128 .f32} {p_v526 : ℕ → Fin 128 → ℝ} {v526 : FVec Ideal S2048x128 .f32}
    (h_v507 : Rep v507 p_v507) (h_v526 : RepL v526 p_v526) :
    Rep (k0_pay142 (F := Ideal) v507 v526) (p_v507 * (mexp (blk 1920 p_v526))) :=
  (rep_truncf (rep_mulf h_v507 (rp140 h_v526)) bitsLt_bf16_f32)

theorem rp143 {p_v3 : Fin 128 → ℝ} {v3 : Vec Ideal S1x128 .f32} {p_v554 : Fin 128 → ℝ} {v554 : FVec Ideal S128x1 .f32} {p_v556 : Mat} {v556 : FVec Ideal S128x128 .f32} {p_v557 : Mat} {v557 : FVec Ideal S128x128 .f32} {p_v604 : Mat} {v604 : Vec Ideal S1x1x128x128 .f32}
    (h_v3 : RepR v3 p_v3) (h_v554 : RepC v554 p_v554) (h_v556 : Rep v556 p_v556) (h_v557 : Rep v557 p_v557) (h_v604 : RepBB v604 p_v604) :
    RepP (k0_pay143 (F := Ideal) v3 v554 v556 v557 v604) (mmN ((ofCol p_v554) * ((p_v557 * (ofRow p_v3)) - (p_v556 * (ofCol ((sumR ((p_v557 * (ofRow p_v3)) * p_v556)) / (vcst 128)))))) p_v604) :=
  (repP_mm (rp134 h_v3 h_v554 h_v556 h_v557) (rep_ofBB (φ := .f32) h_v604 shapeCasts_S1x1x128x128_S128x128) bitsLt_bf16_f32 concatenates_S128x128_S128x128_S128x128_S128x384_d1)

theorem rp144 {p_v3 : Fin 128 → ℝ} {v3 : Vec Ideal S1x128 .f32} {p_v554 : Fin 128 → ℝ} {v554 : FVec Ideal S128x1 .f32} {p_v556 : Mat} {v556 : FVec Ideal S128x128 .f32} {p_v557 : Mat} {v557 : FVec Ideal S128x128 .f32} {p_v604 : Mat} {v604 : Vec Ideal S1x1x128x128 .f32}
    (h_v3 : RepR v3 p_v3) (h_v554 : RepC v554 p_v554) (h_v556 : Rep v556 p_v556) (h_v557 : Rep v557 p_v557) (h_v604 : RepBB v604 p_v604) :
    Rep (k0_pay144 (F := Ideal) v3 v554 v556 v557 v604) (mmN ((ofCol p_v554) * ((p_v557 * (ofRow p_v3)) - (p_v556 * (ofCol ((sumR ((p_v557 * (ofRow p_v3)) * p_v556)) / (vcst 128)))))) p_v604) :=
  (rep_add0 (repP_0 (rp143 h_v3 h_v554 h_v556 h_v557 h_v604) slices_S128x384_o0_0_S128x128) (repP_1 (rp143 h_v3 h_v554 h_v556 h_v557 h_v604) 128 (by decide) slices_S128x384_o0_128_S128x128))

theorem rp145 {p_v3 : Fin 128 → ℝ} {v3 : Vec Ideal S1x128 .f32} {p_v554 : Fin 128 → ℝ} {v554 : FVec Ideal S128x1 .f32} {p_v556 : Mat} {v556 : FVec Ideal S128x128 .f32} {p_v557 : Mat} {v557 : FVec Ideal S128x128 .f32} {p_v604 : Mat} {v604 : Vec Ideal S1x1x128x128 .f32}
    (h_v3 : RepR v3 p_v3) (h_v554 : RepC v554 p_v554) (h_v556 : Rep v556 p_v556) (h_v557 : Rep v557 p_v557) (h_v604 : RepBB v604 p_v604) :
    Rep (k0_pay145 (F := Ideal) v3 v554 v556 v557 v604) 0 :=
  (repP_1 (rp143 h_v3 h_v554 h_v556 h_v557 h_v604) 256 (by decide) slices_S128x384_o0_256_S128x128)

theorem rp146 {p_v617 : Mat} {v617 : FVec Ideal S128x128 .f32} {v618 : FVec Ideal S128x128 .f32}
    (h_v617 : Rep v617 p_v617) (h_v618 : Rep v618 0) :
    Rep (k0_pay146 (F := Ideal) v617 v618) p_v617 :=
  (rep_add0 h_v617 h_v618)

theorem rp147 {p_v510 : Mat} {v510 : FVec Ideal S128x128 .bf16} {p_v591 : Mat} {v591 : FVec Ideal S128x128 .f32}
    (h_v510 : Rep v510 p_v510) (h_v591 : Rep v591 p_v591) :
    Rep (k0_pay147 (F := Ideal) v510 v591) (mmN p_v510 p_v591) :=
  (rep_add0 (rep_add0 (repP_0 (repP_mm h_v510 h_v591 bitsLt_bf16_f32 concatenates_S128x128_S128x128_S128x128_S128x384_d1) slices_S128x384_o0_0_S128x128) (repP_1 (repP_mm h_v510 h_v591 bitsLt_bf16_f32 concatenates_S128x128_S128x128_S128x128_S128x384_d1) 128 (by decide) slices_S128x384_o0_128_S128x128)) (repP_1 (repP_mm h_v510 h_v591 bitsLt_bf16_f32 concatenates_S128x128_S128x128_S128x128_S128x384_d1) 256 (by decide) slices_S128x384_o0_256_S128x128))

theorem rp148 {p_v510 : Mat} {v510 : FVec Ideal S128x128 .bf16} {p_v589 : Mat} {v589 : FVec Ideal S128x128 .bf16}
    (h_v510 : Rep v510 p_v510) (h_v589 : Rep v589 p_v589) :
    Rep (k0_pay148 (F := Ideal) v510 v589) (mmT p_v589 p_v510) :=
  (rep_mmT h_v589 h_v510)

theorem rp149 {p_v510 : Mat} {v510 : FVec Ideal S128x128 .bf16} {p_v528 : ℕ → Mat} {v528 : FVec Ideal S8x128x128 .f32} {p_v589 : Mat} {v589 : FVec Ideal S128x128 .bf16}
    (h_v510 : Rep v510 p_v510) (h_v528 : RepK v528 p_v528) (h_v589 : Rep v589 p_v589) :
    Rep (k0_pay149 (F := Ideal) v510 v528 v589) ((p_v528 7) * (mmT p_v589 p_v510)) :=
  (rep_truncf (rep_mulf (rep_ofB (φ := .f32) (repB_level (φ := .f32) h_v528 7 slices_S8x128x128_o7_0_0_S1x128x128) shapeCasts_S1x128x128_S128x128) (rp148 h_v510 h_v589)) bitsLt_bf16_f32)

theorem rp150 {p_v510 : Mat} {v510 : FVec Ideal S128x128 .bf16} {p_v528 : ℕ → Mat} {v528 : FVec Ideal S8x128x128 .f32} {p_v589 : Mat} {v589 : FVec Ideal S128x128 .bf16} {p_v594 : Mat} {v594 : FVec Ideal S128x128 .bf16} {p_v596 : Mat} {v596 : FVec Ideal S128x128 .f32} {p_v617 : Mat} {v617 : FVec Ideal S128x128 .f32} {v618 : FVec Ideal S128x128 .f32}
    (h_v510 : Rep v510 p_v510) (h_v528 : RepK v528 p_v528) (h_v589 : Rep v589 p_v589) (h_v594 : Rep v594 p_v594) (h_v596 : Rep v596 p_v596) (h_v617 : Rep v617 p_v617) (h_v618 : Rep v618 0) :
    Rep (k0_pay150 (F := Ideal) v510 v528 v589 v594 v596 v617 v618) ((p_v617 * p_v596) + (mmN ((p_v528 7) * (mmT p_v589 p_v510)) p_v594)) :=
  (rep_addf (rep_mulf (rp146 h_v617 h_v618) h_v596) (rep_mmN (rp149 h_v510 h_v528 h_v589) h_v594))

theorem rp151 {p_v510 : Mat} {v510 : FVec Ideal S128x128 .bf16} {p_v528 : ℕ → Mat} {v528 : FVec Ideal S8x128x128 .f32} {p_v589 : Mat} {v589 : FVec Ideal S128x128 .bf16} {p_v591 : Mat} {v591 : FVec Ideal S128x128 .f32} {p_v593 : Mat} {v593 : FVec Ideal S128x128 .bf16} {p_v598 : Mat} {v598 : FVec Ideal S128x128 .f32}
    (h_v510 : Rep v510 p_v510) (h_v528 : RepK v528 p_v528) (h_v589 : Rep v589 p_v589) (h_v591 : Rep v591 p_v591) (h_v593 : Rep v593 p_v593) (h_v598 : Rep v598 p_v598) :
    Rep (k0_pay151 (F := Ideal) v510 v528 v589 v591 v593 v598) (((mmN p_v510 p_v591) * p_v598) + (mmA ((p_v528 7) * (mmT p_v589 p_v510)) p_v593)) :=
  (rep_addf (rep_mulf (rp147 h_v510 h_v591) h_v598) (rep_mmA (rp149 h_v510 h_v528 h_v589) h_v593))

theorem rp152 {p_v510 : Mat} {v510 : FVec Ideal S128x128 .bf16} {p_v591 : Mat} {v591 : FVec Ideal S128x128 .f32} {p_v600 : Mat} {v600 : FVec Ideal S128x128 .bf16} {p_v602 : Mat} {v602 : FVec Ideal S128x128 .bf16} {p_v617 : Mat} {v617 : FVec Ideal S128x128 .f32} {v618 : FVec Ideal S128x128 .f32}
    (h_v510 : Rep v510 p_v510) (h_v591 : Rep v591 p_v591) (h_v600 : Rep v600 p_v600) (h_v602 : Rep v602 p_v602) (h_v617 : Rep v617 p_v617) (h_v618 : Rep v618 0) :
    Rep (k0_pay152 (F := Ideal) v510 v591 v600 v602 v617 v618) ((p_v600 * p_v617) - (p_v602 * (mmN p_v510 p_v591))) :=
  (rep_subf (rep_mulf (rep_extf h_v600 bitsLt_bf16_f32) (rp146 h_v617 h_v618)) (rep_mulf (rep_extf h_v602 bitsLt_bf16_f32) (rp147 h_v510 h_v591)))

theorem rp153 {p_v526 : ℕ → Fin 128 → ℝ} {v526 : FVec Ideal S2048x128 .f32}
    (h_v526 : RepL v526 p_v526) :
    Rep (k0_pay153 (F := Ideal) v526) (mexp (blk 0 p_v526)) :=
  (rep_exp (rep_blk (φ := .f32) h_v526 0 slices_S2048x128_o0_0_S128x128))

theorem rp154 {p_v526 : ℕ → Fin 128 → ℝ} {v526 : FVec Ideal S2048x128 .f32}
    (h_v526 : RepL v526 p_v526) :
    Rep (k0_pay154 (F := Ideal) v526) (mexp (blk 128 p_v526)) :=
  (rep_exp (rep_blk (φ := .f32) h_v526 128 slices_S2048x128_o128_0_S128x128))

theorem rp155 {p_v504 : Mat} {v504 : FVec Ideal S128x128 .f32} {p_v526 : ℕ → Fin 128 → ℝ} {v526 : FVec Ideal S2048x128 .f32}
    (h_v504 : Rep v504 p_v504) (h_v526 : RepL v526 p_v526) :
    Rep (k0_pay155 (F := Ideal) v504 v526) (p_v504 * (mexp (blk 0 p_v526))) :=
  (rep_truncf (rep_mulf h_v504 (rp153 h_v526)) bitsLt_bf16_f32)

theorem rp156 {p_v507 : Mat} {v507 : FVec Ideal S128x128 .f32} {p_v526 : ℕ → Fin 128 → ℝ} {v526 : FVec Ideal S2048x128 .f32}
    (h_v507 : Rep v507 p_v507) (h_v526 : RepL v526 p_v526) :
    Rep (k0_pay156 (F := Ideal) v507 v526) (p_v507 * (mexp (blk 128 p_v526))) :=
  (rep_truncf (rep_mulf h_v507 (rp154 h_v526)) bitsLt_bf16_f32)

theorem rp157 {p_v504 : Mat} {v504 : FVec Ideal S128x128 .f32} {p_v507 : Mat} {v507 : FVec Ideal S128x128 .f32} {p_v526 : ℕ → Fin 128 → ℝ} {v526 : FVec Ideal S2048x128 .f32} {p_v528 : ℕ → Mat} {v528 : FVec Ideal S8x128x128 .f32} {p_v593 : Mat} {v593 : FVec Ideal S128x128 .bf16} {p_v594 : Mat} {v594 : FVec Ideal S128x128 .bf16}
    (h_v504 : Rep v504 p_v504) (h_v507 : Rep v507 p_v507) (h_v526 : RepL v526 p_v526) (h_v528 : RepK v528 p_v528) (h_v593 : Rep v593 p_v593) (h_v594 : Rep v594 p_v594) :
    Rep (k0_pay157 (F := Ideal) v504 v507 v526 v528 v593 v594) (((p_v528 7) * (mmT p_v593 p_v594)) + ((p_v528 0) * (mmT (p_v504 * (mexp (blk 0 p_v526))) (p_v507 * (mexp (blk 128 p_v526)))))) :=
  (rep_addf (rep_mulf (rep_ofB (φ := .f32) (repB_level (φ := .f32) h_v528 7 slices_S8x128x128_o7_0_0_S1x128x128) shapeCasts_S1x128x128_S128x128) (rep_mmT h_v593 h_v594)) (rep_mulf (rep_ofB (φ := .f32) (repB_level (φ := .f32) h_v528 0 slices_S8x128x128_o0_0_0_S1x128x128) shapeCasts_S1x128x128_S128x128) (rep_mmT (rp155 h_v504 h_v526) (rp156 h_v507 h_v526))))

theorem rp158 {p_v510 : Mat} {v510 : FVec Ideal S128x128 .bf16} {p_v528 : ℕ → Mat} {v528 : FVec Ideal S8x128x128 .f32} {p_v589 : Mat} {v589 : FVec Ideal S128x128 .bf16}
    (h_v510 : Rep v510 p_v510) (h_v528 : RepK v528 p_v528) (h_v589 : Rep v589 p_v589) :
    Rep (k0_pay158 (F := Ideal) v510 v528 v589) ((p_v528 0) * (mmT p_v589 p_v510)) :=
  (rep_truncf (rep_mulf (rep_ofB (φ := .f32) (repB_level (φ := .f32) h_v528 0 slices_S8x128x128_o0_0_0_S1x128x128) shapeCasts_S1x128x128_S128x128) (rp148 h_v510 h_v589)) bitsLt_bf16_f32)

theorem rp159 {p_v507 : Mat} {v507 : FVec Ideal S128x128 .f32} {p_v510 : Mat} {v510 : FVec Ideal S128x128 .bf16} {p_v526 : ℕ → Fin 128 → ℝ} {v526 : FVec Ideal S2048x128 .f32} {p_v528 : ℕ → Mat} {v528 : FVec Ideal S8x128x128 .f32} {p_v589 : Mat} {v589 : FVec Ideal S128x128 .bf16}
    (h_v507 : Rep v507 p_v507) (h_v510 : Rep v510 p_v510) (h_v526 : RepL v526 p_v526) (h_v528 : RepK v528 p_v528) (h_v589 : Rep v589 p_v589) :
    Rep (k0_pay159 (F := Ideal) v507 v510 v526 v528 v589) (mmN ((p_v528 0) * (mmT p_v589 p_v510)) (p_v507 * (mexp (blk 128 p_v526)))) :=
  (rep_mmN (rp158 h_v510 h_v528 h_v589) (rp156 h_v507 h_v526))

theorem rp160 {p_v659 : Mat} {v659 : FVec Ideal S128x128 .bf16} {p_v670 : Mat} {v670 : FVec Ideal S128x128 .bf16}
    (h_v659 : Rep v659 p_v659) (h_v670 : Rep v670 p_v670) :
    Rep (k0_pay160 (F := Ideal) v659 v670) (mmA p_v670 p_v659) :=
  (rep_mmA h_v670 h_v659)

theorem rp161 {p_v526 : ℕ → Fin 128 → ℝ} {v526 : FVec Ideal S2048x128 .f32}
    (h_v526 : RepL v526 p_v526) :
    Rep (k0_pay161 (F := Ideal) v526) (mexp (blk 256 p_v526)) :=
  (rep_exp (rep_blk (φ := .f32) h_v526 256 slices_S2048x128_o256_0_S128x128))

theorem rp162 {p_v526 : ℕ → Fin 128 → ℝ} {v526 : FVec Ideal S2048x128 .f32}
    (h_v526 : RepL v526 p_v526) :
    Rep (k0_pay162 (F := Ideal) v526) (mexp (blk 384 p_v526)) :=
  (rep_exp (rep_blk (φ := .f32) h_v526 384 slices_S2048x128_o384_0_S128x128))

theorem rp163 {p_v504 : Mat} {v504 : FVec Ideal S128x128 .f32} {p_v526 : ℕ → Fin 128 → ℝ} {v526 : FVec Ideal S2048x128 .f32}
    (h_v504 : Rep v504 p_v504) (h_v526 : RepL v526 p_v526) :
    Rep (k0_pay163 (F := Ideal) v504 v526) (p_v504 * (mexp (blk 256 p_v526))) :=
  (rep_truncf (rep_mulf h_v504 (rp161 h_v526)) bitsLt_bf16_f32)

theorem rp164 {p_v507 : Mat} {v507 : FVec Ideal S128x128 .f32} {p_v526 : ℕ → Fin 128 → ℝ} {v526 : FVec Ideal S2048x128 .f32}
    (h_v507 : Rep v507 p_v507) (h_v526 : RepL v526 p_v526) :
    Rep (k0_pay164 (F := Ideal) v507 v526) (p_v507 * (mexp (blk 384 p_v526))) :=
  (rep_truncf (rep_mulf h_v507 (rp162 h_v526)) bitsLt_bf16_f32)

theorem rp165 {p_v528 : ℕ → Mat} {v528 : FVec Ideal S8x128x128 .f32} {p_v634 : Mat} {v634 : FVec Ideal S128x128 .f32}
    (h_v528 : RepK v528 p_v528) (h_v634 : Rep v634 p_v634) :
    Rep (k0_pay165 (F := Ideal) v528 v634) ((p_v528 1) * p_v634) :=
  (rep_truncf (rep_mulf (rep_ofB (φ := .f32) (repB_level (φ := .f32) h_v528 1 slices_S8x128x128_o1_0_0_S1x128x128) shapeCasts_S1x128x128_S128x128) h_v634) bitsLt_bf16_f32)

theorem rp166 {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32}
    (h_v507 : Rep v507 p_v507) (h_v526 : RepL v526 p_v526) (h_v528 : RepK v528 p_v528) (h_v634 : Rep v634 p_v634) :
    Rep (k0_pay166 (F := Ideal) v507 v526 v528 v634) (mmN ((p_v528 1) * p_v634) (p_v507 * (mexp (blk 384 p_v526)))) :=
  (rep_mmN (rp165 h_v528 h_v634) (rp164 h_v507 h_v526))

theorem rp167 {p_v504 : Mat} {v504 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32}
    (h_v504 : Rep v504 p_v504) (h_v526 : RepL v526 p_v526) (h_v528 : RepK v528 p_v528) (h_v634 : Rep v634 p_v634) :
    Rep (k0_pay167 (F := Ideal) v504 v526 v528 v634) (mmA ((p_v528 1) * p_v634) (p_v504 * (mexp (blk 256 p_v526)))) :=
  (rep_mmA (rp165 h_v528 h_v634) (rp163 h_v504 h_v526))

theorem rp168 {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v645 : Mat} {v645 : FVec Ideal S128x128 .f32} {p_v655 : Mat} {v655 : FVec Ideal S128x128 .f32} {p_v671 : Mat} {v671 : FVec Ideal S128x128 .f32}
    (h_v507 : Rep v507 p_v507) (h_v526 : RepL v526 p_v526) (h_v528 : RepK v528 p_v528) (h_v634 : Rep v634 p_v634) (h_v645 : Rep v645 p_v645) (h_v655 : Rep v655 p_v655) (h_v671 : Rep v671 p_v671) :
    Rep (k0_pay168 (F := Ideal) v507 v526 v528 v634 v645 v655 v671) ((p_v645 + (p_v671 * p_v655)) + ((mmN ((p_v528 1) * p_v634) (p_v507 * (mexp (blk 384 p_v526)))) * (mexp (blk 256 p_v526)))) :=
  (rep_addf (rep_addf h_v645 (rep_mulf h_v671 h_v655)) (rep_mulf (rp166 h_v507 h_v526 h_v528 h_v634) (rp161 h_v526)))

theorem rp169 {p_v504 : Mat} {v504 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v648 : Mat} {v648 : FVec Ideal S128x128 .f32} {p_v657 : Mat} {v657 : FVec Ideal S128x128 .f32} {p_v659 : Mat} {v659 : FVec Ideal S128x128 .bf16} {p_v670 : Mat} {v670 : FVec Ideal S128x128 .bf16}
    (h_v504 : Rep v504 p_v504) (h_v526 : RepL v526 p_v526) (h_v528 : RepK v528 p_v528) (h_v634 : Rep v634 p_v634) (h_v648 : Rep v648 p_v648) (h_v657 : Rep v657 p_v657) (h_v659 : Rep v659 p_v659) (h_v670 : Rep v670 p_v670) :
    Rep (k0_pay169 (F := Ideal) v504 v526 v528 v634 v648 v657 v659 v670) ((p_v648 + ((mmA p_v670 p_v659) * p_v657)) + ((mmA ((p_v528 1) * p_v634) (p_v504 * (mexp (blk 256 p_v526)))) * (mexp (blk 384 p_v526)))) :=
  (rep_addf (rep_addf h_v648 (rep_mulf (rp160 h_v659 h_v670) h_v657)) (rep_mulf (rp167 h_v504 h_v526 h_v528 h_v634) (rp162 h_v526)))

theorem rp170 {p_v504 : Mat} {v504 : FVec Ideal S128x128 .f32} {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v653 : Mat} {v653 : FVec Ideal S128x128 .f32} {p_v659 : Mat} {v659 : FVec Ideal S128x128 .bf16} {p_v661 : Mat} {v661 : FVec Ideal S128x128 .bf16} {p_v670 : Mat} {v670 : FVec Ideal S128x128 .bf16} {p_v671 : Mat} {v671 : FVec Ideal S128x128 .f32}
    (h_v504 : Rep v504 p_v504) (h_v507 : Rep v507 p_v507) (h_v526 : RepL v526 p_v526) (h_v528 : RepK v528 p_v528) (h_v634 : Rep v634 p_v634) (h_v653 : Rep v653 p_v653) (h_v659 : Rep v659 p_v659) (h_v661 : Rep v661 p_v661) (h_v670 : Rep v670 p_v670) (h_v671 : Rep v671 p_v671) :
    Rep (k0_pay170 (F := Ideal) v504 v507 v526 v528 v634 v653 v659 v661 v670 v671) ((p_v653 + ((p_v659 * p_v671) - (p_v661 * (mmA p_v670 p_v659)))) + (((p_v504 * (mexp (blk 256 p_v526))) * (mmN ((p_v528 1) * p_v634) (p_v507 * (mexp (blk 384 p_v526))))) - ((p_v507 * (mexp (blk 384 p_v526))) * (mmA ((p_v528 1) * p_v634) (p_v504 * (mexp (blk 256 p_v526))))))) :=
  (rep_addf (rep_addf h_v653 (rep_subf (rep_mulf (rep_extf h_v659 bitsLt_bf16_f32) h_v671) (rep_mulf (rep_extf h_v661 bitsLt_bf16_f32) (rp160 h_v659 h_v670)))) (rep_subf (rep_mulf (rep_extf (rp163 h_v504 h_v526) bitsLt_bf16_f32) (rp166 h_v507 h_v526 h_v528 h_v634)) (rep_mulf (rep_extf (rp164 h_v507 h_v526) bitsLt_bf16_f32) (rp167 h_v504 h_v526 h_v528 h_v634))))

theorem rp171 {p_v526 : ℕ → Fin 128 → ℝ} {v526 : FVec Ideal S2048x128 .f32}
    (h_v526 : RepL v526 p_v526) :
    Rep (k0_pay171 (F := Ideal) v526) (mexp (blk 512 p_v526)) :=
  (rep_exp (rep_blk (φ := .f32) h_v526 512 slices_S2048x128_o512_0_S128x128))

theorem rp172 {p_v526 : ℕ → Fin 128 → ℝ} {v526 : FVec Ideal S2048x128 .f32}
    (h_v526 : RepL v526 p_v526) :
    Rep (k0_pay172 (F := Ideal) v526) (mexp (blk 640 p_v526)) :=
  (rep_exp (rep_blk (φ := .f32) h_v526 640 slices_S2048x128_o640_0_S128x128))

theorem rp173 {p_v504 : Mat} {v504 : FVec Ideal S128x128 .f32} {p_v526 : ℕ → Fin 128 → ℝ} {v526 : FVec Ideal S2048x128 .f32}
    (h_v504 : Rep v504 p_v504) (h_v526 : RepL v526 p_v526) :
    Rep (k0_pay173 (F := Ideal) v504 v526) (p_v504 * (mexp (blk 512 p_v526))) :=
  (rep_truncf (rep_mulf h_v504 (rp171 h_v526)) bitsLt_bf16_f32)

theorem rp174 {p_v507 : Mat} {v507 : FVec Ideal S128x128 .f32} {p_v526 : ℕ → Fin 128 → ℝ} {v526 : FVec Ideal S2048x128 .f32}
    (h_v507 : Rep v507 p_v507) (h_v526 : RepL v526 p_v526) :
    Rep (k0_pay174 (F := Ideal) v507 v526) (p_v507 * (mexp (blk 640 p_v526))) :=
  (rep_truncf (rep_mulf h_v507 (rp172 h_v526)) bitsLt_bf16_f32)

theorem rp175 {p_v504 : Mat} {v504 : FVec Ideal S128x128 .f32} {p_v507 : Mat} {v507 : FVec Ideal S128x128 .f32} {p_v526 : ℕ → Fin 128 → ℝ} {v526 : FVec Ideal S2048x128 .f32} {p_v528 : ℕ → Mat} {v528 : FVec Ideal S8x128x128 .f32} {p_v666 : Mat} {v666 : FVec Ideal S128x128 .f32}
    (h_v504 : Rep v504 p_v504) (h_v507 : Rep v507 p_v507) (h_v526 : RepL v526 p_v526) (h_v528 : RepK v528 p_v528) (h_v666 : Rep v666 p_v666) :
    Rep (k0_pay175 (F := Ideal) v504 v507 v526 v528 v666) ((p_v666 + ((p_v528 1) * (mmT (p_v504 * (mexp (blk 256 p_v526))) (p_v507 * (mexp (blk 384 p_v526)))))) + ((p_v528 2) * (mmT (p_v504 * (mexp (blk 512 p_v526))) (p_v507 * (mexp (blk 640 p_v526)))))) :=
  (rep_addf (rep_addf h_v666 (rep_mulf (rep_ofB (φ := .f32) (repB_level (φ := .f32) h_v528 1 slices_S8x128x128_o1_0_0_S1x128x128) shapeCasts_S1x128x128_S128x128) (rep_mmT (rp163 h_v504 h_v526) (rp164 h_v507 h_v526)))) (rep_mulf (rep_ofB (φ := .f32) (repB_level (φ := .f32) h_v528 2 slices_S8x128x128_o2_0_0_S1x128x128) shapeCasts_S1x128x128_S128x128) (rep_mmT (rp173 h_v504 h_v526) (rp174 h_v507 h_v526))))

theorem rp176 {p_v528 : ℕ → Mat} {v528 : FVec Ideal S8x128x128 .f32}
    (h_v528 : RepK v528 p_v528) :
    Rep (k0_pay176 (F := Ideal) v528) (p_v528 2) :=
  (rep_ofB (φ := .f32) (repB_level (φ := .f32) h_v528 2 slices_S8x128x128_o2_0_0_S1x128x128) shapeCasts_S1x128x128_S128x128)

theorem rp177 {p_v634 : Mat} {v634 : FVec Ideal S128x128 .f32} {p_v726 : Mat} {v726 : FVec Ideal S128x128 .f32}
    (h_v634 : Rep v634 p_v634) (h_v726 : Rep v726 p_v726) :
    Rep (k0_pay177 (F := Ideal) v634 v726) (p_v726 * p_v634) :=
  (rep_truncf (rep_mulf h_v726 h_v634) bitsLt_bf16_f32)

theorem rp178 {p_v634 : Mat} {v634 : FVec Ideal S128x128 .f32} {p_v719 : Mat} {v719 : FVec Ideal S128x128 .bf16} {p_v726 : Mat} {v726 : FVec Ideal S128x128 .f32}
    (h_v634 : Rep v634 p_v634) (h_v719 : Rep v719 p_v719) (h_v726 : Rep v726 p_v726) :
    Rep (k0_pay178 (F := Ideal) v634 v719 v726) (mmN (p_v726 * p_v634) p_v719) :=
  (rep_mmN (rp177 h_v634 h_v726) h_v719)

theorem rp179 {p_v634 : Mat} {v634 : FVec Ideal S128x128 .f32} {p_v717 : Mat} {v717 : FVec Ideal S128x128 .bf16} {p_v726 : Mat} {v726 : FVec Ideal S128x128 .f32}
    (h_v634 : Rep v634 p_v634) (h_v717 : Rep v717 p_v717) (h_v726 : Rep v726 p_v726) :
    Rep (k0_pay179 (F := Ideal) v634 v717 v726) (mmA (p_v726 * p_v634) p_v717) :=
  (rep_mmA (rp177 h_v634 h_v726) h_v717)

theorem rp180 {p_v526 : ℕ → Fin 128 → ℝ} {v526 : FVec Ideal S2048x128 .f32}
    (h_v526 : RepL v526 p_v526) :
    Rep (k0_pay180 (F := Ideal) v526) (mexp (blk 768 p_v526)) :=
  (rep_exp (rep_blk (φ := .f32) h_v526 768 slices_S2048x128_o768_0_S128x128))

theorem rp181 {p_v526 : ℕ → Fin 128 → ℝ} {v526 : FVec Ideal S2048x128 .f32}
    (h_v526 : RepL v526 p_v526) :
    Rep (k0_pay181 (F := Ideal) v526) (mexp (blk 896 p_v526)) :=
  (rep_exp (rep_blk (φ := .f32) h_v526 896 slices_S2048x128_o896_0_S128x128))

theorem rp182 {p_v504 : Mat} {v504 : FVec Ideal S128x128 .f32} {p_v526 : ℕ → Fin 128 → ℝ} {v526 : FVec Ideal S2048x128 .f32}
    (h_v504 : Rep v504 p_v504) (h_v526 : RepL v526 p_v526) :
    Rep (k0_pay182 (F := Ideal) v504 v526) (p_v504 * (mexp (blk 768 p_v526))) :=
  (rep_truncf (rep_mulf h_v504 (rp180 h_v526)) bitsLt_bf16_f32)

theorem rp183 {p_v507 : Mat} {v507 : FVec Ideal S128x128 .f32} {p_v526 : ℕ → Fin 128 → ℝ} {v526 : FVec Ideal S2048x128 .f32}
    (h_v507 : Rep v507 p_v507) (h_v526 : RepL v526 p_v526) :
    Rep (k0_pay183 (F := Ideal) v507 v526) (p_v507 * (mexp (blk 896 p_v526))) :=
  (rep_truncf (rep_mulf h_v507 (rp181 h_v526)) bitsLt_bf16_f32)

theorem rp184 {p_v504 : Mat} {v504 : FVec Ideal S128x128 .f32} {p_v507 : Mat} {v507 : FVec Ideal S128x128 .f32} {p_v526 : ℕ → Fin 128 → ℝ} {v526 : FVec Ideal S2048x128 .f32} {p_v528 : ℕ → Mat} {v528 : FVec Ideal S8x128x128 .f32} {p_v724 : Mat} {v724 : FVec Ideal S128x128 .f32}
    (h_v504 : Rep v504 p_v504) (h_v507 : Rep v507 p_v507) (h_v526 : RepL v526 p_v526) (h_v528 : RepK v528 p_v528) (h_v724 : Rep v724 p_v724) :
    Rep (k0_pay184 (F := Ideal) v504 v507 v526 v528 v724) (p_v724 + ((p_v528 3) * (mmT (p_v504 * (mexp (blk 768 p_v526))) (p_v507 * (mexp (blk 896 p_v526)))))) :=
  (rep_addf h_v724 (rep_mulf (rep_ofB (φ := .f32) (repB_level (φ := .f32) h_v528 3 slices_S8x128x128_o3_0_0_S1x128x128) shapeCasts_S1x128x128_S128x128) (rep_mmT (rp182 h_v504 h_v526) (rp183 h_v507 h_v526))))

theorem rp185 {p_v528 : ℕ → Mat} {v528 : FVec Ideal S8x128x128 .f32} {p_v634 : Mat} {v634 : FVec Ideal S128x128 .f32}
    (h_v528 : RepK v528 p_v528) (h_v634 : Rep v634 p_v634) :
    Rep (k0_pay185 (F := Ideal) v528 v634) ((p_v528 3) * p_v634) :=
  (rep_truncf (rep_mulf (rep_ofB (φ := .f32) (repB_level (φ := .f32) h_v528 3 slices_S8x128x128_o3_0_0_S1x128x128) shapeCasts_S1x128x128_S128x128) h_v634) bitsLt_bf16_f32)

theorem rp186 {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32}
    (h_v507 : Rep v507 p_v507) (h_v526 : RepL v526 p_v526) (h_v528 : RepK v528 p_v528) (h_v634 : Rep v634 p_v634) :
    Rep (k0_pay186 (F := Ideal) v507 v526 v528 v634) (mmN ((p_v528 3) * p_v634) (p_v507 * (mexp (blk 896 p_v526)))) :=
  (rep_mmN (rp185 h_v528 h_v634) (rp183 h_v507 h_v526))

theorem rp187 {p_v504 : Mat} {v504 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32}
    (h_v504 : Rep v504 p_v504) (h_v526 : RepL v526 p_v526) (h_v528 : RepK v528 p_v528) (h_v634 : Rep v634 p_v634) :
    Rep (k0_pay187 (F := Ideal) v504 v526 v528 v634) (mmA ((p_v528 3) * p_v634) (p_v504 * (mexp (blk 768 p_v526)))) :=
  (rep_mmA (rp185 h_v528 h_v634) (rp182 h_v504 h_v526))

theorem rp188 {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v703 : Mat} {v703 : FVec Ideal S128x128 .f32} {p_v713 : Mat} {v713 : FVec Ideal S128x128 .f32} {p_v719 : Mat} {v719 : FVec Ideal S128x128 .bf16} {p_v726 : Mat} {v726 : FVec Ideal S128x128 .f32}
    (h_v507 : Rep v507 p_v507) (h_v526 : RepL v526 p_v526) (h_v528 : RepK v528 p_v528) (h_v634 : Rep v634 p_v634) (h_v703 : Rep v703 p_v703) (h_v713 : Rep v713 p_v713) (h_v719 : Rep v719 p_v719) (h_v726 : Rep v726 p_v726) :
    Rep (k0_pay188 (F := Ideal) v507 v526 v528 v634 v703 v713 v719 v726) ((p_v703 + ((mmN (p_v726 * p_v634) p_v719) * p_v713)) + ((mmN ((p_v528 3) * p_v634) (p_v507 * (mexp (blk 896 p_v526)))) * (mexp (blk 768 p_v526)))) :=
  (rep_addf (rep_addf h_v703 (rep_mulf (rp178 h_v634 h_v719 h_v726) h_v713)) (rep_mulf (rp186 h_v507 h_v526 h_v528 h_v634) (rp180 h_v526)))

theorem rp189 {p_v504 : Mat} {v504 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v705 : Mat} {v705 : FVec Ideal S128x128 .f32} {p_v715 : Mat} {v715 : FVec Ideal S128x128 .f32} {p_v717 : Mat} {v717 : FVec Ideal S128x128 .bf16} {p_v726 : Mat} {v726 : FVec Ideal S128x128 .f32}
    (h_v504 : Rep v504 p_v504) (h_v526 : RepL v526 p_v526) (h_v528 : RepK v528 p_v528) (h_v634 : Rep v634 p_v634) (h_v705 : Rep v705 p_v705) (h_v715 : Rep v715 p_v715) (h_v717 : Rep v717 p_v717) (h_v726 : Rep v726 p_v726) :
    Rep (k0_pay189 (F := Ideal) v504 v526 v528 v634 v705 v715 v717 v726) ((p_v705 + ((mmA (p_v726 * p_v634) p_v717) * p_v715)) + ((mmA ((p_v528 3) * p_v634) (p_v504 * (mexp (blk 768 p_v526)))) * (mexp (blk 896 p_v526)))) :=
  (rep_addf (rep_addf h_v705 (rep_mulf (rp179 h_v634 h_v717 h_v726) h_v715)) (rep_mulf (rp187 h_v504 h_v526 h_v528 h_v634) (rp181 h_v526)))

theorem rp190 {p_v504 : Mat} {v504 : FVec Ideal S128x128 .f32} {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v711 : Mat} {v711 : FVec Ideal S128x128 .f32} {p_v717 : Mat} {v717 : FVec Ideal S128x128 .bf16} {p_v719 : Mat} {v719 : FVec Ideal S128x128 .bf16} {p_v726 : Mat} {v726 : FVec Ideal S128x128 .f32}
    (h_v504 : Rep v504 p_v504) (h_v507 : Rep v507 p_v507) (h_v526 : RepL v526 p_v526) (h_v528 : RepK v528 p_v528) (h_v634 : Rep v634 p_v634) (h_v711 : Rep v711 p_v711) (h_v717 : Rep v717 p_v717) (h_v719 : Rep v719 p_v719) (h_v726 : Rep v726 p_v726) :
    Rep (k0_pay190 (F := Ideal) v504 v507 v526 v528 v634 v711 v717 v719 v726) ((p_v711 + ((p_v717 * (mmN (p_v726 * p_v634) p_v719)) - (p_v719 * (mmA (p_v726 * p_v634) p_v717)))) + (((p_v504 * (mexp (blk 768 p_v526))) * (mmN ((p_v528 3) * p_v634) (p_v507 * (mexp (blk 896 p_v526))))) - ((p_v507 * (mexp (blk 896 p_v526))) * (mmA ((p_v528 3) * p_v634) (p_v504 * (mexp (blk 768 p_v526))))))) :=
  (rep_addf (rep_addf h_v711 (rep_subf (rep_mulf (rep_extf h_v717 bitsLt_bf16_f32) (rp178 h_v634 h_v719 h_v726)) (rep_mulf (rep_extf h_v719 bitsLt_bf16_f32) (rp179 h_v634 h_v717 h_v726)))) (rep_subf (rep_mulf (rep_extf (rp182 h_v504 h_v526) bitsLt_bf16_f32) (rp186 h_v507 h_v526 h_v528 h_v634)) (rep_mulf (rep_extf (rp183 h_v507 h_v526) bitsLt_bf16_f32) (rp187 h_v504 h_v526 h_v528 h_v634))))

theorem rp191 {p_v526 : ℕ → Fin 128 → ℝ} {v526 : FVec Ideal S2048x128 .f32}
    (h_v526 : RepL v526 p_v526) :
    Rep (k0_pay191 (F := Ideal) v526) (mexp (blk 1024 p_v526)) :=
  (rep_exp (rep_blk (φ := .f32) h_v526 1024 slices_S2048x128_o1024_0_S128x128))

theorem rp192 {p_v526 : ℕ → Fin 128 → ℝ} {v526 : FVec Ideal S2048x128 .f32}
    (h_v526 : RepL v526 p_v526) :
    Rep (k0_pay192 (F := Ideal) v526) (mexp (blk 1152 p_v526)) :=
  (rep_exp (rep_blk (φ := .f32) h_v526 1152 slices_S2048x128_o1152_0_S128x128))

theorem rp193 {p_v504 : Mat} {v504 : FVec Ideal S128x128 .f32} {p_v526 : ℕ → Fin 128 → ℝ} {v526 : FVec Ideal S2048x128 .f32}
    (h_v504 : Rep v504 p_v504) (h_v526 : RepL v526 p_v526) :
    Rep (k0_pay193 (F := Ideal) v504 v526) (p_v504 * (mexp (blk 1024 p_v526))) :=
  (rep_truncf (rep_mulf h_v504 (rp191 h_v526)) bitsLt_bf16_f32)

theorem rp194 {p_v507 : Mat} {v507 : FVec Ideal S128x128 .f32} {p_v526 : ℕ → Fin 128 → ℝ} {v526 : FVec Ideal S2048x128 .f32}
    (h_v507 : Rep v507 p_v507) (h_v526 : RepL v526 p_v526) :
    Rep (k0_pay194 (F := Ideal) v507 v526) (p_v507 * (mexp (blk 1152 p_v526))) :=
  (rep_truncf (rep_mulf h_v507 (rp192 h_v526)) bitsLt_bf16_f32)

theorem rp195 {p_v528 : ℕ → Mat} {v528 : FVec Ideal S8x128x128 .f32}
    (h_v528 : RepK v528 p_v528) :
    Rep (k0_pay195 (F := Ideal) v528) (p_v528 4) :=
  (rep_ofB (φ := .f32) (repB_level (φ := .f32) h_v528 4 slices_S8x128x128_o4_0_0_S1x128x128) shapeCasts_S1x128x128_S128x128)

theorem rp196 {p_v504 : Mat} {v504 : FVec Ideal S128x128 .f32} {p_v507 : Mat} {v507 : FVec Ideal S128x128 .f32} {p_v526 : ℕ → Fin 128 → ℝ} {v526 : FVec Ideal S2048x128 .f32}
    (h_v504 : Rep v504 p_v504) (h_v507 : Rep v507 p_v507) (h_v526 : RepL v526 p_v526) :
    Rep (k0_pay196 (F := Ideal) v504 v507 v526) (mmT (p_v504 * (mexp (blk 1024 p_v526))) (p_v507 * (mexp (blk 1152 p_v526)))) :=
  (rep_mmT (rp193 h_v504 h_v526) (rp194 h_v507 h_v526))

theorem rp197 {p_v528 : ℕ → Mat} {v528 : FVec Ideal S8x128x128 .f32} {p_v634 : Mat} {v634 : FVec Ideal S128x128 .f32}
    (h_v528 : RepK v528 p_v528) (h_v634 : Rep v634 p_v634) :
    Rep (k0_pay197 (F := Ideal) v528 v634) ((p_v528 4) * p_v634) :=
  (rep_truncf (rep_mulf (rep_ofB (φ := .f32) (repB_level (φ := .f32) h_v528 4 slices_S8x128x128_o4_0_0_S1x128x128) shapeCasts_S1x128x128_S128x128) h_v634) bitsLt_bf16_f32)

theorem rp198 {p_v528 : ℕ → Mat} {v528 : FVec Ideal S8x128x128 .f32} {p_v634 : Mat} {v634 : FVec Ideal S128x128 .f32} {p_v777 : Mat} {v777 : FVec Ideal S128x128 .bf16}
    (h_v528 : RepK v528 p_v528) (h_v634 : Rep v634 p_v634) (h_v777 : Rep v777 p_v777) :
    Rep (k0_pay198 (F := Ideal) v528 v634 v777) (mmN ((p_v528 4) * p_v634) p_v777) :=
  (rep_mmN (rp197 h_v528 h_v634) h_v777)

theorem rp199 {p_v528 : ℕ → Mat} {v528 : FVec Ideal S8x128x128 .f32} {p_v634 : Mat} {v634 : FVec Ideal S128x128 .f32} {p_v775 : Mat} {v775 : FVec Ideal S128x128 .bf16}
    (h_v528 : RepK v528 p_v528) (h_v634 : Rep v634 p_v634) (h_v775 : Rep v775 p_v775) :
    Rep (k0_pay199 (F := Ideal) v528 v634 v775) (mmA ((p_v528 4) * p_v634) p_v775) :=
  (rep_mmA (rp197 h_v528 h_v634) h_v775)

theorem rp200 {p_v526 : ℕ → Fin 128 → ℝ} {v526 : FVec Ideal S2048x128 .f32}
    (h_v526 : RepL v526 p_v526) :
    Rep (k0_pay200 (F := Ideal) v526) (mexp (blk 1280 p_v526)) :=
  (rep_exp (rep_blk (φ := .f32) h_v526 1280 slices_S2048x128_o1280_0_S128x128))

theorem rp201 {p_v526 : ℕ → Fin 128 → ℝ} {v526 : FVec Ideal S2048x128 .f32}
    (h_v526 : RepL v526 p_v526) :
    Rep (k0_pay201 (F := Ideal) v526) (mexp (blk 1408 p_v526)) :=
  (rep_exp (rep_blk (φ := .f32) h_v526 1408 slices_S2048x128_o1408_0_S128x128))

theorem rp202 {p_v504 : Mat} {v504 : FVec Ideal S128x128 .f32} {p_v526 : ℕ → Fin 128 → ℝ} {v526 : FVec Ideal S2048x128 .f32}
    (h_v504 : Rep v504 p_v504) (h_v526 : RepL v526 p_v526) :
    Rep (k0_pay202 (F := Ideal) v504 v526) (p_v504 * (mexp (blk 1280 p_v526))) :=
  (rep_truncf (rep_mulf h_v504 (rp200 h_v526)) bitsLt_bf16_f32)

theorem rp203 {p_v507 : Mat} {v507 : FVec Ideal S128x128 .f32} {p_v526 : ℕ → Fin 128 → ℝ} {v526 : FVec Ideal S2048x128 .f32}
    (h_v507 : Rep v507 p_v507) (h_v526 : RepL v526 p_v526) :
    Rep (k0_pay203 (F := Ideal) v507 v526) (p_v507 * (mexp (blk 1408 p_v526))) :=
  (rep_truncf (rep_mulf h_v507 (rp201 h_v526)) bitsLt_bf16_f32)

theorem rp204 {p_v504 : Mat} {v504 : FVec Ideal S128x128 .f32} {p_v507 : Mat} {v507 : FVec Ideal S128x128 .f32} {p_v526 : ℕ → Fin 128 → ℝ} {v526 : FVec Ideal S2048x128 .f32} {p_v528 : ℕ → Mat} {v528 : FVec Ideal S8x128x128 .f32} {p_v753 : Mat} {v753 : FVec Ideal S128x128 .f32} {p_v779 : Mat} {v779 : FVec Ideal S128x128 .f32} {p_v780 : Mat} {v780 : FVec Ideal S128x128 .f32}
    (h_v504 : Rep v504 p_v504) (h_v507 : Rep v507 p_v507) (h_v526 : RepL v526 p_v526) (h_v528 : RepK v528 p_v528) (h_v753 : Rep v753 p_v753) (h_v779 : Rep v779 p_v779) (h_v780 : Rep v780 p_v780) :
    Rep (k0_pay204 (F := Ideal) v504 v507 v526 v528 v753 v779 v780) ((p_v753 + (p_v779 * p_v780)) + ((p_v528 5) * (mmT (p_v504 * (mexp (blk 1280 p_v526))) (p_v507 * (mexp (blk 1408 p_v526)))))) :=
  (rep_addf (rep_addf h_v753 (rep_mulf h_v779 h_v780)) (rep_mulf (rep_ofB (φ := .f32) (repB_level (φ := .f32) h_v528 5 slices_S8x128x128_o5_0_0_S1x128x128) shapeCasts_S1x128x128_S128x128) (rep_mmT (rp202 h_v504 h_v526) (rp203 h_v507 h_v526))))

theorem rp205 {p_v528 : ℕ → Mat} {v528 : FVec Ideal S8x128x128 .f32} {p_v634 : Mat} {v634 : FVec Ideal S128x128 .f32}
    (h_v528 : RepK v528 p_v528) (h_v634 : Rep v634 p_v634) :
    Rep (k0_pay205 (F := Ideal) v528 v634) ((p_v528 5) * p_v634) :=
  (rep_truncf (rep_mulf (rep_ofB (φ := .f32) (repB_level (φ := .f32) h_v528 5 slices_S8x128x128_o5_0_0_S1x128x128) shapeCasts_S1x128x128_S128x128) h_v634) bitsLt_bf16_f32)

theorem rp206 {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32}
    (h_v507 : Rep v507 p_v507) (h_v526 : RepL v526 p_v526) (h_v528 : RepK v528 p_v528) (h_v634 : Rep v634 p_v634) :
    Rep (k0_pay206 (F := Ideal) v507 v526 v528 v634) (mmN ((p_v528 5) * p_v634) (p_v507 * (mexp (blk 1408 p_v526)))) :=
  (rep_mmN (rp205 h_v528 h_v634) (rp203 h_v507 h_v526))

theorem rp207 {p_v504 : Mat} {v504 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32}
    (h_v504 : Rep v504 p_v504) (h_v526 : RepL v526 p_v526) (h_v528 : RepK v528 p_v528) (h_v634 : Rep v634 p_v634) :
    Rep (k0_pay207 (F := Ideal) v504 v526 v528 v634) (mmA ((p_v528 5) * p_v634) (p_v504 * (mexp (blk 1280 p_v526)))) :=
  (rep_mmA (rp205 h_v528 h_v634) (rp202 h_v504 h_v526))

theorem rp208 {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v761 : Mat} {v761 : FVec Ideal S128x128 .f32} {p_v771 : Mat} {v771 : FVec Ideal S128x128 .f32} {p_v777 : Mat} {v777 : FVec Ideal S128x128 .bf16}
    (h_v507 : Rep v507 p_v507) (h_v526 : RepL v526 p_v526) (h_v528 : RepK v528 p_v528) (h_v634 : Rep v634 p_v634) (h_v761 : Rep v761 p_v761) (h_v771 : Rep v771 p_v771) (h_v777 : Rep v777 p_v777) :
    Rep (k0_pay208 (F := Ideal) v507 v526 v528 v634 v761 v771 v777) ((p_v761 + ((mmN ((p_v528 4) * p_v634) p_v777) * p_v771)) + ((mmN ((p_v528 5) * p_v634) (p_v507 * (mexp (blk 1408 p_v526)))) * (mexp (blk 1280 p_v526)))) :=
  (rep_addf (rep_addf h_v761 (rep_mulf (rp198 h_v528 h_v634 h_v777) h_v771)) (rep_mulf (rp206 h_v507 h_v526 h_v528 h_v634) (rp200 h_v526)))

theorem rp209 {p_v504 : Mat} {v504 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v763 : Mat} {v763 : FVec Ideal S128x128 .f32} {p_v773 : Mat} {v773 : FVec Ideal S128x128 .f32} {p_v775 : Mat} {v775 : FVec Ideal S128x128 .bf16}
    (h_v504 : Rep v504 p_v504) (h_v526 : RepL v526 p_v526) (h_v528 : RepK v528 p_v528) (h_v634 : Rep v634 p_v634) (h_v763 : Rep v763 p_v763) (h_v773 : Rep v773 p_v773) (h_v775 : Rep v775 p_v775) :
    Rep (k0_pay209 (F := Ideal) v504 v526 v528 v634 v763 v773 v775) ((p_v763 + ((mmA ((p_v528 4) * p_v634) p_v775) * p_v773)) + ((mmA ((p_v528 5) * p_v634) (p_v504 * (mexp (blk 1280 p_v526)))) * (mexp (blk 1408 p_v526)))) :=
  (rep_addf (rep_addf h_v763 (rep_mulf (rp199 h_v528 h_v634 h_v775) h_v773)) (rep_mulf (rp207 h_v504 h_v526 h_v528 h_v634) (rp201 h_v526)))

theorem rp210 {p_v504 : Mat} {v504 : FVec Ideal S128x128 .f32} {p_v507 : Mat} {v507 : FVec Ideal S128x128 .f32} {p_v526 : ℕ → Fin 128 → ℝ} {v526 : FVec Ideal S2048x128 .f32} {p_v528 : ℕ → Mat} {v528 : FVec Ideal S8x128x128 .f32} {p_v634 : Mat} {v634 : FVec Ideal S128x128 .f32} {p_v769 : Mat} {v769 : FVec Ideal S128x128 .f32} {p_v775 : Mat} {v775 : FVec Ideal S128x128 .bf16} {p_v777 : Mat} {v777 : FVec Ideal S128x128 .bf16}
    (h_v504 : Rep v504 p_v504) (h_v507 : Rep v507 p_v507) (h_v526 : RepL v526 p_v526) (h_v528 : RepK v528 p_v528) (h_v634 : Rep v634 p_v634) (h_v769 : Rep v769 p_v769) (h_v775 : Rep v775 p_v775) (h_v777 : Rep v777 p_v777) :
    Rep (k0_pay210 (F := Ideal) v504 v507 v526 v528 v634 v769 v775 v777) ((p_v769 + ((p_v775 * (mmN ((p_v528 4) * p_v634) p_v777)) - (p_v777 * (mmA ((p_v528 4) * p_v634) p_v775)))) + (((p_v504 * (mexp (blk 1280 p_v526))) * (mmN ((p_v528 5) * p_v634) (p_v507 * (mexp (blk 1408 p_v526))))) - ((p_v507 * (mexp (blk 1408 p_v526))) * (mmA ((p_v528 5) * p_v634) (p_v504 * (mexp (blk 1280 p_v526))))))) :=
  (rep_addf (rep_addf h_v769 (rep_subf (rep_mulf (rep_extf h_v775 bitsLt_bf16_f32) (rp198 h_v528 h_v634 h_v777)) (rep_mulf (rep_extf h_v777 bitsLt_bf16_f32) (rp199 h_v528 h_v634 h_v775)))) (rep_subf (rep_mulf (rep_extf (rp202 h_v504 h_v526) bitsLt_bf16_f32) (rp206 h_v507 h_v526 h_v528 h_v634)) (rep_mulf (rep_extf (rp203 h_v507 h_v526) bitsLt_bf16_f32) (rp207 h_v504 h_v526 h_v528 h_v634))))

theorem rp211 {p_v526 : ℕ → Fin 128 → ℝ} {v526 : FVec Ideal S2048x128 .f32}
    (h_v526 : RepL v526 p_v526) :
    Rep (k0_pay211 (F := Ideal) v526) (mexp (blk 1536 p_v526)) :=
  (rep_exp (rep_blk (φ := .f32) h_v526 1536 slices_S2048x128_o1536_0_S128x128))

theorem rp212 {p_v526 : ℕ → Fin 128 → ℝ} {v526 : FVec Ideal S2048x128 .f32}
    (h_v526 : RepL v526 p_v526) :
    Rep (k0_pay212 (F := Ideal) v526) (mexp (blk 1664 p_v526)) :=
  (rep_exp (rep_blk (φ := .f32) h_v526 1664 slices_S2048x128_o1664_0_S128x128))

theorem rp213 {p_v504 : Mat} {v504 : FVec Ideal S128x128 .f32} {p_v526 : ℕ → Fin 128 → ℝ} {v526 : FVec Ideal S2048x128 .f32}
    (h_v504 : Rep v504 p_v504) (h_v526 : RepL v526 p_v526) :
    Rep (k0_pay213 (F := Ideal) v504 v526) (p_v504 * (mexp (blk 1536 p_v526))) :=
  (rep_truncf (rep_mulf h_v504 (rp211 h_v526)) bitsLt_bf16_f32)

theorem rp214 {p_v507 : Mat} {v507 : FVec Ideal S128x128 .f32} {p_v526 : ℕ → Fin 128 → ℝ} {v526 : FVec Ideal S2048x128 .f32}
    (h_v507 : Rep v507 p_v507) (h_v526 : RepL v526 p_v526) :
    Rep (k0_pay214 (F := Ideal) v507 v526) (p_v507 * (mexp (blk 1664 p_v526))) :=
  (rep_truncf (rep_mulf h_v507 (rp212 h_v526)) bitsLt_bf16_f32)

theorem rp215 {p_v528 : ℕ → Mat} {v528 : FVec Ideal S8x128x128 .f32} {p_v634 : Mat} {v634 : FVec Ideal S128x128 .f32}
    (h_v528 : RepK v528 p_v528) (h_v634 : Rep v634 p_v634) :
    Rep (k0_pay215 (F := Ideal) v528 v634) ((p_v528 6) * p_v634) :=
  (rep_truncf (rep_mulf (rep_ofB (φ := .f32) (repB_level (φ := .f32) h_v528 6 slices_S8x128x128_o6_0_0_S1x128x128) shapeCasts_S1x128x128_S128x128) h_v634) bitsLt_bf16_f32)

theorem rp216 {p_v528 : ℕ → Mat} {v528 : FVec Ideal S8x128x128 .f32} {p_v634 : Mat} {v634 : FVec Ideal S128x128 .f32} {p_v835 : Mat} {v835 : FVec Ideal S128x128 .bf16}
    (h_v528 : RepK v528 p_v528) (h_v634 : Rep v634 p_v634) (h_v835 : Rep v835 p_v835) :
    Rep (k0_pay216 (F := Ideal) v528 v634 v835) (mmN ((p_v528 6) * p_v634) p_v835) :=
  (rep_mmN (rp215 h_v528 h_v634) h_v835)

theorem rp217 {p_v528 : ℕ → Mat} {v528 : FVec Ideal S8x128x128 .f32} {p_v634 : Mat} {v634 : FVec Ideal S128x128 .f32} {p_v833 : Mat} {v833 : FVec Ideal S128x128 .bf16}
    (h_v528 : RepK v528 p_v528) (h_v634 : Rep v634 p_v634) (h_v833 : Rep v833 p_v833) :
    Rep (k0_pay217 (F := Ideal) v528 v634 v833) (mmA ((p_v528 6) * p_v634) p_v833) :=
  (rep_mmA (rp215 h_v528 h_v634) h_v833)

theorem rp218 {p_v528 : ℕ → Mat} {v528 : FVec Ideal S8x128x128 .f32} {p_v634 : Mat} {v634 : FVec Ideal S128x128 .f32} {p_v819 : Mat} {v819 : FVec Ideal S128x128 .f32} {p_v829 : Mat} {v829 : FVec Ideal S128x128 .f32} {p_v835 : Mat} {v835 : FVec Ideal S128x128 .bf16}
    (h_v528 : RepK v528 p_v528) (h_v634 : Rep v634 p_v634) (h_v819 : Rep v819 p_v819) (h_v829 : Rep v829 p_v829) (h_v835 : Rep v835 p_v835) :
    Rep (k0_pay218 (F := Ideal) v528 v634 v819 v829 v835) (p_v819 + ((mmN ((p_v528 6) * p_v634) p_v835) * p_v829)) :=
  (rep_addf h_v819 (rep_mulf (rp216 h_v528 h_v634 h_v835) h_v829))

theorem rp219 {p_v528 : ℕ → Mat} {v528 : FVec Ideal S8x128x128 .f32} {p_v634 : Mat} {v634 : FVec Ideal S128x128 .f32} {p_v821 : Mat} {v821 : FVec Ideal S128x128 .f32} {p_v831 : Mat} {v831 : FVec Ideal S128x128 .f32} {p_v833 : Mat} {v833 : FVec Ideal S128x128 .bf16}
    (h_v528 : RepK v528 p_v528) (h_v634 : Rep v634 p_v634) (h_v821 : Rep v821 p_v821) (h_v831 : Rep v831 p_v831) (h_v833 : Rep v833 p_v833) :
    Rep (k0_pay219 (F := Ideal) v528 v634 v821 v831 v833) (p_v821 + ((mmA ((p_v528 6) * p_v634) p_v833) * p_v831)) :=
  (rep_addf h_v821 (rep_mulf (rp217 h_v528 h_v634 h_v833) h_v831))

theorem rp220 {p_v528 : ℕ → Mat} {v528 : FVec Ideal S8x128x128 .f32} {p_v589 : Mat} {v589 : FVec Ideal S128x128 .bf16} {p_v592 : Mat} {v592 : FVec Ideal S128x128 .bf16} {p_v602 : Mat} {v602 : FVec Ideal S128x128 .bf16} {p_v811 : Mat} {v811 : FVec Ideal S128x128 .f32} {p_v833 : Mat} {v833 : FVec Ideal S128x128 .bf16} {p_v835 : Mat} {v835 : FVec Ideal S128x128 .bf16}
    (h_v528 : RepK v528 p_v528) (h_v589 : Rep v589 p_v589) (h_v592 : Rep v592 p_v592) (h_v602 : Rep v602 p_v602) (h_v811 : Rep v811 p_v811) (h_v833 : Rep v833 p_v833) (h_v835 : Rep v835 p_v835) :
    Rep (k0_pay220 (F := Ideal) v528 v589 v592 v602 v811 v833 v835) ((mmA (p_v811 + ((p_v528 6) * (mmT p_v833 p_v835))) p_v589) + (mmT p_v602 p_v592)) :=
  (rep_addf (rep_mmA (rep_truncf (rep_addf h_v811 (rep_mulf (rep_ofB (φ := .f32) (repB_level (φ := .f32) h_v528 6 slices_S8x128x128_o6_0_0_S1x128x128) shapeCasts_S1x128x128_S128x128) (rep_mmT h_v833 h_v835))) bitsLt_bf16_f32) h_v589) (rep_mmT h_v602 h_v592))

theorem rp221 {p_v589 : Mat} {v589 : FVec Ideal S128x128 .bf16} {p_v591 : Mat} {v591 : FVec Ideal S128x128 .f32} {p_v596 : Mat} {v596 : FVec Ideal S128x128 .f32} {p_v600 : Mat} {v600 : FVec Ideal S128x128 .bf16}
    (h_v589 : Rep v589 p_v589) (h_v591 : Rep v591 p_v591) (h_v596 : Rep v596 p_v596) (h_v600 : Rep v600 p_v600) :
    RepB (k0_pay221 (F := Ideal) v589 v591 v596 v600) ((p_v591 * (ofRow (p_v596 127))) + (mmA p_v589 p_v600)) :=
  (repB_of (φ := .f32) (rep_addf (rep_mulf h_v591 (rep_ofRow (φ := .f32) (repR_row (φ := .f32) h_v596 127 (by decide) slices_S128x128_o127_0_S1x128) broadcasts_S1x128_S128x128)) (rep_mmA h_v589 h_v600)) shapeCasts_S128x128_S1x128x128)

theorem rp222 {p_v528 : ℕ → Mat} {v528 : FVec Ideal S8x128x128 .f32} {p_v634 : Mat} {v634 : FVec Ideal S128x128 .f32} {p_v827 : Mat} {v827 : FVec Ideal S128x128 .f32} {p_v833 : Mat} {v833 : FVec Ideal S128x128 .bf16} {p_v835 : Mat} {v835 : FVec Ideal S128x128 .bf16} {p_v869 : Mat} {v869 : Vec Ideal S128x128 .bf16}
    (h_v528 : RepK v528 p_v528) (h_v634 : Rep v634 p_v634) (h_v827 : Rep v827 p_v827) (h_v833 : Rep v833 p_v833) (h_v835 : Rep v835 p_v835) (h_v869 : Rep v869 p_v869) :
    RepP (k0_pay222 (F := Ideal) v528 v634 v827 v833 v835 v869) (mmN p_v869 (p_v827 + ((p_v833 * (mmN ((p_v528 6) * p_v634) p_v835)) - (p_v835 * (mmA ((p_v528 6) * p_v634) p_v833))))) :=
  (repP_mm (rep_id (φ := .bf16) h_v869 shapeCasts_S128x128_S128x128) (rep_addf h_v827 (rep_subf (rep_mulf (rep_extf h_v833 bitsLt_bf16_f32) (rp216 h_v528 h_v634 h_v835)) (rep_mulf (rep_extf h_v835 bitsLt_bf16_f32) (rp217 h_v528 h_v634 h_v833)))) bitsLt_bf16_f32 concatenates_S128x128_S128x128_S128x128_S128x384_d1)

theorem rp223 {p_v528 : ℕ → Mat} {v528 : FVec Ideal S8x128x128 .f32} {p_v634 : Mat} {v634 : FVec Ideal S128x128 .f32} {p_v827 : Mat} {v827 : FVec Ideal S128x128 .f32} {p_v833 : Mat} {v833 : FVec Ideal S128x128 .bf16} {p_v835 : Mat} {v835 : FVec Ideal S128x128 .bf16} {p_v869 : Mat} {v869 : Vec Ideal S128x128 .bf16}
    (h_v528 : RepK v528 p_v528) (h_v634 : Rep v634 p_v634) (h_v827 : Rep v827 p_v827) (h_v833 : Rep v833 p_v833) (h_v835 : Rep v835 p_v835) (h_v869 : Rep v869 p_v869) :
    Rep (k0_pay223 (F := Ideal) v528 v634 v827 v833 v835 v869) (mmN p_v869 (p_v827 + ((p_v833 * (mmN ((p_v528 6) * p_v634) p_v835)) - (p_v835 * (mmA ((p_v528 6) * p_v634) p_v833))))) :=
  (rep_add0 (repP_0 (rp222 h_v528 h_v634 h_v827 h_v833 h_v835 h_v869) slices_S128x384_o0_0_S128x128) (repP_1 (rp222 h_v528 h_v634 h_v827 h_v833 h_v835 h_v869) 128 (by decide) slices_S128x384_o0_128_S128x128))

theorem rp224 {p_v879 : Mat} {v879 : FVec Ideal S128x384 .f32} {p_v882 : Mat} {v882 : FVec Ideal S128x128 .f32} {p_v885 : Fin 128 → ℝ} {v885 : Vec Ideal S1x1x128 .f32}
    (h_v879 : RepP v879 p_v879) (h_v882 : Rep v882 p_v882) (h_v885 : RepRR v885 p_v885) :
    Rep (k0_pay224 (F := Ideal) v879 v882 v885) (p_v882 + (ofRow p_v885)) :=
  (rep_addf (rep_add0 h_v882 (repP_1 h_v879 256 (by decide) slices_S128x384_o0_256_S128x128)) (rep_ofRow (φ := .f32) (repR_of3 (φ := .f32) h_v885 shapeCasts_S1x1x128_S1x128) broadcasts_S1x128_S128x128))

theorem rp225 {p_v879 : Mat} {v879 : FVec Ideal S128x384 .f32} {p_v882 : Mat} {v882 : FVec Ideal S128x128 .f32} {p_v885 : Fin 128 → ℝ} {v885 : Vec Ideal S1x1x128 .f32}
    (h_v879 : RepP v879 p_v879) (h_v882 : Rep v882 p_v882) (h_v885 : RepRR v885 p_v885) :
    RepRR (k0_pay225 (F := Ideal) v879 v882 v885) ((p_v882 + (ofRow p_v885)) 0) :=
  (repRR_of (φ := .f32) (repR_row (φ := .f32) (rp224 h_v879 h_v882 h_v885) 0 (by decide) slices_S128x128_o0_0_S1x128) shapeCasts_S1x128_S1x1x128)

theorem rp226 {p_v503 : Mat} {v503 : FVec Ideal S128x128 .f32} {p_v850 : Mat} {v850 : FVec Ideal S128x128 .f32} {p_v879 : Mat} {v879 : FVec Ideal S128x384 .f32} {p_v882 : Mat} {v882 : FVec Ideal S128x128 .f32} {p_v885 : Fin 128 → ℝ} {v885 : Vec Ideal S1x1x128 .f32}
    (h_v503 : Rep v503 p_v503) (h_v850 : Rep v850 p_v850) (h_v879 : RepP v879 p_v879) (h_v882 : Rep v882 p_v882) (h_v885 : RepRR v885 p_v885) (e_0 : ∀ i j, p_v503 i j ≠ 0) :
    Rep (k0_pay226 (F := Ideal) v503 v850 v879 v882 v885) (((p_v882 + (ofRow p_v885)) / p_v503) - p_v850) :=
  (rep_subf (rep_divf (rp224 h_v879 h_v882 h_v885) h_v503 e_0) h_v850)

theorem rp227 {p_v497 : Mat} {v497 : FVec Ideal S128x128 .f32} {p_v503 : Mat} {v503 : FVec Ideal S128x128 .f32} {p_v850 : Mat} {v850 : FVec Ideal S128x128 .f32} {p_v879 : Mat} {v879 : FVec Ideal S128x384 .f32} {p_v882 : Mat} {v882 : FVec Ideal S128x128 .f32} {p_v885 : Fin 128 → ℝ} {v885 : Vec Ideal S1x1x128 .f32} {p_v895 : Fin 128 → ℝ} {v895 : Vec Ideal S1x128 .f32}
    (h_v497 : Rep v497 p_v497) (h_v503 : Rep v503 p_v503) (h_v850 : Rep v850 p_v850) (h_v879 : RepP v879 p_v879) (h_v882 : Rep v882 p_v882) (h_v885 : RepRR v885 p_v885) (h_v895 : RepR v895 p_v895) (e_0 : ∀ i j, p_v503 i j ≠ 0) :
    RepR (k0_pay227 (F := Ideal) v497 v503 v850 v879 v882 v885 v895) (p_v895 + (sumC ((((p_v882 + (ofRow p_v885)) / p_v503) - p_v850) * ((mcst 1) - p_v497)))) :=
  (repR_addf (repR_id (φ := .f32) h_v895 shapeCasts_S1x128_S1x128) (repR_of (φ := .f32) (repV_sumC (rep_mulf (rp226 h_v503 h_v850 h_v879 h_v882 h_v885 e_0) (rep_subf (rep_cst repS_one) h_v497)) _ _ _) shapeCasts_S128_S1x128))

theorem rp228 {p_v471 : Fin 128 → ℝ} {v471 : Vec Ideal S1x128 .f32} {p_v497 : Mat} {v497 : FVec Ideal S128x128 .f32} {p_v503 : Mat} {v503 : FVec Ideal S128x128 .f32} {p_v850 : Mat} {v850 : FVec Ideal S128x128 .f32} {p_v879 : Mat} {v879 : FVec Ideal S128x384 .f32} {p_v882 : Mat} {v882 : FVec Ideal S128x128 .f32} {p_v885 : Fin 128 → ℝ} {v885 : Vec Ideal S1x1x128 .f32}
    (h_v471 : RepR v471 p_v471) (h_v497 : Rep v497 p_v497) (h_v503 : Rep v503 p_v503) (h_v850 : Rep v850 p_v850) (h_v879 : RepP v879 p_v879) (h_v882 : Rep v882 p_v882) (h_v885 : RepRR v885 p_v885) (e_0 : ∀ i j, p_v503 i j ≠ 0) :
    RepB (k0_pay228 (F := Ideal) v471 v497 v503 v850 v879 v882 v885) ((((((p_v882 + (ofRow p_v885)) / p_v503) - p_v850) * (ofRow ((vcst 1) - p_v471))) * p_v497) * ((mcst 1) - p_v497)) :=
  (repB_of (φ := .bf16) (rep_truncf (rep_mulf (rep_mulf (rep_mulf (rp226 h_v503 h_v850 h_v879 h_v882 h_v885 e_0) (rep_ofRow (φ := .f32) (repR_subf (repR_cst repS_one) h_v471) broadcasts_S1x128_S128x128)) h_v497) (rep_subf (rep_cst repS_one) h_v497)) bitsLt_bf16_f32) shapeCasts_S128x128_S1x128x128)

theorem rp229 {p_v486 : Mat} {v486 : FVec Ideal S128x128 .f32} {p_v848 : Mat} {v848 : FVec Ideal S128x128 .f32}
    (h_v486 : Rep v486 p_v486) (h_v848 : Rep v848 p_v848) :
    Rep (k0_pay229 (F := Ideal) v486 v848) (p_v848 * p_v486) :=
  (rep_mulf h_v848 h_v486)

theorem rp230 {p_v473 : Mat} {v473 : Vec Ideal S128x128 .f32} {p_v486 : Mat} {v486 : FVec Ideal S128x128 .f32}
    (h_v473 : Rep v473 p_v473) (h_v486 : Rep v486 p_v486) :
    Rep (k0_pay230 (F := Ideal) v473 v486) (p_v473 * ((mcst 1) - p_v486)) :=
  (rep_mulf h_v473 (rep_subf (rep_cst repS_one) h_v486))

end Cert.Proof

end
-- ==== Proof.Trip.lean ====
/- What one trip of the kernel loop holds for each of its two heads, given what it loads. -/
module

public import proofs.«01_k».proof.Proof.Gen.KernelIdeal.Loops
public import proofs.«01_k».proof.Proof.Pays

@[expose] public section

set_option maxRecDepth 16384

noncomputable section

namespace Cert.Proof

open Idealize.ShloMosaic Cert.KernelIdeal Cert.KernelIdeal.Gen

/-- What the first head loads in one trip. -/
structure Loads0 (arg2 : Memref sig .tc .vmem S512x256 .f32) (arg3 : Memref sig .tc .vmem S512x256 .f32) (arg4 : Memref sig .tc .vmem S512x256 .f32) (arg5 : Memref sig .tc .vmem S512x256 .f32) (arg6 : Memref sig .tc .vmem S1x256 .f32) (arg8 : Memref sig .tc .vmem S512x256 .f32) (arg9 : Memref sig .tc .vmem S4x2x128x128 .f32) (arg10 : Memref sig .tc .vmem S512x256 .f32) (arg11 : Memref sig .tc .vmem S2048x128 .bf16) (arg12 : Memref sig .tc .vmem S8x128x128 .f32) (arg13 : Memref sig .tc .vmem S128x128 .bf16) (arg17 : Memref sig .tc .vmem S2x128x128 .f32) (arg18 : Memref sig .tc .vmem S2x1x128 .f32) (v3 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (f_arg17 : BufTy.Contents (Elt Ideal) arg17.view.ty) (f_arg18 : BufTy.Contents (Elt Ideal) arg18.view.ty) (k : Fin k0_t1_loop.trips) (H : Head) : Prop where
  q0 : ∀ inb, Rep (View.readAt (Elt Ideal) arg2.view (Rect.unit (s := S512x256) (k0_off1 k) S128x128.size inb).toLoadRect X_arg2) H.q0
  f0 : ∀ inb, Rep (View.readAt (Elt Ideal) arg3.view (Rect.unit (s := S512x256) (k0_off1 k) S128x128.size inb).toLoadRect X_arg3) H.f0
  i0 : ∀ inb, Rep (View.readAt (Elt Ideal) arg4.view (Rect.unit (s := S512x256) (k0_off1 k) S128x128.size inb).toLoadRect X_arg4) H.i0
  g0 : ∀ inb, Rep (View.readAt (Elt Ideal) arg5.view (Rect.unit (s := S512x256) (k0_off1 k) S128x128.size inb).toLoadRect X_arg5) H.g0
  lb : ∀ inb, RepR (View.readAt (Elt Ideal) arg6.view (Rect.unit (s := S1x256) ![0, 0] S1x128.size inb).toLoadRect X_arg6) H.lb
  o : ∀ inb, Rep (View.readAt (Elt Ideal) arg8.view (Rect.unit (s := S512x256) (k0_off1 k) S128x128.size inb).toLoadRect X_arg8) H.o
  st : ∀ inb, RepBB (View.readAt (Elt Ideal) arg9.view (Rect.unit (s := S4x2x128x128) (k0_off3 k) S1x1x128x128.size inb).toLoadRect X_arg9) H.st
  dy : ∀ inb, Rep (View.readAt (Elt Ideal) arg10.view (Rect.unit (s := S512x256) (k0_off1 k) S128x128.size inb).toLoadRect X_arg10) H.dy
  M : ∀ inb, RepL (View.readAt (Elt Ideal) arg11.view (Rect.unit (s := S2048x128) ![0, 0] S2048x128.size inb).toLoadRect X_arg11) H.M
  mask : ∀ inb, RepK (View.readAt (Elt Ideal) arg12.view (Rect.unit (s := S8x128x128) ![0, 0, 0] S8x128x128.size inb).toLoadRect X_arg12) H.mask
  suf : ∀ inb, Rep (View.readAt (Elt Ideal) arg13.view (Rect.unit (s := S128x128) ![0, 0] S128x128.size inb).toLoadRect X_arg13) H.suf
  dst : ∀ inb, RepB (View.readAt (Elt Ideal) arg17.view (Rect.unit (s := S2x128x128) ![0, 0, 0] S1x128x128.size inb).toLoadRect f_arg17) H.dst
  run : ∀ inb, RepRR (View.readAt (Elt Ideal) arg18.view (Rect.unit (s := S2x1x128) ![0, 0, 0] S1x1x128.size inb).toLoadRect f_arg18) H.run
  gn : RepR v3 H.gn
  pos : ∀ i j, 0 < H.fg i j

/-- What the second head loads in one trip. -/
structure Loads1 (arg2 : Memref sig .tc .vmem S512x256 .f32) (arg3 : Memref sig .tc .vmem S512x256 .f32) (arg4 : Memref sig .tc .vmem S512x256 .f32) (arg5 : Memref sig .tc .vmem S512x256 .f32) (arg6 : Memref sig .tc .vmem S1x256 .f32) (arg8 : Memref sig .tc .vmem S512x256 .f32) (arg9 : Memref sig .tc .vmem S4x2x128x128 .f32) (arg10 : Memref sig .tc .vmem S512x256 .f32) (arg11 : Memref sig .tc .vmem S2048x128 .bf16) (arg12 : Memref sig .tc .vmem S8x128x128 .f32) (arg13 : Memref sig .tc .vmem S128x128 .bf16) (arg17 : Memref sig .tc .vmem S2x128x128 .f32) (arg18 : Memref sig .tc .vmem S2x1x128 .f32) (v3 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (f_arg17 : BufTy.Contents (Elt Ideal) arg17.view.ty) (f_arg18 : BufTy.Contents (Elt Ideal) arg18.view.ty) (k : Fin k0_t1_loop.trips) (H : Head) : Prop where
  q0 : ∀ inb, Rep (View.readAt (Elt Ideal) arg2.view (Rect.unit (s := S512x256) (k0_off7 k) S128x128.size inb).toLoadRect X_arg2) H.q0
  f0 : ∀ inb, Rep (View.readAt (Elt Ideal) arg3.view (Rect.unit (s := S512x256) (k0_off7 k) S128x128.size inb).toLoadRect X_arg3) H.f0
  i0 : ∀ inb, Rep (View.readAt (Elt Ideal) arg4.view (Rect.unit (s := S512x256) (k0_off7 k) S128x128.size inb).toLoadRect X_arg4) H.i0
  g0 : ∀ inb, Rep (View.readAt (Elt Ideal) arg5.view (Rect.unit (s := S512x256) (k0_off7 k) S128x128.size inb).toLoadRect X_arg5) H.g0
  lb : ∀ inb, RepR (View.readAt (Elt Ideal) arg6.view (Rect.unit (s := S1x256) ![0, 128] S1x128.size inb).toLoadRect X_arg6) H.lb
  o : ∀ inb, Rep (View.readAt (Elt Ideal) arg8.view (Rect.unit (s := S512x256) (k0_off7 k) S128x128.size inb).toLoadRect X_arg8) H.o
  st : ∀ inb, RepBB (View.readAt (Elt Ideal) arg9.view (Rect.unit (s := S4x2x128x128) (k0_off9 k) S1x1x128x128.size inb).toLoadRect X_arg9) H.st
  dy : ∀ inb, Rep (View.readAt (Elt Ideal) arg10.view (Rect.unit (s := S512x256) (k0_off7 k) S128x128.size inb).toLoadRect X_arg10) H.dy
  M : ∀ inb, RepL (View.readAt (Elt Ideal) arg11.view (Rect.unit (s := S2048x128) ![0, 0] S2048x128.size inb).toLoadRect X_arg11) H.M
  mask : ∀ inb, RepK (View.readAt (Elt Ideal) arg12.view (Rect.unit (s := S8x128x128) ![0, 0, 0] S8x128x128.size inb).toLoadRect X_arg12) H.mask
  suf : ∀ inb, Rep (View.readAt (Elt Ideal) arg13.view (Rect.unit (s := S128x128) ![0, 0] S128x128.size inb).toLoadRect X_arg13) H.suf
  dst : ∀ inb, RepB (View.readAt (Elt Ideal) arg17.view (Rect.unit (s := S2x128x128) ![1, 0, 0] S1x128x128.size inb).toLoadRect f_arg17) H.dst
  run : ∀ inb, RepRR (View.readAt (Elt Ideal) arg18.view (Rect.unit (s := S2x1x128) ![1, 0, 0] S1x1x128.size inb).toLoadRect f_arg18) H.run
  gn : RepR v3 H.gn
  pos : ∀ i j, 0 < H.fg i j

theorem Head.fg_ne {H : Head} (h : ∀ i j, 0 < H.fg i j) : ∀ i j, H.fg i j ≠ 0 := fun i j => (h i j).ne'
theorem Head.var_pos {H : Head} : ∀ i, 0 < H.var i := fun i => by
  show 0 < (∑ j, H.o i j * H.o i j) / 128 + eps
  have h1 : 0 ≤ (∑ j, H.o i j * H.o i j) / 128 := div_nonneg (Finset.sum_nonneg fun j _ => mul_self_nonneg _) (by norm_num)
  have h2 : 0 < eps := by unfold eps; norm_num
  linarith

section
variable {arg2 : Memref sig .tc .vmem S512x256 .f32} {arg3 : Memref sig .tc .vmem S512x256 .f32} {arg4 : Memref sig .tc .vmem S512x256 .f32} {arg5 : Memref sig .tc .vmem S512x256 .f32} {arg6 : Memref sig .tc .vmem S1x256 .f32} {arg8 : Memref sig .tc .vmem S512x256 .f32} {arg9 : Memref sig .tc .vmem S4x2x128x128 .f32} {arg10 : Memref sig .tc .vmem S512x256 .f32} {arg11 : Memref sig .tc .vmem S2048x128 .bf16} {arg12 : Memref sig .tc .vmem S8x128x128 .f32} {arg13 : Memref sig .tc .vmem S128x128 .bf16} {arg17 : Memref sig .tc .vmem S2x128x128 .f32} {arg18 : Memref sig .tc .vmem S2x1x128 .f32} {v3 : Vec Ideal S1x128 .f32} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg6 : BufTy.Contents (Elt Ideal) arg6.view.ty} {X_arg8 : BufTy.Contents (Elt Ideal) arg8.view.ty} {X_arg9 : BufTy.Contents (Elt Ideal) arg9.view.ty} {X_arg10 : BufTy.Contents (Elt Ideal) arg10.view.ty} {X_arg11 : BufTy.Contents (Elt Ideal) arg11.view.ty} {X_arg12 : BufTy.Contents (Elt Ideal) arg12.view.ty} {X_arg13 : BufTy.Contents (Elt Ideal) arg13.view.ty} {f_arg17 : BufTy.Contents (Elt Ideal) arg17.view.ty} {f_arg18 : BufTy.Contents (Elt Ideal) arg18.view.ty} {k : Fin k0_t1_loop.trips} {H : Head}

theorem rr (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepR (trip_k0_t1.sl.r (F := Ideal) arg6 X_arg6) H.lb :=
  (L.lb _)
theorem rr_1 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_1 (F := Ideal) arg2 X_arg2 k) H.q0 :=
  (L.q0 _)
theorem rr_2 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_2 (F := Ideal) arg2 X_arg2 k) H.sq :=
  (rp7 (L.q0 _))
theorem rr_3 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_3 (F := Ideal) arg3 X_arg3 k) H.sf :=
  (rp8 (L.f0 _))
theorem rr_4 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_4 (F := Ideal) arg3 arg6 X_arg3 X_arg6 k) H.fg :=
  (rp9 (L.lb _) (L.f0 _))
theorem rr_5 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_5 (F := Ideal) arg2 X_arg2 k) H.q :=
  (rp10 (L.q0 _))
theorem rr_6 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_6 (F := Ideal) arg3 arg6 X_arg3 X_arg6 k) H.lf :=
  (rp11 (L.lb _) (L.f0 _) L.pos)
theorem rr_7 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_7 (F := Ideal) arg3 arg6 X_arg3 X_arg6 k) H.k :=
  (rp12 (L.lb _) (L.f0 _))
theorem rr_8 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_8 (F := Ideal) arg4 X_arg4 k) H.i0 :=
  (L.i0 _)
theorem rr_9 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_9 (F := Ideal) arg4 X_arg4 k) H.i0 :=
  (rp13 (rr_8 L))
theorem rr_10 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepL (trip_k0_t1.sl.r_10 (F := Ideal) arg3 arg6 arg11 X_arg3 X_arg6 X_arg11 k) H.ex :=
  (rp14 (rr_6 L) (L.M _))
theorem rr_11 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepK (trip_k0_t1.sl.r_11 (F := Ideal) arg12 X_arg12) H.mask :=
  (rp15 (L.mask _))
theorem rr_12 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_12 (F := Ideal) arg8 X_arg8 k) H.o :=
  (rp16 (L.o _))
theorem rr_13 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_13 (F := Ideal) arg10 X_arg10 k) H.dy :=
  (L.dy _)
theorem rr_14 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_14 (F := Ideal) arg5 X_arg5 k) H.sg :=
  (rp17 (L.g0 _))
theorem rr_15 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepC (trip_k0_t1.sl.r_15 (F := Ideal) arg8 X_arg8 k) H.var :=
  (rp18 (L.o _))
theorem rr_16 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_16 (F := Ideal) arg5 arg8 arg10 v3 X_arg5 X_arg8 X_arg10 k) H.do_ :=
  (rp24 L.gn (rr_12 L) (rr_13 L) (rr_14 L) (rr_15 L) H.var_pos)
theorem rr_17 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_17 (F := Ideal) arg17 f_arg17) H.dst :=
  (rp25 (L.dst _))
theorem rr_18 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_18 (F := Ideal) arg17 f_arg17) H.dst :=
  (rp26 (L.dst _))
theorem rr_19 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_19 (F := Ideal) arg2 X_arg2 k) H.q :=
  (rp27 (rr_5 L))
theorem rr_20 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_20 (F := Ideal) arg3 arg6 X_arg3 X_arg6 k) H.k :=
  (rp28 (rr_7 L))
theorem rr_21 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_21 (F := Ideal) arg3 arg6 arg11 X_arg3 X_arg6 X_arg11 k) H.fc :=
  (rp29 (rr_10 L))
theorem rr_22 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_22 (F := Ideal) arg3 arg6 arg11 X_arg3 X_arg6 X_arg11 k) H.ft :=
  (rp30 (rr_10 L))
theorem rr_23 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_23 (F := Ideal) arg2 arg3 arg6 arg11 X_arg2 X_arg3 X_arg6 X_arg11 k) H.qin :=
  (rp31 (rr_5 L) (rr_21 L))
theorem rr_24 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_24 (F := Ideal) arg3 arg6 arg11 X_arg3 X_arg6 X_arg11 k) H.kdec :=
  (rp32 (rr_7 L) (rr_22 L))
theorem rr_25 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_25 (F := Ideal) arg5 arg8 arg9 arg10 v3 X_arg5 X_arg8 X_arg9 X_arg10 k) H.tin :=
  (rp33 (rr_16 L) (L.st _))
theorem rr_26 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_26 (F := Ideal) arg4 arg17 X_arg4 k f_arg17) H.tst :=
  (rp34 (rr_9 L) (rr_17 L))
theorem rr_27 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_27 (F := Ideal) arg4 arg5 arg8 arg10 v3 X_arg4 X_arg5 X_arg8 X_arg10 k) H.da :=
  (rp35 (rr_9 L) (rr_16 L))
theorem rr_28 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_28 (F := Ideal) arg2 arg3 arg6 arg12 X_arg2 X_arg3 X_arg6 X_arg12 k) (H.aa 0) :=
  (rp37 (rr_11 L) (rr_19 L) (rr_20 L))
theorem rr_29 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_29 (F := Ideal) arg3 arg4 arg5 arg6 arg8 arg9 arg10 arg11 arg12 v3 X_arg3 X_arg4 X_arg5 X_arg6 X_arg8 X_arg9 X_arg10 X_arg11 X_arg12 k) (H.dqa 0) :=
  (rp38 (rr_9 L) (rr_11 L) (rr_16 L) (rr_20 L) (rr_21 L) (L.st _))
theorem rr_30 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_30 (F := Ideal) arg2 arg3 arg4 arg5 arg6 arg8 arg10 arg11 arg12 arg17 v3 X_arg2 X_arg3 X_arg4 X_arg5 X_arg6 X_arg8 X_arg10 X_arg11 X_arg12 k f_arg17) (H.dka 0) :=
  (rp39 (rr_9 L) (rr_11 L) (rr_16 L) (rr_17 L) (rr_19 L) (rr_22 L))
theorem rr_31 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_31 (F := Ideal) arg2 arg3 arg6 arg11 X_arg2 X_arg3 X_arg6 X_arg11 k) H.qin :=
  (rp40 (rr_5 L) (rr_21 L))
theorem rr_32 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_32 (F := Ideal) arg2 arg3 arg4 arg5 arg6 arg8 arg10 arg11 arg12 arg17 v3 X_arg2 X_arg3 X_arg4 X_arg5 X_arg6 X_arg8 X_arg10 X_arg11 X_arg12 k f_arg17) (H.dka 1) :=
  (rp48 (rr_5 L) (rr_10 L) (rr_11 L) (rr_27 L) (rr_30 L))
theorem rr_33 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_33 (F := Ideal) arg2 arg3 arg4 arg5 arg6 arg8 arg9 arg10 arg11 arg12 arg17 v3 X_arg2 X_arg3 X_arg4 X_arg5 X_arg6 X_arg8 X_arg9 X_arg10 X_arg11 X_arg12 k f_arg17) (H.dba 1) :=
  (rp49 (rr_5 L) (rr_7 L) (rr_10 L) (rr_11 L) (rr_24 L) (rr_25 L) (rr_26 L) (rr_27 L) (rr_31 L))
theorem rr_34 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_34 (F := Ideal) arg3 arg6 arg11 X_arg3 X_arg6 X_arg11 k) (H.fk 1) :=
  (rp51 (rr_10 L))
theorem rr_35 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_35 (F := Ideal) arg2 arg3 arg6 arg11 X_arg2 X_arg3 X_arg6 X_arg11 k) (H.qs 1) :=
  (rp52 (rr_5 L) (rr_10 L))
theorem rr_36 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_36 (F := Ideal) arg3 arg6 arg11 X_arg3 X_arg6 X_arg11 k) (H.ks 1) :=
  (rp53 (rr_7 L) (rr_10 L))
theorem rr_37 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_37 (F := Ideal) arg2 arg3 arg6 arg11 arg12 X_arg2 X_arg3 X_arg6 X_arg11 X_arg12 k) (H.aa 2) :=
  (rp54 (rr_5 L) (rr_7 L) (rr_10 L) (rr_11 L) (rr_28 L))
theorem rr_38 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_38 (F := Ideal) arg3 arg4 arg5 arg6 arg8 arg10 arg11 arg12 v3 X_arg3 X_arg4 X_arg5 X_arg6 X_arg8 X_arg10 X_arg11 X_arg12 k) (H.tq 1) :=
  (rp56 (rr_7 L) (rr_10 L) (rr_11 L) (rr_27 L))
theorem rr_39 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_39 (F := Ideal) arg2 arg3 arg4 arg5 arg6 arg8 arg10 arg11 arg12 v3 X_arg2 X_arg3 X_arg4 X_arg5 X_arg6 X_arg8 X_arg10 X_arg11 X_arg12 k) (H.tk 1) :=
  (rp57 (rr_5 L) (rr_10 L) (rr_11 L) (rr_27 L))
theorem rr_40 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_40 (F := Ideal) arg3 arg4 arg5 arg6 arg8 arg9 arg10 arg11 arg12 v3 X_arg3 X_arg4 X_arg5 X_arg6 X_arg8 X_arg9 X_arg10 X_arg11 X_arg12 k) (H.dqa 2) :=
  (rp58 (rr_7 L) (rr_10 L) (rr_11 L) (rr_27 L) (rr_29 L))
theorem rr_41 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_41 (F := Ideal) arg3 arg4 arg5 arg6 arg8 arg9 arg10 arg11 arg12 v3 X_arg3 X_arg4 X_arg5 X_arg6 X_arg8 X_arg9 X_arg10 X_arg11 X_arg12 k) (H.dqa 3) :=
  (rp66 (rr_7 L) (rr_10 L) (rr_11 L) (rr_27 L) (rr_40 L))
theorem rr_42 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_42 (F := Ideal) arg2 arg3 arg4 arg5 arg6 arg8 arg10 arg11 arg12 arg17 v3 X_arg2 X_arg3 X_arg4 X_arg5 X_arg6 X_arg8 X_arg10 X_arg11 X_arg12 k f_arg17) (H.dka 3) :=
  (rp67 (rr_5 L) (rr_10 L) (rr_11 L) (rr_27 L) (rr_32 L) (rr_34 L) (rr_39 L))
theorem rr_43 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_43 (F := Ideal) arg2 arg3 arg4 arg5 arg6 arg8 arg9 arg10 arg11 arg12 arg17 v3 X_arg2 X_arg3 X_arg4 X_arg5 X_arg6 X_arg8 X_arg9 X_arg10 X_arg11 X_arg12 k f_arg17) (H.dba 3) :=
  (rp68 (rr_5 L) (rr_7 L) (rr_10 L) (rr_11 L) (rr_27 L) (rr_33 L) (rr_35 L) (rr_36 L) (rr_38 L) (rr_39 L))
theorem rr_44 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_44 (F := Ideal) arg3 arg6 arg11 X_arg3 X_arg6 X_arg11 k) (H.fq 3) :=
  (rp69 (rr_10 L))
theorem rr_45 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_45 (F := Ideal) arg3 arg6 arg11 X_arg3 X_arg6 X_arg11 k) (H.fk 3) :=
  (rp70 (rr_10 L))
theorem rr_46 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_46 (F := Ideal) arg2 arg3 arg6 arg11 X_arg2 X_arg3 X_arg6 X_arg11 k) (H.qs 3) :=
  (rp71 (rr_5 L) (rr_10 L))
theorem rr_47 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_47 (F := Ideal) arg3 arg6 arg11 X_arg3 X_arg6 X_arg11 k) (H.ks 3) :=
  (rp72 (rr_7 L) (rr_10 L))
theorem rr_48 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_48 (F := Ideal) arg2 arg3 arg6 arg11 arg12 X_arg2 X_arg3 X_arg6 X_arg11 X_arg12 k) (H.aa 4) :=
  (rp73 (rr_5 L) (rr_7 L) (rr_10 L) (rr_11 L) (rr_37 L))
theorem rr_49 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_49 (F := Ideal) arg4 arg5 arg8 arg10 arg12 v3 X_arg4 X_arg5 X_arg8 X_arg10 X_arg12 k) (H.dam 3) :=
  (rp74 (rr_11 L) (rr_27 L))
theorem rr_50 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_50 (F := Ideal) arg3 arg4 arg5 arg6 arg8 arg10 arg11 arg12 v3 X_arg3 X_arg4 X_arg5 X_arg6 X_arg8 X_arg10 X_arg11 X_arg12 k) (H.tq 3) :=
  (rp75 (rr_7 L) (rr_10 L) (rr_11 L) (rr_27 L))
theorem rr_51 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_51 (F := Ideal) arg3 arg4 arg5 arg6 arg8 arg9 arg10 arg11 arg12 v3 X_arg3 X_arg4 X_arg5 X_arg6 X_arg8 X_arg9 X_arg10 X_arg11 X_arg12 k) (H.dqa 5) :=
  (rp84 (rr_7 L) (rr_10 L) (rr_11 L) (rr_27 L) (rr_41 L) (rr_44 L) (rr_50 L))
theorem rr_52 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_52 (F := Ideal) arg2 arg3 arg4 arg5 arg6 arg8 arg10 arg11 arg12 arg17 v3 X_arg2 X_arg3 X_arg4 X_arg5 X_arg6 X_arg8 X_arg10 X_arg11 X_arg12 k f_arg17) (H.dka 5) :=
  (rp85 (rr_5 L) (rr_10 L) (rr_11 L) (rr_27 L) (rr_42 L) (rr_45 L) (rr_46 L) (rr_49 L))
theorem rr_53 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_53 (F := Ideal) arg2 arg3 arg4 arg5 arg6 arg8 arg9 arg10 arg11 arg12 arg17 v3 X_arg2 X_arg3 X_arg4 X_arg5 X_arg6 X_arg8 X_arg9 X_arg10 X_arg11 X_arg12 k f_arg17) (H.dba 5) :=
  (rp86 (rr_5 L) (rr_7 L) (rr_10 L) (rr_11 L) (rr_27 L) (rr_43 L) (rr_46 L) (rr_47 L) (rr_49 L) (rr_50 L))
theorem rr_54 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_54 (F := Ideal) arg3 arg6 arg11 X_arg3 X_arg6 X_arg11 k) (H.fq 5) :=
  (rp87 (rr_10 L))
theorem rr_55 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_55 (F := Ideal) arg3 arg6 arg11 X_arg3 X_arg6 X_arg11 k) (H.fk 5) :=
  (rp88 (rr_10 L))
theorem rr_56 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_56 (F := Ideal) arg2 arg3 arg6 arg11 X_arg2 X_arg3 X_arg6 X_arg11 k) (H.qs 5) :=
  (rp89 (rr_5 L) (rr_10 L))
theorem rr_57 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_57 (F := Ideal) arg3 arg6 arg11 X_arg3 X_arg6 X_arg11 k) (H.ks 5) :=
  (rp90 (rr_7 L) (rr_10 L))
theorem rr_58 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_58 (F := Ideal) arg2 arg3 arg6 arg11 arg12 X_arg2 X_arg3 X_arg6 X_arg11 X_arg12 k) (H.aa 6) :=
  (rp91 (rr_5 L) (rr_7 L) (rr_10 L) (rr_11 L) (rr_48 L))
theorem rr_59 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_59 (F := Ideal) arg12 X_arg12) (H.mask 5) :=
  (rp92 (rr_11 L))
theorem rr_60 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_60 (F := Ideal) arg3 arg4 arg5 arg6 arg8 arg9 arg10 arg11 arg12 v3 X_arg3 X_arg4 X_arg5 X_arg6 X_arg8 X_arg9 X_arg10 X_arg11 X_arg12 k) (H.dqa 7) :=
  (rp103 (rr_7 L) (rr_10 L) (rr_11 L) (rr_27 L) (rr_51 L) (rr_54 L) (rr_57 L) (rr_59 L))
theorem rr_61 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_61 (F := Ideal) arg2 arg3 arg4 arg5 arg6 arg8 arg10 arg11 arg12 arg17 v3 X_arg2 X_arg3 X_arg4 X_arg5 X_arg6 X_arg8 X_arg10 X_arg11 X_arg12 k f_arg17) (H.dka 7) :=
  (rp104 (rr_5 L) (rr_10 L) (rr_11 L) (rr_27 L) (rr_52 L) (rr_55 L) (rr_56 L) (rr_59 L))
theorem rr_62 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_62 (F := Ideal) arg2 arg3 arg4 arg5 arg6 arg8 arg9 arg10 arg11 arg12 arg17 v3 X_arg2 X_arg3 X_arg4 X_arg5 X_arg6 X_arg8 X_arg9 X_arg10 X_arg11 X_arg12 k f_arg17) (H.dba 7) :=
  (rp105 (rr_5 L) (rr_7 L) (rr_10 L) (rr_11 L) (rr_27 L) (rr_53 L) (rr_56 L) (rr_57 L) (rr_59 L))
theorem rr_63 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_63 (F := Ideal) arg2 arg3 arg5 arg6 arg8 arg10 arg11 arg12 arg17 v3 X_arg2 X_arg3 X_arg5 X_arg6 X_arg8 X_arg10 X_arg11 X_arg12 k f_arg17) H.dv :=
  (rp106 (rr_5 L) (rr_7 L) (rr_10 L) (rr_11 L) (rr_16 L) (rr_18 L) (rr_24 L) (rr_58 L))
theorem rr_64 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_64 (F := Ideal) arg2 arg3 arg5 arg6 arg8 arg10 arg11 arg17 v3 X_arg2 X_arg3 X_arg5 X_arg6 X_arg8 X_arg10 X_arg11 k f_arg17) H.dst' :=
  (rp107 (rr_16 L) (rr_17 L) (rr_21 L) (rr_23 L))
theorem rr_65 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_65 (F := Ideal) arg2 arg3 arg4 arg5 arg6 arg8 arg9 arg10 arg11 arg12 arg13 arg17 arg18 v3 X_arg2 X_arg3 X_arg4 X_arg5 X_arg6 X_arg8 X_arg9 X_arg10 X_arg11 X_arg12 X_arg13 k f_arg17 f_arg18) H.dfg :=
  (rp111 (rr_4 L) (rr_61 L) (rr_62 L) (L.suf _) (L.run _) (H.fg_ne L.pos))
theorem rr_66 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepR (trip_k0_t1.sl.r_66 (F := Ideal) arg6 X_arg6) H.lb :=
  (L.lb _)
theorem rr_67 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_67 (F := Ideal) arg2 X_arg2 k) H.q0 :=
  (L.q0 _)
theorem rr_68 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_68 (F := Ideal) arg3 X_arg3 k) H.f0 :=
  (L.f0 _)
theorem rr_69 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_69 (F := Ideal) arg2 X_arg2 k) (mexp ((mcst 0) - (mabs H.q0))) :=
  (rp116 (L.q0 _))
theorem rr_70 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepG (trip_k0_t1.sl.r_70 (F := Ideal) arg2 X_arg2 k) H.q0 (mcst 0) :=
  (rp117 (L.q0 _))
theorem rr_71 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_71 (F := Ideal) arg2 X_arg2 k) H.sq :=
  (rp118 (rr_69 L) (rr_70 L) repS_one (one_add_exp_ne _))
theorem rr_72 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_72 (F := Ideal) arg3 X_arg3 k) H.sf :=
  (rp119 (rr_68 L))
theorem rr_73 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_73 (F := Ideal) arg3 arg6 X_arg3 X_arg6 k) H.fg :=
  (rp120 (rr_66 L) (rr_68 L))
theorem rr_74 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_74 (F := Ideal) arg2 X_arg2 k) H.q :=
  (rp121 (rr_67 L) (rr_69 L) (rr_70 L) repS_one (one_add_exp_ne _))
theorem rr_75 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_75 (F := Ideal) arg3 arg6 X_arg3 X_arg6 k) H.k :=
  (rp122 (rr_66 L) (rr_68 L))
theorem rr_76 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_76 (F := Ideal) arg4 X_arg4 k) H.i0 :=
  (rp123 (L.i0 _))
theorem rr_77 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepL (trip_k0_t1.sl.r_77 (F := Ideal) arg3 arg6 arg11 X_arg3 X_arg6 X_arg11 k) H.ex :=
  (rp124 (rr_66 L) (rr_68 L) (L.M _) L.pos)
theorem rr_78 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepK (trip_k0_t1.sl.r_78 (F := Ideal) arg12 X_arg12) H.mask :=
  (L.mask _)
theorem rr_79 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepK (trip_k0_t1.sl.r_79 (F := Ideal) arg12 X_arg12) H.mask :=
  (rp125 (rr_78 L))
theorem rr_80 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepC (trip_k0_t1.sl.r_80 (F := Ideal) arg8 X_arg8 k) H.r :=
  (rp128 (L.o _) H.var_pos)
theorem rr_81 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_81 (F := Ideal) arg8 X_arg8 k) H.ohat :=
  (rp129 (L.o _) H.var_pos)
theorem rr_82 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_82 (F := Ideal) arg5 arg10 X_arg5 X_arg10 k) H.dyn :=
  (rp130 (L.dy _) (L.g0 _))
theorem rr_84 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_84 (F := Ideal) arg5 arg8 arg10 v3 X_arg5 X_arg8 X_arg10 k) H.do_ :=
  (rp134 L.gn (rr_80 L) (rr_81 L) (rr_82 L))
theorem rr_v590 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (trip_k0_t1.sl.v590 (F := Ideal) arg17 f_arg17) H.dst :=
  (L.dst _)
theorem rr_85 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_85 (F := Ideal) arg17 f_arg17) H.dst :=
  (rp135 (rr_v590 L))
theorem rr_86 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_86 (F := Ideal) arg17 f_arg17) H.dst :=
  (rp136 (rr_v590 L))
theorem rr_87 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_87 (F := Ideal) arg2 X_arg2 k) H.q :=
  (rp137 (rr_74 L))
theorem rr_88 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_88 (F := Ideal) arg3 arg6 X_arg3 X_arg6 k) H.k :=
  (rp138 (rr_75 L))
theorem rr_89 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_89 (F := Ideal) arg3 arg6 arg11 X_arg3 X_arg6 X_arg11 k) H.fc :=
  (rp139 (rr_77 L))
theorem rr_90 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_90 (F := Ideal) arg3 arg6 arg11 X_arg3 X_arg6 X_arg11 k) H.ft :=
  (rp140 (rr_77 L))
theorem rr_91 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_91 (F := Ideal) arg2 arg3 arg6 arg11 X_arg2 X_arg3 X_arg6 X_arg11 k) H.qin :=
  (rp141 (rr_74 L) (rr_77 L))
theorem rr_92 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_92 (F := Ideal) arg3 arg6 arg11 X_arg3 X_arg6 X_arg11 k) H.kdec :=
  (rp142 (rr_75 L) (rr_77 L))
theorem rr_93 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_93 (F := Ideal) arg5 arg8 arg9 arg10 v3 X_arg5 X_arg8 X_arg9 X_arg10 k) H.tin :=
  (rp144 L.gn (rr_80 L) (rr_81 L) (rr_82 L) (L.st _))
theorem rr_94 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_94 (F := Ideal) arg5 arg8 arg9 arg10 v3 X_arg5 X_arg8 X_arg9 X_arg10 k) 0 :=
  (rp145 L.gn (rr_80 L) (rr_81 L) (rr_82 L) (L.st _))
theorem rr_95 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_95 (F := Ideal) arg4 arg5 arg8 arg10 v3 X_arg4 X_arg5 X_arg8 X_arg10 k) H.da :=
  (rp148 (rr_76 L) (rr_84 L))
theorem rr_96 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_96 (F := Ideal) arg3 arg4 arg5 arg6 arg8 arg9 arg10 arg11 arg12 v3 X_arg3 X_arg4 X_arg5 X_arg6 X_arg8 X_arg9 X_arg10 X_arg11 X_arg12 k) (H.dqa 0) :=
  (rp150 (rr_76 L) (rr_79 L) (rr_84 L) (rr_88 L) (rr_89 L) (rr_93 L) (rr_94 L))
theorem rr_97 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_97 (F := Ideal) arg2 arg3 arg4 arg5 arg6 arg8 arg10 arg11 arg12 arg17 v3 X_arg2 X_arg3 X_arg4 X_arg5 X_arg6 X_arg8 X_arg10 X_arg11 X_arg12 k f_arg17) (H.dka 0) :=
  (rp151 (rr_76 L) (rr_79 L) (rr_84 L) (rr_85 L) (rr_87 L) (rr_90 L))
theorem rr_98 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_98 (F := Ideal) arg2 arg3 arg4 arg5 arg6 arg8 arg9 arg10 arg11 arg17 v3 X_arg2 X_arg3 X_arg4 X_arg5 X_arg6 X_arg8 X_arg9 X_arg10 X_arg11 k f_arg17) (H.dba 0) :=
  (rp152 (rr_76 L) (rr_85 L) (rr_91 L) (rr_92 L) (rr_93 L) (rr_94 L))
theorem rr_99 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_99 (F := Ideal) arg3 arg6 arg11 X_arg3 X_arg6 X_arg11 k) (H.fq 0) :=
  (rp153 (rr_77 L))
theorem rr_100 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_100 (F := Ideal) arg3 arg6 arg11 X_arg3 X_arg6 X_arg11 k) (H.fk 0) :=
  (rp154 (rr_77 L))
theorem rr_101 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_101 (F := Ideal) arg2 arg3 arg6 arg11 X_arg2 X_arg3 X_arg6 X_arg11 k) (H.qs 0) :=
  (rp155 (rr_74 L) (rr_77 L))
theorem rr_102 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_102 (F := Ideal) arg3 arg6 arg11 X_arg3 X_arg6 X_arg11 k) (H.ks 0) :=
  (rp156 (rr_75 L) (rr_77 L))
theorem rr_103 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_103 (F := Ideal) arg2 arg3 arg6 arg11 arg12 X_arg2 X_arg3 X_arg6 X_arg11 X_arg12 k) (H.aa 1) :=
  (rp157 (rr_74 L) (rr_75 L) (rr_77 L) (rr_79 L) (rr_87 L) (rr_88 L))
theorem rr_104 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_104 (F := Ideal) arg4 arg5 arg8 arg10 arg12 v3 X_arg4 X_arg5 X_arg8 X_arg10 X_arg12 k) (H.dam 0) :=
  (rp158 (rr_76 L) (rr_79 L) (rr_84 L))
theorem rr_105 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_105 (F := Ideal) arg3 arg4 arg5 arg6 arg8 arg10 arg11 arg12 v3 X_arg3 X_arg4 X_arg5 X_arg6 X_arg8 X_arg10 X_arg11 X_arg12 k) (H.tq 0) :=
  (rp159 (rr_75 L) (rr_76 L) (rr_77 L) (rr_79 L) (rr_84 L))
theorem rr_106 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_106 (F := Ideal) arg3 arg4 arg5 arg6 arg8 arg9 arg10 arg11 arg12 v3 X_arg3 X_arg4 X_arg5 X_arg6 X_arg8 X_arg9 X_arg10 X_arg11 X_arg12 k) (H.dqa 2) :=
  (rp168 (rr_75 L) (rr_77 L) (rr_79 L) (rr_95 L) (rr_96 L) (rr_99 L) (rr_105 L))
theorem rr_107 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_107 (F := Ideal) arg2 arg3 arg4 arg5 arg6 arg8 arg10 arg11 arg12 arg17 v3 X_arg2 X_arg3 X_arg4 X_arg5 X_arg6 X_arg8 X_arg10 X_arg11 X_arg12 k f_arg17) (H.dka 2) :=
  (rp169 (rr_74 L) (rr_77 L) (rr_79 L) (rr_95 L) (rr_97 L) (rr_100 L) (rr_101 L) (rr_104 L))
theorem rr_108 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_108 (F := Ideal) arg2 arg3 arg4 arg5 arg6 arg8 arg9 arg10 arg11 arg12 arg17 v3 X_arg2 X_arg3 X_arg4 X_arg5 X_arg6 X_arg8 X_arg9 X_arg10 X_arg11 X_arg12 k f_arg17) (H.dba 2) :=
  (rp170 (rr_74 L) (rr_75 L) (rr_77 L) (rr_79 L) (rr_95 L) (rr_98 L) (rr_101 L) (rr_102 L) (rr_104 L) (rr_105 L))
theorem rr_109 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_109 (F := Ideal) arg3 arg6 arg11 X_arg3 X_arg6 X_arg11 k) (H.fq 2) :=
  (rp171 (rr_77 L))
theorem rr_110 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_110 (F := Ideal) arg3 arg6 arg11 X_arg3 X_arg6 X_arg11 k) (H.fk 2) :=
  (rp172 (rr_77 L))
theorem rr_111 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_111 (F := Ideal) arg2 arg3 arg6 arg11 X_arg2 X_arg3 X_arg6 X_arg11 k) (H.qs 2) :=
  (rp173 (rr_74 L) (rr_77 L))
theorem rr_112 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_112 (F := Ideal) arg3 arg6 arg11 X_arg3 X_arg6 X_arg11 k) (H.ks 2) :=
  (rp174 (rr_75 L) (rr_77 L))
theorem rr_113 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_113 (F := Ideal) arg2 arg3 arg6 arg11 arg12 X_arg2 X_arg3 X_arg6 X_arg11 X_arg12 k) (H.aa 3) :=
  (rp175 (rr_74 L) (rr_75 L) (rr_77 L) (rr_79 L) (rr_103 L))
theorem rr_114 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_114 (F := Ideal) arg12 X_arg12) (H.mask 2) :=
  (rp176 (rr_79 L))
theorem rr_115 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_115 (F := Ideal) arg2 arg3 arg6 arg11 arg12 X_arg2 X_arg3 X_arg6 X_arg11 X_arg12 k) (H.aa 4) :=
  (rp184 (rr_74 L) (rr_75 L) (rr_77 L) (rr_79 L) (rr_113 L))
theorem rr_116 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_116 (F := Ideal) arg3 arg4 arg5 arg6 arg8 arg9 arg10 arg11 arg12 v3 X_arg3 X_arg4 X_arg5 X_arg6 X_arg8 X_arg9 X_arg10 X_arg11 X_arg12 k) (H.dqa 4) :=
  (rp188 (rr_75 L) (rr_77 L) (rr_79 L) (rr_95 L) (rr_106 L) (rr_109 L) (rr_112 L) (rr_114 L))
theorem rr_117 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_117 (F := Ideal) arg2 arg3 arg4 arg5 arg6 arg8 arg10 arg11 arg12 arg17 v3 X_arg2 X_arg3 X_arg4 X_arg5 X_arg6 X_arg8 X_arg10 X_arg11 X_arg12 k f_arg17) (H.dka 4) :=
  (rp189 (rr_74 L) (rr_77 L) (rr_79 L) (rr_95 L) (rr_107 L) (rr_110 L) (rr_111 L) (rr_114 L))
theorem rr_118 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_118 (F := Ideal) arg2 arg3 arg4 arg5 arg6 arg8 arg9 arg10 arg11 arg12 arg17 v3 X_arg2 X_arg3 X_arg4 X_arg5 X_arg6 X_arg8 X_arg9 X_arg10 X_arg11 X_arg12 k f_arg17) (H.dba 4) :=
  (rp190 (rr_74 L) (rr_75 L) (rr_77 L) (rr_79 L) (rr_95 L) (rr_108 L) (rr_111 L) (rr_112 L) (rr_114 L))
theorem rr_119 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_119 (F := Ideal) arg3 arg6 arg11 X_arg3 X_arg6 X_arg11 k) (H.fq 4) :=
  (rp191 (rr_77 L))
theorem rr_120 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_120 (F := Ideal) arg3 arg6 arg11 X_arg3 X_arg6 X_arg11 k) (H.fk 4) :=
  (rp192 (rr_77 L))
theorem rr_121 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_121 (F := Ideal) arg2 arg3 arg6 arg11 X_arg2 X_arg3 X_arg6 X_arg11 k) (H.qs 4) :=
  (rp193 (rr_74 L) (rr_77 L))
theorem rr_122 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_122 (F := Ideal) arg3 arg6 arg11 X_arg3 X_arg6 X_arg11 k) (H.ks 4) :=
  (rp194 (rr_75 L) (rr_77 L))
theorem rr_123 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_123 (F := Ideal) arg12 X_arg12) (H.mask 4) :=
  (rp195 (rr_79 L))
theorem rr_124 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_124 (F := Ideal) arg2 arg3 arg6 arg11 X_arg2 X_arg3 X_arg6 X_arg11 k) (mmT (H.qs 4) (H.ks 4)) :=
  (rp196 (rr_74 L) (rr_75 L) (rr_77 L))
theorem rr_125 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_125 (F := Ideal) arg2 arg3 arg6 arg11 arg12 X_arg2 X_arg3 X_arg6 X_arg11 X_arg12 k) (H.aa 6) :=
  (rp204 (rr_74 L) (rr_75 L) (rr_77 L) (rr_79 L) (rr_115 L) (rr_123 L) (rr_124 L))
theorem rr_126 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_126 (F := Ideal) arg3 arg4 arg5 arg6 arg8 arg9 arg10 arg11 arg12 v3 X_arg3 X_arg4 X_arg5 X_arg6 X_arg8 X_arg9 X_arg10 X_arg11 X_arg12 k) (H.dqa 6) :=
  (rp208 (rr_75 L) (rr_77 L) (rr_79 L) (rr_95 L) (rr_116 L) (rr_119 L) (rr_122 L))
theorem rr_127 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_127 (F := Ideal) arg2 arg3 arg4 arg5 arg6 arg8 arg10 arg11 arg12 arg17 v3 X_arg2 X_arg3 X_arg4 X_arg5 X_arg6 X_arg8 X_arg10 X_arg11 X_arg12 k f_arg17) (H.dka 6) :=
  (rp209 (rr_74 L) (rr_77 L) (rr_79 L) (rr_95 L) (rr_117 L) (rr_120 L) (rr_121 L))
theorem rr_128 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_128 (F := Ideal) arg2 arg3 arg4 arg5 arg6 arg8 arg9 arg10 arg11 arg12 arg17 v3 X_arg2 X_arg3 X_arg4 X_arg5 X_arg6 X_arg8 X_arg9 X_arg10 X_arg11 X_arg12 k f_arg17) (H.dba 6) :=
  (rp210 (rr_74 L) (rr_75 L) (rr_77 L) (rr_79 L) (rr_95 L) (rr_118 L) (rr_121 L) (rr_122 L))
theorem rr_129 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_129 (F := Ideal) arg3 arg6 arg11 X_arg3 X_arg6 X_arg11 k) (H.fq 6) :=
  (rp211 (rr_77 L))
theorem rr_130 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_130 (F := Ideal) arg3 arg6 arg11 X_arg3 X_arg6 X_arg11 k) (H.fk 6) :=
  (rp212 (rr_77 L))
theorem rr_131 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_131 (F := Ideal) arg2 arg3 arg6 arg11 X_arg2 X_arg3 X_arg6 X_arg11 k) (H.qs 6) :=
  (rp213 (rr_74 L) (rr_77 L))
theorem rr_132 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_132 (F := Ideal) arg3 arg6 arg11 X_arg3 X_arg6 X_arg11 k) (H.ks 6) :=
  (rp214 (rr_75 L) (rr_77 L))
theorem rr_133 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_133 (F := Ideal) arg3 arg4 arg5 arg6 arg8 arg9 arg10 arg11 arg12 v3 X_arg3 X_arg4 X_arg5 X_arg6 X_arg8 X_arg9 X_arg10 X_arg11 X_arg12 k) (H.dqa 7) :=
  (rp218 (rr_79 L) (rr_95 L) (rr_126 L) (rr_129 L) (rr_132 L))
theorem rr_134 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_134 (F := Ideal) arg2 arg3 arg4 arg5 arg6 arg8 arg10 arg11 arg12 arg17 v3 X_arg2 X_arg3 X_arg4 X_arg5 X_arg6 X_arg8 X_arg10 X_arg11 X_arg12 k f_arg17) (H.dka 7) :=
  (rp219 (rr_79 L) (rr_95 L) (rr_127 L) (rr_130 L) (rr_131 L))
theorem rr_135 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_135 (F := Ideal) arg2 arg3 arg5 arg6 arg8 arg10 arg11 arg12 arg17 v3 X_arg2 X_arg3 X_arg5 X_arg6 X_arg8 X_arg10 X_arg11 X_arg12 k f_arg17) H.dv :=
  (rp220 (rr_79 L) (rr_84 L) (rr_86 L) (rr_92 L) (rr_125 L) (rr_131 L) (rr_132 L))
theorem rr_136 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepP (trip_k0_t1.sl.r_136 (F := Ideal) arg2 arg3 arg4 arg5 arg6 arg8 arg9 arg10 arg11 arg12 arg13 arg17 v3 X_arg2 X_arg3 X_arg4 X_arg5 X_arg6 X_arg8 X_arg9 X_arg10 X_arg11 X_arg12 X_arg13 k f_arg17) (mmN H.suf (H.dba 7)) :=
  (rp222 (rr_79 L) (rr_95 L) (rr_128 L) (rr_131 L) (rr_132 L) (L.suf _))
theorem rr_137 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_137 (F := Ideal) arg2 arg3 arg4 arg5 arg6 arg8 arg9 arg10 arg11 arg12 arg13 arg17 v3 X_arg2 X_arg3 X_arg4 X_arg5 X_arg6 X_arg8 X_arg9 X_arg10 X_arg11 X_arg12 X_arg13 k f_arg17) (mmN H.suf (H.dba 7)) :=
  (rp223 (rr_79 L) (rr_95 L) (rr_128 L) (rr_131 L) (rr_132 L) (L.suf _))
theorem rr_138 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_138 (F := Ideal) arg2 arg3 arg4 arg5 arg6 arg8 arg9 arg10 arg11 arg12 v3 X_arg2 X_arg3 X_arg4 X_arg5 X_arg6 X_arg8 X_arg9 X_arg10 X_arg11 X_arg12 k) ((H.dqa 7) * H.sq) :=
  (rp229 (rr_71 L) (rr_133 L))
theorem rr_139 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    Rep (trip_k0_t1.sl.r_139 (F := Ideal) arg2 X_arg2 k) (H.q0 * ((mcst 1) - H.sq)) :=
  (rp230 (rr_67 L) (rr_71 L))
theorem rr_v885 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepRR (trip_k0_t1.sl.v885 (F := Ideal) arg18 f_arg18) H.run :=
  (L.run _)
theorem p14_12 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay6 (F := Ideal) (trip_k0_t1.sl.r_135 (F := Ideal) arg2 arg3 arg5 arg6 arg8 arg10 arg11 arg12 arg17 v3 X_arg2 X_arg3 X_arg5 X_arg6 X_arg8 X_arg10 X_arg11 X_arg12 k f_arg17)) (H.dv) :=
  (rp6 (rr_135 L))
theorem p14_11 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay5 (F := Ideal) (trip_k0_t1.sl.r_138 (F := Ideal) arg2 arg3 arg4 arg5 arg6 arg8 arg9 arg10 arg11 arg12 v3 X_arg2 X_arg3 X_arg4 X_arg5 X_arg6 X_arg8 X_arg9 X_arg10 X_arg11 X_arg12 k) (trip_k0_t1.sl.r_139 (F := Ideal) arg2 X_arg2 k) k0_pay231) (H.dp0) :=
  (rp5 (rr_138 L) (rr_139 L) (rep_cst repS_one))
theorem p14_10 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay228 (F := Ideal) (trip_k0_t1.sl.r_66 (F := Ideal) arg6 X_arg6) (trip_k0_t1.sl.r_72 (F := Ideal) arg3 X_arg3 k) (trip_k0_t1.sl.r_73 (F := Ideal) arg3 arg6 X_arg3 X_arg6 k) (trip_k0_t1.sl.r_134 (F := Ideal) arg2 arg3 arg4 arg5 arg6 arg8 arg10 arg11 arg12 arg17 v3 X_arg2 X_arg3 X_arg4 X_arg5 X_arg6 X_arg8 X_arg10 X_arg11 X_arg12 k f_arg17) (trip_k0_t1.sl.r_136 (F := Ideal) arg2 arg3 arg4 arg5 arg6 arg8 arg9 arg10 arg11 arg12 arg13 arg17 v3 X_arg2 X_arg3 X_arg4 X_arg5 X_arg6 X_arg8 X_arg9 X_arg10 X_arg11 X_arg12 X_arg13 k f_arg17) (trip_k0_t1.sl.r_137 (F := Ideal) arg2 arg3 arg4 arg5 arg6 arg8 arg9 arg10 arg11 arg12 arg13 arg17 v3 X_arg2 X_arg3 X_arg4 X_arg5 X_arg6 X_arg8 X_arg9 X_arg10 X_arg11 X_arg12 X_arg13 k f_arg17) (trip_k0_t1.sl.v885 (F := Ideal) arg18 f_arg18)) (H.dp1) :=
  (rp228 (rr_66 L) (rr_72 L) (rr_73 L) (rr_134 L) (rr_136 L) (rr_137 L) (rr_v885 L) (H.fg_ne L.pos))
theorem p14_8 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) {inb_arg8} {inb_arg10} {inb_arg5} :
    RepB (k0_pay131 (F := Ideal) v3 (View.readAt (Elt Ideal) arg8.view (Rect.unit (s := S512x256) (k0_off7 k) S128x128.size inb_arg8).toLoadRect X_arg8) (View.readAt (Elt Ideal) arg10.view (Rect.unit (s := S512x256) (k0_off7 k) S128x128.size inb_arg10).toLoadRect X_arg10) (View.readAt (Elt Ideal) arg5.view (Rect.unit (s := S512x256) (k0_off7 k) S128x128.size inb_arg5).toLoadRect X_arg5)) (H.dp3) :=
  (rp131 L.gn (L.o _) (L.dy _) (L.g0 _) H.var_pos)
theorem p14_6 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay115 (F := Ideal) (trip_k0_t1.sl.r_63 (F := Ideal) arg2 arg3 arg5 arg6 arg8 arg10 arg11 arg12 arg17 v3 X_arg2 X_arg3 X_arg5 X_arg6 X_arg8 X_arg10 X_arg11 X_arg12 k f_arg17)) (H.dv) :=
  (rp115 (rr_63 L))
theorem p14_5 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay114 (F := Ideal) (trip_k0_t1.sl.r_1 (F := Ideal) arg2 X_arg2 k) (trip_k0_t1.sl.r_2 (F := Ideal) arg2 X_arg2 k) (trip_k0_t1.sl.r_60 (F := Ideal) arg3 arg4 arg5 arg6 arg8 arg9 arg10 arg11 arg12 v3 X_arg3 X_arg4 X_arg5 X_arg6 X_arg8 X_arg9 X_arg10 X_arg11 X_arg12 k)) (H.dp0) :=
  (rp114 (rr_1 L) (rr_2 L) (rr_60 L))
theorem p14_4 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay113 (F := Ideal) (trip_k0_t1.sl.r (F := Ideal) arg6 X_arg6) (trip_k0_t1.sl.r_3 (F := Ideal) arg3 X_arg3 k) (trip_k0_t1.sl.r_65 (F := Ideal) arg2 arg3 arg4 arg5 arg6 arg8 arg9 arg10 arg11 arg12 arg13 arg17 arg18 v3 X_arg2 X_arg3 X_arg4 X_arg5 X_arg6 X_arg8 X_arg9 X_arg10 X_arg11 X_arg12 X_arg13 k f_arg17 f_arg18) (trip_k0_t1.sl.cst_97 (F := Ideal) )) (H.dp1) :=
  (rp113 (rr L) (rr_3 L) (rr_65 L) repS_one)
theorem p14_2 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay22 (F := Ideal) v3 (trip_k0_t1.sl.r_12 (F := Ideal) arg8 X_arg8 k) (trip_k0_t1.sl.r_13 (F := Ideal) arg10 X_arg10 k) (trip_k0_t1.sl.r_14 (F := Ideal) arg5 X_arg5 k) (trip_k0_t1.sl.r_15 (F := Ideal) arg8 X_arg8 k)) (H.dp3) :=
  (rp22 L.gn (rr_12 L) (rr_13 L) (rr_14 L) (rr_15 L) H.var_pos)
theorem p15_1 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) {x : Vec Ideal S1x128 .f32} {acc : Fin 128 → ℝ} (ha : RepR x acc) :
    RepR (k0_pay227 (F := Ideal) (trip_k0_t1.sl.r_72 (F := Ideal) arg3 X_arg3 k) (trip_k0_t1.sl.r_73 (F := Ideal) arg3 arg6 X_arg3 X_arg6 k) (trip_k0_t1.sl.r_134 (F := Ideal) arg2 arg3 arg4 arg5 arg6 arg8 arg10 arg11 arg12 arg17 v3 X_arg2 X_arg3 X_arg4 X_arg5 X_arg6 X_arg8 X_arg10 X_arg11 X_arg12 k f_arg17) (trip_k0_t1.sl.r_136 (F := Ideal) arg2 arg3 arg4 arg5 arg6 arg8 arg9 arg10 arg11 arg12 arg13 arg17 v3 X_arg2 X_arg3 X_arg4 X_arg5 X_arg6 X_arg8 X_arg9 X_arg10 X_arg11 X_arg12 X_arg13 k f_arg17) (trip_k0_t1.sl.r_137 (F := Ideal) arg2 arg3 arg4 arg5 arg6 arg8 arg9 arg10 arg11 arg12 arg13 arg17 v3 X_arg2 X_arg3 X_arg4 X_arg5 X_arg6 X_arg8 X_arg9 X_arg10 X_arg11 X_arg12 X_arg13 k f_arg17) (trip_k0_t1.sl.v885 (F := Ideal) arg18 f_arg18) x) (acc + H.dlb) :=
  (rp227 (rr_72 L) (rr_73 L) (rr_134 L) (rr_136 L) (rr_137 L) (rr_v885 L) ha (H.fg_ne L.pos))
theorem p15_0 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) {inb_arg13} {inb_arg18} {x : Vec Ideal S1x128 .f32} {acc : Fin 128 → ℝ} (ha : RepR x acc) :
    RepR (k0_pay112 (F := Ideal) (trip_k0_t1.sl.r_3 (F := Ideal) arg3 X_arg3 k) (trip_k0_t1.sl.r_4 (F := Ideal) arg3 arg6 X_arg3 X_arg6 k) (trip_k0_t1.sl.r_61 (F := Ideal) arg2 arg3 arg4 arg5 arg6 arg8 arg10 arg11 arg12 arg17 v3 X_arg2 X_arg3 X_arg4 X_arg5 X_arg6 X_arg8 X_arg10 X_arg11 X_arg12 k f_arg17) (trip_k0_t1.sl.r_62 (F := Ideal) arg2 arg3 arg4 arg5 arg6 arg8 arg9 arg10 arg11 arg12 arg17 v3 X_arg2 X_arg3 X_arg4 X_arg5 X_arg6 X_arg8 X_arg9 X_arg10 X_arg11 X_arg12 k f_arg17) (View.readAt (Elt Ideal) arg13.view (Rect.unit (s := S128x128) ![0, 0] S128x128.size inb_arg13).toLoadRect X_arg13) (View.readAt (Elt Ideal) arg18.view (Rect.unit (s := S2x1x128) ![0, 0, 0] S1x1x128.size inb_arg18).toLoadRect f_arg18) x) (acc + H.dlb) :=
  (rp112 (rr_3 L) (rr_4 L) (rr_61 L) (rr_62 L) (L.suf _) (L.run _) ha (H.fg_ne L.pos))
theorem p16_1 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) {x : Vec Ideal S1x128 .f32} {acc : Fin 128 → ℝ} (ha : RepR x acc) :
    RepR (k0_pay133 (F := Ideal) (trip_k0_t1.sl.r_81 (F := Ideal) arg8 X_arg8 k) (trip_k0_t1.sl.r_82 (F := Ideal) arg5 arg10 X_arg5 X_arg10 k) x) (acc + H.dgn) :=
  (rp133 (rr_81 L) (rr_82 L) ha)
theorem p16_0 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) {x : Vec Ideal S1x128 .f32} {acc : Fin 128 → ℝ} (ha : RepR x acc) :
    RepR (k0_pay23 (F := Ideal) (trip_k0_t1.sl.r_12 (F := Ideal) arg8 X_arg8 k) (trip_k0_t1.sl.r_13 (F := Ideal) arg10 X_arg10 k) (trip_k0_t1.sl.r_14 (F := Ideal) arg5 X_arg5 k) (trip_k0_t1.sl.r_15 (F := Ideal) arg8 X_arg8 k) x) (acc + H.dgn) :=
  (rp23 (rr_12 L) (rr_13 L) (rr_14 L) (rr_15 L) ha H.var_pos)
theorem p17_1 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay221 (F := Ideal) (trip_k0_t1.sl.r_84 (F := Ideal) arg5 arg8 arg10 v3 X_arg5 X_arg8 X_arg10 k) (trip_k0_t1.sl.r_85 (F := Ideal) arg17 f_arg17) (trip_k0_t1.sl.r_89 (F := Ideal) arg3 arg6 arg11 X_arg3 X_arg6 X_arg11 k) (trip_k0_t1.sl.r_91 (F := Ideal) arg2 arg3 arg6 arg11 X_arg2 X_arg3 X_arg6 X_arg11 k)) (H.dst') :=
  (rp221 (rr_84 L) (rr_85 L) (rr_89 L) (rr_91 L))
theorem p17_0 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepB (k0_pay108 (F := Ideal) (trip_k0_t1.sl.r_64 (F := Ideal) arg2 arg3 arg5 arg6 arg8 arg10 arg11 arg17 v3 X_arg2 X_arg3 X_arg5 X_arg6 X_arg8 X_arg10 X_arg11 k f_arg17)) (H.dst') :=
  (rp108 (rr_64 L))
theorem p18_1 (L : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) :
    RepRR (k0_pay225 (F := Ideal) (trip_k0_t1.sl.r_136 (F := Ideal) arg2 arg3 arg4 arg5 arg6 arg8 arg9 arg10 arg11 arg12 arg13 arg17 v3 X_arg2 X_arg3 X_arg4 X_arg5 X_arg6 X_arg8 X_arg9 X_arg10 X_arg11 X_arg12 X_arg13 k f_arg17) (trip_k0_t1.sl.r_137 (F := Ideal) arg2 arg3 arg4 arg5 arg6 arg8 arg9 arg10 arg11 arg12 arg13 arg17 v3 X_arg2 X_arg3 X_arg4 X_arg5 X_arg6 X_arg8 X_arg9 X_arg10 X_arg11 X_arg12 X_arg13 k f_arg17) (trip_k0_t1.sl.v885 (F := Ideal) arg18 f_arg18)) (H.run') :=
  (rp225 (rr_136 L) (rr_137 L) (rr_v885 L))
theorem p18_0 (L : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f_arg17 f_arg18 k H) {inb_arg13} {inb_arg18} :
    RepRR (k0_pay110 (F := Ideal) (trip_k0_t1.sl.r_62 (F := Ideal) arg2 arg3 arg4 arg5 arg6 arg8 arg9 arg10 arg11 arg12 arg17 v3 X_arg2 X_arg3 X_arg4 X_arg5 X_arg6 X_arg8 X_arg9 X_arg10 X_arg11 X_arg12 k f_arg17) (View.readAt (Elt Ideal) arg13.view (Rect.unit (s := S128x128) ![0, 0] S128x128.size inb_arg13).toLoadRect X_arg13) (View.readAt (Elt Ideal) arg18.view (Rect.unit (s := S2x1x128) ![0, 0, 0] S1x1x128.size inb_arg18).toLoadRect f_arg18)) (H.run') :=
  (rp110 (rr_62 L) (L.suf _) (L.run _))
end

end Cert.Proof

end
-- ==== Proof.Chunk.lean ====
/- The gradient of gated linear attention over a whole sequence, and that one chunk's blocks hold their part of it. -/
module

public import proofs.«01_k».proof.Proof.Blocks

@[expose] public section

noncomputable section

namespace Cert.Proof

open Finset

/-- One head's sequence: queries, keys, values, output gradients and log forget gates, over `N` tokens. -/
structure Seqs where
  N : ℕ
  (Q K V DO LF : ℕ → Fin 128 → ℝ)

namespace Seqs
variable (S : Seqs)

/-- The running sum of the log gates of the tokens before `n`. -/
def cs (n : ℕ) (k : Fin 128) : ℝ := ∑ s ∈ range n, S.LF s k
/-- The decay from token `s` to token `t`. -/
def ee (t s : ℕ) (k : Fin 128) : ℝ := Real.exp (S.cs (t + 1) k - S.cs (s + 1) k)
def sco (t s : ℕ) : ℝ := ∑ k, S.Q t k * S.K s k * S.ee t s k
def dsc (t s : ℕ) : ℝ := ∑ v, S.DO t v * S.V s v
def ww (t s : ℕ) (k : Fin 128) : ℝ := S.dsc t s * (S.Q t k * S.K s k * S.ee t s k)
def out (t : ℕ) (v : Fin 128) : ℝ := ∑ s ∈ range (t + 1), S.sco t s * S.V s v
def dV (s : ℕ) (v : Fin 128) : ℝ := ∑ t ∈ Ico s S.N, S.sco t s * S.DO t v
def dQ (t : ℕ) (k : Fin 128) : ℝ := ∑ s ∈ range (t + 1), S.dsc t s * (S.K s k * S.ee t s k)
def dK (s : ℕ) (k : Fin 128) : ℝ := ∑ t ∈ Ico s S.N, S.dsc t s * (S.Q t k * S.ee t s k)
def dB (t : ℕ) (k : Fin 128) : ℝ := ∑ s ∈ range t, S.ww t s k - ∑ u ∈ Ico (t + 1) S.N, S.ww u t k
def dL (t : ℕ) (k : Fin 128) : ℝ := ∑ u ∈ Ico t S.N, S.dB u k
/-- The state before chunk `n`. -/
def sts (n : ℕ) (v k : Fin 128) : ℝ :=
  ∑ s ∈ range (128 * n), S.V s v * (S.K s k * Real.exp (S.cs (128 * n) k - S.cs (s + 1) k))
/-- The gradient of that state. -/
def dss (n : ℕ) (v k : Fin 128) : ℝ :=
  ∑ t ∈ Ico (128 * n) S.N, S.DO t v * (S.Q t k * Real.exp (S.cs (t + 1) k - S.cs (128 * n) k))

end Seqs

/-! The constants: which earlier rows each row of the stack adds, and which level couples two tokens. -/

/-- One on `lo ≤ p < hi`. -/
def iv (lo hi p : ℕ) : ℝ := if lo ≤ p ∧ p < hi then 1 else 0
def half (l : ℕ) : ℕ := 64 >>> l
def isSec (l t : ℕ) : Bool := decide (half l ≤ t % (2 * half l))
def midp (l t : ℕ) : ℕ := t / (2 * half l) * (2 * half l) + half l
/-- One where the level couples the two tokens. -/
def coup (l i j : ℕ) : Bool := isSec l i && !isSec l j && decide (i / (2 * half l) = j / (2 * half l))

/-- The constants an invocation is given. -/
structure Consts (H : Head) : Prop where
  fq : ∀ l, l < 7 → ∀ i p : Fin 128, isSec l i = true → H.M (256 * l + i.val) p = iv (midp l i) (i + 1) p
  fk : ∀ l, l < 7 → ∀ i p : Fin 128, isSec l i = false → H.M (256 * l + 128 + i.val) p = iv (i + 1) (midp l i) p
  fc : ∀ i p : Fin 128, H.M (1792 + i.val) p = iv 0 (i + 1) p
  ft : ∀ i p : Fin 128, H.M (1920 + i.val) p = iv (i + 1) 128 p
  mask : ∀ l, l < 7 → ∀ i j : Fin 128, H.mask l i j = if coup l i j then 1 else 0
  diag : ∀ i j : Fin 128, H.mask 7 i j = if i = j then 1 else 0
  suf : ∀ i p : Fin 128, H.suf i p = iv i 128 p

theorem coup_count : ∀ i j : Fin 128,
    (∑ l ∈ range 7, (if coup l i j then 1 else 0 : ℕ)) = if j.val < i.val then 1 else 0 := by
  have a : ∀ i j : Fin 128, (((((((0 + (coup 0 i j).toNat) + (coup 1 i j).toNat) + (coup 2 i j).toNat) + (coup 3 i j).toNat)
      + (coup 4 i j).toNat) + (coup 5 i j).toNat) + (coup 6 i j).toNat) = (decide (j.val < i.val)).toNat := by decide +kernel
  intro i j
  have b : ∀ x : Bool, (if x then 1 else 0 : ℕ) = x.toNat := by decide
  rw [Finset.sum_congr rfl fun l _ => b (coup l i j)]
  simp only [Finset.sum_range_succ, Finset.sum_range_zero]
  rw [a i j]
  by_cases h : j.val < i.val
  · rw [if_pos h, decide_eq_true h]; rfl
  · rw [if_neg h, decide_eq_false h]; rfl

theorem coup_mid {l i j : ℕ} (hl : l < 7) (h : coup l i j = true) : j < midp l i ∧ midp l i ≤ i ∧ midp l j = midp l i := by
  simp only [coup, Bool.and_eq_true, Bool.not_eq_true', decide_eq_true_eq, isSec, decide_eq_false_iff_not] at h
  obtain ⟨⟨h1, h2⟩, h3⟩ := h
  simp only [midp, ← h3]
  have e : half l = 64 ∨ half l = 32 ∨ half l = 16 ∨ half l = 8 ∨ half l = 4 ∨ half l = 2 ∨ half l = 1 := by
    have a : ∀ l, l < 7 → half l = 64 ∨ half l = 32 ∨ half l = 16 ∨ half l = 8 ∨ half l = 4 ∨ half l = 2 ∨ half l = 1 := by decide
    exact a l hl
  rcases e with e | e | e | e | e | e | e <;> rw [e] at h1 h2 h3 ⊢ <;> exact ⟨by omega, by omega, trivial⟩

theorem iv_sum (f : ℕ → ℝ) {lo hi : ℕ} (h : hi ≤ 128) : ∑ p : Fin 128, iv lo hi p.val * f p.val = ∑ x ∈ Ico lo hi, f x := by
  rw [Fin.sum_univ_eq_sum_range (fun p => iv lo hi p * f p) 128]
  simp only [iv, ite_mul, one_mul, zero_mul]
  rw [← Finset.sum_filter]
  refine Finset.sum_congr ?_ fun _ _ => rfl
  ext x
  simp only [mem_filter, mem_range, mem_Ico]
  omega

/-- The head's blocks are chunk `n` of the sequence, with the states that reach it from both sides. -/
structure IsChunk (H : Head) (S : Seqs) (n : ℕ) : Prop extends Consts H where
  le : 128 * (n + 1) ≤ S.N
  q : ∀ i k : Fin 128, H.q i k = S.Q (128 * n + i) k
  k : ∀ i k : Fin 128, H.k i k = S.K (128 * n + i) k
  lf : ∀ i k : Fin 128, H.lf i k = S.LF (128 * n + i) k
  v : ∀ i k : Fin 128, H.i0 i k = S.V (128 * n + i) k
  do_ : ∀ i k : Fin 128, H.do_ i k = S.DO (128 * n + i) k
  st : ∀ v k, H.st v k = S.sts n v k
  dst : ∀ v k, H.dst v k = S.dss (n + 1) v k
  run : ∀ k, H.run k = S.dL (128 * (n + 1)) k

namespace IsChunk
variable {H : Head} {S : Seqs} {n : ℕ} (C : IsChunk H S n)
include C

theorem exs {r lo hi : ℕ} (h : ∀ p : Fin 128, H.M r p = iv lo hi p) (h1 : lo ≤ hi) (h2 : hi ≤ 128) (k : Fin 128) :
    H.ex r k = S.cs (128 * n + hi) k - S.cs (128 * n + lo) k := by
  unfold Head.ex mmL
  have e : ∀ p : Fin 128, H.M r p * H.lf p k = iv lo hi p.val * (fun x => S.LF (128 * n + x) k) p.val := fun p => by
    rw [h p, C.lf p k]
  rw [Finset.sum_congr rfl fun p _ => e p, iv_sum (fun x => S.LF (128 * n + x) k) h2]
  unfold Seqs.cs
  rw [← Finset.sum_Ico_eq_sub _ (by omega), Finset.sum_Ico_add (fun x => S.LF x k) lo hi (128 * n), add_comm lo, add_comm hi]

theorem fc_eq (i k : Fin 128) : H.fc i k = Real.exp (S.cs (128 * n + i + 1) k - S.cs (128 * n) k) := by
  show Real.exp (H.ex (1792 + i.val) k) = _
  rw [C.exs (C.fc i) (Nat.zero_le _) i.isLt]; rfl

theorem ft_eq (i k : Fin 128) : H.ft i k = Real.exp (S.cs (128 * (n + 1)) k - S.cs (128 * n + i + 1) k) := by
  show Real.exp (H.ex (1920 + i.val) k) = _
  rw [C.exs (C.ft i) i.isLt le_rfl]; rfl

theorem lev {l : ℕ} (hl : l < 7) (i j k : Fin 128) :
    H.mask l i j * (H.fq l i k * H.fk l j k) = H.mask l i j * S.ee (128 * n + i) (128 * n + j) k := by
  rw [C.mask l hl i j]
  by_cases h : coup l i j = true
  · obtain ⟨h1, h2, h3⟩ := coup_mid hl h
    have h' := h
    simp only [coup, Bool.and_eq_true, Bool.not_eq_true'] at h'
    rw [if_pos h, one_mul, one_mul]
    show Real.exp (H.ex (256 * l + i.val) k) * Real.exp (H.ex (256 * l + 128 + j.val) k) = _
    rw [C.exs (C.fq l hl i · h'.1.1) (by omega) i.isLt,
      C.exs (fun p => (C.fk l hl j p h'.1.2).trans (by rw [h3])) (lo := j + 1) (hi := midp l i) (by omega) (by omega), ← Real.exp_add]
    unfold Seqs.ee
    congr 1
    rw [← Nat.add_assoc, ← Nat.add_assoc]
    ring
  · rw [if_neg h, zero_mul, zero_mul]

theorem lev7 (i j k : Fin 128) : H.mask 7 i j = H.mask 7 i j * S.ee (128 * n + i) (128 * n + j) k := by
  rw [C.diag i j]
  by_cases h : i = j
  · rw [if_pos h, h]; simp [Seqs.ee]
  · rw [if_neg h, zero_mul]

theorem masks_lt (i j : Fin 128) : ∑ l ∈ range 7, H.mask l i j = if j.val < i.val then 1 else 0 := by
  rw [Finset.sum_congr rfl fun l hl => C.mask l (mem_range.1 hl) i j]
  have := coup_count i j
  have h2 := congrArg (Nat.cast : ℕ → ℝ) this
  push_cast at h2
  exact h2

theorem masks_le (i j : Fin 128) : H.mask 7 i j + ∑ l ∈ range 7, H.mask l i j = if j.val ≤ i.val then 1 else 0 := by
  rw [C.masks_lt, C.diag]
  by_cases h : i = j
  · subst h; simp
  · have h' : i.val ≠ j.val := fun e => h (Fin.ext e)
    rw [if_neg h, zero_add]
    by_cases h2 : j.val < i.val
    · rw [if_pos h2, if_pos h2.le]
    · rw [if_neg h2, if_neg (by omega)]

omit C in
theorem aa_sum (m : ℕ) : H.aa m = H.mask 7 * mmT H.q H.k + ∑ l ∈ range m, H.mask l * mmT (H.qs l) (H.ks l) := by
  induction m with
  | zero => simp [Head.aa]
  | succ m ih => rw [Finset.sum_range_succ, ← add_assoc, ← ih]; rfl
omit C in
theorem dqa_sum (m : ℕ) : H.dqa m = H.tin * H.fc + mmN (H.dam 7) H.k + ∑ l ∈ range m, H.tq l * H.fq l := by
  induction m with
  | zero => simp [Head.dqa]
  | succ m ih => rw [Finset.sum_range_succ, ← add_assoc, ← ih]; rfl
omit C in
theorem dka_sum (m : ℕ) : H.dka m = H.tst * H.ft + mmA (H.dam 7) H.q + ∑ l ∈ range m, H.tk l * H.fk l := by
  induction m with
  | zero => simp [Head.dka]
  | succ m ih => rw [Finset.sum_range_succ, ← add_assoc, ← ih]; rfl
omit C in
theorem dba_sum (m : ℕ) : H.dba m = H.qin * H.tin - H.kdec * H.tst + (∑ l ∈ range m, H.qs l * H.tq l - ∑ l ∈ range m, H.ks l * H.tk l) := by
  induction m with
  | zero => simp [Head.dba]
  | succ m ih =>
    rw [Finset.sum_range_succ, Finset.sum_range_succ]
    show H.dba m + _ = _
    rw [ih]; abel

theorem da_eq (i j : Fin 128) : H.da i j = S.dsc (128 * n + i) (128 * n + j) := by
  show ∑ k, H.do_ i k * H.i0 j k = ∑ k, _
  exact Finset.sum_congr rfl fun k _ => by rw [C.do_, C.v]

/-- The scores of the chunk. -/
theorem aa_eq (i j : Fin 128) : H.aa 7 i j = (if j.val ≤ i.val then 1 else 0) * S.sco (128 * n + i) (128 * n + j) := by
  have e7 : (H.mask 7 * mmT H.q H.k) i j = H.mask 7 i j * S.sco (128 * n + i) (128 * n + j) := by
    show H.mask 7 i j * ∑ k, H.q i k * H.k j k = H.mask 7 i j * ∑ k, _
    rw [Finset.mul_sum, Finset.mul_sum]
    refine Finset.sum_congr rfl fun k _ => ?_
    rw [C.q, C.k, C.lev7 i j k]; ring_nf
    rw [C.diag]; by_cases h : i = j
    · rw [if_pos h]; subst h; simp [Seqs.ee]
    · rw [if_neg h]; ring
  have el : ∀ l ∈ range 7, (H.mask l * mmT (H.qs l) (H.ks l)) i j = H.mask l i j * S.sco (128 * n + i) (128 * n + j) := fun l hl => by
    show H.mask l i j * ∑ k, H.q i k * H.fq l i k * (H.k j k * H.fk l j k) = H.mask l i j * ∑ k, _
    rw [Finset.mul_sum, Finset.mul_sum]
    refine Finset.sum_congr rfl fun k _ => ?_
    have := C.lev (mem_range.1 hl) i j k
    rw [C.q, C.k]
    linear_combination (S.Q (128 * n + i) k * S.K (128 * n + j) k) * this
  rw [aa_sum, Pi.add_apply, Pi.add_apply, Finset.sum_apply, Finset.sum_apply, e7, Finset.sum_congr rfl el, ← Finset.sum_mul,
    ← add_mul, C.masks_le]

/-- The products of masked score gradients over the levels. -/
theorem tq_eq (i k : Fin 128) :
    ∑ l ∈ range 7, H.tq l i k * H.fq l i k = ∑ j : Fin 128, (if j.val < i.val then 1 else 0) * (S.dsc (128 * n + i) (128 * n + j) * (S.K (128 * n + j) k * S.ee (128 * n + i) (128 * n + j) k)) := by
  have e : ∀ l ∈ range 7, H.tq l i k * H.fq l i k = ∑ j : Fin 128, H.mask l i j * (S.dsc (128 * n + i) (128 * n + j) * (S.K (128 * n + j) k * S.ee (128 * n + i) (128 * n + j) k)) := fun l hl => by
    show (∑ j, H.mask l i j * H.da i j * (H.k j k * H.fk l j k)) * H.fq l i k = _
    rw [Finset.sum_mul]
    refine Finset.sum_congr rfl fun j _ => ?_
    have := C.lev (mem_range.1 hl) i j k
    rw [C.da_eq, C.k]
    linear_combination (S.dsc (128 * n + i) (128 * n + j) * S.K (128 * n + j) k) * this
  rw [Finset.sum_congr rfl e, Finset.sum_comm]
  exact Finset.sum_congr rfl fun j _ => by rw [← Finset.sum_mul, C.masks_lt]

theorem tk_eq (j k : Fin 128) :
    ∑ l ∈ range 7, H.tk l j k * H.fk l j k = ∑ i : Fin 128, (if j.val < i.val then 1 else 0) * (S.dsc (128 * n + i) (128 * n + j) * (S.Q (128 * n + i) k * S.ee (128 * n + i) (128 * n + j) k)) := by
  have e : ∀ l ∈ range 7, H.tk l j k * H.fk l j k = ∑ i : Fin 128, H.mask l i j * (S.dsc (128 * n + i) (128 * n + j) * (S.Q (128 * n + i) k * S.ee (128 * n + i) (128 * n + j) k)) := fun l hl => by
    show (∑ i, H.mask l i j * H.da i j * (H.q i k * H.fq l i k)) * H.fk l j k = _
    rw [Finset.sum_mul]
    refine Finset.sum_congr rfl fun i _ => ?_
    have := C.lev (mem_range.1 hl) i j k
    rw [C.da_eq, C.q]
    linear_combination (S.dsc (128 * n + i) (128 * n + j) * S.Q (128 * n + i) k) * this
  rw [Finset.sum_congr rfl e, Finset.sum_comm]
  exact Finset.sum_congr rfl fun j _ => by rw [← Finset.sum_mul, C.masks_lt]

omit C in
theorem lt_sum (f : ℕ → ℝ) (i : Fin 128) : ∑ j : Fin 128, (if j.val < i.val then 1 else 0) * f (128 * n + j) = ∑ s ∈ Ico (128 * n) (128 * n + i), f s := by
  have e : ∀ j : Fin 128, (if j.val < i.val then (1:ℝ) else 0) * f (128 * n + j) = iv 0 i j * (fun x => f (128 * n + x)) j := fun j => by simp [iv]
  rw [Finset.sum_congr rfl fun j _ => e j, iv_sum (fun x => f (128 * n + x)) (by omega), Finset.sum_Ico_add f 0 i (128 * n), Nat.zero_add, Nat.add_comm (i : ℕ)]
omit C in
theorem gt_sum (f : ℕ → ℝ) (j : Fin 128) : ∑ i : Fin 128, (if j.val < i.val then 1 else 0) * f (128 * n + i) = ∑ s ∈ Ico (128 * n + j + 1) (128 * (n + 1)), f s := by
  have e : ∀ i : Fin 128, (if j.val < i.val then (1:ℝ) else 0) * f (128 * n + i) = iv (j + 1) 128 i * (fun x => f (128 * n + x)) i := fun i => by

    have := i.isLt
    unfold iv
    by_cases h : j.val < i.val
    · rw [if_pos h, if_pos ⟨h, this⟩]
    · rw [if_neg h, if_neg fun x => h x.1]
  rw [Finset.sum_congr rfl fun i _ => e i, iv_sum (fun x => f (128 * n + x)) le_rfl, Finset.sum_Ico_add f (j + 1) 128 (128 * n)]
  congr 2 <;> ring
omit C in
theorem ge_sum (f : ℕ → ℝ) (j : Fin 128) : ∑ i : Fin 128, (if j.val ≤ i.val then 1 else 0) * f (128 * n + i) = ∑ s ∈ Ico (128 * n + j) (128 * (n + 1)), f s := by
  have e : ∀ i : Fin 128, (if j.val ≤ i.val then (1:ℝ) else 0) * f (128 * n + i) = iv j 128 i * (fun x => f (128 * n + x)) i := fun i => by
    simp [iv]
  rw [Finset.sum_congr rfl fun i _ => e i, iv_sum (fun x => f (128 * n + x)) le_rfl, Finset.sum_Ico_add f j 128 (128 * n)]
  congr 2 <;> ring

theorem mul_exp (a b c : ℝ) : Real.exp (a - b) * Real.exp (b - c) = Real.exp (a - c) := by
  rw [← Real.exp_add]; congr 1; ring

/-- The part of a query's gradient that comes from earlier chunks. -/
theorem tin_eq (i k : Fin 128) : H.tin i k * H.fc i k = ∑ s ∈ range (128 * n), S.dsc (128 * n + i) s * (S.K s k * S.ee (128 * n + i) s k) := by
  show (∑ v, H.do_ i v * H.st v k) * H.fc i k = _
  have e : ∀ v, H.do_ i v * H.st v k = ∑ s ∈ range (128 * n), S.DO (128 * n + i) v * S.V s v * (S.K s k * Real.exp (S.cs (128 * n) k - S.cs (s + 1) k)) := fun v => by
    rw [C.do_, C.st, Seqs.sts, Finset.mul_sum]; exact Finset.sum_congr rfl fun s _ => by ring
  rw [Finset.sum_congr rfl fun v _ => e v, Finset.sum_comm, Finset.sum_mul]
  refine Finset.sum_congr rfl fun s _ => ?_
  rw [← Finset.sum_mul, C.fc_eq, Seqs.dsc, Seqs.ee, ← C.mul_exp (S.cs (128 * n + i + 1) k) (S.cs (128 * n) k) (S.cs (s + 1) k)]
  ring

theorem tst_eq (j k : Fin 128) : H.tst j k * H.ft j k = ∑ t ∈ Ico (128 * (n + 1)) S.N, S.dsc t (128 * n + j) * (S.Q t k * S.ee t (128 * n + j) k) := by
  show (∑ v, H.i0 j v * H.dst v k) * H.ft j k = _
  have e : ∀ v, H.i0 j v * H.dst v k = ∑ t ∈ Ico (128 * (n + 1)) S.N, S.DO t v * S.V (128 * n + j) v * (S.Q t k * Real.exp (S.cs (t + 1) k - S.cs (128 * (n + 1)) k)) := fun v => by
    rw [C.v, C.dst, Seqs.dss, Finset.mul_sum]; exact Finset.sum_congr rfl fun s _ => by ring
  rw [Finset.sum_congr rfl fun v _ => e v, Finset.sum_comm, Finset.sum_mul]
  refine Finset.sum_congr rfl fun t _ => ?_
  rw [← Finset.sum_mul, C.ft_eq, Seqs.dsc, Seqs.ee, ← C.mul_exp (S.cs (t + 1) k) (S.cs (128 * (n + 1)) k) (S.cs (128 * n + j + 1) k)]
  ring

theorem dqa_eq (i k : Fin 128) : H.dqa 7 i k = S.dQ (128 * n + i) k := by
  have e7 : mmN (H.dam 7) H.k i k = S.dsc (128 * n + i) (128 * n + i) * (S.K (128 * n + i) k * S.ee (128 * n + i) (128 * n + i) k) := by
    show ∑ j, H.mask 7 i j * H.da i j * H.k j k = _
    rw [Finset.sum_eq_single i]
    · rw [C.diag, if_pos rfl, C.da_eq, C.k]; simp [Seqs.ee]
    · intro j _ hj; rw [C.diag, if_neg (Ne.symm hj)]; ring
    · intro h; exact absurd (mem_univ _) h
  rw [dqa_sum]
  simp only [Pi.add_apply, Pi.mul_apply, Finset.sum_apply]
  rw [C.tin_eq, e7, C.tq_eq, lt_sum (fun s => S.dsc (128 * n + i) s * (S.K s k * S.ee (128 * n + i) s k)), Seqs.dQ,
    Finset.sum_range_succ, ← Finset.sum_range_add_sum_Ico _ (show 128 * n ≤ 128 * n + i by omega)]
  ring

theorem dka_eq (j k : Fin 128) : H.dka 7 j k = S.dK (128 * n + j) k := by
  have e7 : mmA (H.dam 7) H.q j k = S.dsc (128 * n + j) (128 * n + j) * (S.Q (128 * n + j) k * S.ee (128 * n + j) (128 * n + j) k) := by
    show ∑ i, H.mask 7 i j * H.da i j * H.q i k = _
    rw [Finset.sum_eq_single j]
    · rw [C.diag, if_pos rfl, C.da_eq, C.q]; simp [Seqs.ee]
    · intro i _ hi; rw [C.diag, if_neg hi]; ring
    · intro h; exact absurd (mem_univ _) h
  have hle := C.le
  have hj := j.isLt
  rw [dka_sum]
  simp only [Pi.add_apply, Pi.mul_apply, Finset.sum_apply]
  rw [C.tst_eq, e7, C.tk_eq, gt_sum (fun t => S.dsc t (128 * n + j) * (S.Q t k * S.ee t (128 * n + j) k)), Seqs.dK,
    Finset.sum_eq_sum_Ico_succ_bot (show 128 * n + j.val < S.N by omega), ← Finset.sum_Ico_consecutive _ (show 128 * n + j + 1 ≤ 128 * (n + 1) by omega) hle]
  ring

theorem dba_eq (i k : Fin 128) : H.dba 7 i k = S.dB (128 * n + i) k := by
  have hle := C.le
  have hi := i.isLt
  have e1 : ∀ l ∈ range 7, H.qs l i k * H.tq l i k = S.Q (128 * n + i) k * (H.tq l i k * H.fq l i k) := fun l _ => by
    show H.q i k * H.fq l i k * _ = _
    rw [C.q]; ring
  have e2 : ∀ l ∈ range 7, H.ks l i k * H.tk l i k = S.K (128 * n + i) k * (H.tk l i k * H.fk l i k) := fun l _ => by
    show H.k i k * H.fk l i k * _ = _
    rw [C.k]; ring
  have e3 : H.qin i k * H.tin i k = S.Q (128 * n + i) k * (H.tin i k * H.fc i k) := by
    show H.q i k * H.fc i k * _ = _
    rw [C.q]; ring
  have e4 : H.kdec i k * H.tst i k = S.K (128 * n + i) k * (H.tst i k * H.ft i k) := by
    show H.k i k * H.ft i k * _ = _
    rw [C.k]; ring
  rw [dba_sum]
  simp only [Pi.add_apply, Pi.sub_apply, Pi.mul_apply, Finset.sum_apply]
  rw [Finset.sum_congr rfl e1, Finset.sum_congr rfl e2, ← Finset.mul_sum, ← Finset.mul_sum, e3, e4, C.tin_eq, C.tst_eq, C.tq_eq, C.tk_eq,
    lt_sum (fun s => S.dsc (128 * n + i) s * (S.K s k * S.ee (128 * n + i) s k)),
    gt_sum (fun t => S.dsc t (128 * n + i) * (S.Q t k * S.ee t (128 * n + i) k)), Seqs.dB,
    ← Finset.sum_range_add_sum_Ico _ (show 128 * n ≤ 128 * n + i by omega),
    ← Finset.sum_Ico_consecutive _ (show 128 * n + i + 1 ≤ 128 * (n + 1) by omega) hle]
  have f1 : ∀ s, S.ww (128 * n + i) s k = S.Q (128 * n + i) k * (S.dsc (128 * n + i) s * (S.K s k * S.ee (128 * n + i) s k)) := fun s => by
    unfold Seqs.ww; ring
  have f2 : ∀ u, S.ww u (128 * n + i) k = S.K (128 * n + i) k * (S.dsc u (128 * n + i) * (S.Q u k * S.ee u (128 * n + i) k)) := fun s => by
    unfold Seqs.ww; ring
  simp only [f1, f2, ← Finset.mul_sum]
  ring

theorem dv_eq (j v : Fin 128) : H.dv j v = S.dV (128 * n + j) v := by
  have hle := C.le
  have hj := j.isLt
  show ∑ i, H.aa 7 i j * H.do_ i v + ∑ k, H.k j k * H.ft j k * H.dst v k = _
  have e : ∀ k, H.k j k * H.ft j k * H.dst v k = ∑ t ∈ Ico (128 * (n + 1)) S.N, S.Q t k * S.K (128 * n + j) k * S.ee t (128 * n + j) k * S.DO t v := fun k => by
    rw [C.k, C.dst, C.ft_eq, Seqs.dss, Finset.mul_sum]
    refine Finset.sum_congr rfl fun t _ => ?_
    rw [Seqs.ee, ← C.mul_exp (S.cs (t + 1) k) (S.cs (128 * (n + 1)) k) (S.cs (128 * n + j + 1) k)]; ring
  rw [Finset.sum_congr rfl fun k _ => e k, Finset.sum_comm, Seqs.dV,
    ← Finset.sum_Ico_consecutive _ (show 128 * n + j ≤ 128 * (n + 1) by omega) hle,
    ← ge_sum (fun t => S.sco t (128 * n + j) * S.DO t v)]
  congr 1
  · exact Finset.sum_congr rfl fun i _ => by rw [C.aa_eq, C.do_]; ring
  · exact Finset.sum_congr rfl fun t _ => by rw [← Finset.sum_mul, Seqs.sco]

theorem dlf_eq (i k : Fin 128) : H.dlf i k = S.dL (128 * n + i) k := by
  have hle := C.le
  have hi := i.isLt
  show ∑ p, H.suf i p * H.dba 7 p k + H.run k = _
  have e : ∀ p : Fin 128, H.suf i p * H.dba 7 p k = (if i.val ≤ p.val then 1 else 0) * S.dB (128 * n + p) k := fun p => by
    rw [C.suf, C.dba_eq]; simp [iv]
  rw [Finset.sum_congr rfl fun p _ => e p, ge_sum (fun t => S.dB t k), C.run, Seqs.dL, Seqs.dL,
    Finset.sum_Ico_consecutive _ (show 128 * n + i ≤ 128 * (n + 1) by omega) hle]

theorem run_eq (k : Fin 128) : H.run' k = S.dL (128 * n) k := C.dlf_eq 0 k

theorem dst_eq (v k : Fin 128) : H.dst' v k = S.dss n v k := by
  have hle := C.le
  show H.dst v k * H.fc 127 k + ∑ i, H.do_ i v * (H.q i k * H.fc i k) = _
  have e : ∀ i : Fin 128, H.do_ i v * (H.q i k * H.fc i k) = (if (0 : Fin 128).val ≤ i.val then 1 else 0) *
      (fun t => S.DO t v * (S.Q t k * Real.exp (S.cs (t + 1) k - S.cs (128 * n) k))) (128 * n + i) := fun i => by
    rw [C.do_, C.q, C.fc_eq]; simp
  rw [Finset.sum_congr rfl fun p _ => e p, ge_sum (fun t => S.DO t v * (S.Q t k * Real.exp (S.cs (t + 1) k - S.cs (128 * n) k))) 0, C.dst, Seqs.dss, Seqs.dss, C.fc_eq, Finset.sum_mul,
    ← Finset.sum_Ico_consecutive _ (show 128 * n ≤ 128 * (n + 1) by omega) hle, add_comm]
  congr 1
  refine Finset.sum_congr rfl fun t _ => ?_
  rw [← C.mul_exp (S.cs (t + 1) k) (S.cs (128 * (n + 1)) k) (S.cs (128 * n) k)]
  show _ * Real.exp (S.cs (128 * n + 127 + 1) k - _) = _
  rw [show 128 * n + 127 + 1 = 128 * (n + 1) by ring]
  ring

end IsChunk

end Cert.Proof

end
-- ==== Proof.Model.lean ====
/- The gradient of one head over the whole sequence, from the arrays the step is given, and the chunks that hold it. -/
module

public import proofs.«01_k».proof.Proof.Chunk

@[expose] public section

noncomputable section

namespace Cert.Proof

open Finset

/-- The logistic function. -/
def sgm (x : ℝ) : ℝ := 1 / (1 + Real.exp (-x))

theorem sgk_eq (x : Mat) (i j : Fin 128) : sgk x i j = sgm (x i j) := by
  show (if (0 : ℝ) ≤ x i j then 1 else Real.exp (0 - |x i j|)) / (1 + Real.exp (0 - |x i j|)) = 1 / (1 + Real.exp (-x i j))
  by_cases h : 0 ≤ x i j
  · rw [if_pos h, abs_of_nonneg h, zero_sub]
  · rw [if_neg h, abs_of_neg (not_le.1 h), zero_sub, neg_neg, Real.exp_neg]
    have := Real.exp_pos (x i j)
    field_simp
    ring

theorem sgm_pos (x : ℝ) : 0 < sgm x := by
  have := Real.exp_pos (-x); unfold sgm; positivity
theorem sgm_lt (x : ℝ) : sgm x < 1 := by
  have := Real.exp_pos (-x)
  unfold sgm
  rw [div_lt_one (by positivity)]
  linarith

/-- The arrays of one head: the four projected parts, the lower bound, the gain and the output gradient. -/
structure Arrs where
  p0 : ℕ → Fin 4 → Fin 128 → ℝ
  p1 : Fin 128 → ℝ
  p2 : Fin 128 → ℝ
  p3 : ℕ → Fin 128 → ℝ

namespace Arrs
variable (A : Arrs)

def sq (t : ℕ) (k : Fin 128) : ℝ := sgm (A.p0 t 0 k)
def q (t : ℕ) (k : Fin 128) : ℝ := A.p0 t 0 k * A.sq t k
def sf (t : ℕ) (k : Fin 128) : ℝ := sgm (A.p0 t 1 k)
def fg (t : ℕ) (k : Fin 128) : ℝ := A.p1 k + (1 - A.p1 k) * A.sf t k
def sg (t : ℕ) (k : Fin 128) : ℝ := sgm (A.p0 t 3 k)
/-- The sequence without an output gradient: what the forward pass computes of. -/
def fwd : Seqs where
  N := 4096
  Q := A.q
  K := fun t k => 1 - A.fg t k
  V := fun t k => A.p0 t 2 k
  DO := fun _ _ => 0
  LF := fun t k => Real.log (A.fg t k)
def o (t : ℕ) (v : Fin 128) : ℝ := A.fwd.out t v
def var (t : ℕ) : ℝ := (∑ j, A.o t j * A.o t j) / 128 + eps
def r (t : ℕ) : ℝ := (Real.sqrt (A.var t))⁻¹
def ohat (t : ℕ) (v : Fin 128) : ℝ := A.o t v * A.r t
def dyn (t : ℕ) (v : Fin 128) : ℝ := A.p3 t v * A.sg t v
def dohat (t : ℕ) (v : Fin 128) : ℝ := A.dyn t v * A.p2 v
def do_ (t : ℕ) (v : Fin 128) : ℝ := A.r t * (A.dohat t v - A.ohat t v * ((∑ j, A.dohat t j * A.ohat t j) / 128))
def seqs : Seqs := { A.fwd with DO := A.do_ }
def dfg (t : ℕ) (k : Fin 128) : ℝ := A.seqs.dL t k / A.fg t k - A.seqs.dK t k
def dp0 (t : ℕ) (k : Fin 128) : ℝ := A.seqs.dQ t k * A.sq t k * (1 + A.p0 t 0 k * (1 - A.sq t k))
def dp1 (t : ℕ) (k : Fin 128) : ℝ := A.dfg t k * (1 - A.p1 k) * A.sf t k * (1 - A.sf t k)
def dp3 (t : ℕ) (v : Fin 128) : ℝ := A.p3 t v * A.ohat t v * A.p2 v * A.sg t v * (1 - A.sg t v)
/-- The gradient of the lower bound, and of the gain, over the tokens from chunk `n` on. -/
def dlb (n : ℕ) (k : Fin 128) : ℝ := ∑ t ∈ Ico (128 * n) 4096, A.dfg t k * (1 - A.sf t k)
def dgn (n : ℕ) (v : Fin 128) : ℝ := ∑ t ∈ Ico (128 * n) 4096, A.dyn t v * A.ohat t v
/-- The gradients of the four projected parts. -/
def dp (s : Fin 4) (t : ℕ) (k : Fin 128) : ℝ :=
  if s = 0 then A.dp0 t k else if s = 1 then A.dp1 t k else if s = 2 then A.seqs.dV t k else A.dp3 t k

end Arrs

/-- The stack of row sums the constants are. -/
def Mc (r : ℕ) (p : Fin 128) : ℝ :=
  if r < 1792 then
    if r % 256 < 128 then
      (if isSec (r / 256) (r % 128) then iv (midp (r / 256) (r % 128)) (r % 128 + 1) p else 0)
    else (if isSec (r / 256) (r % 128) then 0 else iv (r % 128 + 1) (midp (r / 256) (r % 128)) p)
  else if r < 1920 then iv 0 (r % 128 + 1) p else iv (r % 128 + 1) 128 p
def kc (l : ℕ) : Mat := fun i j => if l = 7 then (if i = j then 1 else 0) else if coup l i j then 1 else 0
def sc : Mat := fun i p => iv i 128 p

/-- The blocks of chunk `n`, without what reaches it from the later chunks. -/
def headOf (A : Arrs) (n : ℕ) : Head where
  q0 := fun i k => A.p0 (128 * n + i) 0 k
  f0 := fun i k => A.p0 (128 * n + i) 1 k
  i0 := fun i k => A.p0 (128 * n + i) 2 k
  g0 := fun i k => A.p0 (128 * n + i) 3 k
  o := fun i k => A.o (128 * n + i) k
  dy := fun i k => A.p3 (128 * n + i) k
  st := A.fwd.sts n
  suf := sc
  dst := 0
  lb := A.p1
  gn := A.p2
  run := 0
  M := Mc
  mask := kc

def Head.at (H : Head) (D : Mat) (R : Fin 128 → ℝ) : Head := { H with dst := D, run := R }

theorem consts (A : Arrs) (n : ℕ) (D : Mat) (R : Fin 128 → ℝ) : Consts ((headOf A n).at D R) where
  fq l hl i p h := by
    show Mc _ _ = _
    have h1 : (256 * l + i.val) % 256 = i.val := by omega
    have h2 : (256 * l + i.val) / 256 = l := by omega
    have h3 : (256 * l + i.val) % 128 = i.val := by omega
    unfold Mc
    rw [if_pos (by omega), h1, h2, h3, if_pos i.isLt, if_pos h]
  fk l hl i p h := by
    show Mc _ _ = _
    have h1 : (256 * l + 128 + i.val) % 256 = 128 + i.val := by omega
    have h2 : (256 * l + 128 + i.val) / 256 = l := by omega
    have h3 : (256 * l + 128 + i.val) % 128 = i.val := by omega
    unfold Mc
    rw [if_pos (by omega), h1, h2, h3, if_neg (by omega), if_neg (by rw [h]; exact Bool.false_ne_true)]
  fc i p := by
    show Mc _ _ = _
    have h3 : (1792 + i.val) % 128 = i.val := by omega
    unfold Mc
    rw [if_neg (by omega), if_pos (by omega), h3]
  ft i p := by
    show Mc _ _ = _
    have h3 : (1920 + i.val) % 128 = i.val := by omega
    unfold Mc
    rw [if_neg (by omega), if_neg (by omega), h3]
  mask l hl i j := by
    show kc _ _ _ = _
    unfold kc
    rw [if_neg (by omega)]
  diag i j := by
    show kc 7 i j = _
    unfold kc
    rw [if_pos rfl]
  suf i p := rfl

section
variable (A : Arrs) (n : ℕ) (D : Mat) (R : Fin 128 → ℝ) (i j k : Fin 128)

theorem ho_sq : ((headOf A n).at D R).sq i k = A.sq (128 * n + i) k := sgk_eq _ i k
theorem ho_sf : ((headOf A n).at D R).sf i k = A.sf (128 * n + i) k := sgk_eq _ i k
theorem ho_sg : ((headOf A n).at D R).sg i k = A.sg (128 * n + i) k := sgk_eq _ i k
theorem ho_q : ((headOf A n).at D R).q i k = A.q (128 * n + i) k := by
  show A.p0 (128 * n + i) 0 k * _ = _
  rw [ho_sq]; rfl
theorem ho_fg : ((headOf A n).at D R).fg i k = A.fg (128 * n + i) k := by
  show A.p1 k + (1 - A.p1 k) * _ = _
  rw [ho_sf]; rfl
theorem ho_k : ((headOf A n).at D R).k i k = 1 - A.fg (128 * n + i) k := by
  show 1 - ((headOf A n).at D R).fg i k = _
  rw [ho_fg]
theorem ho_lf : ((headOf A n).at D R).lf i k = Real.log (A.fg (128 * n + i) k) := by
  show Real.log (((headOf A n).at D R).fg i k) = _
  rw [ho_fg]
theorem ho_var : ((headOf A n).at D R).var i = A.var (128 * n + i) := rfl
theorem ho_r : ((headOf A n).at D R).r i = A.r (128 * n + i) := rfl
theorem ho_ohat : ((headOf A n).at D R).ohat i k = A.ohat (128 * n + i) k := rfl
theorem ho_dyn : ((headOf A n).at D R).dyn i k = A.dyn (128 * n + i) k := by
  show A.p3 (128 * n + i) k * _ = _
  rw [ho_sg]; rfl
theorem ho_dohat : ((headOf A n).at D R).dohat i k = A.dohat (128 * n + i) k := by
  show _ * A.p2 k = _
  rw [ho_dyn]; rfl
theorem ho_do : ((headOf A n).at D R).do_ i k = A.do_ (128 * n + i) k := by
  show ((headOf A n).at D R).r i * (((headOf A n).at D R).dohat i k - ((headOf A n).at D R).ohat i k
    * ((∑ v, ((headOf A n).at D R).dohat i v * ((headOf A n).at D R).ohat i v) / 128)) = _
  simp only [ho_r, ho_dohat, ho_ohat]
  rfl
theorem ho_dp3 : ((headOf A n).at D R).dp3 i k = A.dp3 (128 * n + i) k := by
  show A.p3 (128 * n + i) k * ((headOf A n).at D R).ohat i k * A.p2 k * ((headOf A n).at D R).sg i k * (1 - ((headOf A n).at D R).sg i k) = _
  rw [ho_sg]; rfl

/-- Chunk `n` with the states that reach it. -/
def full : Head := (headOf A n).at (A.seqs.dss (n + 1)) (A.seqs.dL (128 * (n + 1)))

theorem isChunk (hn : n < 32) : IsChunk (full A n) A.seqs n where
  toConsts := consts A n _ _
  le := by show _ ≤ 4096; omega
  q i k := ho_q A n _ _ i k
  k i k := ho_k A n _ _ i k
  lf i k := ho_lf A n _ _ i k
  v i k := rfl
  do_ i k := ho_do A n _ _ i k
  st v k := rfl
  dst v k := rfl
  run k := rfl

variable (hn : n < 32)
include hn

theorem full_dfg : (full A n).dfg i k = A.dfg (128 * n + i) k := by
  show (full A n).dlf i k / (full A n).fg i k - (full A n).dka 7 i k = _
  rw [(isChunk A n hn).dlf_eq, (isChunk A n hn).dka_eq, show (full A n).fg i k = _ from ho_fg A n _ _ i k]; rfl
theorem full_dp1 : (full A n).dp1 i k = A.dp1 (128 * n + i) k := by
  show (full A n).dfg i k * (1 - A.p1 k) * (full A n).sf i k * (1 - (full A n).sf i k) = _
  rw [full_dfg A n i k hn, show (full A n).sf i k = _ from ho_sf A n _ _ i k]; rfl
theorem full_dp0 : (full A n).dp0 i k = A.dp0 (128 * n + i) k := by
  show (full A n).dqa 7 i k * (full A n).sq i k * (1 + A.p0 (128 * n + i) 0 k * (1 - (full A n).sq i k)) = _
  rw [(isChunk A n hn).dqa_eq, show (full A n).sq i k = _ from ho_sq A n _ _ i k]; rfl
theorem full_dlb : A.dlb (n + 1) k + (full A n).dlb k = A.dlb n k := by
  show _ + ∑ i, (full A n).dfg i k * (1 - (full A n).sf i k) = _
  have e : ∀ i : Fin 128, (full A n).dfg i k * (1 - (full A n).sf i k) =
      (if (0 : Fin 128).val ≤ i.val then 1 else 0) * (fun t => A.dfg t k * (1 - A.sf t k)) (128 * n + i) := fun i => by
    rw [full_dfg A n i k hn, show (full A n).sf i k = _ from ho_sf A n _ _ i k]; simp
  rw [Finset.sum_congr rfl fun i _ => e i, IsChunk.ge_sum (fun t => A.dfg t k * (1 - A.sf t k)) 0, Arrs.dlb, Arrs.dlb, add_comm]
  exact Finset.sum_Ico_consecutive _ (by show 128 * n + 0 ≤ _; omega) (by omega)
theorem full_dgn : A.dgn (n + 1) k + (full A n).dgn k = A.dgn n k := by
  show _ + ∑ i, (full A n).dyn i k * (full A n).ohat i k = _
  have e : ∀ i : Fin 128, (full A n).dyn i k * (full A n).ohat i k =
      (if (0 : Fin 128).val ≤ i.val then 1 else 0) * (fun t => A.dyn t k * A.ohat t k) (128 * n + i) := fun i => by
    rw [show (full A n).dyn i k = _ from ho_dyn A n _ _ i k]
    simp only [Fin.val_zero, Nat.zero_le, if_true, one_mul]
    rfl
  rw [Finset.sum_congr rfl fun i _ => e i, IsChunk.ge_sum (fun t => A.dyn t k * A.ohat t k) 0, Arrs.dgn, Arrs.dgn, add_comm]
  exact Finset.sum_Ico_consecutive _ (by show 128 * n + 0 ≤ _; omega) (by omega)
end

end Cert.Proof

end
-- ==== Proof.Loop.lean ====
/- One trip of the kernel loop on the buffers it carries, and the loop as its four trips one after another. -/
module

public import proofs.«01_k».proof.Proof.Trip
public import proofs.«01_k».proof.Proof.Model
public import Idealize.ShloMosaic.Lib.WritesUnit

@[expose] public section

set_option maxRecDepth 16384

noncomputable section

namespace Cert.Proof

open Idealize.ShloMosaic Cert.KernelIdeal Cert.KernelIdeal.Gen Idealize.ShloMosaic.TcCoe

theorem ax2 {d e : Fin 2 → ℕ} {p : Fin (d 0)} {q : Fin (d 1)} {i : Fin (e 0)} {j : Fin (e 1)} {u v : ℕ}
    {y : (⟨2, d⟩ : Shape).Idx} {x : (⟨2, e⟩ : Shape).Idx}
    (h0 : (y 0).val = u + (x 0).val) (h1 : (y 1).val = v + (x 1).val) (a : Fin 2) :
    (y a).val = (![u, v] : Fin 2 → ℕ) a + (x a).val := by
  revert a; exact Fin.forall_fin_two.2 ⟨h0, h1⟩

theorem ax3 {d e : Fin 3 → ℕ} {u v w : ℕ}
    {y : (⟨3, d⟩ : Shape).Idx} {x : (⟨3, e⟩ : Shape).Idx}
    (h0 : (y 0).val = u + (x 0).val) (h1 : (y 1).val = v + (x 1).val) (h2 : (y 2).val = w + (x 2).val) (a : Fin 3) :
    (y a).val = (![u, v, w] : Fin 3 → ℕ) a + (x a).val := by
  match a with
  | 0 => exact h0
  | 1 => exact h1
  | 2 => exact h2

theorem ax4 {d e : Fin 4 → ℕ} {u v w z : ℕ}
    {y : (⟨4, d⟩ : Shape).Idx} {x : (⟨4, e⟩ : Shape).Idx}
    (h0 : (y 0).val = u + (x 0).val) (h1 : (y 1).val = v + (x 1).val) (h2 : (y 2).val = w + (x 2).val)
    (h3 : (y 3).val = z + (x 3).val) (a : Fin 4) :
    (y a).val = (![u, v, w, z] : Fin 4 → ℕ) a + (x a).val := by
  match a with
  | 0 => exact h0
  | 1 => exact h1
  | 2 => exact h2
  | 3 => exact h3

/-- A load at an offset reads the buffer at the shifted index. -/
theorem load_at {s : Shape} {e : EltTy} {κ : Kind} {sp : Space} (v : View sig κ sp s e) (f : BufTy.Contents (Elt Ideal) v.ty)
    {off off' size : Fin s.rank → ℕ} (inb : ∀ a, off a + size a ≤ s.size a) (heq : off = off')
    (x : (Rect.unit (s := s) off size inb).toLoadRect.shape.Idx) (y : s.Idx) (hx : ∀ a, (y a).val = off' a + (x a).val) :
    View.readAt (Elt Ideal) v (Rect.unit (s := s) off size inb).toLoadRect f x = v.read (Elt Ideal) f y := by
  subst heq
  show v.read (Elt Ideal) f _ = _
  refine congrArg _ (funext fun a => Fin.ext ?_)
  show off a + 1 * (x a).val = (y a).val
  rw [hx a, Nat.one_mul]

/-- Row `i` of chunk `n` of a stack of four chunks. -/
def row (n : Fin 4) (i : Fin 128) : Fin 512 := ⟨128 * n.val + i.val, by omega⟩
/-- Column `j` of head `h` of a pair of heads. -/
def col (h : Fin 2) (j : Fin 128) : Fin 256 := ⟨128 * h.val + j.val, by omega⟩
/-- The chunk a trip works on: the chunks are met from the last to the first. -/
def rev (k : Fin k0_t1_loop.trips) : Fin 4 := ⟨3 - k.val, by omega⟩

theorem trips4 : k0_t1_loop.trips = 4 := by decide +kernel
theorem off1 : ∀ k, k0_off1 k = ![128 * (rev k).val, 128 * 0] := by decide +kernel
theorem off2 : ∀ k, k0_off2 k = ![3, 128 * (rev k).val, 128 * 0] := by decide +kernel
theorem off3 : ∀ k, k0_off3 k = ![(rev k).val, 0, 0, 0] := by decide +kernel
theorem off4 : ∀ k, k0_off4 k = ![1, 128 * (rev k).val, 128 * 0] := by decide +kernel
theorem off5 : ∀ k, k0_off5 k = ![0, 128 * (rev k).val, 128 * 0] := by decide +kernel
theorem off6 : ∀ k, k0_off6 k = ![2, 128 * (rev k).val, 128 * 0] := by decide +kernel
theorem off7 : ∀ k, k0_off7 k = ![128 * (rev k).val, 128 * 1] := by decide +kernel
theorem off8 : ∀ k, k0_off8 k = ![3, 128 * (rev k).val, 128 * 1] := by decide +kernel
theorem off9 : ∀ k, k0_off9 k = ![(rev k).val, 1, 0, 0] := by decide +kernel
theorem off10 : ∀ k, k0_off10 k = ![1, 128 * (rev k).val, 128 * 1] := by decide +kernel
theorem off11 : ∀ k, k0_off11 k = ![0, 128 * (rev k).val, 128 * 1] := by decide +kernel
theorem off12 : ∀ k, k0_off12 k = ![2, 128 * (rev k).val, 128 * 1] := by decide +kernel

/-- The buffers a grid point reads, as the reals of its eight blocks (four chunks of two heads). -/
structure Ins (arg2 : Memref sig .tc .vmem S512x256 .f32) (arg3 : Memref sig .tc .vmem S512x256 .f32) (arg4 : Memref sig .tc .vmem S512x256 .f32) (arg5 : Memref sig .tc .vmem S512x256 .f32) (arg6 : Memref sig .tc .vmem S1x256 .f32) (arg8 : Memref sig .tc .vmem S512x256 .f32) (arg9 : Memref sig .tc .vmem S4x2x128x128 .f32) (arg10 : Memref sig .tc .vmem S512x256 .f32) (arg11 : Memref sig .tc .vmem S2048x128 .bf16) (arg12 : Memref sig .tc .vmem S8x128x128 .f32) (arg13 : Memref sig .tc .vmem S128x128 .bf16) (v3 : Vec Ideal S1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (B : Fin 4 → Fin 2 → Head) : Prop where
  q0 : ∀ n h i j, arg2.view.read (Elt Ideal) X_arg2 (ix2 (row n i) (col h j)) = (((B n h).q0 i j : ℝ) : EReal)
  f0 : ∀ n h i j, arg3.view.read (Elt Ideal) X_arg3 (ix2 (row n i) (col h j)) = (((B n h).f0 i j : ℝ) : EReal)
  i0 : ∀ n h i j, arg4.view.read (Elt Ideal) X_arg4 (ix2 (row n i) (col h j)) = (((B n h).i0 i j : ℝ) : EReal)
  g0 : ∀ n h i j, arg5.view.read (Elt Ideal) X_arg5 (ix2 (row n i) (col h j)) = (((B n h).g0 i j : ℝ) : EReal)
  o : ∀ n h i j, arg8.view.read (Elt Ideal) X_arg8 (ix2 (row n i) (col h j)) = (((B n h).o i j : ℝ) : EReal)
  dy : ∀ n h i j, arg10.view.read (Elt Ideal) X_arg10 (ix2 (row n i) (col h j)) = (((B n h).dy i j : ℝ) : EReal)
  lb : ∀ n h j, arg6.view.read (Elt Ideal) X_arg6 (ix2 (0 : Fin 1) (col h j)) = (((B n h).lb j : ℝ) : EReal)
  st : ∀ n h i j, arg9.view.read (Elt Ideal) X_arg9 (ix4 n h i j) = (((B n h).st i j : ℝ) : EReal)
  M : ∀ n h i j, arg11.view.read (Elt Ideal) X_arg11 (ix2 i j) = (((B n h).M i.val j : ℝ) : EReal)
  mask : ∀ n h l i j, arg12.view.read (Elt Ideal) X_arg12 (ix3 l i j) = (((B n h).mask l.val i j : ℝ) : EReal)
  suf : ∀ n h i j, arg13.view.read (Elt Ideal) X_arg13 (ix2 i j) = (((B n h).suf i j : ℝ) : EReal)
  gn : ∀ n h, RepR v3 (B n h).gn
  pos : ∀ n h i j, 0 < (B n h).fg i j

/-- The buffers carried from trip to trip. -/
structure St (arg15 : Memref sig .tc .vmem S1x256 .f32) (arg16 : Memref sig .tc .vmem S1x256 .f32) (arg17 : Memref sig .tc .vmem S2x128x128 .f32) (arg18 : Memref sig .tc .vmem S2x1x128 .f32) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (A15 A16 : Fin 2 → Fin 128 → ℝ) (D : Fin 2 → Mat) (R : Fin 2 → Fin 128 → ℝ) : Prop where
  s15 : ∀ h j, arg15.view.read (Elt Ideal) f15 (ix2 (0 : Fin 1) (col h j)) = ((A15 h j : ℝ) : EReal)
  s16 : ∀ h j, arg16.view.read (Elt Ideal) f16 (ix2 (0 : Fin 1) (col h j)) = ((A16 h j : ℝ) : EReal)
  s17 : ∀ h i j, arg17.view.read (Elt Ideal) f17 (ix3 h i j) = ((D h i j : ℝ) : EReal)
  s18 : ∀ h j, arg18.view.read (Elt Ideal) f18 (ix3 h (0 : Fin 1) j) = ((R h j : ℝ) : EReal)

variable {𝒱 : Variants} {c : Dev nD} {bd : Option 𝒱.V} {i : grid0.Coords} {arg2 : Memref sig .tc .vmem S512x256 .f32} {harg2 : arg2.IsWhole} {arg3 : Memref sig .tc .vmem S512x256 .f32} {harg3 : arg3.IsWhole} {arg4 : Memref sig .tc .vmem S512x256 .f32} {harg4 : arg4.IsWhole} {arg5 : Memref sig .tc .vmem S512x256 .f32} {harg5 : arg5.IsWhole} {arg6 : Memref sig .tc .vmem S1x256 .f32} {harg6 : arg6.IsWhole} {arg7 : Memref sig .tc .vmem S1x128 .f32} {harg7 : arg7.IsWhole} {arg8 : Memref sig .tc .vmem S512x256 .f32} {harg8 : arg8.IsWhole} {arg9 : Memref sig .tc .vmem S4x2x128x128 .f32} {harg9 : arg9.IsWhole} {arg10 : Memref sig .tc .vmem S512x256 .f32} {harg10 : arg10.IsWhole} {arg11 : Memref sig .tc .vmem S2048x128 .bf16} {harg11 : arg11.IsWhole} {arg12 : Memref sig .tc .vmem S8x128x128 .f32} {harg12 : arg12.IsWhole} {arg13 : Memref sig .tc .vmem S128x128 .bf16} {harg13 : arg13.IsWhole} {arg14 : Memref sig .tc .vmem S4x512x256 .bf16} {harg14 : arg14.IsWhole} {arg15 : Memref sig .tc .vmem S1x256 .f32} {harg15 : arg15.IsWhole} {arg16 : Memref sig .tc .vmem S1x256 .f32} {harg16 : arg16.IsWhole} {arg17 : Memref sig .tc .vmem S2x128x128 .f32} {harg17 : arg17.IsWhole} {arg18 : Memref sig .tc .vmem S2x1x128 .f32} {harg18 : arg18.IsWhole} {v3 : Vec Ideal S1x128 .f32} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg6 : BufTy.Contents (Elt Ideal) arg6.view.ty} {X_arg8 : BufTy.Contents (Elt Ideal) arg8.view.ty} {X_arg9 : BufTy.Contents (Elt Ideal) arg9.view.ty} {X_arg10 : BufTy.Contents (Elt Ideal) arg10.view.ty} {X_arg11 : BufTy.Contents (Elt Ideal) arg11.view.ty} {X_arg12 : BufTy.Contents (Elt Ideal) arg12.view.ty} {X_arg13 : BufTy.Contents (Elt Ideal) arg13.view.ty}
variable {f14 : BufTy.Contents (Elt Ideal) arg14.view.ty} {f15 : BufTy.Contents (Elt Ideal) arg15.view.ty} {f16 : BufTy.Contents (Elt Ideal) arg16.view.ty} {f17 : BufTy.Contents (Elt Ideal) arg17.view.ty} {f18 : BufTy.Contents (Elt Ideal) arg18.view.ty} {B : Fin 4 → Fin 2 → Head} {A15 A16 : Fin 2 → Fin 128 → ℝ} {D : Fin 2 → Mat} {R : Fin 2 → Fin 128 → ℝ} {k : Fin k0_t1_loop.trips}

theorem loads0 (I : Ins arg2 arg3 arg4 arg5 arg6 arg8 arg9 arg10 arg11 arg12 arg13 v3 X_arg2 X_arg3 X_arg4 X_arg5 X_arg6 X_arg8 X_arg9 X_arg10 X_arg11 X_arg12 X_arg13 B) (S : St arg15 arg16 arg17 arg18 f15 f16 f17 f18 A15 A16 D R) : Loads0 arg2 arg3 arg4 arg5 arg6 arg8 arg9 arg10 arg11 arg12 arg13 arg17 arg18 v3 X_arg2 X_arg3 X_arg4 X_arg5 X_arg6 X_arg8 X_arg9 X_arg10 X_arg11 X_arg12 X_arg13 f17 f18 k ((B (rev k) 0).at (D 0) (R 0)) where
  q0 inb i j := (load_at _ _ inb (off1 k) _ _ (ax2 (d := S512x256.size) (p := row (rev k) i) (q := col 0 j) (e := S128x128.size) (i := i) (j := j) rfl rfl)).trans (I.q0 _ _ i j)
  f0 inb i j := (load_at _ _ inb (off1 k) _ _ (ax2 (d := S512x256.size) (p := row (rev k) i) (q := col 0 j) (e := S128x128.size) (i := i) (j := j) rfl rfl)).trans (I.f0 _ _ i j)
  i0 inb i j := (load_at _ _ inb (off1 k) _ _ (ax2 (d := S512x256.size) (p := row (rev k) i) (q := col 0 j) (e := S128x128.size) (i := i) (j := j) rfl rfl)).trans (I.i0 _ _ i j)
  g0 inb i j := (load_at _ _ inb (off1 k) _ _ (ax2 (d := S512x256.size) (p := row (rev k) i) (q := col 0 j) (e := S128x128.size) (i := i) (j := j) rfl rfl)).trans (I.g0 _ _ i j)
  o inb i j := (load_at _ _ inb (off1 k) _ _ (ax2 (d := S512x256.size) (p := row (rev k) i) (q := col 0 j) (e := S128x128.size) (i := i) (j := j) rfl rfl)).trans (I.o _ _ i j)
  dy inb i j := (load_at _ _ inb (off1 k) _ _ (ax2 (d := S512x256.size) (p := row (rev k) i) (q := col 0 j) (e := S128x128.size) (i := i) (j := j) rfl rfl)).trans (I.dy _ _ i j)
  lb inb j := (load_at _ _ inb (rfl : _ = ![0, 128 * 0]) _ _ (ax2 (d := S1x256.size) (p := (0 : Fin 1)) (q := col 0 j) (e := S1x128.size) (i := (0 : Fin 1)) (j := j) rfl rfl)).trans (I.lb (rev k) _ j)
  st inb i j := (load_at _ _ inb (off3 k) (ix4 0 0 i j) (ix4 (rev k) 0 i j) (ax4 rfl rfl (Nat.zero_add _).symm (Nat.zero_add _).symm)).trans (I.st _ _ i j)
  M inb i j := (load_at _ _ inb rfl (ix2 i j) (ix2 i j) (ax2 (d := S2048x128.size) (p := i) (q := j) (e := S2048x128.size) (i := i) (j := j) (Nat.zero_add _).symm (Nat.zero_add _).symm)).trans (I.M (rev k) 0 i j)
  mask inb l i j := (load_at _ _ inb rfl (ix3 l i j) (ix3 l i j) (ax3 (Nat.zero_add _).symm (Nat.zero_add _).symm (Nat.zero_add _).symm)).trans (I.mask (rev k) 0 l i j)
  suf inb i j := (load_at _ _ inb rfl (ix2 i j) (ix2 i j) (ax2 (d := S128x128.size) (p := i) (q := j) (e := S128x128.size) (i := i) (j := j) (Nat.zero_add _).symm (Nat.zero_add _).symm)).trans (I.suf (rev k) 0 i j)
  dst inb i j := (load_at _ _ inb rfl (ix3 0 i j) (ix3 0 i j) (ax3 rfl (Nat.zero_add _).symm (Nat.zero_add _).symm)).trans (S.s17 0 i j)
  run inb j := (load_at _ _ inb rfl (ix3 0 0 j) (ix3 0 0 j) (ax3 rfl rfl (Nat.zero_add _).symm)).trans (S.s18 0 j)
  gn := I.gn (rev k) 0
  pos := I.pos (rev k) 0

theorem loads1 (I : Ins arg2 arg3 arg4 arg5 arg6 arg8 arg9 arg10 arg11 arg12 arg13 v3 X_arg2 X_arg3 X_arg4 X_arg5 X_arg6 X_arg8 X_arg9 X_arg10 X_arg11 X_arg12 X_arg13 B) (S : St arg15 arg16 arg17 arg18 f15 f16 f17 f18 A15 A16 D R) : Loads1 arg2 arg3 arg4 arg5 arg6 arg8 arg9 arg10 arg11 arg12 arg13 arg17 arg18 v3 X_arg2 X_arg3 X_arg4 X_arg5 X_arg6 X_arg8 X_arg9 X_arg10 X_arg11 X_arg12 X_arg13 f17 f18 k ((B (rev k) 1).at (D 1) (R 1)) where
  q0 inb i j := (load_at _ _ inb (off7 k) _ _ (ax2 (d := S512x256.size) (p := row (rev k) i) (q := col 1 j) (e := S128x128.size) (i := i) (j := j) rfl rfl)).trans (I.q0 _ _ i j)
  f0 inb i j := (load_at _ _ inb (off7 k) _ _ (ax2 (d := S512x256.size) (p := row (rev k) i) (q := col 1 j) (e := S128x128.size) (i := i) (j := j) rfl rfl)).trans (I.f0 _ _ i j)
  i0 inb i j := (load_at _ _ inb (off7 k) _ _ (ax2 (d := S512x256.size) (p := row (rev k) i) (q := col 1 j) (e := S128x128.size) (i := i) (j := j) rfl rfl)).trans (I.i0 _ _ i j)
  g0 inb i j := (load_at _ _ inb (off7 k) _ _ (ax2 (d := S512x256.size) (p := row (rev k) i) (q := col 1 j) (e := S128x128.size) (i := i) (j := j) rfl rfl)).trans (I.g0 _ _ i j)
  o inb i j := (load_at _ _ inb (off7 k) _ _ (ax2 (d := S512x256.size) (p := row (rev k) i) (q := col 1 j) (e := S128x128.size) (i := i) (j := j) rfl rfl)).trans (I.o _ _ i j)
  dy inb i j := (load_at _ _ inb (off7 k) _ _ (ax2 (d := S512x256.size) (p := row (rev k) i) (q := col 1 j) (e := S128x128.size) (i := i) (j := j) rfl rfl)).trans (I.dy _ _ i j)
  lb inb j := (load_at _ _ inb (rfl : _ = ![0, 128 * 1]) _ _ (ax2 (d := S1x256.size) (p := (0 : Fin 1)) (q := col 1 j) (e := S1x128.size) (i := (0 : Fin 1)) (j := j) rfl rfl)).trans (I.lb (rev k) _ j)
  st inb i j := (load_at _ _ inb (off9 k) (ix4 0 0 i j) (ix4 (rev k) 1 i j) (ax4 rfl rfl (Nat.zero_add _).symm (Nat.zero_add _).symm)).trans (I.st _ _ i j)
  M inb i j := (load_at _ _ inb rfl (ix2 i j) (ix2 i j) (ax2 (d := S2048x128.size) (p := i) (q := j) (e := S2048x128.size) (i := i) (j := j) (Nat.zero_add _).symm (Nat.zero_add _).symm)).trans (I.M (rev k) 1 i j)
  mask inb l i j := (load_at _ _ inb rfl (ix3 l i j) (ix3 l i j) (ax3 (Nat.zero_add _).symm (Nat.zero_add _).symm (Nat.zero_add _).symm)).trans (I.mask (rev k) 1 l i j)
  suf inb i j := (load_at _ _ inb rfl (ix2 i j) (ix2 i j) (ax2 (d := S128x128.size) (p := i) (q := j) (e := S128x128.size) (i := i) (j := j) (Nat.zero_add _).symm (Nat.zero_add _).symm)).trans (I.suf (rev k) 1 i j)
  dst inb i j := (load_at _ _ inb rfl (ix3 0 i j) (ix3 1 i j) (ax3 rfl (Nat.zero_add _).symm (Nat.zero_add _).symm)).trans (S.s17 1 i j)
  run inb j := (load_at _ _ inb rfl (ix3 0 0 j) (ix3 1 0 j) (ax3 rfl rfl (Nat.zero_add _).symm)).trans (S.s18 1 j)
  gn := I.gn (rev k) 1
  pos := I.pos (rev k) 1

/-- The pieces one trip stores, with the reals they hold. -/
theorem trip_pieces (I : Ins arg2 arg3 arg4 arg5 arg6 arg8 arg9 arg10 arg11 arg12 arg13 v3 X_arg2 X_arg3 X_arg4 X_arg5 X_arg6 X_arg8 X_arg9 X_arg10 X_arg11 X_arg12 X_arg13 B) (S : St arg15 arg16 arg17 arg18 f15 f16 f17 f18 A15 A16 D R) :
    (∃ i12 i11 i10 i8 i6 i5 i4 i2 w12 w11 w10 w8 w6 w5 w4 w2,
      (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).1 = [⟨Rect.unit (s := S4x512x256) (k0_off12 k) S1x128x128.size i12, w12⟩, ⟨Rect.unit (s := S4x512x256) (k0_off11 k) S1x128x128.size i11, w11⟩, ⟨Rect.unit (s := S4x512x256) (k0_off10 k) S1x128x128.size i10, w10⟩, ⟨Rect.unit (s := S4x512x256) (k0_off8 k) S1x128x128.size i8, w8⟩, ⟨Rect.unit (s := S4x512x256) (k0_off6 k) S1x128x128.size i6, w6⟩, ⟨Rect.unit (s := S4x512x256) (k0_off5 k) S1x128x128.size i5, w5⟩, ⟨Rect.unit (s := S4x512x256) (k0_off4 k) S1x128x128.size i4, w4⟩, ⟨Rect.unit (s := S4x512x256) (k0_off2 k) S1x128x128.size i2, w2⟩]
        ∧ RepB w12 ((B (rev k) 1).at (D 1) (R 1)).dv
        ∧ RepB w11 ((B (rev k) 1).at (D 1) (R 1)).dp0
        ∧ RepB w10 ((B (rev k) 1).at (D 1) (R 1)).dp1
        ∧ RepB w8 ((B (rev k) 1).at (D 1) (R 1)).dp3
        ∧ RepB w6 ((B (rev k) 0).at (D 0) (R 0)).dv
        ∧ RepB w5 ((B (rev k) 0).at (D 0) (R 0)).dp0
        ∧ RepB w4 ((B (rev k) 0).at (D 0) (R 0)).dp1
        ∧ RepB w2 ((B (rev k) 0).at (D 0) (R 0)).dp3) ∧
    (∃ i1 i0 w1 w0, (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).2.1 = [⟨Rect.unit (s := S1x256) ![0, 128] S1x128.size i1, w1⟩, ⟨Rect.unit (s := S1x256) ![0, 0] S1x128.size i0, w0⟩]
        ∧ RepR w1 (A15 1 + ((B (rev k) 1).at (D 1) (R 1)).dlb) ∧ RepR w0 (A15 0 + ((B (rev k) 0).at (D 0) (R 0)).dlb)) ∧
    (∃ i1 i0 w1 w0, (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).2.2.1 = [⟨Rect.unit (s := S1x256) ![0, 128] S1x128.size i1, w1⟩, ⟨Rect.unit (s := S1x256) ![0, 0] S1x128.size i0, w0⟩]
        ∧ RepR w1 (A16 1 + ((B (rev k) 1).at (D 1) (R 1)).dgn) ∧ RepR w0 (A16 0 + ((B (rev k) 0).at (D 0) (R 0)).dgn)) ∧
    (∃ i1 i0 w1 w0, (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).2.2.2.1 = [⟨Rect.unit (s := S2x128x128) ![1, 0, 0] S1x128x128.size i1, w1⟩, ⟨Rect.unit (s := S2x128x128) ![0, 0, 0] S1x128x128.size i0, w0⟩]
        ∧ RepB w1 (((B (rev k) 1).at (D 1) (R 1)).dst') ∧ RepB w0 (((B (rev k) 0).at (D 0) (R 0)).dst')) ∧
    (∃ i1 i0 w1 w0, (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).2.2.2.2 = [⟨Rect.unit (s := S2x1x128) ![1, 0, 0] S1x1x128.size i1, w1⟩, ⟨Rect.unit (s := S2x1x128) ![0, 0, 0] S1x1x128.size i0, w0⟩]
        ∧ RepRR w1 (((B (rev k) 1).at (D 1) (R 1)).run') ∧ RepRR w0 (((B (rev k) 0).at (D 0) (R 0)).run')) := by
  have L0 := loads0 (k := k) I S
  have L1 := loads1 (k := k) I S
  unfold tripL_k0_t1 trip_k0_t1
  refine ⟨⟨_, _, _, _, _, _, _, _, _, _, _, _, _, _, _, _, rfl, ?_, ?_, ?_, ?_, ?_, ?_, ?_, ?_⟩, ⟨_, _, _, _, rfl, ?_, ?_⟩, ⟨_, _, _, _, rfl, ?_, ?_⟩, ⟨_, _, _, _, rfl, ?_, ?_⟩, ⟨_, _, _, _, rfl, ?_, ?_⟩⟩
  · exact p14_12 L1
  · exact p14_11 L1
  · exact p14_10 L1
  · exact p14_8 L1
  · exact p14_6 L0
  · exact p14_5 L0
  · exact p14_4 L0
  · exact p14_2 L0
  · exact p15_1 L1 (fun j => (load_at _ _ _ (rfl : _ = ![0, 128 * 1]) _ _ (ax2 (d := S1x256.size) (p := (0 : Fin 1)) (q := col 1 j) (e := S1x128.size) (i := (0 : Fin 1)) (j := j) rfl rfl)).trans (S.s15 _ j))
  · exact p15_0 L0 (fun j => (load_at _ _ _ (rfl : _ = ![0, 128 * 0]) _ _ (ax2 (d := S1x256.size) (p := (0 : Fin 1)) (q := col 0 j) (e := S1x128.size) (i := (0 : Fin 1)) (j := j) rfl rfl)).trans (S.s15 _ j))
  · exact p16_1 L1 (rp132 (fun j => (load_at _ _ _ (rfl : _ = ![0, 128 * 1]) _ _ (ax2 (d := S1x256.size) (p := (0 : Fin 1)) (q := col 1 j) (e := S1x128.size) (i := (0 : Fin 1)) (j := j) rfl rfl)).trans (S.s16 _ j)))
  · exact p16_0 L0 (fun j => (load_at _ _ _ (rfl : _ = ![0, 128 * 0]) _ _ (ax2 (d := S1x256.size) (p := (0 : Fin 1)) (q := col 0 j) (e := S1x128.size) (i := (0 : Fin 1)) (j := j) rfl rfl)).trans (S.s16 _ j))
  · exact p17_1 L1
  · exact p17_0 L0
  · exact p18_1 L1
  · exact p18_0 L0

/-- The reals of the four gradients a block stores: of the query, forget, value and gate projections. -/
def Head.outv (H : Head) (s : Fin 4) : Mat := if s = 0 then H.dp0 else if s = 1 then H.dp1 else if s = 2 then H.dv else H.dp3

/-- What a trip stores for its own chunk. -/
theorem trip_out (I : Ins arg2 arg3 arg4 arg5 arg6 arg8 arg9 arg10 arg11 arg12 arg13 v3 X_arg2 X_arg3 X_arg4 X_arg5 X_arg6 X_arg8 X_arg9 X_arg10 X_arg11 X_arg12 X_arg13 B) (S : St arg15 arg16 arg17 arg18 f15 f16 f17 f18 A15 A16 D R) (s : Fin 4) (h : Fin 2) (p j : Fin 128) :
    arg14.view.read (Elt Ideal) (arg14.view.writes (Elt Ideal) f14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).1) (ix3 s (row (rev k) p) (col h j))
      = ((((B (rev k) h).at (D h) (R h)).outv s p j : ℝ) : EReal) := by
  obtain ⟨i12, i11, i10, i8, i6, i5, i4, i2, w12, w11, w10, w8, w6, w5, w4, w2, e, h12, h11, h10, h8, h6, h5, h4, h2⟩ := (trip_pieces (k := k) (f14 := f14) (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (arg7 := arg7) I S).1
  rw [e]
  match s, h with
  | 0, 0 =>
    refine (View.read_writes_cons_unit_of_not_mem _ _ _ _ _ _ (off12 k) 0 (by show 0 < 2 ∨ 2 + 1 ≤ 0; omega)).trans ?_
    refine (View.read_writes_cons_unit_of_not_mem _ _ _ _ _ _ (off11 k) 2 (by show 128 * 0 + j.val < 128 * 1 ∨ 128 * 1 + 128 ≤ 128 * 0 + j.val; omega)).trans ?_
    refine (View.read_writes_cons_unit_of_not_mem _ _ _ _ _ _ (off10 k) 0 (by show 0 < 1 ∨ 1 + 1 ≤ 0; omega)).trans ?_
    refine (View.read_writes_cons_unit_of_not_mem _ _ _ _ _ _ (off8 k) 0 (by show 0 < 3 ∨ 3 + 1 ≤ 0; omega)).trans ?_
    refine (View.read_writes_cons_unit_of_not_mem _ _ _ _ _ _ (off6 k) 0 (by show 0 < 2 ∨ 2 + 1 ≤ 0; omega)).trans ?_
    exact (View.read_writes_cons_unit_of_mem _ _ _ _ _ _ (ix3 0 p j) (off5 k) (ax3 rfl rfl rfl)).trans (h5 p j)
  | 0, 1 =>
    refine (View.read_writes_cons_unit_of_not_mem _ _ _ _ _ _ (off12 k) 0 (by show 0 < 2 ∨ 2 + 1 ≤ 0; omega)).trans ?_
    exact (View.read_writes_cons_unit_of_mem _ _ _ _ _ _ (ix3 0 p j) (off11 k) (ax3 rfl rfl rfl)).trans (h11 p j)
  | 1, 0 =>
    refine (View.read_writes_cons_unit_of_not_mem _ _ _ _ _ _ (off12 k) 0 (by show 1 < 2 ∨ 2 + 1 ≤ 1; omega)).trans ?_
    refine (View.read_writes_cons_unit_of_not_mem _ _ _ _ _ _ (off11 k) 0 (by show 1 < 0 ∨ 0 + 1 ≤ 1; omega)).trans ?_
    refine (View.read_writes_cons_unit_of_not_mem _ _ _ _ _ _ (off10 k) 2 (by show 128 * 0 + j.val < 128 * 1 ∨ 128 * 1 + 128 ≤ 128 * 0 + j.val; omega)).trans ?_
    refine (View.read_writes_cons_unit_of_not_mem _ _ _ _ _ _ (off8 k) 0 (by show 1 < 3 ∨ 3 + 1 ≤ 1; omega)).trans ?_
    refine (View.read_writes_cons_unit_of_not_mem _ _ _ _ _ _ (off6 k) 0 (by show 1 < 2 ∨ 2 + 1 ≤ 1; omega)).trans ?_
    refine (View.read_writes_cons_unit_of_not_mem _ _ _ _ _ _ (off5 k) 0 (by show 1 < 0 ∨ 0 + 1 ≤ 1; omega)).trans ?_
    exact (View.read_writes_cons_unit_of_mem _ _ _ _ _ _ (ix3 0 p j) (off4 k) (ax3 rfl rfl rfl)).trans (h4 p j)
  | 1, 1 =>
    refine (View.read_writes_cons_unit_of_not_mem _ _ _ _ _ _ (off12 k) 0 (by show 1 < 2 ∨ 2 + 1 ≤ 1; omega)).trans ?_
    refine (View.read_writes_cons_unit_of_not_mem _ _ _ _ _ _ (off11 k) 0 (by show 1 < 0 ∨ 0 + 1 ≤ 1; omega)).trans ?_
    exact (View.read_writes_cons_unit_of_mem _ _ _ _ _ _ (ix3 0 p j) (off10 k) (ax3 rfl rfl rfl)).trans (h10 p j)
  | 2, 0 =>
    refine (View.read_writes_cons_unit_of_not_mem _ _ _ _ _ _ (off12 k) 2 (by show 128 * 0 + j.val < 128 * 1 ∨ 128 * 1 + 128 ≤ 128 * 0 + j.val; omega)).trans ?_
    refine (View.read_writes_cons_unit_of_not_mem _ _ _ _ _ _ (off11 k) 0 (by show 2 < 0 ∨ 0 + 1 ≤ 2; omega)).trans ?_
    refine (View.read_writes_cons_unit_of_not_mem _ _ _ _ _ _ (off10 k) 0 (by show 2 < 1 ∨ 1 + 1 ≤ 2; omega)).trans ?_
    refine (View.read_writes_cons_unit_of_not_mem _ _ _ _ _ _ (off8 k) 0 (by show 2 < 3 ∨ 3 + 1 ≤ 2; omega)).trans ?_
    exact (View.read_writes_cons_unit_of_mem _ _ _ _ _ _ (ix3 0 p j) (off6 k) (ax3 rfl rfl rfl)).trans (h6 p j)
  | 2, 1 =>
    exact (View.read_writes_cons_unit_of_mem _ _ _ _ _ _ (ix3 0 p j) (off12 k) (ax3 rfl rfl rfl)).trans (h12 p j)
  | 3, 0 =>
    refine (View.read_writes_cons_unit_of_not_mem _ _ _ _ _ _ (off12 k) 0 (by show 3 < 2 ∨ 2 + 1 ≤ 3; omega)).trans ?_
    refine (View.read_writes_cons_unit_of_not_mem _ _ _ _ _ _ (off11 k) 0 (by show 3 < 0 ∨ 0 + 1 ≤ 3; omega)).trans ?_
    refine (View.read_writes_cons_unit_of_not_mem _ _ _ _ _ _ (off10 k) 0 (by show 3 < 1 ∨ 1 + 1 ≤ 3; omega)).trans ?_
    refine (View.read_writes_cons_unit_of_not_mem _ _ _ _ _ _ (off8 k) 2 (by show 128 * 0 + j.val < 128 * 1 ∨ 128 * 1 + 128 ≤ 128 * 0 + j.val; omega)).trans ?_
    refine (View.read_writes_cons_unit_of_not_mem _ _ _ _ _ _ (off6 k) 0 (by show 3 < 2 ∨ 2 + 1 ≤ 3; omega)).trans ?_
    refine (View.read_writes_cons_unit_of_not_mem _ _ _ _ _ _ (off5 k) 0 (by show 3 < 0 ∨ 0 + 1 ≤ 3; omega)).trans ?_
    refine (View.read_writes_cons_unit_of_not_mem _ _ _ _ _ _ (off4 k) 0 (by show 3 < 1 ∨ 1 + 1 ≤ 3; omega)).trans ?_
    exact (View.read_writes_cons_unit_of_mem _ _ _ _ _ _ (ix3 0 p j) (off2 k) (ax3 rfl rfl rfl)).trans (h2 p j)
  | 3, 1 =>
    refine (View.read_writes_cons_unit_of_not_mem _ _ _ _ _ _ (off12 k) 0 (by show 3 < 2 ∨ 2 + 1 ≤ 3; omega)).trans ?_
    refine (View.read_writes_cons_unit_of_not_mem _ _ _ _ _ _ (off11 k) 0 (by show 3 < 0 ∨ 0 + 1 ≤ 3; omega)).trans ?_
    refine (View.read_writes_cons_unit_of_not_mem _ _ _ _ _ _ (off10 k) 0 (by show 3 < 1 ∨ 1 + 1 ≤ 3; omega)).trans ?_
    exact (View.read_writes_cons_unit_of_mem _ _ _ _ _ _ (ix3 0 p j) (off8 k) (ax3 rfl rfl rfl)).trans (h8 p j)

/-- What a trip leaves of the other chunks. -/
theorem trip_keep (I : Ins arg2 arg3 arg4 arg5 arg6 arg8 arg9 arg10 arg11 arg12 arg13 v3 X_arg2 X_arg3 X_arg4 X_arg5 X_arg6 X_arg8 X_arg9 X_arg10 X_arg11 X_arg12 X_arg13 B) (S : St arg15 arg16 arg17 arg18 f15 f16 f17 f18 A15 A16 D R) (n : Fin 4) (hn : n ≠ rev k) (s : Fin 4) (h : Fin 2) (p j : Fin 128) :
    arg14.view.read (Elt Ideal) (arg14.view.writes (Elt Ideal) f14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).1) (ix3 s (row n p) (col h j))
      = arg14.view.read (Elt Ideal) f14 (ix3 s (row n p) (col h j)) := by
  obtain ⟨i12, i11, i10, i8, i6, i5, i4, i2, w12, w11, w10, w8, w6, w5, w4, w2, e, -⟩ := (trip_pieces (k := k) (f14 := f14) (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (arg7 := arg7) I S).1
  rw [e]
  have hr : 128 * n.val + p.val < 128 * (rev k).val ∨ 128 * (rev k).val + 128 ≤ 128 * n.val + p.val := by
    have : n.val ≠ (rev k).val := fun e => hn (Fin.ext e)
    omega
  refine (View.read_writes_cons_unit_of_not_mem _ _ _ _ _ _ (off12 k) 1 hr).trans ?_
  refine (View.read_writes_cons_unit_of_not_mem _ _ _ _ _ _ (off11 k) 1 hr).trans ?_
  refine (View.read_writes_cons_unit_of_not_mem _ _ _ _ _ _ (off10 k) 1 hr).trans ?_
  refine (View.read_writes_cons_unit_of_not_mem _ _ _ _ _ _ (off8 k) 1 hr).trans ?_
  refine (View.read_writes_cons_unit_of_not_mem _ _ _ _ _ _ (off6 k) 1 hr).trans ?_
  refine (View.read_writes_cons_unit_of_not_mem _ _ _ _ _ _ (off5 k) 1 hr).trans ?_
  refine (View.read_writes_cons_unit_of_not_mem _ _ _ _ _ _ (off4 k) 1 hr).trans ?_
  refine (View.read_writes_cons_unit_of_not_mem _ _ _ _ _ _ (off2 k) 1 hr).trans ?_
  rfl

/-- What a trip leaves in the carried buffers. -/
theorem trip_st (I : Ins arg2 arg3 arg4 arg5 arg6 arg8 arg9 arg10 arg11 arg12 arg13 v3 X_arg2 X_arg3 X_arg4 X_arg5 X_arg6 X_arg8 X_arg9 X_arg10 X_arg11 X_arg12 X_arg13 B) (S : St arg15 arg16 arg17 arg18 f15 f16 f17 f18 A15 A16 D R) :
    St arg15 arg16 arg17 arg18 (arg15.view.writes (Elt Ideal) f15 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).2.1) (arg16.view.writes (Elt Ideal) f16 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).2.2.1) (arg17.view.writes (Elt Ideal) f17 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).2.2.2.1) (arg18.view.writes (Elt Ideal) f18 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 k f14 f15 f16 f17 f18).2.2.2.2)
      (fun h => A15 h + ((B (rev k) h).at (D h) (R h)).dlb) (fun h => A16 h + ((B (rev k) h).at (D h) (R h)).dgn) (fun h => ((B (rev k) h).at (D h) (R h)).dst') (fun h => ((B (rev k) h).at (D h) (R h)).run') := by
  obtain ⟨-, ⟨i1, i0, w1, w0, e, h1, h0⟩, ⟨j1, j0, x1, x0, ex, hx1, hx0⟩, ⟨k1, k0, y1, y0, ey, hy1, hy0⟩, ⟨l1, l0, z1, z0, ez, hz1, hz0⟩⟩ := trip_pieces (k := k) (f14 := f14) (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (arg7 := arg7) I S
  constructor
  · intro h j
    rw [e]
    match h with
    | 0 =>
      refine (View.read_writes_cons_unit_of_not_mem _ _ _ _ _ _ (rfl : _ = ![0, 128 * 1]) 1 (by show 128 * 0 + j.val < 128 * 1 ∨ 128 * 1 + 128 ≤ 128 * 0 + j.val; omega)).trans ?_
      exact (View.read_writes_cons_unit_of_mem _ _ _ _ _ _ (ix2 0 j) (rfl : _ = ![0, 128 * 0]) (ax2 (d := S1x256.size) (p := (0 : Fin 1)) (q := col 0 j) (e := S1x128.size) (i := (0 : Fin 1)) (j := j) rfl rfl)).trans (h0 j)
    | 1 =>
      exact (View.read_writes_cons_unit_of_mem _ _ _ _ _ _ (ix2 0 j) (rfl : _ = ![0, 128 * 1]) (ax2 (d := S1x256.size) (p := (0 : Fin 1)) (q := col 1 j) (e := S1x128.size) (i := (0 : Fin 1)) (j := j) rfl rfl)).trans (h1 j)
  · intro h j
    rw [ex]
    match h with
    | 0 =>
      refine (View.read_writes_cons_unit_of_not_mem _ _ _ _ _ _ (rfl : _ = ![0, 128 * 1]) 1 (by show 128 * 0 + j.val < 128 * 1 ∨ 128 * 1 + 128 ≤ 128 * 0 + j.val; omega)).trans ?_
      exact (View.read_writes_cons_unit_of_mem _ _ _ _ _ _ (ix2 0 j) (rfl : _ = ![0, 128 * 0]) (ax2 (d := S1x256.size) (p := (0 : Fin 1)) (q := col 0 j) (e := S1x128.size) (i := (0 : Fin 1)) (j := j) rfl rfl)).trans (hx0 j)
    | 1 =>
      exact (View.read_writes_cons_unit_of_mem _ _ _ _ _ _ (ix2 0 j) (rfl : _ = ![0, 128 * 1]) (ax2 (d := S1x256.size) (p := (0 : Fin 1)) (q := col 1 j) (e := S1x128.size) (i := (0 : Fin 1)) (j := j) rfl rfl)).trans (hx1 j)
  · intro h p j
    rw [ey]
    match h with
    | 0 =>
      refine (View.read_writes_cons_unit_of_not_mem _ _ _ _ _ _ (rfl : _ = ![1, 0, 0]) 0 (Or.inl Nat.zero_lt_one)).trans ?_
      exact (View.read_writes_cons_unit_of_mem _ _ _ _ _ _ (ix3 0 p j) (rfl : _ = ![0, 0, 0]) (ax3 (d := S2x128x128.size) (e := S1x128x128.size) rfl (Nat.zero_add p.val).symm (Nat.zero_add j.val).symm)).trans (hy0 p j)
    | 1 =>
      exact (View.read_writes_cons_unit_of_mem _ _ _ _ _ _ (ix3 0 p j) (rfl : _ = ![1, 0, 0]) (ax3 (d := S2x128x128.size) (e := S1x128x128.size) rfl (Nat.zero_add p.val).symm (Nat.zero_add j.val).symm)).trans (hy1 p j)
  · intro h j
    rw [ez]
    match h with
    | 0 =>
      refine (View.read_writes_cons_unit_of_not_mem _ _ _ _ _ _ (rfl : _ = ![1, 0, 0]) 0 (Or.inl Nat.zero_lt_one)).trans ?_
      exact (View.read_writes_cons_unit_of_mem _ _ _ _ _ _ (ix3 0 0 j) (rfl : _ = ![0, 0, 0]) (ax3 (d := S2x1x128.size) (e := S1x1x128.size) rfl rfl (Nat.zero_add j.val).symm)).trans (hz0 j)
    | 1 =>
      exact (View.read_writes_cons_unit_of_mem _ _ _ _ _ _ (ix3 0 0 j) (rfl : _ = ![1, 0, 0]) (ax3 (d := S2x1x128.size) (e := S1x1x128.size) rfl rfl (Nat.zero_add j.val).symm)).trans (hz1 j)

/-- The gradient of the state, the running sum and the two accumulated rows before trip `n`. -/
def chain (B : Fin 4 → Fin 2 → Head) (A15 A16 : Fin 2 → Fin 128 → ℝ) (D : Fin 2 → Mat) (R : Fin 2 → Fin 128 → ℝ) :
    ℕ → (Fin 2 → Mat) × (Fin 2 → Fin 128 → ℝ) × (Fin 2 → Fin 128 → ℝ) × (Fin 2 → Fin 128 → ℝ)
  | 0 => (D, R, A15, A16)
  | n + 1 =>
    let p := chain B A15 A16 D R n
    let H := fun h => (B (3 - Fin.ofNat 4 n) h).at (p.1 h) (p.2.1 h)
    (fun h => (H h).dst', fun h => (H h).run', fun h => p.2.2.1 h + (H h).dlb, fun h => p.2.2.2 h + (H h).dgn)

theorem rev_eq : ∀ k : Fin k0_t1_loop.trips, rev k = 3 - Fin.ofNat 4 k.val := by decide +kernel

/-- The buffers after the trips before `n`. -/
theorem loop_st (I : Ins arg2 arg3 arg4 arg5 arg6 arg8 arg9 arg10 arg11 arg12 arg13 v3 X_arg2 X_arg3 X_arg4 X_arg5 X_arg6 X_arg8 X_arg9 X_arg10 X_arg11 X_arg12 X_arg13 B) (S : St arg15 arg16 arg17 arg18 f15 f16 f17 f18 A15 A16 D R) (n : ℕ) (hn : n ≤ 4) :
    St arg15 arg16 arg17 arg18 (arg15.view.writes (Elt Ideal) f15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 n).2.1) (arg16.view.writes (Elt Ideal) f16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 n).2.2.1) (arg17.view.writes (Elt Ideal) f17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 n).2.2.2.1) (arg18.view.writes (Elt Ideal) f18 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 n).2.2.2.2)
      (chain B A15 A16 D R n).2.2.1 (chain B A15 A16 D R n).2.2.2 (chain B A15 A16 D R n).1 (chain B A15 A16 D R n).2.1 := by
  induction n with
  | zero => exact S
  | succ n ih =>
    have hs := ih (Nat.le_of_succ_le hn)
    have hk : n < k0_t1_loop.trips := by rw [trips4]; exact hn
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 ⟨n, hk⟩
    have hr := rev_eq ⟨n, hk⟩
    have t := trip_st (k := ⟨n, hk⟩) (f14 := arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 n).1) (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (arg7 := arg7) I hs
    rw [hr] at t
    rw [e]
    simp only [View.writes_append]
    exact t

/-- The stored gradients after the trips before `n`. -/
theorem loop_out (I : Ins arg2 arg3 arg4 arg5 arg6 arg8 arg9 arg10 arg11 arg12 arg13 v3 X_arg2 X_arg3 X_arg4 X_arg5 X_arg6 X_arg8 X_arg9 X_arg10 X_arg11 X_arg12 X_arg13 B) (S : St arg15 arg16 arg17 arg18 f15 f16 f17 f18 A15 A16 D R) (n : ℕ) (hn : n ≤ 4) (q : ℕ) (hq : q < n) (s : Fin 4) (h : Fin 2) (p j : Fin 128) :
    arg14.view.read (Elt Ideal) (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 n).1) (ix3 s (row (3 - Fin.ofNat 4 q) p) (col h j))
      = ((((B (3 - Fin.ofNat 4 q) h).at ((chain B A15 A16 D R q).1 h) ((chain B A15 A16 D R q).2.1 h)).outv s p j : ℝ) : EReal) := by
  induction n with
  | zero => omega
  | succ n ih =>
    have hk : n < k0_t1_loop.trips := by rw [trips4]; exact hn
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 ⟨n, hk⟩
    have hr := rev_eq ⟨n, hk⟩
    have hs := loop_st (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (arg7 := arg7) (f14 := f14) I S n (Nat.le_of_succ_le hn)
    rw [e]
    simp only [View.writes_append]
    rcases Nat.lt_succ_iff_lt_or_eq.1 hq with hlt | rfl
    · refine (trip_keep (k := ⟨n, hk⟩) (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (arg7 := arg7) I hs _ ?_ s h p j).trans (ih (Nat.le_of_succ_le hn) hlt)
      rw [hr]
      intro e
      have h1 : ∀ a b : Fin 4, 3 - a = 3 - b → a = b := by decide
      have h2 := congrArg Fin.val (h1 _ _ e)
      simp only [Fin.ofNat] at h2
      rw [Nat.mod_eq_of_lt (by omega), Nat.mod_eq_of_lt (by omega)] at h2
      omega
    · have t := trip_out (k := ⟨q, hk⟩) (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (arg7 := arg7) (f14 := arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg3 X_arg4 X_arg5 X_arg6 X_arg8 X_arg9 X_arg10 X_arg11 X_arg12 X_arg13 f14 f15 f16 f17 f18 q).1) I hs s h p j
      rw [hr] at t
      exact t

end Cert.Proof

end
-- ==== Proof.RealOps.lean ====
/- The host operations on extended reals that hold real numbers: what each gives, one real at a time. -/
module

public import proofs.«01_k».proof.Proof.Rep
public import Idealize.ShloMosaic.PureOps.Ideal.Laws

@[expose] public section

set_option maxRecDepth 16384

noncomputable section

namespace Cert.Proof

open Idealize.ShloMosaic

/-- Feature `k` of head `h`, as a column of 1024. -/
abbrev cl (h : Fin 8) (k : Fin 128) : Fin 1024 := ⟨128 * h.val + k.val, by omega⟩
/-- Feature `k` of head `h` in slot `s`, as a column of 4096. -/
abbrev cp (s : Fin 4) (h : Fin 8) (k : Fin 128) : Fin 4096 := ⟨1024 * s.val + 128 * h.val + k.val, by omega⟩

/-- The real numbers of the four arguments. -/
structure Par where
  p0 : ℕ → Fin 4 → Fin 8 → Fin 128 → ℝ
  p1 : Fin 8 → Fin 128 → ℝ
  p2 : Fin 128 → ℝ
  p3 : ℕ → Fin 8 → Fin 128 → ℝ

/-- The four argument arrays hold these reals, and the lower bounds lie between zero and one. -/
structure Holds (x0 : (⟨2, ![4096, 4096]⟩ : Shape).Idx → EReal) (x1 : (⟨2, ![1, 1024]⟩ : Shape).Idx → EReal)
    (x2 : (⟨2, ![1, 128]⟩ : Shape).Idx → EReal) (x3 : (⟨2, ![4096, 1024]⟩ : Shape).Idx → EReal) (P : Par) : Prop where
  h0 : ∀ (t : Fin 4096) s h k, x0 (ix2 t (cp s h k)) = ((P.p0 t.val s h k : ℝ) : EReal)
  h1 : ∀ h k, x1 (ix2 (0 : Fin 1) (cl h k)) = ((P.p1 h k : ℝ) : EReal)
  h2 : ∀ k, x2 (ix2 (0 : Fin 1) k) = ((P.p2 k : ℝ) : EReal)
  h3 : ∀ (t : Fin 4096) h k, x3 (ix2 t (cl h k)) = ((P.p3 t.val h k : ℝ) : EReal)
  nonneg : ∀ h k, 0 ≤ P.p1 h k
  lt_one : ∀ h k, P.p1 h k < 1

section ops
variable {φ ψ : FTy}

theorem m_mul (a b : ℝ) : FloatOps.mulf (F := Ideal) (φ := φ) (a : EReal) (b : EReal) = ((a * b : ℝ) : EReal) := (EReal.coe_mul a b).symm
theorem m_add (a b : ℝ) : FloatOps.addf (F := Ideal) (φ := φ) (a : EReal) (b : EReal) = ((a + b : ℝ) : EReal) := (EReal.coe_add a b).symm
theorem m_sub (a b : ℝ) : FloatOps.subf (F := Ideal) (φ := φ) (a : EReal) (b : EReal) = ((a - b : ℝ) : EReal) := (EReal.coe_sub a b).symm
theorem m_neg (a : ℝ) : FloatOps.hostNegf (F := Ideal) (φ := φ) (a : EReal) = ((-a : ℝ) : EReal) := (EReal.coe_neg a).symm
theorem m_exp (a : ℝ) : FloatOps.hostUnary (F := Ideal) .exp (φ := φ) (a : EReal) = ((Real.exp a : ℝ) : EReal) := rfl
theorem m_expm1 (a : ℝ) : FloatOps.hostUnary (F := Ideal) .expm1 (φ := φ) (a : EReal) = ((Real.exp a - 1 : ℝ) : EReal) := by
  show Ideal.exp (a : EReal) - 1 = _
  rw [Ideal.exp_coe, ← EReal.coe_one, ← EReal.coe_sub]
theorem m_log (a : ℝ) (h : 0 < a) : FloatOps.hostUnary (F := Ideal) .log (φ := φ) (a : EReal) = ((Real.log a : ℝ) : EReal) := by
  show Ideal.log (a : EReal) = _
  rw [Ideal.log_coe, if_neg (not_le.2 h)]
theorem m_rsqrt (a : ℝ) (h : 0 < a) : FloatOps.hostUnary (F := Ideal) .rsqrt (φ := φ) (a : EReal) = (((Real.sqrt a)⁻¹ : ℝ) : EReal) := by
  show Ideal.rsqrt (a : EReal) = _
  rw [Ideal.rsqrt_coe, if_neg (not_lt.2 h.le), if_neg h.ne']
theorem m_div (a b : ℝ) (h : b ≠ 0) : FloatOps.hostDivf (F := Ideal) (φ := φ) (a : EReal) (b : EReal) = ((a / b : ℝ) : EReal) := div_real a b h
theorem m_min (a b : ℝ) : FloatOps.minimumf (F := Ideal) (φ := φ) (a : EReal) (b : EReal) = ((min a b : ℝ) : EReal) := by
  show min (a : EReal) (b : EReal) = _
  exact (EReal.coe_strictMono.monotone.map_min).symm
theorem m_ogt (a b : ℝ) [Decidable (b < a)] : FloatOps.cmpf (F := Ideal) (φ := φ) .ogt (a : EReal) (b : EReal) = if b < a then 1#1 else 0#1 := by
  show BitVec.ofBool (decide ((b : EReal) < (a : EReal))) = _
  by_cases h : b < a
  · rw [if_pos h, decide_eq_true (EReal.coe_lt_coe_iff.2 h)]; rfl
  · rw [if_neg h, decide_eq_false (fun hh => h (EReal.coe_lt_coe_iff.1 hh))]; rfl
theorem m_oeq (a b : ℝ) [Decidable (a = b)] : FloatOps.cmpf (F := Ideal) (φ := φ) .oeq (a : EReal) (b : EReal) = if a = b then 1#1 else 0#1 := by
  show BitVec.ofBool (decide ((a : EReal) = (b : EReal))) = _
  by_cases h : a = b
  · rw [if_pos h, decide_eq_true (EReal.coe_eq_coe_iff.2 h)]; rfl
  · rw [if_neg h, decide_eq_false (fun hh => h (EReal.coe_eq_coe_iff.1 hh))]; rfl
theorem m_sel (p : Prop) [Decidable p] (a b : ℝ) :
    Scalar.select (if p then 1#1 else 0#1) (a : EReal) (b : EReal) = (((if p then a else b) : ℝ) : EReal) := by
  by_cases h : p
  · rw [if_pos h, if_pos h]; rfl
  · rw [if_neg h, if_neg h]; rfl
theorem m_trunc (a : ℝ) (h : ψ.bits < φ.bits) : FloatOps.truncf (F := Ideal) (φ := φ) ψ h (a : EReal) = (a : EReal) := rfl

theorem m_dot {n : ℕ} (A B : Fin n → EReal) (a b : Fin n → ℝ) (hA : ∀ k, A k = (a k : EReal)) (hB : ∀ k, B k = (b k : EReal)) :
    ∑ k, A k * B k = ((∑ k, a k * b k : ℝ) : EReal) := by
  rw [← coe_sum]
  exact Finset.sum_congr rfl fun k _ => by rw [hA, hB, EReal.coe_mul]
theorem m_red {n : ℕ} (z : EReal) (A : Fin n → EReal) (a : Fin n → ℝ) (hz : z = ((0 : ℝ) : EReal)) (hA : ∀ k, A k = (a k : EReal)) :
    z + ∑ k, A k = ((∑ k, a k : ℝ) : EReal) := by
  rw [hz, EReal.coe_zero, zero_add, ← coe_sum]
  exact Finset.sum_congr rfl fun k _ => hA k
/-- A sum over one place is its one term. -/
theorem m_one (z : EReal) (A : Fin 1 → EReal) (a : ℝ) (hz : z = ((0 : ℝ) : EReal)) (hA : ∀ k, A k = (a : EReal)) :
    z + ∑ k, A k = ((a : ℝ) : EReal) := by
  rw [hz, EReal.coe_zero, zero_add, Fin.sum_univ_one, hA]

theorem c_zero : FloatOps.ofBits (F := Ideal) .f32 0x00000000#32 = ((0 : ℝ) : EReal) := repS_zero
theorem c_one : FloatOps.ofBits (F := Ideal) .f32 0x3F800000#32 = ((1 : ℝ) : EReal) := repS_one
theorem c_width : FloatOps.ofBits (F := Ideal) .f32 0x43000000#32 = ((128 : ℝ) : EReal) := repS_width
theorem c_eps : FloatOps.ofBits (F := Ideal) .f32 0x358637BD#32 = ((eps : ℝ) : EReal) := repS_eps
theorem c_half : FloatOps.ofBits (F := Ideal) .f32 0x3F000000#32 = ((1 / 2 : ℝ) : EReal) := by
  show Ideal.ofBits .f32 0x3F000000#32 = _
  simp [Ideal.ofBits, Ideal.ieee]
  rw [← EReal.coe_mul]
  norm_num
theorem c_mhalf : FloatOps.ofBits (F := Ideal) .f32 0xBF000000#32 = ((-(1 / 2) : ℝ) : EReal) := by
  show Ideal.ofBits .f32 0xBF000000#32 = _
  simp [Ideal.ofBits, Ideal.ieee]
  first
  | (rw [← EReal.coe_mul]; exact congrArg Real.toEReal (by norm_num))
  | (rw [← EReal.coe_mul, ← EReal.coe_neg]; norm_num)
theorem eps_pos : 0 < eps := by unfold eps; norm_num
end ops

section windows

theorem foldl_add {ι : Type} (g : ι → EReal) (l : List ι) (v : EReal) :
    l.foldl (fun r i => r + g i) v = v + (l.map g).sum := by
  induction l generalizing v with
  | nil => simp
  | cons a l ih => rw [List.foldl_cons, ih, List.map_cons, List.sum_cons, add_assoc]

/-- The positions of a window along the tokens. -/
def winEquiv : (⟨3, ![1, 4096, 1]⟩ : Shape).Idx ≃ Fin 4096 where
  toFun w := w 1
  invFun m := ix3 (0 : Fin 1) m (0 : Fin 1)
  left_inv w := by
    funext a
    match a with
    | ⟨0, _⟩ => exact Subsingleton.elim (α := Fin 1) _ _
    | ⟨1, _⟩ => rfl
    | ⟨2, _⟩ => exact Subsingleton.elim (α := Fin 1) _ _
  right_inv m := rfl

variable (L R : ℕ) (x : (⟨3, ![8, 4096, 128]⟩ : Shape).Idx → EReal) {u : Shape} (init : u.Idx → EReal)
  (h : (⟨3, ![8, 4096, 128]⟩ : Shape).ReduceWindows ![1, 4096, 1] ![1, 1, 1] ![0, L, 0] ![0, R, 0] ⟨3, ![8, 4096, 128]⟩) (hu : 0 < u.numel)
  (f : Fin 8 → ℕ → Fin 128 → ℝ)

theorem window_term (hx : ∀ e t k, x (ix3 e t k) = ((f e t.val k : ℝ) : EReal)) (e : Fin 8) (t : Fin 4096) (k : Fin 128)
    (w : (⟨3, ![1, 4096, 1]⟩ : Shape).Idx)
    (inst : Decidable (∀ a : Fin 3, (![0, L, 0] : Fin 3 → ℕ) a ≤ ((ix3 e t k : (⟨3, ![8, 4096, 128]⟩ : Shape).Idx) (a.cast h.1.symm)).val * (![1, 1, 1] : Fin 3 → ℕ) a + (w a).val
      ∧ ((ix3 e t k : (⟨3, ![8, 4096, 128]⟩ : Shape).Idx) (a.cast h.1.symm)).val * (![1, 1, 1] : Fin 3 → ℕ) a + (w a).val - (![0, L, 0] : Fin 3 → ℕ) a < (![8, 4096, 128] : Fin 3 → ℕ) a)) :
    @dite EReal (∀ a : Fin 3, (![0, L, 0] : Fin 3 → ℕ) a ≤ ((ix3 e t k : (⟨3, ![8, 4096, 128]⟩ : Shape).Idx) (a.cast h.1.symm)).val * (![1, 1, 1] : Fin 3 → ℕ) a + (w a).val
      ∧ ((ix3 e t k : (⟨3, ![8, 4096, 128]⟩ : Shape).Idx) (a.cast h.1.symm)).val * (![1, 1, 1] : Fin 3 → ℕ) a + (w a).val - (![0, L, 0] : Fin 3 → ℕ) a < (![8, 4096, 128] : Fin 3 → ℕ) a) inst
      (fun hin => x (fun a => ⟨((ix3 e t k : (⟨3, ![8, 4096, 128]⟩ : Shape).Idx) (a.cast h.1.symm)).val * (![1, 1, 1] : Fin 3 → ℕ) a + (w a).val - (![0, L, 0] : Fin 3 → ℕ) a, (hin a).2⟩)) (fun _ => 0)
      = ((if L ≤ t.val + (w 1).val ∧ t.val + (w 1).val - L < 4096 then f e (t.val + (w 1).val - L) k else 0 : ℝ) : EReal) := by
  have w0 : (w 0).val = 0 := by have : (w 0).val < 1 := (w 0).isLt; omega
  have w2 : (w 2).val = 0 := by have : (w 2).val < 1 := (w 2).isLt; omega
  have hcond : (∀ a : Fin 3, (![0, L, 0] : Fin 3 → ℕ) a ≤ ((ix3 e t k : (⟨3, ![8, 4096, 128]⟩ : Shape).Idx) (a.cast h.1.symm)).val * (![1, 1, 1] : Fin 3 → ℕ) a + (w a).val
      ∧ ((ix3 e t k : (⟨3, ![8, 4096, 128]⟩ : Shape).Idx) (a.cast h.1.symm)).val * (![1, 1, 1] : Fin 3 → ℕ) a + (w a).val - (![0, L, 0] : Fin 3 → ℕ) a < (![8, 4096, 128] : Fin 3 → ℕ) a)
      ↔ L ≤ t.val + (w 1).val ∧ t.val + (w 1).val - L < 4096 := by
    constructor
    · intro H
      have H1 : L ≤ t.val * 1 + (w 1).val ∧ t.val * 1 + (w 1).val - L < 4096 := H 1
      omega
    · rintro ⟨h1, h2⟩ a
      match a with
      | ⟨0, _⟩ =>
        show 0 ≤ e.val * 1 + (w 0).val ∧ e.val * 1 + (w 0).val - 0 < 8
        omega
      | ⟨1, _⟩ =>
        show L ≤ t.val * 1 + (w 1).val ∧ t.val * 1 + (w 1).val - L < 4096
        omega
      | ⟨2, _⟩ =>
        show 0 ≤ k.val * 1 + (w 2).val ∧ k.val * 1 + (w 2).val - 0 < 128
        omega
  by_cases hc : L ≤ t.val + (w 1).val ∧ t.val + (w 1).val - L < 4096
  · rw [if_pos hc, ← hx e ⟨t.val + (w 1).val - L, hc.2⟩ k]
    refine (dif_pos (hcond.2 hc)).trans (congrArg x (funext fun a => Fin.ext ?_))
    match a with
    | ⟨0, _⟩ =>
      show e.val * 1 + (w 0).val - 0 = e.val
      omega
    | ⟨1, _⟩ =>
      show t.val * 1 + (w 1).val - L = t.val + (w 1).val - L
      omega
    | ⟨2, _⟩ =>
      show k.val * 1 + (w 2).val - 0 = k.val
      omega
  · rw [if_neg hc]
    exact (dif_neg (fun H => hc (hcond.1 H))).trans EReal.coe_zero.symm
theorem window_sum (hx : ∀ e t k, x (ix3 e t k) = ((f e t.val k : ℝ) : EReal)) (hi : ∀ j, init j = ((0 : ℝ) : EReal)) (e : Fin 8) (t : Fin 4096) (k : Fin 128) :
    Host.reduceWindowAdd (F := Ideal) (φ := .f32) ![1, 4096, 1] ![1, 1, 1] ![0, L, 0] ![0, R, 0] x init h hu (ix3 e t k)
      = ((∑ m : Fin 4096, if L ≤ t.val + m.val ∧ t.val + m.val - L < 4096 then f e (t.val + m.val - L) k else 0 : ℝ) : EReal) := by
  unfold Host.reduceWindowAdd
  rw [Ideal.hostReduceWindowAdd_def]
  unfold Ideal.hostReduceWindowAdd Host.reduceWindow
  dsimp only
  rw [foldl_add, hi, EReal.coe_zero, zero_add, ← Fin.sum_univ_def, ← coe_sum,
    ← Equiv.sum_comp (((⟨3, ![1, 4096, 1]⟩ : Shape).rowMajor.symm).trans winEquiv)]
  exact Finset.sum_congr rfl fun n _ => window_term L R x h f hx e t k ((⟨3, ![1, 4096, 1]⟩ : Shape).rowMajor.symm n) _

end windows

section sums
variable (g : ℕ → ℝ)

theorem fin_range (n : ℕ) : ∑ m : Fin n, g m.val = ∑ m ∈ Finset.range n, g m := Fin.sum_univ_eq_sum_range g n

theorem cum_sum (t : ℕ) (ht : t < 4096) :
    (∑ m : Fin 4096, if 4095 ≤ t + m.val ∧ t + m.val - 4095 < 4096 then g (t + m.val - 4095) else 0) = ∑ u ∈ Finset.range (t + 1), g u := by
  rw [fin_range (fun m => if 4095 ≤ t + m ∧ t + m - 4095 < 4096 then g (t + m - 4095) else 0), ← Finset.sum_filter]
  refine Finset.sum_nbij' (fun m => t + m - 4095) (fun u => u + 4095 - t) ?_ ?_ ?_ ?_ ?_
  · intro m hm; simp only [Finset.mem_filter, Finset.mem_range] at hm ⊢; omega
  · intro m hm; simp only [Finset.mem_filter, Finset.mem_range] at hm ⊢; omega
  · intro m hm; simp only [Finset.mem_filter, Finset.mem_range] at hm ⊢; omega
  · intro m hm; simp only [Finset.mem_filter, Finset.mem_range] at hm ⊢; omega
  · intro m hm; rfl

theorem rev_sum (t : ℕ) (ht : t < 4096) :
    (∑ m : Fin 4096, if 0 ≤ t + m.val ∧ t + m.val - 0 < 4096 then g (t + m.val - 0) else 0) = ∑ u ∈ Finset.Ico t 4096, g u := by
  rw [fin_range (fun m => if 0 ≤ t + m ∧ t + m - 0 < 4096 then g (t + m - 0) else 0), ← Finset.sum_filter]
  refine Finset.sum_nbij' (fun m => t + m) (fun u => u - t) ?_ ?_ ?_ ?_ ?_
  · intro m hm; simp only [Finset.mem_filter, Finset.mem_range, Finset.mem_Ico] at hm ⊢; omega
  · intro m hm; simp only [Finset.mem_filter, Finset.mem_range, Finset.mem_Ico] at hm ⊢; omega
  · intro m hm; simp only [Finset.mem_filter, Finset.mem_range, Finset.mem_Ico] at hm ⊢; omega
  · intro m hm; simp only [Finset.mem_filter, Finset.mem_range, Finset.mem_Ico] at hm ⊢; omega
  · intro m hm; rfl
end sums

/-- An array laid in slot `o` of four, zero in the others. -/
theorem pad_slot (o r : ℕ) (x : (⟨3, ![1, 4096, 1024]⟩ : Shape).Idx → EReal) {u : Shape} (v : u.Idx → EReal)
    (hp : (⟨3, ![1, 4096, 1024]⟩ : Shape).Pads ![o, 0, 0] ![r, 0, 0] ![0, 0, 0] ⟨3, ![4, 4096, 1024]⟩) (hu : 0 < u.numel)
    (a : ℝ) (s : Fin 4) (t : Fin 4096) (c : Fin 1024) (hv : ∀ j, v j = ((0 : ℝ) : EReal)) (hx : x (ix3 (0 : Fin 1) t c) = (a : EReal)) :
    pad ⟨3, ![4, 4096, 1024]⟩ ![o, 0, 0] ![r, 0, 0] ![0, 0, 0] x v hp hu (ix3 s t c) = (((if s.val = o then a else 0) : ℝ) : EReal) := by
  rw [pad_apply]
  have hcond : (∀ b : Fin 3, (![o, 0, 0] : Fin 3 → ℕ) b ≤ ((ix3 s t c : (⟨3, ![4, 4096, 1024]⟩ : Shape).Idx) (b.cast hp.1)).val
      ∧ (((ix3 s t c : (⟨3, ![4, 4096, 1024]⟩ : Shape).Idx) (b.cast hp.1)).val - (![o, 0, 0] : Fin 3 → ℕ) b) % ((![0, 0, 0] : Fin 3 → ℕ) b + 1) = 0
      ∧ (((ix3 s t c : (⟨3, ![4, 4096, 1024]⟩ : Shape).Idx) (b.cast hp.1)).val - (![o, 0, 0] : Fin 3 → ℕ) b) / ((![0, 0, 0] : Fin 3 → ℕ) b + 1) < (![1, 4096, 1024] : Fin 3 → ℕ) b)
      ↔ s.val = o := by
    constructor
    · intro H
      have H0 : o ≤ s.val ∧ (s.val - o) % 1 = 0 ∧ (s.val - o) / 1 < 1 := H 0
      omega
    · intro hs b
      match b with
      | ⟨0, _⟩ =>
        show o ≤ s.val ∧ (s.val - o) % 1 = 0 ∧ (s.val - o) / 1 < 1
        omega
      | ⟨1, _⟩ =>
        show 0 ≤ t.val ∧ (t.val - 0) % 1 = 0 ∧ (t.val - 0) / 1 < 4096
        omega
      | ⟨2, _⟩ =>
        show 0 ≤ c.val ∧ (c.val - 0) % 1 = 0 ∧ (c.val - 0) / 1 < 1024
        omega
  by_cases hs : s.val = o
  · rw [if_pos hs, ← hx]
    refine (dif_pos (hcond.2 hs)).trans (congrArg x (funext fun b => Fin.ext ?_))
    match b with
    | ⟨0, _⟩ =>
      show (s.val - o) / 1 = 0
      omega
    | ⟨1, _⟩ =>
      show (t.val - 0) / 1 = t.val
      omega
    | ⟨2, _⟩ =>
      show (c.val - 0) / 1 = c.val
      omega
  · rw [if_neg hs]
    exact (dif_neg (fun H => hs (hcond.1 H))).trans (hv _)

theorem word_int (t : ℕ) (ht : t < 2 ^ 31) : (BitVec.ofNat 32 t).toInt = (t : ℤ) := by
  have e : (BitVec.ofNat 32 t).toNat = t := by rw [BitVec.toNat_ofNat, Nat.mod_eq_of_lt (by omega)]
  rw [BitVec.toInt_eq_toNat_of_lt (by rw [e]; omega), e]

/-- The lower triangle, as the host computes it from two numberings. -/
theorem tril_word (t u : ℕ) (ht : t < 4096) (hu : u < 4096) :
    IntOp.cmpi .sge (IntOp.addi (BitVec.ofNat 32 t) 0#32) (BitVec.ofNat 32 u) = if u ≤ t then 1#1 else 0#1 := by
  have e : IntOp.addi (BitVec.ofNat 32 t) 0#32 = BitVec.ofNat 32 t := by
    show BitVec.ofNat 32 t + 0#32 = _
    exact BitVec.add_zero _
  rw [e]
  show BitVec.ofBool ((BitVec.ofNat 32 u).sle (BitVec.ofNat 32 t)) = _
  have hb : (BitVec.ofNat 32 u).sle (BitVec.ofNat 32 t) = decide (u ≤ t) := by
    rw [BitVec.sle_eq_decide]
    rw [word_int t (by omega), word_int u (by omega)]
    exact decide_eq_decide.2 (by omega)
  rw [hb]
  by_cases h : u ≤ t
  · rw [if_pos h, decide_eq_true h]; rfl
  · rw [if_neg h, decide_eq_false h]; rfl

/-- A token comes before the first of block `n`. -/
theorem before_word (t n : ℕ) (ht : t < 4096) (hn : n < 32) :
    IntOp.cmpi .slt (BitVec.ofNat 32 t) (IntOp.muli (BitVec.ofNat 32 n) 128#32) = if t < 128 * n then 1#1 else 0#1 := by
  have e : IntOp.muli (BitVec.ofNat 32 n) 128#32 = BitVec.ofNat 32 (128 * n) := by
    show BitVec.ofNat 32 n * BitVec.ofNat 32 128 = _
    rw [Nat.mul_comm 128 n, BitVec.ofNat_mul]
  rw [e]
  show BitVec.ofBool ((BitVec.ofNat 32 t).slt (BitVec.ofNat 32 (128 * n))) = _
  have hb : (BitVec.ofNat 32 t).slt (BitVec.ofNat 32 (128 * n)) = decide (t < 128 * n) := by
    rw [BitVec.slt_eq_decide]
    rw [word_int t (by omega), word_int (128 * n) (by omega)]
    exact decide_eq_decide.2 (by omega)
  rw [hb]
  by_cases h : t < 128 * n
  · rw [if_pos h, decide_eq_true h]; rfl
  · rw [if_neg h, decide_eq_false h]; rfl

end Cert.Proof

end
-- ==== Proof.Points.lean ====
/- One grid point: what it leaves in its outputs and in the carried buffers, by its four chunks. -/
module

public import proofs.«01_k».proof.Proof.Loop
public import proofs.«01_k».proof.Proof.RealOps
public import proofs.«01_k».proof.Proof.Region.Value

@[expose] public section

set_option maxRecDepth 16384

noncomputable section

namespace Cert.Proof

open Idealize.ShloMosaic Cert.KernelIdeal Cert.KernelIdeal.Gen Idealize.ShloMosaic.TcCoe

/-- The blocks of the eight chunks and heads a grid point works on. -/
def blocks (A : Fin 2 → Arrs) (b : ℕ) : Fin 4 → Fin 2 → Head := fun n h => headOf (A h) (4 * b + n)
/-- What is carried when the chunks from `m` on are done. -/
def stOf (A : Fin 2 → Arrs) (m : ℕ) : (Fin 2 → Mat) × (Fin 2 → Fin 128 → ℝ) × (Fin 2 → Fin 128 → ℝ) × (Fin 2 → Fin 128 → ℝ) :=
  (fun h => (A h).seqs.dss m, fun h => (A h).seqs.dL (128 * m), fun h => (A h).dlb m, fun h => (A h).dgn m)

theorem back_val : ∀ n : ℕ, n < 4 → (3 - Fin.ofNat 4 n).val = 3 - n := by decide +kernel

theorem at_full (A : Fin 2 → Arrs) (b n : ℕ) (hn : n < 4) (h : Fin 2) :
    (blocks A b (3 - Fin.ofNat 4 n) h).at ((stOf A (4 * b + 4 - n)).1 h) ((stOf A (4 * b + 4 - n)).2.1 h) = full (A h) (4 * b + 3 - n) := by
  unfold blocks full stOf
  rw [back_val n hn, show 4 * b + 4 - n = 4 * b + 3 - n + 1 by omega, show 4 * b + (3 - n) = 4 * b + 3 - n by omega]

theorem chain_eq (A : Fin 2 → Arrs) (b : ℕ) (hb : b < 8) (n : ℕ) (hn : n ≤ 4) :
    chain (blocks A b) (stOf A (4 * b + 4)).2.2.1 (stOf A (4 * b + 4)).2.2.2 (stOf A (4 * b + 4)).1 (stOf A (4 * b + 4)).2.1 n
      = stOf A (4 * b + 4 - n) := by
  induction n with
  | zero => rfl
  | succ n ih =>
    have hm : 4 * b + 3 - n < 32 := by omega
    have e : 4 * b + 4 - (n + 1) = 4 * b + 3 - n := by omega
    have e' : 4 * b + 4 - n = 4 * b + 3 - n + 1 := by omega
    have hf := at_full A b n (by omega)
    show (fun h => ((blocks A b (3 - Fin.ofNat 4 n) h).at ((chain _ _ _ _ _ n).1 h) ((chain _ _ _ _ _ n).2.1 h)).dst',
      fun h => ((blocks A b (3 - Fin.ofNat 4 n) h).at ((chain _ _ _ _ _ n).1 h) ((chain _ _ _ _ _ n).2.1 h)).run',
      fun h => (chain _ _ _ _ _ n).2.2.1 h + ((blocks A b (3 - Fin.ofNat 4 n) h).at ((chain _ _ _ _ _ n).1 h) ((chain _ _ _ _ _ n).2.1 h)).dlb,
      fun h => (chain _ _ _ _ _ n).2.2.2 h + ((blocks A b (3 - Fin.ofNat 4 n) h).at ((chain _ _ _ _ _ n).1 h) ((chain _ _ _ _ _ n).2.1 h)).dgn) = _
    rw [ih (by omega), e]
    simp only [hf]
    rw [e']
    refine Prod.ext (funext fun h => funext fun v => funext fun k => (isChunk (A h) _ hm).dst_eq v k) (Prod.ext (funext fun h => funext fun k => (isChunk (A h) _ hm).run_eq k)
      (Prod.ext (funext fun h => funext fun k => full_dlb (A h) _ k hm) (funext fun h => funext fun k => full_dgn (A h) _ k hm)))

theorem outv_full (A : Arrs) (n : ℕ) (hn : n < 32) (s : Fin 4) (p j : Fin 128) : (full A n).outv s p j = A.dp s (128 * n + p) j := by
  unfold Head.outv Arrs.dp
  match s with
  | ⟨0, _⟩ => exact full_dp0 A n p j hn
  | ⟨1, _⟩ => exact full_dp1 A n p j hn
  | ⟨2, _⟩ => exact (isChunk A n hn).dv_eq p j
  | ⟨3, _⟩ => exact ho_dp3 A n _ _ p j

theorem stOf_last (A : Fin 2 → Arrs) : stOf A 32 = (fun _ _ _ => 0, fun _ _ => 0, fun _ _ => 0, fun _ _ => 0) := by
  have e : Finset.Ico (128 * 32) 4096 = ∅ := Finset.Ico_eq_empty (by decide)
  unfold stOf Seqs.dss Seqs.dL Arrs.dlb Arrs.dgn
  have hN : ∀ h, (A h).seqs.N = 4096 := fun _ => rfl
  simp only [hN, e, Finset.sum_empty]

/-- What a grid point leaves: the gradients of its blocks, the two accumulated rows and the two carried buffers. -/
structure After (B : Fin 4 → Fin 2 → Head) (A15 A16 : Fin 2 → Fin 128 → ℝ) (D : Fin 2 → Mat) (R : Fin 2 → Fin 128 → ℝ)
    (r : Vec Ideal S4x512x256 .bf16 × Vec Ideal S1x256 .f32 × Vec Ideal S1x256 .f32 × Vec Ideal S2x128x128 .f32 × Vec Ideal S2x1x128 .f32) : Prop where
  out : ∀ s (n : Fin 4) h p j, r.1 (ix3 s (row n p) (col h j))
    = ((((B n h).at ((chain B A15 A16 D R (3 - n.val)).1 h) ((chain B A15 A16 D R (3 - n.val)).2.1 h)).outv s p j : ℝ) : EReal)
  s13 : ∀ h j, r.2.1 (ix2 (0 : Fin 1) (col h j)) = (((chain B A15 A16 D R 4).2.2.1 h j : ℝ) : EReal)
  s14 : ∀ h j, r.2.2.1 (ix2 (0 : Fin 1) (col h j)) = (((chain B A15 A16 D R 4).2.2.2 h j : ℝ) : EReal)
  ss0 : ∀ h v j, r.2.2.2.1 (ix3 h v j) = (((chain B A15 A16 D R 4).1 h v j : ℝ) : EReal)
  ss1 : ∀ h j, r.2.2.2.2 (ix3 h (0 : Fin 1) j) = (((chain B A15 A16 D R 4).2.1 h j : ℝ) : EReal)

abbrev trips_n : ℕ := Scf.trips (0#32) (Scalar.addi 0#32 4#32) 1#32
theorem trips_eq : trips_n = 4 := by decide +kernel
theorem trips_le : trips_n ≤ 4 := trips_eq.le
theorem rev_rev : ∀ n : Fin 4, n = 3 - Fin.ofNat 4 (3 - n.val) := by decide +kernel
theorem rev_lt (n : Fin 4) : 3 - n.val < trips_n := by rw [trips_eq]; omega

section
variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S4x2x128x128 .f32) (harg9 : arg9.IsWhole) (arg10 : Memref sig .tc .vmem S512x256 .f32) (harg10 : arg10.IsWhole) (arg11 : Memref sig .tc .vmem S2048x128 .bf16) (harg11 : arg11.IsWhole) (arg12 : Memref sig .tc .vmem S8x128x128 .f32) (harg12 : arg12.IsWhole) (arg13 : Memref sig .tc .vmem S128x128 .bf16) (harg13 : arg13.IsWhole) (arg14 : Memref sig .tc .vmem S4x512x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S2x128x128 .f32) (harg17 : arg17.IsWhole) (arg18 : Memref sig .tc .vmem S2x1x128 .f32) (harg18 : arg18.IsWhole)  (x0 : Vec Ideal S512x256 .f32) (x1 : Vec Ideal S512x256 .f32) (x2 : Vec Ideal S512x256 .f32) (x3 : Vec Ideal S512x256 .f32) (x4 : Vec Ideal S1x256 .f32) (x5 : Vec Ideal S1x128 .f32) (x6 : Vec Ideal S512x256 .f32) (x7 : Vec Ideal S4x2x128x128 .f32) (x8 : Vec Ideal S512x256 .f32) (x9 : Vec Ideal S2048x128 .bf16) (x10 : Vec Ideal S8x128x128 .f32) (x11 : Vec Ideal S128x128 .bf16)

/-- The blocks a grid point is given, as reals. -/
structure Blks (B : Fin 4 → Fin 2 → Head) : Prop where
  q0 : ∀ n h i j, x0 (ix2 (row n i) (col h j)) = (((B n h).q0 i j : ℝ) : EReal)
  f0 : ∀ n h i j, x1 (ix2 (row n i) (col h j)) = (((B n h).f0 i j : ℝ) : EReal)
  i0 : ∀ n h i j, x2 (ix2 (row n i) (col h j)) = (((B n h).i0 i j : ℝ) : EReal)
  g0 : ∀ n h i j, x3 (ix2 (row n i) (col h j)) = (((B n h).g0 i j : ℝ) : EReal)
  lb : ∀ n h j, x4 (ix2 (0 : Fin 1) (col h j)) = (((B n h).lb j : ℝ) : EReal)
  gn : ∀ n h j, x5 (ix2 (0 : Fin 1) j) = (((B n h).gn j : ℝ) : EReal)
  o : ∀ n h i j, x6 (ix2 (row n i) (col h j)) = (((B n h).o i j : ℝ) : EReal)
  st : ∀ n h i j, x7 (ix4 n h i j) = (((B n h).st i j : ℝ) : EReal)
  dy : ∀ n h i j, x8 (ix2 (row n i) (col h j)) = (((B n h).dy i j : ℝ) : EReal)
  M : ∀ n h i j, x9 (ix2 i j) = (((B n h).M i.val j : ℝ) : EReal)
  mask : ∀ n h l i j, x10 (ix3 l i j) = (((B n h).mask l.val i j : ℝ) : EReal)
  suf : ∀ n h i j, x11 (ix2 i j) = (((B n h).suf i j : ℝ) : EReal)
  pos : ∀ n h i j, 0 < (B n h).fg i j

variable {c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11} {B : Fin 4 → Fin 2 → Head}

theorem ins_of (H : Blks x0 x1 x2 x3 x4 x5 x6 x7 x8 x9 x10 x11 B) : Ins arg2 arg3 arg4 arg5 arg6 arg8 arg9 arg10 arg11 arg12 arg13 (View.readAt (Elt Ideal) arg7.view (Rect.unit (s := S1x128) ![0, 0] ![1, 128] inb_S1x128_S1x128_0_0).toLoadRect (harg7.unread x5)) (harg2.unread x0) (harg3.unread x1) (harg4.unread x2) (harg5.unread x3) (harg6.unread x4) (harg8.unread x6) (harg9.unread x7) (harg10.unread x8) (harg11.unread x9) (harg12.unread x10) (harg13.unread x11) B where
  q0 n h i j := (congrFun (harg2.read_unread x0) _).trans (H.q0 n h i j)
  f0 n h i j := (congrFun (harg3.read_unread x1) _).trans (H.f0 n h i j)
  i0 n h i j := (congrFun (harg4.read_unread x2) _).trans (H.i0 n h i j)
  g0 n h i j := (congrFun (harg5.read_unread x3) _).trans (H.g0 n h i j)
  o n h i j := (congrFun (harg8.read_unread x6) _).trans (H.o n h i j)
  dy n h i j := (congrFun (harg10.read_unread x8) _).trans (H.dy n h i j)
  lb n h j := (congrFun (harg6.read_unread x4) _).trans (H.lb n h j)
  st n h i j := (congrFun (harg9.read_unread x7) _).trans (H.st n h i j)
  M n h i j := (congrFun (harg11.read_unread x9) _).trans (H.M n h i j)
  mask n h l i j := (congrFun (harg12.read_unread x10) _).trans (H.mask n h l i j)
  suf n h i j := (congrFun (harg13.read_unread x11) _).trans (H.suf n h i j)
  gn n h := fun j => (load_at _ _ _ (rfl : _ = ![0, 0]) (ix2 (0 : Fin 1) j) (ix2 (0 : Fin 1) j) (ax2 (d := S1x128.size) (p := (0 : Fin 1)) (q := j) (e := S1x128.size) (i := (0 : Fin 1)) (j := j) (Nat.zero_add _).symm (Nat.zero_add _).symm)).trans ((congrFun (harg7.read_unread x5) _).trans (H.gn n h j))
  pos := H.pos

theorem pointA (hc0 : cond0_0 i) (H : Blks x0 x1 x2 x3 x4 x5 x6 x7 x8 x9 x10 x11 B) :
    After B 0 0 0 0
      (out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11, out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11, out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11, sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11) := by
  have I := ins_of (arg2 := arg2) (arg3 := arg3) (arg4 := arg4) (arg5 := arg5) (arg6 := arg6) (arg7 := arg7) (arg8 := arg8) (arg9 := arg9) (arg10 := arg10) (arg11 := arg11) (arg12 := arg12) (arg13 := arg13) (harg2 := harg2) (harg3 := harg3) (harg4 := harg4) (harg5 := harg5) (harg6 := harg6) (harg7 := harg7) (harg8 := harg8) (harg9 := harg9) (harg10 := harg10) (harg11 := harg11) (harg12 := harg12) (harg13 := harg13) H
  have S : St arg15 arg16 arg17 arg18 (arg15.view.writes (Elt Ideal) arg15.view.junk kernelRun0_A.sl.H13_1) (arg16.view.writes (Elt Ideal) arg16.view.junk kernelRun0_A.sl.H14_1)
      (arg17.view.writes (Elt Ideal) arg17.view.junk kernelRun0_A.sl.HS0_1) (arg18.view.writes (Elt Ideal) arg18.view.junk kernelRun0_A.sl.HS1_1) 0 0 0 0 := by
    refine ⟨fun h j => ?_, fun h j => ?_, fun h v j => ?_, fun h j => ?_⟩
    · exact (View.read_writes_cons_unit_of_mem _ _ _ _ _ _ (ix2 (0 : Fin 1) (col h j)) rfl (ax2 (d := S1x256.size) (p := (0 : Fin 1)) (q := col h j) (e := S1x256.size) (i := (0 : Fin 1)) (j := col h j) (Nat.zero_add _).symm (Nat.zero_add _).symm)).trans c_zero
    · exact (View.read_writes_cons_unit_of_mem _ _ _ _ _ _ (ix2 (0 : Fin 1) (col h j)) rfl (ax2 (d := S1x256.size) (p := (0 : Fin 1)) (q := col h j) (e := S1x256.size) (i := (0 : Fin 1)) (j := col h j) (Nat.zero_add _).symm (Nat.zero_add _).symm)).trans c_zero
    · exact (View.read_writes_cons_unit_of_mem _ _ _ _ _ _ (ix3 h v j) rfl (ax3 (Nat.zero_add _).symm (Nat.zero_add _).symm (Nat.zero_add _).symm)).trans c_zero
    · exact (View.read_writes_cons_unit_of_mem _ _ _ _ _ _ (ix3 h (0 : Fin 1) j) rfl (ax3 (Nat.zero_add _).symm (Nat.zero_add _).symm (Nat.zero_add _).symm)).trans c_zero
  have L := loop_st (𝒱 := Variants.none) (c := c) (bd := none) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (f14 := arg14.view.junk) I S trips_n trips_le
  have e : chain B 0 0 0 0 trips_n = chain B 0 0 0 0 4 := congrArg _ trips_eq
  rw [e] at L
  refine ⟨fun s n h p j => ?_, fun h j => ?_, fun h j => ?_, fun h v j => ?_, fun h j => ?_⟩
  · refine (congrFun (View.read_writes_of_cover VO0_12 VO0_12.junk arg14.view arg14.view.junk _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)) _).trans ?_
    have O := loop_out (𝒱 := Variants.none) (c := c) (bd := none) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (f14 := arg14.view.junk) I S trips_n trips_le (3 - n.val) (rev_lt n) s h p j
    rw [← rev_rev n] at O
    dsimp only [kernelRun0_A]
    exact O
  · refine (congrFun (View.read_writes_of_cover VO0_13 VO0_13.junk arg15.view arg15.view.junk _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)) _).trans ?_
    dsimp only [kernelRun0_A]
    exact (congrFun (congrArg (arg15.view.read (Elt Ideal)) (View.writes_append arg15.view arg15.view.junk _ _)) _).trans (L.s15 h j)
  · refine (congrFun (View.read_writes_of_cover VO0_14 VO0_14.junk arg16.view arg16.view.junk _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)) _).trans ?_
    dsimp only [kernelRun0_A]
    exact (congrFun (congrArg (arg16.view.read (Elt Ideal)) (View.writes_append arg16.view arg16.view.junk _ _)) _).trans (L.s16 h j)
  · refine (congrFun (View.read_writes_of_cover VS0_0 VS0_0.junk arg17.view arg17.view.junk _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)) _).trans ?_
    dsimp only [kernelRun0_A]
    exact (congrFun (congrArg (arg17.view.read (Elt Ideal)) (View.writes_append arg17.view arg17.view.junk _ _)) _).trans (L.s17 h v j)
  · refine (congrFun (View.read_writes_of_cover VS0_1 VS0_1.junk arg18.view arg18.view.junk _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)) _).trans ?_
    dsimp only [kernelRun0_A]
    exact (congrFun (congrArg (arg18.view.read (Elt Ideal)) (View.writes_append arg18.view arg18.view.junk _ _)) _).trans (L.s18 h j)

theorem pointB (hc0 : ¬cond0_0 i) (H : Blks x0 x1 x2 x3 x4 x5 x6 x7 x8 x9 x10 x11 B) (xo13 xo14 : Vec Ideal S1x256 .f32) (xs0 : Vec Ideal S2x128x128 .f32) (xs1 : Vec Ideal S2x1x128 .f32)
    {A15 A16 : Fin 2 → Fin 128 → ℝ} {D : Fin 2 → Mat} {R : Fin 2 → Fin 128 → ℝ}
    (h13 : ∀ h j, xo13 (ix2 (0 : Fin 1) (col h j)) = ((A15 h j : ℝ) : EReal)) (h14 : ∀ h j, xo14 (ix2 (0 : Fin 1) (col h j)) = ((A16 h j : ℝ) : EReal))
    (h0 : ∀ h v j, xs0 (ix3 h v j) = ((D h v j : ℝ) : EReal)) (h1 : ∀ h j, xs1 (ix3 h (0 : Fin 1) j) = ((R h j : ℝ) : EReal)) :
    After B A15 A16 D R
      (out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1, out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1, out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1, sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1) := by
  have I := ins_of (arg2 := arg2) (arg3 := arg3) (arg4 := arg4) (arg5 := arg5) (arg6 := arg6) (arg7 := arg7) (arg8 := arg8) (arg9 := arg9) (arg10 := arg10) (arg11 := arg11) (arg12 := arg12) (arg13 := arg13) (harg2 := harg2) (harg3 := harg3) (harg4 := harg4) (harg5 := harg5) (harg6 := harg6) (harg7 := harg7) (harg8 := harg8) (harg9 := harg9) (harg10 := harg10) (harg11 := harg11) (harg12 := harg12) (harg13 := harg13) H
  have S : St arg15 arg16 arg17 arg18 (harg15.unread xo13) (harg16.unread xo14) (harg17.unread xs0) (harg18.unread xs1) A15 A16 D R :=
    ⟨fun h j => (congrFun (harg15.read_unread xo13) _).trans (h13 h j), fun h j => (congrFun (harg16.read_unread xo14) _).trans (h14 h j),
      fun h v j => (congrFun (harg17.read_unread xs0) _).trans (h0 h v j), fun h j => (congrFun (harg18.read_unread xs1) _).trans (h1 h j)⟩
  have L := loop_st (𝒱 := Variants.none) (c := c) (bd := none) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (f14 := arg14.view.junk) I S trips_n trips_le
  have e : chain B A15 A16 D R trips_n = chain B A15 A16 D R 4 := congrArg _ trips_eq
  rw [e] at L
  refine ⟨fun s n h p j => ?_, fun h j => ?_, fun h j => ?_, fun h v j => ?_, fun h j => ?_⟩
  · refine (congrFun (View.read_writes_of_cover VO0_12 VO0_12.junk arg14.view arg14.view.junk _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1)) _).trans ?_
    have O := loop_out (𝒱 := Variants.none) (c := c) (bd := none) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (f14 := arg14.view.junk) I S trips_n trips_le (3 - n.val) (rev_lt n) s h p j
    rw [← rev_rev n] at O
    dsimp only [kernelRun0_B]
    exact O
  · refine (congrFun (View.read_writes_of_cover VO0_13 VO0_13.junk arg15.view (harg15.unread xo13) _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1)) _).trans ?_
    dsimp only [kernelRun0_B]
    exact L.s15 h j
  · refine (congrFun (View.read_writes_of_cover VO0_14 VO0_14.junk arg16.view (harg16.unread xo14) _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1)) _).trans ?_
    dsimp only [kernelRun0_B]
    exact L.s16 h j
  · refine (congrFun (View.read_writes_of_cover VS0_0 VS0_0.junk arg17.view (harg17.unread xs0) _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1)) _).trans ?_
    dsimp only [kernelRun0_B]
    exact L.s17 h v j
  · refine (congrFun (View.read_writes_of_cover VS0_1 VS0_1.junk arg18.view (harg18.unread xs1) _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xs0 xs1)) _).trans ?_
    dsimp only [kernelRun0_B]
    exact L.s18 h j

end

end Cert.Proof

end
-- ==== Proof.Host.lean ====
/- What the host computes before the kernel: the saved forward results and the three constant arrays. -/
module

public import proofs.«01_k».proof.Proof.Gen.KernelIdeal.Frame.Runs
public import proofs.«01_k».proof.Proof.Gen.SavedIdeal.Read
public import proofs.«01_k».proof.Proof.Model
public import proofs.«01_k».proof.Proof.RealOps
public import Idealize.ShloMosaic.Lib.StableHlo.RunRead
public import Idealize.ShloMosaic.Lib.Pointwise

@[expose] public section

set_option maxRecDepth 16384

noncomputable section

namespace Cert.Proof

open Idealize.ShloMosaic Idealize.SL.Sem Cert.KernelIdeal Cert.KernelIdeal.Gen Idealize.ShloMosaic.Pointwise

theorem cmp_lt (a b : ℕ) (ha : a < 2 ^ 31) (hb : b < 2 ^ 31) :
    IntOp.cmpi .sgt (BitVec.ofNat 32 a) (BitVec.ofNat 32 b) = if b < a then 1#1 else 0#1 := by
  show BitVec.ofBool ((BitVec.ofNat 32 b).slt (BitVec.ofNat 32 a)) = _
  rw [BitVec.slt_eq_decide, word_int a ha, word_int b hb]
  by_cases h : b < a
  · rw [if_pos h, decide_eq_true (by omega)]; rfl
  · rw [if_neg h, decide_eq_false (by omega)]; rfl

theorem cmp_le (a b : ℕ) (ha : a < 2 ^ 31) (hb : b < 2 ^ 31) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide, word_int a ha, word_int b hb]
  by_cases h : a ≤ b
  · rw [if_pos h, decide_eq_true (by omega)]; rfl
  · rw [if_neg h, decide_eq_false (by omega)]; rfl

theorem cmp_ge (a b : ℕ) (ha : a < 2 ^ 31) (hb : b < 2 ^ 31) :
    IntOp.cmpi .sge (BitVec.ofNat 32 a) (BitVec.ofNat 32 b) = if b ≤ a then 1#1 else 0#1 :=
  cmp_le b a hb ha

theorem cmp_eq (a b : ℕ) (ha : a < 2 ^ 31) (hb : b < 2 ^ 31) :
    IntOp.cmpi .eq (BitVec.ofNat 32 a) (BitVec.ofNat 32 b) = if a = b then 1#1 else 0#1 := by
  by_cases h : a = b
  · rw [if_pos h, h]; exact IntOp.cmpi_eq.mpr rfl
  · rw [if_neg h]
    refine (show ∀ x : BitVec 1, x ≠ 1#1 → x = 0#1 by decide) _ fun e => h ?_
    have := congrArg BitVec.toInt (IntOp.cmpi_eq.mp e)
    rw [word_int a ha, word_int b hb] at this
    omega

theorem and_bits (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_self, and_true, true_and, and_false, false_and] <;> rfl

theorem not_bit (p : Prop) [Decidable p] : (~~~(if p then 1#1 else 0#1 : BitVec 1)) = if ¬p then 1#1 else 0#1 := by
  by_cases hp : p <;> simp only [hp, if_true, if_false, not_true, not_false_eq_true] <;> rfl

theorem bit_real (p : Prop) [Decidable p] :
    FloatOps.uitofp (F := Ideal) FTy.f32 (if p then 1#1 else 0#1) = (((if p then 1 else 0 : ℝ)) : EReal) := by
  by_cases hp : p
  · rw [if_pos hp, if_pos hp]; show (((1#1 : BitVec 1).toNat : ℝ) : EReal) = _; norm_num
  · rw [if_neg hp, if_neg hp]; show (((0#1 : BitVec 1).toNat : ℝ) : EReal) = _; norm_num

theorem w_sec : ∀ (l : Fin 7) (i : Fin 128), IntOp.cmpi .sge (IntOp.remsi .host (BitVec.ofNat 32 i.val) (IntOp.muli 2#32 (IntOp.shrui .host 64#32 (BitVec.ofNat 32 l.val))))
    (IntOp.shrui .host 64#32 (BitVec.ofNat 32 l.val)) = if isSec l.val i.val = true then 1#1 else 0#1 := by decide +kernel
theorem w_div : ∀ (l : Fin 7) (i : Fin 128), IntOp.divsi .host (BitVec.ofNat 32 i.val) (IntOp.muli 2#32 (IntOp.shrui .host 64#32 (BitVec.ofNat 32 l.val)))
    = BitVec.ofNat 32 (i.val / (2 * half l.val)) := by decide +kernel
theorem w_mid : ∀ (l : Fin 7) (i : Fin 128), IntOp.subi (IntOp.addi (IntOp.muli (BitVec.ofNat 32 (i.val / (2 * half l.val))) (IntOp.muli 2#32 (IntOp.shrui .host 64#32 (BitVec.ofNat 32 l.val))))
    (IntOp.shrui .host 64#32 (BitVec.ofNat 32 l.val))) 1#32 = BitVec.ofNat 32 (midp l.val i.val - 1) := by decide +kernel
theorem mid_range : ∀ (l : Fin 7) (i : Fin 128), 0 < midp l.val i.val ∧ midp l.val i.val < 128 := by decide +kernel

variable (m : (ℓ : Loc nD τ sig) → Buf (Elt Ideal) ℓ) (c : Dev nD)

theorem V_o : V m c main_v54 = Cert.SavedIdeal.Read.val_main_v54 (m ((c.tc : Thread nD τ).loc main_arg0)) (m ((c.tc : Thread nD τ).loc main_arg1)) := by
  unfold V
  after_reads_simp
  rfl

theorem V_st : V m c main_v81 = Cert.SavedIdeal.Read.val_main_v81 (m ((c.tc : Thread nD τ).loc main_arg0)) (m ((c.tc : Thread nD τ).loc main_arg1)) := by
  unfold V
  after_reads_simp
  rfl

theorem V_suf (i p : Fin 128) : V m c main_v139 (ix2 i p) = ((sc i p : ℝ) : EReal) := by
  unfold V
  after_reads_simp
  pointwise
  rw [cmp_ge _ _ (by omega) (by omega), bit_real]
  refine congrArg Real.toEReal ?_
  unfold sc iv
  exact if_congr (by omega) rfl rfl

theorem V_mask_lt (l : Fin 8) (i p : Fin 128) (hl : l.val < 7) : V m c main_v135 (ix3 l i p) = ((kc l.val i p : ℝ) : EReal) := by
  unfold V
  after_reads_simp
  simp only [uitofp_apply, concatenate_pair_apply]
  after_reads_simp
  refine (congrArg (FloatOps.uitofp (F := Ideal) FTy.f32) (dif_pos hl)).trans ?_
  pointwise
  have hi := w_div ⟨l.val, hl⟩ i
  have hp := w_div ⟨l.val, hl⟩ p
  have si := w_sec ⟨l.val, hl⟩ i
  have sp := w_sec ⟨l.val, hl⟩ p
  dsimp only at hi hp si sp
  have b : ∀ x : Fin 128, x.val / (2 * half l.val) < 2 ^ 31 := fun x => lt_of_le_of_lt (Nat.div_le_self _ _) (by omega)
  rw [si, sp, hi, hp, cmp_eq _ _ (b i) (b p), not_bit, and_bits, and_bits, bit_real]
  refine congrArg Real.toEReal ?_
  unfold kc coup
  rw [if_neg (show ¬l.val = 7 by omega)]
  refine if_congr ?_ rfl rfl
  rw [Bool.and_eq_true, Bool.and_eq_true, decide_eq_true_eq, Bool.not_eq_true']
  constructor
  · rintro ⟨⟨h1, h2⟩, h3⟩; exact ⟨⟨h2, Bool.eq_false_iff.2 h3⟩, h1⟩
  · rintro ⟨⟨h2, h3⟩, h1⟩; exact ⟨⟨h1, h2⟩, Bool.eq_false_iff.1 h3⟩

theorem V_mask7 (i p : Fin 128) : V m c main_v135 (ix3 (7 : Fin 8) i p) = ((kc 7 i p : ℝ) : EReal) := by
  unfold V
  after_reads_simp
  simp only [uitofp_apply, concatenate_pair_apply]
  after_reads_simp
  refine (congrArg (FloatOps.uitofp (F := Ideal) FTy.f32) (dif_neg (show ¬7 < 7 by decide))).trans ?_
  pointwise
  rw [cmp_eq _ _ (by omega) (by omega), bit_real]
  refine congrArg Real.toEReal ?_
  unfold kc
  rw [if_pos rfl]
  exact if_congr Fin.ext_iff.symm rfl rfl

theorem V_mask (l : Fin 8) (i p : Fin 128) : V m c main_v135 (ix3 l i p) = ((kc l.val i p : ℝ) : EReal) := by
  by_cases hl : l.val < 7
  · exact V_mask_lt m c l i p hl
  · have e : l = 7 := Fin.ext (by show l.val = 7; omega)
    rw [e]
    exact V_mask7 m c i p

theorem V_M (r : Fin 2048) (p : Fin 128) : V m c main_v138 (ix2 r p) = ((Mc r.val p : ℝ) : EReal) := by
  unfold V
  after_reads_simp
  simp only [uitofp_apply, truncf_apply, concatenate_cons_apply, concatenateAt_cons, concatenateAt_singleton, Matrix.cons_val]
  after_reads_simp
  unfold Mc
  by_cases h1 : r.val < 1792
  · rw [if_pos h1]
    refine (congrArg (FloatOps.uitofp (F := Ideal) FTy.f32) (dif_pos h1)).trans ?_
    obtain ⟨l, hl⟩ : ∃ l : Fin 7, l.val = r.val / 256 := ⟨⟨r.val / 256, by omega⟩, rfl⟩
    obtain ⟨i, hi⟩ : ∃ i : Fin 128, i.val = r.val % 128 := ⟨⟨r.val % 128, by omega⟩, rfl⟩
    rw [← hl, ← hi]
    have hm := mid_range l i
    have dv := w_div l i
    have sv := w_sec l i
    have mv := w_mid l i
    by_cases h2 : r.val % 256 < 128
    · rw [if_pos h2, shapeCast_apply _ _ _ (ix4 l (0 : Fin 2) i p) (by rw [Shape.rowMajor_val_four]; refine Eq.trans ?_ (Shape.rowMajor_val_two _).symm; show ((l.val * 2 + 0) * 128 + i.val) * 128 + p.val = r.val * 128 + p.val; omega)]
      simp only [concatenate_pair_apply]
      after_reads_simp
      refine (congrArg (FloatOps.uitofp (F := Ideal) FTy.f32) (dif_pos (show 0 < 1 by decide))).trans ?_
      pointwise
      rw [sv, dv, mv, cmp_lt _ _ (by omega) (by omega), cmp_le _ _ (by omega) (by omega), and_bits, and_bits, bit_real]
      refine congrArg Real.toEReal ?_
      unfold iv
      by_cases hs : isSec l.val i.val = true
      · rw [if_pos hs]; exact if_congr ⟨fun h => by omega, fun h => ⟨⟨hs, by omega⟩, by omega⟩⟩ rfl rfl
      · rw [if_neg hs, if_neg fun h => hs h.1.1]
    · rw [if_neg h2, shapeCast_apply _ _ _ (ix4 l (1 : Fin 2) i p) (by rw [Shape.rowMajor_val_four]; refine Eq.trans ?_ (Shape.rowMajor_val_two _).symm; show ((l.val * 2 + 1) * 128 + i.val) * 128 + p.val = r.val * 128 + p.val; omega)]
      simp only [concatenate_pair_apply]
      after_reads_simp
      refine (congrArg (FloatOps.uitofp (F := Ideal) FTy.f32) (dif_neg (show ¬1 < 1 by decide))).trans ?_
      pointwise
      rw [sv, dv, mv, cmp_lt _ _ (by omega) (by omega), cmp_le _ _ (by omega) (by omega), not_bit, and_bits, and_bits, bit_real]
      refine congrArg Real.toEReal ?_
      unfold iv
      by_cases hs : isSec l.val i.val = true
      · rw [if_pos hs, if_neg fun h => h.1.1 hs]
      · rw [if_neg hs]; exact if_congr ⟨fun h => by omega, fun h => ⟨⟨hs, by omega⟩, by omega⟩⟩ rfl rfl
  · rw [if_neg h1]
    by_cases h2 : r.val < 1920
    · rw [if_pos h2]
      refine (congrArg (FloatOps.uitofp (F := Ideal) FTy.f32) ((dif_neg h1).trans (dif_pos (show r.val - 1792 < 128 by omega)))).trans ?_
      pointwise
      rw [cmp_le _ _ (by omega) (by omega), bit_real]
      refine congrArg Real.toEReal ?_
      unfold iv
      exact if_congr (by omega) rfl rfl
    · rw [if_neg h2]
      refine (congrArg (FloatOps.uitofp (F := Ideal) FTy.f32) ((dif_neg h1).trans (dif_neg (show ¬r.val - 1792 < 128 by omega)))).trans ?_
      pointwise
      rw [cmp_lt _ _ (by omega) (by omega), bit_real]
      refine congrArg Real.toEReal ?_
      unfold iv
      exact if_congr (by omega) rfl rfl

end Cert.Proof

end
-- ==== Proof.Reads.lean ====
/- Each window's block at a grid point, read at coordinates of the array it is cut from. -/
module

public import proofs.«01_k».proof.Proof.Gen.KernelIdeal.Frame.Runs
public import Idealize.ShloMosaic.Lib.Pointwise

@[expose] public section

set_option maxRecDepth 16384

noncomputable section

namespace Cert.Proof

open Idealize.ShloMosaic Idealize.SL.Sem Cert.KernelIdeal Cert.KernelIdeal.Gen Idealize.ShloMosaic.Pointwise

theorem at0 : ∀ t : Fin cfg0.N, win0_0.index t 0 = 7 - t.val % 8 ∧ win0_0.index t 1 = t.val / 8 := (by decide +kernel : ∀ t : Fin grid0.N, _)
theorem emb0 (t : Fin cfg0.N) (a : Fin 512) (b : Fin 256) (x : Fin 4096) (y : Fin 4096)
    (hx : x.val = 512 * (7 - t.val % 8) + a.val)
    (hy : y.val = 256 * (t.val / 8) + b.val) :
    (win0_0.blk t).view.emb (ix2 a b) = ix2 x y := by
  refine funext fun i => Fin.ext ?_
  have h := at0 t
  match i with
  | ⟨0, _⟩ => show win0_0.index t 0 * 512 + 1 * a.val = x.val; omega
  | ⟨1, _⟩ => show win0_0.index t 1 * 256 + 1 * b.val = y.val; omega

theorem at1 : ∀ t : Fin cfg0.N, win0_1.index t 0 = 7 - t.val % 8 ∧ win0_1.index t 1 = 4 + t.val / 8 := (by decide +kernel : ∀ t : Fin grid0.N, _)
theorem emb1 (t : Fin cfg0.N) (a : Fin 512) (b : Fin 256) (x : Fin 4096) (y : Fin 4096)
    (hx : x.val = 512 * (7 - t.val % 8) + a.val)
    (hy : y.val = 256 * (4 + t.val / 8) + b.val) :
    (win0_1.blk t).view.emb (ix2 a b) = ix2 x y := by
  refine funext fun i => Fin.ext ?_
  have h := at1 t
  match i with
  | ⟨0, _⟩ => show win0_1.index t 0 * 512 + 1 * a.val = x.val; omega
  | ⟨1, _⟩ => show win0_1.index t 1 * 256 + 1 * b.val = y.val; omega

theorem at2 : ∀ t : Fin cfg0.N, win0_2.index t 0 = 7 - t.val % 8 ∧ win0_2.index t 1 = 8 + t.val / 8 := (by decide +kernel : ∀ t : Fin grid0.N, _)
theorem emb2 (t : Fin cfg0.N) (a : Fin 512) (b : Fin 256) (x : Fin 4096) (y : Fin 4096)
    (hx : x.val = 512 * (7 - t.val % 8) + a.val)
    (hy : y.val = 256 * (8 + t.val / 8) + b.val) :
    (win0_2.blk t).view.emb (ix2 a b) = ix2 x y := by
  refine funext fun i => Fin.ext ?_
  have h := at2 t
  match i with
  | ⟨0, _⟩ => show win0_2.index t 0 * 512 + 1 * a.val = x.val; omega
  | ⟨1, _⟩ => show win0_2.index t 1 * 256 + 1 * b.val = y.val; omega

theorem at3 : ∀ t : Fin cfg0.N, win0_3.index t 0 = 7 - t.val % 8 ∧ win0_3.index t 1 = 12 + t.val / 8 := (by decide +kernel : ∀ t : Fin grid0.N, _)
theorem emb3 (t : Fin cfg0.N) (a : Fin 512) (b : Fin 256) (x : Fin 4096) (y : Fin 4096)
    (hx : x.val = 512 * (7 - t.val % 8) + a.val)
    (hy : y.val = 256 * (12 + t.val / 8) + b.val) :
    (win0_3.blk t).view.emb (ix2 a b) = ix2 x y := by
  refine funext fun i => Fin.ext ?_
  have h := at3 t
  match i with
  | ⟨0, _⟩ => show win0_3.index t 0 * 512 + 1 * a.val = x.val; omega
  | ⟨1, _⟩ => show win0_3.index t 1 * 256 + 1 * b.val = y.val; omega

theorem at4 : ∀ t : Fin cfg0.N, win0_4.index t 0 = 0 ∧ win0_4.index t 1 = t.val / 8 := (by decide +kernel : ∀ t : Fin grid0.N, _)
theorem emb4 (t : Fin cfg0.N) (a : Fin 1) (b : Fin 256) (x : Fin 1) (y : Fin 1024)
    (hx : x.val = a.val)
    (hy : y.val = 256 * (t.val / 8) + b.val) :
    (win0_4.blk t).view.emb (ix2 a b) = ix2 x y := by
  refine funext fun i => Fin.ext ?_
  have h := at4 t
  match i with
  | ⟨0, _⟩ => show win0_4.index t 0 * 1 + 1 * a.val = x.val; omega
  | ⟨1, _⟩ => show win0_4.index t 1 * 256 + 1 * b.val = y.val; omega

theorem at5 : ∀ t : Fin cfg0.N, win0_5.index t 0 = 0 ∧ win0_5.index t 1 = 0 := (by decide +kernel : ∀ t : Fin grid0.N, _)
theorem emb5 (t : Fin cfg0.N) (a : Fin 1) (b : Fin 128) (x : Fin 1) (y : Fin 128)
    (hx : x.val = a.val)
    (hy : y.val = b.val) :
    (win0_5.blk t).view.emb (ix2 a b) = ix2 x y := by
  refine funext fun i => Fin.ext ?_
  have h := at5 t
  match i with
  | ⟨0, _⟩ => show win0_5.index t 0 * 1 + 1 * a.val = x.val; omega
  | ⟨1, _⟩ => show win0_5.index t 1 * 128 + 1 * b.val = y.val; omega

theorem at6 : ∀ t : Fin cfg0.N, win0_6.index t 0 = 7 - t.val % 8 ∧ win0_6.index t 1 = t.val / 8 := (by decide +kernel : ∀ t : Fin grid0.N, _)
theorem emb6 (t : Fin cfg0.N) (a : Fin 512) (b : Fin 256) (x : Fin 4096) (y : Fin 1024)
    (hx : x.val = 512 * (7 - t.val % 8) + a.val)
    (hy : y.val = 256 * (t.val / 8) + b.val) :
    (win0_6.blk t).view.emb (ix2 a b) = ix2 x y := by
  refine funext fun i => Fin.ext ?_
  have h := at6 t
  match i with
  | ⟨0, _⟩ => show win0_6.index t 0 * 512 + 1 * a.val = x.val; omega
  | ⟨1, _⟩ => show win0_6.index t 1 * 256 + 1 * b.val = y.val; omega

theorem at7 : ∀ t : Fin cfg0.N, win0_7.index t 0 = 7 - t.val % 8 ∧ win0_7.index t 1 = t.val / 8 ∧ win0_7.index t 2 = 0 ∧ win0_7.index t 3 = 0 := (by decide +kernel : ∀ t : Fin grid0.N, _)
theorem emb7 (t : Fin cfg0.N) (a : Fin 4) (b : Fin 2) (d : Fin 128) (e : Fin 128) (x : Fin 32) (y : Fin 8) (z : Fin 128) (u : Fin 128)
    (hx : x.val = 4 * (7 - t.val % 8) + a.val)
    (hy : y.val = 2 * (t.val / 8) + b.val)
    (hz : z.val = d.val)
    (hu : u.val = e.val) :
    (win0_7.blk t).view.emb (ix4 a b d e) = ix4 x y z u := by
  refine funext fun i => Fin.ext ?_
  have h := at7 t
  match i with
  | ⟨0, _⟩ => show win0_7.index t 0 * 4 + 1 * a.val = x.val; omega
  | ⟨1, _⟩ => show win0_7.index t 1 * 2 + 1 * b.val = y.val; omega
  | ⟨2, _⟩ => show win0_7.index t 2 * 128 + 1 * d.val = z.val; omega
  | ⟨3, _⟩ => show win0_7.index t 3 * 128 + 1 * e.val = u.val; omega

theorem at8 : ∀ t : Fin cfg0.N, win0_8.index t 0 = 7 - t.val % 8 ∧ win0_8.index t 1 = t.val / 8 := (by decide +kernel : ∀ t : Fin grid0.N, _)
theorem emb8 (t : Fin cfg0.N) (a : Fin 512) (b : Fin 256) (x : Fin 4096) (y : Fin 1024)
    (hx : x.val = 512 * (7 - t.val % 8) + a.val)
    (hy : y.val = 256 * (t.val / 8) + b.val) :
    (win0_8.blk t).view.emb (ix2 a b) = ix2 x y := by
  refine funext fun i => Fin.ext ?_
  have h := at8 t
  match i with
  | ⟨0, _⟩ => show win0_8.index t 0 * 512 + 1 * a.val = x.val; omega
  | ⟨1, _⟩ => show win0_8.index t 1 * 256 + 1 * b.val = y.val; omega

theorem at9 : ∀ t : Fin cfg0.N, win0_9.index t 0 = 0 ∧ win0_9.index t 1 = 0 := (by decide +kernel : ∀ t : Fin grid0.N, _)
theorem emb9 (t : Fin cfg0.N) (a : Fin 2048) (b : Fin 128) (x : Fin 2048) (y : Fin 128)
    (hx : x.val = a.val)
    (hy : y.val = b.val) :
    (win0_9.blk t).view.emb (ix2 a b) = ix2 x y := by
  refine funext fun i => Fin.ext ?_
  have h := at9 t
  match i with
  | ⟨0, _⟩ => show win0_9.index t 0 * 2048 + 1 * a.val = x.val; omega
  | ⟨1, _⟩ => show win0_9.index t 1 * 128 + 1 * b.val = y.val; omega

theorem at10 : ∀ t : Fin cfg0.N, win0_10.index t 0 = 0 ∧ win0_10.index t 1 = 0 ∧ win0_10.index t 2 = 0 := (by decide +kernel : ∀ t : Fin grid0.N, _)
theorem emb10 (t : Fin cfg0.N) (a : Fin 8) (b : Fin 128) (d : Fin 128) (x : Fin 8) (y : Fin 128) (z : Fin 128)
    (hx : x.val = a.val)
    (hy : y.val = b.val)
    (hz : z.val = d.val) :
    (win0_10.blk t).view.emb (ix3 a b d) = ix3 x y z := by
  refine funext fun i => Fin.ext ?_
  have h := at10 t
  match i with
  | ⟨0, _⟩ => show win0_10.index t 0 * 8 + 1 * a.val = x.val; omega
  | ⟨1, _⟩ => show win0_10.index t 1 * 128 + 1 * b.val = y.val; omega
  | ⟨2, _⟩ => show win0_10.index t 2 * 128 + 1 * d.val = z.val; omega

theorem at11 : ∀ t : Fin cfg0.N, win0_11.index t 0 = 0 ∧ win0_11.index t 1 = 0 := (by decide +kernel : ∀ t : Fin grid0.N, _)
theorem emb11 (t : Fin cfg0.N) (a : Fin 128) (b : Fin 128) (x : Fin 128) (y : Fin 128)
    (hx : x.val = a.val)
    (hy : y.val = b.val) :
    (win0_11.blk t).view.emb (ix2 a b) = ix2 x y := by
  refine funext fun i => Fin.ext ?_
  have h := at11 t
  match i with
  | ⟨0, _⟩ => show win0_11.index t 0 * 128 + 1 * a.val = x.val; omega
  | ⟨1, _⟩ => show win0_11.index t 1 * 128 + 1 * b.val = y.val; omega

theorem at12 : ∀ t : Fin cfg0.N, win0_12.index t 0 = 0 ∧ win0_12.index t 1 = 7 - t.val % 8 ∧ win0_12.index t 2 = t.val / 8 := (by decide +kernel : ∀ t : Fin grid0.N, _)
theorem emb12 (t : Fin cfg0.N) (a : Fin 4) (b : Fin 512) (d : Fin 256) (x : Fin 4) (y : Fin 4096) (z : Fin 1024)
    (hx : x.val = a.val)
    (hy : y.val = 512 * (7 - t.val % 8) + b.val)
    (hz : z.val = 256 * (t.val / 8) + d.val) :
    (win0_12.blk t).view.emb (ix3 a b d) = ix3 x y z := by
  refine funext fun i => Fin.ext ?_
  have h := at12 t
  match i with
  | ⟨0, _⟩ => show win0_12.index t 0 * 4 + 1 * a.val = x.val; omega
  | ⟨1, _⟩ => show win0_12.index t 1 * 512 + 1 * b.val = y.val; omega
  | ⟨2, _⟩ => show win0_12.index t 2 * 256 + 1 * d.val = z.val; omega

theorem at13 : ∀ t : Fin cfg0.N, win0_13.index t 0 = 0 ∧ win0_13.index t 1 = t.val / 8 := (by decide +kernel : ∀ t : Fin grid0.N, _)
theorem emb13 (t : Fin cfg0.N) (a : Fin 1) (b : Fin 256) (x : Fin 1) (y : Fin 1024)
    (hx : x.val = a.val)
    (hy : y.val = 256 * (t.val / 8) + b.val) :
    (win0_13.blk t).view.emb (ix2 a b) = ix2 x y := by
  refine funext fun i => Fin.ext ?_
  have h := at13 t
  match i with
  | ⟨0, _⟩ => show win0_13.index t 0 * 1 + 1 * a.val = x.val; omega
  | ⟨1, _⟩ => show win0_13.index t 1 * 256 + 1 * b.val = y.val; omega

theorem at14 : ∀ t : Fin cfg0.N, win0_14.index t 0 = 0 ∧ win0_14.index t 1 = t.val / 8 := (by decide +kernel : ∀ t : Fin grid0.N, _)
theorem emb14 (t : Fin cfg0.N) (a : Fin 1) (b : Fin 256) (x : Fin 1) (y : Fin 1024)
    (hx : x.val = a.val)
    (hy : y.val = 256 * (t.val / 8) + b.val) :
    (win0_14.blk t).view.emb (ix2 a b) = ix2 x y := by
  refine funext fun i => Fin.ext ?_
  have h := at14 t
  match i with
  | ⟨0, _⟩ => show win0_14.index t 0 * 1 + 1 * a.val = x.val; omega
  | ⟨1, _⟩ => show win0_14.index t 1 * 256 + 1 * b.val = y.val; omega

end Cert.Proof

end
-- ==== Proof.ReferenceReal.lean ====
/- What the reference computes, one real number at a time. -/
module

public import proofs.«01_k».proof.Proof.RealOps
public import proofs.«01_k».proof.Proof.Gen.ReferenceIdeal.Read

@[expose] public section

set_option maxRecDepth 16384

noncomputable section

namespace Cert.Proof.Reference

open Idealize.ShloMosaic Cert.ReferenceIdeal Cert.ReferenceIdeal.Read Cert.Proof

variable {x0 : (⟨S4096x4096, .f32⟩ : BufTy).Contents (Elt Ideal)} {x1 : (⟨S1x1024, .f32⟩ : BufTy).Contents (Elt Ideal)}
  {x2 : (⟨⟨2, ![1, 128]⟩, .f32⟩ : BufTy).Contents (Elt Ideal)} {x3 : (⟨S4096x1024, .f32⟩ : BufTy).Contents (Elt Ideal)} {P : Par}

theorem e_main_v0 (H : Holds x0 x1 x2 x3 P) (k : Fin 128) : (val_main_v0 (F := Ideal) x2) (ix4 (0 : Fin 1) (0 : Fin 1) (0 : Fin 1) k) = ((P.p2 k : ℝ) : EReal) :=
  (val_main_v0_apply x2 _).trans ((congrArg x2 (funext fun a => Fin.ext (by have := k.isLt; match a with | ⟨0, _⟩ => show 0 = 0; rfl | ⟨1, _⟩ => show (((0 * 1 + 0) * 1 + 0) * 128 + k.val) % 128 = k.val; omega))).trans (H.h2 k))

theorem e_main_v1 (H : Holds x0 x1 x2 x3 P) (h : Fin 8) (k : Fin 128) : (val_main_v1 (F := Ideal) x2) (ix4 (0 : Fin 1) (0 : Fin 1) h k) = ((P.p2 k : ℝ) : EReal) :=
  (val_main_v1_apply x2 _).trans ((congrArg (val_main_v0 (F := Ideal) x2) (funext fun a => Fin.ext (by have := h.isLt; have := k.isLt; match a with | ⟨0, _⟩ => show 0 = 0; rfl | ⟨1, _⟩ => show 0 = 0; rfl | ⟨2, _⟩ => show 0 = 0; rfl | ⟨3, _⟩ => show k.val = k.val; rfl))).trans (e_main_v0 H k))

theorem e_main_v2 (H : Holds x0 x1 x2 x3 P) (h : Fin 8) (k : Fin 128) : (val_main_v2 (F := Ideal) x2) (ix2 (0 : Fin 1) (cl h k)) = ((P.p2 k : ℝ) : EReal) :=
  (val_main_v2_apply x2 _).trans ((congrArg (val_main_v1 (F := Ideal) x2) (funext fun a => Fin.ext (by have := h.isLt; have := k.isLt; match a with | ⟨0, _⟩ => show 0 = 0; rfl | ⟨1, _⟩ => show 0 = 0; rfl | ⟨2, _⟩ => show (0 * 1024 + (128 * h.val + k.val)) / 128 % 8 = h.val; omega | ⟨3, _⟩ => show (0 * 1024 + (128 * h.val + k.val)) % 128 = k.val; omega))).trans (e_main_v1 H h k))

theorem e_main_v3 (H : Holds x0 x1 x2 x3 P) (t : Fin 4096) (s : Fin 4) (h : Fin 8) (k : Fin 128) : (val_main_v3 (F := Ideal) x0) (ix3 t s (cl h k)) = ((P.p0 t.val s h k : ℝ) : EReal) :=
  (val_main_v3_apply x0 _).trans ((congrArg x0 (funext fun a => Fin.ext (by have := t.isLt; have := s.isLt; have := h.isLt; have := k.isLt; match a with | ⟨0, _⟩ => show ((t.val * 4 + s.val) * 1024 + (128 * h.val + k.val)) / 4096 = t.val; omega | ⟨1, _⟩ => show ((t.val * 4 + s.val) * 1024 + (128 * h.val + k.val)) % 4096 = (1024 * s.val + 128 * h.val + k.val); omega))).trans (H.h0 t s h k))

theorem e_main_v4 (H : Holds x0 x1 x2 x3 P) (s : Fin 4) (t : Fin 4096) (h : Fin 8) (k : Fin 128) : (val_main_v4 (F := Ideal) x0) (ix3 s t (cl h k)) = ((P.p0 t.val s h k : ℝ) : EReal) :=
  (val_main_v4_apply x0 _).trans ((congrArg (val_main_v3 (F := Ideal) x0) (funext fun a => Fin.ext (by have := s.isLt; have := t.isLt; have := h.isLt; have := k.isLt; match a with | ⟨0, _⟩ => show t.val = t.val; rfl | ⟨1, _⟩ => show s.val = s.val; rfl | ⟨2, _⟩ => show (128 * h.val + k.val) = (128 * h.val + k.val); rfl))).trans (e_main_v3 H t s h k))

theorem e_main_v5 (H : Holds x0 x1 x2 x3 P) (t : Fin 4096) (h : Fin 8) (k : Fin 128) : (val_main_v5 (F := Ideal) x0) (ix3 (0 : Fin 1) t (cl h k)) = ((P.p0 t.val (0 : Fin 4) h k : ℝ) : EReal) :=
  (val_main_v5_apply x0 _).trans ((congrArg (val_main_v4 (F := Ideal) x0) (funext fun a => Fin.ext (by have := t.isLt; have := h.isLt; have := k.isLt; match a with | ⟨0, _⟩ => show 0 = ((0 : Fin 4)).val; omega | ⟨1, _⟩ => show t.val = t.val; rfl | ⟨2, _⟩ => show (128 * h.val + k.val) = (128 * h.val + k.val); rfl))).trans (e_main_v4 H (0 : Fin 4) t h k))

theorem e_main_v6 (H : Holds x0 x1 x2 x3 P) (t : Fin 4096) (h : Fin 8) (k : Fin 128) : (val_main_v6 (F := Ideal) x0) (ix2 t (cl h k)) = ((P.p0 t.val (0 : Fin 4) h k : ℝ) : EReal) :=
  (val_main_v6_apply x0 _).trans ((congrArg (val_main_v5 (F := Ideal) x0) (funext fun a => Fin.ext (by have := t.isLt; have := h.isLt; have := k.isLt; match a with | ⟨0, _⟩ => show 0 = 0; rfl | ⟨1, _⟩ => show (t.val * 1024 + (128 * h.val + k.val)) / 1024 % 4096 = t.val; omega | ⟨2, _⟩ => show (t.val * 1024 + (128 * h.val + k.val)) % 1024 = (128 * h.val + k.val); omega))).trans (e_main_v5 H t h k))

def r_main_call0_v0 (P : Par) (t : ℕ) (h : Fin 8) (k : Fin 128) : ℝ := -(P.p0 t (0 : Fin 4) h k)
theorem e_main_call0_v0 (H : Holds x0 x1 x2 x3 P) (t : Fin 4096) (h : Fin 8) (k : Fin 128) : (val_main_call0_v0 (F := Ideal) x0) (ix2 t (cl h k)) = ((r_main_call0_v0 P t.val h k : ℝ) : EReal) := by
  rw [val_main_call0_v0_apply x0, (e_main_v6 H t h k)]
  exact m_neg _

def r_main_call0_v1 (P : Par) (t : ℕ) (h : Fin 8) (k : Fin 128) : ℝ := Real.exp (r_main_call0_v0 P t h k)
theorem e_main_call0_v1 (H : Holds x0 x1 x2 x3 P) (t : Fin 4096) (h : Fin 8) (k : Fin 128) : (val_main_call0_v1 (F := Ideal) x0) (ix2 t (cl h k)) = ((r_main_call0_v1 P t.val h k : ℝ) : EReal) := by
  rw [val_main_call0_v1_apply x0, (e_main_call0_v0 H t h k)]
  exact m_exp _

theorem e_main_call0_cst (i : S_.Idx) : val_main_call0_cst (F := Ideal) i = ((1 : ℝ) : EReal) := c_one

theorem e_main_call0_v2 (i : S4096x1024.Idx) : val_main_call0_v2 (F := Ideal) i = ((1 : ℝ) : EReal) := (val_main_call0_v2_apply i).trans (e_main_call0_cst _)

def r_main_call0_v3 (P : Par) (t : ℕ) (h : Fin 8) (k : Fin 128) : ℝ := (1) + (r_main_call0_v1 P t h k)
theorem e_main_call0_v3 (H : Holds x0 x1 x2 x3 P) (t : Fin 4096) (h : Fin 8) (k : Fin 128) : (val_main_call0_v3 (F := Ideal) x0) (ix2 t (cl h k)) = ((r_main_call0_v3 P t.val h k : ℝ) : EReal) := by
  rw [val_main_call0_v3_apply x0, e_main_call0_v2, (e_main_call0_v1 H t h k)]
  exact m_add _ _

theorem pos_main_call0_v3 (H : Holds x0 x1 x2 x3 P) (t : ℕ) (h : Fin 8) (k : Fin 128) : 0 < r_main_call0_v3 P t h k := by
  show 0 < (1 : ℝ) + Real.exp _
  positivity

theorem e_main_call0_cst_0 (i : S_.Idx) : val_main_call0_cst_0 (F := Ideal) i = ((1 : ℝ) : EReal) := c_one

theorem e_main_call0_v4 (i : S4096x1024.Idx) : val_main_call0_v4 (F := Ideal) i = ((1 : ℝ) : EReal) := (val_main_call0_v4_apply i).trans (e_main_call0_cst_0 _)

def r_main_v7_2 (P : Par) (t : ℕ) (h : Fin 8) (k : Fin 128) : ℝ := (1) / (r_main_call0_v3 P t h k)
theorem e_main_v7_2 (H : Holds x0 x1 x2 x3 P) (t : Fin 4096) (h : Fin 8) (k : Fin 128) : (val_main_v7_2 (F := Ideal) x0) (ix2 t (cl h k)) = ((r_main_v7_2 P t.val h k : ℝ) : EReal) := by
  rw [val_main_v7_2_apply x0, e_main_call0_v4, (e_main_call0_v3 H t h k)]
  exact m_div _ _ (pos_main_call0_v3 H t.val h k).ne'

theorem e_main_call0_cst_1 (i : S_.Idx) : val_main_call0_cst_1 (F := Ideal) i = ((1 : ℝ) : EReal) := c_one

theorem e_main_call0_v6 (i : S4096x1024.Idx) : val_main_call0_v6 (F := Ideal) i = ((1 : ℝ) : EReal) := (val_main_call0_v6_apply i).trans (e_main_call0_cst_1 _)

def r_main_call0_v7 (P : Par) (t : ℕ) (h : Fin 8) (k : Fin 128) : ℝ := (1) - (r_main_v7_2 P t h k)
theorem e_main_call0_v7 (H : Holds x0 x1 x2 x3 P) (t : Fin 4096) (h : Fin 8) (k : Fin 128) : (val_main_call0_v7 (F := Ideal) x0) (ix2 t (cl h k)) = ((r_main_call0_v7 P t.val h k : ℝ) : EReal) := by
  rw [val_main_call0_v7_apply x0, e_main_call0_v6, (e_main_v7_2 H t h k)]
  exact m_sub _ _

def r_main_v7_1 (P : Par) (t : ℕ) (h : Fin 8) (k : Fin 128) : ℝ := (r_main_v7_2 P t h k) * (r_main_call0_v7 P t h k)
theorem e_main_v7_1 (H : Holds x0 x1 x2 x3 P) (t : Fin 4096) (h : Fin 8) (k : Fin 128) : (val_main_v7_1 (F := Ideal) x0) (ix2 t (cl h k)) = ((r_main_v7_1 P t.val h k : ℝ) : EReal) := by
  rw [val_main_v7_1_apply x0, (e_main_v7_2 H t h k), (e_main_call0_v7 H t h k)]
  exact m_mul _ _

def r_main_v7_0 (P : Par) (t : ℕ) (h : Fin 8) (k : Fin 128) : ℝ := (P.p0 t (0 : Fin 4) h k) * (r_main_v7_2 P t h k)
theorem e_main_v7_0 (H : Holds x0 x1 x2 x3 P) (t : Fin 4096) (h : Fin 8) (k : Fin 128) : (val_main_v7_0 (F := Ideal) x0) (ix2 t (cl h k)) = ((r_main_v7_0 P t.val h k : ℝ) : EReal) := by
  rw [val_main_v7_0_apply x0, (e_main_v6 H t h k), (e_main_v7_2 H t h k)]
  exact m_mul _ _

theorem e_main_cst (i : S_.Idx) : val_main_cst (F := Ideal) i = ((1 : ℝ) : EReal) := c_one

theorem e_main_v8 (i : S1x1024.Idx) : val_main_v8 (F := Ideal) i = ((1 : ℝ) : EReal) := (val_main_v8_apply i).trans (e_main_cst _)

def r_main_v9 (P : Par) (h : Fin 8) (k : Fin 128) : ℝ := (1) - (P.p1 h k)
theorem e_main_v9 (H : Holds x0 x1 x2 x3 P) (h : Fin 8) (k : Fin 128) : (val_main_v9 (F := Ideal) x1) (ix2 (0 : Fin 1) (cl h k)) = ((r_main_v9 P h k : ℝ) : EReal) := by
  rw [val_main_v9_apply x1, e_main_v8, (H.h1 h k)]
  exact m_sub _ _

theorem e_main_v10 (H : Holds x0 x1 x2 x3 P) (t : Fin 4096) (h : Fin 8) (k : Fin 128) : (val_main_v10 (F := Ideal) x0) (ix3 (0 : Fin 1) t (cl h k)) = ((P.p0 t.val (1 : Fin 4) h k : ℝ) : EReal) :=
  (val_main_v10_apply x0 _).trans ((congrArg (val_main_v4 (F := Ideal) x0) (funext fun a => Fin.ext (by have := t.isLt; have := h.isLt; have := k.isLt; match a with | ⟨0, _⟩ => show 1 + 0 = ((1 : Fin 4)).val; omega | ⟨1, _⟩ => show t.val = t.val; rfl | ⟨2, _⟩ => show (128 * h.val + k.val) = (128 * h.val + k.val); rfl))).trans (e_main_v4 H (1 : Fin 4) t h k))

theorem e_main_v11 (H : Holds x0 x1 x2 x3 P) (t : Fin 4096) (h : Fin 8) (k : Fin 128) : (val_main_v11 (F := Ideal) x0) (ix2 t (cl h k)) = ((P.p0 t.val (1 : Fin 4) h k : ℝ) : EReal) :=
  (val_main_v11_apply x0 _).trans ((congrArg (val_main_v10 (F := Ideal) x0) (funext fun a => Fin.ext (by have := t.isLt; have := h.isLt; have := k.isLt; match a with | ⟨0, _⟩ => show 0 = 0; rfl | ⟨1, _⟩ => show (t.val * 1024 + (128 * h.val + k.val)) / 1024 % 4096 = t.val; omega | ⟨2, _⟩ => show (t.val * 1024 + (128 * h.val + k.val)) % 1024 = (128 * h.val + k.val); omega))).trans (e_main_v10 H t h k))

def r_main_v12 (P : Par) (t : ℕ) (h : Fin 8) (k : Fin 128) : ℝ := -(P.p0 t (1 : Fin 4) h k)
theorem e_main_v12 (H : Holds x0 x1 x2 x3 P) (t : Fin 4096) (h : Fin 8) (k : Fin 128) : (val_main_v12 (F := Ideal) x0) (ix2 t (cl h k)) = ((r_main_v12 P t.val h k : ℝ) : EReal) := by
  rw [val_main_v12_apply x0, (e_main_v11 H t h k)]
  exact m_neg _

def r_main_v13 (P : Par) (t : ℕ) (h : Fin 8) (k : Fin 128) : ℝ := Real.exp (r_main_v12 P t h k)
theorem e_main_v13 (H : Holds x0 x1 x2 x3 P) (t : Fin 4096) (h : Fin 8) (k : Fin 128) : (val_main_v13 (F := Ideal) x0) (ix2 t (cl h k)) = ((r_main_v13 P t.val h k : ℝ) : EReal) := by
  rw [val_main_v13_apply x0, (e_main_v12 H t h k)]
  exact m_exp _

theorem e_main_cst_0 (i : S_.Idx) : val_main_cst_0 (F := Ideal) i = ((1 : ℝ) : EReal) := c_one

theorem e_main_v14 (i : S4096x1024.Idx) : val_main_v14 (F := Ideal) i = ((1 : ℝ) : EReal) := (val_main_v14_apply i).trans (e_main_cst_0 _)

def r_main_v15 (P : Par) (t : ℕ) (h : Fin 8) (k : Fin 128) : ℝ := (1) + (r_main_v13 P t h k)
theorem e_main_v15 (H : Holds x0 x1 x2 x3 P) (t : Fin 4096) (h : Fin 8) (k : Fin 128) : (val_main_v15 (F := Ideal) x0) (ix2 t (cl h k)) = ((r_main_v15 P t.val h k : ℝ) : EReal) := by
  rw [val_main_v15_apply x0, e_main_v14, (e_main_v13 H t h k)]
  exact m_add _ _

theorem pos_main_v15 (H : Holds x0 x1 x2 x3 P) (t : ℕ) (h : Fin 8) (k : Fin 128) : 0 < r_main_v15 P t h k := by
  show 0 < (1 : ℝ) + Real.exp _
  positivity

theorem e_main_cst_1 (i : S_.Idx) : val_main_cst_1 (F := Ideal) i = ((1 : ℝ) : EReal) := c_one

theorem e_main_v16 (i : S4096x1024.Idx) : val_main_v16 (F := Ideal) i = ((1 : ℝ) : EReal) := (val_main_v16_apply i).trans (e_main_cst_1 _)

def r_main_v17 (P : Par) (t : ℕ) (h : Fin 8) (k : Fin 128) : ℝ := (1) / (r_main_v15 P t h k)
theorem e_main_v17 (H : Holds x0 x1 x2 x3 P) (t : Fin 4096) (h : Fin 8) (k : Fin 128) : (val_main_v17 (F := Ideal) x0) (ix2 t (cl h k)) = ((r_main_v17 P t.val h k : ℝ) : EReal) := by
  rw [val_main_v17_apply x0, e_main_v16, (e_main_v15 H t h k)]
  exact m_div _ _ (pos_main_v15 H t.val h k).ne'

theorem e_main_cst_2 (i : S_.Idx) : val_main_cst_2 (F := Ideal) i = ((1 : ℝ) : EReal) := c_one

theorem e_main_v18 (i : S4096x1024.Idx) : val_main_v18 (F := Ideal) i = ((1 : ℝ) : EReal) := (val_main_v18_apply i).trans (e_main_cst_2 _)

def r_main_v19 (P : Par) (t : ℕ) (h : Fin 8) (k : Fin 128) : ℝ := (1) - (r_main_v17 P t h k)
theorem e_main_v19 (H : Holds x0 x1 x2 x3 P) (t : Fin 4096) (h : Fin 8) (k : Fin 128) : (val_main_v19 (F := Ideal) x0) (ix2 t (cl h k)) = ((r_main_v19 P t.val h k : ℝ) : EReal) := by
  rw [val_main_v19_apply x0, e_main_v18, (e_main_v17 H t h k)]
  exact m_sub _ _

def r_main_v20 (P : Par) (t : ℕ) (h : Fin 8) (k : Fin 128) : ℝ := (r_main_v17 P t h k) * (r_main_v19 P t h k)
theorem e_main_v20 (H : Holds x0 x1 x2 x3 P) (t : Fin 4096) (h : Fin 8) (k : Fin 128) : (val_main_v20 (F := Ideal) x0) (ix2 t (cl h k)) = ((r_main_v20 P t.val h k : ℝ) : EReal) := by
  rw [val_main_v20_apply x0, (e_main_v17 H t h k), (e_main_v19 H t h k)]
  exact m_mul _ _

theorem e_main_v21 (H : Holds x0 x1 x2 x3 P) (t : Fin 4096) (h : Fin 8) (k : Fin 128) : (val_main_v21 (F := Ideal) x1) (ix2 t (cl h k)) = ((r_main_v9 P h k : ℝ) : EReal) :=
  (val_main_v21_apply x1 _).trans ((congrArg (val_main_v9 (F := Ideal) x1) (funext fun a => Fin.ext (by have := t.isLt; have := h.isLt; have := k.isLt; match a with | ⟨0, _⟩ => show 0 = 0; rfl | ⟨1, _⟩ => show (128 * h.val + k.val) = (128 * h.val + k.val); rfl))).trans (e_main_v9 H h k))

def r_main_v22 (P : Par) (t : ℕ) (h : Fin 8) (k : Fin 128) : ℝ := (r_main_v9 P h k) * (r_main_v17 P t h k)
theorem e_main_v22 (H : Holds x0 x1 x2 x3 P) (t : Fin 4096) (h : Fin 8) (k : Fin 128) : (val_main_v22 (F := Ideal) x0 x1) (ix2 t (cl h k)) = ((r_main_v22 P t.val h k : ℝ) : EReal) := by
  rw [val_main_v22_apply x0 x1, (e_main_v21 H t h k), (e_main_v17 H t h k)]
  exact m_mul _ _

theorem e_main_v23 (H : Holds x0 x1 x2 x3 P) (t : Fin 4096) (h : Fin 8) (k : Fin 128) : (val_main_v23 (F := Ideal) x1) (ix2 t (cl h k)) = ((P.p1 h k : ℝ) : EReal) :=
  (val_main_v23_apply x1 _).trans ((congrArg x1 (funext fun a => Fin.ext (by have := t.isLt; have := h.isLt; have := k.isLt; match a with | ⟨0, _⟩ => show 0 = 0; rfl | ⟨1, _⟩ => show (128 * h.val + k.val) = (128 * h.val + k.val); rfl))).trans (H.h1 h k))

def r_main_v24 (P : Par) (t : ℕ) (h : Fin 8) (k : Fin 128) : ℝ := (P.p1 h k) + (r_main_v22 P t h k)
theorem e_main_v24 (H : Holds x0 x1 x2 x3 P) (t : Fin 4096) (h : Fin 8) (k : Fin 128) : (val_main_v24 (F := Ideal) x0 x1) (ix2 t (cl h k)) = ((r_main_v24 P t.val h k : ℝ) : EReal) := by
  rw [val_main_v24_apply x0 x1, (e_main_v23 H t h k), (e_main_v22 H t h k)]
  exact m_add _ _

theorem pos_main_v24 (H : Holds x0 x1 x2 x3 P) (t : ℕ) (h : Fin 8) (k : Fin 128) : 0 < r_main_v24 P t h k := by
  show 0 < P.p1 h k + (1 - P.p1 h k) * (1 / (1 + Real.exp (-P.p0 t 1 h k)))
  have h0 := H.nonneg h k
  have h1 := H.lt_one h k
  have h2 : 0 < 1 - P.p1 h k := by linarith
  positivity

def r_main_v25 (P : Par) (t : ℕ) (h : Fin 8) (k : Fin 128) : ℝ := Real.log (r_main_v24 P t h k)
theorem e_main_v25 (H : Holds x0 x1 x2 x3 P) (t : Fin 4096) (h : Fin 8) (k : Fin 128) : (val_main_v25 (F := Ideal) x0 x1) (ix2 t (cl h k)) = ((r_main_v25 P t.val h k : ℝ) : EReal) := by
  rw [val_main_v25_apply x0 x1, (e_main_v24 H t h k)]
  exact m_log _ (pos_main_v24 H t.val h k)

def r_main_v26 (P : Par) (t : ℕ) (h : Fin 8) (k : Fin 128) : ℝ := Real.exp (r_main_v25 P t h k) - 1
theorem e_main_v26 (H : Holds x0 x1 x2 x3 P) (t : Fin 4096) (h : Fin 8) (k : Fin 128) : (val_main_v26 (F := Ideal) x0 x1) (ix2 t (cl h k)) = ((r_main_v26 P t.val h k : ℝ) : EReal) := by
  rw [val_main_v26_apply x0 x1, (e_main_v25 H t h k)]
  exact m_expm1 _

def r_main_v27 (P : Par) (t : ℕ) (h : Fin 8) (k : Fin 128) : ℝ := Real.exp (r_main_v25 P t h k)
theorem e_main_v27 (H : Holds x0 x1 x2 x3 P) (t : Fin 4096) (h : Fin 8) (k : Fin 128) : (val_main_v27 (F := Ideal) x0 x1) (ix2 t (cl h k)) = ((r_main_v27 P t.val h k : ℝ) : EReal) := by
  rw [val_main_v27_apply x0 x1, (e_main_v25 H t h k)]
  exact m_exp _

def r_main_v28 (P : Par) (t : ℕ) (h : Fin 8) (k : Fin 128) : ℝ := -(r_main_v26 P t h k)
theorem e_main_v28 (H : Holds x0 x1 x2 x3 P) (t : Fin 4096) (h : Fin 8) (k : Fin 128) : (val_main_v28 (F := Ideal) x0 x1) (ix2 t (cl h k)) = ((r_main_v28 P t.val h k : ℝ) : EReal) := by
  rw [val_main_v28_apply x0 x1, (e_main_v26 H t h k)]
  exact m_neg _

theorem e_main_v29 (H : Holds x0 x1 x2 x3 P) (t : Fin 4096) (h : Fin 8) (k : Fin 128) : (val_main_v29 (F := Ideal) x0 x1) (ix3 t h k) = ((r_main_v25 P t.val h k : ℝ) : EReal) :=
  (val_main_v29_apply x0 x1 _).trans ((congrArg (val_main_v25 (F := Ideal) x0 x1) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v25 H t h k))

theorem e_main_v30 (H : Holds x0 x1 x2 x3 P) (h : Fin 8) (t : Fin 4096) (k : Fin 128) : (val_main_v30 (F := Ideal) x0 x1) (ix3 h t k) = ((r_main_v25 P t.val h k : ℝ) : EReal) :=
  (val_main_v30_apply x0 x1 _).trans ((congrArg (val_main_v29 (F := Ideal) x0 x1) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v29 H t h k))

theorem e_main_v31 (H : Holds x0 x1 x2 x3 P) (t : Fin 4096) (h : Fin 8) (k : Fin 128) : (val_main_v31 (F := Ideal) x0) (ix3 t h k) = ((r_main_v7_0 P t.val h k : ℝ) : EReal) :=
  (val_main_v31_apply x0 _).trans ((congrArg (val_main_v7_0 (F := Ideal) x0) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v7_0 H t h k))

theorem e_main_v32 (H : Holds x0 x1 x2 x3 P) (h : Fin 8) (t : Fin 4096) (k : Fin 128) : (val_main_v32 (F := Ideal) x0) (ix3 h t k) = ((r_main_v7_0 P t.val h k : ℝ) : EReal) :=
  (val_main_v32_apply x0 _).trans ((congrArg (val_main_v31 (F := Ideal) x0) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v31 H t h k))

theorem e_main_v33 (H : Holds x0 x1 x2 x3 P) (t : Fin 4096) (h : Fin 8) (k : Fin 128) : (val_main_v33 (F := Ideal) x0 x1) (ix3 t h k) = ((r_main_v28 P t.val h k : ℝ) : EReal) :=
  (val_main_v33_apply x0 x1 _).trans ((congrArg (val_main_v28 (F := Ideal) x0 x1) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v28 H t h k))

theorem e_main_v34 (H : Holds x0 x1 x2 x3 P) (h : Fin 8) (t : Fin 4096) (k : Fin 128) : (val_main_v34 (F := Ideal) x0 x1) (ix3 h t k) = ((r_main_v28 P t.val h k : ℝ) : EReal) :=
  (val_main_v34_apply x0 x1 _).trans ((congrArg (val_main_v33 (F := Ideal) x0 x1) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v33 H t h k))

theorem e_main_v35 (H : Holds x0 x1 x2 x3 P) (t : Fin 4096) (h : Fin 8) (k : Fin 128) : (val_main_v35 (F := Ideal) x0) (ix3 (0 : Fin 1) t (cl h k)) = ((P.p0 t.val (2 : Fin 4) h k : ℝ) : EReal) :=
  (val_main_v35_apply x0 _).trans ((congrArg (val_main_v4 (F := Ideal) x0) (funext fun a => Fin.ext (by have := t.isLt; have := h.isLt; have := k.isLt; match a with | ⟨0, _⟩ => show 2 + 0 = ((2 : Fin 4)).val; omega | ⟨1, _⟩ => show t.val = t.val; rfl | ⟨2, _⟩ => show (128 * h.val + k.val) = (128 * h.val + k.val); rfl))).trans (e_main_v4 H (2 : Fin 4) t h k))

theorem e_main_v36 (H : Holds x0 x1 x2 x3 P) (t : Fin 4096) (h : Fin 8) (k : Fin 128) : (val_main_v36 (F := Ideal) x0) (ix2 t (cl h k)) = ((P.p0 t.val (2 : Fin 4) h k : ℝ) : EReal) :=
  (val_main_v36_apply x0 _).trans ((congrArg (val_main_v35 (F := Ideal) x0) (funext fun a => Fin.ext (by have := t.isLt; have := h.isLt; have := k.isLt; match a with | ⟨0, _⟩ => show 0 = 0; rfl | ⟨1, _⟩ => show (t.val * 1024 + (128 * h.val + k.val)) / 1024 % 4096 = t.val; omega | ⟨2, _⟩ => show (t.val * 1024 + (128 * h.val + k.val)) % 1024 = (128 * h.val + k.val); omega))).trans (e_main_v35 H t h k))

theorem e_main_v37 (H : Holds x0 x1 x2 x3 P) (t : Fin 4096) (h : Fin 8) (k : Fin 128) : (val_main_v37 (F := Ideal) x0) (ix3 t h k) = ((P.p0 t.val (2 : Fin 4) h k : ℝ) : EReal) :=
  (val_main_v37_apply x0 _).trans ((congrArg (val_main_v36 (F := Ideal) x0) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v36 H t h k))

theorem e_main_v38 (H : Holds x0 x1 x2 x3 P) (h : Fin 8) (t : Fin 4096) (k : Fin 128) : (val_main_v38 (F := Ideal) x0) (ix3 h t k) = ((P.p0 t.val (2 : Fin 4) h k : ℝ) : EReal) :=
  (val_main_v38_apply x0 _).trans ((congrArg (val_main_v37 (F := Ideal) x0) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v37 H t h k))

theorem e_main_call1_call0_cst (i : S_.Idx) : val_main_call1_call0_cst (F := Ideal) i = ((0 : ℝ) : EReal) := c_zero

theorem e_main_call1_call0_v0 (i : S_.Idx) : val_main_call1_call0_v0 (F := Ideal) i = ((0 : ℝ) : EReal) := (val_main_call1_call0_v0_apply i).trans (e_main_call1_call0_cst _)

def r_main_v39 (P : Par) (h : Fin 8) (t : ℕ) (k : Fin 128) : ℝ := ∑ u ∈ Finset.range (t + 1), r_main_v25 P u h k
theorem e_main_v39 (H : Holds x0 x1 x2 x3 P) (h : Fin 8) (t : Fin 4096) (k : Fin 128) : (val_main_v39 (F := Ideal) x0 x1) (ix3 h t k) = ((r_main_v39 P h t.val k : ℝ) : EReal) := by
  unfold val_main_v39
  refine (window_sum 4095 0 _ _ _ _ (fun h t k => r_main_v25 P t h k) (fun h t k => (e_main_v30 H h t k)) (fun j => e_main_call1_call0_v0 j) h t k).trans ?_
  exact congrArg Real.toEReal (cum_sum (fun t => r_main_v25 P t h k) t.val t.isLt)

theorem e_main_v41 (H : Holds x0 x1 x2 x3 P) (t : Fin 4096) (u : Fin 4096) : val_main_v41 (F := Ideal) (ix2 t u) = if u.val ≤ t.val then 1#1 else 0#1 := by
  rw [val_main_v41_apply, val_main_call2_v4_apply, val_main_call2_v2_apply, val_main_call2_v0_apply, val_main_call2_v1_apply, val_main_call2_v3_apply, val_main_call2_c_apply, val_main_v40_apply, val_main_c_apply, val_main_call2_v5_apply, val_main_call2_c_0_apply]
  refine (congrArg (fun q => Scalar.select q (1#1 : BitVec 1) 0#1) (tril_word t.val u.val t.isLt u.isLt)).trans ?_
  by_cases h : u.val ≤ t.val
  · rw [if_pos h]; rfl
  · rw [if_neg h]; rfl

theorem e_main_v42 (H : Holds x0 x1 x2 x3 P) (h : Fin 8) (t : Fin 4096) (k : Fin 128) : (val_main_v42 (F := Ideal) x0 x1) (ix4 h t (0 : Fin 1) k) = ((r_main_v39 P h t.val k : ℝ) : EReal) :=
  (val_main_v42_apply x0 x1 _).trans ((congrArg (val_main_v39 (F := Ideal) x0 x1) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v39 H h t k))

theorem e_main_v43 (H : Holds x0 x1 x2 x3 P) (h : Fin 8) (t : Fin 4096) (k : Fin 128) : (val_main_v43 (F := Ideal) x0 x1) (ix4 h (0 : Fin 1) t k) = ((r_main_v39 P h t.val k : ℝ) : EReal) :=
  (val_main_v43_apply x0 x1 _).trans ((congrArg (val_main_v39 (F := Ideal) x0 x1) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v39 H h t k))

theorem e_main_v44 (H : Holds x0 x1 x2 x3 P) (h : Fin 8) (t : Fin 4096) (u : Fin 4096) (k : Fin 128) : (val_main_v44 (F := Ideal) x0 x1) (ix4 h t u k) = ((r_main_v39 P h t.val k : ℝ) : EReal) :=
  (val_main_v44_apply x0 x1 _).trans ((congrArg (val_main_v42 (F := Ideal) x0 x1) (funext fun a => Fin.ext (by have := h.isLt; have := t.isLt; have := u.isLt; have := k.isLt; match a with | ⟨0, _⟩ => show h.val = h.val; rfl | ⟨1, _⟩ => show t.val = t.val; rfl | ⟨2, _⟩ => show 0 = 0; rfl | ⟨3, _⟩ => show k.val = k.val; rfl))).trans (e_main_v42 H h t k))

theorem e_main_v45 (H : Holds x0 x1 x2 x3 P) (h : Fin 8) (t : Fin 4096) (u : Fin 4096) (k : Fin 128) : (val_main_v45 (F := Ideal) x0 x1) (ix4 h t u k) = ((r_main_v39 P h u.val k : ℝ) : EReal) :=
  (val_main_v45_apply x0 x1 _).trans ((congrArg (val_main_v43 (F := Ideal) x0 x1) (funext fun a => Fin.ext (by have := h.isLt; have := t.isLt; have := u.isLt; have := k.isLt; match a with | ⟨0, _⟩ => show h.val = h.val; rfl | ⟨1, _⟩ => show 0 = 0; rfl | ⟨2, _⟩ => show u.val = u.val; rfl | ⟨3, _⟩ => show k.val = k.val; rfl))).trans (e_main_v43 H h u k))

def r_main_v46 (P : Par) (h : Fin 8) (t : ℕ) (u : ℕ) (k : Fin 128) : ℝ := (r_main_v39 P h t k) - (r_main_v39 P h u k)
theorem e_main_v46 (H : Holds x0 x1 x2 x3 P) (h : Fin 8) (t : Fin 4096) (u : Fin 4096) (k : Fin 128) : (val_main_v46 (F := Ideal) x0 x1) (ix4 h t u k) = ((r_main_v46 P h t.val u.val k : ℝ) : EReal) := by
  rw [val_main_v46_apply x0 x1, (e_main_v44 H h t u k), (e_main_v45 H h t u k)]
  exact m_sub _ _

theorem e_main_v47 (H : Holds x0 x1 x2 x3 P) (t : Fin 4096) (u : Fin 4096) : (val_main_v47 (F := Ideal)) (ix3 t u (0 : Fin 1)) = if u.val ≤ t.val then 1#1 else 0#1 :=
  (val_main_v47_apply _).trans ((congrArg (val_main_v41 (F := Ideal)) (funext fun a => Fin.ext (by have := t.isLt; have := u.isLt; match a with | ⟨0, _⟩ => show t.val = t.val; rfl | ⟨1, _⟩ => show u.val = u.val; rfl))).trans (e_main_v41 H t u))

theorem e_main_cst_3 (i : S_.Idx) : val_main_cst_3 (F := Ideal) i = ((0 : ℝ) : EReal) := c_zero

theorem e_main_v48 (i : S8x4096x4096x128.Idx) : val_main_v48 (F := Ideal) i = ((0 : ℝ) : EReal) := (val_main_v48_apply i).trans (e_main_cst_3 _)

def r_main_v49 (P : Par) (h : Fin 8) (t : ℕ) (u : ℕ) (k : Fin 128) : ℝ := min (r_main_v46 P h t u k) (0)
theorem e_main_v49 (H : Holds x0 x1 x2 x3 P) (h : Fin 8) (t : Fin 4096) (u : Fin 4096) (k : Fin 128) : (val_main_v49 (F := Ideal) x0 x1) (ix4 h t u k) = ((r_main_v49 P h t.val u.val k : ℝ) : EReal) := by
  rw [val_main_v49_apply x0 x1, (e_main_v46 H h t u k), e_main_v48]
  exact m_min _ _

theorem e_main_cst_4 (i : S_.Idx) : val_main_cst_4 (F := Ideal) i = ((0 : ℝ) : EReal) := c_zero

theorem e_main_v50 (i : S8x4096x4096x128.Idx) : val_main_v50 (F := Ideal) i = ((0 : ℝ) : EReal) := (val_main_v50_apply i).trans (e_main_cst_4 _)

theorem e_main_v51 (H : Holds x0 x1 x2 x3 P) (h : Fin 8) (t : Fin 4096) (u : Fin 4096) (k : Fin 128) : (val_main_v51 (F := Ideal) x0 x1) (ix4 h t u k) = if (r_main_v46 P h t.val u.val k) < (0) then 1#1 else 0#1 := by
  rw [val_main_v51_apply x0 x1, e_main_v50, (e_main_v46 H h t u k)]
  exact m_ogt _ _

theorem e_main_cst_5 (i : S_.Idx) : val_main_cst_5 (F := Ideal) i = ((0 : ℝ) : EReal) := c_zero

theorem e_main_v52 (i : S8x4096x4096x128.Idx) : val_main_v52 (F := Ideal) i = ((0 : ℝ) : EReal) := (val_main_v52_apply i).trans (e_main_cst_5 _)

theorem e_main_v53 (H : Holds x0 x1 x2 x3 P) (h : Fin 8) (t : Fin 4096) (u : Fin 4096) (k : Fin 128) : (val_main_v53 (F := Ideal) x0 x1) (ix4 h t u k) = if (0) = (r_main_v46 P h t.val u.val k) then 1#1 else 0#1 := by
  rw [val_main_v53_apply x0 x1, e_main_v52, (e_main_v46 H h t u k)]
  exact m_oeq _ _

theorem e_main_cst_6 (i : S_.Idx) : val_main_cst_6 (F := Ideal) i = ((1 : ℝ) : EReal) := c_one

theorem e_main_v54 (i : S8x4096x4096x128.Idx) : val_main_v54 (F := Ideal) i = ((1 : ℝ) : EReal) := (val_main_v54_apply i).trans (e_main_cst_6 _)

theorem e_main_cst_7 (i : S_.Idx) : val_main_cst_7 (F := Ideal) i = ((0 : ℝ) : EReal) := c_zero

theorem e_main_v55 (i : S8x4096x4096x128.Idx) : val_main_v55 (F := Ideal) i = ((0 : ℝ) : EReal) := (val_main_v55_apply i).trans (e_main_cst_7 _)

theorem e_main_cst_8 (i : S_.Idx) : val_main_cst_8 (F := Ideal) i = ((1 / 2 : ℝ) : EReal) := c_half

theorem e_main_v56 (i : S8x4096x4096x128.Idx) : val_main_v56 (F := Ideal) i = ((1 / 2 : ℝ) : EReal) := (val_main_v56_apply i).trans (e_main_cst_8 _)

def r_main_v57 (P : Par) (h : Fin 8) (t : ℕ) (u : ℕ) (k : Fin 128) : ℝ := if (0) = (r_main_v46 P h t u k) then 1 / 2 else 0
theorem e_main_v57 (H : Holds x0 x1 x2 x3 P) (h : Fin 8) (t : Fin 4096) (u : Fin 4096) (k : Fin 128) : (val_main_v57 (F := Ideal) x0 x1) (ix4 h t u k) = ((r_main_v57 P h t.val u.val k : ℝ) : EReal) := by
  rw [val_main_v57_apply x0 x1, (e_main_v53 H h t u k), e_main_v56, e_main_v55]
  exact m_sel _ _ _

def r_main_v58 (P : Par) (h : Fin 8) (t : ℕ) (u : ℕ) (k : Fin 128) : ℝ := if (r_main_v46 P h t u k) < (0) then 1 else r_main_v57 P h t u k
theorem e_main_v58 (H : Holds x0 x1 x2 x3 P) (h : Fin 8) (t : Fin 4096) (u : Fin 4096) (k : Fin 128) : (val_main_v58 (F := Ideal) x0 x1) (ix4 h t u k) = ((r_main_v58 P h t.val u.val k : ℝ) : EReal) := by
  rw [val_main_v58_apply x0 x1, (e_main_v51 H h t u k), e_main_v54, (e_main_v57 H h t u k)]
  exact m_sel _ _ _

def r_main_v59 (P : Par) (h : Fin 8) (t : ℕ) (u : ℕ) (k : Fin 128) : ℝ := Real.exp (r_main_v49 P h t u k)
theorem e_main_v59 (H : Holds x0 x1 x2 x3 P) (h : Fin 8) (t : Fin 4096) (u : Fin 4096) (k : Fin 128) : (val_main_v59 (F := Ideal) x0 x1) (ix4 h t u k) = ((r_main_v59 P h t.val u.val k : ℝ) : EReal) := by
  rw [val_main_v59_apply x0 x1, (e_main_v49 H h t u k)]
  exact m_exp _

theorem e_main_cst_9 (i : S_.Idx) : val_main_cst_9 (F := Ideal) i = ((0 : ℝ) : EReal) := c_zero

theorem e_main_call3_v0 (i : S_.Idx) : val_main_call3_v0 (F := Ideal) i = ((0 : ℝ) : EReal) := (val_main_call3_v0_apply i).trans (e_main_cst_9 _)

theorem e_main_v60_1 (H : Holds x0 x1 x2 x3 P) (h : Fin 8) (t : Fin 4096) (u : Fin 4096) (k : Fin 128) : (val_main_v60_1 (F := Ideal)) (ix4 h t u k) = if u.val ≤ t.val then 1#1 else 0#1 :=
  (val_main_v60_1_apply _).trans ((congrArg (val_main_v47 (F := Ideal)) (funext fun a => Fin.ext (by have := h.isLt; have := t.isLt; have := u.isLt; have := k.isLt; match a with | ⟨0, _⟩ => show t.val = t.val; rfl | ⟨1, _⟩ => show u.val = u.val; rfl | ⟨2, _⟩ => show 0 = 0; rfl))).trans (e_main_v47 H t u))

theorem e_main_call3_v2 (i : S8x4096x4096x128.Idx) : val_main_call3_v2 (F := Ideal) i = ((0 : ℝ) : EReal) := (val_main_call3_v2_apply i).trans (e_main_call3_v0 _)

def r_main_v60_0 (P : Par) (h : Fin 8) (t : ℕ) (u : ℕ) (k : Fin 128) : ℝ := if u ≤ t then r_main_v59 P h t u k else 0
theorem e_main_v60_0 (H : Holds x0 x1 x2 x3 P) (h : Fin 8) (t : Fin 4096) (u : Fin 4096) (k : Fin 128) : (val_main_v60_0 (F := Ideal) x0 x1) (ix4 h t u k) = ((r_main_v60_0 P h t.val u.val k : ℝ) : EReal) := by
  rw [val_main_v60_0_apply x0 x1, (e_main_v60_1 H h t u k), (e_main_v59 H h t u k), e_main_call3_v2]
  exact m_sel _ _ _

theorem e_main_call3_cst (i : S_.Idx) : val_main_call3_cst (F := Ideal) i = ((0 : ℝ) : EReal) := c_zero

theorem e_main_v60_2 (i : S8x4096x4096x128.Idx) : val_main_v60_2 (F := Ideal) i = ((0 : ℝ) : EReal) := (val_main_v60_2_apply i).trans (e_main_call3_cst _)

theorem e_main_v61 (H : Holds x0 x1 x2 x3 P) (h : Fin 8) (t : Fin 4096) (k : Fin 128) : (val_main_v61 (F := Ideal) x0) (ix4 h t (0 : Fin 1) k) = ((r_main_v7_0 P t.val h k : ℝ) : EReal) :=
  (val_main_v61_apply x0 _).trans ((congrArg (val_main_v32 (F := Ideal) x0) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v32 H h t k))

theorem e_main_v62 (H : Holds x0 x1 x2 x3 P) (h : Fin 8) (t : Fin 4096) (k : Fin 128) : (val_main_v62 (F := Ideal) x0 x1) (ix4 h (0 : Fin 1) t k) = ((r_main_v28 P t.val h k : ℝ) : EReal) :=
  (val_main_v62_apply x0 x1 _).trans ((congrArg (val_main_v34 (F := Ideal) x0 x1) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v34 H h t k))

theorem e_main_v63 (H : Holds x0 x1 x2 x3 P) (h : Fin 8) (t : Fin 4096) (u : Fin 4096) (k : Fin 128) : (val_main_v63 (F := Ideal) x0) (ix4 h t u k) = ((r_main_v7_0 P t.val h k : ℝ) : EReal) :=
  (val_main_v63_apply x0 _).trans ((congrArg (val_main_v61 (F := Ideal) x0) (funext fun a => Fin.ext (by have := h.isLt; have := t.isLt; have := u.isLt; have := k.isLt; match a with | ⟨0, _⟩ => show h.val = h.val; rfl | ⟨1, _⟩ => show t.val = t.val; rfl | ⟨2, _⟩ => show 0 = 0; rfl | ⟨3, _⟩ => show k.val = k.val; rfl))).trans (e_main_v61 H h t k))

theorem e_main_v64 (H : Holds x0 x1 x2 x3 P) (h : Fin 8) (t : Fin 4096) (u : Fin 4096) (k : Fin 128) : (val_main_v64 (F := Ideal) x0 x1) (ix4 h t u k) = ((r_main_v28 P u.val h k : ℝ) : EReal) :=
  (val_main_v64_apply x0 x1 _).trans ((congrArg (val_main_v62 (F := Ideal) x0 x1) (funext fun a => Fin.ext (by have := h.isLt; have := t.isLt; have := u.isLt; have := k.isLt; match a with | ⟨0, _⟩ => show h.val = h.val; rfl | ⟨1, _⟩ => show 0 = 0; rfl | ⟨2, _⟩ => show u.val = u.val; rfl | ⟨3, _⟩ => show k.val = k.val; rfl))).trans (e_main_v62 H h u k))

def r_main_v65 (P : Par) (h : Fin 8) (t : ℕ) (u : ℕ) (k : Fin 128) : ℝ := (r_main_v7_0 P t h k) * (r_main_v28 P u h k)
theorem e_main_v65 (H : Holds x0 x1 x2 x3 P) (h : Fin 8) (t : Fin 4096) (u : Fin 4096) (k : Fin 128) : (val_main_v65 (F := Ideal) x0 x1) (ix4 h t u k) = ((r_main_v65 P h t.val u.val k : ℝ) : EReal) := by
  rw [val_main_v65_apply x0 x1, (e_main_v63 H h t u k), (e_main_v64 H h t u k)]
  exact m_mul _ _

def r_main_v66 (P : Par) (h : Fin 8) (t : ℕ) (u : ℕ) (k : Fin 128) : ℝ := (r_main_v65 P h t u k) * (r_main_v60_0 P h t u k)
theorem e_main_v66 (H : Holds x0 x1 x2 x3 P) (h : Fin 8) (t : Fin 4096) (u : Fin 4096) (k : Fin 128) : (val_main_v66 (F := Ideal) x0 x1) (ix4 h t u k) = ((r_main_v66 P h t.val u.val k : ℝ) : EReal) := by
  rw [val_main_v66_apply x0 x1, (e_main_v65 H h t u k), (e_main_v60_0 H h t u k)]
  exact m_mul _ _

theorem e_main_cst_10 (i : S_.Idx) : val_main_cst_10 (F := Ideal) i = ((0 : ℝ) : EReal) := c_zero

def r_main_v67 (P : Par) (h : Fin 8) (t : ℕ) (u : ℕ) : ℝ := ∑ k_ : Fin 128, r_main_v66 P h t u k_
theorem e_main_v67 (H : Holds x0 x1 x2 x3 P) (h : Fin 8) (t : Fin 4096) (u : Fin 4096) : (val_main_v67 (F := Ideal) x0 x1) (ix3 h t u) = ((r_main_v67 P h t.val u.val : ℝ) : EReal) :=
  (val_main_v67_apply x0 x1 _).trans (m_red _ _ _ (e_main_cst_10 _) fun k_ => (congrArg (val_main_v66 (F := Ideal) x0 x1) (funext fun a => Fin.ext (by have := h.isLt; have := t.isLt; have := u.isLt; have := k_.isLt; match a with | ⟨0, _⟩ => show h.val = h.val; rfl | ⟨1, _⟩ => show t.val = t.val; rfl | ⟨2, _⟩ => show u.val = u.val; rfl | ⟨3, _⟩ => show k_.val = k_.val; rfl))).trans (e_main_v66 H h t u k_))

def r_main_v68 (P : Par) (h : Fin 8) (t : ℕ) (k : Fin 128) : ℝ := ∑ k_ : Fin 4096, (r_main_v67 P h t k_.val) * (P.p0 k_.val (2 : Fin 4) h k)
theorem e_main_v68 (H : Holds x0 x1 x2 x3 P) (h : Fin 8) (t : Fin 4096) (k : Fin 128) : (val_main_v68 (F := Ideal) x0 x1) (ix3 h t k) = ((r_main_v68 P h t.val k : ℝ) : EReal) :=
  (val_main_v68_apply x0 x1 _).trans (m_dot _ _ _ _ (fun k_ => (congrArg (val_main_v67 (F := Ideal) x0 x1) (funext fun a => Fin.ext (by have := h.isLt; have := t.isLt; have := k.isLt; have := k_.isLt; match a with | ⟨0, _⟩ => show h.val = h.val; rfl | ⟨1, _⟩ => show t.val = t.val; rfl | ⟨2, _⟩ => show k_.val = k_.val; rfl))).trans (e_main_v67 H h t k_)) (fun k_ => (congrArg (val_main_v38 (F := Ideal) x0) (funext fun a => Fin.ext (by have := h.isLt; have := t.isLt; have := k.isLt; have := k_.isLt; match a with | ⟨0, _⟩ => show h.val = h.val; rfl | ⟨1, _⟩ => show k_.val = k_.val; rfl | ⟨2, _⟩ => show k.val = k.val; rfl))).trans (e_main_v38 H h k_ k)))

theorem e_main_v69 (H : Holds x0 x1 x2 x3 P) (t : Fin 4096) (h : Fin 8) (k : Fin 128) : (val_main_v69 (F := Ideal) x0 x1) (ix3 t h k) = ((r_main_v68 P h t.val k : ℝ) : EReal) :=
  (val_main_v69_apply x0 x1 _).trans ((congrArg (val_main_v68 (F := Ideal) x0 x1) (funext fun a => Fin.ext (by have := t.isLt; have := h.isLt; have := k.isLt; match a with | ⟨0, _⟩ => show h.val = h.val; rfl | ⟨1, _⟩ => show t.val = t.val; rfl | ⟨2, _⟩ => show k.val = k.val; rfl))).trans (e_main_v68 H h t k))

def r_main_v70 (P : Par) (t : ℕ) (h : Fin 8) (k : Fin 128) : ℝ := (r_main_v68 P h t k) * (r_main_v68 P h t k)
theorem e_main_v70 (H : Holds x0 x1 x2 x3 P) (t : Fin 4096) (h : Fin 8) (k : Fin 128) : (val_main_v70 (F := Ideal) x0 x1) (ix3 t h k) = ((r_main_v70 P t.val h k : ℝ) : EReal) := by
  rw [val_main_v70_apply x0 x1, (e_main_v69 H t h k)]
  exact m_mul _ _

theorem e_main_cst_11 (i : S_.Idx) : val_main_cst_11 (F := Ideal) i = ((0 : ℝ) : EReal) := c_zero

def r_main_v71 (P : Par) (t : ℕ) (h : Fin 8) : ℝ := ∑ k_ : Fin 128, r_main_v70 P t h k_
theorem e_main_v71 (H : Holds x0 x1 x2 x3 P) (t : Fin 4096) (h : Fin 8) : (val_main_v71 (F := Ideal) x0 x1) (ix2 t h) = ((r_main_v71 P t.val h : ℝ) : EReal) :=
  (val_main_v71_apply x0 x1 _).trans (m_red _ _ _ (e_main_cst_11 _) fun k_ => (congrArg (val_main_v70 (F := Ideal) x0 x1) (funext fun a => Fin.ext (by have := t.isLt; have := h.isLt; have := k_.isLt; match a with | ⟨0, _⟩ => show t.val = t.val; rfl | ⟨1, _⟩ => show h.val = h.val; rfl | ⟨2, _⟩ => show k_.val = k_.val; rfl))).trans (e_main_v70 H t h k_))

theorem e_main_v72 (H : Holds x0 x1 x2 x3 P) (t : Fin 4096) (h : Fin 8) : (val_main_v72 (F := Ideal) x0 x1) (ix3 t h (0 : Fin 1)) = ((r_main_v71 P t.val h : ℝ) : EReal) :=
  (val_main_v72_apply x0 x1 _).trans ((congrArg (val_main_v71 (F := Ideal) x0 x1) (funext fun a => Fin.ext (by have := t.isLt; have := h.isLt; match a with | ⟨0, _⟩ => show t.val = t.val; rfl | ⟨1, _⟩ => show h.val = h.val; rfl))).trans (e_main_v71 H t h))

theorem e_main_cst_12 (i : S_.Idx) : val_main_cst_12 (F := Ideal) i = ((128 : ℝ) : EReal) := c_width

theorem e_main_v73 (i : S4096x8x1.Idx) : val_main_v73 (F := Ideal) i = ((128 : ℝ) : EReal) := (val_main_v73_apply i).trans (e_main_cst_12 _)

def r_main_v74 (P : Par) (t : ℕ) (h : Fin 8) : ℝ := (r_main_v71 P t h) / (128)
theorem e_main_v74 (H : Holds x0 x1 x2 x3 P) (t : Fin 4096) (h : Fin 8) : (val_main_v74 (F := Ideal) x0 x1) (ix3 t h (0 : Fin 1)) = ((r_main_v74 P t.val h : ℝ) : EReal) := by
  rw [val_main_v74_apply x0 x1, (e_main_v72 H t h), e_main_v73]
  exact m_div _ _ (by norm_num)

theorem e_main_cst_13 (i : S_.Idx) : val_main_cst_13 (F := Ideal) i = ((eps : ℝ) : EReal) := c_eps

theorem e_main_v75 (i : S4096x8x1.Idx) : val_main_v75 (F := Ideal) i = ((eps : ℝ) : EReal) := (val_main_v75_apply i).trans (e_main_cst_13 _)

def r_main_v76 (P : Par) (t : ℕ) (h : Fin 8) : ℝ := (r_main_v74 P t h) + (eps)
theorem e_main_v76 (H : Holds x0 x1 x2 x3 P) (t : Fin 4096) (h : Fin 8) : (val_main_v76 (F := Ideal) x0 x1) (ix3 t h (0 : Fin 1)) = ((r_main_v76 P t.val h : ℝ) : EReal) := by
  rw [val_main_v76_apply x0 x1, (e_main_v74 H t h), e_main_v75]
  exact m_add _ _

theorem pos_main_v76 (H : Holds x0 x1 x2 x3 P) (t : ℕ) (h : Fin 8) : 0 < r_main_v76 P t h := by
  have he := eps_pos
  show 0 < (∑ k_ : Fin 128, r_main_v68 P h t k_ * r_main_v68 P h t k_) / 128 + eps
  have := Finset.sum_nonneg (fun (k_ : Fin 128) (_ : k_ ∈ Finset.univ) => mul_self_nonneg (r_main_v68 P h t k_))
  positivity

def r_main_v77 (P : Par) (t : ℕ) (h : Fin 8) : ℝ := (Real.sqrt (r_main_v76 P t h))⁻¹
theorem e_main_v77 (H : Holds x0 x1 x2 x3 P) (t : Fin 4096) (h : Fin 8) : (val_main_v77 (F := Ideal) x0 x1) (ix3 t h (0 : Fin 1)) = ((r_main_v77 P t.val h : ℝ) : EReal) := by
  rw [val_main_v77_apply x0 x1, (e_main_v76 H t h)]
  exact m_rsqrt _ (pos_main_v76 H t.val h)

def r_main_v78 (P : Par) (t : ℕ) (h : Fin 8) : ℝ := (r_main_v77 P t h) / (r_main_v76 P t h)
theorem e_main_v78 (H : Holds x0 x1 x2 x3 P) (t : Fin 4096) (h : Fin 8) : (val_main_v78 (F := Ideal) x0 x1) (ix3 t h (0 : Fin 1)) = ((r_main_v78 P t.val h : ℝ) : EReal) := by
  rw [val_main_v78_apply x0 x1, (e_main_v77 H t h), (e_main_v76 H t h)]
  exact m_div _ _ (pos_main_v76 H t.val h).ne'

theorem e_main_cst_14 (i : S_.Idx) : val_main_cst_14 (F := Ideal) i = ((-(1 / 2) : ℝ) : EReal) := c_mhalf

theorem e_main_v79 (i : S4096x8x1.Idx) : val_main_v79 (F := Ideal) i = ((-(1 / 2) : ℝ) : EReal) := (val_main_v79_apply i).trans (e_main_cst_14 _)

def r_main_v80 (P : Par) (t : ℕ) (h : Fin 8) : ℝ := (-(1 / 2)) * (r_main_v78 P t h)
theorem e_main_v80 (H : Holds x0 x1 x2 x3 P) (t : Fin 4096) (h : Fin 8) : (val_main_v80 (F := Ideal) x0 x1) (ix3 t h (0 : Fin 1)) = ((r_main_v80 P t.val h : ℝ) : EReal) := by
  rw [val_main_v80_apply x0 x1, e_main_v79, (e_main_v78 H t h)]
  exact m_mul _ _

theorem e_main_v81 (H : Holds x0 x1 x2 x3 P) (t : Fin 4096) (h : Fin 8) (k : Fin 128) : (val_main_v81 (F := Ideal) x0 x1) (ix3 t h k) = ((r_main_v77 P t.val h : ℝ) : EReal) :=
  (val_main_v81_apply x0 x1 _).trans ((congrArg (val_main_v77 (F := Ideal) x0 x1) (funext fun a => Fin.ext (by have := t.isLt; have := h.isLt; have := k.isLt; match a with | ⟨0, _⟩ => show t.val = t.val; rfl | ⟨1, _⟩ => show h.val = h.val; rfl | ⟨2, _⟩ => show 0 = 0; rfl))).trans (e_main_v77 H t h))

def r_main_v82 (P : Par) (t : ℕ) (h : Fin 8) (k : Fin 128) : ℝ := (r_main_v68 P h t k) * (r_main_v77 P t h)
theorem e_main_v82 (H : Holds x0 x1 x2 x3 P) (t : Fin 4096) (h : Fin 8) (k : Fin 128) : (val_main_v82 (F := Ideal) x0 x1) (ix3 t h k) = ((r_main_v82 P t.val h k : ℝ) : EReal) := by
  rw [val_main_v82_apply x0 x1, (e_main_v69 H t h k), (e_main_v81 H t h k)]
  exact m_mul _ _

theorem e_main_v83 (H : Holds x0 x1 x2 x3 P) (h : Fin 8) (k : Fin 128) : (val_main_v83 (F := Ideal) x2) (ix2 h k) = ((P.p2 k : ℝ) : EReal) :=
  (val_main_v83_apply x2 _).trans ((congrArg (val_main_v2 (F := Ideal) x2) (funext fun a => Fin.ext (by have := h.isLt; have := k.isLt; match a with | ⟨0, _⟩ => show 0 = 0; rfl | ⟨1, _⟩ => show (h.val * 128 + k.val) % 1024 = (128 * h.val + k.val); omega))).trans (e_main_v2 H h k))

theorem e_main_v84 (H : Holds x0 x1 x2 x3 P) (h : Fin 8) (k : Fin 128) : (val_main_v84 (F := Ideal) x2) (ix3 (0 : Fin 1) h k) = ((P.p2 k : ℝ) : EReal) :=
  (val_main_v84_apply x2 _).trans ((congrArg (val_main_v83 (F := Ideal) x2) (funext fun a => Fin.ext (by have := h.isLt; have := k.isLt; match a with | ⟨0, _⟩ => show h.val = h.val; rfl | ⟨1, _⟩ => show k.val = k.val; rfl))).trans (e_main_v83 H h k))

theorem e_main_v85 (H : Holds x0 x1 x2 x3 P) (t : Fin 4096) (h : Fin 8) (k : Fin 128) : (val_main_v85 (F := Ideal) x2) (ix3 t h k) = ((P.p2 k : ℝ) : EReal) :=
  (val_main_v85_apply x2 _).trans ((congrArg (val_main_v84 (F := Ideal) x2) (funext fun a => Fin.ext (by have := t.isLt; have := h.isLt; have := k.isLt; match a with | ⟨0, _⟩ => show 0 = 0; rfl | ⟨1, _⟩ => show h.val = h.val; rfl | ⟨2, _⟩ => show k.val = k.val; rfl))).trans (e_main_v84 H h k))

def r_main_v86 (P : Par) (t : ℕ) (h : Fin 8) (k : Fin 128) : ℝ := (r_main_v82 P t h k) * (P.p2 k)
theorem e_main_v86 (H : Holds x0 x1 x2 x3 P) (t : Fin 4096) (h : Fin 8) (k : Fin 128) : (val_main_v86 (F := Ideal) x0 x1 x2) (ix3 t h k) = ((r_main_v86 P t.val h k : ℝ) : EReal) := by
  rw [val_main_v86_apply x0 x1 x2, (e_main_v82 H t h k), (e_main_v85 H t h k)]
  exact m_mul _ _

theorem e_main_v87 (H : Holds x0 x1 x2 x3 P) (t : Fin 4096) (h : Fin 8) (k : Fin 128) : (val_main_v87 (F := Ideal) x0 x1 x2) (ix2 t (cl h k)) = ((r_main_v86 P t.val h k : ℝ) : EReal) :=
  (val_main_v87_apply x0 x1 x2 _).trans ((congrArg (val_main_v86 (F := Ideal) x0 x1 x2) (funext fun a => Fin.ext (by have := t.isLt; have := h.isLt; have := k.isLt; match a with | ⟨0, _⟩ => show (t.val * 1024 + (128 * h.val + k.val)) / 1024 = t.val; omega | ⟨1, _⟩ => show (t.val * 1024 + (128 * h.val + k.val)) / 128 % 8 = h.val; omega | ⟨2, _⟩ => show (t.val * 1024 + (128 * h.val + k.val)) % 128 = k.val; omega))).trans (e_main_v86 H t h k))

theorem e_main_v88 (H : Holds x0 x1 x2 x3 P) (t : Fin 4096) (h : Fin 8) (k : Fin 128) : (val_main_v88 (F := Ideal) x0) (ix3 (0 : Fin 1) t (cl h k)) = ((P.p0 t.val (3 : Fin 4) h k : ℝ) : EReal) :=
  (val_main_v88_apply x0 _).trans ((congrArg (val_main_v4 (F := Ideal) x0) (funext fun a => Fin.ext (by have := t.isLt; have := h.isLt; have := k.isLt; match a with | ⟨0, _⟩ => show 3 + 0 = ((3 : Fin 4)).val; omega | ⟨1, _⟩ => show t.val = t.val; rfl | ⟨2, _⟩ => show (128 * h.val + k.val) = (128 * h.val + k.val); rfl))).trans (e_main_v4 H (3 : Fin 4) t h k))

theorem e_main_v89 (H : Holds x0 x1 x2 x3 P) (t : Fin 4096) (h : Fin 8) (k : Fin 128) : (val_main_v89 (F := Ideal) x0) (ix2 t (cl h k)) = ((P.p0 t.val (3 : Fin 4) h k : ℝ) : EReal) :=
  (val_main_v89_apply x0 _).trans ((congrArg (val_main_v88 (F := Ideal) x0) (funext fun a => Fin.ext (by have := t.isLt; have := h.isLt; have := k.isLt; match a with | ⟨0, _⟩ => show 0 = 0; rfl | ⟨1, _⟩ => show (t.val * 1024 + (128 * h.val + k.val)) / 1024 % 4096 = t.val; omega | ⟨2, _⟩ => show (t.val * 1024 + (128 * h.val + k.val)) % 1024 = (128 * h.val + k.val); omega))).trans (e_main_v88 H t h k))

def r_main_v90 (P : Par) (t : ℕ) (h : Fin 8) (k : Fin 128) : ℝ := -(P.p0 t (3 : Fin 4) h k)
theorem e_main_v90 (H : Holds x0 x1 x2 x3 P) (t : Fin 4096) (h : Fin 8) (k : Fin 128) : (val_main_v90 (F := Ideal) x0) (ix2 t (cl h k)) = ((r_main_v90 P t.val h k : ℝ) : EReal) := by
  rw [val_main_v90_apply x0, (e_main_v89 H t h k)]
  exact m_neg _

def r_main_v91 (P : Par) (t : ℕ) (h : Fin 8) (k : Fin 128) : ℝ := Real.exp (r_main_v90 P t h k)
theorem e_main_v91 (H : Holds x0 x1 x2 x3 P) (t : Fin 4096) (h : Fin 8) (k : Fin 128) : (val_main_v91 (F := Ideal) x0) (ix2 t (cl h k)) = ((r_main_v91 P t.val h k : ℝ) : EReal) := by
  rw [val_main_v91_apply x0, (e_main_v90 H t h k)]
  exact m_exp _

theorem e_main_cst_15 (i : S_.Idx) : val_main_cst_15 (F := Ideal) i = ((1 : ℝ) : EReal) := c_one

theorem e_main_v92 (i : S4096x1024.Idx) : val_main_v92 (F := Ideal) i = ((1 : ℝ) : EReal) := (val_main_v92_apply i).trans (e_main_cst_15 _)

def r_main_v93 (P : Par) (t : ℕ) (h : Fin 8) (k : Fin 128) : ℝ := (1) + (r_main_v91 P t h k)
theorem e_main_v93 (H : Holds x0 x1 x2 x3 P) (t : Fin 4096) (h : Fin 8) (k : Fin 128) : (val_main_v93 (F := Ideal) x0) (ix2 t (cl h k)) = ((r_main_v93 P t.val h k : ℝ) : EReal) := by
  rw [val_main_v93_apply x0, e_main_v92, (e_main_v91 H t h k)]
  exact m_add _ _

theorem pos_main_v93 (H : Holds x0 x1 x2 x3 P) (t : ℕ) (h : Fin 8) (k : Fin 128) : 0 < r_main_v93 P t h k := by
  show 0 < (1 : ℝ) + Real.exp _
  positivity

theorem e_main_cst_16 (i : S_.Idx) : val_main_cst_16 (F := Ideal) i = ((1 : ℝ) : EReal) := c_one

theorem e_main_v94 (i : S4096x1024.Idx) : val_main_v94 (F := Ideal) i = ((1 : ℝ) : EReal) := (val_main_v94_apply i).trans (e_main_cst_16 _)

def r_main_v95 (P : Par) (t : ℕ) (h : Fin 8) (k : Fin 128) : ℝ := (1) / (r_main_v93 P t h k)
theorem e_main_v95 (H : Holds x0 x1 x2 x3 P) (t : Fin 4096) (h : Fin 8) (k : Fin 128) : (val_main_v95 (F := Ideal) x0) (ix2 t (cl h k)) = ((r_main_v95 P t.val h k : ℝ) : EReal) := by
  rw [val_main_v95_apply x0, e_main_v94, (e_main_v93 H t h k)]
  exact m_div _ _ (pos_main_v93 H t.val h k).ne'

theorem e_main_cst_17 (i : S_.Idx) : val_main_cst_17 (F := Ideal) i = ((1 : ℝ) : EReal) := c_one

theorem e_main_v96 (i : S4096x1024.Idx) : val_main_v96 (F := Ideal) i = ((1 : ℝ) : EReal) := (val_main_v96_apply i).trans (e_main_cst_17 _)

def r_main_v97 (P : Par) (t : ℕ) (h : Fin 8) (k : Fin 128) : ℝ := (1) - (r_main_v95 P t h k)
theorem e_main_v97 (H : Holds x0 x1 x2 x3 P) (t : Fin 4096) (h : Fin 8) (k : Fin 128) : (val_main_v97 (F := Ideal) x0) (ix2 t (cl h k)) = ((r_main_v97 P t.val h k : ℝ) : EReal) := by
  rw [val_main_v97_apply x0, e_main_v96, (e_main_v95 H t h k)]
  exact m_sub _ _

def r_main_v98 (P : Par) (t : ℕ) (h : Fin 8) (k : Fin 128) : ℝ := (r_main_v95 P t h k) * (r_main_v97 P t h k)
theorem e_main_v98 (H : Holds x0 x1 x2 x3 P) (t : Fin 4096) (h : Fin 8) (k : Fin 128) : (val_main_v98 (F := Ideal) x0) (ix2 t (cl h k)) = ((r_main_v98 P t.val h k : ℝ) : EReal) := by
  rw [val_main_v98_apply x0, (e_main_v95 H t h k), (e_main_v97 H t h k)]
  exact m_mul _ _

def r_main_v99 (P : Par) (t : ℕ) (h : Fin 8) (k : Fin 128) : ℝ := (r_main_v86 P t h k) * (r_main_v95 P t h k)
theorem e_main_v99 (H : Holds x0 x1 x2 x3 P) (t : Fin 4096) (h : Fin 8) (k : Fin 128) : (val_main_v99 (F := Ideal) x0 x1 x2) (ix2 t (cl h k)) = ((r_main_v99 P t.val h k : ℝ) : EReal) := by
  rw [val_main_v99_apply x0 x1 x2, (e_main_v87 H t h k), (e_main_v95 H t h k)]
  exact m_mul _ _

def r_main_v100 (P : Par) (t : ℕ) (h : Fin 8) (k : Fin 128) : ℝ := (r_main_v86 P t h k) * (P.p3 t h k)
theorem e_main_v100 (H : Holds x0 x1 x2 x3 P) (t : Fin 4096) (h : Fin 8) (k : Fin 128) : (val_main_v100 (F := Ideal) x0 x1 x2 x3) (ix2 t (cl h k)) = ((r_main_v100 P t.val h k : ℝ) : EReal) := by
  rw [val_main_v100_apply x0 x1 x2 x3, (e_main_v87 H t h k), (H.h3 t h k)]
  exact m_mul _ _

def r_main_v101 (P : Par) (t : ℕ) (h : Fin 8) (k : Fin 128) : ℝ := (P.p3 t h k) * (r_main_v95 P t h k)
theorem e_main_v101 (H : Holds x0 x1 x2 x3 P) (t : Fin 4096) (h : Fin 8) (k : Fin 128) : (val_main_v101 (F := Ideal) x0 x3) (ix2 t (cl h k)) = ((r_main_v101 P t.val h k : ℝ) : EReal) := by
  rw [val_main_v101_apply x0 x3, (H.h3 t h k), (e_main_v95 H t h k)]
  exact m_mul _ _

def r_main_v102 (P : Par) (t : ℕ) (h : Fin 8) (k : Fin 128) : ℝ := (r_main_v100 P t h k) * (r_main_v98 P t h k)
theorem e_main_v102 (H : Holds x0 x1 x2 x3 P) (t : Fin 4096) (h : Fin 8) (k : Fin 128) : (val_main_v102 (F := Ideal) x0 x1 x2 x3) (ix2 t (cl h k)) = ((r_main_v102 P t.val h k : ℝ) : EReal) := by
  rw [val_main_v102_apply x0 x1 x2 x3, (e_main_v100 H t h k), (e_main_v98 H t h k)]
  exact m_mul _ _

theorem e_main_v103 (H : Holds x0 x1 x2 x3 P) (t : Fin 4096) (h : Fin 8) (k : Fin 128) : (val_main_v103 (F := Ideal) x0 x1 x2 x3) (ix3 (0 : Fin 1) t (cl h k)) = ((r_main_v102 P t.val h k : ℝ) : EReal) :=
  (val_main_v103_apply x0 x1 x2 x3 _).trans ((congrArg (val_main_v102 (F := Ideal) x0 x1 x2 x3) (funext fun a => Fin.ext (by have := t.isLt; have := h.isLt; have := k.isLt; match a with | ⟨0, _⟩ => show t.val = t.val; rfl | ⟨1, _⟩ => show (128 * h.val + k.val) = (128 * h.val + k.val); rfl))).trans (e_main_v102 H t h k))

theorem e_main_cst_18 (i : S_.Idx) : val_main_cst_18 (F := Ideal) i = ((0 : ℝ) : EReal) := c_zero

def r_main_v104 (P : Par) (s : Fin 4) (t : ℕ) (h : Fin 8) (k : Fin 128) : ℝ := if s.val = 3 then r_main_v102 P t h k else 0
theorem e_main_v104 (H : Holds x0 x1 x2 x3 P) (s : Fin 4) (t : Fin 4096) (h : Fin 8) (k : Fin 128) : (val_main_v104 (F := Ideal) x0 x1 x2 x3) (ix3 s t (cl h k)) = ((r_main_v104 P s t.val h k : ℝ) : EReal) := by
  unfold val_main_v104
  exact pad_slot 3 0 _ _ _ _ _ s t (cl h k) (fun j => e_main_cst_18 j) (e_main_v103 H t h k)

theorem e_main_v105 (H : Holds x0 x1 x2 x3 P) (t : Fin 4096) (h : Fin 8) (k : Fin 128) : (val_main_v105 (F := Ideal) x0 x3) (ix3 t h k) = ((r_main_v101 P t.val h k : ℝ) : EReal) :=
  (val_main_v105_apply x0 x3 _).trans ((congrArg (val_main_v101 (F := Ideal) x0 x3) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v101 H t h k))

def r_main_v106 (P : Par) (t : ℕ) (h : Fin 8) (k : Fin 128) : ℝ := (r_main_v82 P t h k) * (r_main_v101 P t h k)
theorem e_main_v106 (H : Holds x0 x1 x2 x3 P) (t : Fin 4096) (h : Fin 8) (k : Fin 128) : (val_main_v106 (F := Ideal) x0 x1 x3) (ix3 t h k) = ((r_main_v106 P t.val h k : ℝ) : EReal) := by
  rw [val_main_v106_apply x0 x1 x3, (e_main_v82 H t h k), (e_main_v105 H t h k)]
  exact m_mul _ _

theorem e_main_cst_19 (i : S_.Idx) : val_main_cst_19 (F := Ideal) i = ((0 : ℝ) : EReal) := c_zero

def r_main_v107 (P : Par) (h : Fin 8) (k : Fin 128) : ℝ := ∑ k_ : Fin 4096, r_main_v106 P k_.val h k
theorem e_main_v107 (H : Holds x0 x1 x2 x3 P) (h : Fin 8) (k : Fin 128) : (val_main_v107 (F := Ideal) x0 x1 x3) (ix2 h k) = ((r_main_v107 P h k : ℝ) : EReal) :=
  (val_main_v107_apply x0 x1 x3 _).trans (m_red _ _ _ (e_main_cst_19 _) fun k_ => (congrArg (val_main_v106 (F := Ideal) x0 x1 x3) (funext fun a => Fin.ext (by have := h.isLt; have := k.isLt; have := k_.isLt; match a with | ⟨0, _⟩ => show k_.val = k_.val; rfl | ⟨1, _⟩ => show h.val = h.val; rfl | ⟨2, _⟩ => show k.val = k.val; rfl))).trans (e_main_v106 H k_ h k))

theorem e_main_v108 (H : Holds x0 x1 x2 x3 P) (h : Fin 8) (k : Fin 128) : (val_main_v108 (F := Ideal) x0 x1 x3) (ix3 (0 : Fin 1) h k) = ((r_main_v107 P h k : ℝ) : EReal) :=
  (val_main_v108_apply x0 x1 x3 _).trans ((congrArg (val_main_v107 (F := Ideal) x0 x1 x3) (funext fun a => Fin.ext (by have := h.isLt; have := k.isLt; match a with | ⟨0, _⟩ => show ((0 * 8 + h.val) * 128 + k.val) / 128 = h.val; omega | ⟨1, _⟩ => show ((0 * 8 + h.val) * 128 + k.val) % 128 = k.val; omega))).trans (e_main_v107 H h k))

theorem e_main_v109 (H : Holds x0 x1 x2 x3 P) (t : Fin 4096) (h : Fin 8) (k : Fin 128) : (val_main_v109 (F := Ideal) x2) (ix3 t h k) = ((P.p2 k : ℝ) : EReal) :=
  (val_main_v109_apply x2 _).trans ((congrArg (val_main_v84 (F := Ideal) x2) (funext fun a => Fin.ext (by have := t.isLt; have := h.isLt; have := k.isLt; match a with | ⟨0, _⟩ => show 0 = 0; rfl | ⟨1, _⟩ => show h.val = h.val; rfl | ⟨2, _⟩ => show k.val = k.val; rfl))).trans (e_main_v84 H h k))

def r_main_v110 (P : Par) (t : ℕ) (h : Fin 8) (k : Fin 128) : ℝ := (r_main_v101 P t h k) * (P.p2 k)
theorem e_main_v110 (H : Holds x0 x1 x2 x3 P) (t : Fin 4096) (h : Fin 8) (k : Fin 128) : (val_main_v110 (F := Ideal) x0 x2 x3) (ix3 t h k) = ((r_main_v110 P t.val h k : ℝ) : EReal) := by
  rw [val_main_v110_apply x0 x2 x3, (e_main_v105 H t h k), (e_main_v109 H t h k)]
  exact m_mul _ _

theorem e_main_cst_20 (i : S_.Idx) : val_main_cst_20 (F := Ideal) i = ((0 : ℝ) : EReal) := c_zero

theorem e_main_v111 (H : Holds x0 x1 x2 x3 P) (h : Fin 8) (k : Fin 128) : (val_main_v111 (F := Ideal) x0 x1 x3) (ix2 h k) = ((r_main_v107 P h k : ℝ) : EReal) :=
  (val_main_v111_apply x0 x1 x3 _).trans (m_one _ _ _ (e_main_cst_20 _) fun k_ => (congrArg (val_main_v108 (F := Ideal) x0 x1 x3) (funext fun a => Fin.ext (by have := h.isLt; have := k.isLt; have := k_.isLt; match a with | ⟨0, _⟩ => show k_.val = 0; omega | ⟨1, _⟩ => show h.val = h.val; rfl | ⟨2, _⟩ => show k.val = k.val; rfl))).trans (e_main_v108 H h k))

theorem e_main_v112 (H : Holds x0 x1 x2 x3 P) (h : Fin 8) (k : Fin 128) : (val_main_v112 (F := Ideal) x0 x1 x3) (ix2 (0 : Fin 1) (cl h k)) = ((r_main_v107 P h k : ℝ) : EReal) :=
  (val_main_v112_apply x0 x1 x3 _).trans ((congrArg (val_main_v111 (F := Ideal) x0 x1 x3) (funext fun a => Fin.ext (by have := h.isLt; have := k.isLt; match a with | ⟨0, _⟩ => show (0 * 1024 + (128 * h.val + k.val)) / 128 = h.val; omega | ⟨1, _⟩ => show (0 * 1024 + (128 * h.val + k.val)) % 128 = k.val; omega))).trans (e_main_v111 H h k))

def r_main_v113 (P : Par) (t : ℕ) (h : Fin 8) (k : Fin 128) : ℝ := (r_main_v68 P h t k) * (r_main_v110 P t h k)
theorem e_main_v113 (H : Holds x0 x1 x2 x3 P) (t : Fin 4096) (h : Fin 8) (k : Fin 128) : (val_main_v113 (F := Ideal) x0 x1 x2 x3) (ix3 t h k) = ((r_main_v113 P t.val h k : ℝ) : EReal) := by
  rw [val_main_v113_apply x0 x1 x2 x3, (e_main_v69 H t h k), (e_main_v110 H t h k)]
  exact m_mul _ _

theorem e_main_cst_21 (i : S_.Idx) : val_main_cst_21 (F := Ideal) i = ((0 : ℝ) : EReal) := c_zero

def r_main_v114 (P : Par) (t : ℕ) (h : Fin 8) : ℝ := ∑ k_ : Fin 128, r_main_v113 P t h k_
theorem e_main_v114 (H : Holds x0 x1 x2 x3 P) (t : Fin 4096) (h : Fin 8) : (val_main_v114 (F := Ideal) x0 x1 x2 x3) (ix2 t h) = ((r_main_v114 P t.val h : ℝ) : EReal) :=
  (val_main_v114_apply x0 x1 x2 x3 _).trans (m_red _ _ _ (e_main_cst_21 _) fun k_ => (congrArg (val_main_v113 (F := Ideal) x0 x1 x2 x3) (funext fun a => Fin.ext (by have := t.isLt; have := h.isLt; have := k_.isLt; match a with | ⟨0, _⟩ => show t.val = t.val; rfl | ⟨1, _⟩ => show h.val = h.val; rfl | ⟨2, _⟩ => show k_.val = k_.val; rfl))).trans (e_main_v113 H t h k_))

theorem e_main_v115 (H : Holds x0 x1 x2 x3 P) (t : Fin 4096) (h : Fin 8) : (val_main_v115 (F := Ideal) x0 x1 x2 x3) (ix3 t h (0 : Fin 1)) = ((r_main_v114 P t.val h : ℝ) : EReal) :=
  (val_main_v115_apply x0 x1 x2 x3 _).trans ((congrArg (val_main_v114 (F := Ideal) x0 x1 x2 x3) (funext fun a => Fin.ext (by have := t.isLt; have := h.isLt; match a with | ⟨0, _⟩ => show ((t.val * 8 + h.val) * 1 + 0) / 8 = t.val; omega | ⟨1, _⟩ => show ((t.val * 8 + h.val) * 1 + 0) % 8 = h.val; omega))).trans (e_main_v114 H t h))

theorem e_main_v116 (H : Holds x0 x1 x2 x3 P) (t : Fin 4096) (h : Fin 8) (k : Fin 128) : (val_main_v116 (F := Ideal) x0 x1) (ix3 t h k) = ((r_main_v77 P t.val h : ℝ) : EReal) :=
  (val_main_v116_apply x0 x1 _).trans ((congrArg (val_main_v77 (F := Ideal) x0 x1) (funext fun a => Fin.ext (by have := t.isLt; have := h.isLt; have := k.isLt; match a with | ⟨0, _⟩ => show t.val = t.val; rfl | ⟨1, _⟩ => show h.val = h.val; rfl | ⟨2, _⟩ => show 0 = 0; rfl))).trans (e_main_v77 H t h))

def r_main_v117 (P : Par) (t : ℕ) (h : Fin 8) (k : Fin 128) : ℝ := (r_main_v110 P t h k) * (r_main_v77 P t h)
theorem e_main_v117 (H : Holds x0 x1 x2 x3 P) (t : Fin 4096) (h : Fin 8) (k : Fin 128) : (val_main_v117 (F := Ideal) x0 x1 x2 x3) (ix3 t h k) = ((r_main_v117 P t.val h k : ℝ) : EReal) := by
  rw [val_main_v117_apply x0 x1 x2 x3, (e_main_v110 H t h k), (e_main_v116 H t h k)]
  exact m_mul _ _

def r_main_v118 (P : Par) (t : ℕ) (h : Fin 8) : ℝ := (r_main_v114 P t h) * (r_main_v80 P t h)
theorem e_main_v118 (H : Holds x0 x1 x2 x3 P) (t : Fin 4096) (h : Fin 8) : (val_main_v118 (F := Ideal) x0 x1 x2 x3) (ix3 t h (0 : Fin 1)) = ((r_main_v118 P t.val h : ℝ) : EReal) := by
  rw [val_main_v118_apply x0 x1 x2 x3, (e_main_v115 H t h), (e_main_v80 H t h)]
  exact m_mul _ _

theorem e_main_cst_22 (i : S_.Idx) : val_main_cst_22 (F := Ideal) i = ((128 : ℝ) : EReal) := c_width

theorem e_main_v119 (i : S4096x8x1.Idx) : val_main_v119 (F := Ideal) i = ((128 : ℝ) : EReal) := (val_main_v119_apply i).trans (e_main_cst_22 _)

def r_main_v120 (P : Par) (t : ℕ) (h : Fin 8) : ℝ := (r_main_v118 P t h) / (128)
theorem e_main_v120 (H : Holds x0 x1 x2 x3 P) (t : Fin 4096) (h : Fin 8) : (val_main_v120 (F := Ideal) x0 x1 x2 x3) (ix3 t h (0 : Fin 1)) = ((r_main_v120 P t.val h : ℝ) : EReal) := by
  rw [val_main_v120_apply x0 x1 x2 x3, (e_main_v118 H t h), e_main_v119]
  exact m_div _ _ (by norm_num)

theorem e_main_cst_23 (i : S_.Idx) : val_main_cst_23 (F := Ideal) i = ((0 : ℝ) : EReal) := c_zero

theorem e_main_v121 (H : Holds x0 x1 x2 x3 P) (t : Fin 4096) (h : Fin 8) : (val_main_v121 (F := Ideal) x0 x1 x2 x3) (ix2 t h) = ((r_main_v120 P t.val h : ℝ) : EReal) :=
  (val_main_v121_apply x0 x1 x2 x3 _).trans (m_one _ _ _ (e_main_cst_23 _) fun k_ => (congrArg (val_main_v120 (F := Ideal) x0 x1 x2 x3) (funext fun a => Fin.ext (by have := t.isLt; have := h.isLt; have := k_.isLt; match a with | ⟨0, _⟩ => show t.val = t.val; rfl | ⟨1, _⟩ => show h.val = h.val; rfl | ⟨2, _⟩ => show k_.val = 0; omega))).trans (e_main_v120 H t h))

theorem e_main_v122 (H : Holds x0 x1 x2 x3 P) (t : Fin 4096) (h : Fin 8) (k : Fin 128) : (val_main_v122 (F := Ideal) x0 x1 x2 x3) (ix3 t h k) = ((r_main_v120 P t.val h : ℝ) : EReal) :=
  (val_main_v122_apply x0 x1 x2 x3 _).trans ((congrArg (val_main_v121 (F := Ideal) x0 x1 x2 x3) (funext fun a => Fin.ext (by have := t.isLt; have := h.isLt; have := k.isLt; match a with | ⟨0, _⟩ => show t.val = t.val; rfl | ⟨1, _⟩ => show h.val = h.val; rfl))).trans (e_main_v121 H t h))

def r_main_v123 (P : Par) (t : ℕ) (h : Fin 8) (k : Fin 128) : ℝ := (r_main_v68 P h t k) * (r_main_v120 P t h)
theorem e_main_v123 (H : Holds x0 x1 x2 x3 P) (t : Fin 4096) (h : Fin 8) (k : Fin 128) : (val_main_v123 (F := Ideal) x0 x1 x2 x3) (ix3 t h k) = ((r_main_v123 P t.val h k : ℝ) : EReal) := by
  rw [val_main_v123_apply x0 x1 x2 x3, (e_main_v69 H t h k), (e_main_v122 H t h k)]
  exact m_mul _ _

def r_main_v124 (P : Par) (t : ℕ) (h : Fin 8) (k : Fin 128) : ℝ := (r_main_v117 P t h k) + (r_main_v123 P t h k)
theorem e_main_v124 (H : Holds x0 x1 x2 x3 P) (t : Fin 4096) (h : Fin 8) (k : Fin 128) : (val_main_v124 (F := Ideal) x0 x1 x2 x3) (ix3 t h k) = ((r_main_v124 P t.val h k : ℝ) : EReal) := by
  rw [val_main_v124_apply x0 x1 x2 x3, (e_main_v117 H t h k), (e_main_v123 H t h k)]
  exact m_add _ _

def r_main_v125 (P : Par) (t : ℕ) (h : Fin 8) (k : Fin 128) : ℝ := (r_main_v120 P t h) * (r_main_v68 P h t k)
theorem e_main_v125 (H : Holds x0 x1 x2 x3 P) (t : Fin 4096) (h : Fin 8) (k : Fin 128) : (val_main_v125 (F := Ideal) x0 x1 x2 x3) (ix3 t h k) = ((r_main_v125 P t.val h k : ℝ) : EReal) := by
  rw [val_main_v125_apply x0 x1 x2 x3, (e_main_v122 H t h k), (e_main_v69 H t h k)]
  exact m_mul _ _

def r_main_v126 (P : Par) (t : ℕ) (h : Fin 8) (k : Fin 128) : ℝ := (r_main_v124 P t h k) + (r_main_v125 P t h k)
theorem e_main_v126 (H : Holds x0 x1 x2 x3 P) (t : Fin 4096) (h : Fin 8) (k : Fin 128) : (val_main_v126 (F := Ideal) x0 x1 x2 x3) (ix3 t h k) = ((r_main_v126 P t.val h k : ℝ) : EReal) := by
  rw [val_main_v126_apply x0 x1 x2 x3, (e_main_v124 H t h k), (e_main_v125 H t h k)]
  exact m_add _ _

theorem e_main_v127 (H : Holds x0 x1 x2 x3 P) (h : Fin 8) (t : Fin 4096) (k : Fin 128) : (val_main_v127 (F := Ideal) x0 x1 x2 x3) (ix3 h t k) = ((r_main_v126 P t.val h k : ℝ) : EReal) :=
  (val_main_v127_apply x0 x1 x2 x3 _).trans ((congrArg (val_main_v126 (F := Ideal) x0 x1 x2 x3) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v126 H t h k))

def r_main_v128 (P : Par) (h : Fin 8) (k : Fin 128) (t : ℕ) : ℝ := ∑ k_ : Fin 4096, (r_main_v126 P k_.val h k) * (r_main_v67 P h k_.val t)
theorem e_main_v128 (H : Holds x0 x1 x2 x3 P) (h : Fin 8) (k : Fin 128) (t : Fin 4096) : (val_main_v128 (F := Ideal) x0 x1 x2 x3) (ix3 h k t) = ((r_main_v128 P h k t.val : ℝ) : EReal) :=
  (val_main_v128_apply x0 x1 x2 x3 _).trans (m_dot _ _ _ _ (fun k_ => (congrArg (val_main_v127 (F := Ideal) x0 x1 x2 x3) (funext fun a => Fin.ext (by have := h.isLt; have := k.isLt; have := t.isLt; have := k_.isLt; match a with | ⟨0, _⟩ => show h.val = h.val; rfl | ⟨1, _⟩ => show k_.val = k_.val; rfl | ⟨2, _⟩ => show k.val = k.val; rfl))).trans (e_main_v127 H h k_ k)) (fun k_ => (congrArg (val_main_v67 (F := Ideal) x0 x1) (funext fun a => Fin.ext (by have := h.isLt; have := k.isLt; have := t.isLt; have := k_.isLt; match a with | ⟨0, _⟩ => show h.val = h.val; rfl | ⟨1, _⟩ => show k_.val = k_.val; rfl | ⟨2, _⟩ => show t.val = t.val; rfl))).trans (e_main_v67 H h k_ t)))

theorem e_main_v129 (H : Holds x0 x1 x2 x3 P) (h : Fin 8) (t : Fin 4096) (k : Fin 128) : (val_main_v129 (F := Ideal) x0 x1 x2 x3) (ix3 h t k) = ((r_main_v128 P h k t.val : ℝ) : EReal) :=
  (val_main_v129_apply x0 x1 x2 x3 _).trans ((congrArg (val_main_v128 (F := Ideal) x0 x1 x2 x3) (funext fun a => Fin.ext (by have := h.isLt; have := t.isLt; have := k.isLt; match a with | ⟨0, _⟩ => show h.val = h.val; rfl | ⟨1, _⟩ => show k.val = k.val; rfl | ⟨2, _⟩ => show t.val = t.val; rfl))).trans (e_main_v128 H h k t))

def r_main_v130 (P : Par) (h : Fin 8) (t : ℕ) (u : ℕ) : ℝ := ∑ k_ : Fin 128, (r_main_v126 P t h k_) * (P.p0 u (2 : Fin 4) h k_)
theorem e_main_v130 (H : Holds x0 x1 x2 x3 P) (h : Fin 8) (t : Fin 4096) (u : Fin 4096) : (val_main_v130 (F := Ideal) x0 x1 x2 x3) (ix3 h t u) = ((r_main_v130 P h t.val u.val : ℝ) : EReal) :=
  (val_main_v130_apply x0 x1 x2 x3 _).trans (m_dot _ _ _ _ (fun k_ => (congrArg (val_main_v127 (F := Ideal) x0 x1 x2 x3) (funext fun a => Fin.ext (by have := h.isLt; have := t.isLt; have := u.isLt; have := k_.isLt; match a with | ⟨0, _⟩ => show h.val = h.val; rfl | ⟨1, _⟩ => show t.val = t.val; rfl | ⟨2, _⟩ => show k_.val = k_.val; rfl))).trans (e_main_v127 H h t k_)) (fun k_ => (congrArg (val_main_v38 (F := Ideal) x0) (funext fun a => Fin.ext (by have := h.isLt; have := t.isLt; have := u.isLt; have := k_.isLt; match a with | ⟨0, _⟩ => show h.val = h.val; rfl | ⟨1, _⟩ => show u.val = u.val; rfl | ⟨2, _⟩ => show k_.val = k_.val; rfl))).trans (e_main_v38 H h u k_)))

theorem e_main_v131 (H : Holds x0 x1 x2 x3 P) (h : Fin 8) (t : Fin 4096) (u : Fin 4096) (k : Fin 128) : (val_main_v131 (F := Ideal) x0 x1 x2 x3) (ix4 h t u k) = ((r_main_v130 P h t.val u.val : ℝ) : EReal) :=
  (val_main_v131_apply x0 x1 x2 x3 _).trans ((congrArg (val_main_v130 (F := Ideal) x0 x1 x2 x3) (funext fun a => Fin.ext (by have := h.isLt; have := t.isLt; have := u.isLt; have := k.isLt; match a with | ⟨0, _⟩ => show h.val = h.val; rfl | ⟨1, _⟩ => show t.val = t.val; rfl | ⟨2, _⟩ => show u.val = u.val; rfl))).trans (e_main_v130 H h t u))

def r_main_v132 (P : Par) (h : Fin 8) (t : ℕ) (u : ℕ) (k : Fin 128) : ℝ := (r_main_v65 P h t u k) * (r_main_v130 P h t u)
theorem e_main_v132 (H : Holds x0 x1 x2 x3 P) (h : Fin 8) (t : Fin 4096) (u : Fin 4096) (k : Fin 128) : (val_main_v132 (F := Ideal) x0 x1 x2 x3) (ix4 h t u k) = ((r_main_v132 P h t.val u.val k : ℝ) : EReal) := by
  rw [val_main_v132_apply x0 x1 x2 x3, (e_main_v65 H h t u k), (e_main_v131 H h t u k)]
  exact m_mul _ _

def r_main_v133 (P : Par) (h : Fin 8) (t : ℕ) (u : ℕ) (k : Fin 128) : ℝ := (r_main_v130 P h t u) * (r_main_v60_0 P h t u k)
theorem e_main_v133 (H : Holds x0 x1 x2 x3 P) (h : Fin 8) (t : Fin 4096) (u : Fin 4096) (k : Fin 128) : (val_main_v133 (F := Ideal) x0 x1 x2 x3) (ix4 h t u k) = ((r_main_v133 P h t.val u.val k : ℝ) : EReal) := by
  rw [val_main_v133_apply x0 x1 x2 x3, (e_main_v131 H h t u k), (e_main_v60_0 H h t u k)]
  exact m_mul _ _

theorem e_main_v134 (H : Holds x0 x1 x2 x3 P) (h : Fin 8) (t : Fin 4096) (u : Fin 4096) (k : Fin 128) : (val_main_v134 (F := Ideal) x0) (ix4 h t u k) = ((r_main_v7_0 P t.val h k : ℝ) : EReal) :=
  (val_main_v134_apply x0 _).trans ((congrArg (val_main_v61 (F := Ideal) x0) (funext fun a => Fin.ext (by have := h.isLt; have := t.isLt; have := u.isLt; have := k.isLt; match a with | ⟨0, _⟩ => show h.val = h.val; rfl | ⟨1, _⟩ => show t.val = t.val; rfl | ⟨2, _⟩ => show 0 = 0; rfl | ⟨3, _⟩ => show k.val = k.val; rfl))).trans (e_main_v61 H h t k))

def r_main_v135 (P : Par) (h : Fin 8) (t : ℕ) (u : ℕ) (k : Fin 128) : ℝ := (r_main_v7_0 P t h k) * (r_main_v133 P h t u k)
theorem e_main_v135 (H : Holds x0 x1 x2 x3 P) (h : Fin 8) (t : Fin 4096) (u : Fin 4096) (k : Fin 128) : (val_main_v135 (F := Ideal) x0 x1 x2 x3) (ix4 h t u k) = ((r_main_v135 P h t.val u.val k : ℝ) : EReal) := by
  rw [val_main_v135_apply x0 x1 x2 x3, (e_main_v134 H h t u k), (e_main_v133 H h t u k)]
  exact m_mul _ _

theorem e_main_cst_24 (i : S_.Idx) : val_main_cst_24 (F := Ideal) i = ((0 : ℝ) : EReal) := c_zero

def r_main_v136 (P : Par) (h : Fin 8) (t : ℕ) (k : Fin 128) : ℝ := ∑ k_ : Fin 4096, r_main_v135 P h k_.val t k
theorem e_main_v136 (H : Holds x0 x1 x2 x3 P) (h : Fin 8) (t : Fin 4096) (k : Fin 128) : (val_main_v136 (F := Ideal) x0 x1 x2 x3) (ix3 h t k) = ((r_main_v136 P h t.val k : ℝ) : EReal) :=
  (val_main_v136_apply x0 x1 x2 x3 _).trans (m_red _ _ _ (e_main_cst_24 _) fun k_ => (congrArg (val_main_v135 (F := Ideal) x0 x1 x2 x3) (funext fun a => Fin.ext (by have := h.isLt; have := t.isLt; have := k.isLt; have := k_.isLt; match a with | ⟨0, _⟩ => show h.val = h.val; rfl | ⟨1, _⟩ => show k_.val = k_.val; rfl | ⟨2, _⟩ => show t.val = t.val; rfl | ⟨3, _⟩ => show k.val = k.val; rfl))).trans (e_main_v135 H h k_ t k))

theorem e_main_v137 (H : Holds x0 x1 x2 x3 P) (h : Fin 8) (t : Fin 4096) (k : Fin 128) : (val_main_v137 (F := Ideal) x0 x1 x2 x3) (ix4 h (0 : Fin 1) t k) = ((r_main_v136 P h t.val k : ℝ) : EReal) :=
  (val_main_v137_apply x0 x1 x2 x3 _).trans ((congrArg (val_main_v136 (F := Ideal) x0 x1 x2 x3) (funext fun a => Fin.ext (by have := h.isLt; have := t.isLt; have := k.isLt; match a with | ⟨0, _⟩ => show (((h.val * 1 + 0) * 4096 + t.val) * 128 + k.val) / 524288 = h.val; omega | ⟨1, _⟩ => show (((h.val * 1 + 0) * 4096 + t.val) * 128 + k.val) / 128 % 4096 = t.val; omega | ⟨2, _⟩ => show (((h.val * 1 + 0) * 4096 + t.val) * 128 + k.val) % 128 = k.val; omega))).trans (e_main_v136 H h t k))

theorem e_main_v138 (H : Holds x0 x1 x2 x3 P) (h : Fin 8) (t : Fin 4096) (u : Fin 4096) (k : Fin 128) : (val_main_v138 (F := Ideal) x0 x1) (ix4 h t u k) = ((r_main_v28 P u.val h k : ℝ) : EReal) :=
  (val_main_v138_apply x0 x1 _).trans ((congrArg (val_main_v62 (F := Ideal) x0 x1) (funext fun a => Fin.ext (by have := h.isLt; have := t.isLt; have := u.isLt; have := k.isLt; match a with | ⟨0, _⟩ => show h.val = h.val; rfl | ⟨1, _⟩ => show 0 = 0; rfl | ⟨2, _⟩ => show u.val = u.val; rfl | ⟨3, _⟩ => show k.val = k.val; rfl))).trans (e_main_v62 H h u k))

def r_main_v139 (P : Par) (h : Fin 8) (t : ℕ) (u : ℕ) (k : Fin 128) : ℝ := (r_main_v133 P h t u k) * (r_main_v28 P u h k)
theorem e_main_v139 (H : Holds x0 x1 x2 x3 P) (h : Fin 8) (t : Fin 4096) (u : Fin 4096) (k : Fin 128) : (val_main_v139 (F := Ideal) x0 x1 x2 x3) (ix4 h t u k) = ((r_main_v139 P h t.val u.val k : ℝ) : EReal) := by
  rw [val_main_v139_apply x0 x1 x2 x3, (e_main_v133 H h t u k), (e_main_v138 H h t u k)]
  exact m_mul _ _

theorem e_main_cst_25 (i : S_.Idx) : val_main_cst_25 (F := Ideal) i = ((0 : ℝ) : EReal) := c_zero

def r_main_v140 (P : Par) (h : Fin 8) (t : ℕ) (k : Fin 128) : ℝ := ∑ k_ : Fin 4096, r_main_v139 P h t k_.val k
theorem e_main_v140 (H : Holds x0 x1 x2 x3 P) (h : Fin 8) (t : Fin 4096) (k : Fin 128) : (val_main_v140 (F := Ideal) x0 x1 x2 x3) (ix3 h t k) = ((r_main_v140 P h t.val k : ℝ) : EReal) :=
  (val_main_v140_apply x0 x1 x2 x3 _).trans (m_red _ _ _ (e_main_cst_25 _) fun k_ => (congrArg (val_main_v139 (F := Ideal) x0 x1 x2 x3) (funext fun a => Fin.ext (by have := h.isLt; have := t.isLt; have := k.isLt; have := k_.isLt; match a with | ⟨0, _⟩ => show h.val = h.val; rfl | ⟨1, _⟩ => show t.val = t.val; rfl | ⟨2, _⟩ => show k_.val = k_.val; rfl | ⟨3, _⟩ => show k.val = k.val; rfl))).trans (e_main_v139 H h t k_ k))

theorem e_main_v141 (H : Holds x0 x1 x2 x3 P) (h : Fin 8) (t : Fin 4096) (k : Fin 128) : (val_main_v141 (F := Ideal) x0 x1 x2 x3) (ix4 h t (0 : Fin 1) k) = ((r_main_v140 P h t.val k : ℝ) : EReal) :=
  (val_main_v141_apply x0 x1 x2 x3 _).trans ((congrArg (val_main_v140 (F := Ideal) x0 x1 x2 x3) (funext fun a => Fin.ext (by have := h.isLt; have := t.isLt; have := k.isLt; match a with | ⟨0, _⟩ => show (((h.val * 4096 + t.val) * 1 + 0) * 128 + k.val) / 524288 = h.val; omega | ⟨1, _⟩ => show (((h.val * 4096 + t.val) * 1 + 0) * 128 + k.val) / 128 % 4096 = t.val; omega | ⟨2, _⟩ => show (((h.val * 4096 + t.val) * 1 + 0) * 128 + k.val) % 128 = k.val; omega))).trans (e_main_v140 H h t k))

theorem e_main_cst_26 (i : S_.Idx) : val_main_cst_26 (F := Ideal) i = ((0 : ℝ) : EReal) := c_zero

theorem e_main_v142 (H : Holds x0 x1 x2 x3 P) (h : Fin 8) (t : Fin 4096) (k : Fin 128) : (val_main_v142 (F := Ideal) x0 x1 x2 x3) (ix3 h t k) = ((r_main_v136 P h t.val k : ℝ) : EReal) :=
  (val_main_v142_apply x0 x1 x2 x3 _).trans (m_one _ _ _ (e_main_cst_26 _) fun k_ => (congrArg (val_main_v137 (F := Ideal) x0 x1 x2 x3) (funext fun a => Fin.ext (by have := h.isLt; have := t.isLt; have := k.isLt; have := k_.isLt; match a with | ⟨0, _⟩ => show h.val = h.val; rfl | ⟨1, _⟩ => show k_.val = 0; omega | ⟨2, _⟩ => show t.val = t.val; rfl | ⟨3, _⟩ => show k.val = k.val; rfl))).trans (e_main_v137 H h t k))

theorem e_main_cst_27 (i : S_.Idx) : val_main_cst_27 (F := Ideal) i = ((0 : ℝ) : EReal) := c_zero

theorem e_main_v143 (H : Holds x0 x1 x2 x3 P) (h : Fin 8) (t : Fin 4096) (k : Fin 128) : (val_main_v143 (F := Ideal) x0 x1 x2 x3) (ix3 h t k) = ((r_main_v140 P h t.val k : ℝ) : EReal) :=
  (val_main_v143_apply x0 x1 x2 x3 _).trans (m_one _ _ _ (e_main_cst_27 _) fun k_ => (congrArg (val_main_v141 (F := Ideal) x0 x1 x2 x3) (funext fun a => Fin.ext (by have := h.isLt; have := t.isLt; have := k.isLt; have := k_.isLt; match a with | ⟨0, _⟩ => show h.val = h.val; rfl | ⟨1, _⟩ => show t.val = t.val; rfl | ⟨2, _⟩ => show k_.val = 0; omega | ⟨3, _⟩ => show k.val = k.val; rfl))).trans (e_main_v141 H h t k))

theorem e_main_call4_cst (i : S_.Idx) : val_main_call4_cst (F := Ideal) i = ((0 : ℝ) : EReal) := c_zero

theorem e_main_call4_v0 (i : S8x4096x4096x128.Idx) : val_main_call4_v0 (F := Ideal) i = ((0 : ℝ) : EReal) := (val_main_call4_v0_apply i).trans (e_main_call4_cst _)

def r_main_v144 (P : Par) (h : Fin 8) (t : ℕ) (u : ℕ) (k : Fin 128) : ℝ := if u ≤ t then r_main_v132 P h t u k else 0
theorem e_main_v144 (H : Holds x0 x1 x2 x3 P) (h : Fin 8) (t : Fin 4096) (u : Fin 4096) (k : Fin 128) : (val_main_v144 (F := Ideal) x0 x1 x2 x3) (ix4 h t u k) = ((r_main_v144 P h t.val u.val k : ℝ) : EReal) := by
  rw [val_main_v144_apply x0 x1 x2 x3, (e_main_v60_1 H h t u k), (e_main_v132 H h t u k), e_main_call4_v0]
  exact m_sel _ _ _

def r_main_v145 (P : Par) (h : Fin 8) (t : ℕ) (u : ℕ) (k : Fin 128) : ℝ := (r_main_v144 P h t u k) * (r_main_v59 P h t u k)
theorem e_main_v145 (H : Holds x0 x1 x2 x3 P) (h : Fin 8) (t : Fin 4096) (u : Fin 4096) (k : Fin 128) : (val_main_v145 (F := Ideal) x0 x1 x2 x3) (ix4 h t u k) = ((r_main_v145 P h t.val u.val k : ℝ) : EReal) := by
  rw [val_main_v145_apply x0 x1 x2 x3, (e_main_v144 H h t u k), (e_main_v59 H h t u k)]
  exact m_mul _ _

def r_main_v146 (P : Par) (h : Fin 8) (t : ℕ) (u : ℕ) (k : Fin 128) : ℝ := (r_main_v145 P h t u k) * (r_main_v58 P h t u k)
theorem e_main_v146 (H : Holds x0 x1 x2 x3 P) (h : Fin 8) (t : Fin 4096) (u : Fin 4096) (k : Fin 128) : (val_main_v146 (F := Ideal) x0 x1 x2 x3) (ix4 h t u k) = ((r_main_v146 P h t.val u.val k : ℝ) : EReal) := by
  rw [val_main_v146_apply x0 x1 x2 x3, (e_main_v145 H h t u k), (e_main_v58 H h t u k)]
  exact m_mul _ _

theorem e_main_cst_28 (i : S_.Idx) : val_main_cst_28 (F := Ideal) i = ((0 : ℝ) : EReal) := c_zero

def r_main_v147 (P : Par) (h : Fin 8) (t : ℕ) (k : Fin 128) : ℝ := ∑ k_ : Fin 4096, r_main_v146 P h t k_.val k
theorem e_main_v147 (H : Holds x0 x1 x2 x3 P) (h : Fin 8) (t : Fin 4096) (k : Fin 128) : (val_main_v147 (F := Ideal) x0 x1 x2 x3) (ix3 h t k) = ((r_main_v147 P h t.val k : ℝ) : EReal) :=
  (val_main_v147_apply x0 x1 x2 x3 _).trans (m_red _ _ _ (e_main_cst_28 _) fun k_ => (congrArg (val_main_v146 (F := Ideal) x0 x1 x2 x3) (funext fun a => Fin.ext (by have := h.isLt; have := t.isLt; have := k.isLt; have := k_.isLt; match a with | ⟨0, _⟩ => show h.val = h.val; rfl | ⟨1, _⟩ => show t.val = t.val; rfl | ⟨2, _⟩ => show k_.val = k_.val; rfl | ⟨3, _⟩ => show k.val = k.val; rfl))).trans (e_main_v146 H h t k_ k))

theorem e_main_v148 (H : Holds x0 x1 x2 x3 P) (h : Fin 8) (t : Fin 4096) (k : Fin 128) : (val_main_v148 (F := Ideal) x0 x1 x2 x3) (ix4 h t (0 : Fin 1) k) = ((r_main_v147 P h t.val k : ℝ) : EReal) :=
  (val_main_v148_apply x0 x1 x2 x3 _).trans ((congrArg (val_main_v147 (F := Ideal) x0 x1 x2 x3) (funext fun a => Fin.ext (by have := h.isLt; have := t.isLt; have := k.isLt; match a with | ⟨0, _⟩ => show (((h.val * 4096 + t.val) * 1 + 0) * 128 + k.val) / 524288 = h.val; omega | ⟨1, _⟩ => show (((h.val * 4096 + t.val) * 1 + 0) * 128 + k.val) / 128 % 4096 = t.val; omega | ⟨2, _⟩ => show (((h.val * 4096 + t.val) * 1 + 0) * 128 + k.val) % 128 = k.val; omega))).trans (e_main_v147 H h t k))

def r_main_v149 (P : Par) (h : Fin 8) (t : ℕ) (u : ℕ) (k : Fin 128) : ℝ := -(r_main_v146 P h t u k)
theorem e_main_v149 (H : Holds x0 x1 x2 x3 P) (h : Fin 8) (t : Fin 4096) (u : Fin 4096) (k : Fin 128) : (val_main_v149 (F := Ideal) x0 x1 x2 x3) (ix4 h t u k) = ((r_main_v149 P h t.val u.val k : ℝ) : EReal) := by
  rw [val_main_v149_apply x0 x1 x2 x3, (e_main_v146 H h t u k)]
  exact m_neg _

theorem e_main_cst_29 (i : S_.Idx) : val_main_cst_29 (F := Ideal) i = ((0 : ℝ) : EReal) := c_zero

def r_main_v150 (P : Par) (h : Fin 8) (t : ℕ) (k : Fin 128) : ℝ := ∑ k_ : Fin 4096, r_main_v149 P h k_.val t k
theorem e_main_v150 (H : Holds x0 x1 x2 x3 P) (h : Fin 8) (t : Fin 4096) (k : Fin 128) : (val_main_v150 (F := Ideal) x0 x1 x2 x3) (ix3 h t k) = ((r_main_v150 P h t.val k : ℝ) : EReal) :=
  (val_main_v150_apply x0 x1 x2 x3 _).trans (m_red _ _ _ (e_main_cst_29 _) fun k_ => (congrArg (val_main_v149 (F := Ideal) x0 x1 x2 x3) (funext fun a => Fin.ext (by have := h.isLt; have := t.isLt; have := k.isLt; have := k_.isLt; match a with | ⟨0, _⟩ => show h.val = h.val; rfl | ⟨1, _⟩ => show k_.val = k_.val; rfl | ⟨2, _⟩ => show t.val = t.val; rfl | ⟨3, _⟩ => show k.val = k.val; rfl))).trans (e_main_v149 H h k_ t k))

theorem e_main_v151 (H : Holds x0 x1 x2 x3 P) (h : Fin 8) (t : Fin 4096) (k : Fin 128) : (val_main_v151 (F := Ideal) x0 x1 x2 x3) (ix4 h (0 : Fin 1) t k) = ((r_main_v150 P h t.val k : ℝ) : EReal) :=
  (val_main_v151_apply x0 x1 x2 x3 _).trans ((congrArg (val_main_v150 (F := Ideal) x0 x1 x2 x3) (funext fun a => Fin.ext (by have := h.isLt; have := t.isLt; have := k.isLt; match a with | ⟨0, _⟩ => show (((h.val * 1 + 0) * 4096 + t.val) * 128 + k.val) / 524288 = h.val; omega | ⟨1, _⟩ => show (((h.val * 1 + 0) * 4096 + t.val) * 128 + k.val) / 128 % 4096 = t.val; omega | ⟨2, _⟩ => show (((h.val * 1 + 0) * 4096 + t.val) * 128 + k.val) % 128 = k.val; omega))).trans (e_main_v150 H h t k))

theorem e_main_cst_30 (i : S_.Idx) : val_main_cst_30 (F := Ideal) i = ((0 : ℝ) : EReal) := c_zero

theorem e_main_v152 (H : Holds x0 x1 x2 x3 P) (h : Fin 8) (t : Fin 4096) (k : Fin 128) : (val_main_v152 (F := Ideal) x0 x1 x2 x3) (ix3 h t k) = ((r_main_v150 P h t.val k : ℝ) : EReal) :=
  (val_main_v152_apply x0 x1 x2 x3 _).trans (m_one _ _ _ (e_main_cst_30 _) fun k_ => (congrArg (val_main_v151 (F := Ideal) x0 x1 x2 x3) (funext fun a => Fin.ext (by have := h.isLt; have := t.isLt; have := k.isLt; have := k_.isLt; match a with | ⟨0, _⟩ => show h.val = h.val; rfl | ⟨1, _⟩ => show k_.val = 0; omega | ⟨2, _⟩ => show t.val = t.val; rfl | ⟨3, _⟩ => show k.val = k.val; rfl))).trans (e_main_v151 H h t k))

theorem e_main_cst_31 (i : S_.Idx) : val_main_cst_31 (F := Ideal) i = ((0 : ℝ) : EReal) := c_zero

theorem e_main_v153 (H : Holds x0 x1 x2 x3 P) (h : Fin 8) (t : Fin 4096) (k : Fin 128) : (val_main_v153 (F := Ideal) x0 x1 x2 x3) (ix3 h t k) = ((r_main_v147 P h t.val k : ℝ) : EReal) :=
  (val_main_v153_apply x0 x1 x2 x3 _).trans (m_one _ _ _ (e_main_cst_31 _) fun k_ => (congrArg (val_main_v148 (F := Ideal) x0 x1 x2 x3) (funext fun a => Fin.ext (by have := h.isLt; have := t.isLt; have := k.isLt; have := k_.isLt; match a with | ⟨0, _⟩ => show h.val = h.val; rfl | ⟨1, _⟩ => show t.val = t.val; rfl | ⟨2, _⟩ => show k_.val = 0; omega | ⟨3, _⟩ => show k.val = k.val; rfl))).trans (e_main_v148 H h t k))

def r_main_v154 (P : Par) (h : Fin 8) (t : ℕ) (k : Fin 128) : ℝ := (r_main_v150 P h t k) + (r_main_v147 P h t k)
theorem e_main_v154 (H : Holds x0 x1 x2 x3 P) (h : Fin 8) (t : Fin 4096) (k : Fin 128) : (val_main_v154 (F := Ideal) x0 x1 x2 x3) (ix3 h t k) = ((r_main_v154 P h t.val k : ℝ) : EReal) := by
  rw [val_main_v154_apply x0 x1 x2 x3, (e_main_v152 H h t k), (e_main_v153 H h t k)]
  exact m_add _ _

theorem e_main_call5_call0_cst (i : S_.Idx) : val_main_call5_call0_cst (F := Ideal) i = ((0 : ℝ) : EReal) := c_zero

theorem e_main_call5_call0_v0 (i : S_.Idx) : val_main_call5_call0_v0 (F := Ideal) i = ((0 : ℝ) : EReal) := (val_main_call5_call0_v0_apply i).trans (e_main_call5_call0_cst _)

def r_main_v155 (P : Par) (h : Fin 8) (t : ℕ) (k : Fin 128) : ℝ := ∑ u ∈ Finset.Ico t 4096, r_main_v154 P h u k
theorem e_main_v155 (H : Holds x0 x1 x2 x3 P) (h : Fin 8) (t : Fin 4096) (k : Fin 128) : (val_main_v155 (F := Ideal) x0 x1 x2 x3) (ix3 h t k) = ((r_main_v155 P h t.val k : ℝ) : EReal) := by
  unfold val_main_v155
  refine (window_sum 0 4095 _ _ _ _ (fun h t k => r_main_v154 P h t k) (fun h t k => (e_main_v154 H h t k)) (fun j => e_main_call5_call0_v0 j) h t k).trans ?_
  exact congrArg Real.toEReal (rev_sum (fun t => r_main_v154 P h t k) t.val t.isLt)

theorem e_main_v156 (H : Holds x0 x1 x2 x3 P) (t : Fin 4096) (h : Fin 8) (k : Fin 128) : (val_main_v156 (F := Ideal) x0 x1 x2 x3) (ix3 t h k) = ((r_main_v128 P h k t.val : ℝ) : EReal) :=
  (val_main_v156_apply x0 x1 x2 x3 _).trans ((congrArg (val_main_v129 (F := Ideal) x0 x1 x2 x3) (funext fun a => Fin.ext (by have := t.isLt; have := h.isLt; have := k.isLt; match a with | ⟨0, _⟩ => show h.val = h.val; rfl | ⟨1, _⟩ => show t.val = t.val; rfl | ⟨2, _⟩ => show k.val = k.val; rfl))).trans (e_main_v129 H h t k))

theorem e_main_v157 (H : Holds x0 x1 x2 x3 P) (t : Fin 4096) (h : Fin 8) (k : Fin 128) : (val_main_v157 (F := Ideal) x0 x1 x2 x3) (ix2 t (cl h k)) = ((r_main_v128 P h k t.val : ℝ) : EReal) :=
  (val_main_v157_apply x0 x1 x2 x3 _).trans ((congrArg (val_main_v156 (F := Ideal) x0 x1 x2 x3) (funext fun a => Fin.ext (by have := t.isLt; have := h.isLt; have := k.isLt; match a with | ⟨0, _⟩ => show (t.val * 1024 + (128 * h.val + k.val)) / 1024 = t.val; omega | ⟨1, _⟩ => show (t.val * 1024 + (128 * h.val + k.val)) / 128 % 8 = h.val; omega | ⟨2, _⟩ => show (t.val * 1024 + (128 * h.val + k.val)) % 128 = k.val; omega))).trans (e_main_v156 H t h k))

theorem e_main_v158 (H : Holds x0 x1 x2 x3 P) (t : Fin 4096) (h : Fin 8) (k : Fin 128) : (val_main_v158 (F := Ideal) x0 x1 x2 x3) (ix3 (0 : Fin 1) t (cl h k)) = ((r_main_v128 P h k t.val : ℝ) : EReal) :=
  (val_main_v158_apply x0 x1 x2 x3 _).trans ((congrArg (val_main_v157 (F := Ideal) x0 x1 x2 x3) (funext fun a => Fin.ext (by have := t.isLt; have := h.isLt; have := k.isLt; match a with | ⟨0, _⟩ => show t.val = t.val; rfl | ⟨1, _⟩ => show (128 * h.val + k.val) = (128 * h.val + k.val); rfl))).trans (e_main_v157 H t h k))

theorem e_main_cst_32 (i : S_.Idx) : val_main_cst_32 (F := Ideal) i = ((0 : ℝ) : EReal) := c_zero

def r_main_v159 (P : Par) (s : Fin 4) (t : ℕ) (h : Fin 8) (k : Fin 128) : ℝ := if s.val = 2 then r_main_v128 P h k t else 0
theorem e_main_v159 (H : Holds x0 x1 x2 x3 P) (s : Fin 4) (t : Fin 4096) (h : Fin 8) (k : Fin 128) : (val_main_v159 (F := Ideal) x0 x1 x2 x3) (ix3 s t (cl h k)) = ((r_main_v159 P s t.val h k : ℝ) : EReal) := by
  unfold val_main_v159
  exact pad_slot 2 1 _ _ _ _ _ s t (cl h k) (fun j => e_main_cst_32 j) (e_main_v158 H t h k)

def r_main_v160 (P : Par) (s : Fin 4) (t : ℕ) (h : Fin 8) (k : Fin 128) : ℝ := (r_main_v104 P s t h k) + (r_main_v159 P s t h k)
theorem e_main_v160 (H : Holds x0 x1 x2 x3 P) (s : Fin 4) (t : Fin 4096) (h : Fin 8) (k : Fin 128) : (val_main_v160 (F := Ideal) x0 x1 x2 x3) (ix3 s t (cl h k)) = ((r_main_v160 P s t.val h k : ℝ) : EReal) := by
  rw [val_main_v160_apply x0 x1 x2 x3, (e_main_v104 H s t h k), (e_main_v159 H s t h k)]
  exact m_add _ _

theorem e_main_v161 (H : Holds x0 x1 x2 x3 P) (t : Fin 4096) (h : Fin 8) (k : Fin 128) : (val_main_v161 (F := Ideal) x0 x1 x2 x3) (ix3 t h k) = ((r_main_v136 P h t.val k : ℝ) : EReal) :=
  (val_main_v161_apply x0 x1 x2 x3 _).trans ((congrArg (val_main_v142 (F := Ideal) x0 x1 x2 x3) (funext fun a => Fin.ext (by have := t.isLt; have := h.isLt; have := k.isLt; match a with | ⟨0, _⟩ => show h.val = h.val; rfl | ⟨1, _⟩ => show t.val = t.val; rfl | ⟨2, _⟩ => show k.val = k.val; rfl))).trans (e_main_v142 H h t k))

theorem e_main_v162 (H : Holds x0 x1 x2 x3 P) (t : Fin 4096) (h : Fin 8) (k : Fin 128) : (val_main_v162 (F := Ideal) x0 x1 x2 x3) (ix2 t (cl h k)) = ((r_main_v136 P h t.val k : ℝ) : EReal) :=
  (val_main_v162_apply x0 x1 x2 x3 _).trans ((congrArg (val_main_v161 (F := Ideal) x0 x1 x2 x3) (funext fun a => Fin.ext (by have := t.isLt; have := h.isLt; have := k.isLt; match a with | ⟨0, _⟩ => show (t.val * 1024 + (128 * h.val + k.val)) / 1024 = t.val; omega | ⟨1, _⟩ => show (t.val * 1024 + (128 * h.val + k.val)) / 128 % 8 = h.val; omega | ⟨2, _⟩ => show (t.val * 1024 + (128 * h.val + k.val)) % 128 = k.val; omega))).trans (e_main_v161 H t h k))

theorem e_main_v163 (H : Holds x0 x1 x2 x3 P) (t : Fin 4096) (h : Fin 8) (k : Fin 128) : (val_main_v163 (F := Ideal) x0 x1 x2 x3) (ix3 t h k) = ((r_main_v140 P h t.val k : ℝ) : EReal) :=
  (val_main_v163_apply x0 x1 x2 x3 _).trans ((congrArg (val_main_v143 (F := Ideal) x0 x1 x2 x3) (funext fun a => Fin.ext (by have := t.isLt; have := h.isLt; have := k.isLt; match a with | ⟨0, _⟩ => show h.val = h.val; rfl | ⟨1, _⟩ => show t.val = t.val; rfl | ⟨2, _⟩ => show k.val = k.val; rfl))).trans (e_main_v143 H h t k))

theorem e_main_v164 (H : Holds x0 x1 x2 x3 P) (t : Fin 4096) (h : Fin 8) (k : Fin 128) : (val_main_v164 (F := Ideal) x0 x1 x2 x3) (ix2 t (cl h k)) = ((r_main_v140 P h t.val k : ℝ) : EReal) :=
  (val_main_v164_apply x0 x1 x2 x3 _).trans ((congrArg (val_main_v163 (F := Ideal) x0 x1 x2 x3) (funext fun a => Fin.ext (by have := t.isLt; have := h.isLt; have := k.isLt; match a with | ⟨0, _⟩ => show (t.val * 1024 + (128 * h.val + k.val)) / 1024 = t.val; omega | ⟨1, _⟩ => show (t.val * 1024 + (128 * h.val + k.val)) / 128 % 8 = h.val; omega | ⟨2, _⟩ => show (t.val * 1024 + (128 * h.val + k.val)) % 128 = k.val; omega))).trans (e_main_v163 H t h k))

theorem e_main_v165 (H : Holds x0 x1 x2 x3 P) (t : Fin 4096) (h : Fin 8) (k : Fin 128) : (val_main_v165 (F := Ideal) x0 x1 x2 x3) (ix3 t h k) = ((r_main_v155 P h t.val k : ℝ) : EReal) :=
  (val_main_v165_apply x0 x1 x2 x3 _).trans ((congrArg (val_main_v155 (F := Ideal) x0 x1 x2 x3) (funext fun a => Fin.ext (by have := t.isLt; have := h.isLt; have := k.isLt; match a with | ⟨0, _⟩ => show h.val = h.val; rfl | ⟨1, _⟩ => show t.val = t.val; rfl | ⟨2, _⟩ => show k.val = k.val; rfl))).trans (e_main_v155 H h t k))

theorem e_main_v166 (H : Holds x0 x1 x2 x3 P) (t : Fin 4096) (h : Fin 8) (k : Fin 128) : (val_main_v166 (F := Ideal) x0 x1 x2 x3) (ix2 t (cl h k)) = ((r_main_v155 P h t.val k : ℝ) : EReal) :=
  (val_main_v166_apply x0 x1 x2 x3 _).trans ((congrArg (val_main_v165 (F := Ideal) x0 x1 x2 x3) (funext fun a => Fin.ext (by have := t.isLt; have := h.isLt; have := k.isLt; match a with | ⟨0, _⟩ => show (t.val * 1024 + (128 * h.val + k.val)) / 1024 = t.val; omega | ⟨1, _⟩ => show (t.val * 1024 + (128 * h.val + k.val)) / 128 % 8 = h.val; omega | ⟨2, _⟩ => show (t.val * 1024 + (128 * h.val + k.val)) % 128 = k.val; omega))).trans (e_main_v165 H t h k))

def r_main_v167 (P : Par) (t : ℕ) (h : Fin 8) (k : Fin 128) : ℝ := -(r_main_v136 P h t k)
theorem e_main_v167 (H : Holds x0 x1 x2 x3 P) (t : Fin 4096) (h : Fin 8) (k : Fin 128) : (val_main_v167 (F := Ideal) x0 x1 x2 x3) (ix2 t (cl h k)) = ((r_main_v167 P t.val h k : ℝ) : EReal) := by
  rw [val_main_v167_apply x0 x1 x2 x3, (e_main_v162 H t h k)]
  exact m_neg _

def r_main_v168 (P : Par) (t : ℕ) (h : Fin 8) (k : Fin 128) : ℝ := (r_main_v167 P t h k) * (r_main_v27 P t h k)
theorem e_main_v168 (H : Holds x0 x1 x2 x3 P) (t : Fin 4096) (h : Fin 8) (k : Fin 128) : (val_main_v168 (F := Ideal) x0 x1 x2 x3) (ix2 t (cl h k)) = ((r_main_v168 P t.val h k : ℝ) : EReal) := by
  rw [val_main_v168_apply x0 x1 x2 x3, (e_main_v167 H t h k), (e_main_v27 H t h k)]
  exact m_mul _ _

def r_main_v169 (P : Par) (t : ℕ) (h : Fin 8) (k : Fin 128) : ℝ := (r_main_v155 P h t k) + (r_main_v168 P t h k)
theorem e_main_v169 (H : Holds x0 x1 x2 x3 P) (t : Fin 4096) (h : Fin 8) (k : Fin 128) : (val_main_v169 (F := Ideal) x0 x1 x2 x3) (ix2 t (cl h k)) = ((r_main_v169 P t.val h k : ℝ) : EReal) := by
  rw [val_main_v169_apply x0 x1 x2 x3, (e_main_v166 H t h k), (e_main_v168 H t h k)]
  exact m_add _ _

def r_main_v170 (P : Par) (t : ℕ) (h : Fin 8) (k : Fin 128) : ℝ := (r_main_v169 P t h k) / (r_main_v24 P t h k)
theorem e_main_v170 (H : Holds x0 x1 x2 x3 P) (t : Fin 4096) (h : Fin 8) (k : Fin 128) : (val_main_v170 (F := Ideal) x0 x1 x2 x3) (ix2 t (cl h k)) = ((r_main_v170 P t.val h k : ℝ) : EReal) := by
  rw [val_main_v170_apply x0 x1 x2 x3, (e_main_v169 H t h k), (e_main_v24 H t h k)]
  exact m_div _ _ (pos_main_v24 H t.val h k).ne'

theorem e_main_cst_33 (i : S_.Idx) : val_main_cst_33 (F := Ideal) i = ((0 : ℝ) : EReal) := c_zero

def r_main_v171 (P : Par) (h : Fin 8) (k : Fin 128) : ℝ := ∑ k_ : Fin 4096, r_main_v170 P k_.val h k
theorem e_main_v171 (H : Holds x0 x1 x2 x3 P) (h : Fin 8) (k : Fin 128) : (val_main_v171 (F := Ideal) x0 x1 x2 x3) (ix1 (cl h k)) = ((r_main_v171 P h k : ℝ) : EReal) :=
  (val_main_v171_apply x0 x1 x2 x3 _).trans (m_red _ _ _ (e_main_cst_33 _) fun k_ => (congrArg (val_main_v170 (F := Ideal) x0 x1 x2 x3) (funext fun a => Fin.ext (by have := h.isLt; have := k.isLt; have := k_.isLt; match a with | ⟨0, _⟩ => show k_.val = k_.val; rfl | ⟨1, _⟩ => show (128 * h.val + k.val) = (128 * h.val + k.val); rfl))).trans (e_main_v170 H k_ h k))

theorem e_main_v172 (H : Holds x0 x1 x2 x3 P) (h : Fin 8) (k : Fin 128) : (val_main_v172 (F := Ideal) x0 x1 x2 x3) (ix2 (0 : Fin 1) (cl h k)) = ((r_main_v171 P h k : ℝ) : EReal) :=
  (val_main_v172_apply x0 x1 x2 x3 _).trans ((congrArg (val_main_v171 (F := Ideal) x0 x1 x2 x3) (funext fun a => Fin.ext (by have := h.isLt; have := k.isLt; match a with | ⟨0, _⟩ => show 0 * 1024 + (128 * h.val + k.val) = (128 * h.val + k.val); omega))).trans (e_main_v171 H h k))

theorem e_main_v173 (H : Holds x0 x1 x2 x3 P) (t : Fin 4096) (h : Fin 8) (k : Fin 128) : (val_main_v173 (F := Ideal) x1) (ix2 t (cl h k)) = ((r_main_v9 P h k : ℝ) : EReal) :=
  (val_main_v173_apply x1 _).trans ((congrArg (val_main_v9 (F := Ideal) x1) (funext fun a => Fin.ext (by have := t.isLt; have := h.isLt; have := k.isLt; match a with | ⟨0, _⟩ => show 0 = 0; rfl | ⟨1, _⟩ => show (128 * h.val + k.val) = (128 * h.val + k.val); rfl))).trans (e_main_v9 H h k))

def r_main_v174 (P : Par) (t : ℕ) (h : Fin 8) (k : Fin 128) : ℝ := (r_main_v9 P h k) * (r_main_v170 P t h k)
theorem e_main_v174 (H : Holds x0 x1 x2 x3 P) (t : Fin 4096) (h : Fin 8) (k : Fin 128) : (val_main_v174 (F := Ideal) x0 x1 x2 x3) (ix2 t (cl h k)) = ((r_main_v174 P t.val h k : ℝ) : EReal) := by
  rw [val_main_v174_apply x0 x1 x2 x3, (e_main_v173 H t h k), (e_main_v170 H t h k)]
  exact m_mul _ _

def r_main_v175 (P : Par) (t : ℕ) (h : Fin 8) (k : Fin 128) : ℝ := (r_main_v170 P t h k) * (r_main_v17 P t h k)
theorem e_main_v175 (H : Holds x0 x1 x2 x3 P) (t : Fin 4096) (h : Fin 8) (k : Fin 128) : (val_main_v175 (F := Ideal) x0 x1 x2 x3) (ix2 t (cl h k)) = ((r_main_v175 P t.val h k : ℝ) : EReal) := by
  rw [val_main_v175_apply x0 x1 x2 x3, (e_main_v170 H t h k), (e_main_v17 H t h k)]
  exact m_mul _ _

theorem e_main_cst_34 (i : S_.Idx) : val_main_cst_34 (F := Ideal) i = ((0 : ℝ) : EReal) := c_zero

def r_main_v176 (P : Par) (h : Fin 8) (k : Fin 128) : ℝ := ∑ k_ : Fin 4096, r_main_v175 P k_.val h k
theorem e_main_v176 (H : Holds x0 x1 x2 x3 P) (h : Fin 8) (k : Fin 128) : (val_main_v176 (F := Ideal) x0 x1 x2 x3) (ix1 (cl h k)) = ((r_main_v176 P h k : ℝ) : EReal) :=
  (val_main_v176_apply x0 x1 x2 x3 _).trans (m_red _ _ _ (e_main_cst_34 _) fun k_ => (congrArg (val_main_v175 (F := Ideal) x0 x1 x2 x3) (funext fun a => Fin.ext (by have := h.isLt; have := k.isLt; have := k_.isLt; match a with | ⟨0, _⟩ => show k_.val = k_.val; rfl | ⟨1, _⟩ => show (128 * h.val + k.val) = (128 * h.val + k.val); rfl))).trans (e_main_v175 H k_ h k))

theorem e_main_v177 (H : Holds x0 x1 x2 x3 P) (h : Fin 8) (k : Fin 128) : (val_main_v177 (F := Ideal) x0 x1 x2 x3) (ix2 (0 : Fin 1) (cl h k)) = ((r_main_v176 P h k : ℝ) : EReal) :=
  (val_main_v177_apply x0 x1 x2 x3 _).trans ((congrArg (val_main_v176 (F := Ideal) x0 x1 x2 x3) (funext fun a => Fin.ext (by have := h.isLt; have := k.isLt; match a with | ⟨0, _⟩ => show 0 * 1024 + (128 * h.val + k.val) = (128 * h.val + k.val); omega))).trans (e_main_v176 H h k))

def r_main_v178 (P : Par) (t : ℕ) (h : Fin 8) (k : Fin 128) : ℝ := (r_main_v174 P t h k) * (r_main_v20 P t h k)
theorem e_main_v178 (H : Holds x0 x1 x2 x3 P) (t : Fin 4096) (h : Fin 8) (k : Fin 128) : (val_main_v178 (F := Ideal) x0 x1 x2 x3) (ix2 t (cl h k)) = ((r_main_v178 P t.val h k : ℝ) : EReal) := by
  rw [val_main_v178_apply x0 x1 x2 x3, (e_main_v174 H t h k), (e_main_v20 H t h k)]
  exact m_mul _ _

theorem e_main_v179 (H : Holds x0 x1 x2 x3 P) (t : Fin 4096) (h : Fin 8) (k : Fin 128) : (val_main_v179 (F := Ideal) x0 x1 x2 x3) (ix3 (0 : Fin 1) t (cl h k)) = ((r_main_v178 P t.val h k : ℝ) : EReal) :=
  (val_main_v179_apply x0 x1 x2 x3 _).trans ((congrArg (val_main_v178 (F := Ideal) x0 x1 x2 x3) (funext fun a => Fin.ext (by have := t.isLt; have := h.isLt; have := k.isLt; match a with | ⟨0, _⟩ => show t.val = t.val; rfl | ⟨1, _⟩ => show (128 * h.val + k.val) = (128 * h.val + k.val); rfl))).trans (e_main_v178 H t h k))

theorem e_main_cst_35 (i : S_.Idx) : val_main_cst_35 (F := Ideal) i = ((0 : ℝ) : EReal) := c_zero

def r_main_v180 (P : Par) (s : Fin 4) (t : ℕ) (h : Fin 8) (k : Fin 128) : ℝ := if s.val = 1 then r_main_v178 P t h k else 0
theorem e_main_v180 (H : Holds x0 x1 x2 x3 P) (s : Fin 4) (t : Fin 4096) (h : Fin 8) (k : Fin 128) : (val_main_v180 (F := Ideal) x0 x1 x2 x3) (ix3 s t (cl h k)) = ((r_main_v180 P s t.val h k : ℝ) : EReal) := by
  unfold val_main_v180
  exact pad_slot 1 2 _ _ _ _ _ s t (cl h k) (fun j => e_main_cst_35 j) (e_main_v179 H t h k)

def r_main_v181 (P : Par) (s : Fin 4) (t : ℕ) (h : Fin 8) (k : Fin 128) : ℝ := (r_main_v160 P s t h k) + (r_main_v180 P s t h k)
theorem e_main_v181 (H : Holds x0 x1 x2 x3 P) (s : Fin 4) (t : Fin 4096) (h : Fin 8) (k : Fin 128) : (val_main_v181 (F := Ideal) x0 x1 x2 x3) (ix3 s t (cl h k)) = ((r_main_v181 P s t.val h k : ℝ) : EReal) := by
  rw [val_main_v181_apply x0 x1 x2 x3, (e_main_v160 H s t h k), (e_main_v180 H s t h k)]
  exact m_add _ _

def r_main_v182 (P : Par) (h : Fin 8) (k : Fin 128) : ℝ := -(r_main_v176 P h k)
theorem e_main_v182 (H : Holds x0 x1 x2 x3 P) (h : Fin 8) (k : Fin 128) : (val_main_v182 (F := Ideal) x0 x1 x2 x3) (ix2 (0 : Fin 1) (cl h k)) = ((r_main_v182 P h k : ℝ) : EReal) := by
  rw [val_main_v182_apply x0 x1 x2 x3, (e_main_v177 H h k)]
  exact m_neg _

def r_main_v183 (P : Par) (h : Fin 8) (k : Fin 128) : ℝ := (r_main_v171 P h k) + (r_main_v182 P h k)
theorem e_main_v183 (H : Holds x0 x1 x2 x3 P) (h : Fin 8) (k : Fin 128) : (val_main_v183 (F := Ideal) x0 x1 x2 x3) (ix2 (0 : Fin 1) (cl h k)) = ((r_main_v183 P h k : ℝ) : EReal) := by
  rw [val_main_v183_apply x0 x1 x2 x3, (e_main_v172 H h k), (e_main_v182 H h k)]
  exact m_add _ _

def r_main_call6_v0 (P : Par) (t : ℕ) (h : Fin 8) (k : Fin 128) : ℝ := (P.p0 t (0 : Fin 4) h k) * (r_main_v140 P h t k)
theorem e_main_call6_v0 (H : Holds x0 x1 x2 x3 P) (t : Fin 4096) (h : Fin 8) (k : Fin 128) : (val_main_call6_v0 (F := Ideal) x0 x1 x2 x3) (ix2 t (cl h k)) = ((r_main_call6_v0 P t.val h k : ℝ) : EReal) := by
  rw [val_main_call6_v0_apply x0 x1 x2 x3, (e_main_v6 H t h k), (e_main_v164 H t h k)]
  exact m_mul _ _

def r_main_call6_v1 (P : Par) (t : ℕ) (h : Fin 8) (k : Fin 128) : ℝ := (r_main_v140 P h t k) * (r_main_v7_2 P t h k)
theorem e_main_call6_v1 (H : Holds x0 x1 x2 x3 P) (t : Fin 4096) (h : Fin 8) (k : Fin 128) : (val_main_call6_v1 (F := Ideal) x0 x1 x2 x3) (ix2 t (cl h k)) = ((r_main_call6_v1 P t.val h k : ℝ) : EReal) := by
  rw [val_main_call6_v1_apply x0 x1 x2 x3, (e_main_v164 H t h k), (e_main_v7_2 H t h k)]
  exact m_mul _ _

def r_main_call6_v2 (P : Par) (t : ℕ) (h : Fin 8) (k : Fin 128) : ℝ := (r_main_call6_v0 P t h k) * (r_main_v7_1 P t h k)
theorem e_main_call6_v2 (H : Holds x0 x1 x2 x3 P) (t : Fin 4096) (h : Fin 8) (k : Fin 128) : (val_main_call6_v2 (F := Ideal) x0 x1 x2 x3) (ix2 t (cl h k)) = ((r_main_call6_v2 P t.val h k : ℝ) : EReal) := by
  rw [val_main_call6_v2_apply x0 x1 x2 x3, (e_main_call6_v0 H t h k), (e_main_v7_1 H t h k)]
  exact m_mul _ _

def r_main_v184 (P : Par) (t : ℕ) (h : Fin 8) (k : Fin 128) : ℝ := (r_main_call6_v1 P t h k) + (r_main_call6_v2 P t h k)
theorem e_main_v184 (H : Holds x0 x1 x2 x3 P) (t : Fin 4096) (h : Fin 8) (k : Fin 128) : (val_main_v184 (F := Ideal) x0 x1 x2 x3) (ix2 t (cl h k)) = ((r_main_v184 P t.val h k : ℝ) : EReal) := by
  rw [val_main_v184_apply x0 x1 x2 x3, (e_main_call6_v1 H t h k), (e_main_call6_v2 H t h k)]
  exact m_add _ _

theorem e_main_v185 (H : Holds x0 x1 x2 x3 P) (t : Fin 4096) (h : Fin 8) (k : Fin 128) : (val_main_v185 (F := Ideal) x0 x1 x2 x3) (ix3 (0 : Fin 1) t (cl h k)) = ((r_main_v184 P t.val h k : ℝ) : EReal) :=
  (val_main_v185_apply x0 x1 x2 x3 _).trans ((congrArg (val_main_v184 (F := Ideal) x0 x1 x2 x3) (funext fun a => Fin.ext (by have := t.isLt; have := h.isLt; have := k.isLt; match a with | ⟨0, _⟩ => show t.val = t.val; rfl | ⟨1, _⟩ => show (128 * h.val + k.val) = (128 * h.val + k.val); rfl))).trans (e_main_v184 H t h k))

theorem e_main_cst_36 (i : S_.Idx) : val_main_cst_36 (F := Ideal) i = ((0 : ℝ) : EReal) := c_zero

def r_main_v186 (P : Par) (s : Fin 4) (t : ℕ) (h : Fin 8) (k : Fin 128) : ℝ := if s.val = 0 then r_main_v184 P t h k else 0
theorem e_main_v186 (H : Holds x0 x1 x2 x3 P) (s : Fin 4) (t : Fin 4096) (h : Fin 8) (k : Fin 128) : (val_main_v186 (F := Ideal) x0 x1 x2 x3) (ix3 s t (cl h k)) = ((r_main_v186 P s t.val h k : ℝ) : EReal) := by
  unfold val_main_v186
  exact pad_slot 0 3 _ _ _ _ _ s t (cl h k) (fun j => e_main_cst_36 j) (e_main_v185 H t h k)

def r_main_v187 (P : Par) (s : Fin 4) (t : ℕ) (h : Fin 8) (k : Fin 128) : ℝ := (r_main_v181 P s t h k) + (r_main_v186 P s t h k)
theorem e_main_v187 (H : Holds x0 x1 x2 x3 P) (s : Fin 4) (t : Fin 4096) (h : Fin 8) (k : Fin 128) : (val_main_v187 (F := Ideal) x0 x1 x2 x3) (ix3 s t (cl h k)) = ((r_main_v187 P s t.val h k : ℝ) : EReal) := by
  rw [val_main_v187_apply x0 x1 x2 x3, (e_main_v181 H s t h k), (e_main_v186 H s t h k)]
  exact m_add _ _

theorem e_main_v188 (H : Holds x0 x1 x2 x3 P) (s : Fin 4) (t : Fin 4096) (h : Fin 8) (k : Fin 128) : (val_main_v188 (F := Ideal) x0 x1 x2 x3) (ix3 s t (cl h k)) = ((r_main_v187 P s t.val h k : ℝ) : EReal) := (e_main_v187 H s t h k)

end Cert.Proof.Reference

end
-- ==== Proof.Closed.lean ====
/- The reference's real numbers in closed form: the same quantities the chunked gradient is written with. -/
module

public import proofs.«01_k».proof.Proof.Model
public import proofs.«01_k».proof.Proof.ReferenceReal

@[expose] public section

set_option maxRecDepth 16384

noncomputable section

namespace Cert.Proof

open Finset Cert.Proof.Reference

/-- The arrays of head `h`. -/
def arrs (P : Par) (h : Fin 8) : Arrs where
  p0 := fun t s k => P.p0 t s h k
  p1 := P.p1 h
  p2 := P.p2
  p3 := fun t k => P.p3 t h k

/-- The lower bounds lie between zero and one. -/
structure Good (P : Par) : Prop where
  nonneg : ∀ h k, 0 ≤ P.p1 h k
  lt_one : ∀ h k, P.p1 h k < 1

theorem low_sum (g : ℕ → ℝ) (t : ℕ) (ht : t < 4096) :
    (∑ m : Fin 4096, if m.val ≤ t then g m.val else 0) = ∑ u ∈ range (t + 1), g u := by
  rw [fin_range (fun m => if m ≤ t then g m else 0), ← Finset.sum_filter]
  refine Finset.sum_congr (Finset.ext fun m => ?_) fun _ _ => rfl
  simp only [Finset.mem_filter, Finset.mem_range]
  omega

theorem high_sum (g : ℕ → ℝ) (s : ℕ) :
    (∑ m : Fin 4096, if s ≤ m.val then g m.val else 0) = ∑ u ∈ Ico s 4096, g u := by
  rw [fin_range (fun m => if s ≤ m then g m else 0), ← Finset.sum_filter]
  refine Finset.sum_congr (Finset.ext fun m => ?_) fun _ _ => rfl
  simp only [Finset.mem_filter, Finset.mem_range, Finset.mem_Ico]
  omega

section
variable (P : Par) (G : Good P) (h : Fin 8) (t u : ℕ) (j k : Fin 128)

theorem c_sq : r_main_v7_2 P t h k = (arrs P h).sq t k := rfl
theorem c_q : r_main_v7_0 P t h k = (arrs P h).q t k := rfl
theorem c_sf : r_main_v17 P t h k = (arrs P h).sf t k := rfl
theorem c_fg : r_main_v24 P t h k = (arrs P h).fg t k := rfl
theorem c_sg : r_main_v95 P t h k = (arrs P h).sg t k := rfl
theorem c_lf : r_main_v25 P t h k = (arrs P h).fwd.LF t k := rfl
theorem c_cs : r_main_v39 P h t k = (arrs P h).fwd.cs (t + 1) k := rfl
theorem c_dyn : r_main_v101 P t h k = (arrs P h).dyn t k := rfl
theorem c_dohat : r_main_v110 P t h k = (arrs P h).dohat t k := rfl

section
include G

theorem fg_pos : 0 < (arrs P h).fg t k := by
  have h0 : 0 ≤ (arrs P h).p1 k := G.nonneg h k
  have h1 : (arrs P h).p1 k < 1 := G.lt_one h k
  have h2 : 0 < (arrs P h).sf t k := sgm_pos _
  show 0 < (arrs P h).p1 k + (1 - (arrs P h).p1 k) * (arrs P h).sf t k
  have h3 : 0 < 1 - (arrs P h).p1 k := by linarith
  have := mul_pos h3 h2
  linarith

theorem fg_lt : (arrs P h).fg t k < 1 := by
  have h1 : (arrs P h).p1 k < 1 := G.lt_one h k
  have h2 : (arrs P h).sf t k < 1 := sgm_lt _
  show (arrs P h).p1 k + (1 - (arrs P h).p1 k) * (arrs P h).sf t k < 1
  have h3 : 0 < 1 - (arrs P h).p1 k := by linarith
  have h4 := mul_pos h3 (sub_pos.2 h2)
  linarith

theorem c_k : r_main_v28 P t h k = (arrs P h).fwd.K t k := by
  show -(Real.exp (Real.log ((arrs P h).fg t k)) - 1) = 1 - (arrs P h).fg t k
  rw [Real.exp_log (fg_pos P G h t k)]
  ring

theorem cs_anti : StrictAnti fun n => (arrs P h).fwd.cs n k := by
  refine strictAnti_nat_of_succ_lt fun n => ?_
  show ∑ s ∈ range (n + 1), (arrs P h).fwd.LF s k < ∑ s ∈ range n, (arrs P h).fwd.LF s k
  rw [Finset.sum_range_succ]
  have : (arrs P h).fwd.LF n k < 0 := Real.log_neg (fg_pos P G h n k) (fg_lt P G h n k)
  linarith

theorem c_exp (hu : u ≤ t) : r_main_v59 P h t u k = (arrs P h).fwd.ee t u k := by
  have : (arrs P h).fwd.cs (t + 1) k ≤ (arrs P h).fwd.cs (u + 1) k := (cs_anti P G h k).antitone (by omega)
  show Real.exp (min ((arrs P h).fwd.cs (t + 1) k - (arrs P h).fwd.cs (u + 1) k) 0) = _
  rw [min_eq_left (by linarith)]
  rfl

theorem c_dec : r_main_v60_0 P h t u k = if u ≤ t then (arrs P h).fwd.ee t u k else 0 := by
  show (if u ≤ t then r_main_v59 P h t u k else 0) = _
  by_cases hu : u ≤ t
  · rw [if_pos hu, if_pos hu, c_exp P G h t u k hu]
  · rw [if_neg hu, if_neg hu]

theorem c_sco : r_main_v67 P h t u = if u ≤ t then (arrs P h).fwd.sco t u else 0 := by
  show ∑ k_ : Fin 128, r_main_v7_0 P t h k_ * r_main_v28 P u h k_ * r_main_v60_0 P h t u k_ = _
  by_cases hu : u ≤ t
  · rw [if_pos hu]
    refine Finset.sum_congr rfl fun k _ => ?_
    rw [c_q, c_k P G, c_dec P G, if_pos hu]
    rfl
  · rw [if_neg hu]
    refine Finset.sum_eq_zero fun k _ => ?_
    rw [c_dec P G, if_neg hu, mul_zero]

theorem c_o (ht : t < 4096) : r_main_v68 P h t k = (arrs P h).o t k := by
  show ∑ k_ : Fin 4096, r_main_v67 P h t k_.val * P.p0 k_.val 2 h k = ∑ s ∈ range (t + 1), (arrs P h).fwd.sco t s * (arrs P h).fwd.V s k
  rw [← low_sum (fun s => (arrs P h).fwd.sco t s * (arrs P h).fwd.V s k) t ht]
  refine Finset.sum_congr rfl fun m _ => ?_
  rw [c_sco P G]
  by_cases hu : m.val ≤ t
  · rw [if_pos hu, if_pos hu]; rfl
  · rw [if_neg hu, if_neg hu, zero_mul]

theorem c_var (ht : t < 4096) : r_main_v76 P t h = (arrs P h).var t := by
  show (∑ k_ : Fin 128, r_main_v68 P h t k_ * r_main_v68 P h t k_) / 128 + eps = _
  rw [Finset.sum_congr rfl fun k_ _ => by rw [c_o P G h t k_ ht]]
  rfl

theorem c_r (ht : t < 4096) : r_main_v77 P t h = (arrs P h).r t := by
  show (Real.sqrt (r_main_v76 P t h))⁻¹ = _
  rw [c_var P G h t ht]; rfl

theorem c_ohat (ht : t < 4096) : r_main_v82 P t h k = (arrs P h).ohat t k := by
  show r_main_v68 P h t k * r_main_v77 P t h = _
  rw [c_o P G h t k ht, c_r P G h t ht]; rfl

theorem c_do (ht : t < 4096) : r_main_v126 P t h k = (arrs P h).do_ t k := by
  have hv : 0 < (arrs P h).var t := by
    have he := eps_pos
    show 0 < (∑ j, (arrs P h).o t j * (arrs P h).o t j) / 128 + eps
    have := Finset.sum_nonneg (fun (j : Fin 128) (_ : j ∈ Finset.univ) => mul_self_nonneg ((arrs P h).o t j))
    positivity
  have h120 : r_main_v120 P t h = (∑ j, (arrs P h).o t j * (arrs P h).dohat t j) * (-(1 / 2) * ((arrs P h).r t / (arrs P h).var t)) / 128 := by
    show (∑ j, r_main_v68 P h t j * r_main_v110 P t h j) * (-(1 / 2) * (r_main_v77 P t h / r_main_v76 P t h)) / 128 = _
    rw [c_r P G h t ht, c_var P G h t ht, Finset.sum_congr rfl fun j _ => by rw [c_o P G h t j ht, c_dohat]]
  have hs : (∑ j, (arrs P h).dohat t j * (arrs P h).ohat t j) = (∑ j, (arrs P h).o t j * (arrs P h).dohat t j) * (arrs P h).r t := by
    rw [Finset.sum_mul]
    refine Finset.sum_congr rfl fun j _ => ?_
    show (arrs P h).dohat t j * ((arrs P h).o t j * (arrs P h).r t) = _
    ring
  have hr : (arrs P h).r t / (arrs P h).var t = (arrs P h).r t * ((arrs P h).r t * (arrs P h).r t) := by
    have e : (arrs P h).r t * (arrs P h).r t = ((arrs P h).var t)⁻¹ := by
      show (Real.sqrt ((arrs P h).var t))⁻¹ * (Real.sqrt ((arrs P h).var t))⁻¹ = _
      rw [← mul_inv, Real.mul_self_sqrt hv.le]
    rw [e, div_eq_mul_inv]
  show r_main_v110 P t h k * r_main_v77 P t h + r_main_v68 P h t k * r_main_v120 P t h + r_main_v120 P t h * r_main_v68 P h t k
    = (arrs P h).r t * ((arrs P h).dohat t k - (arrs P h).o t k * (arrs P h).r t * ((∑ j, (arrs P h).dohat t j * (arrs P h).ohat t j) / 128))
  rw [h120, hs, hr, c_r P G h t ht, c_o P G h t k ht, c_dohat]
  ring

theorem c_dsc (ht : t < 4096) : r_main_v130 P h t u = (arrs P h).seqs.dsc t u := by
  show ∑ k_ : Fin 128, r_main_v126 P t h k_ * P.p0 u 2 h k_ = _
  rw [Finset.sum_congr rfl fun k_ _ => by rw [c_do P G h t k_ ht]]
  rfl

theorem c_dV : r_main_v128 P h k t = (arrs P h).seqs.dV t k := by
  show ∑ k_ : Fin 4096, r_main_v126 P k_.val h k * r_main_v67 P h k_.val t = ∑ s ∈ Ico t 4096, (arrs P h).seqs.sco s t * (arrs P h).seqs.DO s k
  rw [← high_sum (fun s => (arrs P h).seqs.sco s t * (arrs P h).seqs.DO s k) t]
  refine Finset.sum_congr rfl fun m _ => ?_
  rw [c_sco P G, c_do P G h _ k m.isLt]
  by_cases hu : t ≤ m.val
  · rw [if_pos hu, if_pos hu]; exact mul_comm _ _
  · rw [if_neg hu, if_neg hu, mul_zero]

theorem c_dQ (ht : t < 4096) : r_main_v140 P h t k = (arrs P h).seqs.dQ t k := by
  show ∑ k_ : Fin 4096, r_main_v130 P h t k_.val * r_main_v60_0 P h t k_.val k * r_main_v28 P k_.val h k
    = ∑ s ∈ range (t + 1), (arrs P h).seqs.dsc t s * ((arrs P h).seqs.K s k * (arrs P h).seqs.ee t s k)
  rw [← low_sum (fun s => (arrs P h).seqs.dsc t s * ((arrs P h).seqs.K s k * (arrs P h).seqs.ee t s k)) t ht]
  refine Finset.sum_congr rfl fun m _ => ?_
  rw [c_dsc P G h t _ ht, c_dec P G, c_k P G]
  by_cases hu : m.val ≤ t
  · rw [if_pos hu, if_pos hu, mul_assoc]; exact congrArg _ (mul_comm _ _)
  · rw [if_neg hu, if_neg hu, mul_zero, zero_mul]

theorem c_dK : r_main_v136 P h t k = (arrs P h).seqs.dK t k := by
  show ∑ k_ : Fin 4096, r_main_v7_0 P k_.val h k * (r_main_v130 P h k_.val t * r_main_v60_0 P h k_.val t k)
    = ∑ s ∈ Ico t 4096, (arrs P h).seqs.dsc s t * ((arrs P h).seqs.Q s k * (arrs P h).seqs.ee s t k)
  rw [← high_sum (fun s => (arrs P h).seqs.dsc s t * ((arrs P h).seqs.Q s k * (arrs P h).seqs.ee s t k)) t]
  refine Finset.sum_congr rfl fun m _ => ?_
  rw [c_dsc P G h _ _ m.isLt, c_dec P G, c_q]
  by_cases hu : t ≤ m.val
  · rw [if_pos hu, if_pos hu]; exact mul_left_comm _ _ _
  · rw [if_neg hu, if_neg hu, mul_zero, mul_zero]

/-- Below the diagonal the clipped difference has its own slope; on it some half, which cancels. -/
theorem c_wlt (ht : t < 4096) (hu : u < t) : r_main_v146 P h t u k = (arrs P h).seqs.ww t u k := by
  have hd : r_main_v46 P h t u k < 0 := by
    have : (arrs P h).fwd.cs (t + 1) k < (arrs P h).fwd.cs (u + 1) k := cs_anti P G h k (by omega)
    show (arrs P h).fwd.cs (t + 1) k - (arrs P h).fwd.cs (u + 1) k < 0
    linarith
  show (if u ≤ t then r_main_v7_0 P t h k * r_main_v28 P u h k * r_main_v130 P h t u else 0) * r_main_v59 P h t u k
    * (if r_main_v46 P h t u k < 0 then 1 else r_main_v57 P h t u k) = _
  rw [if_pos hu.le, if_pos hd, c_q, c_k P G, c_dsc P G h t u ht, c_exp P G h t u k hu.le, mul_one]
  show (arrs P h).q t k * (arrs P h).fwd.K u k * (arrs P h).seqs.dsc t u * (arrs P h).fwd.ee t u k
    = (arrs P h).seqs.dsc t u * ((arrs P h).q t k * (arrs P h).fwd.K u k * (arrs P h).fwd.ee t u k)
  ring

theorem c_wgt (hu : t < u) : r_main_v146 P h t u k = 0 := by
  show (if u ≤ t then r_main_v7_0 P t h k * r_main_v28 P u h k * r_main_v130 P h t u else 0) * r_main_v59 P h t u k
    * (if r_main_v46 P h t u k < 0 then 1 else r_main_v57 P h t u k) = _
  rw [if_neg (by omega), zero_mul, zero_mul]

theorem c_dB (ht : t < 4096) : r_main_v154 P h t k = (arrs P h).seqs.dB t k := by
  have row : r_main_v147 P h t k = (∑ s ∈ range t, (arrs P h).seqs.ww t s k) + r_main_v146 P h t t k := by
    show ∑ k_ : Fin 4096, r_main_v146 P h t k_.val k = _
    have e : (∑ k_ : Fin 4096, r_main_v146 P h t k_.val k) = ∑ k_ : Fin 4096, (if k_.val ≤ t then r_main_v146 P h t k_.val k else 0) :=
      Finset.sum_congr rfl fun m _ => by
        by_cases hu : m.val ≤ t
        · rw [if_pos hu]
        · rw [if_neg hu, c_wgt P G h t _ k (by omega)]
    rw [e, low_sum (fun s => r_main_v146 P h t s k) t ht, Finset.sum_range_succ]
    refine congrArg (· + r_main_v146 P h t t k) (Finset.sum_congr rfl fun s hs => ?_)
    exact c_wlt P G h t s k ht (Finset.mem_range.1 hs)
  have col : r_main_v150 P h t k = -((∑ u ∈ Ico (t + 1) 4096, (arrs P h).seqs.ww u t k) + r_main_v146 P h t t k) := by
    show ∑ k_ : Fin 4096, -(r_main_v146 P h k_.val t k) = _
    rw [Finset.sum_neg_distrib]
    have e : (∑ k_ : Fin 4096, r_main_v146 P h k_.val t k) = ∑ k_ : Fin 4096, (if t ≤ k_.val then r_main_v146 P h k_.val t k else 0) :=
      Finset.sum_congr rfl fun m _ => by
        by_cases hu : t ≤ m.val
        · rw [if_pos hu]
        · rw [if_neg hu, c_wgt P G h _ t k (by omega)]
    rw [e, high_sum (fun s => r_main_v146 P h s t k) t, Finset.sum_eq_sum_Ico_succ_bot ht, add_comm]
    refine congrArg (fun x => -(x + r_main_v146 P h t t k)) (Finset.sum_congr rfl fun s hs => ?_)
    have := Finset.mem_Ico.1 hs
    exact c_wlt P G h s t k this.2 (by omega)
  show r_main_v150 P h t k + r_main_v147 P h t k = (∑ s ∈ range t, (arrs P h).seqs.ww t s k) - ∑ u ∈ Ico (t + 1) 4096, (arrs P h).seqs.ww u t k
  rw [row, col]
  ring

theorem c_dL : r_main_v155 P h t k = (arrs P h).seqs.dL t k := by
  show ∑ u ∈ Ico t 4096, r_main_v154 P h u k = ∑ u ∈ Ico t 4096, (arrs P h).seqs.dB u k
  exact Finset.sum_congr rfl fun u hu => c_dB P G h u k (Finset.mem_Ico.1 hu).2

theorem c_dfg : r_main_v170 P t h k = (arrs P h).dfg t k := by
  have hp := fg_pos P G h t k
  show (r_main_v155 P h t k + -(r_main_v136 P h t k) * Real.exp (Real.log ((arrs P h).fg t k))) / (arrs P h).fg t k
    = (arrs P h).seqs.dL t k / (arrs P h).fg t k - (arrs P h).seqs.dK t k
  rw [c_dL P G, c_dK P G, Real.exp_log hp]
  have := hp.ne'
  field_simp
  ring

theorem c_dp0 (ht : t < 4096) : r_main_v184 P t h k = (arrs P h).dp0 t k := by
  show r_main_v140 P h t k * r_main_v7_2 P t h k + P.p0 t 0 h k * r_main_v140 P h t k * (r_main_v7_2 P t h k * (1 - r_main_v7_2 P t h k))
    = (arrs P h).seqs.dQ t k * (arrs P h).sq t k * (1 + P.p0 t 0 h k * (1 - (arrs P h).sq t k))
  rw [c_dQ P G h t k ht, c_sq]
  ring

theorem c_dp1 : r_main_v178 P t h k = (arrs P h).dp1 t k := by
  show (1 - P.p1 h k) * r_main_v170 P t h k * (r_main_v17 P t h k * (1 - r_main_v17 P t h k))
    = (arrs P h).dfg t k * (1 - P.p1 h k) * (arrs P h).sf t k * (1 - (arrs P h).sf t k)
  rw [c_dfg P G, c_sf]
  ring

theorem c_dp3 (ht : t < 4096) : r_main_v102 P t h k = (arrs P h).dp3 t k := by
  show r_main_v82 P t h k * P.p2 k * P.p3 t h k * (r_main_v95 P t h k * (1 - r_main_v95 P t h k))
    = P.p3 t h k * (arrs P h).ohat t k * P.p2 k * (arrs P h).sg t k * (1 - (arrs P h).sg t k)
  rw [c_ohat P G h t k ht, c_sg]
  ring

/-- The gradient of the projection. -/
theorem c_dp (s : Fin 4) (ht : t < 4096) : r_main_v187 P s t h k = (arrs P h).dp s t k := by
  show (((if s.val = 3 then r_main_v102 P t h k else 0) + (if s.val = 2 then r_main_v128 P h k t else 0)) + (if s.val = 1 then r_main_v178 P t h k else 0))
    + (if s.val = 0 then r_main_v184 P t h k else 0) = if s = 0 then _ else if s = 1 then _ else if s = 2 then _ else _
  match s with
  | ⟨0, _⟩ => exact ((by simp : _ = r_main_v184 P t h k)).trans (c_dp0 P G h t k ht)
  | ⟨1, _⟩ => exact ((by simp : _ = r_main_v178 P t h k)).trans (c_dp1 P G h t k)
  | ⟨2, _⟩ => exact ((by simp : _ = r_main_v128 P h k t)).trans (c_dV P G h t k)
  | ⟨3, _⟩ => exact ((by simp : _ = r_main_v102 P t h k)).trans (c_dp3 P G h t k ht)

/-- The gradient of the gain, head by head. -/
theorem c_dgn : r_main_v107 P h k = (arrs P h).dgn 0 k := by
  show ∑ m : Fin 4096, r_main_v82 P m.val h k * r_main_v101 P m.val h k = ∑ t ∈ Ico (128 * 0) 4096, (arrs P h).dyn t k * (arrs P h).ohat t k
  rw [← high_sum (fun t => (arrs P h).dyn t k * (arrs P h).ohat t k) (128 * 0)]
  refine Finset.sum_congr rfl fun m _ => ?_
  rw [if_pos (by omega), c_ohat P G h _ k m.isLt, c_dyn]
  ring

/-- The gradient of the lower bound. -/
theorem c_dlb : r_main_v183 P h k = (arrs P h).dlb 0 k := by
  show (∑ m : Fin 4096, r_main_v170 P m.val h k) + -(∑ m : Fin 4096, r_main_v170 P m.val h k * r_main_v17 P m.val h k)
    = ∑ t ∈ Ico (128 * 0) 4096, (arrs P h).dfg t k * (1 - (arrs P h).sf t k)
  rw [← sub_eq_add_neg, ← Finset.sum_sub_distrib, ← high_sum (fun t => (arrs P h).dfg t k * (1 - (arrs P h).sf t k)) (128 * 0)]
  refine Finset.sum_congr rfl fun m _ => ?_
  rw [if_pos (by omega), c_dfg P G, c_sf]
  ring
end
end

end Cert.Proof

end
-- ==== Proof.SavedReal.lean ====
/- What the forward computes, whose output and states the kernel takes, one real number at a time. -/
module

public import proofs.«01_k».proof.Proof.RealOps
public import proofs.«01_k».proof.Proof.Gen.SavedIdeal.Read

@[expose] public section

set_option maxRecDepth 16384

noncomputable section

namespace Cert.Proof.Saved

open Idealize.ShloMosaic Cert.SavedIdeal Cert.SavedIdeal.Read Cert.Proof

/-- The first token of block `n`. -/
abbrev tk (n : Fin 32) : Fin 4096 := ⟨128 * n.val, by omega⟩

variable {x0 : (⟨S4096x4096, .f32⟩ : BufTy).Contents (Elt Ideal)} {x1 : (⟨S1x1024, .f32⟩ : BufTy).Contents (Elt Ideal)}
  {x2 : (⟨⟨2, ![1, 128]⟩, .f32⟩ : BufTy).Contents (Elt Ideal)} {x3 : (⟨S4096x1024, .f32⟩ : BufTy).Contents (Elt Ideal)} {P : Par}

theorem e_main_v0 (H : Holds x0 x1 x2 x3 P) (t : Fin 4096) (s : Fin 4) (h : Fin 8) (k : Fin 128) : (val_main_v0 (F := Ideal) x0) (ix3 t s (cl h k)) = ((P.p0 t.val s h k : ℝ) : EReal) :=
  (val_main_v0_apply x0 _).trans ((congrArg x0 (funext fun a => Fin.ext (by have := t.isLt; have := s.isLt; have := h.isLt; have := k.isLt; match a with | ⟨0, _⟩ => show ((t.val * 4 + s.val) * 1024 + (128 * h.val + k.val)) / 4096 = t.val; omega | ⟨1, _⟩ => show ((t.val * 4 + s.val) * 1024 + (128 * h.val + k.val)) % 4096 = (1024 * s.val + 128 * h.val + k.val); omega))).trans (H.h0 t s h k))

theorem e_main_v1 (H : Holds x0 x1 x2 x3 P) (s : Fin 4) (t : Fin 4096) (h : Fin 8) (k : Fin 128) : (val_main_v1 (F := Ideal) x0) (ix3 s t (cl h k)) = ((P.p0 t.val s h k : ℝ) : EReal) :=
  (val_main_v1_apply x0 _).trans ((congrArg (val_main_v0 (F := Ideal) x0) (funext fun a => Fin.ext (by have := s.isLt; have := t.isLt; have := h.isLt; have := k.isLt; match a with | ⟨0, _⟩ => show t.val = t.val; rfl | ⟨1, _⟩ => show s.val = s.val; rfl | ⟨2, _⟩ => show (128 * h.val + k.val) = (128 * h.val + k.val); rfl))).trans (e_main_v0 H t s h k))

theorem e_main_v2 (H : Holds x0 x1 x2 x3 P) (t : Fin 4096) (h : Fin 8) (k : Fin 128) : (val_main_v2 (F := Ideal) x0) (ix3 (0 : Fin 1) t (cl h k)) = ((P.p0 t.val (0 : Fin 4) h k : ℝ) : EReal) :=
  (val_main_v2_apply x0 _).trans ((congrArg (val_main_v1 (F := Ideal) x0) (funext fun a => Fin.ext (by have := t.isLt; have := h.isLt; have := k.isLt; match a with | ⟨0, _⟩ => show 0 = ((0 : Fin 4)).val; omega | ⟨1, _⟩ => show t.val = t.val; rfl | ⟨2, _⟩ => show (128 * h.val + k.val) = (128 * h.val + k.val); rfl))).trans (e_main_v1 H (0 : Fin 4) t h k))

theorem e_main_v3 (H : Holds x0 x1 x2 x3 P) (t : Fin 4096) (h : Fin 8) (k : Fin 128) : (val_main_v3 (F := Ideal) x0) (ix2 t (cl h k)) = ((P.p0 t.val (0 : Fin 4) h k : ℝ) : EReal) :=
  (val_main_v3_apply x0 _).trans ((congrArg (val_main_v2 (F := Ideal) x0) (funext fun a => Fin.ext (by have := t.isLt; have := h.isLt; have := k.isLt; match a with | ⟨0, _⟩ => show 0 = 0; rfl | ⟨1, _⟩ => show (t.val * 1024 + (128 * h.val + k.val)) / 1024 % 4096 = t.val; omega | ⟨2, _⟩ => show (t.val * 1024 + (128 * h.val + k.val)) % 1024 = (128 * h.val + k.val); omega))).trans (e_main_v2 H t h k))

def r_main_call0_v0 (P : Par) (t : ℕ) (h : Fin 8) (k : Fin 128) : ℝ := -(P.p0 t (0 : Fin 4) h k)
theorem e_main_call0_v0 (H : Holds x0 x1 x2 x3 P) (t : Fin 4096) (h : Fin 8) (k : Fin 128) : (val_main_call0_v0 (F := Ideal) x0) (ix2 t (cl h k)) = ((r_main_call0_v0 P t.val h k : ℝ) : EReal) := by
  rw [val_main_call0_v0_apply x0, (e_main_v3 H t h k)]
  exact m_neg _

def r_main_call0_v1 (P : Par) (t : ℕ) (h : Fin 8) (k : Fin 128) : ℝ := Real.exp (r_main_call0_v0 P t h k)
theorem e_main_call0_v1 (H : Holds x0 x1 x2 x3 P) (t : Fin 4096) (h : Fin 8) (k : Fin 128) : (val_main_call0_v1 (F := Ideal) x0) (ix2 t (cl h k)) = ((r_main_call0_v1 P t.val h k : ℝ) : EReal) := by
  rw [val_main_call0_v1_apply x0, (e_main_call0_v0 H t h k)]
  exact m_exp _

theorem e_main_call0_cst (i : S_.Idx) : val_main_call0_cst (F := Ideal) i = ((1 : ℝ) : EReal) := c_one

theorem e_main_call0_v2 (i : S4096x1024.Idx) : val_main_call0_v2 (F := Ideal) i = ((1 : ℝ) : EReal) := (val_main_call0_v2_apply i).trans (e_main_call0_cst _)

def r_main_call0_v3 (P : Par) (t : ℕ) (h : Fin 8) (k : Fin 128) : ℝ := (1) + (r_main_call0_v1 P t h k)
theorem e_main_call0_v3 (H : Holds x0 x1 x2 x3 P) (t : Fin 4096) (h : Fin 8) (k : Fin 128) : (val_main_call0_v3 (F := Ideal) x0) (ix2 t (cl h k)) = ((r_main_call0_v3 P t.val h k : ℝ) : EReal) := by
  rw [val_main_call0_v3_apply x0, e_main_call0_v2, (e_main_call0_v1 H t h k)]
  exact m_add _ _

theorem pos_main_call0_v3 (H : Holds x0 x1 x2 x3 P) (t : ℕ) (h : Fin 8) (k : Fin 128) : 0 < r_main_call0_v3 P t h k := by
  show 0 < (1 : ℝ) + Real.exp _
  positivity

theorem e_main_call0_cst_0 (i : S_.Idx) : val_main_call0_cst_0 (F := Ideal) i = ((1 : ℝ) : EReal) := c_one

theorem e_main_call0_v4 (i : S4096x1024.Idx) : val_main_call0_v4 (F := Ideal) i = ((1 : ℝ) : EReal) := (val_main_call0_v4_apply i).trans (e_main_call0_cst_0 _)

def r_main_call0_v5 (P : Par) (t : ℕ) (h : Fin 8) (k : Fin 128) : ℝ := (1) / (r_main_call0_v3 P t h k)
theorem e_main_call0_v5 (H : Holds x0 x1 x2 x3 P) (t : Fin 4096) (h : Fin 8) (k : Fin 128) : (val_main_call0_v5 (F := Ideal) x0) (ix2 t (cl h k)) = ((r_main_call0_v5 P t.val h k : ℝ) : EReal) := by
  rw [val_main_call0_v5_apply x0, e_main_call0_v4, (e_main_call0_v3 H t h k)]
  exact m_div _ _ (pos_main_call0_v3 H t.val h k).ne'

def r_main_v4 (P : Par) (t : ℕ) (h : Fin 8) (k : Fin 128) : ℝ := (P.p0 t (0 : Fin 4) h k) * (r_main_call0_v5 P t h k)
theorem e_main_v4 (H : Holds x0 x1 x2 x3 P) (t : Fin 4096) (h : Fin 8) (k : Fin 128) : (val_main_v4 (F := Ideal) x0) (ix2 t (cl h k)) = ((r_main_v4 P t.val h k : ℝ) : EReal) := by
  rw [val_main_v4_apply x0, (e_main_v3 H t h k), (e_main_call0_v5 H t h k)]
  exact m_mul _ _

theorem e_main_cst (i : S_.Idx) : val_main_cst (F := Ideal) i = ((1 : ℝ) : EReal) := c_one

theorem e_main_v5 (i : S1x1024.Idx) : val_main_v5 (F := Ideal) i = ((1 : ℝ) : EReal) := (val_main_v5_apply i).trans (e_main_cst _)

def r_main_v6 (P : Par) (h : Fin 8) (k : Fin 128) : ℝ := (1) - (P.p1 h k)
theorem e_main_v6 (H : Holds x0 x1 x2 x3 P) (h : Fin 8) (k : Fin 128) : (val_main_v6 (F := Ideal) x1) (ix2 (0 : Fin 1) (cl h k)) = ((r_main_v6 P h k : ℝ) : EReal) := by
  rw [val_main_v6_apply x1, e_main_v5, (H.h1 h k)]
  exact m_sub _ _

theorem e_main_v7 (H : Holds x0 x1 x2 x3 P) (t : Fin 4096) (h : Fin 8) (k : Fin 128) : (val_main_v7 (F := Ideal) x0) (ix3 (0 : Fin 1) t (cl h k)) = ((P.p0 t.val (1 : Fin 4) h k : ℝ) : EReal) :=
  (val_main_v7_apply x0 _).trans ((congrArg (val_main_v1 (F := Ideal) x0) (funext fun a => Fin.ext (by have := t.isLt; have := h.isLt; have := k.isLt; match a with | ⟨0, _⟩ => show 1 + 0 = ((1 : Fin 4)).val; omega | ⟨1, _⟩ => show t.val = t.val; rfl | ⟨2, _⟩ => show (128 * h.val + k.val) = (128 * h.val + k.val); rfl))).trans (e_main_v1 H (1 : Fin 4) t h k))

theorem e_main_v8 (H : Holds x0 x1 x2 x3 P) (t : Fin 4096) (h : Fin 8) (k : Fin 128) : (val_main_v8 (F := Ideal) x0) (ix2 t (cl h k)) = ((P.p0 t.val (1 : Fin 4) h k : ℝ) : EReal) :=
  (val_main_v8_apply x0 _).trans ((congrArg (val_main_v7 (F := Ideal) x0) (funext fun a => Fin.ext (by have := t.isLt; have := h.isLt; have := k.isLt; match a with | ⟨0, _⟩ => show 0 = 0; rfl | ⟨1, _⟩ => show (t.val * 1024 + (128 * h.val + k.val)) / 1024 % 4096 = t.val; omega | ⟨2, _⟩ => show (t.val * 1024 + (128 * h.val + k.val)) % 1024 = (128 * h.val + k.val); omega))).trans (e_main_v7 H t h k))

def r_main_v9 (P : Par) (t : ℕ) (h : Fin 8) (k : Fin 128) : ℝ := -(P.p0 t (1 : Fin 4) h k)
theorem e_main_v9 (H : Holds x0 x1 x2 x3 P) (t : Fin 4096) (h : Fin 8) (k : Fin 128) : (val_main_v9 (F := Ideal) x0) (ix2 t (cl h k)) = ((r_main_v9 P t.val h k : ℝ) : EReal) := by
  rw [val_main_v9_apply x0, (e_main_v8 H t h k)]
  exact m_neg _

def r_main_v10 (P : Par) (t : ℕ) (h : Fin 8) (k : Fin 128) : ℝ := Real.exp (r_main_v9 P t h k)
theorem e_main_v10 (H : Holds x0 x1 x2 x3 P) (t : Fin 4096) (h : Fin 8) (k : Fin 128) : (val_main_v10 (F := Ideal) x0) (ix2 t (cl h k)) = ((r_main_v10 P t.val h k : ℝ) : EReal) := by
  rw [val_main_v10_apply x0, (e_main_v9 H t h k)]
  exact m_exp _

theorem e_main_cst_0 (i : S_.Idx) : val_main_cst_0 (F := Ideal) i = ((1 : ℝ) : EReal) := c_one

theorem e_main_v11 (i : S4096x1024.Idx) : val_main_v11 (F := Ideal) i = ((1 : ℝ) : EReal) := (val_main_v11_apply i).trans (e_main_cst_0 _)

def r_main_v12 (P : Par) (t : ℕ) (h : Fin 8) (k : Fin 128) : ℝ := (1) + (r_main_v10 P t h k)
theorem e_main_v12 (H : Holds x0 x1 x2 x3 P) (t : Fin 4096) (h : Fin 8) (k : Fin 128) : (val_main_v12 (F := Ideal) x0) (ix2 t (cl h k)) = ((r_main_v12 P t.val h k : ℝ) : EReal) := by
  rw [val_main_v12_apply x0, e_main_v11, (e_main_v10 H t h k)]
  exact m_add _ _

theorem pos_main_v12 (H : Holds x0 x1 x2 x3 P) (t : ℕ) (h : Fin 8) (k : Fin 128) : 0 < r_main_v12 P t h k := by
  show 0 < (1 : ℝ) + Real.exp _
  positivity

theorem e_main_cst_1 (i : S_.Idx) : val_main_cst_1 (F := Ideal) i = ((1 : ℝ) : EReal) := c_one

theorem e_main_v13 (i : S4096x1024.Idx) : val_main_v13 (F := Ideal) i = ((1 : ℝ) : EReal) := (val_main_v13_apply i).trans (e_main_cst_1 _)

def r_main_v14 (P : Par) (t : ℕ) (h : Fin 8) (k : Fin 128) : ℝ := (1) / (r_main_v12 P t h k)
theorem e_main_v14 (H : Holds x0 x1 x2 x3 P) (t : Fin 4096) (h : Fin 8) (k : Fin 128) : (val_main_v14 (F := Ideal) x0) (ix2 t (cl h k)) = ((r_main_v14 P t.val h k : ℝ) : EReal) := by
  rw [val_main_v14_apply x0, e_main_v13, (e_main_v12 H t h k)]
  exact m_div _ _ (pos_main_v12 H t.val h k).ne'

theorem e_main_v15 (H : Holds x0 x1 x2 x3 P) (t : Fin 4096) (h : Fin 8) (k : Fin 128) : (val_main_v15 (F := Ideal) x1) (ix2 t (cl h k)) = ((r_main_v6 P h k : ℝ) : EReal) :=
  (val_main_v15_apply x1 _).trans ((congrArg (val_main_v6 (F := Ideal) x1) (funext fun a => Fin.ext (by have := t.isLt; have := h.isLt; have := k.isLt; match a with | ⟨0, _⟩ => show 0 = 0; rfl | ⟨1, _⟩ => show (128 * h.val + k.val) = (128 * h.val + k.val); rfl))).trans (e_main_v6 H h k))

def r_main_v16 (P : Par) (t : ℕ) (h : Fin 8) (k : Fin 128) : ℝ := (r_main_v6 P h k) * (r_main_v14 P t h k)
theorem e_main_v16 (H : Holds x0 x1 x2 x3 P) (t : Fin 4096) (h : Fin 8) (k : Fin 128) : (val_main_v16 (F := Ideal) x0 x1) (ix2 t (cl h k)) = ((r_main_v16 P t.val h k : ℝ) : EReal) := by
  rw [val_main_v16_apply x0 x1, (e_main_v15 H t h k), (e_main_v14 H t h k)]
  exact m_mul _ _

theorem e_main_v17 (H : Holds x0 x1 x2 x3 P) (t : Fin 4096) (h : Fin 8) (k : Fin 128) : (val_main_v17 (F := Ideal) x1) (ix2 t (cl h k)) = ((P.p1 h k : ℝ) : EReal) :=
  (val_main_v17_apply x1 _).trans ((congrArg x1 (funext fun a => Fin.ext (by have := t.isLt; have := h.isLt; have := k.isLt; match a with | ⟨0, _⟩ => show 0 = 0; rfl | ⟨1, _⟩ => show (128 * h.val + k.val) = (128 * h.val + k.val); rfl))).trans (H.h1 h k))

def r_main_v18 (P : Par) (t : ℕ) (h : Fin 8) (k : Fin 128) : ℝ := (P.p1 h k) + (r_main_v16 P t h k)
theorem e_main_v18 (H : Holds x0 x1 x2 x3 P) (t : Fin 4096) (h : Fin 8) (k : Fin 128) : (val_main_v18 (F := Ideal) x0 x1) (ix2 t (cl h k)) = ((r_main_v18 P t.val h k : ℝ) : EReal) := by
  rw [val_main_v18_apply x0 x1, (e_main_v17 H t h k), (e_main_v16 H t h k)]
  exact m_add _ _

theorem pos_main_v18 (H : Holds x0 x1 x2 x3 P) (t : ℕ) (h : Fin 8) (k : Fin 128) : 0 < r_main_v18 P t h k := by
  show 0 < P.p1 h k + (1 - P.p1 h k) * (1 / (1 + Real.exp (-P.p0 t 1 h k)))
  have h0 := H.nonneg h k
  have h1 := H.lt_one h k
  have h2 : 0 < 1 - P.p1 h k := by linarith
  positivity

def r_main_v19 (P : Par) (t : ℕ) (h : Fin 8) (k : Fin 128) : ℝ := Real.log (r_main_v18 P t h k)
theorem e_main_v19 (H : Holds x0 x1 x2 x3 P) (t : Fin 4096) (h : Fin 8) (k : Fin 128) : (val_main_v19 (F := Ideal) x0 x1) (ix2 t (cl h k)) = ((r_main_v19 P t.val h k : ℝ) : EReal) := by
  rw [val_main_v19_apply x0 x1, (e_main_v18 H t h k)]
  exact m_log _ (pos_main_v18 H t.val h k)

def r_main_v20 (P : Par) (t : ℕ) (h : Fin 8) (k : Fin 128) : ℝ := Real.exp (r_main_v19 P t h k) - 1
theorem e_main_v20 (H : Holds x0 x1 x2 x3 P) (t : Fin 4096) (h : Fin 8) (k : Fin 128) : (val_main_v20 (F := Ideal) x0 x1) (ix2 t (cl h k)) = ((r_main_v20 P t.val h k : ℝ) : EReal) := by
  rw [val_main_v20_apply x0 x1, (e_main_v19 H t h k)]
  exact m_expm1 _

def r_main_v21 (P : Par) (t : ℕ) (h : Fin 8) (k : Fin 128) : ℝ := -(r_main_v20 P t h k)
theorem e_main_v21 (H : Holds x0 x1 x2 x3 P) (t : Fin 4096) (h : Fin 8) (k : Fin 128) : (val_main_v21 (F := Ideal) x0 x1) (ix2 t (cl h k)) = ((r_main_v21 P t.val h k : ℝ) : EReal) := by
  rw [val_main_v21_apply x0 x1, (e_main_v20 H t h k)]
  exact m_neg _

theorem e_main_v22 (H : Holds x0 x1 x2 x3 P) (t : Fin 4096) (h : Fin 8) (k : Fin 128) : (val_main_v22 (F := Ideal) x0 x1) (ix3 t h k) = ((r_main_v19 P t.val h k : ℝ) : EReal) :=
  (val_main_v22_apply x0 x1 _).trans ((congrArg (val_main_v19 (F := Ideal) x0 x1) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v19 H t h k))

theorem e_main_v23 (H : Holds x0 x1 x2 x3 P) (h : Fin 8) (t : Fin 4096) (k : Fin 128) : (val_main_v23 (F := Ideal) x0 x1) (ix3 h t k) = ((r_main_v19 P t.val h k : ℝ) : EReal) :=
  (val_main_v23_apply x0 x1 _).trans ((congrArg (val_main_v22 (F := Ideal) x0 x1) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v22 H t h k))

theorem e_main_v24 (H : Holds x0 x1 x2 x3 P) (t : Fin 4096) (h : Fin 8) (k : Fin 128) : (val_main_v24 (F := Ideal) x0) (ix3 t h k) = ((r_main_v4 P t.val h k : ℝ) : EReal) :=
  (val_main_v24_apply x0 _).trans ((congrArg (val_main_v4 (F := Ideal) x0) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v4 H t h k))

theorem e_main_v25 (H : Holds x0 x1 x2 x3 P) (h : Fin 8) (t : Fin 4096) (k : Fin 128) : (val_main_v25 (F := Ideal) x0) (ix3 h t k) = ((r_main_v4 P t.val h k : ℝ) : EReal) :=
  (val_main_v25_apply x0 _).trans ((congrArg (val_main_v24 (F := Ideal) x0) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v24 H t h k))

theorem e_main_v26 (H : Holds x0 x1 x2 x3 P) (t : Fin 4096) (h : Fin 8) (k : Fin 128) : (val_main_v26 (F := Ideal) x0 x1) (ix3 t h k) = ((r_main_v21 P t.val h k : ℝ) : EReal) :=
  (val_main_v26_apply x0 x1 _).trans ((congrArg (val_main_v21 (F := Ideal) x0 x1) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v21 H t h k))

theorem e_main_v27 (H : Holds x0 x1 x2 x3 P) (h : Fin 8) (t : Fin 4096) (k : Fin 128) : (val_main_v27 (F := Ideal) x0 x1) (ix3 h t k) = ((r_main_v21 P t.val h k : ℝ) : EReal) :=
  (val_main_v27_apply x0 x1 _).trans ((congrArg (val_main_v26 (F := Ideal) x0 x1) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v26 H t h k))

theorem e_main_v28 (H : Holds x0 x1 x2 x3 P) (t : Fin 4096) (h : Fin 8) (k : Fin 128) : (val_main_v28 (F := Ideal) x0) (ix3 (0 : Fin 1) t (cl h k)) = ((P.p0 t.val (2 : Fin 4) h k : ℝ) : EReal) :=
  (val_main_v28_apply x0 _).trans ((congrArg (val_main_v1 (F := Ideal) x0) (funext fun a => Fin.ext (by have := t.isLt; have := h.isLt; have := k.isLt; match a with | ⟨0, _⟩ => show 2 + 0 = ((2 : Fin 4)).val; omega | ⟨1, _⟩ => show t.val = t.val; rfl | ⟨2, _⟩ => show (128 * h.val + k.val) = (128 * h.val + k.val); rfl))).trans (e_main_v1 H (2 : Fin 4) t h k))

theorem e_main_v29 (H : Holds x0 x1 x2 x3 P) (t : Fin 4096) (h : Fin 8) (k : Fin 128) : (val_main_v29 (F := Ideal) x0) (ix2 t (cl h k)) = ((P.p0 t.val (2 : Fin 4) h k : ℝ) : EReal) :=
  (val_main_v29_apply x0 _).trans ((congrArg (val_main_v28 (F := Ideal) x0) (funext fun a => Fin.ext (by have := t.isLt; have := h.isLt; have := k.isLt; match a with | ⟨0, _⟩ => show 0 = 0; rfl | ⟨1, _⟩ => show (t.val * 1024 + (128 * h.val + k.val)) / 1024 % 4096 = t.val; omega | ⟨2, _⟩ => show (t.val * 1024 + (128 * h.val + k.val)) % 1024 = (128 * h.val + k.val); omega))).trans (e_main_v28 H t h k))

theorem e_main_v30 (H : Holds x0 x1 x2 x3 P) (t : Fin 4096) (h : Fin 8) (k : Fin 128) : (val_main_v30 (F := Ideal) x0) (ix3 t h k) = ((P.p0 t.val (2 : Fin 4) h k : ℝ) : EReal) :=
  (val_main_v30_apply x0 _).trans ((congrArg (val_main_v29 (F := Ideal) x0) (funext fun a => Fin.ext (by have := t.isLt; have := h.isLt; have := k.isLt; match a with | ⟨0, _⟩ => show ((t.val * 8 + h.val) * 128 + k.val) / 1024 = t.val; omega | ⟨1, _⟩ => show ((t.val * 8 + h.val) * 128 + k.val) % 1024 = (128 * h.val + k.val); omega))).trans (e_main_v29 H t h k))

theorem e_main_v31 (H : Holds x0 x1 x2 x3 P) (h : Fin 8) (t : Fin 4096) (k : Fin 128) : (val_main_v31 (F := Ideal) x0) (ix3 h t k) = ((P.p0 t.val (2 : Fin 4) h k : ℝ) : EReal) :=
  (val_main_v31_apply x0 _).trans ((congrArg (val_main_v30 (F := Ideal) x0) (funext fun a => Fin.ext (by have := h.isLt; have := t.isLt; have := k.isLt; match a with | ⟨0, _⟩ => show t.val = t.val; rfl | ⟨1, _⟩ => show h.val = h.val; rfl | ⟨2, _⟩ => show k.val = k.val; rfl))).trans (e_main_v30 H t h k))

theorem e_main_call1_call0_cst (i : S_.Idx) : val_main_call1_call0_cst (F := Ideal) i = ((0 : ℝ) : EReal) := c_zero

theorem e_main_call1_call0_v0 (i : S_.Idx) : val_main_call1_call0_v0 (F := Ideal) i = ((0 : ℝ) : EReal) := (val_main_call1_call0_v0_apply i).trans (e_main_call1_call0_cst _)

def r_main_v32 (P : Par) (h : Fin 8) (t : ℕ) (k : Fin 128) : ℝ := ∑ u ∈ Finset.range (t + 1), r_main_v19 P u h k
theorem e_main_v32 (H : Holds x0 x1 x2 x3 P) (h : Fin 8) (t : Fin 4096) (k : Fin 128) : (val_main_v32 (F := Ideal) x0 x1) (ix3 h t k) = ((r_main_v32 P h t.val k : ℝ) : EReal) := by
  unfold val_main_v32
  refine (window_sum 4095 0 _ _ _ _ (fun h t k => r_main_v19 P t h k) (fun h t k => (e_main_v23 H h t k)) (fun j => e_main_call1_call0_v0 j) h t k).trans ?_
  exact congrArg Real.toEReal (cum_sum (fun t => r_main_v19 P t h k) t.val t.isLt)

theorem e_main_v34 (H : Holds x0 x1 x2 x3 P) (t : Fin 4096) (u : Fin 4096) : val_main_v34 (F := Ideal) (ix2 t u) = if u.val ≤ t.val then 1#1 else 0#1 := by
  rw [val_main_v34_apply, val_main_call2_v4_apply, val_main_call2_v2_apply, val_main_call2_v0_apply, val_main_call2_v1_apply, val_main_call2_v3_apply, val_main_call2_c_apply, val_main_v33_apply, val_main_c_apply, val_main_call2_v5_apply, val_main_call2_c_0_apply]
  refine (congrArg (fun q => Scalar.select q (1#1 : BitVec 1) 0#1) (tril_word t.val u.val t.isLt u.isLt)).trans ?_
  by_cases h : u.val ≤ t.val
  · rw [if_pos h]; rfl
  · rw [if_neg h]; rfl

theorem e_main_v35 (H : Holds x0 x1 x2 x3 P) (h : Fin 8) (t : Fin 4096) (k : Fin 128) : (val_main_v35 (F := Ideal) x0 x1) (ix4 h t (0 : Fin 1) k) = ((r_main_v32 P h t.val k : ℝ) : EReal) :=
  (val_main_v35_apply x0 x1 _).trans ((congrArg (val_main_v32 (F := Ideal) x0 x1) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v32 H h t k))

theorem e_main_v36 (H : Holds x0 x1 x2 x3 P) (h : Fin 8) (t : Fin 4096) (k : Fin 128) : (val_main_v36 (F := Ideal) x0 x1) (ix4 h (0 : Fin 1) t k) = ((r_main_v32 P h t.val k : ℝ) : EReal) :=
  (val_main_v36_apply x0 x1 _).trans ((congrArg (val_main_v32 (F := Ideal) x0 x1) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v32 H h t k))

theorem e_main_v37 (H : Holds x0 x1 x2 x3 P) (h : Fin 8) (t : Fin 4096) (u : Fin 4096) (k : Fin 128) : (val_main_v37 (F := Ideal) x0 x1) (ix4 h t u k) = ((r_main_v32 P h t.val k : ℝ) : EReal) :=
  (val_main_v37_apply x0 x1 _).trans ((congrArg (val_main_v35 (F := Ideal) x0 x1) (funext fun a => Fin.ext (by have := h.isLt; have := t.isLt; have := u.isLt; have := k.isLt; match a with | ⟨0, _⟩ => show h.val = h.val; rfl | ⟨1, _⟩ => show t.val = t.val; rfl | ⟨2, _⟩ => show 0 = 0; rfl | ⟨3, _⟩ => show k.val = k.val; rfl))).trans (e_main_v35 H h t k))

theorem e_main_v38 (H : Holds x0 x1 x2 x3 P) (h : Fin 8) (t : Fin 4096) (u : Fin 4096) (k : Fin 128) : (val_main_v38 (F := Ideal) x0 x1) (ix4 h t u k) = ((r_main_v32 P h u.val k : ℝ) : EReal) :=
  (val_main_v38_apply x0 x1 _).trans ((congrArg (val_main_v36 (F := Ideal) x0 x1) (funext fun a => Fin.ext (by have := h.isLt; have := t.isLt; have := u.isLt; have := k.isLt; match a with | ⟨0, _⟩ => show h.val = h.val; rfl | ⟨1, _⟩ => show 0 = 0; rfl | ⟨2, _⟩ => show u.val = u.val; rfl | ⟨3, _⟩ => show k.val = k.val; rfl))).trans (e_main_v36 H h u k))

def r_main_v39 (P : Par) (h : Fin 8) (t : ℕ) (u : ℕ) (k : Fin 128) : ℝ := (r_main_v32 P h t k) - (r_main_v32 P h u k)
theorem e_main_v39 (H : Holds x0 x1 x2 x3 P) (h : Fin 8) (t : Fin 4096) (u : Fin 4096) (k : Fin 128) : (val_main_v39 (F := Ideal) x0 x1) (ix4 h t u k) = ((r_main_v39 P h t.val u.val k : ℝ) : EReal) := by
  rw [val_main_v39_apply x0 x1, (e_main_v37 H h t u k), (e_main_v38 H h t u k)]
  exact m_sub _ _

theorem e_main_v40 (H : Holds x0 x1 x2 x3 P) (t : Fin 4096) (u : Fin 4096) : (val_main_v40 (F := Ideal)) (ix3 t u (0 : Fin 1)) = if u.val ≤ t.val then 1#1 else 0#1 :=
  (val_main_v40_apply _).trans ((congrArg (val_main_v34 (F := Ideal)) (funext fun a => Fin.ext (by have := t.isLt; have := u.isLt; match a with | ⟨0, _⟩ => show t.val = t.val; rfl | ⟨1, _⟩ => show u.val = u.val; rfl))).trans (e_main_v34 H t u))

theorem e_main_cst_2 (i : S_.Idx) : val_main_cst_2 (F := Ideal) i = ((0 : ℝ) : EReal) := c_zero

theorem e_main_v41 (i : S8x4096x4096x128.Idx) : val_main_v41 (F := Ideal) i = ((0 : ℝ) : EReal) := (val_main_v41_apply i).trans (e_main_cst_2 _)

def r_main_v42 (P : Par) (h : Fin 8) (t : ℕ) (u : ℕ) (k : Fin 128) : ℝ := min (r_main_v39 P h t u k) (0)
theorem e_main_v42 (H : Holds x0 x1 x2 x3 P) (h : Fin 8) (t : Fin 4096) (u : Fin 4096) (k : Fin 128) : (val_main_v42 (F := Ideal) x0 x1) (ix4 h t u k) = ((r_main_v42 P h t.val u.val k : ℝ) : EReal) := by
  rw [val_main_v42_apply x0 x1, (e_main_v39 H h t u k), e_main_v41]
  exact m_min _ _

def r_main_v43 (P : Par) (h : Fin 8) (t : ℕ) (u : ℕ) (k : Fin 128) : ℝ := Real.exp (r_main_v42 P h t u k)
theorem e_main_v43 (H : Holds x0 x1 x2 x3 P) (h : Fin 8) (t : Fin 4096) (u : Fin 4096) (k : Fin 128) : (val_main_v43 (F := Ideal) x0 x1) (ix4 h t u k) = ((r_main_v43 P h t.val u.val k : ℝ) : EReal) := by
  rw [val_main_v43_apply x0 x1, (e_main_v42 H h t u k)]
  exact m_exp _

theorem e_main_cst_3 (i : S_.Idx) : val_main_cst_3 (F := Ideal) i = ((0 : ℝ) : EReal) := c_zero

theorem e_main_call3_v0 (i : S_.Idx) : val_main_call3_v0 (F := Ideal) i = ((0 : ℝ) : EReal) := (val_main_call3_v0_apply i).trans (e_main_cst_3 _)

theorem e_main_call3_v1 (H : Holds x0 x1 x2 x3 P) (h : Fin 8) (t : Fin 4096) (u : Fin 4096) (k : Fin 128) : (val_main_call3_v1 (F := Ideal)) (ix4 h t u k) = if u.val ≤ t.val then 1#1 else 0#1 :=
  (val_main_call3_v1_apply _).trans ((congrArg (val_main_v40 (F := Ideal)) (funext fun a => Fin.ext (by have := h.isLt; have := t.isLt; have := u.isLt; have := k.isLt; match a with | ⟨0, _⟩ => show t.val = t.val; rfl | ⟨1, _⟩ => show u.val = u.val; rfl | ⟨2, _⟩ => show 0 = 0; rfl))).trans (e_main_v40 H t u))

theorem e_main_call3_v2 (i : S8x4096x4096x128.Idx) : val_main_call3_v2 (F := Ideal) i = ((0 : ℝ) : EReal) := (val_main_call3_v2_apply i).trans (e_main_call3_v0 _)

def r_main_v44 (P : Par) (h : Fin 8) (t : ℕ) (u : ℕ) (k : Fin 128) : ℝ := if u ≤ t then r_main_v43 P h t u k else 0
theorem e_main_v44 (H : Holds x0 x1 x2 x3 P) (h : Fin 8) (t : Fin 4096) (u : Fin 4096) (k : Fin 128) : (val_main_v44 (F := Ideal) x0 x1) (ix4 h t u k) = ((r_main_v44 P h t.val u.val k : ℝ) : EReal) := by
  rw [val_main_v44_apply x0 x1, (e_main_call3_v1 H h t u k), (e_main_v43 H h t u k), e_main_call3_v2]
  exact m_sel _ _ _

theorem e_main_v45 (H : Holds x0 x1 x2 x3 P) (h : Fin 8) (t : Fin 4096) (k : Fin 128) : (val_main_v45 (F := Ideal) x0) (ix4 h t (0 : Fin 1) k) = ((r_main_v4 P t.val h k : ℝ) : EReal) :=
  (val_main_v45_apply x0 _).trans ((congrArg (val_main_v25 (F := Ideal) x0) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v25 H h t k))

theorem e_main_v46 (H : Holds x0 x1 x2 x3 P) (h : Fin 8) (t : Fin 4096) (k : Fin 128) : (val_main_v46 (F := Ideal) x0 x1) (ix4 h (0 : Fin 1) t k) = ((r_main_v21 P t.val h k : ℝ) : EReal) :=
  (val_main_v46_apply x0 x1 _).trans ((congrArg (val_main_v27 (F := Ideal) x0 x1) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v27 H h t k))

theorem e_main_v47 (H : Holds x0 x1 x2 x3 P) (h : Fin 8) (t : Fin 4096) (u : Fin 4096) (k : Fin 128) : (val_main_v47 (F := Ideal) x0) (ix4 h t u k) = ((r_main_v4 P t.val h k : ℝ) : EReal) :=
  (val_main_v47_apply x0 _).trans ((congrArg (val_main_v45 (F := Ideal) x0) (funext fun a => Fin.ext (by have := h.isLt; have := t.isLt; have := u.isLt; have := k.isLt; match a with | ⟨0, _⟩ => show h.val = h.val; rfl | ⟨1, _⟩ => show t.val = t.val; rfl | ⟨2, _⟩ => show 0 = 0; rfl | ⟨3, _⟩ => show k.val = k.val; rfl))).trans (e_main_v45 H h t k))

theorem e_main_v48 (H : Holds x0 x1 x2 x3 P) (h : Fin 8) (t : Fin 4096) (u : Fin 4096) (k : Fin 128) : (val_main_v48 (F := Ideal) x0 x1) (ix4 h t u k) = ((r_main_v21 P u.val h k : ℝ) : EReal) :=
  (val_main_v48_apply x0 x1 _).trans ((congrArg (val_main_v46 (F := Ideal) x0 x1) (funext fun a => Fin.ext (by have := h.isLt; have := t.isLt; have := u.isLt; have := k.isLt; match a with | ⟨0, _⟩ => show h.val = h.val; rfl | ⟨1, _⟩ => show 0 = 0; rfl | ⟨2, _⟩ => show u.val = u.val; rfl | ⟨3, _⟩ => show k.val = k.val; rfl))).trans (e_main_v46 H h u k))

def r_main_v49 (P : Par) (h : Fin 8) (t : ℕ) (u : ℕ) (k : Fin 128) : ℝ := (r_main_v4 P t h k) * (r_main_v21 P u h k)
theorem e_main_v49 (H : Holds x0 x1 x2 x3 P) (h : Fin 8) (t : Fin 4096) (u : Fin 4096) (k : Fin 128) : (val_main_v49 (F := Ideal) x0 x1) (ix4 h t u k) = ((r_main_v49 P h t.val u.val k : ℝ) : EReal) := by
  rw [val_main_v49_apply x0 x1, (e_main_v47 H h t u k), (e_main_v48 H h t u k)]
  exact m_mul _ _

def r_main_v50 (P : Par) (h : Fin 8) (t : ℕ) (u : ℕ) (k : Fin 128) : ℝ := (r_main_v49 P h t u k) * (r_main_v44 P h t u k)
theorem e_main_v50 (H : Holds x0 x1 x2 x3 P) (h : Fin 8) (t : Fin 4096) (u : Fin 4096) (k : Fin 128) : (val_main_v50 (F := Ideal) x0 x1) (ix4 h t u k) = ((r_main_v50 P h t.val u.val k : ℝ) : EReal) := by
  rw [val_main_v50_apply x0 x1, (e_main_v49 H h t u k), (e_main_v44 H h t u k)]
  exact m_mul _ _

theorem e_main_cst_4 (i : S_.Idx) : val_main_cst_4 (F := Ideal) i = ((0 : ℝ) : EReal) := c_zero

def r_main_v51 (P : Par) (h : Fin 8) (t : ℕ) (u : ℕ) : ℝ := ∑ k_ : Fin 128, r_main_v50 P h t u k_
theorem e_main_v51 (H : Holds x0 x1 x2 x3 P) (h : Fin 8) (t : Fin 4096) (u : Fin 4096) : (val_main_v51 (F := Ideal) x0 x1) (ix3 h t u) = ((r_main_v51 P h t.val u.val : ℝ) : EReal) :=
  (val_main_v51_apply x0 x1 _).trans (m_red _ _ _ (e_main_cst_4 _) fun k_ => (congrArg (val_main_v50 (F := Ideal) x0 x1) (funext fun a => Fin.ext (by have := h.isLt; have := t.isLt; have := u.isLt; have := k_.isLt; match a with | ⟨0, _⟩ => show h.val = h.val; rfl | ⟨1, _⟩ => show t.val = t.val; rfl | ⟨2, _⟩ => show u.val = u.val; rfl | ⟨3, _⟩ => show k_.val = k_.val; rfl))).trans (e_main_v50 H h t u k_))

def r_main_v52 (P : Par) (h : Fin 8) (t : ℕ) (k : Fin 128) : ℝ := ∑ k_ : Fin 4096, (r_main_v51 P h t k_.val) * (P.p0 k_.val (2 : Fin 4) h k)
theorem e_main_v52 (H : Holds x0 x1 x2 x3 P) (h : Fin 8) (t : Fin 4096) (k : Fin 128) : (val_main_v52 (F := Ideal) x0 x1) (ix3 h t k) = ((r_main_v52 P h t.val k : ℝ) : EReal) :=
  (val_main_v52_apply x0 x1 _).trans (m_dot _ _ _ _ (fun k_ => (congrArg (val_main_v51 (F := Ideal) x0 x1) (funext fun a => Fin.ext (by have := h.isLt; have := t.isLt; have := k.isLt; have := k_.isLt; match a with | ⟨0, _⟩ => show h.val = h.val; rfl | ⟨1, _⟩ => show t.val = t.val; rfl | ⟨2, _⟩ => show k_.val = k_.val; rfl))).trans (e_main_v51 H h t k_)) (fun k_ => (congrArg (val_main_v31 (F := Ideal) x0) (funext fun a => Fin.ext (by have := h.isLt; have := t.isLt; have := k.isLt; have := k_.isLt; match a with | ⟨0, _⟩ => show h.val = h.val; rfl | ⟨1, _⟩ => show k_.val = k_.val; rfl | ⟨2, _⟩ => show k.val = k.val; rfl))).trans (e_main_v31 H h k_ k)))

theorem e_main_v53 (H : Holds x0 x1 x2 x3 P) (t : Fin 4096) (h : Fin 8) (k : Fin 128) : (val_main_v53 (F := Ideal) x0 x1) (ix3 t h k) = ((r_main_v52 P h t.val k : ℝ) : EReal) :=
  (val_main_v53_apply x0 x1 _).trans ((congrArg (val_main_v52 (F := Ideal) x0 x1) (funext fun a => Fin.ext (by have := t.isLt; have := h.isLt; have := k.isLt; match a with | ⟨0, _⟩ => show h.val = h.val; rfl | ⟨1, _⟩ => show t.val = t.val; rfl | ⟨2, _⟩ => show k.val = k.val; rfl))).trans (e_main_v52 H h t k))

theorem e_main_v54 (H : Holds x0 x1 x2 x3 P) (t : Fin 4096) (h : Fin 8) (k : Fin 128) : (val_main_v54 (F := Ideal) x0 x1) (ix2 t (cl h k)) = ((r_main_v52 P h t.val k : ℝ) : EReal) :=
  (val_main_v54_apply x0 x1 _).trans ((congrArg (val_main_v53 (F := Ideal) x0 x1) (funext fun a => Fin.ext (by have := t.isLt; have := h.isLt; have := k.isLt; match a with | ⟨0, _⟩ => show (t.val * 1024 + (128 * h.val + k.val)) / 1024 = t.val; omega | ⟨1, _⟩ => show (t.val * 1024 + (128 * h.val + k.val)) / 128 % 8 = h.val; omega | ⟨2, _⟩ => show (t.val * 1024 + (128 * h.val + k.val)) % 128 = k.val; omega))).trans (e_main_v53 H t h k))

theorem e_main_v63 (H : Holds x0 x1 x2 x3 P) (n : Fin 32) (t : Fin 4096) : val_main_v63 (F := Ideal) (ix2 n t) = if t.val < 128 * n.val then 1#1 else 0#1 := by
  rw [val_main_v63_apply, val_main_v61_apply, val_main_v59_apply, val_main_v58_apply, val_main_v62_apply, val_main_v60_apply, val_main_v57_apply, val_main_v55_apply, val_main_v56_apply, val_main_c_5_apply]
  exact before_word t.val n.val t.isLt n.isLt

theorem e_main_v64 (H : Holds x0 x1 x2 x3 P) (h : Fin 8) (n : Fin 32) (k : Fin 128) : (val_main_v64 (F := Ideal) x0 x1) (ix3 h n k) = ((r_main_v32 P h (128 * n.val) k : ℝ) : EReal) :=
  (Host.slice_apply _ _ _ _ _).trans ((congrArg (val_main_v32 (F := Ideal) x0 x1) (funext fun a => Fin.ext (by match a with | ⟨0, _⟩ => show 0 + 1 * h.val = h.val; omega | ⟨1, _⟩ => show 0 + 128 * n.val = 128 * n.val; omega | ⟨2, _⟩ => show 0 + 1 * k.val = k.val; omega))).trans (e_main_v32 H h (tk n) k))

theorem e_main_v65 (H : Holds x0 x1 x2 x3 P) (h : Fin 8) (n : Fin 32) (k : Fin 128) : (val_main_v65 (F := Ideal) x0 x1) (ix3 h n k) = ((r_main_v19 P (128 * n.val) h k : ℝ) : EReal) :=
  (Host.slice_apply _ _ _ _ _).trans ((congrArg (val_main_v23 (F := Ideal) x0 x1) (funext fun a => Fin.ext (by match a with | ⟨0, _⟩ => show 0 + 1 * h.val = h.val; omega | ⟨1, _⟩ => show 0 + 128 * n.val = 128 * n.val; omega | ⟨2, _⟩ => show 0 + 1 * k.val = k.val; omega))).trans (e_main_v23 H h (tk n) k))

def r_main_v66 (P : Par) (h : Fin 8) (n : Fin 32) (k : Fin 128) : ℝ := (r_main_v32 P h (128 * n.val) k) - (r_main_v19 P (128 * n.val) h k)
theorem e_main_v66 (H : Holds x0 x1 x2 x3 P) (h : Fin 8) (n : Fin 32) (k : Fin 128) : (val_main_v66 (F := Ideal) x0 x1) (ix3 h n k) = ((r_main_v66 P h n k : ℝ) : EReal) := by
  rw [val_main_v66_apply x0 x1, (e_main_v64 H h n k), (e_main_v65 H h n k)]
  exact m_sub _ _

theorem e_main_v67 (H : Holds x0 x1 x2 x3 P) (h : Fin 8) (n : Fin 32) (k : Fin 128) : (val_main_v67 (F := Ideal) x0 x1) (ix4 h n (0 : Fin 1) k) = ((r_main_v66 P h n k : ℝ) : EReal) :=
  (val_main_v67_apply x0 x1 _).trans ((congrArg (val_main_v66 (F := Ideal) x0 x1) (funext fun a => Fin.ext (by have := h.isLt; have := n.isLt; have := k.isLt; match a with | ⟨0, _⟩ => show h.val = h.val; rfl | ⟨1, _⟩ => show n.val = n.val; rfl | ⟨2, _⟩ => show k.val = k.val; rfl))).trans (e_main_v66 H h n k))

theorem e_main_v68 (H : Holds x0 x1 x2 x3 P) (h : Fin 8) (t : Fin 4096) (k : Fin 128) : (val_main_v68 (F := Ideal) x0 x1) (ix4 h (0 : Fin 1) t k) = ((r_main_v32 P h t.val k : ℝ) : EReal) :=
  (val_main_v68_apply x0 x1 _).trans ((congrArg (val_main_v32 (F := Ideal) x0 x1) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v32 H h t k))

theorem e_main_v69 (H : Holds x0 x1 x2 x3 P) (h : Fin 8) (n : Fin 32) (t : Fin 4096) (k : Fin 128) : (val_main_v69 (F := Ideal) x0 x1) (ix4 h n t k) = ((r_main_v66 P h n k : ℝ) : EReal) :=
  (val_main_v69_apply x0 x1 _).trans ((congrArg (val_main_v67 (F := Ideal) x0 x1) (funext fun a => Fin.ext (by have := h.isLt; have := n.isLt; have := t.isLt; have := k.isLt; match a with | ⟨0, _⟩ => show h.val = h.val; rfl | ⟨1, _⟩ => show n.val = n.val; rfl | ⟨2, _⟩ => show 0 = 0; rfl | ⟨3, _⟩ => show k.val = k.val; rfl))).trans (e_main_v67 H h n k))

theorem e_main_v70 (H : Holds x0 x1 x2 x3 P) (h : Fin 8) (n : Fin 32) (t : Fin 4096) (k : Fin 128) : (val_main_v70 (F := Ideal) x0 x1) (ix4 h n t k) = ((r_main_v32 P h t.val k : ℝ) : EReal) :=
  (val_main_v70_apply x0 x1 _).trans ((congrArg (val_main_v68 (F := Ideal) x0 x1) (funext fun a => Fin.ext (by have := h.isLt; have := n.isLt; have := t.isLt; have := k.isLt; match a with | ⟨0, _⟩ => show h.val = h.val; rfl | ⟨1, _⟩ => show 0 = 0; rfl | ⟨2, _⟩ => show t.val = t.val; rfl | ⟨3, _⟩ => show k.val = k.val; rfl))).trans (e_main_v68 H h t k))

def r_main_v71 (P : Par) (h : Fin 8) (n : Fin 32) (t : ℕ) (k : Fin 128) : ℝ := (r_main_v66 P h n k) - (r_main_v32 P h t k)
theorem e_main_v71 (H : Holds x0 x1 x2 x3 P) (h : Fin 8) (n : Fin 32) (t : Fin 4096) (k : Fin 128) : (val_main_v71 (F := Ideal) x0 x1) (ix4 h n t k) = ((r_main_v71 P h n t.val k : ℝ) : EReal) := by
  rw [val_main_v71_apply x0 x1, (e_main_v69 H h n t k), (e_main_v70 H h n t k)]
  exact m_sub _ _

theorem e_main_v72 (H : Holds x0 x1 x2 x3 P) (n : Fin 32) (t : Fin 4096) : (val_main_v72 (F := Ideal)) (ix3 n t (0 : Fin 1)) = if t.val < 128 * n.val then 1#1 else 0#1 :=
  (val_main_v72_apply _).trans ((congrArg (val_main_v63 (F := Ideal)) (funext fun a => Fin.ext (by have := n.isLt; have := t.isLt; match a with | ⟨0, _⟩ => show n.val = n.val; rfl | ⟨1, _⟩ => show t.val = t.val; rfl))).trans (e_main_v63 H n t))

theorem e_main_cst_6 (i : S_.Idx) : val_main_cst_6 (F := Ideal) i = ((0 : ℝ) : EReal) := c_zero

theorem e_main_v73 (i : S8x32x4096x128.Idx) : val_main_v73 (F := Ideal) i = ((0 : ℝ) : EReal) := (val_main_v73_apply i).trans (e_main_cst_6 _)

def r_main_v74 (P : Par) (h : Fin 8) (n : Fin 32) (t : ℕ) (k : Fin 128) : ℝ := min (r_main_v71 P h n t k) (0)
theorem e_main_v74 (H : Holds x0 x1 x2 x3 P) (h : Fin 8) (n : Fin 32) (t : Fin 4096) (k : Fin 128) : (val_main_v74 (F := Ideal) x0 x1) (ix4 h n t k) = ((r_main_v74 P h n t.val k : ℝ) : EReal) := by
  rw [val_main_v74_apply x0 x1, (e_main_v71 H h n t k), e_main_v73]
  exact m_min _ _

def r_main_v75 (P : Par) (h : Fin 8) (n : Fin 32) (t : ℕ) (k : Fin 128) : ℝ := Real.exp (r_main_v74 P h n t k)
theorem e_main_v75 (H : Holds x0 x1 x2 x3 P) (h : Fin 8) (n : Fin 32) (t : Fin 4096) (k : Fin 128) : (val_main_v75 (F := Ideal) x0 x1) (ix4 h n t k) = ((r_main_v75 P h n t.val k : ℝ) : EReal) := by
  rw [val_main_v75_apply x0 x1, (e_main_v74 H h n t k)]
  exact m_exp _

theorem e_main_cst_7 (i : S_.Idx) : val_main_cst_7 (F := Ideal) i = ((0 : ℝ) : EReal) := c_zero

theorem e_main_call4_v0 (i : S_.Idx) : val_main_call4_v0 (F := Ideal) i = ((0 : ℝ) : EReal) := (val_main_call4_v0_apply i).trans (e_main_cst_7 _)

theorem e_main_call4_v1 (H : Holds x0 x1 x2 x3 P) (h : Fin 8) (n : Fin 32) (t : Fin 4096) (k : Fin 128) : (val_main_call4_v1 (F := Ideal)) (ix4 h n t k) = if t.val < 128 * n.val then 1#1 else 0#1 :=
  (val_main_call4_v1_apply _).trans ((congrArg (val_main_v72 (F := Ideal)) (funext fun a => Fin.ext (by have := h.isLt; have := n.isLt; have := t.isLt; have := k.isLt; match a with | ⟨0, _⟩ => show n.val = n.val; rfl | ⟨1, _⟩ => show t.val = t.val; rfl | ⟨2, _⟩ => show 0 = 0; rfl))).trans (e_main_v72 H n t))

theorem e_main_call4_v2 (i : S8x32x4096x128.Idx) : val_main_call4_v2 (F := Ideal) i = ((0 : ℝ) : EReal) := (val_main_call4_v2_apply i).trans (e_main_call4_v0 _)

def r_main_v76 (P : Par) (h : Fin 8) (n : Fin 32) (t : ℕ) (k : Fin 128) : ℝ := if t < 128 * n.val then r_main_v75 P h n t k else 0
theorem e_main_v76 (H : Holds x0 x1 x2 x3 P) (h : Fin 8) (n : Fin 32) (t : Fin 4096) (k : Fin 128) : (val_main_v76 (F := Ideal) x0 x1) (ix4 h n t k) = ((r_main_v76 P h n t.val k : ℝ) : EReal) := by
  rw [val_main_v76_apply x0 x1, (e_main_call4_v1 H h n t k), (e_main_v75 H h n t k), e_main_call4_v2]
  exact m_sel _ _ _

theorem e_main_v77 (H : Holds x0 x1 x2 x3 P) (h : Fin 8) (t : Fin 4096) (k : Fin 128) : (val_main_v77 (F := Ideal) x0 x1) (ix4 h (0 : Fin 1) t k) = ((r_main_v21 P t.val h k : ℝ) : EReal) :=
  (val_main_v77_apply x0 x1 _).trans ((congrArg (val_main_v27 (F := Ideal) x0 x1) (funext fun a => Fin.ext (by have := h.isLt; have := t.isLt; have := k.isLt; match a with | ⟨0, _⟩ => show h.val = h.val; rfl | ⟨1, _⟩ => show t.val = t.val; rfl | ⟨2, _⟩ => show k.val = k.val; rfl))).trans (e_main_v27 H h t k))

theorem e_main_v78 (H : Holds x0 x1 x2 x3 P) (h : Fin 8) (n : Fin 32) (t : Fin 4096) (k : Fin 128) : (val_main_v78 (F := Ideal) x0 x1) (ix4 h n t k) = ((r_main_v21 P t.val h k : ℝ) : EReal) :=
  (val_main_v78_apply x0 x1 _).trans ((congrArg (val_main_v77 (F := Ideal) x0 x1) (funext fun a => Fin.ext (by have := h.isLt; have := n.isLt; have := t.isLt; have := k.isLt; match a with | ⟨0, _⟩ => show h.val = h.val; rfl | ⟨1, _⟩ => show 0 = 0; rfl | ⟨2, _⟩ => show t.val = t.val; rfl | ⟨3, _⟩ => show k.val = k.val; rfl))).trans (e_main_v77 H h t k))

def r_main_v79 (P : Par) (h : Fin 8) (n : Fin 32) (t : ℕ) (k : Fin 128) : ℝ := (r_main_v21 P t h k) * (r_main_v76 P h n t k)
theorem e_main_v79 (H : Holds x0 x1 x2 x3 P) (h : Fin 8) (n : Fin 32) (t : Fin 4096) (k : Fin 128) : (val_main_v79 (F := Ideal) x0 x1) (ix4 h n t k) = ((r_main_v79 P h n t.val k : ℝ) : EReal) := by
  rw [val_main_v79_apply x0 x1, (e_main_v78 H h n t k), (e_main_v76 H h n t k)]
  exact m_mul _ _

def r_main_v80 (P : Par) (h : Fin 8) (n : Fin 32) (k : Fin 128) (j : Fin 128) : ℝ := ∑ k_ : Fin 4096, (r_main_v79 P h n k_.val k) * (P.p0 k_.val (2 : Fin 4) h j)
theorem e_main_v80 (H : Holds x0 x1 x2 x3 P) (h : Fin 8) (n : Fin 32) (k : Fin 128) (j : Fin 128) : (val_main_v80 (F := Ideal) x0 x1) (ix4 h n k j) = ((r_main_v80 P h n k j : ℝ) : EReal) :=
  (val_main_v80_apply x0 x1 _).trans (m_dot _ _ _ _ (fun k_ => (congrArg (val_main_v79 (F := Ideal) x0 x1) (funext fun a => Fin.ext (by have := h.isLt; have := n.isLt; have := k.isLt; have := j.isLt; have := k_.isLt; match a with | ⟨0, _⟩ => show h.val = h.val; rfl | ⟨1, _⟩ => show n.val = n.val; rfl | ⟨2, _⟩ => show k_.val = k_.val; rfl | ⟨3, _⟩ => show k.val = k.val; rfl))).trans (e_main_v79 H h n k_ k)) (fun k_ => (congrArg (val_main_v31 (F := Ideal) x0) (funext fun a => Fin.ext (by have := h.isLt; have := n.isLt; have := k.isLt; have := j.isLt; have := k_.isLt; match a with | ⟨0, _⟩ => show h.val = h.val; rfl | ⟨1, _⟩ => show k_.val = k_.val; rfl | ⟨2, _⟩ => show j.val = j.val; rfl))).trans (e_main_v31 H h k_ j)))

theorem e_main_v81 (H : Holds x0 x1 x2 x3 P) (n : Fin 32) (h : Fin 8) (k : Fin 128) (j : Fin 128) : (val_main_v81 (F := Ideal) x0 x1) (ix4 n h k j) = ((r_main_v80 P h n j k : ℝ) : EReal) :=
  (val_main_v81_apply x0 x1 _).trans ((congrArg (val_main_v80 (F := Ideal) x0 x1) (funext fun a => Fin.ext (by have := n.isLt; have := h.isLt; have := k.isLt; have := j.isLt; match a with | ⟨0, _⟩ => show h.val = h.val; rfl | ⟨1, _⟩ => show n.val = n.val; rfl | ⟨2, _⟩ => show j.val = j.val; rfl | ⟨3, _⟩ => show k.val = k.val; rfl))).trans (e_main_v80 H h n j k))

end Cert.Proof.Saved

end
-- ==== Proof.ClosedSaved.lean ====
/- The saved forward results in closed form. -/
module

public import proofs.«01_k».proof.Proof.Closed
public import proofs.«01_k».proof.Proof.SavedReal

@[expose] public section

set_option maxRecDepth 16384

noncomputable section

namespace Cert.Proof.Saved

open Finset

variable (P : Par) (G : Good P) (h : Fin 8) (t u : ℕ) (j k : Fin 128)
include G

theorem s_k : r_main_v21 P t h k = (arrs P h).fwd.K t k := by
  show -(Real.exp (Real.log ((arrs P h).fg t k)) - 1) = 1 - (arrs P h).fg t k
  rw [Real.exp_log (fg_pos P G h t k)]
  ring

theorem s_sco : r_main_v51 P h t u = if u ≤ t then (arrs P h).fwd.sco t u else 0 := by
  show ∑ k_ : Fin 128, (arrs P h).q t k_ * r_main_v21 P u h k_
    * (if u ≤ t then Real.exp (min ((arrs P h).fwd.cs (t + 1) k_ - (arrs P h).fwd.cs (u + 1) k_) 0) else 0) = _
  by_cases hu : u ≤ t
  · rw [if_pos hu]
    refine Finset.sum_congr rfl fun k _ => ?_
    have : (arrs P h).fwd.cs (t + 1) k ≤ (arrs P h).fwd.cs (u + 1) k := (cs_anti P G h k).antitone (by omega)
    rw [s_k P G, if_pos hu, min_eq_left (by linarith)]
    rfl
  · rw [if_neg hu]
    refine Finset.sum_eq_zero fun k _ => ?_
    rw [if_neg hu, mul_zero]

theorem s_o (ht : t < 4096) : r_main_v52 P h t k = (arrs P h).o t k := by
  show ∑ k_ : Fin 4096, r_main_v51 P h t k_.val * P.p0 k_.val 2 h k = ∑ s ∈ range (t + 1), (arrs P h).fwd.sco t s * (arrs P h).fwd.V s k
  rw [← low_sum (fun s => (arrs P h).fwd.sco t s * (arrs P h).fwd.V s k) t ht]
  refine Finset.sum_congr rfl fun m _ => ?_
  rw [s_sco P G]
  by_cases hu : m.val ≤ t
  · rw [if_pos hu, if_pos hu]; rfl
  · rw [if_neg hu, if_neg hu, zero_mul]

theorem s_st (n : Fin 32) : r_main_v80 P h n k j = (arrs P h).fwd.sts n.val j k := by
  have e : ∀ f : ℕ → ℝ, (∑ s ∈ range (128 * n.val), f s) = ∑ m : Fin 4096, if m.val < 128 * n.val then f m.val else 0 := by
    intro f
    rw [fin_range (fun m => if m < 128 * n.val then f m else 0), ← Finset.sum_filter]
    refine Finset.sum_congr (Finset.ext fun m => ?_) fun _ _ => rfl
    have := n.isLt
    simp only [Finset.mem_filter, Finset.mem_range]
    omega
  show ∑ m : Fin 4096, r_main_v21 P m.val h k * (if m.val < 128 * n.val then Real.exp (min ((arrs P h).fwd.cs (128 * n.val + 1) k - (arrs P h).fwd.LF (128 * n.val) k
    - (arrs P h).fwd.cs (m.val + 1) k) 0) else 0) * P.p0 m.val 2 h j
    = ∑ s ∈ range (128 * n.val), (arrs P h).fwd.V s j * ((arrs P h).fwd.K s k * Real.exp ((arrs P h).fwd.cs (128 * n.val) k - (arrs P h).fwd.cs (s + 1) k))
  rw [e]
  refine Finset.sum_congr rfl fun m _ => ?_
  by_cases hm : m.val < 128 * n.val
  · have c : (arrs P h).fwd.cs (128 * n.val + 1) k - (arrs P h).fwd.LF (128 * n.val) k = (arrs P h).fwd.cs (128 * n.val) k := by
      show ∑ s ∈ range (128 * n.val + 1), (arrs P h).fwd.LF s k - (arrs P h).fwd.LF (128 * n.val) k = ∑ s ∈ range (128 * n.val), (arrs P h).fwd.LF s k
      rw [Finset.sum_range_succ, add_sub_cancel_right]
    have : (arrs P h).fwd.cs (128 * n.val) k ≤ (arrs P h).fwd.cs (m.val + 1) k := (cs_anti P G h k).antitone (by omega)
    rw [if_pos hm, if_pos hm, c, s_k P G, min_eq_left (by linarith)]
    exact mul_comm _ _
  · rw [if_neg hm, if_neg hm, mul_zero, zero_mul]

end Cert.Proof.Saved

end
-- ==== Proof.Grid.lean ====
/- The whole grid: what every point leaves, by induction over the points, and the three result arrays after the run. -/
module

public import proofs.«01_k».proof.Proof.Points
public import proofs.«01_k».proof.Proof.Host
public import proofs.«01_k».proof.Proof.Reads
public import proofs.«01_k».proof.Proof.ClosedSaved
public import proofs.«01_k».proof.Proof.Region.Value

@[expose] public section

set_option maxRecDepth 16384

noncomputable section

namespace Cert.Proof

open Idealize.ShloMosaic Idealize.SL.Sem Cert.KernelIdeal Cert.KernelIdeal.Gen Idealize.ShloMosaic.Pointwise

/-- Head `h` of pair `g`. -/
def hd (g : ℕ) (h : Fin 2) : Fin 8 := ⟨(2 * g + h.val) % 8, by omega⟩
/-- The arrays of the two heads of pair `g`. -/
def pair (P : Par) (g : ℕ) : Fin 2 → Arrs := fun h => arrs P (hd g h)

/-- What is left when the chunks of block `b` are done. -/
structure Left (A : Fin 2 → Arrs) (b : ℕ)
    (r : Vec Ideal S4x512x256 .bf16 × Vec Ideal S1x256 .f32 × Vec Ideal S1x256 .f32 × Vec Ideal S2x128x128 .f32 × Vec Ideal S2x1x128 .f32) : Prop where
  out : ∀ s (n : Fin 4) h p j, r.1 (ix3 s (row n p) (col h j)) = (((A h).dp s (128 * (4 * b + n) + p) j : ℝ) : EReal)
  s13 : ∀ h j, r.2.1 (ix2 (0 : Fin 1) (col h j)) = (((stOf A (4 * b)).2.2.1 h j : ℝ) : EReal)
  s14 : ∀ h j, r.2.2.1 (ix2 (0 : Fin 1) (col h j)) = (((stOf A (4 * b)).2.2.2 h j : ℝ) : EReal)
  ss0 : ∀ h v j, r.2.2.2.1 (ix3 h v j) = (((stOf A (4 * b)).1 h v j : ℝ) : EReal)
  ss1 : ∀ h j, r.2.2.2.2 (ix3 h (0 : Fin 1) j) = (((stOf A (4 * b)).2.1 h j : ℝ) : EReal)

theorem left_of {A : Fin 2 → Arrs} {b : ℕ} (hb : b < 8)
    {r : Vec Ideal S4x512x256 .bf16 × Vec Ideal S1x256 .f32 × Vec Ideal S1x256 .f32 × Vec Ideal S2x128x128 .f32 × Vec Ideal S2x1x128 .f32}
    (H : After (blocks A b) (stOf A (4 * b + 4)).2.2.1 (stOf A (4 * b + 4)).2.2.2 (stOf A (4 * b + 4)).1 (stOf A (4 * b + 4)).2.1 r) : Left A b r := by
  have e := chain_eq A b hb 4 le_rfl
  rw [show 4 * b + 4 - 4 = 4 * b by omega] at e
  refine ⟨fun s n h p j => ?_, fun h j => ?_, fun h j => ?_, fun h v j => ?_, fun h j => ?_⟩
  · refine (H.out s n h p j).trans (congrArg (Real.toEReal) ?_)
    have hn := n.isLt
    rw [chain_eq A b hb (3 - n.val) (by omega)]
    have hf := at_full A b (3 - n.val) (by omega) h
    rw [← rev_rev n] at hf
    rw [hf, outv_full (A h) _ (by omega), show 4 * b + 3 - (3 - n.val) = 4 * b + n.val by omega]
  · rw [H.s13 h j, e]
  · rw [H.s14 h j, e]
  · rw [H.ss0 h v j, e]
  · rw [H.ss1 h j, e]

section
variable (m : (ℓ : Loc nD τ sig) → Buf (Elt Ideal) ℓ) (c : Dev nD) {P : Par} (G : Good P)
  (H : Holds (m ((c.tc : Thread nD τ).loc main_arg0)) (m ((c.tc : Thread nD τ).loc main_arg1)) (m ((c.tc : Thread nD τ).loc main_arg2)) (m ((c.tc : Thread nD τ).loc main_arg3)) P)

/-- The token of row `i` of chunk `n` of the block of point `t`. -/
def tok (t : Fin cfg0.N) (n : Fin 4) (i : Fin 128) : Fin 4096 := ⟨128 * (4 * (7 - t.val % 8) + n.val) + i.val, by omega⟩

theorem lt32 (t : Fin cfg0.N) : t.val < 32 := lt_of_lt_of_eq t.isLt (show cfg0.N = 32 from N_0)

include G H

set_option maxHeartbeats 2000000 in
theorem blks (t : Fin cfg0.N) :
    Blks (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (blocks (pair P (t.val / 8)) (7 - t.val % 8)) where
  q0 := fun n h i j => by
    have ht := lt32 t
    refine (congrArg (V m c main_arg0) (emb0 t (row n i) (col h j) (tok t n i) (cp 0 (hd (t.val / 8) h) j) ?_ ?_)).trans
      ((congrFun (V_main_arg0 m c) _).trans (H.h0 (tok t n i) 0 (hd (t.val / 8) h) j))
    · show 128 * (4 * (7 - t.val % 8) + n.val) + i.val = 512 * (7 - t.val % 8) + (128 * n.val + i.val); omega
    · show 1024 * 0 + 128 * ((2 * (t.val / 8) + h.val) % 8) + j.val = 256 * (t.val / 8) + (128 * h.val + j.val); omega
  f0 := fun n h i j => by
    have ht := lt32 t
    refine (congrArg (V m c main_arg0) (emb1 t (row n i) (col h j) (tok t n i) (cp 1 (hd (t.val / 8) h) j) ?_ ?_)).trans
      ((congrFun (V_main_arg0 m c) _).trans (H.h0 (tok t n i) 1 (hd (t.val / 8) h) j))
    · show 128 * (4 * (7 - t.val % 8) + n.val) + i.val = 512 * (7 - t.val % 8) + (128 * n.val + i.val); omega
    · show 1024 * 1 + 128 * ((2 * (t.val / 8) + h.val) % 8) + j.val = 256 * (4 + t.val / 8) + (128 * h.val + j.val); omega
  i0 := fun n h i j => by
    have ht := lt32 t
    refine (congrArg (V m c main_arg0) (emb2 t (row n i) (col h j) (tok t n i) (cp 2 (hd (t.val / 8) h) j) ?_ ?_)).trans
      ((congrFun (V_main_arg0 m c) _).trans (H.h0 (tok t n i) 2 (hd (t.val / 8) h) j))
    · show 128 * (4 * (7 - t.val % 8) + n.val) + i.val = 512 * (7 - t.val % 8) + (128 * n.val + i.val); omega
    · show 1024 * 2 + 128 * ((2 * (t.val / 8) + h.val) % 8) + j.val = 256 * (8 + t.val / 8) + (128 * h.val + j.val); omega
  g0 := fun n h i j => by
    have ht := lt32 t
    refine (congrArg (V m c main_arg0) (emb3 t (row n i) (col h j) (tok t n i) (cp 3 (hd (t.val / 8) h) j) ?_ ?_)).trans
      ((congrFun (V_main_arg0 m c) _).trans (H.h0 (tok t n i) 3 (hd (t.val / 8) h) j))
    · show 128 * (4 * (7 - t.val % 8) + n.val) + i.val = 512 * (7 - t.val % 8) + (128 * n.val + i.val); omega
    · show 1024 * 3 + 128 * ((2 * (t.val / 8) + h.val) % 8) + j.val = 256 * (12 + t.val / 8) + (128 * h.val + j.val); omega
  lb := fun n h j => by
    have ht := lt32 t
    refine (congrArg (V m c main_arg1) (emb4 t 0 (col h j) 0 (cl (hd (t.val / 8) h) j) rfl ?_)).trans
      ((congrFun (V_main_arg1 m c) _).trans (H.h1 (hd (t.val / 8) h) j))
    show 128 * ((2 * (t.val / 8) + h.val) % 8) + j.val = 256 * (t.val / 8) + (128 * h.val + j.val); omega
  gn := fun n h j => (congrArg (V m c main_arg2) (emb5 t 0 j 0 j rfl rfl)).trans ((congrFun (V_main_arg2 m c) _).trans (H.h2 j))
  o := fun n h i j => by
    have ht := lt32 t
    refine (congrArg (V m c main_v54) (emb6 t (row n i) (col h j) (tok t n i) (cl (hd (t.val / 8) h) j) ?_ ?_)).trans
      ((congrFun (V_o m c) _).trans ((Saved.e_main_v54 H (tok t n i) (hd (t.val / 8) h) j).trans
        (congrArg Real.toEReal (Saved.s_o P G (hd (t.val / 8) h) (tok t n i).val j (tok t n i).isLt))))
    · show 128 * (4 * (7 - t.val % 8) + n.val) + i.val = 512 * (7 - t.val % 8) + (128 * n.val + i.val); omega
    · show 128 * ((2 * (t.val / 8) + h.val) % 8) + j.val = 256 * (t.val / 8) + (128 * h.val + j.val); omega
  st := fun n h i j => by
    have ht := lt32 t
    have hn := n.isLt
    let N : Fin 32 := ⟨4 * (7 - t.val % 8) + n.val, by omega⟩
    refine (congrArg (V m c main_v81) (emb7 t n h i j N (hd (t.val / 8) h) i j rfl ?_ rfl rfl)).trans
      ((congrFun (V_st m c) _).trans ((Saved.e_main_v81 H N (hd (t.val / 8) h) i j).trans
        (congrArg Real.toEReal (Saved.s_st P G (hd (t.val / 8) h) i j N))))
    show (2 * (t.val / 8) + h.val) % 8 = 2 * (t.val / 8) + h.val; omega
  dy := fun n h i j => by
    have ht := lt32 t
    refine (congrArg (V m c main_arg3) (emb8 t (row n i) (col h j) (tok t n i) (cl (hd (t.val / 8) h) j) ?_ ?_)).trans
      ((congrFun (V_main_arg3 m c) _).trans (H.h3 (tok t n i) (hd (t.val / 8) h) j))
    · show 128 * (4 * (7 - t.val % 8) + n.val) + i.val = 512 * (7 - t.val % 8) + (128 * n.val + i.val); omega
    · show 128 * ((2 * (t.val / 8) + h.val) % 8) + j.val = 256 * (t.val / 8) + (128 * h.val + j.val); omega
  M := fun n h i j => (congrArg (V m c main_v138) (emb9 t i j i j rfl rfl)).trans (V_M m c i j)
  mask := fun n h l i j => (congrArg (V m c main_v135) (emb10 t l i j l i j rfl rfl rfl)).trans (V_mask m c l i j)
  suf := fun n h i j => (congrArg (V m c main_v139) (emb11 t i j i j rfl rfl)).trans (V_suf m c i j)
  pos := fun n h i j => lt_of_lt_of_eq (fg_pos P G (hd (t.val / 8) h) (128 * (4 * (7 - t.val % 8) + n.val) + i.val) j)
    (ho_fg (A := arrs P (hd (t.val / 8) h)) (n := 4 * (7 - t.val % 8) + n.val) (D := 0) (R := 0) (i := i) (k := j)).symm

theorem left_at (n : ℕ) (hn : n < cfg0.N) : Left (pair P (n / 8)) (7 - n % 8) (outsAt0 m c n hn) := by
  induction n using Nat.strong_induction_on with
  | _ n ih =>
    by_cases h0 : n % 8 = 0
    · rw [outsAt0_A m c ⟨n, hn⟩ h0]
      refine left_of (by omega) ?_
      have e : 4 * (7 - n % 8) + 4 = 32 := by omega
      rw [e, stOf_last]
      exact pointA (c := c) ((hcond0_0 ⟨n, hn⟩).mpr h0) (blks m c G H ⟨n, hn⟩)
    · rw [outsAt0_B m c ⟨n, hn⟩ h0]
      refine left_of (by omega) ?_
      have L := ih (n - 1) (by omega) (by omega)
      rw [show (n - 1) / 8 = n / 8 by omega, show 7 - (n - 1) % 8 = 7 - n % 8 + 1 by omega] at L
      have l13 := L.s13
      have l14 := L.s14
      have ls0 := L.ss0
      have ls1 := L.ss1
      rw [show 4 * (7 - n % 8 + 1) = 4 * (7 - n % 8) + 4 by omega] at l13 l14 ls0 ls1
      exact pointB (c := c) (fun h => h0 ((hcond0_0 ⟨n, hn⟩).mp h)) (blks m c G H ⟨n, hn⟩) _ _ _ _ l13 l14 ls0 ls1

end

end Cert.Proof

end
-- ==== Proof.Arrays.lean ====
/- The three result arrays after the run: they are the reference's. -/
module

public import proofs.«01_k».proof.Proof.Grid
public import Idealize.ShloMosaic.Lib.Pipeline.ValueKit.Geometry

@[expose] public section

set_option maxRecDepth 16384

noncomputable section

namespace Cert.Proof

open Idealize.ShloMosaic Idealize.SL.Sem Cert.KernelIdeal Cert.KernelIdeal.Gen Cert.KernelIdeal.Value Idealize.ShloMosaic.Pointwise

theorem row_of (a : Fin 512) : ∃ n p, a = row n p :=
  ⟨⟨a.val / 128, by omega⟩, ⟨a.val % 128, by omega⟩, Fin.ext (by show a.val = 128 * (a.val / 128) + a.val % 128; omega)⟩
theorem col_of (b : Fin 256) : ∃ h j, b = col h j :=
  ⟨⟨b.val / 128, by omega⟩, ⟨b.val % 128, by omega⟩, Fin.ext (by show b.val = 128 * (b.val / 128) + b.val % 128; omega)⟩
theorem ix3_of {a b d : ℕ} (y : (⟨3, ![a, b, d]⟩ : Shape).Idx) : y = ix3 (y 0) (y 1) (y 2) :=
  funext fun i => match i with | ⟨0, _⟩ => rfl | ⟨1, _⟩ => rfl | ⟨2, _⟩ => rfl
theorem ix2_of {a b : ℕ} (y : (⟨2, ![a, b]⟩ : Shape).Idx) : y = ix2 (y 0) (y 1) :=
  funext fun i => match i with | ⟨0, _⟩ => rfl | ⟨1, _⟩ => rfl

theorem last_point (g : ℕ) (hg : g < 4) (r : ℕ) (hr : r < 8) : 8 * g + r < cfg0.N := lt_of_lt_of_eq (show 8 * g + r < 32 by omega) (show cfg0.N = 32 from N_0).symm

theorem cover12 (i : S4x4096x1024.Idx) : ∃ t : Fin cfg0.N, (cfg0.win 12).flush t = true ∧ i ∈ ((cfg0.win 12).blk t).view.set := by
  have h1 : (i 1).val < 4096 := (i 1).isLt
  have h2 : (i 2).val < 1024 := (i 2).isLt
  have l := last_point ((i 2).val / 256) (by omega) (7 - (i 1).val / 512) (by omega)
  refine ⟨⟨8 * ((i 2).val / 256) + (7 - (i 1).val / 512), l⟩, flush0_12 _, ?_⟩
  have e := emb12 ⟨8 * ((i 2).val / 256) + (7 - (i 1).val / 512), l⟩ (i 0) ⟨(i 1).val % 512, by omega⟩ ⟨(i 2).val % 256, by omega⟩ (i 0) (i 1) (i 2) rfl
    (by show (i 1).val = 512 * (7 - (8 * ((i 2).val / 256) + (7 - (i 1).val / 512)) % 8) + (i 1).val % 512; omega)
    (by show (i 2).val = 256 * ((8 * ((i 2).val / 256) + (7 - (i 1).val / 512)) / 8) + (i 2).val % 256; omega)
  exact Eq.subst (motive := fun x => x ∈ ((cfg0.win 12).blk _).view.set) (e.trans (ix3_of i).symm) (View.emb_mem_set _ _)

theorem cover13 (i : S1x1024.Idx) : ∃ t : Fin cfg0.N, (cfg0.win 13).flush t = true ∧ i ∈ ((cfg0.win 13).blk t).view.set := by
  have h1 : (i 1).val < 1024 := (i 1).isLt
  have l := last_point ((i 1).val / 256) (by omega) 7 (by omega)
  refine ⟨⟨8 * ((i 1).val / 256) + 7, l⟩, (flush0_13 ⟨8 * ((i 1).val / 256) + 7, l⟩).mpr (by show (8 * ((i 1).val / 256) + 7) % 8 = 7; omega), ?_⟩
  have e := emb13 ⟨8 * ((i 1).val / 256) + 7, l⟩ (i 0) ⟨(i 1).val % 256, by omega⟩ (i 0) (i 1) rfl
    (by show (i 1).val = 256 * ((8 * ((i 1).val / 256) + 7) / 8) + (i 1).val % 256; omega)
  exact Eq.subst (motive := fun x => x ∈ ((cfg0.win 13).blk _).view.set) (e.trans (ix2_of i).symm) (View.emb_mem_set _ _)

theorem cover14 (i : S1x1024.Idx) : ∃ t : Fin cfg0.N, (cfg0.win 14).flush t = true ∧ i ∈ ((cfg0.win 14).blk t).view.set := by
  have h1 : (i 1).val < 1024 := (i 1).isLt
  have l := last_point ((i 1).val / 256) (by omega) 7 (by omega)
  refine ⟨⟨8 * ((i 1).val / 256) + 7, l⟩, (flush0_14 ⟨8 * ((i 1).val / 256) + 7, l⟩).mpr (by show (8 * ((i 1).val / 256) + 7) % 8 = 7; omega), ?_⟩
  have e := emb14 ⟨8 * ((i 1).val / 256) + 7, l⟩ (i 0) ⟨(i 1).val % 256, by omega⟩ (i 0) (i 1) rfl
    (by show (i 1).val = 256 * ((8 * ((i 1).val / 256) + 7) / 8) + (i 1).val % 256; omega)
  exact Eq.subst (motive := fun x => x ∈ ((cfg0.win 14).blk _).view.set) (e.trans (ix2_of i).symm) (View.emb_mem_set _ _)

variable (m : (ℓ : Loc nD τ sig) → Buf (Elt Ideal) ℓ) (c : Dev nD) {P : Par} (G : Good P)
  (H : Holds (m ((c.tc : Thread nD τ).loc main_arg0)) (m ((c.tc : Thread nD τ).loc main_arg1)) (m ((c.tc : Thread nD τ).loc main_arg2)) (m ((c.tc : Thread nD τ).loc main_arg3)) P)
include G H

theorem arr12 : (dats m 0 c).arrAt 12 cfg0.N = Cert.ReferenceIdeal.Read.val_main_v188 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_cover 12 _ (fun t _ => ?_) cover12
  · rw [flushed12]
    refine funext fun y => ?_
    have ht := lt32 t
    obtain ⟨n, p, hy1⟩ := row_of (y 1)
    obtain ⟨h, j, hy2⟩ := col_of (y 2)
    have hy : y = ix3 (y 0) (row n p) (col h j) := (ix3_of y).trans (congrArg₂ (ix3 (y 0)) hy1 hy2)
    rw [hy]
    refine ((left_at m c G H t.val t.isLt).out (y 0) n h p j).trans ?_
    refine Eq.symm ((congrArg (Cert.ReferenceIdeal.Read.val_main_v188 (F := Ideal) _ _ _ _) (emb12 t (y 0) (row n p) (col h j) (y 0) (tok t n p) (cl (hd (t.val / 8) h) j) rfl ?_ ?_)).trans
      ((Reference.e_main_v188 H (y 0) (tok t n p) (hd (t.val / 8) h) j).trans (congrArg Real.toEReal (c_dp P G (hd (t.val / 8) h) (tok t n p).val j (y 0) (tok t n p).isLt))))
    · show 128 * (4 * (7 - t.val % 8) + n.val) + p.val = 512 * (7 - t.val % 8) + (128 * n.val + p.val); omega
    · show 128 * ((2 * (t.val / 8) + h.val) % 8) + j.val = 256 * (t.val / 8) + (128 * h.val + j.val); omega

theorem arr13 : (dats m 0 c).arrAt 13 cfg0.N = Cert.ReferenceIdeal.Read.val_main_v183 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_cover 13 _ (fun t hf => ?_) cover13
  rw [flushed13]
  refine funext fun y => ?_
  have ht := lt32 t
  have h7 : t.val % 8 = 7 := (flush0_13 t).mp hf
  obtain ⟨h, j, hy2⟩ := col_of (y 1)
  have y0 : y 0 = (0 : Fin 1) := Subsingleton.elim (α := Fin 1) _ _
  have hy : y = ix2 (0 : Fin 1) (col h j) := (ix2_of y).trans (congrArg₂ ix2 y0 hy2)
  rw [hy]
  have L := (left_at m c G H t.val t.isLt).s13 h j
  rw [h7] at L
  refine L.trans ?_
  refine Eq.symm ((congrArg (Cert.ReferenceIdeal.Read.val_main_v183 (F := Ideal) _ _ _ _) (emb13 t 0 (col h j) 0 (cl (hd (t.val / 8) h) j) rfl ?_)).trans
    ((Reference.e_main_v183 H (hd (t.val / 8) h) j).trans (congrArg Real.toEReal (c_dlb P G (hd (t.val / 8) h) j))))
  show 128 * ((2 * (t.val / 8) + h.val) % 8) + j.val = 256 * (t.val / 8) + (128 * h.val + j.val); omega

theorem arr14 : (dats m 0 c).arrAt 14 cfg0.N = Cert.ReferenceIdeal.Read.val_main_v112 (F := Ideal) (m ((c.tc : Thread nD τ).loc main_arg0))
    (m ((c.tc : Thread nD τ).loc main_arg1)) (m ((c.tc : Thread nD τ).loc main_arg3)) := by
  refine (dats m 0 c).arrAt_eq_of_cover 14 _ (fun t hf => ?_) cover14
  rw [flushed14]
  refine funext fun y => ?_
  have ht := lt32 t
  have h7 : t.val % 8 = 7 := (flush0_14 t).mp hf
  obtain ⟨h, j, hy2⟩ := col_of (y 1)
  have y0 : y 0 = (0 : Fin 1) := Subsingleton.elim (α := Fin 1) _ _
  have hy : y = ix2 (0 : Fin 1) (col h j) := (ix2_of y).trans (congrArg₂ ix2 y0 hy2)
  rw [hy]
  have L := (left_at m c G H t.val t.isLt).s14 h j
  rw [h7] at L
  refine L.trans ?_
  refine Eq.symm ((congrArg (Cert.ReferenceIdeal.Read.val_main_v112 (F := Ideal) _ _ _) (emb14 t 0 (col h j) 0 (cl (hd (t.val / 8) h) j) rfl ?_)).trans
    ((Reference.e_main_v112 H (hd (t.val / 8) h) j).trans (congrArg Real.toEReal (c_dgn P G (hd (t.val / 8) h) j))))
  show 128 * ((2 * (t.val / 8) + h.val) % 8) + j.val = 256 * (t.val / 8) + (128 * h.val + j.val); omega

end Cert.Proof

end
-- ==== Proof.Usual.lean ====
/- The precondition read back: the argument arrays are real numbers, and the lower bounds lie between zero and one. -/
module

public import proofs.«01_k».proof.Pre_usual
public import proofs.«01_k».proof.Proof.Gen.Pre_usual
public import proofs.«01_k».proof.Proof.Closed
public import Idealize.ShloMosaic.Lib.ReduceAll

@[expose] public section

noncomputable section

namespace Cert.Proof

open Idealize.ShloMosaic Cert.Pre_usual

/-- A comparison's bit is one only if the comparison holds. -/
theorem bit_pos {b : Bool} (h : BitVec.ofBool b = 1#1) : b = true := by revert h; cases b <;> decide

theorem and_one {a b : BitVec 1} : IntOp.andi a b = 1#1 ↔ a = 1#1 ∧ b = 1#1 := by revert a b; decide

theorem olt_of {a b : EReal} (h : Ideal.cmp .olt a b = 1#1) : a < b := of_decide_eq_true (bit_pos h)
theorem oge_of {a b : EReal} (h : Ideal.cmp .oge a b = 1#1) : b ≤ a := of_decide_eq_true (bit_pos h)

theorem word_inf : Ideal.ofBits .f32 0x7F800000#32 = ⊤ := by simp [Ideal.ofBits, Ideal.ieee]
theorem word_one : Ideal.ofBits .f32 0x3F800000#32 = ((1 : ℝ) : EReal) := c_one
theorem word_zero : Ideal.ofBits .f32 0x00000000#32 = ((0 : ℝ) : EReal) := c_zero

/-- A number whose absolute value is below infinity is real. -/
theorem real_of_abs {x : EReal} (h : Ideal.cmp .olt (max x (-x)) (Ideal.ofBits .f32 0x7F800000#32) = 1#1) : ((x.toReal : ℝ) : EReal) = x := by
  have h' := olt_of h
  rw [word_inf] at h'
  have h1 : x < ⊤ := lt_of_le_of_lt (le_max_left _ _) h'
  have h2 : -x < ⊤ := lt_of_le_of_lt (le_max_right _ _) h'
  refine EReal.coe_toReal h1.ne fun hb => ?_
  rw [hb] at h2
  exact absurd h2 (by simp)

variable {x0 : FVec Ideal S4096x4096 .f32} {x1 : FVec Ideal S1x1024 .f32} {x2 : FVec Ideal S1x128 .f32} {x3 : FVec Ideal S4096x1024 .f32}

instance : Subsingleton S_.Idx := ⟨fun a b => funext fun d => d.elim0⟩

/-- The real numbers the four arrays hold. -/
def parOf (x0 : FVec Ideal S4096x4096 .f32) (x1 : FVec Ideal S1x1024 .f32) (x2 : FVec Ideal S1x128 .f32) (x3 : FVec Ideal S4096x1024 .f32) : Par where
  p0 := fun t s h k => (x0 (ix2 (Fin.ofNat 4096 t) (cp s h k))).toReal
  p1 := fun h k => (x1 (ix2 (0 : Fin 1) (cl h k))).toReal
  p2 := fun k => (x2 (ix2 (0 : Fin 1) k)).toReal
  p3 := fun t h k => (x3 (ix2 (Fin.ofNat 4096 t) (cl h k))).toReal

theorem holds_of (h : Cert.Pre_usual.fn (F := Ideal) x0 x1 x2 x3 = fun _ => 1#1) : Holds x0 x1 x2 x3 (parOf x0 x1 x2 x3) := by
  have h' := congrFun h (fun d => d.elim0)
  obtain ⟨h15, h19⟩ := and_one.1 (h' : IntOp.andi _ _ = 1#1)
  obtain ⟨h10, h14⟩ := and_one.1 (h15 : IntOp.andi _ _ = 1#1)
  obtain ⟨h3, h9⟩ := and_one.1 (h10 : IntOp.andi _ _ = 1#1)
  have a0 := fun i => real_of_abs (x := x0 i) (Host.reduce_andi_all _ _ _ _ _ h3 i)
  have a2 := fun i => real_of_abs (x := x2 i) (Host.reduce_andi_all _ _ _ _ _ h14 i)
  have a3 := fun i => real_of_abs (x := x3 i) (Host.reduce_andi_all _ _ _ _ _ h19 i)
  have a1 : ∀ i, ((0 : ℝ) : EReal) ≤ x1 i ∧ x1 i < ((1 : ℝ) : EReal) := fun i => by
    obtain ⟨l, r⟩ := and_one.1 (Host.reduce_andi_all _ _ _ _ _ h9 i : IntOp.andi _ _ = 1#1)
    exact ⟨word_zero ▸ oge_of l, word_one ▸ olt_of r⟩
  have e1 : ∀ i, (((x1 i).toReal : ℝ) : EReal) = x1 i := fun i => EReal.coe_toReal (lt_of_lt_of_le (a1 i).2 le_top).ne
    (lt_of_lt_of_le (EReal.bot_lt_coe 0) (a1 i).1).ne'
  have ft : ∀ t : Fin 4096, Fin.ofNat 4096 t.val = t := fun t => Fin.ext (Nat.mod_eq_of_lt t.isLt)
  refine ⟨fun t s h k => ?_, fun h k => (e1 _).symm, fun k => (a2 _).symm, fun t h k => ?_, fun h k => ?_, fun h k => ?_⟩
  · show _ = (((x0 (ix2 (Fin.ofNat 4096 t.val) (cp s h k))).toReal : ℝ) : EReal)
    rw [ft, a0]
  · show _ = (((x3 (ix2 (Fin.ofNat 4096 t.val) (cl h k))).toReal : ℝ) : EReal)
    rw [ft, a3]
  · exact EReal.coe_le_coe_iff.1 ((e1 (ix2 (0 : Fin 1) (cl h k))).symm ▸ (a1 _).1)
  · exact EReal.coe_lt_coe_iff.1 ((e1 (ix2 (0 : Fin 1) (cl h k))).symm ▸ (a1 _).2)

theorem good_of {P : Par} (H : Holds x0 x1 x2 x3 P) : Good P := ⟨H.nonneg, H.lt_one⟩

end Cert.Proof

end
-- ==== Proof.Algebra.lean ====
/- The value claim: over the reals the kernel and the reference leave the same three arrays. -/
module

public import proofs.«01_k».proof.Defs
public import proofs.«01_k».proof.Proof.Arrays
public import proofs.«01_k».proof.Proof.Usual
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.SL.Sem Idealize.ShloMosaic.StableHlo

theorem algebra : Cert.algebraic_KernelIdeal_ReferenceIdeal_pre_usual := fun m g m' g' hp he => by
  have H := fun c => holds_of (hp c)
  refine ⟨fun c => Cert.ReferenceIdeal.Read.val_main_v188 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v183 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks (F := Ideal) m g)
    obtain ⟨h0, h1, h2, hk⟩ := h c
    exact ⟨h0.trans (arr12 m c (good_of (H c)) (H c)), h1.trans (arr13 m c (good_of (H c)) (H c)), h2.trans (arr14 m c (good_of (H c)) (H c)), hk⟩
  · refine (θ_run Cert.ReferenceIdeal.defs _ _).mono (fun r h c => ?_) (Cert.ReferenceIdeal.Value.run (F := Ideal) m' g')
    obtain ⟨h0, h1, h2, hk⟩ := h c
    obtain ⟨e0, e1, e2, e3⟩ := he c
    have a0 : launchContents m' c (Proc.devRef .tc Cert.ReferenceIdeal.main_arg0) = m ((c.tc : Thread Cert.KernelIdeal.nD Cert.KernelIdeal.τ).loc Cert.KernelIdeal.main_arg0) := e0
    have a1 : launchContents m' c (Proc.devRef .tc Cert.ReferenceIdeal.main_arg1) = m ((c.tc : Thread Cert.KernelIdeal.nD Cert.KernelIdeal.τ).loc Cert.KernelIdeal.main_arg1) := e1
    have a2 : launchContents m' c (Proc.devRef .tc Cert.ReferenceIdeal.main_arg2) = m ((c.tc : Thread Cert.KernelIdeal.nD Cert.KernelIdeal.τ).loc Cert.KernelIdeal.main_arg2) := e2
    have a3 : launchContents m' c (Proc.devRef .tc Cert.ReferenceIdeal.main_arg3) = m ((c.tc : Thread Cert.KernelIdeal.nD Cert.KernelIdeal.τ).loc Cert.KernelIdeal.main_arg3) := e3
    have f0 := h0.trans (Cert.ReferenceIdeal.Read.val_main_v188_eq (launchContents m' c))
    have f1 := h1.trans (Cert.ReferenceIdeal.Read.val_main_v183_eq (launchContents m' c))
    have f2 := h2.trans (Cert.ReferenceIdeal.Read.val_main_v112_eq (launchContents m' c))
    rw [a0, a1, a2, a3] at f0 f1
    rw [a0, a1, a3] at f2
    exact ⟨f0, f1, f2, hk⟩

end Cert.Proof

end
-- ==== Proof.MlpFrames.lean ====
/- The frames of the feed-forward's calls: each runs, ends, and leaves its arguments as they were. -/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Reference2Ideal.Run
public import proofs.«01_k».proof.Proof.Gen.Reference3Ideal.Run
public import proofs.«01_k».proof.Proof.Gen.Reference4Ideal.Run
public import Idealize.ShloMosaic.Lib.Quiescent

@[expose] public section

noncomputable section

namespace Cert.Proof

open Idealize.ShloMosaic Idealize.SL.Sem

theorem frame_kernel2 : Cert.quiescent_Kernel2 := fun m ρ _ => Cert.Kernel2.Gen.frame (F := Bits) m ρ
theorem frame_ideal2 : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_kernel3 : Cert.quiescent_Kernel3 := fun m ρ _ => Cert.Kernel3.Gen.frame (F := Bits) m ρ
theorem frame_ideal3 : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_kernel4 : Cert.quiescent_Kernel4 := fun m ρ _ => Cert.Kernel4.Gen.frame (F := Bits) m ρ
theorem frame_ideal4 : Cert.quiescent_Kernel4Ideal := fun m ρ _ => Cert.Kernel4Ideal.Gen.frame (F := Ideal) m ρ
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Proof

end
-- ==== Proof.FourParts.lean ====
/- A sum over 4096 terms, cut into the four runs of 1024 the blocked products add one after the other. -/
module

public import Idealize.ShloMosaic.Lib.Pointwise

@[expose] public section

noncomputable section

namespace Cert.Proof

open Idealize.ShloMosaic Idealize.ShloMosaic.Pointwise

/-- Place `k` of run `g`. -/
abbrev place (g : ℕ) (hg : g < 4) (k : Fin 1024) : Fin 4096 := ⟨1024 * g + k.val, by omega⟩

theorem four_parts (f : Fin 4096 → EReal) :
    ∑ k, f k = ∑ k, f (place 0 (by omega) k) + ∑ k, f (place 1 (by omega) k) + ∑ k, f (place 2 (by omega) k) + ∑ k, f (place 3 (by omega) k) := by
  have h : ∀ (g : Fin 4) (k : Fin 1024), f (finProdFinEquiv (m := 4) (n := 1024) (g, k)) = f (place g.val g.isLt k) := fun g k =>
    congrArg f (Fin.ext (by show k.val + 1024 * g.val = 1024 * g.val + k.val; omega))
  rw [← (finProdFinEquiv (m := 4) (n := 1024)).sum_comp f, Fintype.sum_prod_type, Fin.sum_univ_four]
  simp only [h]
  rfl

theorem idx2 {a b : ℕ} (y : (⟨2, ![a, b]⟩ : Shape).Idx) : y = ix2 (y 0) (y 1) :=
  funext fun i => match i with | ⟨0, _⟩ => rfl | ⟨1, _⟩ => rfl
theorem idx3 {a b d : ℕ} (y : (⟨3, ![a, b, d]⟩ : Shape).Idx) : y = ix3 (y 0) (y 1) (y 2) :=
  funext fun i => match i with | ⟨0, _⟩ => rfl | ⟨1, _⟩ => rfl | ⟨2, _⟩ => rfl

theorem zeros2 : (![0, 0] : Fin 2 → ℕ) = fun _ => 0 := funext fun i => match i with | ⟨0, _⟩ => rfl | ⟨1, _⟩ => rfl
theorem zeros3 : (![0, 0, 0] : Fin 3 → ℕ) = fun _ => 0 := funext fun i => match i with | ⟨0, _⟩ => rfl | ⟨1, _⟩ => rfl | ⟨2, _⟩ => rfl

/-- The squared positive part, as the kernel and the reference both write it. -/
def sqpos (x : EReal) : EReal := max x 0 * max x 0

end Cert.Proof

end
-- ==== Proof.DownDx.lean ====
/- The gradient of the feed-forward's middle: a product with the second weight, times twice the positive part. -/
module

public import proofs.«01_k».proof.Defs
public import proofs.«01_k».proof.Proof.Gen.Kernel2Ideal.Value
public import proofs.«01_k».proof.Proof.Gen.Reference2Ideal.Read
public import proofs.«01_k».proof.Proof.FourParts
public import Idealize.ShloMosaic.Lib.StableHlo.RunRead

@[expose] public section

set_option maxRecDepth 16384

noncomputable section

namespace Cert.Proof.DownDx

open Idealize.ShloMosaic Idealize.SL.Sem Cert.Kernel2Ideal Cert.Kernel2Ideal.Gen Cert.Kernel2Ideal.Value Idealize.ShloMosaic.Pointwise

theorem two_word : Ideal.ofBits .f32 0x40000000#32 = (2 : EReal) := by
  simp [Ideal.ofBits, Ideal.ieee, -EReal.coe_mul]
  norm_num
  rfl

/-- The derivative of the squared positive part, as the kernel and as the reference write it. -/
theorem slope (u D : EReal) :
    D * ((2 : EReal) * max u 0) = Scalar.select (Ideal.cmp .ogt u 0) (max u 0 * D + D * max u 0) (0 : EReal) := by
  unfold Scalar.select Ideal.cmp
  by_cases h : (0 : EReal) < u
  · have h0 : (0 : EReal) ≤ u := h.le
    have e : (2 : EReal) * u = u + u := by
      rw [← one_add_one_eq_two, EReal.right_distrib_of_nonneg zero_le_one zero_le_one, one_mul]
    rw [max_eq_left h0, e, EReal.left_distrib_of_nonneg h0 h0, mul_comm u D]
    simp [h]
  · rw [max_eq_right (not_lt.mp h)]
    simp [h]

theorem pay_at (x : Vec Ideal S1024x1024 .f32) (y : Vec Ideal S1024x1024 .bf16) (u : Vec Ideal S1024x1024 .f32) (i j : Fin 1024) :
    k0_pay1 x y u (ix2 i j) = (∑ k, (x (ix2 i k) : EReal) * y (ix2 j k)) * ((2 : EReal) * max (u (ix2 i j)) 0) := by
  unfold k0_pay1
  rw [← two_word, shapeCast_self]
  pointwise

theorem out_at (x : Vec Ideal S1024x1024 .f32) (y : Vec Ideal S1024x1024 .bf16) (u : Vec Ideal S1024x1024 .f32) : out0_3 x y u = k0_pay1 x y u := by
  unfold out0_3
  rw [View.canon_unit_zero zeros2]
  simp only [View.ld_unit_zero (S := S1024x1024) zeros2]

variable (m : (ℓ : Loc nD τ sig) → Buf (Elt Ideal) ℓ) (c : Dev nD)

theorem points (t : Fin cfg0.N) : t.val < 16 := lt_of_lt_of_eq t.isLt (show cfg0.N = 16 from N_0)

theorem at0 : ∀ t : Fin cfg0.N, win0_0.index t 0 = t.val / 4 ∧ win0_0.index t 1 = 0 := (by decide +kernel : ∀ t : Fin grid0.N, _)
theorem at1 : ∀ t : Fin cfg0.N, win0_1.index t 0 = t.val % 4 ∧ win0_1.index t 1 = 0 := (by decide +kernel : ∀ t : Fin grid0.N, _)
theorem at2 : ∀ t : Fin cfg0.N, win0_2.index t 0 = t.val / 4 ∧ win0_2.index t 1 = t.val % 4 := (by decide +kernel : ∀ t : Fin grid0.N, _)
theorem at3 : ∀ t : Fin cfg0.N, win0_3.index t 0 = t.val / 4 ∧ win0_3.index t 1 = t.val % 4 := (by decide +kernel : ∀ t : Fin grid0.N, _)

theorem emb0 (t : Fin cfg0.N) (a b : Fin 1024) (x : Fin 4096) (hx : x.val = 1024 * (t.val / 4) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem emb1 (t : Fin cfg0.N) (a b : Fin 1024) (x : Fin 4096) (hx : x.val = 1024 * (t.val % 4) + a.val) :
    (win0_1.blk t).view.emb (ix2 a b) = ix2 x b := by
  refine funext fun i => Fin.ext ?_
  have h := at1 t
  match i with
  | ⟨0, _⟩ => show win0_1.index t 0 * 1024 + 1 * a.val = x.val; omega
  | ⟨1, _⟩ => show win0_1.index t 1 * 1024 + 1 * b.val = b.val; omega
theorem emb2 (t : Fin cfg0.N) (a b : Fin 1024) (x y : Fin 4096) (hx : x.val = 1024 * (t.val / 4) + a.val) (hy : y.val = 1024 * (t.val % 4) + b.val) :
    (win0_2.blk t).view.emb (ix2 a b) = ix2 x y := by
  refine funext fun i => Fin.ext ?_
  have h := at2 t
  match i with
  | ⟨0, _⟩ => show win0_2.index t 0 * 1024 + 1 * a.val = x.val; omega
  | ⟨1, _⟩ => show win0_2.index t 1 * 1024 + 1 * b.val = y.val; omega
theorem emb3 (t : Fin cfg0.N) (a b : Fin 1024) (x y : Fin 4096) (hx : x.val = 1024 * (t.val / 4) + a.val) (hy : y.val = 1024 * (t.val % 4) + b.val) :
    (win0_3.blk t).view.emb (ix2 a b) = ix2 x y := by
  refine funext fun i => Fin.ext ?_
  have h := at3 t
  match i with
  | ⟨0, _⟩ => show win0_3.index t 0 * 1024 + 1 * a.val = x.val; omega
  | ⟨1, _⟩ => show win0_3.index t 1 * 1024 + 1 * b.val = y.val; omega

/-- The three arguments, as arrays of extended reals, and the second weight with its leading axes joined. -/
abbrev X : S4096x1024.Idx → EReal := m ((c.tc : Thread nD τ).loc main_arg0)
abbrev W : S4x1024x1024.Idx → EReal := m ((c.tc : Thread nD τ).loc main_arg1)
abbrev U : S4096x4096.Idx → EReal := m ((c.tc : Thread nD τ).loc main_arg2)
abbrev joined (w : S4x1024x1024.Idx → EReal) : S4096x1024.Idx → EReal := Cert.Reference2Ideal.Read.val_main_v1 (F := Ideal) w

theorem V_w : V m c main_v0 = joined (W m c) := by
  unfold V
  after_reads_simp
  rfl

theorem blk0 (t : Fin cfg0.N) (a b : Fin 1024) (x : Fin 4096) (hx : x.val = 1024 * (t.val / 4) + a.val) :
    iblk m c 0 t (ix2 a b) = X m c (ix2 x b) :=
  (congrArg (V m c (Pipeline.arrRef spec0 0)) (emb0 t a b x hx)).trans (congrFun (V_main_arg0 m c) _)
theorem blk1 (t : Fin cfg0.N) (a b : Fin 1024) (x : Fin 4096) (hx : x.val = 1024 * (t.val % 4) + a.val) :
    iblk m c 1 t (ix2 a b) = joined (W m c) (ix2 x b) :=
  (congrArg (V m c (Pipeline.arrRef spec0 1)) (emb1 t a b x hx)).trans (congrFun (V_w m c) _)
theorem blk2 (t : Fin cfg0.N) (a b : Fin 1024) (x y : Fin 4096) (hx : x.val = 1024 * (t.val / 4) + a.val) (hy : y.val = 1024 * (t.val % 4) + b.val) :
    iblk m c 2 t (ix2 a b) = U m c (ix2 x y) :=
  (congrArg (V m c (Pipeline.arrRef spec0 2)) (emb2 t a b x y hx hy)).trans (congrFun (V_main_arg2 m c) _)

/-- The reference's result at an index. -/
theorem result_at (x0 : S4096x1024.Idx → EReal) (x1 : S4x1024x1024.Idx → EReal) (x2 : S4096x4096.Idx → EReal) (i j : Fin 4096) :
    Cert.Reference2Ideal.Read.val_main_v14 (F := Ideal) x0 x1 x2 (ix2 i j)
      = (∑ k : Fin 1024, x0 (ix2 i k) * joined x1 (ix2 j k)) * ((2 : EReal) * max (x2 (ix2 i j)) 0) := by
  have hD : Cert.Reference2Ideal.Read.val_main_v8 (F := Ideal) x0 x1 (ix2 i j) = ∑ k : Fin 1024, x0 (ix2 i k) * joined x1 (ix2 j k) := by
    refine (Cert.Reference2Ideal.Read.val_main_v8_apply x0 x1 _).trans (Finset.sum_congr rfl fun k _ => ?_)
    exact congrArg₂ (· * ·) (congrArg x0 (idx2 _)) (congrArg (joined x1) (idx2 _))
  have hr : Cert.Reference2Ideal.Read.val_main_v2 (F := Ideal) x2 (ix2 i j) = max (x2 (ix2 i j)) 0 := by
    rw [Cert.Reference2Ideal.Read.val_main_v2_apply, Cert.Reference2Ideal.Read.val_main_call0_v0_apply, Cert.Reference2Ideal.Read.val_main_call0_cst_apply]
    show max (x2 (ix2 i j)) (Ideal.ofBits .f32 0x00000000#32) = _
    rw [Ideal.ofBits_zero_f32]
  have h3 : Cert.Reference2Ideal.Read.val_main_v3 (F := Ideal) (ix2 i j) = (0 : EReal) := by
    rw [Cert.Reference2Ideal.Read.val_main_v3_apply]
    exact Ideal.ofBits_zero_f32
  have h12 : Cert.Reference2Ideal.Read.val_main_v12 (F := Ideal) (ix2 i j) = (0 : EReal) := by
    rw [Cert.Reference2Ideal.Read.val_main_v12_apply]
    exact Ideal.ofBits_zero_f32
  rw [slope]
  refine (Cert.Reference2Ideal.Read.val_main_v14_apply (F := Ideal) x0 x1 x2 _).trans ?_
  refine (Cert.Reference2Ideal.Read.val_main_v13_apply (F := Ideal) x0 x1 x2 _).trans ?_
  rw [Cert.Reference2Ideal.Read.val_main_v4_apply, Cert.Reference2Ideal.Read.val_main_v11_apply, Cert.Reference2Ideal.Read.val_main_v9_apply,
    Cert.Reference2Ideal.Read.val_main_v10_apply, hD, hr, h3, h12]
  rfl

theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have l : 4 * ((i 0).val / 1024) + (i 1).val / 1024 < cfg0.N := lt_of_lt_of_eq (show _ < 16 by omega) (show cfg0.N = 16 from N_0).symm
  refine ⟨⟨4 * ((i 0).val / 1024) + (i 1).val / 1024, l⟩, flush0_3 _, ?_⟩
  have e := emb3 ⟨4 * ((i 0).val / 1024) + (i 1).val / 1024, l⟩ ⟨(i 0).val % 1024, by omega⟩ ⟨(i 1).val % 1024, by omega⟩ (i 0) (i 1)
    (by show (i 0).val = 1024 * ((4 * ((i 0).val / 1024) + (i 1).val / 1024) / 4) + (i 0).val % 1024; omega)
    (by show (i 1).val = 1024 * ((4 * ((i 0).val / 1024) + (i 1).val / 1024) % 4) + (i 1).val % 1024; omega)
  exact Eq.subst (motive := fun x => x ∈ ((cfg0.win 3).blk _).view.set) (e.trans (idx2 i).symm) (View.emb_mem_set _ _)

theorem left_at (t : Fin cfg0.N) (a b : Fin 1024) (x y : Fin 4096) (hx : x.val = 1024 * (t.val / 4) + a.val) (hy : y.val = 1024 * (t.val % 4) + b.val) :
    out0_3 (iblk m c 0 t) (iblk m c 1 t) (iblk m c 2 t) (ix2 a b) = Cert.Reference2Ideal.Read.val_main_v14 (F := Ideal) (X m c) (W m c) (U m c) (ix2 x y) := by
  rw [out_at]
  refine (pay_at _ _ _ a b).trans (Eq.trans ?_ (result_at _ _ _ x y).symm)
  refine congrArg₂ (fun p q : EReal => p * ((2 : EReal) * max q 0)) (Finset.sum_congr rfl fun k _ => ?_) (blk2 m c t a b x y hx hy)
  exact congrArg₂ (fun p q : EReal => p * q) (blk0 m c t a k x hx) (blk1 m c t b k y hy)

theorem arr : (dats m 0 c).arrAt 3 cfg0.N = Cert.Reference2Ideal.Read.val_main_v14 (F := Ideal) (X m c) (W m c) (U m c) := by
  refine (dats m 0 c).arrAt_eq_of_cover 3 _ (fun t hf => ?_) cover
  have ht := points t
  rw [flushed3]
  refine funext fun y => ?_
  rw [idx2 y]
  have ha : (y 0).val < 1024 := (y 0).isLt
  have hb : (y 1).val < 1024 := (y 1).isLt
  refine (left_at m c t (y 0) (y 1) ⟨1024 * (t.val / 4) + (y 0).val, by omega⟩ ⟨1024 * (t.val % 4) + (y 1).val, by omega⟩ rfl rfl).trans ?_
  exact (congrArg (Cert.Reference2Ideal.Read.val_main_v14 (F := Ideal) (X m c) (W m c) (U m c))
    (emb3 t (y 0) (y 1) ⟨1024 * (t.val / 4) + (y 0).val, by omega⟩ ⟨1024 * (t.val % 4) + (y 1).val, by omega⟩ rfl rfl)).symm

theorem algebra : Cert.algebraic_Kernel2Ideal_Reference2Ideal := fun m g m' g' _ he => by
  refine ⟨fun c => Cert.Reference2Ideal.Read.val_main_v14 (F := Ideal) (X m c) (W m c) (U m c), ?_, ?_⟩
  · refine (θ_run Cert.Kernel2Ideal.defs _ _).mono (fun r h c => ?_) (Cert.Kernel2Ideal.Value.run_blocks (F := Ideal) m g)
    obtain ⟨h0, hk⟩ := h c
    exact ⟨h0.trans (arr m c), hk⟩
  · refine (θ_run Cert.Reference2Ideal.defs _ _).mono (fun r h c => ?_) (Cert.Reference2Ideal.Value.run (F := Ideal) m' g')
    obtain ⟨h0, hk⟩ := h c
    obtain ⟨e0, e1, e2⟩ := he c
    have f0 := h0.trans (Cert.Reference2Ideal.Read.val_main_v14_eq (F := Ideal) _ _ _)
    refine ⟨f0.trans ?_, hk⟩
    exact congr (congrArg₂ (Cert.Reference2Ideal.Read.val_main_v14 (F := Ideal)) e0 e1) e2

end Cert.Proof.DownDx

end
-- ==== Proof.DownDw.lean ====
/- The gradient of the second weight of the feed-forward: four partial products, one after the other, are one product. -/
module

public import proofs.«01_k».proof.Defs
public import proofs.«01_k».proof.Proof.Gen.Kernel3Ideal.Value
public import proofs.«01_k».proof.Proof.Gen.Reference3Ideal.Read
public import proofs.«01_k».proof.Proof.FourParts

@[expose] public section

set_option maxRecDepth 16384

noncomputable section

namespace Cert.Proof.DownDw

open Idealize.ShloMosaic Idealize.SL.Sem Cert.Kernel3Ideal Cert.Kernel3Ideal.Gen Cert.Kernel3Ideal.Value Idealize.ShloMosaic.Pointwise

section cases
variable (c : Dev nD) (i : grid0.Coords) (a : Memref sig .tc .vmem S1024x1024 .f32) (ha : a.IsWhole) (b : Memref sig .tc .vmem S1024x1024 .f32) (hb : b.IsWhole)
  (o : Memref sig .tc .vmem S1024x1024 .bf16) (ho : o.IsWhole) (s : Memref sig .tc .vmem S1024x1024 .f32) (hs : s.IsWhole)
  (x y acc : Vec Ideal S1024x1024 .f32)

theorem first (h0 : cond0_0 i) (h1 : ¬cond0_1 i) (h2 : ¬cond0_2 i) : sout0_A_0 c i a ha b hb o ho s hs h0 h1 h2 x y = k0_pay2 x y := by
  unfold sout0_A_0
  rw [View.read_writes_eq_canon _ _ _ (scover0_A_0 c i a ha b hb o ho s hs h0 h1 h2 x y)]
  unfold kernelRun0_A
  dsimp only
  rw [View.canon_unit_zero zeros2]
  simp only [View.readAt_eq_ld, ha.read_unread, hb.read_unread, View.ld_unit_zero (S := S1024x1024) zeros2]

theorem next (h0 : ¬cond0_0 i) (h1 : cond0_1 i) (h2 : ¬cond0_2 i) : sout0_B_0 c i a ha b hb o ho s hs h0 h1 h2 x y acc = k0_pay3 x y acc := by
  unfold sout0_B_0
  rw [View.read_writes_eq_canon _ _ _ (scover0_B_0 c i a ha b hb o ho s hs h0 h1 h2 x y acc)]
  unfold kernelRun0_B
  dsimp only
  rw [View.canon_unit_zero zeros2]
  simp only [View.readAt_eq_ld, ha.read_unread, hb.read_unread, hs.read_unread, View.ld_unit_zero (S := S1024x1024) zeros2]

theorem last (h0 : ¬cond0_0 i) (h1 : cond0_1 i) (h2 : cond0_2 i) : out0_C_2 c i a ha b hb o ho s hs h0 h1 h2 x y acc = k0_pay4 (k0_pay3 x y acc) := by
  unfold out0_C_2
  rw [View.read_writes_eq_canon _ _ _ (cover0_C_2 c i a ha b hb o ho s hs h0 h1 h2 x y acc)]
  unfold kernelRun0_C
  dsimp only
  sl_unfold_words
  rw [View.canon_unit_zero zeros2]
  simp only [View.readAt_eq_ld, ha.read_unread, hb.read_unread, hs.read_unread, View.ld_unit_zero (S := S1024x1024) zeros2, View.readCov_unit_zero (S := S1024x1024) _ zeros2]

end cases

theorem pay1_at (x y : Vec Ideal S1024x1024 .f32) (i j : Fin 1024) : k0_pay1 x y (ix2 i j) = ∑ k, sqpos (x (ix2 k i)) * y (ix2 k j) := by
  unfold k0_pay1
  pointwise
  rfl
theorem pay2_at (x y : Vec Ideal S1024x1024 .f32) (i j : Fin 1024) : k0_pay2 x y (ix2 i j) = ∑ k, sqpos (x (ix2 k i)) * y (ix2 k j) := by
  unfold k0_pay2
  rw [shapeCast_self]
  exact pay1_at x y i j
theorem pay3_at (x y acc : Vec Ideal S1024x1024 .f32) (i j : Fin 1024) : k0_pay3 x y acc (ix2 i j) = acc (ix2 i j) + ∑ k, sqpos (x (ix2 k i)) * y (ix2 k j) := by
  unfold k0_pay3
  rw [shapeCast_self]
  exact congrArg (acc (ix2 i j) + ·) (pay1_at x y i j)

variable (m : (ℓ : Loc nD τ sig) → Buf (Elt Ideal) ℓ) (c : Dev nD)

theorem lt16 (t : Fin cfg0.N) : t.val < 16 := lt_of_lt_of_eq t.isLt (show cfg0.N = 16 from N_0)

theorem at0 : ∀ t : Fin cfg0.N, win0_0.index t 0 = t.val % 4 ∧ win0_0.index t 1 = t.val / 4 := (by decide +kernel : ∀ t : Fin grid0.N, _)
theorem at1 : ∀ t : Fin cfg0.N, win0_1.index t 0 = t.val % 4 ∧ win0_1.index t 1 = 0 := (by decide +kernel : ∀ t : Fin grid0.N, _)
theorem at2 : ∀ t : Fin cfg0.N, win0_2.index t 0 = t.val / 4 ∧ win0_2.index t 1 = 0 := (by decide +kernel : ∀ t : Fin grid0.N, _)

theorem emb0 (t : Fin cfg0.N) (a b : Fin 1024) (x y : Fin 4096) (hx : x.val = 1024 * (t.val % 4) + a.val) (hy : y.val = 1024 * (t.val / 4) + b.val) :
    (win0_0.blk t).view.emb (ix2 a b) = ix2 x y := by
  refine funext fun i => Fin.ext ?_
  have h := at0 t
  match i with
  | ⟨0, _⟩ => show win0_0.index t 0 * 1024 + 1 * a.val = x.val; omega
  | ⟨1, _⟩ => show win0_0.index t 1 * 1024 + 1 * b.val = y.val; omega
theorem emb1 (t : Fin cfg0.N) (a b : Fin 1024) (x : Fin 4096) (hx : x.val = 1024 * (t.val % 4) + a.val) :
    (win0_1.blk t).view.emb (ix2 a b) = ix2 x b := by
  refine funext fun i => Fin.ext ?_
  have h := at1 t
  match i with
  | ⟨0, _⟩ => show win0_1.index t 0 * 1024 + 1 * a.val = x.val; omega
  | ⟨1, _⟩ => show win0_1.index t 1 * 1024 + 1 * b.val = b.val; omega
theorem emb2 (t : Fin cfg0.N) (a b : Fin 1024) (x : Fin 4096) (hx : x.val = 1024 * (t.val / 4) + a.val) :
    (win0_2.blk t).view.emb (ix2 a b) = ix2 x b := by
  refine funext fun i => Fin.ext ?_
  have h := at2 t
  match i with
  | ⟨0, _⟩ => show win0_2.index t 0 * 1024 + 1 * a.val = x.val; omega
  | ⟨1, _⟩ => show win0_2.index t 1 * 1024 + 1 * b.val = b.val; omega

/-- The two arguments, as arrays of extended reals. -/
abbrev U : S4096x4096.Idx → EReal := m ((c.tc : Thread nD τ).loc main_arg0)
abbrev D : S4096x1024.Idx → EReal := m ((c.tc : Thread nD τ).loc main_arg1)

theorem blk0 (t : Fin cfg0.N) (a b : Fin 1024) (x y : Fin 4096) (hx : x.val = 1024 * (t.val % 4) + a.val) (hy : y.val = 1024 * (t.val / 4) + b.val) :
    iblk m c 0 t (ix2 a b) = U m c (ix2 x y) :=
  (congrArg (V m c (Pipeline.arrRef spec0 0)) (emb0 t a b x y hx hy)).trans (congrFun (V_main_arg0 m c) _)
theorem blk1 (t : Fin cfg0.N) (a b : Fin 1024) (x : Fin 4096) (hx : x.val = 1024 * (t.val % 4) + a.val) :
    iblk m c 1 t (ix2 a b) = D m c (ix2 x b) :=
  (congrArg (V m c (Pipeline.arrRef spec0 1)) (emb1 t a b x hx)).trans (congrFun (V_main_arg1 m c) _)

/-- Run `g` of the product's column sum. -/
def part (g : ℕ) (hg : g < 4) (i : Fin 4096) (j : Fin 1024) : EReal := ∑ k, sqpos (U m c (ix2 (place g hg k) i)) * D m c (ix2 (place g hg k) j)

theorem part_of (t : Fin cfg0.N) (g : ℕ) (hg : g < 4) (h : t.val % 4 = g) (a b : Fin 1024) (i : Fin 4096) (hi : i.val = 1024 * (t.val / 4) + a.val) :
    ∑ k, sqpos (iblk m c 0 t (ix2 k a)) * iblk m c 1 t (ix2 k b) = part m c g hg i b :=
  Finset.sum_congr rfl fun k _ => congrArg₂ (fun p q => sqpos p * q)
    (blk0 m c t k a (place g hg k) i (by show 1024 * g + k.val = _; omega) hi) (blk1 m c t k b (place g hg k) (by show 1024 * g + k.val = _; omega))

theorem left0 (t : Fin cfg0.N) (h : t.val % 4 = 0) (a b : Fin 1024) (i : Fin 4096) (hi : i.val = 1024 * (t.val / 4) + a.val) :
    (outsAt0 m c t.val t.isLt).2 (ix2 a b) = part m c 0 (by omega) i b := by
  rw [outsAt0_A m c t h (by omega) (by omega)]
  dsimp only
  rw [first, pay2_at]
  exact part_of m c t 0 _ h a b i hi

theorem leftB (t : Fin cfg0.N) (g : ℕ) (hg : g < 4) (h : t.val % 4 = g) (h1 : 1 ≤ g) (h2 : g ≠ 3) (a b : Fin 1024) (i : Fin 4096) (hi : i.val = 1024 * (t.val / 4) + a.val) :
    (outsAt0 m c t.val t.isLt).2 (ix2 a b) = (outsAt0 m c (t.val - 1) (Nat.lt_of_le_of_lt (Nat.sub_le _ _) t.isLt)).2 (ix2 a b) + part m c g hg i b := by
  rw [outsAt0_B m c t (by omega) (by omega) (by omega)]
  dsimp only
  rw [next, pay3_at, part_of m c t g hg h a b i hi]

theorem left3 (t : Fin cfg0.N) (h : t.val % 4 = 3) (a b : Fin 1024) (i : Fin 4096) (hi : i.val = 1024 * (t.val / 4) + a.val) :
    (outsAt0 m c t.val t.isLt).1 (ix2 a b)
      = part m c 0 (by omega) i b + part m c 1 (by omega) i b + part m c 2 (by omega) i b + part m c 3 (by omega) i b := by
  rw [outsAt0_C m c t (by omega) (by omega) h]
  dsimp only
  rw [last]
  refine (pay3_at _ _ _ a b).trans ?_
  rw [part_of m c t 3 (by omega) h a b i hi]
  have hN := t.isLt
  refine congrArg (· + part m c 3 (by omega) i b) ?_
  refine (leftB m c ⟨t.val - 1, by omega⟩ 2 (by omega) (by show (t.val - 1) % 4 = 2; omega) (by omega) (by omega) a b i (by show _ = 1024 * ((t.val - 1) / 4) + a.val; omega)).trans ?_
  refine congrArg (· + part m c 2 (by omega) i b) ?_
  refine (leftB m c ⟨t.val - 1 - 1, by omega⟩ 1 (by omega) (by show (t.val - 1 - 1) % 4 = 1; omega) (by omega) (by omega) a b i (by show _ = 1024 * ((t.val - 1 - 1) / 4) + a.val; omega)).trans ?_
  refine congrArg (· + part m c 1 (by omega) i b) ?_
  exact left0 m c ⟨t.val - 1 - 1 - 1, by omega⟩ (by show (t.val - 1 - 1 - 1) % 4 = 0; omega) a b i (by show _ = 1024 * ((t.val - 1 - 1 - 1) / 4) + a.val; omega)

/-- The reference's result at an index. -/
theorem result_at (x0 : S4096x4096.Idx → EReal) (x1 : S4096x1024.Idx → EReal) (i : Fin 4096) (j : Fin 1024) :
    Cert.Reference3Ideal.Read.val_main_v6 (F := Ideal) x0 x1 (ix2 i j) = ∑ k : Fin 4096, sqpos (x0 (ix2 k i)) * x1 (ix2 k j) := by
  refine (Cert.Reference3Ideal.Read.val_main_v6_apply (F := Ideal) x0 x1 _).trans ?_
  refine (Cert.Reference3Ideal.Read.val_main_v5_apply (F := Ideal) x0 x1 _).trans ?_
  refine (Cert.Reference3Ideal.Read.val_main_v4_apply x0 x1 _).trans ?_
  refine Finset.sum_congr rfl fun k _ => ?_
  rw [Cert.Reference3Ideal.Read.val_main_v2_apply, Cert.Reference3Ideal.Read.val_main_v1_apply, Cert.Reference3Ideal.Read.val_main_call0_v0_apply,
    Cert.Reference3Ideal.Read.val_main_call0_cst_apply]
  refine (mul_comm _ _).trans ?_
  refine congrArg₂ (· * ·) ?_ (congrArg x1 (idx2 _))
  have e : x0 (Cert.Reference3Ideal.Read.ridx_main_v4 (Cert.Reference3Ideal.Read.idx_main_v5 (ix2 i j)) k) = x0 (ix2 k i) := congrArg x0 (idx2 _)
  rw [e]
  show max _ (Ideal.ofBits .f32 0x00000000#32) * max _ (Ideal.ofBits .f32 0x00000000#32) = sqpos _
  rw [Ideal.ofBits_zero_f32]
  rfl

theorem cover (i : S4096x1024.Idx) : ∃ t : Fin cfg0.N, (cfg0.win 2).flush t = true ∧ i ∈ ((cfg0.win 2).blk t).view.set :=
  (covered_iff2 i).2 ⟨Nat.zero_le _, (i 0).isLt, Nat.zero_le _, (i 1).isLt⟩

theorem arr : (dats m 0 c).arrAt 2 cfg0.N = Cert.Reference3Ideal.Read.val_main_v6 (F := Ideal) (U m c) (D m c) := by
  refine (dats m 0 c).arrAt_eq_of_cover 2 _ (fun t hf => ?_) cover
  have h : t.val % 4 = 3 := (flush0_2 t).mp hf
  have ht := lt16 t
  rw [flushed2]
  refine funext fun y => ?_
  rw [idx2 y]
  have ha : (y 0).val < 1024 := (y 0).isLt
  refine (left3 m c t h (y 0) (y 1) ⟨1024 * (t.val / 4) + (y 0).val, by omega⟩ rfl).trans ?_
  refine Eq.symm ((congrArg (Cert.Reference3Ideal.Read.val_main_v6 (F := Ideal) (U m c) (D m c)) (emb2 t (y 0) (y 1) ⟨1024 * (t.val / 4) + (y 0).val, by omega⟩ rfl)).trans ?_)
  exact (result_at _ _ _ _).trans (four_parts _)

theorem algebra : Cert.algebraic_Kernel3Ideal_Reference3Ideal := fun m g m' g' _ he => by
  refine ⟨fun c => Cert.Reference3Ideal.Read.val_main_v6 (F := Ideal) (U m c) (D m c), ?_, ?_⟩
  · refine (θ_run Cert.Kernel3Ideal.defs _ _).mono (fun r h c => ?_) (Cert.Kernel3Ideal.Value.run_blocks (F := Ideal) m g)
    obtain ⟨h0, hk⟩ := h c
    exact ⟨h0.trans (arr m c), hk⟩
  · refine (θ_run Cert.Reference3Ideal.defs _ _).mono (fun r h c => ?_) (Cert.Reference3Ideal.Value.run (F := Ideal) m' g')
    obtain ⟨h0, hk⟩ := h c
    obtain ⟨e0, e1⟩ := he c
    have f0 := h0.trans (Cert.Reference3Ideal.Read.val_main_v6_eq (F := Ideal) _ _)
    refine ⟨f0.trans ?_, hk⟩
    exact congrArg₂ (Cert.Reference3Ideal.Read.val_main_v6 (F := Ideal)) e0 e1

end Cert.Proof.DownDw

end
-- ==== Proof.UpDw.lean ====
/- The gradient of the first weight of the feed-forward: four partial products, one after the other, are one product. -/
module

public import proofs.«01_k».proof.Defs
public import proofs.«01_k».proof.Proof.Gen.Kernel4Ideal.Value
public import proofs.«01_k».proof.Proof.Gen.Reference4Ideal.Read
public import proofs.«01_k».proof.Proof.FourParts

@[expose] public section

set_option maxRecDepth 16384

noncomputable section

namespace Cert.Proof.UpDw

open Idealize.ShloMosaic Idealize.SL.Sem Cert.Kernel4Ideal Cert.Kernel4Ideal.Gen Cert.Kernel4Ideal.Value Idealize.ShloMosaic.Pointwise

section cases
variable (c : Dev nD) (i : grid0.Coords) (a : Memref sig .tc .vmem S1024x1024 .bf16) (ha : a.IsWhole) (b : Memref sig .tc .vmem S1024x1024 .bf16) (hb : b.IsWhole)
  (o : Memref sig .tc .vmem S1x1024x1024 .bf16) (ho : o.IsWhole) (s : Memref sig .tc .vmem S1024x1024 .f32) (hs : s.IsWhole)
  (x y : Vec Ideal S1024x1024 .bf16) (acc : Vec Ideal S1024x1024 .f32)

theorem first (h0 : cond0_0 i) (h1 : ¬cond0_1 i) (h2 : ¬cond0_2 i) : sout0_A_0 c i a ha b hb o ho s hs h0 h1 h2 x y = k0_pay2 x y := by
  unfold sout0_A_0
  rw [View.read_writes_eq_canon _ _ _ (scover0_A_0 c i a ha b hb o ho s hs h0 h1 h2 x y)]
  unfold kernelRun0_A
  dsimp only
  rw [View.canon_unit_zero zeros2]
  simp only [View.readAt_eq_ld, ha.read_unread, hb.read_unread, View.ld_unit_zero (S := S1024x1024) zeros2]

theorem next (h0 : ¬cond0_0 i) (h1 : cond0_1 i) (h2 : ¬cond0_2 i) : sout0_B_0 c i a ha b hb o ho s hs h0 h1 h2 x y acc = k0_pay3 x y acc := by
  unfold sout0_B_0
  rw [View.read_writes_eq_canon _ _ _ (scover0_B_0 c i a ha b hb o ho s hs h0 h1 h2 x y acc)]
  unfold kernelRun0_B
  dsimp only
  rw [View.canon_unit_zero zeros2]
  simp only [View.readAt_eq_ld, ha.read_unread, hb.read_unread, hs.read_unread, View.ld_unit_zero (S := S1024x1024) zeros2]

theorem last (h0 : ¬cond0_0 i) (h1 : cond0_1 i) (h2 : cond0_2 i) : out0_C_2 c i a ha b hb o ho s hs h0 h1 h2 x y acc = k0_pay4 (k0_pay3 x y acc) := by
  unfold out0_C_2
  rw [View.read_writes_eq_canon _ _ _ (cover0_C_2 c i a ha b hb o ho s hs h0 h1 h2 x y acc)]
  unfold kernelRun0_C
  dsimp only
  sl_unfold_words
  rw [View.canon_unit_zero zeros3]
  simp only [View.readAt_eq_ld, ha.read_unread, hb.read_unread, hs.read_unread, View.ld_unit_zero (S := S1024x1024) zeros2, View.readCov_unit_zero (S := S1024x1024) _ zeros2]

end cases

theorem pay1_at (x y : Vec Ideal S1024x1024 .bf16) (i j : Fin 1024) : k0_pay1 x y (ix2 i j) = ∑ k, (x (ix2 k i) : EReal) * y (ix2 k j) := by
  unfold k0_pay1
  pointwise
theorem pay2_at (x y : Vec Ideal S1024x1024 .bf16) (i j : Fin 1024) : k0_pay2 x y (ix2 i j) = ∑ k, (x (ix2 k i) : EReal) * y (ix2 k j) := by
  unfold k0_pay2
  rw [shapeCast_self]
  exact pay1_at x y i j
theorem pay3_at (x y : Vec Ideal S1024x1024 .bf16) (acc : Vec Ideal S1024x1024 .f32) (i j : Fin 1024) :
    k0_pay3 x y acc (ix2 i j) = acc (ix2 i j) + ∑ k, (x (ix2 k i) : EReal) * y (ix2 k j) := by
  unfold k0_pay3
  rw [shapeCast_self]
  exact congrArg (acc (ix2 i j) + ·) (pay1_at x y i j)
theorem pay4_at (w : Vec Ideal S1024x1024 .f32) (g : Fin 1) (i j : Fin 1024) : k0_pay4 w (ix3 g i j) = w (ix2 i j) := by
  unfold k0_pay4
  refine (shapeCast_apply _ shapeCasts_S1024x1024_S1x1024x1024 (ix3 g i j) (ix2 i j) ?_).trans rfl
  rewrite [Shape.rowMajor_val_two, Shape.rowMajor_val_three]
  show i.val * 1024 + j.val = (g.val * 1024 + i.val) * 1024 + j.val
  omega

variable (m : (ℓ : Loc nD τ sig) → Buf (Elt Ideal) ℓ) (c : Dev nD)

theorem points (t : Fin cfg0.N) : t.val < 16 := lt_of_lt_of_eq t.isLt (show cfg0.N = 16 from N_0)

theorem at0 : ∀ t : Fin cfg0.N, win0_0.index t 0 = t.val % 4 ∧ win0_0.index t 1 = 0 := (by decide +kernel : ∀ t : Fin grid0.N, _)
theorem at1 : ∀ t : Fin cfg0.N, win0_1.index t 0 = t.val % 4 ∧ win0_1.index t 1 = t.val / 4 := (by decide +kernel : ∀ t : Fin grid0.N, _)
theorem at2 : ∀ t : Fin cfg0.N, win0_2.index t 0 = t.val / 4 ∧ win0_2.index t 1 = 0 ∧ win0_2.index t 2 = 0 := (by decide +kernel : ∀ t : Fin grid0.N, _)

theorem emb0 (t : Fin cfg0.N) (a b : Fin 1024) (x : Fin 4096) (hx : x.val = 1024 * (t.val % 4) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem emb1 (t : Fin cfg0.N) (a b : Fin 1024) (x : Fin 4096) (y : Fin 4096) (hx : x.val = 1024 * (t.val % 4) + a.val) (hy : y.val = 1024 * (t.val / 4) + b.val) :
    (win0_1.blk t).view.emb (ix2 a b) = ix2 x y := by
  refine funext fun i => Fin.ext ?_
  have h := at1 t
  match i with
  | ⟨0, _⟩ => show win0_1.index t 0 * 1024 + 1 * a.val = x.val; omega
  | ⟨1, _⟩ => show win0_1.index t 1 * 1024 + 1 * b.val = y.val; omega
theorem emb2 (t : Fin cfg0.N) (g : Fin 1) (a b : Fin 1024) (x : Fin 4) (hx : x.val = t.val / 4) :
    (win0_2.blk t).view.emb (ix3 g a b) = ix3 x a b := by
  refine funext fun i => Fin.ext ?_
  have h := at2 t
  match i with
  | ⟨0, _⟩ => show win0_2.index t 0 * 1 + 1 * g.val = x.val; omega
  | ⟨1, _⟩ => show win0_2.index t 1 * 1024 + 1 * a.val = a.val; omega
  | ⟨2, _⟩ => show win0_2.index t 2 * 1024 + 1 * b.val = b.val; omega

/-- The two arguments, as arrays of extended reals. -/
abbrev X : S4096x1024.Idx → EReal := m ((c.tc : Thread nD τ).loc main_arg0)
abbrev Y : S4096x4096.Idx → EReal := m ((c.tc : Thread nD τ).loc main_arg1)

theorem blk0 (t : Fin cfg0.N) (a b : Fin 1024) (x : Fin 4096) (hx : x.val = 1024 * (t.val % 4) + a.val) :
    iblk m c 0 t (ix2 a b) = X m c (ix2 x b) :=
  (congrArg (V m c (Pipeline.arrRef spec0 0)) (emb0 t a b x hx)).trans (congrFun (V_main_arg0 m c) _)
theorem blk1 (t : Fin cfg0.N) (a b : Fin 1024) (x : Fin 4096) (y : Fin 4096) (hx : x.val = 1024 * (t.val % 4) + a.val) (hy : y.val = 1024 * (t.val / 4) + b.val) :
    iblk m c 1 t (ix2 a b) = Y m c (ix2 x y) :=
  (congrArg (V m c (Pipeline.arrRef spec0 1)) (emb1 t a b x y hx hy)).trans (congrFun (V_main_arg1 m c) _)

/-- Run `g` of the product's column sum. -/
def part (g : ℕ) (hg : g < 4) (i : Fin 1024) (j : Fin 4096) : EReal := ∑ k, X m c (ix2 (place g hg k) i) * Y m c (ix2 (place g hg k) j)

theorem part_of (t : Fin cfg0.N) (g : ℕ) (hg : g < 4) (h : t.val % 4 = g) (a b : Fin 1024) (j : Fin 4096) (hj : j.val = 1024 * (t.val / 4) + b.val) :
    ∑ k, HMul.hMul (α := EReal) (β := EReal) (γ := EReal) (iblk m c 0 t (ix2 k a)) (iblk m c 1 t (ix2 k b)) = part m c g hg a j :=
  Finset.sum_congr rfl fun k _ => congrArg₂ (fun p q : EReal => p * q)
    (blk0 m c t k a (place g hg k) (by show 1024 * g + k.val = _; omega)) (blk1 m c t k b (place g hg k) j (by show 1024 * g + k.val = _; omega) hj)

theorem left0 (t : Fin cfg0.N) (h : t.val % 4 = 0) (a b : Fin 1024) (j : Fin 4096) (hj : j.val = 1024 * (t.val / 4) + b.val) :
    (outsAt0 m c t.val t.isLt).2 (ix2 a b) = part m c 0 (by omega) a j := by
  rw [outsAt0_A m c t h (by omega) (by omega)]
  dsimp only
  rw [first, pay2_at]
  exact part_of m c t 0 _ h a b j hj

theorem leftB (t : Fin cfg0.N) (g : ℕ) (hg : g < 4) (h : t.val % 4 = g) (h1 : 1 ≤ g) (h2 : g ≠ 3) (a b : Fin 1024) (j : Fin 4096) (hj : j.val = 1024 * (t.val / 4) + b.val) :
    (outsAt0 m c t.val t.isLt).2 (ix2 a b) = (outsAt0 m c (t.val - 1) (Nat.lt_of_le_of_lt (Nat.sub_le _ _) t.isLt)).2 (ix2 a b) + part m c g hg a j := by
  rw [outsAt0_B m c t (by omega) (by omega) (by omega)]
  dsimp only
  rw [next, pay3_at, part_of m c t g hg h a b j hj]

theorem left3 (t : Fin cfg0.N) (h : t.val % 4 = 3) (z : Fin 1) (a b : Fin 1024) (j : Fin 4096) (hj : j.val = 1024 * (t.val / 4) + b.val) :
    (outsAt0 m c t.val t.isLt).1 (ix3 z a b)
      = part m c 0 (by omega) a j + part m c 1 (by omega) a j + part m c 2 (by omega) a j + part m c 3 (by omega) a j := by
  rw [outsAt0_C m c t (by omega) (by omega) h]
  dsimp only
  rw [last, pay4_at, pay3_at, part_of m c t 3 (by omega) h a b j hj]
  have hN := t.isLt
  refine congrArg (· + part m c 3 (by omega) a j) ?_
  refine (leftB m c ⟨t.val - 1, by omega⟩ 2 (by omega) (by show (t.val - 1) % 4 = 2; omega) (by omega) (by omega) a b j (by show _ = 1024 * ((t.val - 1) / 4) + b.val; omega)).trans ?_
  refine congrArg (· + part m c 2 (by omega) a j) ?_
  refine (leftB m c ⟨t.val - 1 - 1, by omega⟩ 1 (by omega) (by show (t.val - 1 - 1) % 4 = 1; omega) (by omega) (by omega) a b j (by show _ = 1024 * ((t.val - 1 - 1) / 4) + b.val; omega)).trans ?_
  refine congrArg (· + part m c 1 (by omega) a j) ?_
  exact left0 m c ⟨t.val - 1 - 1 - 1, by omega⟩ (by show (t.val - 1 - 1 - 1) % 4 = 0; omega) a b j (by show _ = 1024 * ((t.val - 1 - 1 - 1) / 4) + b.val; omega)

/-- The reference's result at an index. -/
theorem result_at (x0 : S4096x1024.Idx → EReal) (x1 : S4096x4096.Idx → EReal) (g : Fin 4) (i j : Fin 1024) (n : Fin 4096) (hn : n.val = 1024 * g.val + j.val) :
    Cert.Reference4Ideal.Read.val_main_v8 (F := Ideal) x0 x1 (ix3 g i j) = ∑ k : Fin 4096, x0 (ix2 k i) * x1 (ix2 k n) := by
  refine (Cert.Reference4Ideal.Read.val_main_v8_apply (F := Ideal) x0 x1 _).trans ?_
  refine (Cert.Reference4Ideal.Read.val_main_v7_apply (F := Ideal) x0 x1 _).trans ?_
  refine (Cert.Reference4Ideal.Read.val_main_v6_apply (F := Ideal) x0 x1 _).trans ?_
  refine (Cert.Reference4Ideal.Read.val_main_v5_apply (F := Ideal) x0 x1 _).trans ?_
  refine (Cert.Reference4Ideal.Read.val_main_v4_apply x0 x1 _).trans ?_
  refine Finset.sum_congr rfl fun k _ => (mul_comm _ _).trans ?_
  have hi := i.isLt
  have hj := j.isLt
  have hg := g.isLt
  refine congrArg₂ (· * ·) (congrArg x0 ((idx2 _).trans (congrArg (ix2 k) (Fin.ext ?_)))) (congrArg x1 ((idx2 _).trans (congrArg (ix2 k) (Fin.ext ?_))))
  · show ((i.val * 4 + g.val) * 1024 + j.val) / 4096 = i.val; omega
  · show ((i.val * 4 + g.val) * 1024 + j.val) % 4096 = n.val; omega

theorem cover (i : S4x1024x1024.Idx) : ∃ t : Fin cfg0.N, (cfg0.win 2).flush t = true ∧ i ∈ ((cfg0.win 2).blk t).view.set :=
  (covered_iff2 i).2 ⟨Nat.zero_le _, (i 0).isLt, Nat.zero_le _, (i 1).isLt, Nat.zero_le _, (i 2).isLt⟩

theorem arr : (dats m 0 c).arrAt 2 cfg0.N = Cert.Reference4Ideal.Read.val_main_v8 (F := Ideal) (X m c) (Y m c) := by
  refine (dats m 0 c).arrAt_eq_of_cover 2 _ (fun t hf => ?_) cover
  have h : t.val % 4 = 3 := (flush0_2 t).mp hf
  have ht := points t
  rw [flushed2]
  refine funext fun y => ?_
  rw [idx3 y]
  have hb : (y 2).val < 1024 := (y 2).isLt
  refine (left3 m c t h (y 0) (y 1) (y 2) ⟨1024 * (t.val / 4) + (y 2).val, by omega⟩ rfl).trans ?_
  refine Eq.symm ((congrArg (Cert.Reference4Ideal.Read.val_main_v8 (F := Ideal) (X m c) (Y m c)) (emb2 t (y 0) (y 1) (y 2) ⟨t.val / 4, by omega⟩ rfl)).trans ?_)
  exact (result_at _ _ _ _ _ ⟨1024 * (t.val / 4) + (y 2).val, by omega⟩ rfl).trans (four_parts _)

theorem algebra : Cert.algebraic_Kernel4Ideal_Reference4Ideal := fun m g m' g' _ he => by
  refine ⟨fun c => Cert.Reference4Ideal.Read.val_main_v8 (F := Ideal) (X m c) (Y m c), ?_, ?_⟩
  · refine (θ_run Cert.Kernel4Ideal.defs _ _).mono (fun r h c => ?_) (Cert.Kernel4Ideal.Value.run_blocks (F := Ideal) m g)
    obtain ⟨h0, hk⟩ := h c
    exact ⟨h0.trans (arr m c), hk⟩
  · refine (θ_run Cert.Reference4Ideal.defs _ _).mono (fun r h c => ?_) (Cert.Reference4Ideal.Value.run (F := Ideal) m' g')
    obtain ⟨h0, hk⟩ := h c
    obtain ⟨e0, e1⟩ := he c
    have f0 := h0.trans (Cert.Reference4Ideal.Read.val_main_v8_eq (F := Ideal) _ _)
    refine ⟨f0.trans ?_, hk⟩
    exact congrArg₂ (Cert.Reference4Ideal.Read.val_main_v8 (F := Ideal)) e0 e1

end Cert.Proof.UpDw

end
-- ==== Proof.ProductFrames.lean ====
/- The frames of the remaining products' calls: each runs, ends, and leaves its arguments as they were. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import Idealize.ShloMosaic.Lib.Quiescent

@[expose] public section

noncomputable section

namespace Cert.Proof

open Idealize.ShloMosaic Idealize.SL.Sem

theorem frame_kernel5 : Cert.quiescent_Kernel5 := fun m ρ _ => Cert.Kernel5.Gen.frame (F := Bits) m ρ
theorem frame_ideal5 : Cert.quiescent_Kernel5Ideal := fun m ρ _ => Cert.Kernel5Ideal.Gen.frame (F := Ideal) m ρ
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_kernel6 : Cert.quiescent_Kernel6 := fun m ρ _ => Cert.Kernel6.Gen.frame (F := Bits) m ρ
theorem frame_ideal6 : Cert.quiescent_Kernel6Ideal := fun m ρ _ => Cert.Kernel6Ideal.Gen.frame (F := Ideal) m ρ
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_kernel7 : Cert.quiescent_Kernel7 := fun m ρ _ => Cert.Kernel7.Gen.frame (F := Bits) m ρ
theorem frame_ideal7 : Cert.quiescent_Kernel7Ideal := fun m ρ _ => Cert.Kernel7Ideal.Gen.frame (F := Ideal) m ρ
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_kernel8 : Cert.quiescent_Kernel8 := fun m ρ _ => Cert.Kernel8.Gen.frame (F := Bits) m ρ
theorem frame_ideal8 : Cert.quiescent_Kernel8Ideal := fun m ρ _ => Cert.Kernel8Ideal.Gen.frame (F := Ideal) m ρ
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_kernel9 : Cert.quiescent_Kernel9 := fun m ρ _ => Cert.Kernel9.Gen.frame (F := Bits) m ρ
theorem frame_ideal9 : Cert.quiescent_Kernel9Ideal := fun m ρ _ => Cert.Kernel9Ideal.Gen.frame (F := Ideal) m ρ
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_kernel10 : Cert.quiescent_Kernel10 := fun m ρ _ => Cert.Kernel10.Gen.frame (F := Bits) m ρ
theorem frame_ideal10 : Cert.quiescent_Kernel10Ideal := fun m ρ _ => Cert.Kernel10Ideal.Gen.frame (F := Ideal) m ρ
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_kernel11 : Cert.quiescent_Kernel11 := fun m ρ _ => Cert.Kernel11.Gen.frame (F := Bits) m ρ
theorem frame_ideal11 : Cert.quiescent_Kernel11Ideal := fun m ρ _ => Cert.Kernel11Ideal.Gen.frame (F := Ideal) m ρ
theorem frame_reference11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem frame_kernel12 : Cert.quiescent_Kernel12 := fun m ρ _ => Cert.Kernel12.Gen.frame (F := Bits) m ρ
theorem frame_ideal12 : Cert.quiescent_Kernel12Ideal := fun m ρ _ => Cert.Kernel12Ideal.Gen.frame (F := Ideal) m ρ
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_kernel13 : Cert.quiescent_Kernel13 := fun m ρ _ => Cert.Kernel13.Gen.frame (F := Bits) m ρ
theorem frame_ideal13 : Cert.quiescent_Kernel13Ideal := fun m ρ _ => Cert.Kernel13Ideal.Gen.frame (F := Ideal) m ρ
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

end Cert.Proof

end
-- ==== Proof.Up.lean ====
/- The product into the middle of the feed-forward, and that into the projections of the recurrence: the same call. -/
module

public import proofs.«01_k».proof.Defs
public import proofs.«01_k».proof.Proof.Gen.Kernel5Ideal.Value
public import proofs.«01_k».proof.Proof.Gen.Reference5Ideal.Read
public import proofs.«01_k».proof.Proof.FourParts
public import Idealize.ShloMosaic.Lib.StableHlo.RunRead

@[expose] public section

set_option maxRecDepth 16384

noncomputable section

namespace Cert.Proof.Up

open Idealize.ShloMosaic Idealize.SL.Sem Cert.Kernel5Ideal Cert.Kernel5Ideal.Gen Cert.Kernel5Ideal.Value Idealize.ShloMosaic.Pointwise

theorem pay_at (x : Vec Ideal S1024x1024 .bf16) (y : Vec Ideal S1x1024x1024 .bf16) (i : Fin 1024) (j : Fin 1024) :
    k0_pay1 x y (ix2 i j) = ∑ k, (x (ix2 i k) : EReal) * y (ix3 (0 : Fin 1) k j) := by
  unfold k0_pay1
  pointwise

theorem out_at (x : Vec Ideal S1024x1024 .bf16) (y : Vec Ideal S1x1024x1024 .bf16) : out0_2 x y = k0_pay1 x y := by
  unfold out0_2
  rw [View.canon_unit_zero zeros2, View.ld_unit_zero (S := S1024x1024) zeros2, View.ld_unit_zero (S := S1x1024x1024) zeros3]

variable (m : (ℓ : Loc nD τ sig) → Buf (Elt Ideal) ℓ) (c : Dev nD)

theorem points (t : Fin cfg0.N) : t.val < 16 := lt_of_lt_of_eq t.isLt (show cfg0.N = 16 from N_0)

theorem at0 : ∀ t : Fin cfg0.N, win0_0.index t 0 = t.val / 4 ∧ win0_0.index t 1 = 0 := (by decide +kernel : ∀ t : Fin grid0.N, _)
theorem emb0 (t : Fin cfg0.N) (a : Fin 1024) (b : Fin 1024) (x : Fin 4096) (hx : x.val = 1024 * (t.val / 4) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem at1 : ∀ t : Fin cfg0.N, win0_1.index t 0 = t.val % 4 ∧ win0_1.index t 1 = 0 ∧ win0_1.index t 2 = 0 := (by decide +kernel : ∀ t : Fin grid0.N, _)
theorem emb1 (t : Fin cfg0.N) (g : Fin 1) (a : Fin 1024) (b : Fin 1024) (x : Fin 4) (hx : x.val = 1 * (t.val % 4) + g.val) :
    (win0_1.blk t).view.emb (ix3 g a b) = ix3 x a b := by
  refine funext fun i => Fin.ext ?_
  have h := at1 t
  match i with
  | ⟨0, _⟩ => show win0_1.index t 0 * 1 + 1 * g.val = x.val; omega
  | ⟨1, _⟩ => show win0_1.index t 1 * 1024 + 1 * a.val = a.val; omega
  | ⟨2, _⟩ => show win0_1.index t 2 * 1024 + 1 * b.val = b.val; omega
theorem at2 : ∀ t : Fin cfg0.N, win0_2.index t 0 = t.val / 4 ∧ win0_2.index t 1 = t.val % 4 := (by decide +kernel : ∀ t : Fin grid0.N, _)
theorem emb2 (t : Fin cfg0.N) (a : Fin 1024) (b : Fin 1024) (x : Fin 4096) (hx : x.val = 1024 * (t.val / 4) + a.val) (y : Fin 4096) (hy : y.val = 1024 * (t.val % 4) + b.val) :
    (win0_2.blk t).view.emb (ix2 a b) = ix2 x y := by
  refine funext fun i => Fin.ext ?_
  have h := at2 t
  match i with
  | ⟨0, _⟩ => show win0_2.index t 0 * 1024 + 1 * a.val = x.val; omega
  | ⟨1, _⟩ => show win0_2.index t 1 * 1024 + 1 * b.val = y.val; omega

/-- The two arguments, as arrays of extended reals. -/
abbrev X : S4096x1024.Idx → EReal := m ((c.tc : Thread nD τ).loc main_arg0)
abbrev Y : S4x1024x1024.Idx → EReal := m ((c.tc : Thread nD τ).loc main_arg1)

theorem blk0 (t : Fin cfg0.N) (a b : Fin 1024) (x : Fin 4096) (hx : x.val = 1024 * (t.val / 4) + a.val) :
    iblk m c 0 t (ix2 a b) = X m c (ix2 x b) :=
  (congrArg (V m c (Pipeline.arrRef spec0 0)) (emb0 t a b x hx)).trans (congrFun (V_main_arg0 m c) _)
theorem blk1 (t : Fin cfg0.N) (g : Fin 1) (a : Fin 1024) (b : Fin 1024) (x : Fin 4) (hx : x.val = 1 * (t.val % 4) + g.val) :
    iblk m c 1 t (ix3 g a b) = Y m c (ix3 x a b) :=
  (congrArg (V m c (Pipeline.arrRef spec0 1)) (emb1 t g a b x hx)).trans (congrFun (V_main_arg1 m c) _)

/-- The reference's result at an index: slot `q` holds the columns from `1024 q` on. -/
theorem result_at (x0 : S4096x1024.Idx → EReal) (x1 : S4x1024x1024.Idx → EReal) (i : Fin 4096) (n : Fin 4096) (q : Fin 4) (j : Fin 1024) (hn : n.val = 1024 * q.val + j.val) :
    Cert.Reference5Ideal.Read.val_main_v4 (F := Ideal) x0 x1 (ix2 i n) = ∑ k : Fin 1024, x0 (ix2 i k) * x1 (ix3 q k j) := by
  refine (Cert.Reference5Ideal.Read.val_main_v4_apply x0 x1 _).trans (Finset.sum_congr rfl fun k _ => ?_)
  refine congrArg₂ (· * ·) (congrArg x0 (idx2 _)) ?_
  refine (Cert.Reference5Ideal.Read.val_main_v3_apply (F := Ideal) x1 _).trans ((Cert.Reference5Ideal.Read.val_main_v2_apply (F := Ideal) x1 _).trans ?_)
  have hq := q.isLt
  have hj := j.isLt
  refine congrArg x1 (funext fun a => Fin.ext ?_)
  match a with
  | ⟨0, _⟩ => show (k.val * 4096 + n.val) / 1024 % 4 = q.val; omega
  | ⟨1, _⟩ => show (k.val * 4096 + n.val) / 4096 = k.val; omega
  | ⟨2, _⟩ => show (k.val * 4096 + n.val) % 1024 = j.val; omega

theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have l : 4 * ((i 0).val / 1024) + (i 1).val / 1024 < cfg0.N := lt_of_lt_of_eq (show _ < 16 by omega) (show cfg0.N = 16 from N_0).symm
  refine ⟨⟨4 * ((i 0).val / 1024) + (i 1).val / 1024, l⟩, flush0_2 _, ?_⟩
  have e := emb2 ⟨4 * ((i 0).val / 1024) + (i 1).val / 1024, l⟩ ⟨(i 0).val % 1024, by omega⟩ ⟨(i 1).val % 1024, by omega⟩
    (i 0) (by show (i 0).val = 1024 * ((4 * ((i 0).val / 1024) + (i 1).val / 1024) / 4) + (i 0).val % 1024; omega)
    (i 1) (by show (i 1).val = 1024 * ((4 * ((i 0).val / 1024) + (i 1).val / 1024) % 4) + (i 1).val % 1024; omega)
  exact Eq.subst (motive := fun x => x ∈ ((cfg0.win 2).blk _).view.set) (e.trans (idx2 i).symm) (View.emb_mem_set _ _)

theorem left_at (t : Fin cfg0.N) (a : Fin 1024) (b : Fin 1024) (x : Fin 4096) (hx : x.val = 1024 * (t.val / 4) + a.val) (y : Fin 4096) (hy : y.val = 1024 * (t.val % 4) + b.val) :
    out0_2 (iblk m c 0 t) (iblk m c 1 t) (ix2 a b) = Cert.Reference5Ideal.Read.val_main_v4 (F := Ideal) (X m c) (Y m c) (ix2 x y) := by
  rw [out_at]
  refine (pay_at _ _ a b).trans (Eq.trans ?_ (result_at _ _ x y ⟨t.val % 4, by omega⟩ b hy).symm)
  exact Finset.sum_congr rfl fun k _ => congrArg₂ (fun p q : EReal => p * q) (blk0 m c t a k x hx) (blk1 m c t 0 k b _ (by show t.val % 4 = 1 * (t.val % 4) + 0; omega))

theorem arr : (dats m 0 c).arrAt 2 cfg0.N = Cert.Reference5Ideal.Read.val_main_v4 (F := Ideal) (X m c) (Y m c) := by
  refine (dats m 0 c).arrAt_eq_of_cover 2 _ (fun t hf => ?_) cover
  have ht := points t
  rw [flushed2]
  refine funext fun y => ?_
  rw [idx2 y]
  have ha : (y 0).val < 1024 := (y 0).isLt
  have hb : (y 1).val < 1024 := (y 1).isLt
  refine (left_at m c t (y 0) (y 1) ⟨1024 * (t.val / 4) + (y 0).val, by omega⟩ rfl ⟨1024 * (t.val % 4) + (y 1).val, by omega⟩ rfl).trans ?_
  exact (congrArg (Cert.Reference5Ideal.Read.val_main_v4 (F := Ideal) (X m c) (Y m c))
    (emb2 t (y 0) (y 1) ⟨1024 * (t.val / 4) + (y 0).val, by omega⟩ rfl ⟨1024 * (t.val % 4) + (y 1).val, by omega⟩ rfl)).symm

theorem algebra : Cert.algebraic_Kernel5Ideal_Reference5Ideal := fun m g m' g' _ he => by
  refine ⟨fun c => Cert.Reference5Ideal.Read.val_main_v4 (F := Ideal) (X m c) (Y m c), ?_, ?_⟩
  · refine (θ_run Cert.Kernel5Ideal.defs _ _).mono (fun r h c => ?_) (Cert.Kernel5Ideal.Value.run_blocks (F := Ideal) m g)
    obtain ⟨h0, hk⟩ := h c
    exact ⟨h0.trans (arr m c), hk⟩
  · refine (θ_run Cert.Reference5Ideal.defs _ _).mono (fun r h c => ?_) (Cert.Reference5Ideal.Value.run (F := Ideal) m' g')
    obtain ⟨h0, hk⟩ := h c
    obtain ⟨e0, e1⟩ := he c
    have f0 := h0.trans (Cert.Reference5Ideal.Read.val_main_v4_eq (F := Ideal) _ _)
    refine ⟨f0.trans ?_, hk⟩
    exact congrArg₂ (Cert.Reference5Ideal.Read.val_main_v4 (F := Ideal)) e0 e1

end Cert.Proof.Up

end
-- ==== Proof.Down.lean ====
/- The product out of the middle of the feed-forward, added to what the block read: four partial products, one after the other, are one product. -/
module

public import proofs.«01_k».proof.Defs
public import proofs.«01_k».proof.Proof.Gen.Kernel6Ideal.Value
public import proofs.«01_k».proof.Proof.Gen.Reference6Ideal.Read
public import proofs.«01_k».proof.Proof.FourParts
public import Idealize.ShloMosaic.Lib.StableHlo.RunRead

@[expose] public section

set_option maxRecDepth 16384

noncomputable section

namespace Cert.Proof.Down

open Idealize.ShloMosaic Idealize.SL.Sem Cert.Kernel6Ideal Cert.Kernel6Ideal.Gen Cert.Kernel6Ideal.Value Idealize.ShloMosaic.Pointwise

section cases
variable (c : Dev nD) (i : grid0.Coords) (a : Memref sig .tc .vmem S1024x1024 .f32) (ha : a.IsWhole) (b : Memref sig .tc .vmem S1024x1024 .bf16) (hb : b.IsWhole)
  (d : Memref sig .tc .vmem S1024x1024 .f32) (hd : d.IsWhole) (o : Memref sig .tc .vmem S1024x1024 .f32) (ho : o.IsWhole) (s : Memref sig .tc .vmem S1024x1024 .f32) (hs : s.IsWhole)
  (x : Vec Ideal S1024x1024 .f32) (y : Vec Ideal S1024x1024 .bf16) (z acc : Vec Ideal S1024x1024 .f32)

theorem first (h0 : cond0_0 i) (h1 : ¬cond0_1 i) (h2 : ¬cond0_2 i) : sout0_A_0 c i a ha b hb d hd o ho s hs h0 h1 h2 x y z = k0_pay2 x y := by
  unfold sout0_A_0
  rw [View.read_writes_eq_canon _ _ _ (scover0_A_0 c i a ha b hb d hd o ho s hs h0 h1 h2 x y z)]
  unfold kernelRun0_A
  dsimp only
  rw [View.canon_unit_zero zeros2]
  simp only [View.readAt_eq_ld, ha.read_unread, hb.read_unread, hd.read_unread, View.ld_unit_zero (S := S1024x1024) zeros2]

theorem next (h0 : ¬cond0_0 i) (h1 : cond0_1 i) (h2 : ¬cond0_2 i) : sout0_B_0 c i a ha b hb d hd o ho s hs h0 h1 h2 x y z acc = k0_pay3 x y acc := by
  unfold sout0_B_0
  rw [View.read_writes_eq_canon _ _ _ (scover0_B_0 c i a ha b hb d hd o ho s hs h0 h1 h2 x y z acc)]
  unfold kernelRun0_B
  dsimp only
  rw [View.canon_unit_zero zeros2]
  simp only [View.readAt_eq_ld, ha.read_unread, hb.read_unread, hd.read_unread, hs.read_unread, View.ld_unit_zero (S := S1024x1024) zeros2]

theorem last (h0 : ¬cond0_0 i) (h1 : cond0_1 i) (h2 : cond0_2 i) : out0_C_3 c i a ha b hb d hd o ho s hs h0 h1 h2 x y z acc = k0_pay4 (k0_pay3 x y acc) z := by
  unfold out0_C_3
  rw [View.read_writes_eq_canon _ _ _ (cover0_C_3 c i a ha b hb d hd o ho s hs h0 h1 h2 x y z acc)]
  unfold kernelRun0_C
  dsimp only
  sl_unfold_words
  rw [View.canon_unit_zero zeros2]
  simp only [View.readAt_eq_ld, ha.read_unread, hb.read_unread, hd.read_unread, hs.read_unread, View.ld_unit_zero (S := S1024x1024) zeros2, View.readCov_unit_zero (S := S1024x1024) _ zeros2]

end cases

theorem pay1_at (x : Vec Ideal S1024x1024 .f32) (y : Vec Ideal S1024x1024 .bf16) (i j : Fin 1024) : k0_pay1 x y (ix2 i j) = ∑ k, sqpos (x (ix2 i k)) * y (ix2 k j) := by
  unfold k0_pay1
  rw [shapeCast_self]
  pointwise
  rfl
theorem pay2_at (x : Vec Ideal S1024x1024 .f32) (y : Vec Ideal S1024x1024 .bf16) (i j : Fin 1024) : k0_pay2 x y (ix2 i j) = ∑ k, sqpos (x (ix2 i k)) * y (ix2 k j) := by
  unfold k0_pay2
  rw [shapeCast_self]
  exact pay1_at x y i j
theorem pay3_at (x : Vec Ideal S1024x1024 .f32) (y : Vec Ideal S1024x1024 .bf16) (acc : Vec Ideal S1024x1024 .f32) (i j : Fin 1024) : k0_pay3 x y acc (ix2 i j) = acc (ix2 i j) + ∑ k, sqpos (x (ix2 i k)) * y (ix2 k j) := by
  unfold k0_pay3
  rw [shapeCast_self]
  exact congrArg (acc (ix2 i j) + ·) (pay1_at x y i j)

variable (m : (ℓ : Loc nD τ sig) → Buf (Elt Ideal) ℓ) (c : Dev nD)

theorem lt16 (t : Fin cfg0.N) : t.val < 16 := lt_of_lt_of_eq t.isLt (show cfg0.N = 16 from N_0)

theorem at0 : ∀ t : Fin cfg0.N, win0_0.index t 0 = t.val / 4 ∧ win0_0.index t 1 = t.val % 4 := (by decide +kernel : ∀ t : Fin grid0.N, _)
theorem at1 : ∀ t : Fin cfg0.N, win0_1.index t 0 = t.val % 4 ∧ win0_1.index t 1 = 0 := (by decide +kernel : ∀ t : Fin grid0.N, _)
theorem at2 : ∀ t : Fin cfg0.N, win0_2.index t 0 = t.val / 4 ∧ win0_2.index t 1 = 0 := (by decide +kernel : ∀ t : Fin grid0.N, _)
theorem at3 : ∀ t : Fin cfg0.N, win0_3.index t 0 = t.val / 4 ∧ win0_3.index t 1 = 0 := (by decide +kernel : ∀ t : Fin grid0.N, _)

theorem emb0 (t : Fin cfg0.N) (a b : Fin 1024) (x y : Fin 4096) (hx : x.val = 1024 * (t.val / 4) + a.val) (hy : y.val = 1024 * (t.val % 4) + b.val) :
    (win0_0.blk t).view.emb (ix2 a b) = ix2 x y := by
  refine funext fun i => Fin.ext ?_
  have h := at0 t
  match i with
  | ⟨0, _⟩ => show win0_0.index t 0 * 1024 + 1 * a.val = x.val; omega
  | ⟨1, _⟩ => show win0_0.index t 1 * 1024 + 1 * b.val = y.val; omega
theorem emb1 (t : Fin cfg0.N) (a b : Fin 1024) (x : Fin 4096) (hx : x.val = 1024 * (t.val % 4) + a.val) :
    (win0_1.blk t).view.emb (ix2 a b) = ix2 x b := by
  refine funext fun i => Fin.ext ?_
  have h := at1 t
  match i with
  | ⟨0, _⟩ => show win0_1.index t 0 * 1024 + 1 * a.val = x.val; omega
  | ⟨1, _⟩ => show win0_1.index t 1 * 1024 + 1 * b.val = b.val; omega
theorem emb2 (t : Fin cfg0.N) (a b : Fin 1024) (x : Fin 4096) (hx : x.val = 1024 * (t.val / 4) + a.val) :
    (win0_2.blk t).view.emb (ix2 a b) = ix2 x b := by
  refine funext fun i => Fin.ext ?_
  have h := at2 t
  match i with
  | ⟨0, _⟩ => show win0_2.index t 0 * 1024 + 1 * a.val = x.val; omega
  | ⟨1, _⟩ => show win0_2.index t 1 * 1024 + 1 * b.val = b.val; omega
theorem emb3 (t : Fin cfg0.N) (a b : Fin 1024) (x : Fin 4096) (hx : x.val = 1024 * (t.val / 4) + a.val) :
    (win0_3.blk t).view.emb (ix2 a b) = ix2 x b := by
  refine funext fun i => Fin.ext ?_
  have h := at3 t
  match i with
  | ⟨0, _⟩ => show win0_3.index t 0 * 1024 + 1 * a.val = x.val; omega
  | ⟨1, _⟩ => show win0_3.index t 1 * 1024 + 1 * b.val = b.val; omega

/-- The three arguments, as arrays of extended reals, and the weight with its leading axes joined. -/
abbrev U : S4096x4096.Idx → EReal := m ((c.tc : Thread nD τ).loc main_arg0)
abbrev W : S4x1024x1024.Idx → EReal := m ((c.tc : Thread nD τ).loc main_arg1)
abbrev R : S4096x1024.Idx → EReal := m ((c.tc : Thread nD τ).loc main_arg2)
abbrev joined (w : S4x1024x1024.Idx → EReal) : S4096x1024.Idx → EReal := Cert.Reference6Ideal.Read.val_main_v1 (F := Ideal) w
abbrev D : S4096x1024.Idx → EReal := joined (W m c)

theorem V_w : V m c main_v0 = joined (W m c) := by
  unfold V
  after_reads_simp
  rfl

theorem blk0 (t : Fin cfg0.N) (a b : Fin 1024) (x y : Fin 4096) (hx : x.val = 1024 * (t.val / 4) + a.val) (hy : y.val = 1024 * (t.val % 4) + b.val) :
    iblk m c 0 t (ix2 a b) = U m c (ix2 x y) :=
  (congrArg (V m c (Pipeline.arrRef spec0 0)) (emb0 t a b x y hx hy)).trans (congrFun (V_main_arg0 m c) _)
theorem blk1 (t : Fin cfg0.N) (a b : Fin 1024) (x : Fin 4096) (hx : x.val = 1024 * (t.val % 4) + a.val) :
    iblk m c 1 t (ix2 a b) = D m c (ix2 x b) :=
  (congrArg (V m c (Pipeline.arrRef spec0 1)) (emb1 t a b x hx)).trans (congrFun (V_w m c) _)
theorem blk2 (t : Fin cfg0.N) (a b : Fin 1024) (x : Fin 4096) (hx : x.val = 1024 * (t.val / 4) + a.val) :
    iblk m c 2 t (ix2 a b) = R m c (ix2 x b) :=
  (congrArg (V m c (Pipeline.arrRef spec0 2)) (emb2 t a b x hx)).trans (congrFun (V_main_arg2 m c) _)

/-- Run `g` of the product's column sum. -/
def part (g : ℕ) (hg : g < 4) (i : Fin 4096) (j : Fin 1024) : EReal := ∑ k, sqpos (U m c (ix2 i (place g hg k))) * D m c (ix2 (place g hg k) j)

theorem part_of (t : Fin cfg0.N) (g : ℕ) (hg : g < 4) (h : t.val % 4 = g) (a b : Fin 1024) (i : Fin 4096) (hi : i.val = 1024 * (t.val / 4) + a.val) :
    ∑ k, sqpos (iblk m c 0 t (ix2 a k)) * iblk m c 1 t (ix2 k b) = part m c g hg i b :=
  Finset.sum_congr rfl fun k _ => congrArg₂ (fun p q => sqpos p * q)
    (blk0 m c t a k i (place g hg k) hi (by show 1024 * g + k.val = _; omega)) (blk1 m c t k b (place g hg k) (by show 1024 * g + k.val = _; omega))

theorem left0 (t : Fin cfg0.N) (h : t.val % 4 = 0) (a b : Fin 1024) (i : Fin 4096) (hi : i.val = 1024 * (t.val / 4) + a.val) :
    (outsAt0 m c t.val t.isLt).2 (ix2 a b) = part m c 0 (by omega) i b := by
  rw [outsAt0_A m c t h (by omega) (by omega)]
  dsimp only
  rw [first, pay2_at]
  exact part_of m c t 0 _ h a b i hi

theorem leftB (t : Fin cfg0.N) (g : ℕ) (hg : g < 4) (h : t.val % 4 = g) (h1 : 1 ≤ g) (h2 : g ≠ 3) (a b : Fin 1024) (i : Fin 4096) (hi : i.val = 1024 * (t.val / 4) + a.val) :
    (outsAt0 m c t.val t.isLt).2 (ix2 a b) = (outsAt0 m c (t.val - 1) (Nat.lt_of_le_of_lt (Nat.sub_le _ _) t.isLt)).2 (ix2 a b) + part m c g hg i b := by
  rw [outsAt0_B m c t (by omega) (by omega) (by omega)]
  dsimp only
  rw [next, pay3_at, part_of m c t g hg h a b i hi]

theorem left3 (t : Fin cfg0.N) (h : t.val % 4 = 3) (a b : Fin 1024) (i : Fin 4096) (hi : i.val = 1024 * (t.val / 4) + a.val) :
    (outsAt0 m c t.val t.isLt).1 (ix2 a b)
      = (part m c 0 (by omega) i b + part m c 1 (by omega) i b + part m c 2 (by omega) i b + part m c 3 (by omega) i b) + R m c (ix2 i b) := by
  rw [outsAt0_C m c t (by omega) (by omega) h]
  dsimp only
  rw [last]
  refine congrArg₂ (fun p q : EReal => p + q) ?_ (blk2 m c t a b i hi)
  refine (pay3_at _ _ _ a b).trans ?_
  rw [part_of m c t 3 (by omega) h a b i hi]
  have hN := t.isLt
  refine congrArg (· + part m c 3 (by omega) i b) ?_
  refine (leftB m c ⟨t.val - 1, by omega⟩ 2 (by omega) (by show (t.val - 1) % 4 = 2; omega) (by omega) (by omega) a b i (by show _ = 1024 * ((t.val - 1) / 4) + a.val; omega)).trans ?_
  refine congrArg (· + part m c 2 (by omega) i b) ?_
  refine (leftB m c ⟨t.val - 1 - 1, by omega⟩ 1 (by omega) (by show (t.val - 1 - 1) % 4 = 1; omega) (by omega) (by omega) a b i (by show _ = 1024 * ((t.val - 1 - 1) / 4) + a.val; omega)).trans ?_
  refine congrArg (· + part m c 1 (by omega) i b) ?_
  exact left0 m c ⟨t.val - 1 - 1 - 1, by omega⟩ (by show (t.val - 1 - 1 - 1) % 4 = 0; omega) a b i (by show _ = 1024 * ((t.val - 1 - 1 - 1) / 4) + a.val; omega)

/-- The reference's result at an index. -/
theorem result_at (x0 : S4096x4096.Idx → EReal) (x1 : S4x1024x1024.Idx → EReal) (x2 : S4096x1024.Idx → EReal) (i : Fin 4096) (j : Fin 1024) :
    Cert.Reference6Ideal.Read.val_main_v5 (F := Ideal) x0 x1 x2 (ix2 i j) = (∑ k : Fin 4096, sqpos (x0 (ix2 i k)) * joined x1 (ix2 k j)) + x2 (ix2 i j) := by
  refine (Cert.Reference6Ideal.Read.val_main_v5_apply (F := Ideal) x0 x1 x2 _).trans ((add_comm (G := EReal) _ _).trans ?_)
  refine congrArg (fun p : EReal => p + x2 (ix2 i j)) ?_
  refine (Cert.Reference6Ideal.Read.val_main_v4_apply x0 x1 _).trans ?_
  refine Finset.sum_congr rfl fun k _ => ?_
  refine congrArg₂ (· * ·) ?_ (congrArg (joined x1) (idx2 _))
  rw [Cert.Reference6Ideal.Read.val_main_v3_apply, Cert.Reference6Ideal.Read.val_main_v2_apply, Cert.Reference6Ideal.Read.val_main_call0_v0_apply,
    Cert.Reference6Ideal.Read.val_main_call0_cst_apply]
  have e : x0 (Cert.Reference6Ideal.Read.lidx_main_v4 (ix2 i j) k) = x0 (ix2 i k) := congrArg x0 (idx2 _)
  rw [e]
  show max _ (Ideal.ofBits .f32 0x00000000#32) * max _ (Ideal.ofBits .f32 0x00000000#32) = sqpos _
  rw [Ideal.ofBits_zero_f32]
  rfl

theorem cover (i : S4096x1024.Idx) : ∃ t : Fin cfg0.N, (cfg0.win 3).flush t = true ∧ i ∈ ((cfg0.win 3).blk t).view.set :=
  (covered_iff3 i).2 ⟨Nat.zero_le _, (i 0).isLt, Nat.zero_le _, (i 1).isLt⟩

theorem arr : (dats m 0 c).arrAt 3 cfg0.N = Cert.Reference6Ideal.Read.val_main_v5 (F := Ideal) (U m c) (W m c) (R m c) := by
  refine (dats m 0 c).arrAt_eq_of_cover 3 _ (fun t hf => ?_) cover
  have h : t.val % 4 = 3 := (flush0_3 t).mp hf
  have ht := lt16 t
  rw [flushed3]
  refine funext fun y => ?_
  rw [idx2 y]
  have ha : (y 0).val < 1024 := (y 0).isLt
  refine (left3 m c t h (y 0) (y 1) ⟨1024 * (t.val / 4) + (y 0).val, by omega⟩ rfl).trans ?_
  refine Eq.symm ((congrArg (Cert.Reference6Ideal.Read.val_main_v5 (F := Ideal) (U m c) (W m c) (R m c)) (emb3 t (y 0) (y 1) ⟨1024 * (t.val / 4) + (y 0).val, by omega⟩ rfl)).trans ?_)
  exact (result_at _ _ _ _ _).trans (congrArg (fun p : EReal => p + _) (four_parts _))

theorem algebra : Cert.algebraic_Kernel6Ideal_Reference6Ideal := fun m g m' g' _ he => by
  refine ⟨fun c => Cert.Reference6Ideal.Read.val_main_v5 (F := Ideal) (U m c) (W m c) (R m c), ?_, ?_⟩
  · refine (θ_run Cert.Kernel6Ideal.defs _ _).mono (fun r h c => ?_) (Cert.Kernel6Ideal.Value.run_blocks (F := Ideal) m g)
    obtain ⟨h0, hk⟩ := h c
    exact ⟨h0.trans (arr m c), hk⟩
  · refine (θ_run Cert.Reference6Ideal.defs _ _).mono (fun r h c => ?_) (Cert.Reference6Ideal.Value.run (F := Ideal) m' g')
    obtain ⟨h0, hk⟩ := h c
    obtain ⟨e0, e1, e2⟩ := he c
    have f0 := h0.trans (Cert.Reference6Ideal.Read.val_main_v5_eq (F := Ideal) _ _ _)
    refine ⟨f0.trans ?_, hk⟩
    exact congr (congrArg₂ (Cert.Reference6Ideal.Read.val_main_v5 (F := Ideal)) e0 e1) e2

end Cert.Proof.Down

end
-- ==== Proof.InDw.lean ====
/- The gradient of the projections of the recurrence: four partial products, one after the other, are one product. -/
module

public import proofs.«01_k».proof.Defs
public import proofs.«01_k».proof.Proof.Gen.Kernel7Ideal.Value
public import proofs.«01_k».proof.Proof.Gen.Reference7Ideal.Read
public import proofs.«01_k».proof.Proof.FourParts

@[expose] public section

set_option maxRecDepth 16384

noncomputable section

namespace Cert.Proof.InDw

open Idealize.ShloMosaic Idealize.SL.Sem Cert.Kernel7Ideal Cert.Kernel7Ideal.Gen Cert.Kernel7Ideal.Value Idealize.ShloMosaic.Pointwise

section cases
variable (c : Dev nD) (i : grid0.Coords) (a : Memref sig .tc .vmem S1024x1024 .bf16) (ha : a.IsWhole) (b : Memref sig .tc .vmem S1x1024x1024 .bf16) (hb : b.IsWhole)
  (o : Memref sig .tc .vmem S1x1024x1024 .bf16) (ho : o.IsWhole) (s : Memref sig .tc .vmem S1024x1024 .f32) (hs : s.IsWhole)
  (x : Vec Ideal S1024x1024 .bf16) (y : Vec Ideal S1x1024x1024 .bf16) (acc : Vec Ideal S1024x1024 .f32)

theorem first (h0 : cond0_0 i) (h1 : ¬cond0_1 i) (h2 : ¬cond0_2 i) : sout0_A_0 c i a ha b hb o ho s hs h0 h1 h2 x y = k0_pay2 x y := by
  unfold sout0_A_0
  rw [View.read_writes_eq_canon _ _ _ (scover0_A_0 c i a ha b hb o ho s hs h0 h1 h2 x y)]
  unfold kernelRun0_A
  dsimp only
  rw [View.canon_unit_zero zeros2]
  simp only [View.readAt_eq_ld, ha.read_unread, hb.read_unread, View.ld_unit_zero (S := S1024x1024) zeros2, View.ld_unit_zero (S := S1x1024x1024) zeros3]

theorem next (h0 : ¬cond0_0 i) (h1 : cond0_1 i) (h2 : ¬cond0_2 i) : sout0_B_0 c i a ha b hb o ho s hs h0 h1 h2 x y acc = k0_pay3 x y acc := by
  unfold sout0_B_0
  rw [View.read_writes_eq_canon _ _ _ (scover0_B_0 c i a ha b hb o ho s hs h0 h1 h2 x y acc)]
  unfold kernelRun0_B
  dsimp only
  rw [View.canon_unit_zero zeros2]
  simp only [View.readAt_eq_ld, ha.read_unread, hb.read_unread, hs.read_unread, View.ld_unit_zero (S := S1024x1024) zeros2, View.ld_unit_zero (S := S1x1024x1024) zeros3]

theorem last (h0 : ¬cond0_0 i) (h1 : cond0_1 i) (h2 : cond0_2 i) : out0_C_2 c i a ha b hb o ho s hs h0 h1 h2 x y acc = k0_pay4 (k0_pay3 x y acc) := by
  unfold out0_C_2
  rw [View.read_writes_eq_canon _ _ _ (cover0_C_2 c i a ha b hb o ho s hs h0 h1 h2 x y acc)]
  unfold kernelRun0_C
  dsimp only
  sl_unfold_words
  rw [View.canon_unit_zero zeros3]
  simp only [View.readAt_eq_ld, ha.read_unread, hb.read_unread, hs.read_unread, View.ld_unit_zero (S := S1024x1024) zeros2, View.ld_unit_zero (S := S1x1024x1024) zeros3, View.readCov_unit_zero (S := S1024x1024) _ zeros2]

end cases

theorem pay1_at (x : Vec Ideal S1024x1024 .bf16) (y : Vec Ideal S1x1024x1024 .bf16) (i j : Fin 1024) : k0_pay1 x y (ix2 i j) = ∑ k, (x (ix2 k i) : EReal) * y (ix3 (0 : Fin 1) k j) := by
  unfold k0_pay1
  pointwise
theorem pay2_at (x : Vec Ideal S1024x1024 .bf16) (y : Vec Ideal S1x1024x1024 .bf16) (i j : Fin 1024) : k0_pay2 x y (ix2 i j) = ∑ k, (x (ix2 k i) : EReal) * y (ix3 (0 : Fin 1) k j) := by
  unfold k0_pay2
  rw [shapeCast_self]
  exact pay1_at x y i j
theorem pay3_at (x : Vec Ideal S1024x1024 .bf16) (y : Vec Ideal S1x1024x1024 .bf16) (acc : Vec Ideal S1024x1024 .f32) (i j : Fin 1024) :
    k0_pay3 x y acc (ix2 i j) = acc (ix2 i j) + ∑ k, (x (ix2 k i) : EReal) * y (ix3 (0 : Fin 1) k j) := by
  unfold k0_pay3
  rw [shapeCast_self]
  exact congrArg (acc (ix2 i j) + ·) (pay1_at x y i j)
theorem pay4_at (w : Vec Ideal S1024x1024 .f32) (g : Fin 1) (i j : Fin 1024) : k0_pay4 w (ix3 g i j) = w (ix2 i j) := by
  unfold k0_pay4
  refine (shapeCast_apply _ shapeCasts_S1024x1024_S1x1024x1024 (ix3 g i j) (ix2 i j) ?_).trans rfl
  rewrite [Shape.rowMajor_val_two, Shape.rowMajor_val_three]
  show i.val * 1024 + j.val = (g.val * 1024 + i.val) * 1024 + j.val
  omega

variable (m : (ℓ : Loc nD τ sig) → Buf (Elt Ideal) ℓ) (c : Dev nD)

theorem points (t : Fin cfg0.N) : t.val < 16 := lt_of_lt_of_eq t.isLt (show cfg0.N = 16 from N_0)

theorem at0 : ∀ t : Fin cfg0.N, win0_0.index t 0 = t.val % 4 ∧ win0_0.index t 1 = 0 := (by decide +kernel : ∀ t : Fin grid0.N, _)
theorem at1 : ∀ t : Fin cfg0.N, win0_1.index t 0 = t.val / 4 ∧ win0_1.index t 1 = t.val % 4 ∧ win0_1.index t 2 = 0 := (by decide +kernel : ∀ t : Fin grid0.N, _)
theorem at2 : ∀ t : Fin cfg0.N, win0_2.index t 0 = t.val / 4 ∧ win0_2.index t 1 = 0 ∧ win0_2.index t 2 = 0 := (by decide +kernel : ∀ t : Fin grid0.N, _)

theorem emb0 (t : Fin cfg0.N) (a b : Fin 1024) (x : Fin 4096) (hx : x.val = 1024 * (t.val % 4) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem emb1 (t : Fin cfg0.N) (g : Fin 1) (a b : Fin 1024) (z : Fin 4) (x : Fin 4096) (hz : z.val = t.val / 4) (hx : x.val = 1024 * (t.val % 4) + a.val) :
    (win0_1.blk t).view.emb (ix3 g a b) = ix3 z x b := by
  refine funext fun i => Fin.ext ?_
  have h := at1 t
  match i with
  | ⟨0, _⟩ => show win0_1.index t 0 * 1 + 1 * g.val = z.val; omega
  | ⟨1, _⟩ => show win0_1.index t 1 * 1024 + 1 * a.val = x.val; omega
  | ⟨2, _⟩ => show win0_1.index t 2 * 1024 + 1 * b.val = b.val; omega
theorem emb2 (t : Fin cfg0.N) (g : Fin 1) (a b : Fin 1024) (x : Fin 4) (hx : x.val = t.val / 4) :
    (win0_2.blk t).view.emb (ix3 g a b) = ix3 x a b := by
  refine funext fun i => Fin.ext ?_
  have h := at2 t
  match i with
  | ⟨0, _⟩ => show win0_2.index t 0 * 1 + 1 * g.val = x.val; omega
  | ⟨1, _⟩ => show win0_2.index t 1 * 1024 + 1 * a.val = a.val; omega
  | ⟨2, _⟩ => show win0_2.index t 2 * 1024 + 1 * b.val = b.val; omega

/-- The two arguments, as arrays of extended reals. -/
abbrev X : S4096x1024.Idx → EReal := m ((c.tc : Thread nD τ).loc main_arg0)
abbrev Y : S4x4096x1024.Idx → EReal := m ((c.tc : Thread nD τ).loc main_arg1)

theorem blk0 (t : Fin cfg0.N) (a b : Fin 1024) (x : Fin 4096) (hx : x.val = 1024 * (t.val % 4) + a.val) :
    iblk m c 0 t (ix2 a b) = X m c (ix2 x b) :=
  (congrArg (V m c (Pipeline.arrRef spec0 0)) (emb0 t a b x hx)).trans (congrFun (V_main_arg0 m c) _)
theorem blk1 (t : Fin cfg0.N) (g : Fin 1) (a b : Fin 1024) (z : Fin 4) (x : Fin 4096) (hz : z.val = t.val / 4) (hx : x.val = 1024 * (t.val % 4) + a.val) :
    iblk m c 1 t (ix3 g a b) = Y m c (ix3 z x b) :=
  (congrArg (V m c (Pipeline.arrRef spec0 1)) (emb1 t g a b z x hz hx)).trans (congrFun (V_main_arg1 m c) _)

/-- Run `g` of the product's column sum. -/
def part (g : ℕ) (hg : g < 4) (i : Fin 1024) (z : Fin 4) (j : Fin 1024) : EReal := ∑ k, X m c (ix2 (place g hg k) i) * Y m c (ix3 z (place g hg k) j)

theorem part_of (t : Fin cfg0.N) (g : ℕ) (hg : g < 4) (h : t.val % 4 = g) (a b : Fin 1024) (z : Fin 4) (hz : z.val = t.val / 4) :
    ∑ k, HMul.hMul (α := EReal) (β := EReal) (γ := EReal) (iblk m c 0 t (ix2 k a)) (iblk m c 1 t (ix3 (0 : Fin 1) k b)) = part m c g hg a z b :=
  Finset.sum_congr rfl fun k _ => congrArg₂ (fun p q : EReal => p * q)
    (blk0 m c t k a (place g hg k) (by show 1024 * g + k.val = _; omega)) (blk1 m c t 0 k b z (place g hg k) hz (by show 1024 * g + k.val = _; omega))

theorem left0 (t : Fin cfg0.N) (h : t.val % 4 = 0) (a b : Fin 1024) (z : Fin 4) (hz : z.val = t.val / 4) :
    (outsAt0 m c t.val t.isLt).2 (ix2 a b) = part m c 0 (by omega) a z b := by
  rw [outsAt0_A m c t h (by omega) (by omega)]
  dsimp only
  rw [first, pay2_at]
  exact part_of m c t 0 _ h a b z hz

theorem leftB (t : Fin cfg0.N) (g : ℕ) (hg : g < 4) (h : t.val % 4 = g) (h1 : 1 ≤ g) (h2 : g ≠ 3) (a b : Fin 1024) (z : Fin 4) (hz : z.val = t.val / 4) :
    (outsAt0 m c t.val t.isLt).2 (ix2 a b) = (outsAt0 m c (t.val - 1) (Nat.lt_of_le_of_lt (Nat.sub_le _ _) t.isLt)).2 (ix2 a b) + part m c g hg a z b := by
  rw [outsAt0_B m c t (by omega) (by omega) (by omega)]
  dsimp only
  rw [next, pay3_at, part_of m c t g hg h a b z hz]

theorem left3 (t : Fin cfg0.N) (h : t.val % 4 = 3) (u : Fin 1) (a b : Fin 1024) (z : Fin 4) (hz : z.val = t.val / 4) :
    (outsAt0 m c t.val t.isLt).1 (ix3 u a b)
      = part m c 0 (by omega) a z b + part m c 1 (by omega) a z b + part m c 2 (by omega) a z b + part m c 3 (by omega) a z b := by
  rw [outsAt0_C m c t (by omega) (by omega) h]
  dsimp only
  rw [last, pay4_at, pay3_at, part_of m c t 3 (by omega) h a b z hz]
  have hN := t.isLt
  refine congrArg (· + part m c 3 (by omega) a z b) ?_
  refine (leftB m c ⟨t.val - 1, by omega⟩ 2 (by omega) (by show (t.val - 1) % 4 = 2; omega) (by omega) (by omega) a b z (by show z.val = ((t.val - 1) / 4); omega)).trans ?_
  refine congrArg (· + part m c 2 (by omega) a z b) ?_
  refine (leftB m c ⟨t.val - 1 - 1, by omega⟩ 1 (by omega) (by show (t.val - 1 - 1) % 4 = 1; omega) (by omega) (by omega) a b z (by show z.val = ((t.val - 1 - 1) / 4); omega)).trans ?_
  refine congrArg (· + part m c 1 (by omega) a z b) ?_
  exact left0 m c ⟨t.val - 1 - 1 - 1, by omega⟩ (by show (t.val - 1 - 1 - 1) % 4 = 0; omega) a b z (by show z.val = ((t.val - 1 - 1 - 1) / 4); omega)

/-- The reference's result at an index. -/
theorem result_at (x0 : S4096x1024.Idx → EReal) (x1 : S4x4096x1024.Idx → EReal) (g : Fin 4) (i j : Fin 1024) :
    Cert.Reference7Ideal.Read.val_main_v10 (F := Ideal) x0 x1 (ix3 g i j) = ∑ k : Fin 4096, x0 (ix2 k i) * x1 (ix3 g k j) := by
  refine (Cert.Reference7Ideal.Read.val_main_v10_apply (F := Ideal) x0 x1 _).trans ?_
  refine (Cert.Reference7Ideal.Read.val_main_v9_apply (F := Ideal) x0 x1 _).trans ?_
  refine (Cert.Reference7Ideal.Read.val_main_v8_apply (F := Ideal) x0 x1 _).trans ?_
  refine (Cert.Reference7Ideal.Read.val_main_v7_apply (F := Ideal) x0 x1 _).trans ?_
  refine (Cert.Reference7Ideal.Read.val_main_v6_apply x0 x1 _).trans ?_
  refine Finset.sum_congr rfl fun k _ => (mul_comm _ _).trans ?_
  have hi := i.isLt
  have hj := j.isLt
  have hg := g.isLt
  have hk := k.isLt
  refine congrArg₂ (· * ·) (congrArg x0 ((idx2 _).trans (congrArg (ix2 k) (Fin.ext ?_)))) ?_
  · show ((i.val * 4 + g.val) * 1024 + j.val) / 4096 = i.val; omega
  refine (Cert.Reference7Ideal.Read.val_main_v2_apply (F := Ideal) x1 _).trans ((Cert.Reference7Ideal.Read.val_main_v1_apply (F := Ideal) x1 _).trans ?_)
  refine congrArg x1 (funext fun a => Fin.ext ?_)
  match a with
  | ⟨0, _⟩ => show (k.val * 4096 + ((i.val * 4 + g.val) * 1024 + j.val) % 4096) / 1024 % 4 = g.val; omega
  | ⟨1, _⟩ => show (k.val * 4096 + ((i.val * 4 + g.val) * 1024 + j.val) % 4096) / 4096 = k.val; omega
  | ⟨2, _⟩ => show (k.val * 4096 + ((i.val * 4 + g.val) * 1024 + j.val) % 4096) % 1024 = j.val; omega

theorem cover (i : S4x1024x1024.Idx) : ∃ t : Fin cfg0.N, (cfg0.win 2).flush t = true ∧ i ∈ ((cfg0.win 2).blk t).view.set :=
  (covered_iff2 i).2 ⟨Nat.zero_le _, (i 0).isLt, Nat.zero_le _, (i 1).isLt, Nat.zero_le _, (i 2).isLt⟩

theorem arr : (dats m 0 c).arrAt 2 cfg0.N = Cert.Reference7Ideal.Read.val_main_v10 (F := Ideal) (X m c) (Y m c) := by
  refine (dats m 0 c).arrAt_eq_of_cover 2 _ (fun t hf => ?_) cover
  have h : t.val % 4 = 3 := (flush0_2 t).mp hf
  have ht := points t
  rw [flushed2]
  refine funext fun y => ?_
  rw [idx3 y]
  have hb : (y 2).val < 1024 := (y 2).isLt
  refine (left3 m c t h (y 0) (y 1) (y 2) ⟨t.val / 4, by omega⟩ rfl).trans ?_
  refine Eq.symm ((congrArg (Cert.Reference7Ideal.Read.val_main_v10 (F := Ideal) (X m c) (Y m c)) (emb2 t (y 0) (y 1) (y 2) ⟨t.val / 4, by omega⟩ rfl)).trans ?_)
  exact (result_at _ _ _ _ _).trans (four_parts _)

theorem algebra : Cert.algebraic_Kernel7Ideal_Reference7Ideal := fun m g m' g' _ he => by
  refine ⟨fun c => Cert.Reference7Ideal.Read.val_main_v10 (F := Ideal) (X m c) (Y m c), ?_, ?_⟩
  · refine (θ_run Cert.Kernel7Ideal.defs _ _).mono (fun r h c => ?_) (Cert.Kernel7Ideal.Value.run_blocks (F := Ideal) m g)
    obtain ⟨h0, hk⟩ := h c
    exact ⟨h0.trans (arr m c), hk⟩
  · refine (θ_run Cert.Reference7Ideal.defs _ _).mono (fun r h c => ?_) (Cert.Reference7Ideal.Value.run (F := Ideal) m' g')
    obtain ⟨h0, hk⟩ := h c
    obtain ⟨e0, e1⟩ := he c
    have f0 := h0.trans (Cert.Reference7Ideal.Read.val_main_v10_eq (F := Ideal) _ _)
    refine ⟨f0.trans ?_, hk⟩
    exact congrArg₂ (Cert.Reference7Ideal.Read.val_main_v10 (F := Ideal)) e0 e1

end Cert.Proof.InDw

end
-- ==== Proof.OutDx.lean ====
/- The gradient of the mixers' outputs: a product with the output weight, its slots joined. -/
module

public import proofs.«01_k».proof.Defs
public import proofs.«01_k».proof.Proof.Gen.Kernel8Ideal.Value
public import proofs.«01_k».proof.Proof.Gen.Reference8Ideal.Read
public import proofs.«01_k».proof.Proof.FourParts
public import Idealize.ShloMosaic.Lib.StableHlo.RunRead

@[expose] public section

set_option maxRecDepth 16384

noncomputable section

namespace Cert.Proof.OutDx

open Idealize.ShloMosaic Idealize.SL.Sem Cert.Kernel8Ideal Cert.Kernel8Ideal.Gen Cert.Kernel8Ideal.Value Idealize.ShloMosaic.Pointwise

theorem pay_at (x : Vec Ideal S1024x1024 .f32) (y : Vec Ideal S1024x1024 .bf16) (i j : Fin 1024) :
    k0_pay1 x y (ix2 i j) = ∑ k, (x (ix2 i k) : EReal) * y (ix2 j k) := by
  unfold k0_pay1
  pointwise

theorem out_at (x : Vec Ideal S1024x1024 .f32) (y : Vec Ideal S1024x1024 .bf16) : out0_2 x y = k0_pay1 x y := by
  unfold out0_2
  rw [View.canon_unit_zero zeros2]
  simp only [View.ld_unit_zero (S := S1024x1024) zeros2]

variable (m : (ℓ : Loc nD τ sig) → Buf (Elt Ideal) ℓ) (c : Dev nD)

theorem points (t : Fin cfg0.N) : t.val < 4 := lt_of_lt_of_eq t.isLt (show cfg0.N = 4 from N_0)

theorem at0 : ∀ t : Fin cfg0.N, win0_0.index t 0 = t.val ∧ win0_0.index t 1 = 0 := (by decide +kernel : ∀ t : Fin grid0.N, _)
theorem emb0 (t : Fin cfg0.N) (a : Fin 1024) (b : Fin 1024) (x : Fin 4096) (hx : x.val = 1024 * (t.val) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem at1 : ∀ t : Fin cfg0.N, win0_1.index t 0 = 0 ∧ win0_1.index t 1 = 0 := (by decide +kernel : ∀ t : Fin grid0.N, _)
theorem emb1 (t : Fin cfg0.N) (a : Fin 1024) (b : Fin 1024)  :
    (win0_1.blk t).view.emb (ix2 a b) = ix2 a b := by
  refine funext fun i => Fin.ext ?_
  have h := at1 t
  match i with
  | ⟨0, _⟩ => show win0_1.index t 0 * 1024 + 1 * a.val = a.val; omega
  | ⟨1, _⟩ => show win0_1.index t 1 * 1024 + 1 * b.val = b.val; omega
theorem at2 : ∀ t : Fin cfg0.N, win0_2.index t 0 = t.val ∧ win0_2.index t 1 = 0 := (by decide +kernel : ∀ t : Fin grid0.N, _)
theorem emb2 (t : Fin cfg0.N) (a : Fin 1024) (b : Fin 1024) (x : Fin 4096) (hx : x.val = 1024 * (t.val) + a.val) :
    (win0_2.blk t).view.emb (ix2 a b) = ix2 x b := by
  refine funext fun i => Fin.ext ?_
  have h := at2 t
  match i with
  | ⟨0, _⟩ => show win0_2.index t 0 * 1024 + 1 * a.val = x.val; omega
  | ⟨1, _⟩ => show win0_2.index t 1 * 1024 + 1 * b.val = b.val; omega

/-- The two arguments, as arrays of extended reals, and the weight with its leading axes joined. -/
abbrev X : S4096x1024.Idx → EReal := m ((c.tc : Thread nD τ).loc main_arg0)
abbrev W : S4x256x1024.Idx → EReal := m ((c.tc : Thread nD τ).loc main_arg1)
abbrev joined (w : S4x256x1024.Idx → EReal) : S1024x1024.Idx → EReal := Cert.Reference8Ideal.Read.val_main_v1 (F := Ideal) w

theorem V_w : V m c main_v0 = joined (W m c) := by
  unfold V
  after_reads_simp
  rfl

theorem blk0 (t : Fin cfg0.N) (a b : Fin 1024) (x : Fin 4096) (hx : x.val = 1024 * (t.val) + a.val) :
    iblk m c 0 t (ix2 a b) = X m c (ix2 x b) :=
  (congrArg (V m c (Pipeline.arrRef spec0 0)) (emb0 t a b x hx)).trans (congrFun (V_main_arg0 m c) _)
theorem blk1 (t : Fin cfg0.N) (a b : Fin 1024) : iblk m c 1 t (ix2 a b) = joined (W m c) (ix2 a b) :=
  (congrArg (V m c (Pipeline.arrRef spec0 1)) (emb1 t a b)).trans (congrFun (V_w m c) _)

/-- The reference's result at an index. -/
theorem result_at (x0 : S4096x1024.Idx → EReal) (x1 : S4x256x1024.Idx → EReal) (i : Fin 4096) (j : Fin 1024) :
    Cert.Reference8Ideal.Read.val_main_v4 (F := Ideal) x0 x1 (ix2 i j) = ∑ k : Fin 1024, x0 (ix2 i k) * joined x1 (ix2 j k) := by
  refine (Cert.Reference8Ideal.Read.val_main_v4_apply x0 x1 _).trans (Finset.sum_congr rfl fun k _ => ?_)
  exact congrArg₂ (· * ·) (congrArg x0 (idx2 _)) (congrArg (joined x1) (idx2 _))

theorem cover (i : S4096x1024.Idx) : ∃ t : Fin cfg0.N, (cfg0.win 2).flush t = true ∧ i ∈ ((cfg0.win 2).blk t).view.set := by
  have h0 : (i 0).val < 4096 := (i 0).isLt
  have l : (i 0).val / 1024 < cfg0.N := lt_of_lt_of_eq (show _ < 4 by omega) (show cfg0.N = 4 from N_0).symm
  refine ⟨⟨(i 0).val / 1024, l⟩, flush0_2 _, ?_⟩
  have e := emb2 ⟨(i 0).val / 1024, l⟩ ⟨(i 0).val % 1024, by omega⟩ (i 1) (i 0)
    (by show (i 0).val = 1024 * ((i 0).val / 1024) + (i 0).val % 1024; omega)
  exact Eq.subst (motive := fun x => x ∈ ((cfg0.win 2).blk _).view.set) (e.trans (idx2 i).symm) (View.emb_mem_set _ _)

theorem left_at (t : Fin cfg0.N) (a b : Fin 1024) (x : Fin 4096) (hx : x.val = 1024 * (t.val) + a.val) :
    out0_2 (iblk m c 0 t) (iblk m c 1 t) (ix2 a b) = Cert.Reference8Ideal.Read.val_main_v4 (F := Ideal) (X m c) (W m c) (ix2 x b) := by
  rw [out_at]
  refine (pay_at _ _ a b).trans (Eq.trans ?_ (result_at _ _ x b).symm)
  exact Finset.sum_congr rfl fun k _ => congrArg₂ (fun p q : EReal => p * q) (blk0 m c t a k x hx) (blk1 m c t b k)

theorem arr : (dats m 0 c).arrAt 2 cfg0.N = Cert.Reference8Ideal.Read.val_main_v4 (F := Ideal) (X m c) (W m c) := by
  refine (dats m 0 c).arrAt_eq_of_cover 2 _ (fun t hf => ?_) cover
  have ht := points t
  rw [flushed2]
  refine funext fun y => ?_
  rw [idx2 y]
  have ha : (y 0).val < 1024 := (y 0).isLt
  refine (left_at m c t (y 0) (y 1) ⟨1024 * t.val + (y 0).val, by omega⟩ rfl).trans ?_
  exact (congrArg (Cert.Reference8Ideal.Read.val_main_v4 (F := Ideal) (X m c) (W m c)) (emb2 t (y 0) (y 1) ⟨1024 * t.val + (y 0).val, by omega⟩ rfl)).symm

theorem algebra : Cert.algebraic_Kernel8Ideal_Reference8Ideal := fun m g m' g' _ he => by
  refine ⟨fun c => Cert.Reference8Ideal.Read.val_main_v4 (F := Ideal) (X m c) (W m c), ?_, ?_⟩
  · refine (θ_run Cert.Kernel8Ideal.defs _ _).mono (fun r h c => ?_) (Cert.Kernel8Ideal.Value.run_blocks (F := Ideal) m g)
    obtain ⟨h0, hk⟩ := h c
    exact ⟨h0.trans (arr m c), hk⟩
  · refine (θ_run Cert.Reference8Ideal.defs _ _).mono (fun r h c => ?_) (Cert.Reference8Ideal.Value.run (F := Ideal) m' g')
    obtain ⟨h0, hk⟩ := h c
    obtain ⟨e0, e1⟩ := he c
    have f0 := h0.trans (Cert.Reference8Ideal.Read.val_main_v4_eq (F := Ideal) _ _)
    refine ⟨f0.trans ?_, hk⟩
    exact congrArg₂ (Cert.Reference8Ideal.Read.val_main_v4 (F := Ideal)) e0 e1

end Cert.Proof.OutDx

end
-- ==== Proof.Qkv.lean ====
/- The product into the projections of the attention. -/
module

public import proofs.«01_k».proof.Defs
public import proofs.«01_k».proof.Proof.Gen.Kernel9Ideal.Value
public import proofs.«01_k».proof.Proof.Gen.Reference9Ideal.Read
public import proofs.«01_k».proof.Proof.FourParts
public import Idealize.ShloMosaic.Lib.StableHlo.RunRead

@[expose] public section

set_option maxRecDepth 16384

noncomputable section

namespace Cert.Proof.Qkv

open Idealize.ShloMosaic Idealize.SL.Sem Cert.Kernel9Ideal Cert.Kernel9Ideal.Gen Cert.Kernel9Ideal.Value Idealize.ShloMosaic.Pointwise

theorem pay_at (x : Vec Ideal S1024x1024 .bf16) (y : Vec Ideal S1x1024x768 .bf16) (i : Fin 1024) (j : Fin 768) :
    k0_pay1 x y (ix2 i j) = ∑ k, (x (ix2 i k) : EReal) * y (ix3 (0 : Fin 1) k j) := by
  unfold k0_pay1
  pointwise

theorem out_at (x : Vec Ideal S1024x1024 .bf16) (y : Vec Ideal S1x1024x768 .bf16) : out0_2 x y = k0_pay1 x y := by
  unfold out0_2
  rw [View.canon_unit_zero zeros2, View.ld_unit_zero (S := S1024x1024) zeros2, View.ld_unit_zero (S := S1x1024x768) zeros3]

variable (m : (ℓ : Loc nD τ sig) → Buf (Elt Ideal) ℓ) (c : Dev nD)

theorem points (t : Fin cfg0.N) : t.val < 16 := lt_of_lt_of_eq t.isLt (show cfg0.N = 16 from N_0)

theorem at0 : ∀ t : Fin cfg0.N, win0_0.index t 0 = t.val / 4 ∧ win0_0.index t 1 = 0 := (by decide +kernel : ∀ t : Fin grid0.N, _)
theorem emb0 (t : Fin cfg0.N) (a : Fin 1024) (b : Fin 1024) (x : Fin 4096) (hx : x.val = 1024 * (t.val / 4) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem at1 : ∀ t : Fin cfg0.N, win0_1.index t 0 = t.val % 4 ∧ win0_1.index t 1 = 0 ∧ win0_1.index t 2 = 0 := (by decide +kernel : ∀ t : Fin grid0.N, _)
theorem emb1 (t : Fin cfg0.N) (g : Fin 1) (a : Fin 1024) (b : Fin 768) (x : Fin 4) (hx : x.val = 1 * (t.val % 4) + g.val) :
    (win0_1.blk t).view.emb (ix3 g a b) = ix3 x a b := by
  refine funext fun i => Fin.ext ?_
  have h := at1 t
  match i with
  | ⟨0, _⟩ => show win0_1.index t 0 * 1 + 1 * g.val = x.val; omega
  | ⟨1, _⟩ => show win0_1.index t 1 * 1024 + 1 * a.val = a.val; omega
  | ⟨2, _⟩ => show win0_1.index t 2 * 768 + 1 * b.val = b.val; omega
theorem at2 : ∀ t : Fin cfg0.N, win0_2.index t 0 = t.val / 4 ∧ win0_2.index t 1 = t.val % 4 := (by decide +kernel : ∀ t : Fin grid0.N, _)
theorem emb2 (t : Fin cfg0.N) (a : Fin 1024) (b : Fin 768) (x : Fin 4096) (hx : x.val = 1024 * (t.val / 4) + a.val) (y : Fin 3072) (hy : y.val = 768 * (t.val % 4) + b.val) :
    (win0_2.blk t).view.emb (ix2 a b) = ix2 x y := by
  refine funext fun i => Fin.ext ?_
  have h := at2 t
  match i with
  | ⟨0, _⟩ => show win0_2.index t 0 * 1024 + 1 * a.val = x.val; omega
  | ⟨1, _⟩ => show win0_2.index t 1 * 768 + 1 * b.val = y.val; omega

/-- The two arguments, as arrays of extended reals. -/
abbrev X : S4096x1024.Idx → EReal := m ((c.tc : Thread nD τ).loc main_arg0)
abbrev Y : S4x1024x768.Idx → EReal := m ((c.tc : Thread nD τ).loc main_arg1)

theorem blk0 (t : Fin cfg0.N) (a b : Fin 1024) (x : Fin 4096) (hx : x.val = 1024 * (t.val / 4) + a.val) :
    iblk m c 0 t (ix2 a b) = X m c (ix2 x b) :=
  (congrArg (V m c (Pipeline.arrRef spec0 0)) (emb0 t a b x hx)).trans (congrFun (V_main_arg0 m c) _)
theorem blk1 (t : Fin cfg0.N) (g : Fin 1) (a : Fin 1024) (b : Fin 768) (x : Fin 4) (hx : x.val = 1 * (t.val % 4) + g.val) :
    iblk m c 1 t (ix3 g a b) = Y m c (ix3 x a b) :=
  (congrArg (V m c (Pipeline.arrRef spec0 1)) (emb1 t g a b x hx)).trans (congrFun (V_main_arg1 m c) _)

/-- The reference's result at an index: slot `q` holds the columns from `768 q` on. -/
theorem result_at (x0 : S4096x1024.Idx → EReal) (x1 : S4x1024x768.Idx → EReal) (i : Fin 4096) (n : Fin 3072) (q : Fin 4) (j : Fin 768) (hn : n.val = 768 * q.val + j.val) :
    Cert.Reference9Ideal.Read.val_main_v4 (F := Ideal) x0 x1 (ix2 i n) = ∑ k : Fin 1024, x0 (ix2 i k) * x1 (ix3 q k j) := by
  refine (Cert.Reference9Ideal.Read.val_main_v4_apply x0 x1 _).trans (Finset.sum_congr rfl fun k _ => ?_)
  refine congrArg₂ (· * ·) (congrArg x0 (idx2 _)) ?_
  refine (Cert.Reference9Ideal.Read.val_main_v3_apply (F := Ideal) x1 _).trans ((Cert.Reference9Ideal.Read.val_main_v2_apply (F := Ideal) x1 _).trans ?_)
  have hq := q.isLt
  have hj := j.isLt
  refine congrArg x1 (funext fun a => Fin.ext ?_)
  match a with
  | ⟨0, _⟩ => show (k.val * 3072 + n.val) / 768 % 4 = q.val; omega
  | ⟨1, _⟩ => show (k.val * 3072 + n.val) / 3072 = k.val; omega
  | ⟨2, _⟩ => show (k.val * 3072 + n.val) % 768 = j.val; omega

theorem cover (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  have l : 4 * ((i 0).val / 1024) + (i 1).val / 768 < cfg0.N := lt_of_lt_of_eq (show _ < 16 by omega) (show cfg0.N = 16 from N_0).symm
  refine ⟨⟨4 * ((i 0).val / 1024) + (i 1).val / 768, l⟩, flush0_2 _, ?_⟩
  have e := emb2 ⟨4 * ((i 0).val / 1024) + (i 1).val / 768, l⟩ ⟨(i 0).val % 1024, by omega⟩ ⟨(i 1).val % 768, by omega⟩
    (i 0) (by show (i 0).val = 1024 * ((4 * ((i 0).val / 1024) + (i 1).val / 768) / 4) + (i 0).val % 1024; omega)
    (i 1) (by show (i 1).val = 768 * ((4 * ((i 0).val / 1024) + (i 1).val / 768) % 4) + (i 1).val % 768; omega)
  exact Eq.subst (motive := fun x => x ∈ ((cfg0.win 2).blk _).view.set) (e.trans (idx2 i).symm) (View.emb_mem_set _ _)

theorem left_at (t : Fin cfg0.N) (a : Fin 1024) (b : Fin 768) (x : Fin 4096) (hx : x.val = 1024 * (t.val / 4) + a.val) (y : Fin 3072) (hy : y.val = 768 * (t.val % 4) + b.val) :
    out0_2 (iblk m c 0 t) (iblk m c 1 t) (ix2 a b) = Cert.Reference9Ideal.Read.val_main_v4 (F := Ideal) (X m c) (Y m c) (ix2 x y) := by
  rw [out_at]
  refine (pay_at _ _ a b).trans (Eq.trans ?_ (result_at _ _ x y ⟨t.val % 4, by omega⟩ b hy).symm)
  exact Finset.sum_congr rfl fun k _ => congrArg₂ (fun p q : EReal => p * q) (blk0 m c t a k x hx) (blk1 m c t 0 k b _ (by show t.val % 4 = 1 * (t.val % 4) + 0; omega))

theorem arr : (dats m 0 c).arrAt 2 cfg0.N = Cert.Reference9Ideal.Read.val_main_v4 (F := Ideal) (X m c) (Y m c) := by
  refine (dats m 0 c).arrAt_eq_of_cover 2 _ (fun t hf => ?_) cover
  have ht := points t
  rw [flushed2]
  refine funext fun y => ?_
  rw [idx2 y]
  have ha : (y 0).val < 1024 := (y 0).isLt
  have hb : (y 1).val < 768 := (y 1).isLt
  refine (left_at m c t (y 0) (y 1) ⟨1024 * (t.val / 4) + (y 0).val, by omega⟩ rfl ⟨768 * (t.val % 4) + (y 1).val, by omega⟩ rfl).trans ?_
  exact (congrArg (Cert.Reference9Ideal.Read.val_main_v4 (F := Ideal) (X m c) (Y m c))
    (emb2 t (y 0) (y 1) ⟨1024 * (t.val / 4) + (y 0).val, by omega⟩ rfl ⟨768 * (t.val % 4) + (y 1).val, by omega⟩ rfl)).symm

theorem algebra : Cert.algebraic_Kernel9Ideal_Reference9Ideal := fun m g m' g' _ he => by
  refine ⟨fun c => Cert.Reference9Ideal.Read.val_main_v4 (F := Ideal) (X m c) (Y m c), ?_, ?_⟩
  · refine (θ_run Cert.Kernel9Ideal.defs _ _).mono (fun r h c => ?_) (Cert.Kernel9Ideal.Value.run_blocks (F := Ideal) m g)
    obtain ⟨h0, hk⟩ := h c
    exact ⟨h0.trans (arr m c), hk⟩
  · refine (θ_run Cert.Reference9Ideal.defs _ _).mono (fun r h c => ?_) (Cert.Reference9Ideal.Value.run (F := Ideal) m' g')
    obtain ⟨h0, hk⟩ := h c
    obtain ⟨e0, e1⟩ := he c
    have f0 := h0.trans (Cert.Reference9Ideal.Read.val_main_v4_eq (F := Ideal) _ _)
    refine ⟨f0.trans ?_, hk⟩
    exact congrArg₂ (Cert.Reference9Ideal.Read.val_main_v4 (F := Ideal)) e0 e1

end Cert.Proof.Qkv

end
-- ==== Proof.QkvDw.lean ====
/- The gradient of the projections of the attention: four partial products, one after the other, are one product. -/
module

public import proofs.«01_k».proof.Defs
public import proofs.«01_k».proof.Proof.Gen.Kernel10Ideal.Value
public import proofs.«01_k».proof.Proof.Gen.Reference10Ideal.Read
public import proofs.«01_k».proof.Proof.FourParts

@[expose] public section

set_option maxRecDepth 16384

noncomputable section

namespace Cert.Proof.QkvDw

open Idealize.ShloMosaic Idealize.SL.Sem Cert.Kernel10Ideal Cert.Kernel10Ideal.Gen Cert.Kernel10Ideal.Value Idealize.ShloMosaic.Pointwise

section cases
variable (c : Dev nD) (i : grid0.Coords) (a : Memref sig .tc .vmem S1024x1024 .bf16) (ha : a.IsWhole) (b : Memref sig .tc .vmem S1024x768 .bf16) (hb : b.IsWhole)
  (o : Memref sig .tc .vmem S1x1024x768 .bf16) (ho : o.IsWhole) (s : Memref sig .tc .vmem S1024x768 .f32) (hs : s.IsWhole)
  (x : Vec Ideal S1024x1024 .bf16) (y : Vec Ideal S1024x768 .bf16) (acc : Vec Ideal S1024x768 .f32)

theorem first (h0 : cond0_0 i) (h1 : ¬cond0_1 i) (h2 : ¬cond0_2 i) : sout0_A_0 c i a ha b hb o ho s hs h0 h1 h2 x y = k0_pay2 x y := by
  unfold sout0_A_0
  rw [View.read_writes_eq_canon _ _ _ (scover0_A_0 c i a ha b hb o ho s hs h0 h1 h2 x y)]
  unfold kernelRun0_A
  dsimp only
  rw [View.canon_unit_zero zeros2]
  simp only [View.readAt_eq_ld, ha.read_unread, hb.read_unread, View.ld_unit_zero (S := S1024x1024) zeros2, View.ld_unit_zero (S := S1024x768) zeros2]

theorem next (h0 : ¬cond0_0 i) (h1 : cond0_1 i) (h2 : ¬cond0_2 i) : sout0_B_0 c i a ha b hb o ho s hs h0 h1 h2 x y acc = k0_pay3 x y acc := by
  unfold sout0_B_0
  rw [View.read_writes_eq_canon _ _ _ (scover0_B_0 c i a ha b hb o ho s hs h0 h1 h2 x y acc)]
  unfold kernelRun0_B
  dsimp only
  rw [View.canon_unit_zero zeros2]
  simp only [View.readAt_eq_ld, ha.read_unread, hb.read_unread, hs.read_unread, View.ld_unit_zero (S := S1024x1024) zeros2, View.ld_unit_zero (S := S1024x768) zeros2]

theorem last (h0 : ¬cond0_0 i) (h1 : cond0_1 i) (h2 : cond0_2 i) : out0_C_2 c i a ha b hb o ho s hs h0 h1 h2 x y acc = k0_pay4 (k0_pay3 x y acc) := by
  unfold out0_C_2
  rw [View.read_writes_eq_canon _ _ _ (cover0_C_2 c i a ha b hb o ho s hs h0 h1 h2 x y acc)]
  unfold kernelRun0_C
  dsimp only
  sl_unfold_words
  rw [View.canon_unit_zero zeros3]
  simp only [View.readAt_eq_ld, ha.read_unread, hb.read_unread, hs.read_unread, View.ld_unit_zero (S := S1024x1024) zeros2, View.ld_unit_zero (S := S1024x768) zeros2, View.readCov_unit_zero (S := S1024x768) _ zeros2]

end cases

theorem pay1_at (x : Vec Ideal S1024x1024 .bf16) (y : Vec Ideal S1024x768 .bf16) (i : Fin 1024) (j : Fin 768) : k0_pay1 x y (ix2 i j) = ∑ k, (x (ix2 k i) : EReal) * y (ix2 k j) := by
  unfold k0_pay1
  pointwise
theorem pay2_at (x : Vec Ideal S1024x1024 .bf16) (y : Vec Ideal S1024x768 .bf16) (i : Fin 1024) (j : Fin 768) : k0_pay2 x y (ix2 i j) = ∑ k, (x (ix2 k i) : EReal) * y (ix2 k j) := by
  unfold k0_pay2
  rw [shapeCast_self]
  exact pay1_at x y i j
theorem pay3_at (x : Vec Ideal S1024x1024 .bf16) (y : Vec Ideal S1024x768 .bf16) (acc : Vec Ideal S1024x768 .f32) (i : Fin 1024) (j : Fin 768) :
    k0_pay3 x y acc (ix2 i j) = acc (ix2 i j) + ∑ k, (x (ix2 k i) : EReal) * y (ix2 k j) := by
  unfold k0_pay3
  rw [shapeCast_self]
  exact congrArg (acc (ix2 i j) + ·) (pay1_at x y i j)
theorem pay4_at (w : Vec Ideal S1024x768 .f32) (g : Fin 1) (i : Fin 1024) (j : Fin 768) : k0_pay4 w (ix3 g i j) = w (ix2 i j) := by
  unfold k0_pay4
  refine (shapeCast_apply _ shapeCasts_S1024x768_S1x1024x768 (ix3 g i j) (ix2 i j) ?_).trans rfl
  rewrite [Shape.rowMajor_val_two, Shape.rowMajor_val_three]
  show i.val * 768 + j.val = (g.val * 1024 + i.val) * 768 + j.val
  omega

variable (m : (ℓ : Loc nD τ sig) → Buf (Elt Ideal) ℓ) (c : Dev nD)

theorem points (t : Fin cfg0.N) : t.val < 16 := lt_of_lt_of_eq t.isLt (show cfg0.N = 16 from N_0)

theorem at0 : ∀ t : Fin cfg0.N, win0_0.index t 0 = t.val % 4 ∧ win0_0.index t 1 = 0 := (by decide +kernel : ∀ t : Fin grid0.N, _)
theorem at1 : ∀ t : Fin cfg0.N, win0_1.index t 0 = t.val % 4 ∧ win0_1.index t 1 = t.val / 4 := (by decide +kernel : ∀ t : Fin grid0.N, _)
theorem at2 : ∀ t : Fin cfg0.N, win0_2.index t 0 = t.val / 4 ∧ win0_2.index t 1 = 0 ∧ win0_2.index t 2 = 0 := (by decide +kernel : ∀ t : Fin grid0.N, _)

theorem emb0 (t : Fin cfg0.N) (a b : Fin 1024) (x : Fin 4096) (hx : x.val = 1024 * (t.val % 4) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem emb1 (t : Fin cfg0.N) (a : Fin 1024) (b : Fin 768) (x : Fin 4096) (y : Fin 3072) (hx : x.val = 1024 * (t.val % 4) + a.val) (hy : y.val = 768 * (t.val / 4) + b.val) :
    (win0_1.blk t).view.emb (ix2 a b) = ix2 x y := by
  refine funext fun i => Fin.ext ?_
  have h := at1 t
  match i with
  | ⟨0, _⟩ => show win0_1.index t 0 * 1024 + 1 * a.val = x.val; omega
  | ⟨1, _⟩ => show win0_1.index t 1 * 768 + 1 * b.val = y.val; omega
theorem emb2 (t : Fin cfg0.N) (g : Fin 1) (a : Fin 1024) (b : Fin 768) (x : Fin 4) (hx : x.val = t.val / 4) :
    (win0_2.blk t).view.emb (ix3 g a b) = ix3 x a b := by
  refine funext fun i => Fin.ext ?_
  have h := at2 t
  match i with
  | ⟨0, _⟩ => show win0_2.index t 0 * 1 + 1 * g.val = x.val; omega
  | ⟨1, _⟩ => show win0_2.index t 1 * 1024 + 1 * a.val = a.val; omega
  | ⟨2, _⟩ => show win0_2.index t 2 * 768 + 1 * b.val = b.val; omega

/-- The two arguments, as arrays of extended reals. -/
abbrev X : S4096x1024.Idx → EReal := m ((c.tc : Thread nD τ).loc main_arg0)
abbrev Y : S4096x3072.Idx → EReal := m ((c.tc : Thread nD τ).loc main_arg1)

theorem blk0 (t : Fin cfg0.N) (a b : Fin 1024) (x : Fin 4096) (hx : x.val = 1024 * (t.val % 4) + a.val) :
    iblk m c 0 t (ix2 a b) = X m c (ix2 x b) :=
  (congrArg (V m c (Pipeline.arrRef spec0 0)) (emb0 t a b x hx)).trans (congrFun (V_main_arg0 m c) _)
theorem blk1 (t : Fin cfg0.N) (a : Fin 1024) (b : Fin 768) (x : Fin 4096) (y : Fin 3072) (hx : x.val = 1024 * (t.val % 4) + a.val) (hy : y.val = 768 * (t.val / 4) + b.val) :
    iblk m c 1 t (ix2 a b) = Y m c (ix2 x y) :=
  (congrArg (V m c (Pipeline.arrRef spec0 1)) (emb1 t a b x y hx hy)).trans (congrFun (V_main_arg1 m c) _)

/-- Run `g` of the product's column sum. -/
def part (g : ℕ) (hg : g < 4) (i : Fin 1024) (j : Fin 3072) : EReal := ∑ k, X m c (ix2 (place g hg k) i) * Y m c (ix2 (place g hg k) j)

theorem part_of (t : Fin cfg0.N) (g : ℕ) (hg : g < 4) (h : t.val % 4 = g) (a : Fin 1024) (b : Fin 768) (j : Fin 3072) (hj : j.val = 768 * (t.val / 4) + b.val) :
    ∑ k, HMul.hMul (α := EReal) (β := EReal) (γ := EReal) (iblk m c 0 t (ix2 k a)) (iblk m c 1 t (ix2 k b)) = part m c g hg a j :=
  Finset.sum_congr rfl fun k _ => congrArg₂ (fun p q : EReal => p * q)
    (blk0 m c t k a (place g hg k) (by show 1024 * g + k.val = _; omega)) (blk1 m c t k b (place g hg k) j (by show 1024 * g + k.val = _; omega) hj)

theorem left0 (t : Fin cfg0.N) (h : t.val % 4 = 0) (a : Fin 1024) (b : Fin 768) (j : Fin 3072) (hj : j.val = 768 * (t.val / 4) + b.val) :
    (outsAt0 m c t.val t.isLt).2 (ix2 a b) = part m c 0 (by omega) a j := by
  rw [outsAt0_A m c t h (by omega) (by omega)]
  dsimp only
  rw [first, pay2_at]
  exact part_of m c t 0 _ h a b j hj

theorem leftB (t : Fin cfg0.N) (g : ℕ) (hg : g < 4) (h : t.val % 4 = g) (h1 : 1 ≤ g) (h2 : g ≠ 3) (a : Fin 1024) (b : Fin 768) (j : Fin 3072) (hj : j.val = 768 * (t.val / 4) + b.val) :
    (outsAt0 m c t.val t.isLt).2 (ix2 a b) = (outsAt0 m c (t.val - 1) (Nat.lt_of_le_of_lt (Nat.sub_le _ _) t.isLt)).2 (ix2 a b) + part m c g hg a j := by
  rw [outsAt0_B m c t (by omega) (by omega) (by omega)]
  dsimp only
  rw [next, pay3_at, part_of m c t g hg h a b j hj]

theorem left3 (t : Fin cfg0.N) (h : t.val % 4 = 3) (z : Fin 1) (a : Fin 1024) (b : Fin 768) (j : Fin 3072) (hj : j.val = 768 * (t.val / 4) + b.val) :
    (outsAt0 m c t.val t.isLt).1 (ix3 z a b)
      = part m c 0 (by omega) a j + part m c 1 (by omega) a j + part m c 2 (by omega) a j + part m c 3 (by omega) a j := by
  rw [outsAt0_C m c t (by omega) (by omega) h]
  dsimp only
  rw [last, pay4_at, pay3_at, part_of m c t 3 (by omega) h a b j hj]
  have hN := t.isLt
  refine congrArg (· + part m c 3 (by omega) a j) ?_
  refine (leftB m c ⟨t.val - 1, by omega⟩ 2 (by omega) (by show (t.val - 1) % 4 = 2; omega) (by omega) (by omega) a b j (by show _ = 768 * ((t.val - 1) / 4) + b.val; omega)).trans ?_
  refine congrArg (· + part m c 2 (by omega) a j) ?_
  refine (leftB m c ⟨t.val - 1 - 1, by omega⟩ 1 (by omega) (by show (t.val - 1 - 1) % 4 = 1; omega) (by omega) (by omega) a b j (by show _ = 768 * ((t.val - 1 - 1) / 4) + b.val; omega)).trans ?_
  refine congrArg (· + part m c 1 (by omega) a j) ?_
  exact left0 m c ⟨t.val - 1 - 1 - 1, by omega⟩ (by show (t.val - 1 - 1 - 1) % 4 = 0; omega) a b j (by show _ = 768 * ((t.val - 1 - 1 - 1) / 4) + b.val; omega)

/-- The reference's result at an index. -/
theorem result_at (x0 : S4096x1024.Idx → EReal) (x1 : S4096x3072.Idx → EReal) (g : Fin 4) (i : Fin 1024) (j : Fin 768) (n : Fin 3072) (hn : n.val = 768 * g.val + j.val) :
    Cert.Reference10Ideal.Read.val_main_v8 (F := Ideal) x0 x1 (ix3 g i j) = ∑ k : Fin 4096, x0 (ix2 k i) * x1 (ix2 k n) := by
  refine (Cert.Reference10Ideal.Read.val_main_v8_apply (F := Ideal) x0 x1 _).trans ?_
  refine (Cert.Reference10Ideal.Read.val_main_v7_apply (F := Ideal) x0 x1 _).trans ?_
  refine (Cert.Reference10Ideal.Read.val_main_v6_apply (F := Ideal) x0 x1 _).trans ?_
  refine (Cert.Reference10Ideal.Read.val_main_v5_apply (F := Ideal) x0 x1 _).trans ?_
  refine (Cert.Reference10Ideal.Read.val_main_v4_apply x0 x1 _).trans ?_
  refine Finset.sum_congr rfl fun k _ => (mul_comm _ _).trans ?_
  have hi := i.isLt
  have hj := j.isLt
  have hg := g.isLt
  refine congrArg₂ (· * ·) (congrArg x0 ((idx2 _).trans (congrArg (ix2 k) (Fin.ext ?_)))) (congrArg x1 ((idx2 _).trans (congrArg (ix2 k) (Fin.ext ?_))))
  · show ((i.val * 4 + g.val) * 768 + j.val) / 3072 = i.val; omega
  · show ((i.val * 4 + g.val) * 768 + j.val) % 3072 = n.val; omega

theorem cover (i : S4x1024x768.Idx) : ∃ t : Fin cfg0.N, (cfg0.win 2).flush t = true ∧ i ∈ ((cfg0.win 2).blk t).view.set :=
  (covered_iff2 i).2 ⟨Nat.zero_le _, (i 0).isLt, Nat.zero_le _, (i 1).isLt, Nat.zero_le _, (i 2).isLt⟩

theorem arr : (dats m 0 c).arrAt 2 cfg0.N = Cert.Reference10Ideal.Read.val_main_v8 (F := Ideal) (X m c) (Y m c) := by
  refine (dats m 0 c).arrAt_eq_of_cover 2 _ (fun t hf => ?_) cover
  have h : t.val % 4 = 3 := (flush0_2 t).mp hf
  have ht := points t
  rw [flushed2]
  refine funext fun y => ?_
  rw [idx3 y]
  have hb : (y 2).val < 768 := (y 2).isLt
  refine (left3 m c t h (y 0) (y 1) (y 2) ⟨768 * (t.val / 4) + (y 2).val, by omega⟩ rfl).trans ?_
  refine Eq.symm ((congrArg (Cert.Reference10Ideal.Read.val_main_v8 (F := Ideal) (X m c) (Y m c)) (emb2 t (y 0) (y 1) (y 2) ⟨t.val / 4, by omega⟩ rfl)).trans ?_)
  exact (result_at _ _ _ _ _ ⟨768 * (t.val / 4) + (y 2).val, by omega⟩ rfl).trans (four_parts _)

theorem algebra : Cert.algebraic_Kernel10Ideal_Reference10Ideal := fun m g m' g' _ he => by
  refine ⟨fun c => Cert.Reference10Ideal.Read.val_main_v8 (F := Ideal) (X m c) (Y m c), ?_, ?_⟩
  · refine (θ_run Cert.Kernel10Ideal.defs _ _).mono (fun r h c => ?_) (Cert.Kernel10Ideal.Value.run_blocks (F := Ideal) m g)
    obtain ⟨h0, hk⟩ := h c
    exact ⟨h0.trans (arr m c), hk⟩
  · refine (θ_run Cert.Reference10Ideal.defs _ _).mono (fun r h c => ?_) (Cert.Reference10Ideal.Value.run (F := Ideal) m' g')
    obtain ⟨h0, hk⟩ := h c
    obtain ⟨e0, e1⟩ := he c
    have f0 := h0.trans (Cert.Reference10Ideal.Read.val_main_v8_eq (F := Ideal) _ _)
    refine ⟨f0.trans ?_, hk⟩
    exact congrArg₂ (Cert.Reference10Ideal.Read.val_main_v8 (F := Ideal)) e0 e1

end Cert.Proof.QkvDw

end
-- ==== Proof.NormReal.lean ====
/- The gradient of a normalised row over the extended reals: the kernel's closed form is what differentiating gives. -/
module

public import proofs.«01_k».proof.Proof.RealOps

@[expose] public section

set_option maxRecDepth 16384

noncomputable section

namespace Cert.Proof

open Idealize.ShloMosaic

/-- The mean square of a row, with the small constant. -/
def ms (x : Fin 1024 → EReal) : EReal := Ideal.div (∑ k, x k * x k) ((1024 : ℝ) : EReal) + ((eps : ℝ) : EReal)
/-- The reciprocal root of it. -/
def rn (x : Fin 1024 → EReal) : EReal := Ideal.rsqrt (ms x)
/-- The gradient at a normalised row `x` with gain `g`, from the gradient `a` of its output. -/
def dn (a x g : Fin 1024 → EReal) (j : Fin 1024) : EReal :=
  rn x * (a j * g j - x j * rn x * Ideal.div (∑ k, a k * g k * (x k * rn x)) ((1024 : ℝ) : EReal))
/-- What reaches the mean square, as differentiating gives it. -/
def sq (a x g : Fin 1024 → EReal) : EReal :=
  Ideal.div ((∑ k, x k * (a k * g k)) * (((-(1 / 2) : ℝ) : EReal) * Ideal.div (rn x) (ms x))) ((1024 : ℝ) : EReal)

theorem div_pos_real (x : EReal) (b : ℝ) (h : b ≠ 0) : Ideal.div x (b : EReal) = x * ((b⁻¹ : ℝ) : EReal) := by
  unfold Ideal.div
  rw [if_neg (fun e => h (EReal.coe_eq_zero.1 e)), EReal.coe_inv]

/-- A factor that is a nonnegative real leaves a sum. -/
theorem sum_scale (f : Fin 1024 → EReal) (r : ℝ) (h : 0 ≤ r) (s : Finset (Fin 1024)) : ∑ k ∈ s, f k * (r : EReal) = (∑ k ∈ s, f k) * (r : EReal) := by
  induction s using Finset.cons_induction with
  | empty => simp
  | cons a s ha ih =>
    rw [Finset.sum_cons, Finset.sum_cons, ih, EReal.right_distrib_of_nonneg_of_ne_top (EReal.coe_nonneg.2 h) (EReal.coe_ne_top r)]

theorem twice (y : EReal) : y + y = y * ((2 : ℝ) : EReal) := by
  have e : ((2 : ℝ) : EReal) = 1 + 1 := by rw [← EReal.coe_one, ← EReal.coe_add]; norm_num
  rw [e, EReal.left_distrib_of_nonneg zero_le_one zero_le_one, mul_one]

/-- A row of real numbers has a real mean square and reciprocal root. -/
theorem ms_real (x : Fin 1024 → ℝ) : ∃ p : ℝ, 0 < p ∧ ms (fun k => (x k : EReal)) = (p : EReal) ∧ rn (fun k => (x k : EReal)) = (((Real.sqrt p)⁻¹ : ℝ) : EReal) := by
  have hp : 0 < (∑ k, x k * x k) / 1024 + eps := add_pos_of_nonneg_of_pos (div_nonneg (Finset.sum_nonneg fun k _ => mul_self_nonneg _) (by norm_num)) eps_pos
  have e : ms (fun k => (x k : EReal)) = (((∑ k, x k * x k) / 1024 + eps : ℝ) : EReal) := by
    unfold ms
    rw [m_dot _ _ x x (fun _ => rfl) (fun _ => rfl), div_real _ _ (by norm_num), EReal.coe_add]
  refine ⟨_, hp, e, ?_⟩
  unfold rn
  rw [e]
  exact m_rsqrt (φ := .f32) _ hp

/-- A row with an infinite number has an infinite mean square. -/
theorem ms_top (x : Fin 1024 → EReal) (k : Fin 1024) (h : x k = ⊤ ∨ x k = ⊥) : ms x = ⊤ := by
  have hn : ∀ y : EReal, 0 ≤ y * y := fun y => by
    rcases le_total 0 y with q | q
    · exact mul_nonneg q q
    · exact EReal.mul_nonneg_iff.2 (Or.inr ⟨q, q⟩)
  have e : ∑ k, x k * x k = ⊤ := by
    refine top_le_iff.1 (le_trans (le_of_eq ?_) (Finset.single_le_sum (f := fun k => x k * x k) (fun i _ => hn _) (Finset.mem_univ k)))
    rcases h with h | h <;> simp [h]
  unfold ms
  rw [e, div_pos_real _ _ (by norm_num), EReal.top_mul_coe_of_pos (by norm_num), EReal.top_add_coe]

theorem dn_eq (a x g : Fin 1024 → EReal) (j : Fin 1024) : a j * g j * rn x + x j * sq a x g + sq a x g * x j = dn a x g j := by
  by_cases hx : ∃ k, x k = ⊤ ∨ x k = ⊥
  · obtain ⟨k, hk⟩ := hx
    have hm := ms_top x k hk
    have hr : rn x = 0 := by unfold rn; rw [hm]; rfl
    have hs : sq a x g = 0 := by
      unfold sq
      rw [hr, hm, div_pos_real _ _ (by norm_num)]
      have z : Ideal.div 0 ⊤ = 0 := by unfold Ideal.div; simp
      rw [z, mul_zero, mul_zero, zero_mul]
    unfold dn
    rw [hr, hs]
    simp
  · have hf : ∀ k, ∃ y : ℝ, x k = (y : EReal) := fun k => by
      have h := fun q => hx ⟨k, q⟩
      exact ⟨(x k).toReal, (EReal.coe_toReal (fun q => h (Or.inl q)) (fun q => h (Or.inr q))).symm⟩
    choose y hy using hf
    obtain rfl : x = fun k => (y k : EReal) := funext hy
    obtain ⟨p, hp, hm, hr⟩ := ms_real y
    generalize hq : (Real.sqrt p)⁻¹ = r at hr
    have r0 : 0 ≤ r := hq ▸ inv_nonneg.2 (Real.sqrt_nonneg p)
    have hd : r / p = r * r * r := by
      have hs : Real.sqrt p * Real.sqrt p = p := Real.mul_self_sqrt hp.le
      have hr : r * r = p⁻¹ := by rw [← hq, ← mul_inv, hs]
      rw [hr, div_eq_mul_inv, mul_comm]
    have hsum : ∑ k, a k * g k * ((y k : EReal) * (r : EReal)) = (∑ k, (y k : EReal) * (a k * g k)) * (r : EReal) := by
      rw [← sum_scale _ _ r0]
      exact Finset.sum_congr rfl fun k _ => by ac_rfl
    unfold dn sq
    dsimp only
    rw [hr, hm, hsum]
    generalize ∑ k, (y k : EReal) * (a k * g k) = T
    generalize a j * g j = A
    rw [div_real _ _ hp.ne', hd, div_pos_real _ _ (by norm_num), div_pos_real _ _ (by norm_num), ← EReal.coe_mul]
    have l : (y j : EReal) * (T * ((-(1 / 2) * (r * r * r) : ℝ) : EReal) * (((1024 : ℝ)⁻¹ : ℝ) : EReal)) = T * ((y j * (-(1 / 2) * (r * r * r)) * (1024 : ℝ)⁻¹ : ℝ) : EReal) := by
      rw [EReal.coe_mul (y j * (-(1 / 2) * (r * r * r))), EReal.coe_mul (y j)]
      ac_rfl
    have l' : T * ((-(1 / 2) * (r * r * r) : ℝ) : EReal) * (((1024 : ℝ)⁻¹ : ℝ) : EReal) * (y j : EReal) = T * ((y j * (-(1 / 2) * (r * r * r)) * (1024 : ℝ)⁻¹ : ℝ) : EReal) :=
      (mul_comm _ _).trans l
    have k : (y j : EReal) * (r : EReal) * (T * (r : EReal) * (((1024 : ℝ)⁻¹ : ℝ) : EReal)) = T * ((y j * r * (r * (1024 : ℝ)⁻¹) : ℝ) : EReal) := by
      rw [EReal.coe_mul (y j * r), EReal.coe_mul (y j), EReal.coe_mul r]
      ac_rfl
    rw [l, l', k, add_assoc, twice, mul_assoc, ← EReal.coe_mul, sub_eq_add_neg, ← mul_neg, ← EReal.coe_neg,
      EReal.left_distrib_of_nonneg_of_ne_top (EReal.coe_nonneg.2 r0) (EReal.coe_ne_top r), mul_comm A, mul_left_comm (r : EReal) T, ← EReal.coe_mul]
    refine congrArg (fun z : ℝ => (r : EReal) * A + T * (z : EReal)) ?_
    ring

theorem c_wide : FloatOps.ofBits (F := Ideal) .f32 0x44800000#32 = ((1024 : ℝ) : EReal) := by
  show Ideal.ofBits .f32 0x44800000#32 = _
  simp [Ideal.ofBits, Ideal.ieee]
  first
  | (rw [← EReal.coe_mul]; exact congrArg Real.toEReal (by norm_num))
  | norm_num
  | (norm_cast; norm_num)

end Cert.Proof

end
-- ==== Proof.UpDxPays.lean ====
/- The payloads of the feed-forward's input gradient, read at an index. -/
module

public import proofs.«01_k».proof.Proof.Gen.Kernel11Ideal.Value
public import proofs.«01_k».proof.Proof.NormReal
public import proofs.«01_k».proof.Proof.FourParts

@[expose] public section

set_option maxRecDepth 16384

noncomputable section

namespace Cert.Proof.UpDx

open Idealize.ShloMosaic Idealize.SL.Sem Cert.Kernel11Ideal Cert.Kernel11Ideal.Gen Idealize.ShloMosaic.Pointwise

theorem acc_at (p0 p1 p2 p3 : Vec Ideal S256x1024 .bf16) (w0 w1 w2 w3 : Vec Ideal S1x1024x1024 .bf16) (i : Fin 256) (j : Fin 1024) :
    k0_pay2 p0 w0 p1 w1 p2 w2 p3 w3 (ix2 i j)
      = ∑ k, (p0 (ix2 i k) : EReal) * w0 (ix3 (0 : Fin 1) j k) + ∑ k, (p1 (ix2 i k) : EReal) * w1 (ix3 (0 : Fin 1) j k)
        + ∑ k, (p2 (ix2 i k) : EReal) * w2 (ix3 (0 : Fin 1) j k) + ∑ k, (p3 (ix2 i k) : EReal) * w3 (ix3 (0 : Fin 1) j k) := by
  unfold k0_pay2
  pointwise

theorem mean_at (X : Vec Ideal S256x1024 .f32) (i : Fin 256) :
    k0_pay3 X (ix2 i (0 : Fin 1)) = Ideal.div (∑ k, (X (ix2 i k) : EReal) * X (ix2 i k)) ((1024 : ℝ) : EReal) := by
  unfold k0_pay3
  pointwise
  exact congrArg (fun z : EReal => Ideal.div _ z) c_wide

section row
variable (X : Vec Ideal S256x1024 .f32) (i : Fin 256) (x : Fin 1024 → EReal) (hx : ∀ k, X (ix2 i k) = x k)
include hx

theorem rsq_at : k0_pay4 (k0_pay3 X) (ix2 i (0 : Fin 1)) = rn x := by
  have h := mean_at X i
  simp only [hx] at h
  unfold k0_pay4
  pointwise
  rw [h]
  exact congrArg (fun z : EReal => Ideal.rsqrt (_ + z)) c_eps

theorem hat_at (j : Fin 1024) : k0_pay5 X (k0_pay3 X) (ix2 i j) = x j * rn x := by
  have h := rsq_at X i x hx
  unfold k0_pay5
  pointwise
  rw [h, hx]

variable (A R : Vec Ideal S256x1024 .f32) (G : Vec Ideal S1x1024 .f32) (a r g : Fin 1024 → EReal) (ha : ∀ k, A (ix2 i k) = a k)
  (hr : ∀ k, R (ix2 i k) = r k) (hg : ∀ k, G (ix2 (0 : Fin 1) k) = g k)
include ha hr hg

theorem dx_at (j : Fin 1024) : k0_pay6 A X R G (k0_pay3 X) (ix2 i j) = r j + dn a x g j := by
  have h := hat_at X i x hx
  have h4 := rsq_at X i x hx
  unfold k0_pay6
  pointwise
  simp only [h, h4, ha, hg, hr]
  rw [show Ideal.ofBits FTy.f32 1149239296#32 = ((1024 : ℝ) : EReal) from c_wide]
  rfl
end row

theorem gain_at (A X : Vec Ideal S256x1024 .f32) (a x : Fin 256 → Fin 1024 → EReal) (hx : ∀ i k, X (ix2 i k) = x i k)
    (ha : ∀ i k, A (ix2 i k) = a i k) (j : Fin 1024) :
    k0_pay7 A X (k0_pay3 X) (ix2 (0 : Fin 1) j) = ∑ i, a i j * (x i j * rn (x i)) := by
  have h := fun i => hat_at X i (x i) (hx i) j
  unfold k0_pay7
  pointwise
  exact Finset.sum_congr rfl fun i _ => congrArg₂ (fun p q : EReal => p * q) (ha i j) (h i)

theorem dx2_eq (v57 v61 : FVec Ideal S256x1024 .f32) (v63 : Vec Ideal S256x1024 .bf16) (v64 : Vec Ideal S1x1024x1024 .bf16) (v68 v69 : Vec Ideal S256x1024 .f32) (v70 : Vec Ideal S1x1024 .f32) :
    k0_pay13 v57 v61 v63 v64 v68 v69 v70 = k0_pay6 (k0_pay10 v57 v61 v63 v64) v68 v69 v70 (k0_pay3 v68) := rfl
theorem acc2_eq (p0 p1 p2 p3 : Vec Ideal S256x1024 .bf16) (w0 w1 w2 w3 : Vec Ideal S1x1024x1024 .bf16) :
    k0_pay10 (k0_pay8 p0 w0 p1 w1) (k0_pay9 p2 w2) p3 w3 = k0_pay2 p0 w0 p1 w1 p2 w2 p3 w3 := rfl
theorem gain2_eq (v47 : FVec Ideal S1x1024 .f32) (v57 v61 : FVec Ideal S256x1024 .f32) (v63 : Vec Ideal S256x1024 .bf16) (v64 : Vec Ideal S1x1024x1024 .bf16) (v68 : Vec Ideal S256x1024 .f32) :
    k0_pay14 v47 v57 v61 v63 v64 v68 = addf v47 (k0_pay7 (k0_pay10 v57 v61 v63 v64) v68 (k0_pay3 v68)) := rfl

end Cert.Proof.UpDx

end
-- ==== Proof.UpDxRef.lean ====
/- The reference's gradient through the normalisation, at an index. -/
module

public import proofs.«01_k».proof.Proof.Gen.Reference11Ideal.Read
public import proofs.«01_k».proof.Proof.NormReal
public import proofs.«01_k».proof.Proof.FourParts

@[expose] public section

set_option maxRecDepth 16384

noncomputable section

namespace Cert.Proof.UpDx

open Idealize.ShloMosaic Idealize.ShloMosaic.Pointwise Cert.Reference11Ideal Cert.Reference11Ideal.Read

abbrev A0 : Type := (⟨2, ![4096, 4096]⟩ : Shape).Idx → EReal
abbrev A1 : Type := (⟨3, ![4, 1024, 1024]⟩ : Shape).Idx → EReal
abbrev A2 : Type := (⟨2, ![4096, 1024]⟩ : Shape).Idx → EReal
abbrev A3 : Type := (⟨2, ![1, 1024]⟩ : Shape).Idx → EReal

/-- The weight's number that meets column `k` of the gradient and column `j` of the result. -/
abbrev spot (j : Fin 1024) (k : Fin 4096) : (⟨3, ![4, 1024, 1024]⟩ : Shape).Idx :=
  ix3 (⟨k.val / 1024, by omega⟩ : Fin 4) j (⟨k.val % 1024, by omega⟩ : Fin 1024)

/-- The gradient of the normalised rows, the rows, and the gain. -/
def aR (x0 : A0) (x1 : A1) (i : Fin 4096) (j : Fin 1024) : EReal := ∑ k : Fin 4096, x0 (ix2 i k) * x1 (spot j k)
def xR (x2 : A2) (i : Fin 4096) (j : Fin 1024) : EReal := x2 (ix2 i j)
def gR (x3 : A3) (j : Fin 1024) : EReal := x3 (ix2 (0 : Fin 1) j)

theorem idx1 {a : ℕ} (y : (⟨1, ![a]⟩ : Shape).Idx) : y = ix1 (y 0) := funext fun i => match i with | ⟨0, _⟩ => rfl

variable (x0 : A0) (x1 : A1) (x2 : A2) (x3 : A3) (x4 : A2)

theorem get2 (y : S4096x1024.Idx) : x2 y = xR x2 (y 0) (y 1) := congrArg x2 (idx2 y)

theorem v3_at (y : S4096x1024.Idx) : val_main_v3 (F := Ideal) x2 y = xR x2 (y 0) (y 1) * xR x2 (y 0) (y 1) := by
  refine (val_main_v3_apply (F := Ideal) x2 y).trans ?_
  rw [get2 x2 y]
  rfl
theorem zero_red {n : ℕ} (z : EReal) (A B : Fin n → EReal) (hz : z = ((0 : ℝ) : EReal)) (hA : ∀ k, A k = B k) : z + ∑ k, A k = ∑ k, B k := by
  rw [hz, EReal.coe_zero, zero_add]
  exact Finset.sum_congr rfl fun k _ => hA k
theorem v4_at (y : S4096.Idx) : val_main_v4 (F := Ideal) x2 y = ∑ k, xR x2 (y 0) k * xR x2 (y 0) k := by
  refine (val_main_v4_apply x2 y).trans ?_
  exact zero_red _ _ (fun k => xR x2 (y 0) k * xR x2 (y 0) k) c_zero fun k => v3_at x2 _
theorem v9_at (y : S4096x1.Idx) : val_main_v9 (F := Ideal) x2 y = ms (xR x2 (y 0)) := by
  refine (val_main_v9_apply (F := Ideal) x2 y).trans ?_
  rw [val_main_v7_apply, val_main_v5_apply, v4_at x2, val_main_v6_apply, val_main_cst_0_apply, val_main_v8_apply, val_main_cst_1_apply, c_wide, c_eps]
  rfl
theorem v10_at (y : S4096x1.Idx) : val_main_v10 (F := Ideal) x2 y = rn (xR x2 (y 0)) := by
  refine (val_main_v10_apply (F := Ideal) x2 y).trans ?_
  rw [v9_at x2]
  rfl
theorem v13_at (y : S4096x1.Idx) : val_main_v13 (F := Ideal) x2 y = ((-(1 / 2) : ℝ) : EReal) * Ideal.div (rn (xR x2 (y 0))) (ms (xR x2 (y 0))) := by
  refine (val_main_v13_apply (F := Ideal) x2 y).trans ?_
  rw [val_main_v12_apply, val_main_cst_2_apply, c_mhalf, val_main_v11_apply, v10_at x2, v9_at x2]
  rfl
theorem v15_at (y : S4096x1024.Idx) : val_main_v15 (F := Ideal) x2 y = xR x2 (y 0) (y 1) * rn (xR x2 (y 0)) := by
  refine (val_main_v15_apply (F := Ideal) x2 y).trans ?_
  rw [val_main_v14_apply, v10_at x2, get2 x2 y]
  rfl

theorem v20_at (y : S4096x1024.Idx) : val_main_v20 (F := Ideal) x0 x1 y = aR x0 x1 (y 0) (y 1) := by
  refine (val_main_v20_apply x0 x1 y).trans (Finset.sum_congr rfl fun k _ => congrArg₂ (fun p q : EReal => p * q) ?_ ?_)
  · exact congrArg x0 (idx2 _)
  · rw [val_main_v2_apply, val_main_v1_apply]
    refine congrArg x1 (funext fun b => Fin.ext ?_)
    have hy : (y 1).val < 1024 := (y 1).isLt
    have hk := k.isLt
    match b with
    | ⟨0, _⟩ => show ((y 1).val * 4096 + k.val) / 1024 % 4 = k.val / 1024; omega
    | ⟨1, _⟩ => show ((y 1).val * 4096 + k.val) / 4096 = (y 1).val; omega
    | ⟨2, _⟩ => show ((y 1).val * 4096 + k.val) % 1024 = k.val % 1024; omega

theorem v25_at (y : S4096x1024.Idx) : val_main_v25 (F := Ideal) x0 x1 x3 y = aR x0 x1 (y 0) (y 1) * gR x3 (y 1) := by
  refine (val_main_v25_apply (F := Ideal) x0 x1 x3 y).trans ?_
  rw [val_main_v24_apply, v20_at x0 x1]
  exact congrArg (fun z : EReal => aR x0 x1 (y 0) (y 1) * z) (congrArg x3 (idx2 _))

theorem v34_at (y : S4096.Idx) : val_main_v34 (F := Ideal) x0 x1 x2 x3 y = sq (aR x0 x1 (y 0)) (xR x2 (y 0)) (gR x3) := by
  refine (val_main_v34_apply x0 x1 x2 x3 y).trans ?_
  refine (zero_red _ _ (fun _ => sq (aR x0 x1 (y 0)) (xR x2 (y 0)) (gR x3)) c_zero fun k => ?_).trans (Fin.sum_univ_one _)
  refine (val_main_v33_apply (F := Ideal) x0 x1 x2 x3 _).trans ?_
  rw [val_main_v32_apply, val_main_cst_5_apply, c_wide, val_main_v31_apply, v13_at x2, val_main_v28_apply]
  have e : val_main_v27 (F := Ideal) x0 x1 x2 x3 (idx_main_v28 (idx_main_v34 y k)) = ∑ j, xR x2 (y 0) j * (aR x0 x1 (y 0) j * gR x3 j) := by
    have hi : idx_main_v28 (idx_main_v34 y k) = y := funext fun b => Fin.ext (by
      have hk : k.val < 1 := k.isLt
      match b with
      | ⟨0, _⟩ => show (y 0).val * 1 + k.val = (y 0).val; omega)
    rw [hi]
    refine (val_main_v27_apply x0 x1 x2 x3 y).trans ?_
    refine zero_red _ _ (fun j => xR x2 (y 0) j * (aR x0 x1 (y 0) j * gR x3 j)) c_zero fun j => ?_
    refine (val_main_v26_apply (F := Ideal) x0 x1 x2 x3 _).trans ?_
    rw [v25_at x0 x1 x3, get2 x2]
    rfl
  rw [e]
  rfl

theorem v40_at (i : Fin 4096) (j : Fin 1024) : val_main_v40 (F := Ideal) x0 x1 x2 x3 x4 (ix2 i j)
    = xR x4 i j + dn (aR x0 x1 i) (xR x2 i) (gR x3) j := by
  refine (val_main_v40_apply (F := Ideal) x0 x1 x2 x3 x4 _).trans ?_
  rw [val_main_v39_apply, val_main_v37_apply, val_main_v30_apply, val_main_v36_apply, val_main_v38_apply, val_main_v35_apply, v34_at x0 x1 x2 x3,
    v25_at x0 x1 x3, val_main_v29_apply, v10_at x2, get2 x2, get2 x4]
  exact congrArg (fun z : EReal => xR x4 i j + z) (dn_eq (aR x0 x1 i) (xR x2 i) (gR x3) j)

theorem v23_at (j : Fin 1024) : val_main_v23 (F := Ideal) x0 x1 x2 (ix2 (0 : Fin 1) j) = ∑ i, aR x0 x1 i j * (xR x2 i j * rn (xR x2 i)) := by
  refine (val_main_v23_apply (F := Ideal) x0 x1 x2 _).trans ?_
  have hi : idx_main_v23 (ix2 (0 : Fin 1) j) = ix1 j := funext fun b => Fin.ext (by
    match b with
    | ⟨0, _⟩ => show 0 * 1024 + j.val = j.val; omega)
  rw [hi]
  refine (val_main_v22_apply x0 x1 x2 _).trans ?_
  refine zero_red _ _ (fun i => aR x0 x1 i j * (xR x2 i j * rn (xR x2 i))) c_zero fun i => ?_
  refine (val_main_v21_apply (F := Ideal) x0 x1 x2 _).trans ?_
  rw [v15_at x2, v20_at x0 x1]
  exact mul_comm _ _

end Cert.Proof.UpDx

end
-- ==== Proof.UpDx.lean ====
/- The gradient at the feed-forward's input, through the first product and the normalisation. -/
module

public import proofs.«01_k».proof.Defs
public import proofs.«01_k».proof.Proof.UpDxPays
public import proofs.«01_k».proof.Proof.UpDxRef
public import Idealize.ShloMosaic.Lib.Pipeline.ValueKit.Tiles

@[expose] public section

set_option maxRecDepth 16384

noncomputable section

namespace Cert.Proof.UpDx

open Idealize.ShloMosaic Idealize.SL.Sem Cert.Kernel11Ideal Cert.Kernel11Ideal.Gen Cert.Kernel11Ideal.Value Idealize.ShloMosaic.Pointwise

/-- Place `i` of a half that starts at `o`. -/
abbrev at_ (o : ℕ) (ho : o + 256 ≤ 512) (i : Fin 256) : Fin 512 := ⟨o + i.val, by omega⟩

section halves
variable (x0 : Vec Ideal S512x4096 .bf16) (x1 : Vec Ideal S4x1024x1024 .bf16) (x2 x3 : Vec Ideal S512x1024 .f32) (x4 : Vec Ideal S1x1024 .f32)
  (a x r : Fin 512 → Fin 1024 → EReal) (g : Fin 1024 → EReal)

/-- The block's numbers are these. -/
structure Block : Prop where
  ha : ∀ p j, ∑ k, (x0 (ix2 p (place 0 (by omega) k)) : EReal) * x1 (ix3 (0 : Fin 4) j k) + ∑ k, (x0 (ix2 p (place 1 (by omega) k)) : EReal) * x1 (ix3 (1 : Fin 4) j k)
    + ∑ k, (x0 (ix2 p (place 2 (by omega) k)) : EReal) * x1 (ix3 (2 : Fin 4) j k) + ∑ k, (x0 (ix2 p (place 3 (by omega) k)) : EReal) * x1 (ix3 (3 : Fin 4) j k) = a p j
  hx : ∀ p k, x2 (ix2 p k) = x p k
  hr : ∀ p k, x3 (ix2 p k) = r p k
  hg : ∀ k, x4 (ix2 (0 : Fin 1) k) = g k

theorem ldw (q : ℕ) (hq : q < 4) (b) (j k : Fin 1024) :
    View.ld x1 (Rect.unit (s := S4x1024x1024) ![q, 0, 0] ![1, 1024, 1024] b) (ix3 (0 : Fin 1) j k) = x1 (ix3 (⟨q, hq⟩ : Fin 4) j k) :=
  View.ld_unit_apply_of x1 _ _ b _ _ fun d => match d with
    | ⟨0, _⟩ => rfl
    | ⟨1, _⟩ => (Nat.zero_add j.val).symm
    | ⟨2, _⟩ => (Nat.zero_add k.val).symm
theorem ldd (o q : ℕ) (ho : o + 256 ≤ 512) (hq : q < 4) (s : ℕ) (hs : s = 1024 * q) (b) (i : Fin 256) (k : Fin 1024) :
    View.ld x0 (Rect.unit (s := S512x4096) ![o, s] ![256, 1024] b) (ix2 i k) = x0 (ix2 (at_ o ho i) (place q hq k)) :=
  View.ld_unit_apply_of x0 _ _ b _ _ fun d => match d with
    | ⟨0, _⟩ => rfl
    | ⟨1, _⟩ => by subst hs; rfl
theorem ldr (o : ℕ) (ho : o + 256 ≤ 512) (b) (i : Fin 256) (k : Fin 1024) :
    View.ld x2 (Rect.unit (s := S512x1024) ![o, 0] ![256, 1024] b) (ix2 i k) = x2 (ix2 (at_ o ho i) k) :=
  View.ld_unit_apply_of x2 _ _ b _ _ fun d => match d with
    | ⟨0, _⟩ => rfl
    | ⟨1, _⟩ => (Nat.zero_add k.val).symm

variable {x0 x1 x2 x3 x4 a x r g} (B : Block x0 x1 x2 x3 x4 a x r g) (o : ℕ) (ho : o + 256 ≤ 512) (b0 b1 b2 b3 c0 c1 c2 c3 d e)
include B

theorem acc_half (i : Fin 256) (j : Fin 1024) : (k0_pay2 (F := Ideal) (View.ld x0 (Rect.unit (s := S512x4096) ![o, 0] ![256, 1024] b0)) (View.ld x1 (Rect.unit (s := S4x1024x1024) ![0, 0, 0] ![1, 1024, 1024] c0)) (View.ld x0 (Rect.unit (s := S512x4096) ![o, 1024] ![256, 1024] b1)) (View.ld x1 (Rect.unit (s := S4x1024x1024) ![1, 0, 0] ![1, 1024, 1024] c1)) (View.ld x0 (Rect.unit (s := S512x4096) ![o, 2048] ![256, 1024] b2)) (View.ld x1 (Rect.unit (s := S4x1024x1024) ![2, 0, 0] ![1, 1024, 1024] c2)) (View.ld x0 (Rect.unit (s := S512x4096) ![o, 3072] ![256, 1024] b3)) (View.ld x1 (Rect.unit (s := S4x1024x1024) ![3, 0, 0] ![1, 1024, 1024] c3))) (ix2 i j) = a (at_ o ho i) j := by
  refine (acc_at _ _ _ _ _ _ _ _ i j).trans (Eq.trans ?_ (B.ha (at_ o ho i) j))
  refine congrArg₂ (fun p q : EReal => p + q) (congrArg₂ (fun p q : EReal => p + q) (congrArg₂ (fun p q : EReal => p + q) ?_ ?_) ?_) ?_
  · exact Finset.sum_congr rfl fun k _ => congrArg₂ (fun p q : EReal => p * q) (ldd x0 o 0 ho (by omega) 0 rfl b0 i k) (ldw x1 0 (by omega) c0 j k)
  · exact Finset.sum_congr rfl fun k _ => congrArg₂ (fun p q : EReal => p * q) (ldd x0 o 1 ho (by omega) 1024 rfl b1 i k) (ldw x1 1 (by omega) c1 j k)
  · exact Finset.sum_congr rfl fun k _ => congrArg₂ (fun p q : EReal => p * q) (ldd x0 o 2 ho (by omega) 2048 rfl b2 i k) (ldw x1 2 (by omega) c2 j k)
  · exact Finset.sum_congr rfl fun k _ => congrArg₂ (fun p q : EReal => p * q) (ldd x0 o 3 ho (by omega) 3072 rfl b3 i k) (ldw x1 3 (by omega) c3 j k)

theorem dx_half (i : Fin 256) (j : Fin 1024) :
    k0_pay6 (F := Ideal) (k0_pay2 (F := Ideal) (View.ld x0 (Rect.unit (s := S512x4096) ![o, 0] ![256, 1024] b0)) (View.ld x1 (Rect.unit (s := S4x1024x1024) ![0, 0, 0] ![1, 1024, 1024] c0)) (View.ld x0 (Rect.unit (s := S512x4096) ![o, 1024] ![256, 1024] b1)) (View.ld x1 (Rect.unit (s := S4x1024x1024) ![1, 0, 0] ![1, 1024, 1024] c1)) (View.ld x0 (Rect.unit (s := S512x4096) ![o, 2048] ![256, 1024] b2)) (View.ld x1 (Rect.unit (s := S4x1024x1024) ![2, 0, 0] ![1, 1024, 1024] c2)) (View.ld x0 (Rect.unit (s := S512x4096) ![o, 3072] ![256, 1024] b3)) (View.ld x1 (Rect.unit (s := S4x1024x1024) ![3, 0, 0] ![1, 1024, 1024] c3))) (View.ld x2 (Rect.unit (s := S512x1024) ![o, 0] ![256, 1024] d)) (View.ld x3 (Rect.unit (s := S512x1024) ![o, 0] ![256, 1024] d)) x4
      (k0_pay3 (View.ld x2 (Rect.unit (s := S512x1024) ![o, 0] ![256, 1024] d))) (ix2 i j)
      = (r (at_ o ho i) j + dn (a (at_ o ho i)) (x (at_ o ho i)) g j) :=
  dx_at _ i (x (at_ o ho i)) (fun k => (ldr x2 o ho d i k).trans (B.hx _ k)) _ _ _ (a (at_ o ho i)) (r (at_ o ho i)) g
    (fun k => acc_half B o ho b0 b1 b2 b3 c0 c1 c2 c3 i k) (fun k => (ldr x3 o ho d i k).trans (B.hr _ k)) B.hg j

theorem gain_half (j : Fin 1024) :
    k0_pay7 (F := Ideal) (k0_pay2 (F := Ideal) (View.ld x0 (Rect.unit (s := S512x4096) ![o, 0] ![256, 1024] b0)) (View.ld x1 (Rect.unit (s := S4x1024x1024) ![0, 0, 0] ![1, 1024, 1024] c0)) (View.ld x0 (Rect.unit (s := S512x4096) ![o, 1024] ![256, 1024] b1)) (View.ld x1 (Rect.unit (s := S4x1024x1024) ![1, 0, 0] ![1, 1024, 1024] c1)) (View.ld x0 (Rect.unit (s := S512x4096) ![o, 2048] ![256, 1024] b2)) (View.ld x1 (Rect.unit (s := S4x1024x1024) ![2, 0, 0] ![1, 1024, 1024] c2)) (View.ld x0 (Rect.unit (s := S512x4096) ![o, 3072] ![256, 1024] b3)) (View.ld x1 (Rect.unit (s := S4x1024x1024) ![3, 0, 0] ![1, 1024, 1024] c3))) (View.ld x2 (Rect.unit (s := S512x1024) ![o, 0] ![256, 1024] d))
      (k0_pay3 (View.ld x2 (Rect.unit (s := S512x1024) ![o, 0] ![256, 1024] d))) (ix2 (0 : Fin 1) j)
      = (∑ i, a (at_ o ho i) j * (x (at_ o ho i) j * rn (x (at_ o ho i)))) :=
  gain_at _ _ (fun i => a (at_ o ho i)) (fun i => x (at_ o ho i)) (fun i k => (ldr x2 o ho d i k).trans (B.hx _ k))
    (fun i k => acc_half B o ho b0 b1 b2 b3 c0 c1 c2 c3 i k) j
end halves

/-- The two halves' sums are the block's. -/
theorem halves_sum (f : Fin 512 → EReal) : ∑ i, f (at_ 0 (by omega) i) + ∑ i, f (at_ 256 (by omega) i) = ∑ p, f p := by
  refine Eq.trans ?_ (Fin.sum_univ_add (a := 256) (b := 256) f).symm
  refine congrArg₂ (· + ·) (Finset.sum_congr rfl fun i _ => congrArg f (Fin.ext ?_)) (Finset.sum_congr rfl fun i _ => congrArg f (Fin.ext ?_))
  · show 0 + i.val = i.val; omega
  · show 256 + i.val = 256 + i.val; rfl

section cases
variable (c : Dev nD) (i : grid0.Coords) (a1 : Memref sig .tc .vmem S512x4096 .bf16) (w1 : a1.IsWhole) (a2 : Memref sig .tc .vmem S4x1024x1024 .bf16) (w2 : a2.IsWhole)
  (a3 : Memref sig .tc .vmem S512x1024 .f32) (w3 : a3.IsWhole) (a4 : Memref sig .tc .vmem S512x1024 .f32) (w4 : a4.IsWhole) (a5 : Memref sig .tc .vmem S1x1024 .f32) (w5 : a5.IsWhole)
  (a6 : Memref sig .tc .vmem S512x1024 .f32) (w6 : a6.IsWhole) (a7 : Memref sig .tc .vmem S1x1024 .f32) (w7 : a7.IsWhole)
  {x0 : Vec Ideal S512x4096 .bf16} {x1 : Vec Ideal S4x1024x1024 .bf16} {x2 x3 : Vec Ideal S512x1024 .f32} {x4 : Vec Ideal S1x1024 .f32} {acc : Vec Ideal S1x1024 .f32}
  {a x r : Fin 512 → Fin 1024 → EReal} {g : Fin 1024 → EReal} (B : Block x0 x1 x2 x3 x4 a x r g)

/-- Two stores, one for each half, read back at a row. -/
theorem two_rows (P Q : S256x1024.Idx → EReal) (f : Fin 512 → Fin 1024 → EReal) (h1 h2) (hP : ∀ i j, P (ix2 i j) = f (at_ 256 (by omega) i) j)
    (hQ : ∀ i j, Q (ix2 i j) = f (at_ 0 (by omega) i) j) (p : Fin 512) (j : Fin 1024) :
    View.canon (Val := Elt Ideal) (s := S512x1024) (e := .f32) [⟨Rect.unit ![256, 0] ![256, 1024] h1, P⟩, ⟨Rect.unit ![0, 0] ![256, 1024] h2, Q⟩] (ix2 p j) = f p j := by
  by_cases hp : 256 ≤ p.val
  · have e : (ix2 p j : S512x1024.Idx) = (Rect.unit (s := S512x1024) ![256, 0] ![256, 1024] h1).emb (ix2 (⟨p.val - 256, by omega⟩ : Fin 256) j) :=
      funext fun d => Fin.ext (match d with
        | ⟨0, _⟩ => by show p.val = 256 + 1 * (p.val - 256); omega
        | ⟨1, _⟩ => by show j.val = 0 + 1 * j.val; omega)
    refine (congrArg _ e).trans ((View.canon_cons_emb _ _ _ _).trans ((hP _ j).trans ?_))
    exact congrArg (fun q => f q j) (Fin.ext (by show 256 + (p.val - 256) = p.val; omega))
  · have n : (ix2 p j : S512x1024.Idx) ∉ (Rect.unit (s := S512x1024) ![256, 0] ![256, 1024] h1).set := fun hm => by
      have := (Rect.mem_set_unit.1 hm 0).1
      exact hp this
    have e : (ix2 p j : S512x1024.Idx) = (Rect.unit (s := S512x1024) ![0, 0] ![256, 1024] h2).emb (ix2 (⟨p.val, by omega⟩ : Fin 256) j) :=
      funext fun d => Fin.ext (match d with
        | ⟨0, _⟩ => by show p.val = 0 + 1 * p.val; omega
        | ⟨1, _⟩ => by show j.val = 0 + 1 * j.val; omega)
    have l : View.canon (Val := Elt Ideal) (s := S512x1024) (e := .f32) [⟨Rect.unit ![0, 0] ![256, 1024] h2, Q⟩] (ix2 p j) = Q (ix2 (⟨p.val, by omega⟩ : Fin 256) j) := by
      rw [e]
      exact View.canon_cons_emb _ _ _ _
    refine Eq.trans (View.canon_cons_of_not_mem _ _ ?_) (l.trans ((hQ _ j).trans ?_))
    · exact n
    exact congrArg (fun q => f q j) (Fin.ext (by show 0 + p.val = p.val; omega))

include B
theorem rowsA (h0 : cond0_0 i) (h1 : ¬cond0_1 i) (p : Fin 512) (j : Fin 1024) :
    out0_A_5 c i a1 w1 a2 w2 a3 w3 a4 w4 a5 w5 a6 w6 a7 w7 h0 h1 x0 x1 x2 x3 x4 (ix2 p j) = (r p j + dn (a p) (x p) g j) := by
  unfold out0_A_5
  rw [View.read_writes_eq_canon _ _ _ (cover0_A_5 c i a1 w1 a2 w2 a3 w3 a4 w4 a5 w5 a6 w6 a7 w7 h0 h1 x0 x1 x2 x3 x4)]
  unfold kernelRun0_A
  dsimp only
  sl_unfold_words
  simp only [View.readAt_eq_ld, w1.read_unread, w2.read_unread, w3.read_unread, w4.read_unread, w5.read_unread, View.ld_unit_zero (S := S1x1024) zeros2]
  exact two_rows _ _ (fun p j => (r p j + dn (a p) (x p) g j)) _ _ (fun i j => dx_half B 256 (by omega) _ _ _ _ _ _ _ _ _ i j)
    (fun i j => dx_half B 0 (by omega) _ _ _ _ _ _ _ _ _ i j) p j

theorem rowsB (h0 : ¬cond0_0 i) (h1 : cond0_1 i) (p : Fin 512) (j : Fin 1024) :
    out0_B_5 c i a1 w1 a2 w2 a3 w3 a4 w4 a5 w5 a6 w6 a7 w7 h0 h1 x0 x1 x2 x3 x4 acc (ix2 p j) = (r p j + dn (a p) (x p) g j) := by
  unfold out0_B_5
  rw [View.read_writes_eq_canon _ _ _ (cover0_B_5 c i a1 w1 a2 w2 a3 w3 a4 w4 a5 w5 a6 w6 a7 w7 h0 h1 x0 x1 x2 x3 x4 acc)]
  unfold kernelRun0_B
  dsimp only
  sl_unfold_words
  simp only [View.readAt_eq_ld, w1.read_unread, w2.read_unread, w3.read_unread, w4.read_unread, w5.read_unread, View.ld_unit_zero (S := S1x1024) zeros2]
  exact two_rows _ _ (fun p j => (r p j + dn (a p) (x p) g j)) _ _ (fun i j => dx_half B 256 (by omega) _ _ _ _ _ _ _ _ _ i j)
    (fun i j => dx_half B 0 (by omega) _ _ _ _ _ _ _ _ _ i j) p j

theorem gainA (h0 : cond0_0 i) (h1 : ¬cond0_1 i) (j : Fin 1024) :
    out0_A_6 c i a1 w1 a2 w2 a3 w3 a4 w4 a5 w5 a6 w6 a7 w7 h0 h1 x0 x1 x2 x3 x4 (ix2 (0 : Fin 1) j) = (∑ p, a p j * (x p j * rn (x p))) := by
  unfold out0_A_6
  rw [View.read_writes_eq_canon _ _ _ (cover0_A_6 c i a1 w1 a2 w2 a3 w3 a4 w4 a5 w5 a6 w6 a7 w7 h0 h1 x0 x1 x2 x3 x4)]
  unfold kernelRun0_A
  dsimp only
  sl_unfold_words
  rw [View.canon_unit_zero zeros2]
  simp only [View.readAt_eq_ld, w1.read_unread, w2.read_unread, w3.read_unread, w4.read_unread, w5.read_unread, View.ld_unit_zero (S := S1x1024) zeros2]
  refine Eq.trans (congrArg₂ (fun p q : EReal => p + q) (gain_half B 0 (by omega) _ _ _ _ _ _ _ _ _ j) (gain_half B 256 (by omega) _ _ _ _ _ _ _ _ _ j)) ?_
  exact halves_sum fun p => a p j * (x p j * rn (x p))

theorem gainB (h0 : ¬cond0_0 i) (h1 : cond0_1 i) (j : Fin 1024) :
    out0_B_6 c i a1 w1 a2 w2 a3 w3 a4 w4 a5 w5 a6 w6 a7 w7 h0 h1 x0 x1 x2 x3 x4 acc (ix2 (0 : Fin 1) j)
      = acc (ix2 (0 : Fin 1) j) + (∑ p, a p j * (x p j * rn (x p))) := by
  unfold out0_B_6
  rw [View.read_writes_eq_canon _ _ _ (cover0_B_6 c i a1 w1 a2 w2 a3 w3 a4 w4 a5 w5 a6 w6 a7 w7 h0 h1 x0 x1 x2 x3 x4 acc)]
  unfold kernelRun0_B
  dsimp only
  sl_unfold_words
  rw [View.canon_unit_zero zeros2]
  simp only [View.readAt_eq_ld, w1.read_unread, w2.read_unread, w3.read_unread, w4.read_unread, w5.read_unread, w7.read_unread, View.ld_unit_zero (S := S1x1024) zeros2]
  unfold k0_pay1
  rw [shapeCast_self]
  refine congrArg (fun z : EReal => acc (ix2 (0 : Fin 1) j) + z) ?_
  refine Eq.trans (congrArg₂ (fun p q : EReal => p + q) (gain_half B 0 (by omega) _ _ _ _ _ _ _ _ _ j) (gain_half B 256 (by omega) _ _ _ _ _ _ _ _ _ j)) ?_
  exact halves_sum fun p => a p j * (x p j * rn (x p))
end cases

section whole
variable (m : (ℓ : Loc nD τ sig) → Buf (Elt Ideal) ℓ) (c : Dev nD)

theorem lt8 (t : Fin cfg0.N) : t.val < 8 := lt_of_lt_of_eq t.isLt (show cfg0.N = 8 from N_0)

theorem at0 : ∀ t : Fin cfg0.N, win0_0.index t 0 = t.val ∧ win0_0.index t 1 = 0 := (by decide +kernel : ∀ t : Fin grid0.N, _)
theorem at1 : ∀ t : Fin cfg0.N, win0_1.index t 0 = 0 ∧ win0_1.index t 1 = 0 ∧ win0_1.index t 2 = 0 := (by decide +kernel : ∀ t : Fin grid0.N, _)
theorem at2 : ∀ t : Fin cfg0.N, win0_2.index t 0 = t.val ∧ win0_2.index t 1 = 0 := (by decide +kernel : ∀ t : Fin grid0.N, _)
theorem at3 : ∀ t : Fin cfg0.N, win0_3.index t 0 = t.val ∧ win0_3.index t 1 = 0 := (by decide +kernel : ∀ t : Fin grid0.N, _)
theorem at4 : ∀ t : Fin cfg0.N, win0_4.index t 0 = 0 ∧ win0_4.index t 1 = 0 := (by decide +kernel : ∀ t : Fin grid0.N, _)
theorem at5 : ∀ t : Fin cfg0.N, win0_5.index t 0 = t.val ∧ win0_5.index t 1 = 0 := (by decide +kernel : ∀ t : Fin grid0.N, _)
theorem at6 : ∀ t : Fin cfg0.N, win0_6.index t 0 = 0 ∧ win0_6.index t 1 = 0 := (by decide +kernel : ∀ t : Fin grid0.N, _)

/-- Row `p` of the rows point `t` works on. -/
abbrev rw_ (t : Fin cfg0.N) (p : Fin 512) : Fin 4096 := ⟨512 * t.val + p.val, by have := lt8 t; omega⟩

theorem emb0 (t : Fin cfg0.N) (a : Fin 512) (b : Fin 4096) : (win0_0.blk t).view.emb (ix2 a b) = ix2 (rw_ t a) b := by
  refine funext fun i => Fin.ext ?_
  have h := at0 t
  match i with
  | ⟨0, _⟩ => show win0_0.index t 0 * 512 + 1 * a.val = 512 * t.val + a.val; omega
  | ⟨1, _⟩ => show win0_0.index t 1 * 4096 + 1 * b.val = b.val; omega
theorem emb1 (t : Fin cfg0.N) (q : Fin 4) (a b : Fin 1024) : (win0_1.blk t).view.emb (ix3 q a b) = ix3 q a b := by
  refine funext fun i => Fin.ext ?_
  have h := at1 t
  match i with
  | ⟨0, _⟩ => show win0_1.index t 0 * 4 + 1 * q.val = q.val; omega
  | ⟨1, _⟩ => show win0_1.index t 1 * 1024 + 1 * a.val = a.val; omega
  | ⟨2, _⟩ => show win0_1.index t 2 * 1024 + 1 * b.val = b.val; omega
theorem emb2 (t : Fin cfg0.N) (a : Fin 512) (b : Fin 1024) : (win0_2.blk t).view.emb (ix2 a b) = ix2 (rw_ t a) b := by
  refine funext fun i => Fin.ext ?_
  have h := at2 t
  match i with
  | ⟨0, _⟩ => show win0_2.index t 0 * 512 + 1 * a.val = 512 * t.val + a.val; omega
  | ⟨1, _⟩ => show win0_2.index t 1 * 1024 + 1 * b.val = b.val; omega
theorem emb3 (t : Fin cfg0.N) (a : Fin 512) (b : Fin 1024) : (win0_3.blk t).view.emb (ix2 a b) = ix2 (rw_ t a) b := by
  refine funext fun i => Fin.ext ?_
  have h := at3 t
  match i with
  | ⟨0, _⟩ => show win0_3.index t 0 * 512 + 1 * a.val = 512 * t.val + a.val; omega
  | ⟨1, _⟩ => show win0_3.index t 1 * 1024 + 1 * b.val = b.val; omega
theorem emb4 (t : Fin cfg0.N) (a : Fin 1) (b : Fin 1024) : (win0_4.blk t).view.emb (ix2 a b) = ix2 a b := by
  refine funext fun i => Fin.ext ?_
  have h := at4 t
  match i with
  | ⟨0, _⟩ => show win0_4.index t 0 * 1 + 1 * a.val = a.val; omega
  | ⟨1, _⟩ => show win0_4.index t 1 * 1024 + 1 * b.val = b.val; omega
theorem emb5 (t : Fin cfg0.N) (a : Fin 512) (b : Fin 1024) : (win0_5.blk t).view.emb (ix2 a b) = ix2 (rw_ t a) b := by
  refine funext fun i => Fin.ext ?_
  have h := at5 t
  match i with
  | ⟨0, _⟩ => show win0_5.index t 0 * 512 + 1 * a.val = 512 * t.val + a.val; omega
  | ⟨1, _⟩ => show win0_5.index t 1 * 1024 + 1 * b.val = b.val; omega
theorem emb6 (t : Fin cfg0.N) (a : Fin 1) (b : Fin 1024) : (win0_6.blk t).view.emb (ix2 a b) = ix2 a b := by
  refine funext fun i => Fin.ext ?_
  have h := at6 t
  match i with
  | ⟨0, _⟩ => show win0_6.index t 0 * 1 + 1 * a.val = a.val; omega
  | ⟨1, _⟩ => show win0_6.index t 1 * 1024 + 1 * b.val = b.val; omega

/-- The five arguments, as arrays of extended reals. -/
abbrev U : A0 := m ((c.tc : Thread nD τ).loc main_arg0)
abbrev W : A1 := m ((c.tc : Thread nD τ).loc main_arg1)
abbrev X : A2 := m ((c.tc : Thread nD τ).loc main_arg2)
abbrev G : A3 := m ((c.tc : Thread nD τ).loc main_arg3)
abbrev R : A2 := m ((c.tc : Thread nD τ).loc main_arg4)

theorem blk0 (t : Fin cfg0.N) (a : Fin 512) (b : Fin 4096) : iblk m c 0 t (ix2 a b) = U m c (ix2 (rw_ t a) b) :=
  (congrArg (V m c (Pipeline.arrRef spec0 0)) (emb0 t a b)).trans (congrFun (V_main_arg0 m c) _)
theorem blk1 (t : Fin cfg0.N) (q : Fin 4) (a b : Fin 1024) : iblk m c 1 t (ix3 q a b) = W m c (ix3 q a b) :=
  (congrArg (V m c (Pipeline.arrRef spec0 1)) (emb1 t q a b)).trans (congrFun (V_main_arg1 m c) _)
theorem blk2 (t : Fin cfg0.N) (a : Fin 512) (b : Fin 1024) : iblk m c 2 t (ix2 a b) = X m c (ix2 (rw_ t a) b) :=
  (congrArg (V m c (Pipeline.arrRef spec0 2)) (emb2 t a b)).trans (congrFun (V_main_arg2 m c) _)
theorem blk3 (t : Fin cfg0.N) (a : Fin 512) (b : Fin 1024) : iblk m c 3 t (ix2 a b) = R m c (ix2 (rw_ t a) b) :=
  (congrArg (V m c (Pipeline.arrRef spec0 3)) (emb3 t a b)).trans (congrFun (V_main_arg4 m c) _)
theorem blk4 (t : Fin cfg0.N) (a : Fin 1) (b : Fin 1024) : iblk m c 4 t (ix2 a b) = G m c (ix2 a b) :=
  (congrArg (V m c (Pipeline.arrRef spec0 4)) (emb4 t a b)).trans (congrFun (V_main_arg3 m c) _)

/-- The two blocks the product reads. -/
abbrev I0 (t : Fin cfg0.N) : S512x4096.Idx → EReal := iblk m c 0 t
abbrev I1 (t : Fin cfg0.N) : S4x1024x1024.Idx → EReal := iblk m c 1 t

theorem run_of (t : Fin cfg0.N) (q : ℕ) (hq : q < 4) (p : Fin 512) (j : Fin 1024) :
    ∑ k, I0 m c t (ix2 p (place q hq k)) * I1 m c t (ix3 (⟨q, hq⟩ : Fin 4) j k)
      = ∑ k, (fun k : Fin 4096 => U m c (ix2 (rw_ t p) k) * W m c (spot j k)) (place q hq k) :=
  Finset.sum_congr rfl fun k _ => congrArg₂ (fun p q : EReal => p * q) (blk0 m c t p _) ((blk1 m c t _ j k).trans
    (congrArg (W m c) (funext fun d => Fin.ext (match d with
      | ⟨0, _⟩ => by show q = (1024 * q + k.val) / 1024; omega
      | ⟨1, _⟩ => rfl
      | ⟨2, _⟩ => by show k.val = (1024 * q + k.val) % 1024; omega))))

theorem block (t : Fin cfg0.N) : Block (iblk m c 0 t) (iblk m c 1 t) (iblk m c 2 t) (iblk m c 3 t) (iblk m c 4 t)
    (fun p => aR (U m c) (W m c) (rw_ t p)) (fun p => xR (X m c) (rw_ t p)) (fun p => xR (R m c) (rw_ t p)) (gR (G m c)) where
  ha p j := by
    refine Eq.trans (congrArg₂ (fun p q : EReal => p + q) (congrArg₂ (fun p q : EReal => p + q) (congrArg₂ (fun p q : EReal => p + q)
      (run_of m c t 0 (by omega) p j) (run_of m c t 1 (by omega) p j)) (run_of m c t 2 (by omega) p j)) (run_of m c t 3 (by omega) p j)) ?_
    refine (four_parts (fun k : Fin 4096 => U m c (ix2 (rw_ t p) k) * W m c (spot j k))).symm.trans ?_
    rfl
  hx p k := blk2 m c t p k
  hr p k := blk3 m c t p k
  hg k := blk4 m c t 0 k

theorem rows_left (t : Fin cfg0.N) (p : Fin 512) (j : Fin 1024) : (outsAt0 m c t.val t.isLt).1 (ix2 p j)
    = (xR (R m c) (rw_ t p) j + dn (aR (U m c) (W m c) (rw_ t p)) (xR (X m c) (rw_ t p)) (gR (G m c)) j) := by
  have hN := lt8 t
  by_cases h : t.val = 0
  · have e := rowsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (block m c t) ((hcond0_0 t).mpr (by omega)) (fun h => absurd ((hcond0_1 t).mp h) (by omega)) p j
    rw [outsAt0_A m c t (by omega) (by omega)]
    dsimp only
    exact e
  · have e := rowsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (acc := (outsAt0 m c (t.val - 1) (Nat.lt_of_le_of_lt (Nat.sub_le _ _) t.isLt)).2) (block m c t) (fun h => absurd ((hcond0_0 t).mp h) (by omega)) ((hcond0_1 t).mpr (by omega)) p j
    rw [outsAt0_B m c t (by omega) (by omega)]
    dsimp only
    exact e

/-- What row `u` adds to the gain's gradient. -/
def term (j : Fin 1024) (u : ℕ) : EReal :=
  aR (U m c) (W m c) (Fin.ofNat 4096 u) j * (xR (X m c) (Fin.ofNat 4096 u) j * rn (xR (X m c) (Fin.ofNat 4096 u)))

theorem row_eq (t : Fin cfg0.N) (p : Fin 512) : Fin.ofNat 4096 (512 * t.val + p.val) = rw_ t p :=
  Fin.ext (Nat.mod_eq_of_lt (by have := lt8 t; omega))

theorem block_sum (t : Fin cfg0.N) (j : Fin 1024) :
    ∑ p : Fin 512, aR (U m c) (W m c) (rw_ t p) j * (xR (X m c) (rw_ t p) j * rn (xR (X m c) (rw_ t p))) = ∑ u ∈ Finset.range 512, term m c j (512 * t.val + u) := by
  refine Eq.trans (Finset.sum_congr rfl fun p _ => ?_) (Finset.sum_range fun u => term m c j (512 * t.val + u)).symm
  unfold term
  rw [row_eq t p]

theorem more (n : ℕ) (j : Fin 1024) : ∑ u ∈ Finset.range (512 * (n + 1)), term m c j u
    = ∑ u ∈ Finset.range (512 * n), term m c j u + ∑ u ∈ Finset.range 512, term m c j (512 * n + u) := by
  rw [show 512 * (n + 1) = 512 * n + 512 from by omega]
  exact Finset.sum_range_add _ _ _

theorem gain_first (t : Fin cfg0.N) (h : t.val = 0) (j : Fin 1024) : (outsAt0 m c t.val t.isLt).2 (ix2 (0 : Fin 1) j)
    = (∑ u ∈ Finset.range 512, term m c j (512 * t.val + u)) := by
  have e := gainA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (block m c t) ((hcond0_0 t).mpr (by omega)) (fun h => absurd ((hcond0_1 t).mp h) (by omega)) j
  rw [outsAt0_A m c t (by omega) (by omega)]
  dsimp only
  exact e.trans (block_sum m c t j)

theorem gain_next (t : Fin cfg0.N) (h : t.val ≠ 0) (j : Fin 1024) : (outsAt0 m c t.val t.isLt).2 (ix2 (0 : Fin 1) j)
    = (outsAt0 m c (t.val - 1) (Nat.lt_of_le_of_lt (Nat.sub_le _ _) t.isLt)).2 (ix2 (0 : Fin 1) j) + (∑ u ∈ Finset.range 512, term m c j (512 * t.val + u)) := by
  have hN := lt8 t
  have e := gainB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (acc := (outsAt0 m c (t.val - 1) (Nat.lt_of_le_of_lt (Nat.sub_le _ _) t.isLt)).2) (block m c t) (fun h => absurd ((hcond0_0 t).mp h) (by omega)) ((hcond0_1 t).mpr (by omega)) j
  rw [outsAt0_B m c t (by omega) (by omega)]
  dsimp only
  exact e.trans (congrArg (fun z : EReal => (outsAt0 m c (t.val - 1) (Nat.lt_of_le_of_lt (Nat.sub_le _ _) t.isLt)).2 (ix2 (0 : Fin 1) j) + z) (block_sum m c t j))

theorem gain_left (n : ℕ) : ∀ (h : n < cfg0.N) (j : Fin 1024), (outsAt0 m c n h).2 (ix2 (0 : Fin 1) j)
    = (∑ u ∈ Finset.range (512 * (n + 1)), term m c j u) := by
  induction n with
  | zero =>
    intro h j
    refine (gain_first m c ⟨0, h⟩ rfl j).trans ?_
    rw [more]
    exact (zero_add _).symm
  | succ n ih =>
    intro h j
    have q := gain_next m c ⟨n + 1, h⟩ (Nat.succ_ne_zero n) j
    have p := ih (Nat.lt_of_succ_lt h) j
    rw [more, ← p]
    exact q

theorem arr5 : (dats m 0 c).arrAt 5 cfg0.N = Cert.Reference11Ideal.Read.val_main_v40 (F := Ideal) (U m c) (W m c) (X m c) (G m c) (R m c) := by
  refine (dats m 0 c).arrAt_eq_of_cover 5 _ (fun t hf => ?_) (fun i => ?_)
  · rw [flushed5]
    refine funext fun y => ?_
    rw [idx2 y]
    refine (rows_left m c t (y 0) (y 1)).trans ?_
    refine Eq.symm ((congrArg (Cert.Reference11Ideal.Read.val_main_v40 (F := Ideal) (U m c) (W m c) (X m c) (G m c) (R m c)) (emb5 t (y 0) (y 1))).trans ?_)
    exact v40_at _ _ _ _ _ _ _
  · have hi : (i 0).val < 4096 := (i 0).isLt
    have hN : cfg0.N = 8 := N_0
    refine ⟨⟨(i 0).val / 512, by omega⟩, flush0_5 _, ?_⟩
    refine Eq.subst (motive := fun x => x ∈ ((cfg0.win 5).blk _).view.set) ?_ (View.emb_mem_set _ (ix2 (⟨(i 0).val % 512, by omega⟩ : Fin 512) (i 1 : Fin 1024)))
    refine (emb5 _ _ _).trans (Eq.trans ?_ (idx2 i).symm)
    exact congrArg (fun z : Fin 4096 => ix2 z (i 1 : Fin 1024)) (Fin.ext (by show 512 * ((i 0).val / 512) + (i 0).val % 512 = (i 0).val; omega))

theorem arr6 : (dats m 0 c).arrAt 6 cfg0.N = Cert.Reference11Ideal.Read.val_main_v23 (F := Ideal) (U m c) (W m c) (X m c) := by
  have hN : cfg0.N = 8 := N_0
  refine (dats m 0 c).arrAt_eq_of_cover 6 _ (fun t hf => ?_) (fun i => ?_)
  · have h : t.val % 8 = 7 := (flush0_6 t).mp hf
    have h7 : t.val = 7 := by have := lt8 t; omega
    rw [flushed6]
    refine funext fun y => ?_
    have ey : y = (ix2 (0 : Fin 1) (y 1) : S1x1024.Idx) := funext fun d => Fin.ext (match d with
      | ⟨0, _⟩ => by have hy : (y 0).val < 1 := (y 0).isLt; show (y 0).val = 0; omega
      | ⟨1, _⟩ => rfl)
    rw [ey]
    refine (gain_left m c t.val t.isLt (y 1)).trans ?_
    refine Eq.symm ((congrArg (Cert.Reference11Ideal.Read.val_main_v23 (F := Ideal) (U m c) (W m c) (X m c)) (emb6 t 0 (y 1))).trans ?_)
    refine (v23_at _ _ _ (y 1)).trans ?_
    rw [h7]
    refine Eq.trans (Finset.sum_congr rfl fun i _ => ?_) (Finset.sum_range (n := 4096) fun u => term m c (y 1) u).symm
    unfold term
    rw [show Fin.ofNat 4096 i.val = i from Fin.ext (Nat.mod_eq_of_lt i.isLt)]
  · refine ⟨⟨7, by omega⟩, (flush0_6 _).mpr rfl, ?_⟩
    exact Eq.subst (motive := fun x => x ∈ ((cfg0.win 6).blk _).view.set) ((emb6 ⟨7, by omega⟩ (i 0) (i 1)).trans (idx2 i).symm) (View.emb_mem_set _ _)
end whole

theorem algebra : Cert.algebraic_Kernel11Ideal_Reference11Ideal := fun m g m' g' _ he => by
  refine ⟨fun c => Cert.Reference11Ideal.Read.val_main_v40 (F := Ideal) (U m c) (W m c) (X m c) (G m c) (R m c),
    fun c => Cert.Reference11Ideal.Read.val_main_v23 (F := Ideal) (U m c) (W m c) (X m c), ?_, ?_⟩
  · refine (θ_run Cert.Kernel11Ideal.defs _ _).mono (fun r h c => ?_) (Cert.Kernel11Ideal.Value.run_blocks (F := Ideal) m g)
    obtain ⟨h0, h1, hk⟩ := h c
    exact ⟨h0.trans (arr5 m c), h1.trans (arr6 m c), hk⟩
  · refine (θ_run Cert.Reference11Ideal.defs _ _).mono (fun r h c => ?_) (Cert.Reference11Ideal.Value.run (F := Ideal) m' g')
    obtain ⟨h0, h1, hk⟩ := h c
    obtain ⟨e0, e1, e2, e3, e4⟩ := he c
    have f0 := h0.trans (Cert.Reference11Ideal.Read.val_main_v40_eq (F := Ideal) m' c)
    have f1 := h1.trans (Cert.Reference11Ideal.Read.val_main_v23_eq (F := Ideal) _ _ _)
    refine ⟨f0.trans ?_, f1.trans ?_, hk⟩
    · rw [e0, e1, e2, e3, e4]
    · rw [e0, e1, e2]

end Cert.Proof.UpDx

end
-- ==== Proof.SbOut.lean ====
/- The mixers' outputs through the output weight, its slots joined, added to the residual. -/
module

public import proofs.«01_k».proof.Defs
public import proofs.«01_k».proof.Proof.Gen.Kernel12Ideal.Value
public import proofs.«01_k».proof.Proof.Gen.Reference12Ideal.Read
public import proofs.«01_k».proof.Proof.FourParts
public import Idealize.ShloMosaic.Lib.StableHlo.RunRead

@[expose] public section

set_option maxRecDepth 16384

noncomputable section

namespace Cert.Proof.SbOut

open Idealize.ShloMosaic Idealize.SL.Sem Cert.Kernel12Ideal Cert.Kernel12Ideal.Gen Cert.Kernel12Ideal.Value Idealize.ShloMosaic.Pointwise

theorem pay_at (x : Vec Ideal S1024x1024 .f32) (y : Vec Ideal S1024x1024 .bf16) (z : Vec Ideal S1024x1024 .f32) (i j : Fin 1024) :
    k0_pay1 x y z (ix2 i j) = ∑ k, (x (ix2 i k) : EReal) * y (ix2 k j) + z (ix2 i j) := by
  unfold k0_pay1
  pointwise

theorem out_at (x : Vec Ideal S1024x1024 .f32) (y : Vec Ideal S1024x1024 .bf16) (z : Vec Ideal S1024x1024 .f32) : out0_3 x y z = k0_pay1 x y z := by
  unfold out0_3
  rw [View.canon_unit_zero zeros2]
  simp only [View.ld_unit_zero (S := S1024x1024) zeros2]

variable (m : (ℓ : Loc nD τ sig) → Buf (Elt Ideal) ℓ) (c : Dev nD)

theorem points (t : Fin cfg0.N) : t.val < 4 := lt_of_lt_of_eq t.isLt (show cfg0.N = 4 from N_0)

theorem at0 : ∀ t : Fin cfg0.N, win0_0.index t 0 = t.val ∧ win0_0.index t 1 = 0 := (by decide +kernel : ∀ t : Fin grid0.N, _)
theorem emb0 (t : Fin cfg0.N) (a : Fin 1024) (b : Fin 1024) (x : Fin 4096) (hx : x.val = 1024 * (t.val) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem at1 : ∀ t : Fin cfg0.N, win0_1.index t 0 = 0 ∧ win0_1.index t 1 = 0 := (by decide +kernel : ∀ t : Fin grid0.N, _)
theorem emb1 (t : Fin cfg0.N) (a : Fin 1024) (b : Fin 1024)  :
    (win0_1.blk t).view.emb (ix2 a b) = ix2 a b := by
  refine funext fun i => Fin.ext ?_
  have h := at1 t
  match i with
  | ⟨0, _⟩ => show win0_1.index t 0 * 1024 + 1 * a.val = a.val; omega
  | ⟨1, _⟩ => show win0_1.index t 1 * 1024 + 1 * b.val = b.val; omega
theorem at2 : ∀ t : Fin cfg0.N, win0_2.index t 0 = t.val ∧ win0_2.index t 1 = 0 := (by decide +kernel : ∀ t : Fin grid0.N, _)
theorem emb2 (t : Fin cfg0.N) (a : Fin 1024) (b : Fin 1024) (x : Fin 4096) (hx : x.val = 1024 * (t.val) + a.val) :
    (win0_2.blk t).view.emb (ix2 a b) = ix2 x b := by
  refine funext fun i => Fin.ext ?_
  have h := at2 t
  match i with
  | ⟨0, _⟩ => show win0_2.index t 0 * 1024 + 1 * a.val = x.val; omega
  | ⟨1, _⟩ => show win0_2.index t 1 * 1024 + 1 * b.val = b.val; omega

theorem at3 : ∀ t : Fin cfg0.N, win0_3.index t 0 = t.val ∧ win0_3.index t 1 = 0 := (by decide +kernel : ∀ t : Fin grid0.N, _)
theorem emb3 (t : Fin cfg0.N) (a : Fin 1024) (b : Fin 1024) (x : Fin 4096) (hx : x.val = 1024 * (t.val) + a.val) :
    (win0_3.blk t).view.emb (ix2 a b) = ix2 x b := by
  refine funext fun i => Fin.ext ?_
  have h := at3 t
  match i with
  | ⟨0, _⟩ => show win0_3.index t 0 * 1024 + 1 * a.val = x.val; omega
  | ⟨1, _⟩ => show win0_3.index t 1 * 1024 + 1 * b.val = b.val; omega

/-- The three arguments, as arrays of extended reals, and the weight with its leading axes joined. -/
abbrev X : S4096x1024.Idx → EReal := m ((c.tc : Thread nD τ).loc main_arg0)
abbrev R : S4096x1024.Idx → EReal := m ((c.tc : Thread nD τ).loc main_arg2)
abbrev W : S4x256x1024.Idx → EReal := m ((c.tc : Thread nD τ).loc main_arg1)
abbrev joined (w : S4x256x1024.Idx → EReal) : S1024x1024.Idx → EReal := Cert.Reference12Ideal.Read.val_main_v1 (F := Ideal) w

theorem V_w : V m c main_v0 = joined (W m c) := by
  unfold V
  after_reads_simp
  rfl

theorem blk0 (t : Fin cfg0.N) (a b : Fin 1024) (x : Fin 4096) (hx : x.val = 1024 * (t.val) + a.val) :
    iblk m c 0 t (ix2 a b) = X m c (ix2 x b) :=
  (congrArg (V m c (Pipeline.arrRef spec0 0)) (emb0 t a b x hx)).trans (congrFun (V_main_arg0 m c) _)
theorem blk1 (t : Fin cfg0.N) (a b : Fin 1024) : iblk m c 1 t (ix2 a b) = joined (W m c) (ix2 a b) :=
  (congrArg (V m c (Pipeline.arrRef spec0 1)) (emb1 t a b)).trans (congrFun (V_w m c) _)

theorem blk2 (t : Fin cfg0.N) (a b : Fin 1024) (x : Fin 4096) (hx : x.val = 1024 * (t.val) + a.val) :
    iblk m c 2 t (ix2 a b) = R m c (ix2 x b) :=
  (congrArg (V m c (Pipeline.arrRef spec0 2)) (emb2 t a b x hx)).trans (congrFun (V_main_arg2 m c) _)

/-- The reference's result at an index. -/
theorem result_at (x0 : S4096x1024.Idx → EReal) (x1 : S4x256x1024.Idx → EReal) (x2 : S4096x1024.Idx → EReal) (i : Fin 4096) (j : Fin 1024) :
    Cert.Reference12Ideal.Read.val_main_v3 (F := Ideal) x0 x1 x2 (ix2 i j) = x2 (ix2 i j) + ∑ k : Fin 1024, x0 (ix2 i k) * joined x1 (ix2 k j) := by
  refine (Cert.Reference12Ideal.Read.val_main_v3_apply (F := Ideal) x0 x1 x2 _).trans ?_
  refine congrArg (fun z : EReal => x2 (ix2 i j) + z) ?_
  refine (Cert.Reference12Ideal.Read.val_main_v2_apply x0 x1 _).trans (Finset.sum_congr rfl fun k _ => ?_)
  exact congrArg₂ (· * ·) (congrArg x0 (idx2 _)) (congrArg (joined x1) (idx2 _))

theorem cover (i : S4096x1024.Idx) : ∃ t : Fin cfg0.N, (cfg0.win 3).flush t = true ∧ i ∈ ((cfg0.win 3).blk t).view.set := by
  have h0 : (i 0).val < 4096 := (i 0).isLt
  have l : (i 0).val / 1024 < cfg0.N := lt_of_lt_of_eq (show _ < 4 by omega) (show cfg0.N = 4 from N_0).symm
  refine ⟨⟨(i 0).val / 1024, l⟩, flush0_3 _, ?_⟩
  have e := emb3 ⟨(i 0).val / 1024, l⟩ ⟨(i 0).val % 1024, by omega⟩ (i 1) (i 0)
    (by show (i 0).val = 1024 * ((i 0).val / 1024) + (i 0).val % 1024; omega)
  exact Eq.subst (motive := fun x => x ∈ ((cfg0.win 3).blk _).view.set) (e.trans (idx2 i).symm) (View.emb_mem_set _ _)

theorem left_at (t : Fin cfg0.N) (a b : Fin 1024) (x : Fin 4096) (hx : x.val = 1024 * (t.val) + a.val) :
    out0_3 (iblk m c 0 t) (iblk m c 1 t) (iblk m c 2 t) (ix2 a b) = Cert.Reference12Ideal.Read.val_main_v3 (F := Ideal) (X m c) (W m c) (R m c) (ix2 x b) := by
  rw [out_at]
  refine (pay_at _ _ _ a b).trans (Eq.trans ?_ (result_at _ _ _ x b).symm)
  refine (congrArg₂ (fun p q : EReal => p + q) (Finset.sum_congr rfl fun k _ => ?_) (blk2 m c t a b x hx)).trans (add_comm _ _)
  exact congrArg₂ (fun p q : EReal => p * q) (blk0 m c t a k x hx) (blk1 m c t k b)

theorem arr : (dats m 0 c).arrAt 3 cfg0.N = Cert.Reference12Ideal.Read.val_main_v3 (F := Ideal) (X m c) (W m c) (R m c) := by
  refine (dats m 0 c).arrAt_eq_of_cover 3 _ (fun t hf => ?_) cover
  have ht := points t
  rw [flushed3]
  refine funext fun y => ?_
  rw [idx2 y]
  have ha : (y 0).val < 1024 := (y 0).isLt
  refine (left_at m c t (y 0) (y 1) ⟨1024 * t.val + (y 0).val, by omega⟩ rfl).trans ?_
  exact (congrArg (Cert.Reference12Ideal.Read.val_main_v3 (F := Ideal) (X m c) (W m c) (R m c)) (emb3 t (y 0) (y 1) ⟨1024 * t.val + (y 0).val, by omega⟩ rfl)).symm

theorem algebra : Cert.algebraic_Kernel12Ideal_Reference12Ideal := fun m g m' g' _ he => by
  refine ⟨fun c => Cert.Reference12Ideal.Read.val_main_v3 (F := Ideal) (X m c) (W m c) (R m c), ?_, ?_⟩
  · refine (θ_run Cert.Kernel12Ideal.defs _ _).mono (fun r h c => ?_) (Cert.Kernel12Ideal.Value.run_blocks (F := Ideal) m g)
    obtain ⟨h0, hk⟩ := h c
    exact ⟨h0.trans (arr m c), hk⟩
  · refine (θ_run Cert.Reference12Ideal.defs _ _).mono (fun r h c => ?_) (Cert.Reference12Ideal.Value.run (F := Ideal) m' g')
    obtain ⟨h0, hk⟩ := h c
    obtain ⟨e0, e1, e2⟩ := he c
    have f0 := h0.trans (Cert.Reference12Ideal.Read.val_main_v3_eq (F := Ideal) _ _ _)
    refine ⟨f0.trans ?_, hk⟩
    rw [e0, e1, e2]

end Cert.Proof.SbOut

end
-- ==== Proof.SbOutDw.lean ====
/- The gradient of the output weight: four partial products, one after the other, are one product. -/
module

public import proofs.«01_k».proof.Defs
public import proofs.«01_k».proof.Proof.Gen.Kernel13Ideal.Value
public import proofs.«01_k».proof.Proof.Gen.Reference13Ideal.Read
public import proofs.«01_k».proof.Proof.FourParts

@[expose] public section

set_option maxRecDepth 16384

noncomputable section

namespace Cert.Proof.SbOutDw

open Idealize.ShloMosaic Idealize.SL.Sem Cert.Kernel13Ideal Cert.Kernel13Ideal.Gen Cert.Kernel13Ideal.Value Idealize.ShloMosaic.Pointwise

section cases
variable (c : Dev nD) (i : grid0.Coords) (a : Memref sig .tc .vmem S1024x1024 .f32) (ha : a.IsWhole) (b : Memref sig .tc .vmem S1024x1024 .f32) (hb : b.IsWhole)
  (o : Memref sig .tc .vmem S1024x1024 .bf16) (ho : o.IsWhole) (s : Memref sig .tc .vmem S1024x1024 .f32) (hs : s.IsWhole)
  (x y acc : Vec Ideal S1024x1024 .f32)

theorem first (h0 : cond0_0 i) (h1 : ¬cond0_1 i) (h2 : ¬cond0_2 i) : sout0_A_0 c i a ha b hb o ho s hs h0 h1 h2 x y = k0_pay2 x y := by
  unfold sout0_A_0
  rw [View.read_writes_eq_canon _ _ _ (scover0_A_0 c i a ha b hb o ho s hs h0 h1 h2 x y)]
  unfold kernelRun0_A
  dsimp only
  rw [View.canon_unit_zero zeros2]
  simp only [View.readAt_eq_ld, ha.read_unread, hb.read_unread, View.ld_unit_zero (S := S1024x1024) zeros2]

theorem next (h0 : ¬cond0_0 i) (h1 : cond0_1 i) (h2 : ¬cond0_2 i) : sout0_B_0 c i a ha b hb o ho s hs h0 h1 h2 x y acc = k0_pay3 x y acc := by
  unfold sout0_B_0
  rw [View.read_writes_eq_canon _ _ _ (scover0_B_0 c i a ha b hb o ho s hs h0 h1 h2 x y acc)]
  unfold kernelRun0_B
  dsimp only
  rw [View.canon_unit_zero zeros2]
  simp only [View.readAt_eq_ld, ha.read_unread, hb.read_unread, hs.read_unread, View.ld_unit_zero (S := S1024x1024) zeros2]

theorem last (h0 : ¬cond0_0 i) (h1 : cond0_1 i) (h2 : cond0_2 i) : out0_C_2 c i a ha b hb o ho s hs h0 h1 h2 x y acc = k0_pay4 (k0_pay3 x y acc) := by
  unfold out0_C_2
  rw [View.read_writes_eq_canon _ _ _ (cover0_C_2 c i a ha b hb o ho s hs h0 h1 h2 x y acc)]
  unfold kernelRun0_C
  dsimp only
  sl_unfold_words
  rw [View.canon_unit_zero zeros2]
  simp only [View.readAt_eq_ld, ha.read_unread, hb.read_unread, hs.read_unread, View.ld_unit_zero (S := S1024x1024) zeros2, View.readCov_unit_zero (S := S1024x1024) _ zeros2]

end cases

theorem pay1_at (x y : Vec Ideal S1024x1024 .f32) (i j : Fin 1024) : k0_pay1 x y (ix2 i j) = ∑ k, (x (ix2 k i) : EReal) * y (ix2 k j) := by
  unfold k0_pay1
  pointwise
theorem pay2_at (x y : Vec Ideal S1024x1024 .f32) (i j : Fin 1024) : k0_pay2 x y (ix2 i j) = ∑ k, (x (ix2 k i) : EReal) * y (ix2 k j) := by
  unfold k0_pay2
  rw [shapeCast_self]
  exact pay1_at x y i j
theorem pay3_at (x y acc : Vec Ideal S1024x1024 .f32) (i j : Fin 1024) : k0_pay3 x y acc (ix2 i j) = acc (ix2 i j) + ∑ k, (x (ix2 k i) : EReal) * y (ix2 k j) := by
  unfold k0_pay3
  rw [shapeCast_self]
  exact congrArg (acc (ix2 i j) + ·) (pay1_at x y i j)

variable (m : (ℓ : Loc nD τ sig) → Buf (Elt Ideal) ℓ) (c : Dev nD)

theorem lt4 (t : Fin cfg0.N) : t.val < 4 := lt_of_lt_of_eq t.isLt (show cfg0.N = 4 from N_0)

theorem at0 : ∀ t : Fin cfg0.N, win0_0.index t 0 = t.val % 4 ∧ win0_0.index t 1 = 0 := (by decide +kernel : ∀ t : Fin grid0.N, _)
theorem at1 : ∀ t : Fin cfg0.N, win0_1.index t 0 = t.val % 4 ∧ win0_1.index t 1 = 0 := (by decide +kernel : ∀ t : Fin grid0.N, _)
theorem at2 : ∀ t : Fin cfg0.N, win0_2.index t 0 = 0 ∧ win0_2.index t 1 = 0 := (by decide +kernel : ∀ t : Fin grid0.N, _)

theorem emb0 (t : Fin cfg0.N) (a b : Fin 1024) (x : Fin 4096) (hx : x.val = 1024 * (t.val % 4) + a.val) :
    (win0_0.blk t).view.emb (ix2 a b) = ix2 x b := by
  refine funext fun i => Fin.ext ?_
  have h := at0 t
  match i with
  | ⟨0, _⟩ => show win0_0.index t 0 * 1024 + 1 * a.val = x.val; omega
  | ⟨1, _⟩ => show win0_0.index t 1 * 1024 + 1 * b.val = b.val; omega
theorem emb1 (t : Fin cfg0.N) (a b : Fin 1024) (x : Fin 4096) (hx : x.val = 1024 * (t.val % 4) + a.val) :
    (win0_1.blk t).view.emb (ix2 a b) = ix2 x b := by
  refine funext fun i => Fin.ext ?_
  have h := at1 t
  match i with
  | ⟨0, _⟩ => show win0_1.index t 0 * 1024 + 1 * a.val = x.val; omega
  | ⟨1, _⟩ => show win0_1.index t 1 * 1024 + 1 * b.val = b.val; omega
theorem emb2 (t : Fin cfg0.N) (a b : Fin 1024) : (win0_2.blk t).view.emb (ix2 a b) = ix2 a b := by
  refine funext fun i => Fin.ext ?_
  have h := at2 t
  match i with
  | ⟨0, _⟩ => show win0_2.index t 0 * 1024 + 1 * a.val = a.val; omega
  | ⟨1, _⟩ => show win0_2.index t 1 * 1024 + 1 * b.val = b.val; omega

/-- The two arguments, as arrays of extended reals. -/
abbrev U : S4096x1024.Idx → EReal := m ((c.tc : Thread nD τ).loc main_arg0)
abbrev D : S4096x1024.Idx → EReal := m ((c.tc : Thread nD τ).loc main_arg1)

theorem blk0 (t : Fin cfg0.N) (a b : Fin 1024) (x : Fin 4096) (hx : x.val = 1024 * (t.val % 4) + a.val) :
    iblk m c 0 t (ix2 a b) = U m c (ix2 x b) :=
  (congrArg (V m c (Pipeline.arrRef spec0 0)) (emb0 t a b x hx)).trans (congrFun (V_main_arg0 m c) _)
theorem blk1 (t : Fin cfg0.N) (a b : Fin 1024) (x : Fin 4096) (hx : x.val = 1024 * (t.val % 4) + a.val) :
    iblk m c 1 t (ix2 a b) = D m c (ix2 x b) :=
  (congrArg (V m c (Pipeline.arrRef spec0 1)) (emb1 t a b x hx)).trans (congrFun (V_main_arg1 m c) _)

/-- The two blocks, as arrays of extended reals. -/
abbrev I0 (t : Fin cfg0.N) : S1024x1024.Idx → EReal := iblk m c 0 t
abbrev I1 (t : Fin cfg0.N) : S1024x1024.Idx → EReal := iblk m c 1 t

/-- Run `g` of the product's column sum. -/
def part (g : ℕ) (hg : g < 4) (i j : Fin 1024) : EReal := ∑ k, U m c (ix2 (place g hg k) i) * D m c (ix2 (place g hg k) j)

theorem part_of (t : Fin cfg0.N) (g : ℕ) (hg : g < 4) (h : t.val % 4 = g) (a b : Fin 1024) :
    ∑ k, I0 m c t (ix2 k a) * I1 m c t (ix2 k b) = part m c g hg a b :=
  Finset.sum_congr rfl fun k _ => congrArg₂ (fun p q : EReal => p * q)
    (blk0 m c t k a (place g hg k) (by show 1024 * g + k.val = _; omega)) (blk1 m c t k b (place g hg k) (by show 1024 * g + k.val = _; omega))

theorem left0 (t : Fin cfg0.N) (h : t.val % 4 = 0) (a b : Fin 1024) :
    (outsAt0 m c t.val t.isLt).2 (ix2 a b) = part m c 0 (by omega) a b := by
  have ht := lt4 t
  rw [outsAt0_A m c t h (by omega) (by omega)]
  dsimp only
  rw [first, pay2_at]
  exact part_of m c t 0 _ h a b

theorem leftB (t : Fin cfg0.N) (g : ℕ) (hg : g < 4) (h : t.val % 4 = g) (h1 : 1 ≤ g) (h2 : g ≠ 3) (a b : Fin 1024) :
    (outsAt0 m c t.val t.isLt).2 (ix2 a b) = (outsAt0 m c (t.val - 1) (Nat.lt_of_le_of_lt (Nat.sub_le _ _) t.isLt)).2 (ix2 a b) + part m c g hg a b := by
  have ht := lt4 t
  rw [outsAt0_B m c t (by omega) (by omega) (by omega)]
  dsimp only
  rw [next, pay3_at, part_of m c t g hg h a b]

theorem left3 (t : Fin cfg0.N) (h : t.val % 4 = 3) (a b : Fin 1024) :
    (outsAt0 m c t.val t.isLt).1 (ix2 a b)
      = part m c 0 (by omega) a b + part m c 1 (by omega) a b + part m c 2 (by omega) a b + part m c 3 (by omega) a b := by
  have ht := lt4 t
  rw [outsAt0_C m c t (by omega) (by omega) h]
  dsimp only
  rw [last]
  refine (pay3_at _ _ _ a b).trans ?_
  rw [part_of m c t 3 (by omega) h a b]
  have hN := t.isLt
  refine congrArg (· + part m c 3 (by omega) a b) ?_
  refine (leftB m c ⟨t.val - 1, by omega⟩ 2 (by omega) (by show (t.val - 1) % 4 = 2; omega) (by omega) (by omega) a b).trans ?_
  refine congrArg (· + part m c 2 (by omega) a b) ?_
  refine (leftB m c ⟨t.val - 1 - 1, by omega⟩ 1 (by omega) (by show (t.val - 1 - 1) % 4 = 1; omega) (by omega) (by omega) a b).trans ?_
  refine congrArg (· + part m c 1 (by omega) a b) ?_
  exact left0 m c ⟨t.val - 1 - 1 - 1, by omega⟩ (by show (t.val - 1 - 1 - 1) % 4 = 0; omega) a b

/-- The reference's result at an index. -/
theorem result_at (x0 x1 : S4096x1024.Idx → EReal) (i j : Fin 1024) :
    Cert.Reference13Ideal.Read.val_main_v4 (F := Ideal) x0 x1 (ix2 i j) = ∑ k : Fin 4096, x0 (ix2 k i) * x1 (ix2 k j) := by
  refine (Cert.Reference13Ideal.Read.val_main_v4_apply (F := Ideal) x0 x1 _).trans ?_
  refine (Cert.Reference13Ideal.Read.val_main_v3_apply (F := Ideal) x0 x1 _).trans ?_
  refine (Cert.Reference13Ideal.Read.val_main_v2_apply x0 x1 _).trans ?_
  refine Finset.sum_congr rfl fun k _ => (mul_comm _ _).trans ?_
  exact congrArg₂ (· * ·) (congrArg x0 (idx2 _)) (congrArg x1 (idx2 _))

theorem last_point : ∃ t : Fin cfg0.N, t.val % 4 = 3 := ⟨⟨3, lt_of_lt_of_eq (by omega) (show cfg0.N = 4 from N_0).symm⟩, rfl⟩

theorem cover (i : S1024x1024.Idx) : ∃ t : Fin cfg0.N, (cfg0.win 2).flush t = true ∧ i ∈ ((cfg0.win 2).blk t).view.set := by
  obtain ⟨t, h⟩ := last_point
  refine ⟨t, (flush0_2 t).mpr h, ?_⟩
  exact Eq.subst (motive := fun x => x ∈ ((cfg0.win 2).blk _).view.set) ((emb2 t (i 0) (i 1)).trans (idx2 i).symm) (View.emb_mem_set _ _)

theorem arr : (dats m 0 c).arrAt 2 cfg0.N = Cert.Reference13Ideal.Read.val_main_v4 (F := Ideal) (U m c) (D m c) := by
  refine (dats m 0 c).arrAt_eq_of_cover 2 _ (fun t hf => ?_) cover
  have h : t.val % 4 = 3 := (flush0_2 t).mp hf
  have ht := lt4 t
  rw [flushed2]
  refine funext fun y => ?_
  rw [idx2 y]
  have ha : (y 0).val < 1024 := (y 0).isLt
  refine (left3 m c t h (y 0) (y 1)).trans ?_
  refine Eq.symm ((congrArg (Cert.Reference13Ideal.Read.val_main_v4 (F := Ideal) (U m c) (D m c)) (emb2 t (y 0) (y 1))).trans ?_)
  exact (result_at _ _ _ _).trans (four_parts _)

theorem algebra : Cert.algebraic_Kernel13Ideal_Reference13Ideal := fun m g m' g' _ he => by
  refine ⟨fun c => Cert.Reference13Ideal.Read.val_main_v4 (F := Ideal) (U m c) (D m c), ?_, ?_⟩
  · refine (θ_run Cert.Kernel13Ideal.defs _ _).mono (fun r h c => ?_) (Cert.Kernel13Ideal.Value.run_blocks (F := Ideal) m g)
    obtain ⟨h0, hk⟩ := h c
    exact ⟨h0.trans (arr m c), hk⟩
  · refine (θ_run Cert.Reference13Ideal.defs _ _).mono (fun r h c => ?_) (Cert.Reference13Ideal.Value.run (F := Ideal) m' g')
    obtain ⟨h0, hk⟩ := h c
    obtain ⟨e0, e1⟩ := he c
    have f0 := h0.trans (Cert.Reference13Ideal.Read.val_main_v4_eq (F := Ideal) _ _)
    refine ⟨f0.trans ?_, hk⟩
    exact congrArg₂ (Cert.Reference13Ideal.Read.val_main_v4 (F := Ideal)) e0 e1

end Cert.Proof.SbOutDw

end
-- ==== Proof.lean ====
/- The certificate's claims, put together from the modules that prove them. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Region.Value
public import proofs.«01_k».proof.Proof.Gen.SavedIdeal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_usual
public import proofs.«01_k».proof.Proof.Frames
public import proofs.«01_k».proof.Proof.Algebra
public import proofs.«01_k».proof.Proof.MlpFrames
public import proofs.«01_k».proof.Proof.DownDx
public import proofs.«01_k».proof.Proof.DownDw
public import proofs.«01_k».proof.Proof.UpDw
public import proofs.«01_k».proof.Proof.ProductFrames
public import proofs.«01_k».proof.Proof.Up
public import proofs.«01_k».proof.Proof.Down
public import proofs.«01_k».proof.Proof.InDw
public import proofs.«01_k».proof.Proof.OutDx
public import proofs.«01_k».proof.Proof.Qkv
public import proofs.«01_k».proof.Proof.QkvDw
public import proofs.«01_k».proof.Proof.UpDx
public import proofs.«01_k».proof.Proof.SbOut
public import proofs.«01_k».proof.Proof.SbOutDw

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.SavedIdeal.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_usual.Gen.facts,
    frame_kernel, frame_ideal, fun m g _ => frame_ideal m g trivial, frame_reference, fun m g _ => frame_reference m g trivial, frame_saved,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    trivial, algebra, trivial, DownDx.algebra, trivial, DownDw.algebra, trivial, UpDw.algebra,
    trivial, Up.algebra,
    trivial, Down.algebra,
    trivial, InDw.algebra,
    trivial, OutDx.algebra,
    trivial, Qkv.algebra,
    trivial, QkvDw.algebra,
    trivial, UpDx.algebra,
    trivial, SbOut.algebra,
    trivial, SbOutDw.algebra⟩

end Cert.Proof

end
